-- ==== Defs.lean ====
def Pre_ScBwd (m : (ℓ : Loc Cert.ScBwd.nD Cert.ScBwd.τ Cert.ScBwd.sig) → Buf (Elt Bits) ℓ) : Prop :=
  True

def Pre_ScBwdIdeal (m : (ℓ : Loc Cert.ScBwdIdeal.nD Cert.ScBwdIdeal.τ Cert.ScBwdIdeal.sig) → Buf (Elt Ideal) ℓ) : Prop :=
  True

def Pre_ScBwdRefIdeal (m : (ℓ : Loc Cert.ScBwdRefIdeal.nD Cert.ScBwdRefIdeal.τ Cert.ScBwdRefIdeal.sig) → Buf (Elt Ideal) ℓ) : Prop :=
  True

def Pre_UnropeBwd (m : (ℓ : Loc Cert.UnropeBwd.nD Cert.UnropeBwd.τ Cert.UnropeBwd.sig) → Buf (Elt Bits) ℓ) : Prop :=
  True

def Pre_UnropeBwdIdeal (m : (ℓ : Loc Cert.UnropeBwdIdeal.nD Cert.UnropeBwdIdeal.τ Cert.UnropeBwdIdeal.sig) → Buf (Elt Ideal) ℓ) : Prop :=
  True

def Pre_UnropeBwdRefIdeal (m : (ℓ : Loc Cert.UnropeBwdRefIdeal.nD Cert.UnropeBwdRefIdeal.τ Cert.UnropeBwdRefIdeal.sig) → Buf (Elt Ideal) ℓ) : Prop :=
  True

def Pre_DownBwd (m : (ℓ : Loc Cert.DownBwd.nD Cert.DownBwd.τ Cert.DownBwd.sig) → Buf (Elt Bits) ℓ) : Prop :=
  True

def Pre_DownBwdIdeal (m : (ℓ : Loc Cert.DownBwdIdeal.nD Cert.DownBwdIdeal.τ Cert.DownBwdIdeal.sig) → Buf (Elt Ideal) ℓ) : Prop :=
  True

def Pre_DownBwdRefIdeal (m : (ℓ : Loc Cert.DownBwdRefIdeal.nD Cert.DownBwdRefIdeal.τ Cert.DownBwdRefIdeal.sig) → Buf (Elt Ideal) ℓ) : Prop :=
  True

def Pre_SwishBwd (m : (ℓ : Loc Cert.SwishBwd.nD Cert.SwishBwd.τ Cert.SwishBwd.sig) → Buf (Elt Bits) ℓ) : Prop :=
  True

def Pre_SwishBwdIdeal (m : (ℓ : Loc Cert.SwishBwdIdeal.nD Cert.SwishBwdIdeal.τ Cert.SwishBwdIdeal.sig) → Buf (Elt Ideal) ℓ) : Prop :=
  True

def Pre_SwishBwdIdeal_swish_finite [hPre_swish_finite : Cert.Pre_swish_finite.Facts] (m : (ℓ : Loc Cert.SwishBwdIdeal.nD Cert.SwishBwdIdeal.τ Cert.SwishBwdIdeal.sig) → Buf (Elt Ideal) ℓ) : Prop :=
  ∀ c : Dev Cert.SwishBwdIdeal.nD,
    (Cert.Pre_swish_finite.fn (F := Ideal) (m ((c.tc : Thread Cert.SwishBwdIdeal.nD Cert.SwishBwdIdeal.τ).loc Cert.SwishBwdIdeal.main_arg0)) (m ((c.tc : Thread Cert.SwishBwdIdeal.nD Cert.SwishBwdIdeal.τ).loc Cert.SwishBwdIdeal.main_arg1)) (m ((c.tc : Thread Cert.SwishBwdIdeal.nD Cert.SwishBwdIdeal.τ).loc Cert.SwishBwdIdeal.main_arg2)) (m ((c.tc : Thread Cert.SwishBwdIdeal.nD Cert.SwishBwdIdeal.τ).loc Cert.SwishBwdIdeal.main_arg3))).1 = (fun _ => 1#1)
    ∧ (Cert.Pre_swish_finite.fn (F := Ideal) (m ((c.tc : Thread Cert.SwishBwdIdeal.nD Cert.SwishBwdIdeal.τ).loc Cert.SwishBwdIdeal.main_arg0)) (m ((c.tc : Thread Cert.SwishBwdIdeal.nD Cert.SwishBwdIdeal.τ).loc Cert.SwishBwdIdeal.main_arg1)) (m ((c.tc : Thread Cert.SwishBwdIdeal.nD Cert.SwishBwdIdeal.τ).loc Cert.SwishBwdIdeal.main_arg2)) (m ((c.tc : Thread Cert.SwishBwdIdeal.nD Cert.SwishBwdIdeal.τ).loc Cert.SwishBwdIdeal.main_arg3))).2.1 = (fun _ => 1#1)
    ∧ (Cert.Pre_swish_finite.fn (F := Ideal) (m ((c.tc : Thread Cert.SwishBwdIdeal.nD Cert.SwishBwdIdeal.τ).loc Cert.SwishBwdIdeal.main_arg0)) (m ((c.tc : Thread Cert.SwishBwdIdeal.nD Cert.SwishBwdIdeal.τ).loc Cert.SwishBwdIdeal.main_arg1)) (m ((c.tc : Thread Cert.SwishBwdIdeal.nD Cert.SwishBwdIdeal.τ).loc Cert.SwishBwdIdeal.main_arg2)) (m ((c.tc : Thread Cert.SwishBwdIdeal.nD Cert.SwishBwdIdeal.τ).loc Cert.SwishBwdIdeal.main_arg3))).2.2.1 = (fun _ => 1#1)
    ∧ (Cert.Pre_swish_finite.fn (F := Ideal) (m ((c.tc : Thread Cert.SwishBwdIdeal.nD Cert.SwishBwdIdeal.τ).loc Cert.SwishBwdIdeal.main_arg0)) (m ((c.tc : Thread Cert.SwishBwdIdeal.nD Cert.SwishBwdIdeal.τ).loc Cert.SwishBwdIdeal.main_arg1)) (m ((c.tc : Thread Cert.SwishBwdIdeal.nD Cert.SwishBwdIdeal.τ).loc Cert.SwishBwdIdeal.main_arg2)) (m ((c.tc : Thread Cert.SwishBwdIdeal.nD Cert.SwishBwdIdeal.τ).loc Cert.SwishBwdIdeal.main_arg3))).2.2.2 = (fun _ => 1#1)

def Pre_SwishBwdRefIdeal (m : (ℓ : Loc Cert.SwishBwdRefIdeal.nD Cert.SwishBwdRefIdeal.τ Cert.SwishBwdRefIdeal.sig) → Buf (Elt Ideal) ℓ) : Prop :=
  True

def Pre_SwishBwdRefIdeal_swish_finite [hPre_swish_finite : Cert.Pre_swish_finite.Facts] (m : (ℓ : Loc Cert.SwishBwdRefIdeal.nD Cert.SwishBwdRefIdeal.τ Cert.SwishBwdRefIdeal.sig) → Buf (Elt Ideal) ℓ) : Prop :=
  ∀ c : Dev Cert.SwishBwdRefIdeal.nD,
    (Cert.Pre_swish_finite.fn (F := Ideal) (m ((c.tc : Thread Cert.SwishBwdRefIdeal.nD Cert.SwishBwdRefIdeal.τ).loc Cert.SwishBwdRefIdeal.main_arg0)) (m ((c.tc : Thread Cert.SwishBwdRefIdeal.nD Cert.SwishBwdRefIdeal.τ).loc Cert.SwishBwdRefIdeal.main_arg1)) (m ((c.tc : Thread Cert.SwishBwdRefIdeal.nD Cert.SwishBwdRefIdeal.τ).loc Cert.SwishBwdRefIdeal.main_arg2)) (m ((c.tc : Thread Cert.SwishBwdRefIdeal.nD Cert.SwishBwdRefIdeal.τ).loc Cert.SwishBwdRefIdeal.main_arg3))).1 = (fun _ => 1#1)
    ∧ (Cert.Pre_swish_finite.fn (F := Ideal) (m ((c.tc : Thread Cert.SwishBwdRefIdeal.nD Cert.SwishBwdRefIdeal.τ).loc Cert.SwishBwdRefIdeal.main_arg0)) (m ((c.tc : Thread Cert.SwishBwdRefIdeal.nD Cert.SwishBwdRefIdeal.τ).loc Cert.SwishBwdRefIdeal.main_arg1)) (m ((c.tc : Thread Cert.SwishBwdRefIdeal.nD Cert.SwishBwdRefIdeal.τ).loc Cert.SwishBwdRefIdeal.main_arg2)) (m ((c.tc : Thread Cert.SwishBwdRefIdeal.nD Cert.SwishBwdRefIdeal.τ).loc Cert.SwishBwdRefIdeal.main_arg3))).2.1 = (fun _ => 1#1)
    ∧ (Cert.Pre_swish_finite.fn (F := Ideal) (m ((c.tc : Thread Cert.SwishBwdRefIdeal.nD Cert.SwishBwdRefIdeal.τ).loc Cert.SwishBwdRefIdeal.main_arg0)) (m ((c.tc : Thread Cert.SwishBwdRefIdeal.nD Cert.SwishBwdRefIdeal.τ).loc Cert.SwishBwdRefIdeal.main_arg1)) (m ((c.tc : Thread Cert.SwishBwdRefIdeal.nD Cert.SwishBwdRefIdeal.τ).loc Cert.SwishBwdRefIdeal.main_arg2)) (m ((c.tc : Thread Cert.SwishBwdRefIdeal.nD Cert.SwishBwdRefIdeal.τ).loc Cert.SwishBwdRefIdeal.main_arg3))).2.2.1 = (fun _ => 1#1)
    ∧ (Cert.Pre_swish_finite.fn (F := Ideal) (m ((c.tc : Thread Cert.SwishBwdRefIdeal.nD Cert.SwishBwdRefIdeal.τ).loc Cert.SwishBwdRefIdeal.main_arg0)) (m ((c.tc : Thread Cert.SwishBwdRefIdeal.nD Cert.SwishBwdRefIdeal.τ).loc Cert.SwishBwdRefIdeal.main_arg1)) (m ((c.tc : Thread Cert.SwishBwdRefIdeal.nD Cert.SwishBwdRefIdeal.τ).loc Cert.SwishBwdRefIdeal.main_arg2)) (m ((c.tc : Thread Cert.SwishBwdRefIdeal.nD Cert.SwishBwdRefIdeal.τ).loc Cert.SwishBwdRefIdeal.main_arg3))).2.2.2 = (fun _ => 1#1)

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossBwdIdeal_loss_finite [hPre_loss_finite : Cert.Pre_loss_finite.Facts] (m : (ℓ : Loc Cert.LossBwdIdeal.nD Cert.LossBwdIdeal.τ Cert.LossBwdIdeal.sig) → Buf (Elt Ideal) ℓ) : Prop :=
  ∀ c : Dev Cert.LossBwdIdeal.nD,
    (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3))).1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3))).2.1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3))).2.2.1 = (fun _ => 1#1)
    ∧ (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3))).2.2.2 = (fun _ => 1#1)

def Pre_LossBwdRefIdeal (m : (ℓ : Loc Cert.LossBwdRefIdeal.nD Cert.LossBwdRefIdeal.τ Cert.LossBwdRefIdeal.sig) → Buf (Elt Ideal) ℓ) : Prop :=
  True

def Pre_LossBwdRefIdeal_loss_finite [hPre_loss_finite : Cert.Pre_loss_finite.Facts] (m : (ℓ : Loc Cert.LossBwdRefIdeal.nD Cert.LossBwdRefIdeal.τ Cert.LossBwdRefIdeal.sig) → Buf (Elt Ideal) ℓ) : Prop :=
  ∀ c : Dev Cert.LossBwdRefIdeal.nD,
    (Cert.Pre_loss_finite.fn (F := Ideal) (m ((c.tc : Thread Cert.LossBwdRefIdeal.nD Cert.LossBwdRefIdeal.τ).loc Cert.LossBwdRefIdeal.main_arg0)) (m ((c.tc : Thread Cert.LossBwdRefIdeal.nD Cert.LossBwdRefIdeal.τ).loc Cert.LossBwdRefIdeal.main_arg1)) (m ((c.tc : Thread Cert.LossBwdRefIdeal.nD Cert.LossBwdRefIdeal.τ).loc Cert.LossBwdRefIdeal.main_arg2)) (m ((c.tc : Thread Cert.LossBwdRefIdeal.nD Cert.LossBwdRefIdeal.τ).loc Cert.LossBwdRefIdeal.main_arg3))).1 = (fun _ => 1#1)
    ∧ (Cert.Pre_loss_finite.fn (F := Ideal) (m ((c.tc : Thread Cert.LossBwdRefIdeal.nD Cert.LossBwdRefIdeal.τ).loc Cert.LossBwdRefIdeal.main_arg0)) (m ((c.tc : Thread Cert.LossBwdRefIdeal.nD Cert.LossBwdRefIdeal.τ).loc Cert.LossBwdRefIdeal.main_arg1)) (m ((c.tc : Thread Cert.LossBwdRefIdeal.nD Cert.LossBwdRefIdeal.τ).loc Cert.LossBwdRefIdeal.main_arg2)) (m ((c.tc : Thread Cert.LossBwdRefIdeal.nD Cert.LossBwdRefIdeal.τ).loc Cert.LossBwdRefIdeal.main_arg3))).2.1 = (fun _ => 1#1)
    ∧ (Cert.Pre_loss_finite.fn (F := Ideal) (m ((c.tc : Thread Cert.LossBwdRefIdeal.nD Cert.LossBwdRefIdeal.τ).loc Cert.LossBwdRefIdeal.main_arg0)) (m ((c.tc : Thread Cert.LossBwdRefIdeal.nD Cert.LossBwdRefIdeal.τ).loc Cert.LossBwdRefIdeal.main_arg1)) (m ((c.tc : Thread Cert.LossBwdRefIdeal.nD Cert.LossBwdRefIdeal.τ).loc Cert.LossBwdRefIdeal.main_arg2)) (m ((c.tc : Thread Cert.LossBwdRefIdeal.nD Cert.LossBwdRefIdeal.τ).loc Cert.LossBwdRefIdeal.main_arg3))).2.2.1 = (fun _ => 1#1)
    ∧ (Cert.Pre_loss_finite.fn (F := Ideal) (m ((c.tc : Thread Cert.LossBwdRefIdeal.nD Cert.LossBwdRefIdeal.τ).loc Cert.LossBwdRefIdeal.main_arg0)) (m ((c.tc : Thread Cert.LossBwdRefIdeal.nD Cert.LossBwdRefIdeal.τ).loc Cert.LossBwdRefIdeal.main_arg1)) (m ((c.tc : Thread Cert.LossBwdRefIdeal.nD Cert.LossBwdRefIdeal.τ).loc Cert.LossBwdRefIdeal.main_arg2)) (m ((c.tc : Thread Cert.LossBwdRefIdeal.nD Cert.LossBwdRefIdeal.τ).loc Cert.LossBwdRefIdeal.main_arg3))).2.2.2 = (fun _ => 1#1)

def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_UpBwdIdeal_up_finite [hPre_up_finite : Cert.Pre_up_finite.Facts] (m : (ℓ : Loc Cert.UpBwdIdeal.nD Cert.UpBwdIdeal.τ Cert.UpBwdIdeal.sig) → Buf (Elt Ideal) ℓ) : Prop :=
  ∀ c : Dev Cert.UpBwdIdeal.nD,
    (Cert.Pre_up_finite.fn (F := Ideal) (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4)) (m ((c.tc : Thread Cert.UpBwdIdeal.nD Cert.UpBwdIdeal.τ).loc Cert.UpBwdIdeal.main_arg5)) (m ((c.tc : Thread Cert.UpBwdIdeal.nD Cert.UpBwdIdeal.τ).loc Cert.UpBwdIdeal.main_arg6))).1 = (fun _ => 1#1)
    ∧ (Cert.Pre_up_finite.fn (F := Ideal) (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4)) (m ((c.tc : Thread Cert.UpBwdIdeal.nD Cert.UpBwdIdeal.τ).loc Cert.UpBwdIdeal.main_arg5)) (m ((c.tc : Thread Cert.UpBwdIdeal.nD Cert.UpBwdIdeal.τ).loc Cert.UpBwdIdeal.main_arg6))).2.1 = (fun _ => 1#1)
    ∧ (Cert.Pre_up_finite.fn (F := Ideal) (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4)) (m ((c.tc : Thread Cert.UpBwdIdeal.nD Cert.UpBwdIdeal.τ).loc Cert.UpBwdIdeal.main_arg5)) (m ((c.tc : Thread Cert.UpBwdIdeal.nD Cert.UpBwdIdeal.τ).loc Cert.UpBwdIdeal.main_arg6))).2.2.1 = (fun _ => 1#1)
    ∧ (Cert.Pre_up_finite.fn (F := Ideal) (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4)) (m ((c.tc : Thread Cert.UpBwdIdeal.nD Cert.UpBwdIdeal.τ).loc Cert.UpBwdIdeal.main_arg5)) (m ((c.tc : Thread Cert.UpBwdIdeal.nD Cert.UpBwdIdeal.τ).loc Cert.UpBwdIdeal.main_arg6))).2.2.2.1 = (fun _ => 1#1)
    ∧ (Cert.Pre_up_finite.fn (F := Ideal) (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4)) (m ((c.tc : Thread Cert.UpBwdIdeal.nD Cert.UpBwdIdeal.τ).loc Cert.UpBwdIdeal.main_arg5)) (m ((c.tc : Thread Cert.UpBwdIdeal.nD Cert.UpBwdIdeal.τ).loc Cert.UpBwdIdeal.main_arg6))).2.2.2.2.1 = (fun _ => 1#1)
    ∧ (Cert.Pre_up_finite.fn (F := Ideal) (m ((c.tc : Thread Cert.UpBwdIdeal.nD Cert.UpBwdIdeal.τ).loc Cert.UpBwdIdeal.main_arg0)) (m ((c.tc : Thread Cert.UpBwdIdeal.nD Cert.UpBwdIdeal.τ).loc Cert.UpBwdIdeal.main_arg1)) (m ((c.tc : Thread Cert.UpBwdIdeal.nD Cert.UpBwdIdeal.τ).loc Cert.UpBwdIdeal.main_arg2)) (m ((c.tc : Thread Cert.UpBwdIdeal.nD Cert.UpBwdIdeal.τ).loc Cert.UpBwdIdeal.main_arg3)) (m ((c.tc : Thread Cert.UpBwdIdeal.nD Cert.UpBwdIdeal.τ).loc Cert.UpBwdIdeal.main_arg4)) (m ((c.tc : Thread Cert.UpBwdIdeal.nD Cert.UpBwdIdeal.τ).loc Cert.UpBwdIdeal.main_arg5)) (m ((c.tc : Thread Cert.UpBwdIdeal.nD Cert.UpBwdIdeal.τ).loc Cert.UpBwdIdeal.main_arg6))).2.2.2.2.2 = (fun _ => 1#1)

def Pre_UpBwdRefIdeal (m : (ℓ : Loc Cert.UpBwdRefIdeal.nD Cert.UpBwdRefIdeal.τ Cert.UpBwdRefIdeal.sig) → Buf (Elt Ideal) ℓ) : Prop :=
  True

def Pre_UpBwdRefIdeal_up_finite [hPre_up_finite : Cert.Pre_up_finite.Facts] (m : (ℓ : Loc Cert.UpBwdRefIdeal.nD Cert.UpBwdRefIdeal.τ Cert.UpBwdRefIdeal.sig) → Buf (Elt Ideal) ℓ) : Prop :=
  ∀ c : Dev Cert.UpBwdRefIdeal.nD,
    (Cert.Pre_up_finite.fn (F := Ideal) (m ((c.tc : Thread Cert.UpBwdRefIdeal.nD Cert.UpBwdRefIdeal.τ).loc Cert.UpBwdRefIdeal.main_arg0)) (m ((c.tc : Thread Cert.UpBwdRefIdeal.nD Cert.UpBwdRefIdeal.τ).loc Cert.UpBwdRefIdeal.main_arg1)) (m ((c.tc : Thread Cert.UpBwdRefIdeal.nD Cert.UpBwdRefIdeal.τ).loc Cert.UpBwdRefIdeal.main_arg2)) (m ((c.tc : Thread Cert.UpBwdRefIdeal.nD Cert.UpBwdRefIdeal.τ).loc Cert.UpBwdRefIdeal.main_arg3)) (m ((c.tc : Thread Cert.UpBwdRefIdeal.nD Cert.UpBwdRefIdeal.τ).loc Cert.UpBwdRefIdeal.main_arg4)) (m ((c.tc : Thread Cert.UpBwdRefIdeal.nD Cert.UpBwdRefIdeal.τ).loc Cert.UpBwdRefIdeal.main_arg5)) (m ((c.tc : Thread Cert.UpBwdRefIdeal.nD Cert.UpBwdRefIdeal.τ).loc Cert.UpBwdRefIdeal.main_arg6))).1 = (fun _ => 1#1)
    ∧ (Cert.Pre_up_finite.fn (F := Ideal) (m ((c.tc : Thread Cert.UpBwdRefIdeal.nD Cert.UpBwdRefIdeal.τ).loc Cert.UpBwdRefIdeal.main_arg0)) (m ((c.tc : Thread Cert.UpBwdRefIdeal.nD Cert.UpBwdRefIdeal.τ).loc Cert.UpBwdRefIdeal.main_arg1)) (m ((c.tc : Thread Cert.UpBwdRefIdeal.nD Cert.UpBwdRefIdeal.τ).loc Cert.UpBwdRefIdeal.main_arg2)) (m ((c.tc : Thread Cert.UpBwdRefIdeal.nD Cert.UpBwdRefIdeal.τ).loc Cert.UpBwdRefIdeal.main_arg3)) (m ((c.tc : Thread Cert.UpBwdRefIdeal.nD Cert.UpBwdRefIdeal.τ).loc Cert.UpBwdRefIdeal.main_arg4)) (m ((c.tc : Thread Cert.UpBwdRefIdeal.nD Cert.UpBwdRefIdeal.τ).loc Cert.UpBwdRefIdeal.main_arg5)) (m ((c.tc : Thread Cert.UpBwdRefIdeal.nD Cert.UpBwdRefIdeal.τ).loc Cert.UpBwdRefIdeal.main_arg6))).2.1 = (fun _ => 1#1)
    ∧ (Cert.Pre_up_finite.fn (F := Ideal) (m ((c.tc : Thread Cert.UpBwdRefIdeal.nD Cert.UpBwdRefIdeal.τ).loc Cert.UpBwdRefIdeal.main_arg0)) (m ((c.tc : Thread Cert.UpBwdRefIdeal.nD Cert.UpBwdRefIdeal.τ).loc Cert.UpBwdRefIdeal.main_arg1)) (m ((c.tc : Thread Cert.UpBwdRefIdeal.nD Cert.UpBwdRefIdeal.τ).loc Cert.UpBwdRefIdeal.main_arg2)) (m ((c.tc : Thread Cert.UpBwdRefIdeal.nD Cert.UpBwdRefIdeal.τ).loc Cert.UpBwdRefIdeal.main_arg3)) (m ((c.tc : Thread Cert.UpBwdRefIdeal.nD Cert.UpBwdRefIdeal.τ).loc Cert.UpBwdRefIdeal.main_arg4)) (m ((c.tc : Thread Cert.UpBwdRefIdeal.nD Cert.UpBwdRefIdeal.τ).loc Cert.UpBwdRefIdeal.main_arg5)) (m ((c.tc : Thread Cert.UpBwdRefIdeal.nD Cert.UpBwdRefIdeal.τ).loc Cert.UpBwdRefIdeal.main_arg6))).2.2.1 = (fun _ => 1#1)
    ∧ (Cert.Pre_up_finite.fn (F := Ideal) (m ((c.tc : Thread Cert.UpBwdRefIdeal.nD Cert.UpBwdRefIdeal.τ).loc Cert.UpBwdRefIdeal.main_arg0)) (m ((c.tc : Thread Cert.UpBwdRefIdeal.nD Cert.UpBwdRefIdeal.τ).loc Cert.UpBwdRefIdeal.main_arg1)) (m ((c.tc : Thread Cert.UpBwdRefIdeal.nD Cert.UpBwdRefIdeal.τ).loc Cert.UpBwdRefIdeal.main_arg2)) (m ((c.tc : Thread Cert.UpBwdRefIdeal.nD Cert.UpBwdRefIdeal.τ).loc Cert.UpBwdRefIdeal.main_arg3)) (m ((c.tc : Thread Cert.UpBwdRefIdeal.nD Cert.UpBwdRefIdeal.τ).loc Cert.UpBwdRefIdeal.main_arg4)) (m ((c.tc : Thread Cert.UpBwdRefIdeal.nD Cert.UpBwdRefIdeal.τ).loc Cert.UpBwdRefIdeal.main_arg5)) (m ((c.tc : Thread Cert.UpBwdRefIdeal.nD Cert.UpBwdRefIdeal.τ).loc Cert.UpBwdRefIdeal.main_arg6))).2.2.2.1 = (fun _ => 1#1)
    ∧ (Cert.Pre_up_finite.fn (F := Ideal) (m ((c.tc : Thread Cert.UpBwdRefIdeal.nD Cert.UpBwdRefIdeal.τ).loc Cert.UpBwdRefIdeal.main_arg0)) (m ((c.tc : Thread Cert.UpBwdRefIdeal.nD Cert.UpBwdRefIdeal.τ).loc Cert.UpBwdRefIdeal.main_arg1)) (m ((c.tc : Thread Cert.UpBwdRefIdeal.nD Cert.UpBwdRefIdeal.τ).loc Cert.UpBwdRefIdeal.main_arg2)) (m ((c.tc : Thread Cert.UpBwdRefIdeal.nD Cert.UpBwdRefIdeal.τ).loc Cert.UpBwdRefIdeal.main_arg3)) (m ((c.tc : Thread Cert.UpBwdRefIdeal.nD Cert.UpBwdRefIdeal.τ).loc Cert.UpBwdRefIdeal.main_arg4)) (m ((c.tc : Thread Cert.UpBwdRefIdeal.nD Cert.UpBwdRefIdeal.τ).loc Cert.UpBwdRefIdeal.main_arg5)) (m ((c.tc : Thread Cert.UpBwdRefIdeal.nD Cert.UpBwdRefIdeal.τ).loc Cert.UpBwdRefIdeal.main_arg6))).2.2.2.2.1 = (fun _ => 1#1)
    ∧ (Cert.Pre_up_finite.fn (F := Ideal) (m ((c.tc : Thread Cert.UpBwdRefIdeal.nD Cert.UpBwdRefIdeal.τ).loc Cert.UpBwdRefIdeal.main_arg0)) (m ((c.tc : Thread Cert.UpBwdRefIdeal.nD Cert.UpBwdRefIdeal.τ).loc Cert.UpBwdRefIdeal.main_arg1)) (m ((c.tc : Thread Cert.UpBwdRefIdeal.nD Cert.UpBwdRefIdeal.τ).loc Cert.UpBwdRefIdeal.main_arg2)) (m ((c.tc : Thread Cert.UpBwdRefIdeal.nD Cert.UpBwdRefIdeal.τ).loc Cert.UpBwdRefIdeal.main_arg3)) (m ((c.tc : Thread Cert.UpBwdRefIdeal.nD Cert.UpBwdRefIdeal.τ).loc Cert.UpBwdRefIdeal.main_arg4)) (m ((c.tc : Thread Cert.UpBwdRefIdeal.nD Cert.UpBwdRefIdeal.τ).loc Cert.UpBwdRefIdeal.main_arg5)) (m ((c.tc : Thread Cert.UpBwdRefIdeal.nD Cert.UpBwdRefIdeal.τ).loc Cert.UpBwdRefIdeal.main_arg6))).2.2.2.2.2 = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.2.2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attn_finite [hPre_attn_finite : Cert.Pre_attn_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).2.1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).2.2.1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).2.2.2 = (fun _ => 1#1)

def Pre_LatentsBwd (m : (ℓ : Loc Cert.LatentsBwd.nD Cert.LatentsBwd.τ Cert.LatentsBwd.sig) → Buf (Elt Bits) ℓ) : Prop :=
  True

def Pre_LatentsBwdIdeal (m : (ℓ : Loc Cert.LatentsBwdIdeal.nD Cert.LatentsBwdIdeal.τ Cert.LatentsBwdIdeal.sig) → Buf (Elt Ideal) ℓ) : Prop :=
  True

def Pre_LatentsBwdIdeal_latents_finite [hPre_latents_finite : Cert.Pre_latents_finite.Facts] (m : (ℓ : Loc Cert.LatentsBwdIdeal.nD Cert.LatentsBwdIdeal.τ Cert.LatentsBwdIdeal.sig) → Buf (Elt Ideal) ℓ) : Prop :=
  ∀ c : Dev Cert.LatentsBwdIdeal.nD,
    (Cert.Pre_latents_finite.fn (F := Ideal) (m ((c.tc : Thread Cert.LatentsBwdIdeal.nD Cert.LatentsBwdIdeal.τ).loc Cert.LatentsBwdIdeal.main_arg0)) (m ((c.tc : Thread Cert.LatentsBwdIdeal.nD Cert.LatentsBwdIdeal.τ).loc Cert.LatentsBwdIdeal.main_arg1)) (m ((c.tc : Thread Cert.LatentsBwdIdeal.nD Cert.LatentsBwdIdeal.τ).loc Cert.LatentsBwdIdeal.main_arg2)) (m ((c.tc : Thread Cert.LatentsBwdIdeal.nD Cert.LatentsBwdIdeal.τ).loc Cert.LatentsBwdIdeal.main_arg3)) (m ((c.tc : Thread Cert.LatentsBwdIdeal.nD Cert.LatentsBwdIdeal.τ).loc Cert.LatentsBwdIdeal.main_arg4)) (m ((c.tc : Thread Cert.LatentsBwdIdeal.nD Cert.LatentsBwdIdeal.τ).loc Cert.LatentsBwdIdeal.main_arg5)) (m ((c.tc : Thread Cert.LatentsBwdIdeal.nD Cert.LatentsBwdIdeal.τ).loc Cert.LatentsBwdIdeal.main_arg6))).1 = (fun _ => 1#1)
    ∧ (Cert.Pre_latents_finite.fn (F := Ideal) (m ((c.tc : Thread Cert.LatentsBwdIdeal.nD Cert.LatentsBwdIdeal.τ).loc Cert.LatentsBwdIdeal.main_arg0)) (m ((c.tc : Thread Cert.LatentsBwdIdeal.nD Cert.LatentsBwdIdeal.τ).loc Cert.LatentsBwdIdeal.main_arg1)) (m ((c.tc : Thread Cert.LatentsBwdIdeal.nD Cert.LatentsBwdIdeal.τ).loc Cert.LatentsBwdIdeal.main_arg2)) (m ((c.tc : Thread Cert.LatentsBwdIdeal.nD Cert.LatentsBwdIdeal.τ).loc Cert.LatentsBwdIdeal.main_arg3)) (m ((c.tc : Thread Cert.LatentsBwdIdeal.nD Cert.LatentsBwdIdeal.τ).loc Cert.LatentsBwdIdeal.main_arg4)) (m ((c.tc : Thread Cert.LatentsBwdIdeal.nD Cert.LatentsBwdIdeal.τ).loc Cert.LatentsBwdIdeal.main_arg5)) (m ((c.tc : Thread Cert.LatentsBwdIdeal.nD Cert.LatentsBwdIdeal.τ).loc Cert.LatentsBwdIdeal.main_arg6))).2.1 = (fun _ => 1#1)
    ∧ (Cert.Pre_latents_finite.fn (F := Ideal) (m ((c.tc : Thread Cert.LatentsBwdIdeal.nD Cert.LatentsBwdIdeal.τ).loc Cert.LatentsBwdIdeal.main_arg0)) (m ((c.tc : Thread Cert.LatentsBwdIdeal.nD Cert.LatentsBwdIdeal.τ).loc Cert.LatentsBwdIdeal.main_arg1)) (m ((c.tc : Thread Cert.LatentsBwdIdeal.nD Cert.LatentsBwdIdeal.τ).loc Cert.LatentsBwdIdeal.main_arg2)) (m ((c.tc : Thread Cert.LatentsBwdIdeal.nD Cert.LatentsBwdIdeal.τ).loc Cert.LatentsBwdIdeal.main_arg3)) (m ((c.tc : Thread Cert.LatentsBwdIdeal.nD Cert.LatentsBwdIdeal.τ).loc Cert.LatentsBwdIdeal.main_arg4)) (m ((c.tc : Thread Cert.LatentsBwdIdeal.nD Cert.LatentsBwdIdeal.τ).loc Cert.LatentsBwdIdeal.main_arg5)) (m ((c.tc : Thread Cert.LatentsBwdIdeal.nD Cert.LatentsBwdIdeal.τ).loc Cert.LatentsBwdIdeal.main_arg6))).2.2.1 = (fun _ => 1#1)
    ∧ (Cert.Pre_latents_finite.fn (F := Ideal) (m ((c.tc : Thread Cert.LatentsBwdIdeal.nD Cert.LatentsBwdIdeal.τ).loc Cert.LatentsBwdIdeal.main_arg0)) (m ((c.tc : Thread Cert.LatentsBwdIdeal.nD Cert.LatentsBwdIdeal.τ).loc Cert.LatentsBwdIdeal.main_arg1)) (m ((c.tc : Thread Cert.LatentsBwdIdeal.nD Cert.LatentsBwdIdeal.τ).loc Cert.LatentsBwdIdeal.main_arg2)) (m ((c.tc : Thread Cert.LatentsBwdIdeal.nD Cert.LatentsBwdIdeal.τ).loc Cert.LatentsBwdIdeal.main_arg3)) (m ((c.tc : Thread Cert.LatentsBwdIdeal.nD Cert.LatentsBwdIdeal.τ).loc Cert.LatentsBwdIdeal.main_arg4)) (m ((c.tc : Thread Cert.LatentsBwdIdeal.nD Cert.LatentsBwdIdeal.τ).loc Cert.LatentsBwdIdeal.main_arg5)) (m ((c.tc : Thread Cert.LatentsBwdIdeal.nD Cert.LatentsBwdIdeal.τ).loc Cert.LatentsBwdIdeal.main_arg6))).2.2.2.1 = (fun _ => 1#1)
    ∧ (Cert.Pre_latents_finite.fn (F := Ideal) (m ((c.tc : Thread Cert.LatentsBwdIdeal.nD Cert.LatentsBwdIdeal.τ).loc Cert.LatentsBwdIdeal.main_arg0)) (m ((c.tc : Thread Cert.LatentsBwdIdeal.nD Cert.LatentsBwdIdeal.τ).loc Cert.LatentsBwdIdeal.main_arg1)) (m ((c.tc : Thread Cert.LatentsBwdIdeal.nD Cert.LatentsBwdIdeal.τ).loc Cert.LatentsBwdIdeal.main_arg2)) (m ((c.tc : Thread Cert.LatentsBwdIdeal.nD Cert.LatentsBwdIdeal.τ).loc Cert.LatentsBwdIdeal.main_arg3)) (m ((c.tc : Thread Cert.LatentsBwdIdeal.nD Cert.LatentsBwdIdeal.τ).loc Cert.LatentsBwdIdeal.main_arg4)) (m ((c.tc : Thread Cert.LatentsBwdIdeal.nD Cert.LatentsBwdIdeal.τ).loc Cert.LatentsBwdIdeal.main_arg5)) (m ((c.tc : Thread Cert.LatentsBwdIdeal.nD Cert.LatentsBwdIdeal.τ).loc Cert.LatentsBwdIdeal.main_arg6))).2.2.2.2.1 = (fun _ => 1#1)
    ∧ (Cert.Pre_latents_finite.fn (F := Ideal) (m ((c.tc : Thread Cert.LatentsBwdIdeal.nD Cert.LatentsBwdIdeal.τ).loc Cert.LatentsBwdIdeal.main_arg0)) (m ((c.tc : Thread Cert.LatentsBwdIdeal.nD Cert.LatentsBwdIdeal.τ).loc Cert.LatentsBwdIdeal.main_arg1)) (m ((c.tc : Thread Cert.LatentsBwdIdeal.nD Cert.LatentsBwdIdeal.τ).loc Cert.LatentsBwdIdeal.main_arg2)) (m ((c.tc : Thread Cert.LatentsBwdIdeal.nD Cert.LatentsBwdIdeal.τ).loc Cert.LatentsBwdIdeal.main_arg3)) (m ((c.tc : Thread Cert.LatentsBwdIdeal.nD Cert.LatentsBwdIdeal.τ).loc Cert.LatentsBwdIdeal.main_arg4)) (m ((c.tc : Thread Cert.LatentsBwdIdeal.nD Cert.LatentsBwdIdeal.τ).loc Cert.LatentsBwdIdeal.main_arg5)) (m ((c.tc : Thread Cert.LatentsBwdIdeal.nD Cert.LatentsBwdIdeal.τ).loc Cert.LatentsBwdIdeal.main_arg6))).2.2.2.2.2 = (fun _ => 1#1)

def Pre_LatentsBwdRefIdeal (m : (ℓ : Loc Cert.LatentsBwdRefIdeal.nD Cert.LatentsBwdRefIdeal.τ Cert.LatentsBwdRefIdeal.sig) → Buf (Elt Ideal) ℓ) : Prop :=
  True

def Pre_LatentsBwdRefIdeal_latents_finite [hPre_latents_finite : Cert.Pre_latents_finite.Facts] (m : (ℓ : Loc Cert.LatentsBwdRefIdeal.nD Cert.LatentsBwdRefIdeal.τ Cert.LatentsBwdRefIdeal.sig) → Buf (Elt Ideal) ℓ) : Prop :=
  ∀ c : Dev Cert.LatentsBwdRefIdeal.nD,
    (Cert.Pre_latents_finite.fn (F := Ideal) (m ((c.tc : Thread Cert.LatentsBwdRefIdeal.nD Cert.LatentsBwdRefIdeal.τ).loc Cert.LatentsBwdRefIdeal.main_arg0)) (m ((c.tc : Thread Cert.LatentsBwdRefIdeal.nD Cert.LatentsBwdRefIdeal.τ).loc Cert.LatentsBwdRefIdeal.main_arg1)) (m ((c.tc : Thread Cert.LatentsBwdRefIdeal.nD Cert.LatentsBwdRefIdeal.τ).loc Cert.LatentsBwdRefIdeal.main_arg2)) (m ((c.tc : Thread Cert.LatentsBwdRefIdeal.nD Cert.LatentsBwdRefIdeal.τ).loc Cert.LatentsBwdRefIdeal.main_arg3)) (m ((c.tc : Thread Cert.LatentsBwdRefIdeal.nD Cert.LatentsBwdRefIdeal.τ).loc Cert.LatentsBwdRefIdeal.main_arg4)) (m ((c.tc : Thread Cert.LatentsBwdRefIdeal.nD Cert.LatentsBwdRefIdeal.τ).loc Cert.LatentsBwdRefIdeal.main_arg5)) (m ((c.tc : Thread Cert.LatentsBwdRefIdeal.nD Cert.LatentsBwdRefIdeal.τ).loc Cert.LatentsBwdRefIdeal.main_arg6))).1 = (fun _ => 1#1)
    ∧ (Cert.Pre_latents_finite.fn (F := Ideal) (m ((c.tc : Thread Cert.LatentsBwdRefIdeal.nD Cert.LatentsBwdRefIdeal.τ).loc Cert.LatentsBwdRefIdeal.main_arg0)) (m ((c.tc : Thread Cert.LatentsBwdRefIdeal.nD Cert.LatentsBwdRefIdeal.τ).loc Cert.LatentsBwdRefIdeal.main_arg1)) (m ((c.tc : Thread Cert.LatentsBwdRefIdeal.nD Cert.LatentsBwdRefIdeal.τ).loc Cert.LatentsBwdRefIdeal.main_arg2)) (m ((c.tc : Thread Cert.LatentsBwdRefIdeal.nD Cert.LatentsBwdRefIdeal.τ).loc Cert.LatentsBwdRefIdeal.main_arg3)) (m ((c.tc : Thread Cert.LatentsBwdRefIdeal.nD Cert.LatentsBwdRefIdeal.τ).loc Cert.LatentsBwdRefIdeal.main_arg4)) (m ((c.tc : Thread Cert.LatentsBwdRefIdeal.nD Cert.LatentsBwdRefIdeal.τ).loc Cert.LatentsBwdRefIdeal.main_arg5)) (m ((c.tc : Thread Cert.LatentsBwdRefIdeal.nD Cert.LatentsBwdRefIdeal.τ).loc Cert.LatentsBwdRefIdeal.main_arg6))).2.1 = (fun _ => 1#1)
    ∧ (Cert.Pre_latents_finite.fn (F := Ideal) (m ((c.tc : Thread Cert.LatentsBwdRefIdeal.nD Cert.LatentsBwdRefIdeal.τ).loc Cert.LatentsBwdRefIdeal.main_arg0)) (m ((c.tc : Thread Cert.LatentsBwdRefIdeal.nD Cert.LatentsBwdRefIdeal.τ).loc Cert.LatentsBwdRefIdeal.main_arg1)) (m ((c.tc : Thread Cert.LatentsBwdRefIdeal.nD Cert.LatentsBwdRefIdeal.τ).loc Cert.LatentsBwdRefIdeal.main_arg2)) (m ((c.tc : Thread Cert.LatentsBwdRefIdeal.nD Cert.LatentsBwdRefIdeal.τ).loc Cert.LatentsBwdRefIdeal.main_arg3)) (m ((c.tc : Thread Cert.LatentsBwdRefIdeal.nD Cert.LatentsBwdRefIdeal.τ).loc Cert.LatentsBwdRefIdeal.main_arg4)) (m ((c.tc : Thread Cert.LatentsBwdRefIdeal.nD Cert.LatentsBwdRefIdeal.τ).loc Cert.LatentsBwdRefIdeal.main_arg5)) (m ((c.tc : Thread Cert.LatentsBwdRefIdeal.nD Cert.LatentsBwdRefIdeal.τ).loc Cert.LatentsBwdRefIdeal.main_arg6))).2.2.1 = (fun _ => 1#1)
    ∧ (Cert.Pre_latents_finite.fn (F := Ideal) (m ((c.tc : Thread Cert.LatentsBwdRefIdeal.nD Cert.LatentsBwdRefIdeal.τ).loc Cert.LatentsBwdRefIdeal.main_arg0)) (m ((c.tc : Thread Cert.LatentsBwdRefIdeal.nD Cert.LatentsBwdRefIdeal.τ).loc Cert.LatentsBwdRefIdeal.main_arg1)) (m ((c.tc : Thread Cert.LatentsBwdRefIdeal.nD Cert.LatentsBwdRefIdeal.τ).loc Cert.LatentsBwdRefIdeal.main_arg2)) (m ((c.tc : Thread Cert.LatentsBwdRefIdeal.nD Cert.LatentsBwdRefIdeal.τ).loc Cert.LatentsBwdRefIdeal.main_arg3)) (m ((c.tc : Thread Cert.LatentsBwdRefIdeal.nD Cert.LatentsBwdRefIdeal.τ).loc Cert.LatentsBwdRefIdeal.main_arg4)) (m ((c.tc : Thread Cert.LatentsBwdRefIdeal.nD Cert.LatentsBwdRefIdeal.τ).loc Cert.LatentsBwdRefIdeal.main_arg5)) (m ((c.tc : Thread Cert.LatentsBwdRefIdeal.nD Cert.LatentsBwdRefIdeal.τ).loc Cert.LatentsBwdRefIdeal.main_arg6))).2.2.2.1 = (fun _ => 1#1)
    ∧ (Cert.Pre_latents_finite.fn (F := Ideal) (m ((c.tc : Thread Cert.LatentsBwdRefIdeal.nD Cert.LatentsBwdRefIdeal.τ).loc Cert.LatentsBwdRefIdeal.main_arg0)) (m ((c.tc : Thread Cert.LatentsBwdRefIdeal.nD Cert.LatentsBwdRefIdeal.τ).loc Cert.LatentsBwdRefIdeal.main_arg1)) (m ((c.tc : Thread Cert.LatentsBwdRefIdeal.nD Cert.LatentsBwdRefIdeal.τ).loc Cert.LatentsBwdRefIdeal.main_arg2)) (m ((c.tc : Thread Cert.LatentsBwdRefIdeal.nD Cert.LatentsBwdRefIdeal.τ).loc Cert.LatentsBwdRefIdeal.main_arg3)) (m ((c.tc : Thread Cert.LatentsBwdRefIdeal.nD Cert.LatentsBwdRefIdeal.τ).loc Cert.LatentsBwdRefIdeal.main_arg4)) (m ((c.tc : Thread Cert.LatentsBwdRefIdeal.nD Cert.LatentsBwdRefIdeal.τ).loc Cert.LatentsBwdRefIdeal.main_arg5)) (m ((c.tc : Thread Cert.LatentsBwdRefIdeal.nD Cert.LatentsBwdRefIdeal.τ).loc Cert.LatentsBwdRefIdeal.main_arg6))).2.2.2.2.1 = (fun _ => 1#1)
    ∧ (Cert.Pre_latents_finite.fn (F := Ideal) (m ((c.tc : Thread Cert.LatentsBwdRefIdeal.nD Cert.LatentsBwdRefIdeal.τ).loc Cert.LatentsBwdRefIdeal.main_arg0)) (m ((c.tc : Thread Cert.LatentsBwdRefIdeal.nD Cert.LatentsBwdRefIdeal.τ).loc Cert.LatentsBwdRefIdeal.main_arg1)) (m ((c.tc : Thread Cert.LatentsBwdRefIdeal.nD Cert.LatentsBwdRefIdeal.τ).loc Cert.LatentsBwdRefIdeal.main_arg2)) (m ((c.tc : Thread Cert.LatentsBwdRefIdeal.nD Cert.LatentsBwdRefIdeal.τ).loc Cert.LatentsBwdRefIdeal.main_arg3)) (m ((c.tc : Thread Cert.LatentsBwdRefIdeal.nD Cert.LatentsBwdRefIdeal.τ).loc Cert.LatentsBwdRefIdeal.main_arg4)) (m ((c.tc : Thread Cert.LatentsBwdRefIdeal.nD Cert.LatentsBwdRefIdeal.τ).loc Cert.LatentsBwdRefIdeal.main_arg5)) (m ((c.tc : Thread Cert.LatentsBwdRefIdeal.nD Cert.LatentsBwdRefIdeal.τ).loc Cert.LatentsBwdRefIdeal.main_arg6))).2.2.2.2.2 = (fun _ => 1#1)

def Pre_ScInBwd (m : (ℓ : Loc Cert.ScInBwd.nD Cert.ScInBwd.τ Cert.ScInBwd.sig) → Buf (Elt Bits) ℓ) : Prop :=
  True

def Pre_ScInBwdIdeal (m : (ℓ : Loc Cert.ScInBwdIdeal.nD Cert.ScInBwdIdeal.τ Cert.ScInBwdIdeal.sig) → Buf (Elt Ideal) ℓ) : Prop :=
  True

def Pre_ScInBwdIdeal_scin_finite [hPre_scin_finite : Cert.Pre_scin_finite.Facts] (m : (ℓ : Loc Cert.ScInBwdIdeal.nD Cert.ScInBwdIdeal.τ Cert.ScInBwdIdeal.sig) → Buf (Elt Ideal) ℓ) : Prop :=
  ∀ c : Dev Cert.ScInBwdIdeal.nD,
    (Cert.Pre_scin_finite.fn (F := Ideal) (m ((c.tc : Thread Cert.ScInBwdIdeal.nD Cert.ScInBwdIdeal.τ).loc Cert.ScInBwdIdeal.main_arg0)) (m ((c.tc : Thread Cert.ScInBwdIdeal.nD Cert.ScInBwdIdeal.τ).loc Cert.ScInBwdIdeal.main_arg1)) (m ((c.tc : Thread Cert.ScInBwdIdeal.nD Cert.ScInBwdIdeal.τ).loc Cert.ScInBwdIdeal.main_arg2)) (m ((c.tc : Thread Cert.ScInBwdIdeal.nD Cert.ScInBwdIdeal.τ).loc Cert.ScInBwdIdeal.main_arg3)) (m ((c.tc : Thread Cert.ScInBwdIdeal.nD Cert.ScInBwdIdeal.τ).loc Cert.ScInBwdIdeal.main_arg4)) (m ((c.tc : Thread Cert.ScInBwdIdeal.nD Cert.ScInBwdIdeal.τ).loc Cert.ScInBwdIdeal.main_arg5)) (m ((c.tc : Thread Cert.ScInBwdIdeal.nD Cert.ScInBwdIdeal.τ).loc Cert.ScInBwdIdeal.main_arg6))).1 = (fun _ => 1#1)
    ∧ (Cert.Pre_scin_finite.fn (F := Ideal) (m ((c.tc : Thread Cert.ScInBwdIdeal.nD Cert.ScInBwdIdeal.τ).loc Cert.ScInBwdIdeal.main_arg0)) (m ((c.tc : Thread Cert.ScInBwdIdeal.nD Cert.ScInBwdIdeal.τ).loc Cert.ScInBwdIdeal.main_arg1)) (m ((c.tc : Thread Cert.ScInBwdIdeal.nD Cert.ScInBwdIdeal.τ).loc Cert.ScInBwdIdeal.main_arg2)) (m ((c.tc : Thread Cert.ScInBwdIdeal.nD Cert.ScInBwdIdeal.τ).loc Cert.ScInBwdIdeal.main_arg3)) (m ((c.tc : Thread Cert.ScInBwdIdeal.nD Cert.ScInBwdIdeal.τ).loc Cert.ScInBwdIdeal.main_arg4)) (m ((c.tc : Thread Cert.ScInBwdIdeal.nD Cert.ScInBwdIdeal.τ).loc Cert.ScInBwdIdeal.main_arg5)) (m ((c.tc : Thread Cert.ScInBwdIdeal.nD Cert.ScInBwdIdeal.τ).loc Cert.ScInBwdIdeal.main_arg6))).2.1 = (fun _ => 1#1)
    ∧ (Cert.Pre_scin_finite.fn (F := Ideal) (m ((c.tc : Thread Cert.ScInBwdIdeal.nD Cert.ScInBwdIdeal.τ).loc Cert.ScInBwdIdeal.main_arg0)) (m ((c.tc : Thread Cert.ScInBwdIdeal.nD Cert.ScInBwdIdeal.τ).loc Cert.ScInBwdIdeal.main_arg1)) (m ((c.tc : Thread Cert.ScInBwdIdeal.nD Cert.ScInBwdIdeal.τ).loc Cert.ScInBwdIdeal.main_arg2)) (m ((c.tc : Thread Cert.ScInBwdIdeal.nD Cert.ScInBwdIdeal.τ).loc Cert.ScInBwdIdeal.main_arg3)) (m ((c.tc : Thread Cert.ScInBwdIdeal.nD Cert.ScInBwdIdeal.τ).loc Cert.ScInBwdIdeal.main_arg4)) (m ((c.tc : Thread Cert.ScInBwdIdeal.nD Cert.ScInBwdIdeal.τ).loc Cert.ScInBwdIdeal.main_arg5)) (m ((c.tc : Thread Cert.ScInBwdIdeal.nD Cert.ScInBwdIdeal.τ).loc Cert.ScInBwdIdeal.main_arg6))).2.2.1 = (fun _ => 1#1)
    ∧ (Cert.Pre_scin_finite.fn (F := Ideal) (m ((c.tc : Thread Cert.ScInBwdIdeal.nD Cert.ScInBwdIdeal.τ).loc Cert.ScInBwdIdeal.main_arg0)) (m ((c.tc : Thread Cert.ScInBwdIdeal.nD Cert.ScInBwdIdeal.τ).loc Cert.ScInBwdIdeal.main_arg1)) (m ((c.tc : Thread Cert.ScInBwdIdeal.nD Cert.ScInBwdIdeal.τ).loc Cert.ScInBwdIdeal.main_arg2)) (m ((c.tc : Thread Cert.ScInBwdIdeal.nD Cert.ScInBwdIdeal.τ).loc Cert.ScInBwdIdeal.main_arg3)) (m ((c.tc : Thread Cert.ScInBwdIdeal.nD Cert.ScInBwdIdeal.τ).loc Cert.ScInBwdIdeal.main_arg4)) (m ((c.tc : Thread Cert.ScInBwdIdeal.nD Cert.ScInBwdIdeal.τ).loc Cert.ScInBwdIdeal.main_arg5)) (m ((c.tc : Thread Cert.ScInBwdIdeal.nD Cert.ScInBwdIdeal.τ).loc Cert.ScInBwdIdeal.main_arg6))).2.2.2.1 = (fun _ => 1#1)
    ∧ (Cert.Pre_scin_finite.fn (F := Ideal) (m ((c.tc : Thread Cert.ScInBwdIdeal.nD Cert.ScInBwdIdeal.τ).loc Cert.ScInBwdIdeal.main_arg0)) (m ((c.tc : Thread Cert.ScInBwdIdeal.nD Cert.ScInBwdIdeal.τ).loc Cert.ScInBwdIdeal.main_arg1)) (m ((c.tc : Thread Cert.ScInBwdIdeal.nD Cert.ScInBwdIdeal.τ).loc Cert.ScInBwdIdeal.main_arg2)) (m ((c.tc : Thread Cert.ScInBwdIdeal.nD Cert.ScInBwdIdeal.τ).loc Cert.ScInBwdIdeal.main_arg3)) (m ((c.tc : Thread Cert.ScInBwdIdeal.nD Cert.ScInBwdIdeal.τ).loc Cert.ScInBwdIdeal.main_arg4)) (m ((c.tc : Thread Cert.ScInBwdIdeal.nD Cert.ScInBwdIdeal.τ).loc Cert.ScInBwdIdeal.main_arg5)) (m ((c.tc : Thread Cert.ScInBwdIdeal.nD Cert.ScInBwdIdeal.τ).loc Cert.ScInBwdIdeal.main_arg6))).2.2.2.2.1 = (fun _ => 1#1)
    ∧ (Cert.Pre_scin_finite.fn (F := Ideal) (m ((c.tc : Thread Cert.ScInBwdIdeal.nD Cert.ScInBwdIdeal.τ).loc Cert.ScInBwdIdeal.main_arg0)) (m ((c.tc : Thread Cert.ScInBwdIdeal.nD Cert.ScInBwdIdeal.τ).loc Cert.ScInBwdIdeal.main_arg1)) (m ((c.tc : Thread Cert.ScInBwdIdeal.nD Cert.ScInBwdIdeal.τ).loc Cert.ScInBwdIdeal.main_arg2)) (m ((c.tc : Thread Cert.ScInBwdIdeal.nD Cert.ScInBwdIdeal.τ).loc Cert.ScInBwdIdeal.main_arg3)) (m ((c.tc : Thread Cert.ScInBwdIdeal.nD Cert.ScInBwdIdeal.τ).loc Cert.ScInBwdIdeal.main_arg4)) (m ((c.tc : Thread Cert.ScInBwdIdeal.nD Cert.ScInBwdIdeal.τ).loc Cert.ScInBwdIdeal.main_arg5)) (m ((c.tc : Thread Cert.ScInBwdIdeal.nD Cert.ScInBwdIdeal.τ).loc Cert.ScInBwdIdeal.main_arg6))).2.2.2.2.2 = (fun _ => 1#1)

def Pre_ScInBwdRefIdeal (m : (ℓ : Loc Cert.ScInBwdRefIdeal.nD Cert.ScInBwdRefIdeal.τ Cert.ScInBwdRefIdeal.sig) → Buf (Elt Ideal) ℓ) : Prop :=
  True

def Pre_ScInBwdRefIdeal_scin_finite [hPre_scin_finite : Cert.Pre_scin_finite.Facts] (m : (ℓ : Loc Cert.ScInBwdRefIdeal.nD Cert.ScInBwdRefIdeal.τ Cert.ScInBwdRefIdeal.sig) → Buf (Elt Ideal) ℓ) : Prop :=
  ∀ c : Dev Cert.ScInBwdRefIdeal.nD,
    (Cert.Pre_scin_finite.fn (F := Ideal) (m ((c.tc : Thread Cert.ScInBwdRefIdeal.nD Cert.ScInBwdRefIdeal.τ).loc Cert.ScInBwdRefIdeal.main_arg0)) (m ((c.tc : Thread Cert.ScInBwdRefIdeal.nD Cert.ScInBwdRefIdeal.τ).loc Cert.ScInBwdRefIdeal.main_arg1)) (m ((c.tc : Thread Cert.ScInBwdRefIdeal.nD Cert.ScInBwdRefIdeal.τ).loc Cert.ScInBwdRefIdeal.main_arg2)) (m ((c.tc : Thread Cert.ScInBwdRefIdeal.nD Cert.ScInBwdRefIdeal.τ).loc Cert.ScInBwdRefIdeal.main_arg3)) (m ((c.tc : Thread Cert.ScInBwdRefIdeal.nD Cert.ScInBwdRefIdeal.τ).loc Cert.ScInBwdRefIdeal.main_arg4)) (m ((c.tc : Thread Cert.ScInBwdRefIdeal.nD Cert.ScInBwdRefIdeal.τ).loc Cert.ScInBwdRefIdeal.main_arg5)) (m ((c.tc : Thread Cert.ScInBwdRefIdeal.nD Cert.ScInBwdRefIdeal.τ).loc Cert.ScInBwdRefIdeal.main_arg6))).1 = (fun _ => 1#1)
    ∧ (Cert.Pre_scin_finite.fn (F := Ideal) (m ((c.tc : Thread Cert.ScInBwdRefIdeal.nD Cert.ScInBwdRefIdeal.τ).loc Cert.ScInBwdRefIdeal.main_arg0)) (m ((c.tc : Thread Cert.ScInBwdRefIdeal.nD Cert.ScInBwdRefIdeal.τ).loc Cert.ScInBwdRefIdeal.main_arg1)) (m ((c.tc : Thread Cert.ScInBwdRefIdeal.nD Cert.ScInBwdRefIdeal.τ).loc Cert.ScInBwdRefIdeal.main_arg2)) (m ((c.tc : Thread Cert.ScInBwdRefIdeal.nD Cert.ScInBwdRefIdeal.τ).loc Cert.ScInBwdRefIdeal.main_arg3)) (m ((c.tc : Thread Cert.ScInBwdRefIdeal.nD Cert.ScInBwdRefIdeal.τ).loc Cert.ScInBwdRefIdeal.main_arg4)) (m ((c.tc : Thread Cert.ScInBwdRefIdeal.nD Cert.ScInBwdRefIdeal.τ).loc Cert.ScInBwdRefIdeal.main_arg5)) (m ((c.tc : Thread Cert.ScInBwdRefIdeal.nD Cert.ScInBwdRefIdeal.τ).loc Cert.ScInBwdRefIdeal.main_arg6))).2.1 = (fun _ => 1#1)
    ∧ (Cert.Pre_scin_finite.fn (F := Ideal) (m ((c.tc : Thread Cert.ScInBwdRefIdeal.nD Cert.ScInBwdRefIdeal.τ).loc Cert.ScInBwdRefIdeal.main_arg0)) (m ((c.tc : Thread Cert.ScInBwdRefIdeal.nD Cert.ScInBwdRefIdeal.τ).loc Cert.ScInBwdRefIdeal.main_arg1)) (m ((c.tc : Thread Cert.ScInBwdRefIdeal.nD Cert.ScInBwdRefIdeal.τ).loc Cert.ScInBwdRefIdeal.main_arg2)) (m ((c.tc : Thread Cert.ScInBwdRefIdeal.nD Cert.ScInBwdRefIdeal.τ).loc Cert.ScInBwdRefIdeal.main_arg3)) (m ((c.tc : Thread Cert.ScInBwdRefIdeal.nD Cert.ScInBwdRefIdeal.τ).loc Cert.ScInBwdRefIdeal.main_arg4)) (m ((c.tc : Thread Cert.ScInBwdRefIdeal.nD Cert.ScInBwdRefIdeal.τ).loc Cert.ScInBwdRefIdeal.main_arg5)) (m ((c.tc : Thread Cert.ScInBwdRefIdeal.nD Cert.ScInBwdRefIdeal.τ).loc Cert.ScInBwdRefIdeal.main_arg6))).2.2.1 = (fun _ => 1#1)
    ∧ (Cert.Pre_scin_finite.fn (F := Ideal) (m ((c.tc : Thread Cert.ScInBwdRefIdeal.nD Cert.ScInBwdRefIdeal.τ).loc Cert.ScInBwdRefIdeal.main_arg0)) (m ((c.tc : Thread Cert.ScInBwdRefIdeal.nD Cert.ScInBwdRefIdeal.τ).loc Cert.ScInBwdRefIdeal.main_arg1)) (m ((c.tc : Thread Cert.ScInBwdRefIdeal.nD Cert.ScInBwdRefIdeal.τ).loc Cert.ScInBwdRefIdeal.main_arg2)) (m ((c.tc : Thread Cert.ScInBwdRefIdeal.nD Cert.ScInBwdRefIdeal.τ).loc Cert.ScInBwdRefIdeal.main_arg3)) (m ((c.tc : Thread Cert.ScInBwdRefIdeal.nD Cert.ScInBwdRefIdeal.τ).loc Cert.ScInBwdRefIdeal.main_arg4)) (m ((c.tc : Thread Cert.ScInBwdRefIdeal.nD Cert.ScInBwdRefIdeal.τ).loc Cert.ScInBwdRefIdeal.main_arg5)) (m ((c.tc : Thread Cert.ScInBwdRefIdeal.nD Cert.ScInBwdRefIdeal.τ).loc Cert.ScInBwdRefIdeal.main_arg6))).2.2.2.1 = (fun _ => 1#1)
    ∧ (Cert.Pre_scin_finite.fn (F := Ideal) (m ((c.tc : Thread Cert.ScInBwdRefIdeal.nD Cert.ScInBwdRefIdeal.τ).loc Cert.ScInBwdRefIdeal.main_arg0)) (m ((c.tc : Thread Cert.ScInBwdRefIdeal.nD Cert.ScInBwdRefIdeal.τ).loc Cert.ScInBwdRefIdeal.main_arg1)) (m ((c.tc : Thread Cert.ScInBwdRefIdeal.nD Cert.ScInBwdRefIdeal.τ).loc Cert.ScInBwdRefIdeal.main_arg2)) (m ((c.tc : Thread Cert.ScInBwdRefIdeal.nD Cert.ScInBwdRefIdeal.τ).loc Cert.ScInBwdRefIdeal.main_arg3)) (m ((c.tc : Thread Cert.ScInBwdRefIdeal.nD Cert.ScInBwdRefIdeal.τ).loc Cert.ScInBwdRefIdeal.main_arg4)) (m ((c.tc : Thread Cert.ScInBwdRefIdeal.nD Cert.ScInBwdRefIdeal.τ).loc Cert.ScInBwdRefIdeal.main_arg5)) (m ((c.tc : Thread Cert.ScInBwdRefIdeal.nD Cert.ScInBwdRefIdeal.τ).loc Cert.ScInBwdRefIdeal.main_arg6))).2.2.2.2.1 = (fun _ => 1#1)
    ∧ (Cert.Pre_scin_finite.fn (F := Ideal) (m ((c.tc : Thread Cert.ScInBwdRefIdeal.nD Cert.ScInBwdRefIdeal.τ).loc Cert.ScInBwdRefIdeal.main_arg0)) (m ((c.tc : Thread Cert.ScInBwdRefIdeal.nD Cert.ScInBwdRefIdeal.τ).loc Cert.ScInBwdRefIdeal.main_arg1)) (m ((c.tc : Thread Cert.ScInBwdRefIdeal.nD Cert.ScInBwdRefIdeal.τ).loc Cert.ScInBwdRefIdeal.main_arg2)) (m ((c.tc : Thread Cert.ScInBwdRefIdeal.nD Cert.ScInBwdRefIdeal.τ).loc Cert.ScInBwdRefIdeal.main_arg3)) (m ((c.tc : Thread Cert.ScInBwdRefIdeal.nD Cert.ScInBwdRefIdeal.τ).loc Cert.ScInBwdRefIdeal.main_arg4)) (m ((c.tc : Thread Cert.ScInBwdRefIdeal.nD Cert.ScInBwdRefIdeal.τ).loc Cert.ScInBwdRefIdeal.main_arg5)) (m ((c.tc : Thread Cert.ScInBwdRefIdeal.nD Cert.ScInBwdRefIdeal.τ).loc Cert.ScInBwdRefIdeal.main_arg6))).2.2.2.2.2 = (fun _ => 1#1)

def Pre_Dw2Bwd (m : (ℓ : Loc Cert.Dw2Bwd.nD Cert.Dw2Bwd.τ Cert.Dw2Bwd.sig) → Buf (Elt Bits) ℓ) : Prop :=
  True

def Pre_Dw2BwdIdeal (m : (ℓ : Loc Cert.Dw2BwdIdeal.nD Cert.Dw2BwdIdeal.τ Cert.Dw2BwdIdeal.sig) → Buf (Elt Ideal) ℓ) : Prop :=
  True

def Pre_Dw2BwdRefIdeal (m : (ℓ : Loc Cert.Dw2BwdRefIdeal.nD Cert.Dw2BwdRefIdeal.τ Cert.Dw2BwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attn_fwd_finite [hPre_attn_fwd_finite : Cert.Pre_attn_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).1 = (fun _ => 1#1)
    ∧ (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attn_fwd_finite [hPre_attn_fwd_finite : Cert.Pre_attn_fwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).1 = (fun _ => 1#1)
    ∧ (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).2 = (fun _ => 1#1)

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_SwishFwd (m : (ℓ : Loc Cert.SwishFwd.nD Cert.SwishFwd.τ Cert.SwishFwd.sig) → Buf (Elt Bits) ℓ) : Prop :=
  True

def Pre_SwishFwdIdeal (m : (ℓ : Loc Cert.SwishFwdIdeal.nD Cert.SwishFwdIdeal.τ Cert.SwishFwdIdeal.sig) → Buf (Elt Ideal) ℓ) : Prop :=
  True

def Pre_SwishFwdRefIdeal (m : (ℓ : Loc Cert.SwishFwdRefIdeal.nD Cert.SwishFwdRefIdeal.τ Cert.SwishFwdRefIdeal.sig) → Buf (Elt Ideal) ℓ) : Prop :=
  True

def Pre_LatentsFwd (m : (ℓ : Loc Cert.LatentsFwd.nD Cert.LatentsFwd.τ Cert.LatentsFwd.sig) → Buf (Elt Bits) ℓ) : Prop :=
  True

def Pre_LatentsFwdIdeal (m : (ℓ : Loc Cert.LatentsFwdIdeal.nD Cert.LatentsFwdIdeal.τ Cert.LatentsFwdIdeal.sig) → Buf (Elt Ideal) ℓ) : Prop :=
  True

def Pre_LatentsFwdRefIdeal (m : (ℓ : Loc Cert.LatentsFwdRefIdeal.nD Cert.LatentsFwdRefIdeal.τ Cert.LatentsFwdRefIdeal.sig) → Buf (Elt Ideal) ℓ) : Prop :=
  True

def Pre_QueriesFwd (m : (ℓ : Loc Cert.QueriesFwd.nD Cert.QueriesFwd.τ Cert.QueriesFwd.sig) → Buf (Elt Bits) ℓ) : Prop :=
  True

def Pre_QueriesFwdIdeal (m : (ℓ : Loc Cert.QueriesFwdIdeal.nD Cert.QueriesFwdIdeal.τ Cert.QueriesFwdIdeal.sig) → Buf (Elt Ideal) ℓ) : Prop :=
  True

def Pre_QueriesFwdRefIdeal (m : (ℓ : Loc Cert.QueriesFwdRefIdeal.nD Cert.QueriesFwdRefIdeal.τ Cert.QueriesFwdRefIdeal.sig) → Buf (Elt Ideal) ℓ) : Prop :=
  True

def Pre_KeysFwd (m : (ℓ : Loc Cert.KeysFwd.nD Cert.KeysFwd.τ Cert.KeysFwd.sig) → Buf (Elt Bits) ℓ) : Prop :=
  True

def Pre_KeysFwdIdeal (m : (ℓ : Loc Cert.KeysFwdIdeal.nD Cert.KeysFwdIdeal.τ Cert.KeysFwdIdeal.sig) → Buf (Elt Ideal) ℓ) : Prop :=
  True

def Pre_KeysFwdRefIdeal (m : (ℓ : Loc Cert.KeysFwdRefIdeal.nD Cert.KeysFwdRefIdeal.τ Cert.KeysFwdRefIdeal.sig) → Buf (Elt Ideal) ℓ) : Prop :=
  True

def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_ToInBwd (m : (ℓ : Loc Cert.ToInBwd.nD Cert.ToInBwd.τ Cert.ToInBwd.sig) → Buf (Elt Bits) ℓ) : Prop :=
  True

def Pre_ToInBwdIdeal (m : (ℓ : Loc Cert.ToInBwdIdeal.nD Cert.ToInBwdIdeal.τ Cert.ToInBwdIdeal.sig) → Buf (Elt Ideal) ℓ) : Prop :=
  True

def Pre_ToInBwdRefIdeal (m : (ℓ : Loc Cert.ToInBwdRefIdeal.nD Cert.ToInBwdRefIdeal.τ Cert.ToInBwdRefIdeal.sig) → Buf (Elt Ideal) ℓ) : Prop :=
  True

def quiescent_ScBwd [hScBwd : Cert.ScBwd.Facts] : Prop :=
  ∀ (m : (ℓ : Loc Cert.ScBwd.nD Cert.ScBwd.τ Cert.ScBwd.sig) → Buf (Elt Bits) ℓ) (g : Dev Cert.ScBwd.nD → PrngReg), Pre_ScBwd m →
    θ_run (Cert.ScBwd.defs (F := Bits)) (onTc (τ := Cert.ScBwd.τ) (Cert.ScBwd.main (F := Bits))) ⟨m, fun _ => 0, g⟩ (fun r => (∀ c : Dev Cert.ScBwd.nD,
      r.2.mem ((c.tc : Thread Cert.ScBwd.nD Cert.ScBwd.τ).loc Cert.ScBwd.main_arg0) = m ((c.tc : Thread Cert.ScBwd.nD Cert.ScBwd.τ).loc Cert.ScBwd.main_arg0)
      ∧ r.2.mem ((c.tc : Thread Cert.ScBwd.nD Cert.ScBwd.τ).loc Cert.ScBwd.main_arg1) = m ((c.tc : Thread Cert.ScBwd.nD Cert.ScBwd.τ).loc Cert.ScBwd.main_arg1)
      ∧ r.2.mem ((c.tc : Thread Cert.ScBwd.nD Cert.ScBwd.τ).loc Cert.ScBwd.main_arg2) = m ((c.tc : Thread Cert.ScBwd.nD Cert.ScBwd.τ).loc Cert.ScBwd.main_arg2))
      ∧ r.2.sem = fun _ => 0)

def quiescent_ScBwdIdeal [hScBwdIdeal : Cert.ScBwdIdeal.Facts] : Prop :=
  ∀ (m : (ℓ : Loc Cert.ScBwdIdeal.nD Cert.ScBwdIdeal.τ Cert.ScBwdIdeal.sig) → Buf (Elt Ideal) ℓ) (g : Dev Cert.ScBwdIdeal.nD → PrngReg), Pre_ScBwdIdeal m →
    θ_run (Cert.ScBwdIdeal.defs (F := Ideal)) (onTc (τ := Cert.ScBwdIdeal.τ) (Cert.ScBwdIdeal.main (F := Ideal))) ⟨m, fun _ => 0, g⟩ (fun r => (∀ c : Dev Cert.ScBwdIdeal.nD,
      r.2.mem ((c.tc : Thread Cert.ScBwdIdeal.nD Cert.ScBwdIdeal.τ).loc Cert.ScBwdIdeal.main_arg0) = m ((c.tc : Thread Cert.ScBwdIdeal.nD Cert.ScBwdIdeal.τ).loc Cert.ScBwdIdeal.main_arg0)
      ∧ r.2.mem ((c.tc : Thread Cert.ScBwdIdeal.nD Cert.ScBwdIdeal.τ).loc Cert.ScBwdIdeal.main_arg1) = m ((c.tc : Thread Cert.ScBwdIdeal.nD Cert.ScBwdIdeal.τ).loc Cert.ScBwdIdeal.main_arg1)
      ∧ r.2.mem ((c.tc : Thread Cert.ScBwdIdeal.nD Cert.ScBwdIdeal.τ).loc Cert.ScBwdIdeal.main_arg2) = m ((c.tc : Thread Cert.ScBwdIdeal.nD Cert.ScBwdIdeal.τ).loc Cert.ScBwdIdeal.main_arg2))
      ∧ r.2.sem = fun _ => 0)

def quiescent_ScBwdRefIdeal [hScBwdRefIdeal : Cert.ScBwdRefIdeal.Facts] : Prop :=
  ∀ (m : (ℓ : Loc Cert.ScBwdRefIdeal.nD Cert.ScBwdRefIdeal.τ Cert.ScBwdRefIdeal.sig) → Buf (Elt Ideal) ℓ) (g : Dev Cert.ScBwdRefIdeal.nD → PrngReg), Pre_ScBwdRefIdeal m →
    θ_run (Cert.ScBwdRefIdeal.defs (F := Ideal)) (onTc (τ := Cert.ScBwdRefIdeal.τ) (Cert.ScBwdRefIdeal.main (F := Ideal))) ⟨m, fun _ => 0, g⟩ (fun r => (∀ c : Dev Cert.ScBwdRefIdeal.nD,
      r.2.mem ((c.tc : Thread Cert.ScBwdRefIdeal.nD Cert.ScBwdRefIdeal.τ).loc Cert.ScBwdRefIdeal.main_arg0) = m ((c.tc : Thread Cert.ScBwdRefIdeal.nD Cert.ScBwdRefIdeal.τ).loc Cert.ScBwdRefIdeal.main_arg0)
      ∧ r.2.mem ((c.tc : Thread Cert.ScBwdRefIdeal.nD Cert.ScBwdRefIdeal.τ).loc Cert.ScBwdRefIdeal.main_arg1) = m ((c.tc : Thread Cert.ScBwdRefIdeal.nD Cert.ScBwdRefIdeal.τ).loc Cert.ScBwdRefIdeal.main_arg1)
      ∧ r.2.mem ((c.tc : Thread Cert.ScBwdRefIdeal.nD Cert.ScBwdRefIdeal.τ).loc Cert.ScBwdRefIdeal.main_arg2) = m ((c.tc : Thread Cert.ScBwdRefIdeal.nD Cert.ScBwdRefIdeal.τ).loc Cert.ScBwdRefIdeal.main_arg2))
      ∧ r.2.sem = fun _ => 0)

def quiescent_UnropeBwd [hUnropeBwd : Cert.UnropeBwd.Facts] : Prop :=
  ∀ (m : (ℓ : Loc Cert.UnropeBwd.nD Cert.UnropeBwd.τ Cert.UnropeBwd.sig) → Buf (Elt Bits) ℓ) (g : Dev Cert.UnropeBwd.nD → PrngReg), Pre_UnropeBwd m →
    θ_run (Cert.UnropeBwd.defs (F := Bits)) (onTc (τ := Cert.UnropeBwd.τ) (Cert.UnropeBwd.main (F := Bits))) ⟨m, fun _ => 0, g⟩ (fun r => (∀ c : Dev Cert.UnropeBwd.nD,
      r.2.mem ((c.tc : Thread Cert.UnropeBwd.nD Cert.UnropeBwd.τ).loc Cert.UnropeBwd.main_arg0) = m ((c.tc : Thread Cert.UnropeBwd.nD Cert.UnropeBwd.τ).loc Cert.UnropeBwd.main_arg0)
      ∧ r.2.mem ((c.tc : Thread Cert.UnropeBwd.nD Cert.UnropeBwd.τ).loc Cert.UnropeBwd.main_arg1) = m ((c.tc : Thread Cert.UnropeBwd.nD Cert.UnropeBwd.τ).loc Cert.UnropeBwd.main_arg1))
      ∧ r.2.sem = fun _ => 0)

def quiescent_UnropeBwdIdeal [hUnropeBwdIdeal : Cert.UnropeBwdIdeal.Facts] : Prop :=
  ∀ (m : (ℓ : Loc Cert.UnropeBwdIdeal.nD Cert.UnropeBwdIdeal.τ Cert.UnropeBwdIdeal.sig) → Buf (Elt Ideal) ℓ) (g : Dev Cert.UnropeBwdIdeal.nD → PrngReg), Pre_UnropeBwdIdeal m →
    θ_run (Cert.UnropeBwdIdeal.defs (F := Ideal)) (onTc (τ := Cert.UnropeBwdIdeal.τ) (Cert.UnropeBwdIdeal.main (F := Ideal))) ⟨m, fun _ => 0, g⟩ (fun r => (∀ c : Dev Cert.UnropeBwdIdeal.nD,
      r.2.mem ((c.tc : Thread Cert.UnropeBwdIdeal.nD Cert.UnropeBwdIdeal.τ).loc Cert.UnropeBwdIdeal.main_arg0) = m ((c.tc : Thread Cert.UnropeBwdIdeal.nD Cert.UnropeBwdIdeal.τ).loc Cert.UnropeBwdIdeal.main_arg0)
      ∧ r.2.mem ((c.tc : Thread Cert.UnropeBwdIdeal.nD Cert.UnropeBwdIdeal.τ).loc Cert.UnropeBwdIdeal.main_arg1) = m ((c.tc : Thread Cert.UnropeBwdIdeal.nD Cert.UnropeBwdIdeal.τ).loc Cert.UnropeBwdIdeal.main_arg1))
      ∧ r.2.sem = fun _ => 0)

def quiescent_UnropeBwdRefIdeal [hUnropeBwdRefIdeal : Cert.UnropeBwdRefIdeal.Facts] : Prop :=
  ∀ (m : (ℓ : Loc Cert.UnropeBwdRefIdeal.nD Cert.UnropeBwdRefIdeal.τ Cert.UnropeBwdRefIdeal.sig) → Buf (Elt Ideal) ℓ) (g : Dev Cert.UnropeBwdRefIdeal.nD → PrngReg), Pre_UnropeBwdRefIdeal m →
    θ_run (Cert.UnropeBwdRefIdeal.defs (F := Ideal)) (onTc (τ := Cert.UnropeBwdRefIdeal.τ) (Cert.UnropeBwdRefIdeal.main (F := Ideal))) ⟨m, fun _ => 0, g⟩ (fun r => (∀ c : Dev Cert.UnropeBwdRefIdeal.nD,
      r.2.mem ((c.tc : Thread Cert.UnropeBwdRefIdeal.nD Cert.UnropeBwdRefIdeal.τ).loc Cert.UnropeBwdRefIdeal.main_arg0) = m ((c.tc : Thread Cert.UnropeBwdRefIdeal.nD Cert.UnropeBwdRefIdeal.τ).loc Cert.UnropeBwdRefIdeal.main_arg0)
      ∧ r.2.mem ((c.tc : Thread Cert.UnropeBwdRefIdeal.nD Cert.UnropeBwdRefIdeal.τ).loc Cert.UnropeBwdRefIdeal.main_arg1) = m ((c.tc : Thread Cert.UnropeBwdRefIdeal.nD Cert.UnropeBwdRefIdeal.τ).loc Cert.UnropeBwdRefIdeal.main_arg1))
      ∧ r.2.sem = fun _ => 0)

def quiescent_DownBwd [hDownBwd : Cert.DownBwd.Facts] : Prop :=
  ∀ (m : (ℓ : Loc Cert.DownBwd.nD Cert.DownBwd.τ Cert.DownBwd.sig) → Buf (Elt Bits) ℓ) (g : Dev Cert.DownBwd.nD → PrngReg), Pre_DownBwd m →
    θ_run (Cert.DownBwd.defs (F := Bits)) (onTc (τ := Cert.DownBwd.τ) (Cert.DownBwd.main (F := Bits))) ⟨m, fun _ => 0, g⟩ (fun r => (∀ c : Dev Cert.DownBwd.nD,
      r.2.mem ((c.tc : Thread Cert.DownBwd.nD Cert.DownBwd.τ).loc Cert.DownBwd.main_arg0) = m ((c.tc : Thread Cert.DownBwd.nD Cert.DownBwd.τ).loc Cert.DownBwd.main_arg0)
      ∧ r.2.mem ((c.tc : Thread Cert.DownBwd.nD Cert.DownBwd.τ).loc Cert.DownBwd.main_arg1) = m ((c.tc : Thread Cert.DownBwd.nD Cert.DownBwd.τ).loc Cert.DownBwd.main_arg1)
      ∧ r.2.mem ((c.tc : Thread Cert.DownBwd.nD Cert.DownBwd.τ).loc Cert.DownBwd.main_arg2) = m ((c.tc : Thread Cert.DownBwd.nD Cert.DownBwd.τ).loc Cert.DownBwd.main_arg2))
      ∧ r.2.sem = fun _ => 0)

def quiescent_DownBwdIdeal [hDownBwdIdeal : Cert.DownBwdIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
      ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2))
      ∧ r.2.sem = fun _ => 0)

def quiescent_DownBwdRefIdeal [hDownBwdRefIdeal : Cert.DownBwdRefIdeal.Facts] : Prop :=
  ∀ (m : (ℓ : Loc Cert.DownBwdRefIdeal.nD Cert.DownBwdRefIdeal.τ Cert.DownBwdRefIdeal.sig) → Buf (Elt Ideal) ℓ) (g : Dev Cert.DownBwdRefIdeal.nD → PrngReg), Pre_DownBwdRefIdeal m →
    θ_run (Cert.DownBwdRefIdeal.defs (F := Ideal)) (onTc (τ := Cert.DownBwdRefIdeal.τ) (Cert.DownBwdRefIdeal.main (F := Ideal))) ⟨m, fun _ => 0, g⟩ (fun r => (∀ c : Dev Cert.DownBwdRefIdeal.nD,
      r.2.mem ((c.tc : Thread Cert.DownBwdRefIdeal.nD Cert.DownBwdRefIdeal.τ).loc Cert.DownBwdRefIdeal.main_arg0) = m ((c.tc : Thread Cert.DownBwdRefIdeal.nD Cert.DownBwdRefIdeal.τ).loc Cert.DownBwdRefIdeal.main_arg0)
      ∧ r.2.mem ((c.tc : Thread Cert.DownBwdRefIdeal.nD Cert.DownBwdRefIdeal.τ).loc Cert.DownBwdRefIdeal.main_arg1) = m ((c.tc : Thread Cert.DownBwdRefIdeal.nD Cert.DownBwdRefIdeal.τ).loc Cert.DownBwdRefIdeal.main_arg1)
      ∧ r.2.mem ((c.tc : Thread Cert.DownBwdRefIdeal.nD Cert.DownBwdRefIdeal.τ).loc Cert.DownBwdRefIdeal.main_arg2) = m ((c.tc : Thread Cert.DownBwdRefIdeal.nD Cert.DownBwdRefIdeal.τ).loc Cert.DownBwdRefIdeal.main_arg2))
      ∧ r.2.sem = fun _ => 0)

def quiescent_SwishBwd [hSwishBwd : Cert.SwishBwd.Facts] : Prop :=
  ∀ (m : (ℓ : Loc Cert.SwishBwd.nD Cert.SwishBwd.τ Cert.SwishBwd.sig) → Buf (Elt Bits) ℓ) (g : Dev Cert.SwishBwd.nD → PrngReg), Pre_SwishBwd m →
    θ_run (Cert.SwishBwd.defs (F := Bits)) (onTc (τ := Cert.SwishBwd.τ) (Cert.SwishBwd.main (F := Bits))) ⟨m, fun _ => 0, g⟩ (fun r => (∀ c : Dev Cert.SwishBwd.nD,
      r.2.mem ((c.tc : Thread Cert.SwishBwd.nD Cert.SwishBwd.τ).loc Cert.SwishBwd.main_arg0) = m ((c.tc : Thread Cert.SwishBwd.nD Cert.SwishBwd.τ).loc Cert.SwishBwd.main_arg0)
      ∧ r.2.mem ((c.tc : Thread Cert.SwishBwd.nD Cert.SwishBwd.τ).loc Cert.SwishBwd.main_arg1) = m ((c.tc : Thread Cert.SwishBwd.nD Cert.SwishBwd.τ).loc Cert.SwishBwd.main_arg1)
      ∧ r.2.mem ((c.tc : Thread Cert.SwishBwd.nD Cert.SwishBwd.τ).loc Cert.SwishBwd.main_arg2) = m ((c.tc : Thread Cert.SwishBwd.nD Cert.SwishBwd.τ).loc Cert.SwishBwd.main_arg2)
      ∧ r.2.mem ((c.tc : Thread Cert.SwishBwd.nD Cert.SwishBwd.τ).loc Cert.SwishBwd.main_arg3) = m ((c.tc : Thread Cert.SwishBwd.nD Cert.SwishBwd.τ).loc Cert.SwishBwd.main_arg3))
      ∧ r.2.sem = fun _ => 0)

def quiescent_SwishBwdIdeal [hSwishBwdIdeal : Cert.SwishBwdIdeal.Facts] : Prop :=
  ∀ (m : (ℓ : Loc Cert.SwishBwdIdeal.nD Cert.SwishBwdIdeal.τ Cert.SwishBwdIdeal.sig) → Buf (Elt Ideal) ℓ) (g : Dev Cert.SwishBwdIdeal.nD → PrngReg), Pre_SwishBwdIdeal m →
    θ_run (Cert.SwishBwdIdeal.defs (F := Ideal)) (onTc (τ := Cert.SwishBwdIdeal.τ) (Cert.SwishBwdIdeal.main (F := Ideal))) ⟨m, fun _ => 0, g⟩ (fun r => (∀ c : Dev Cert.SwishBwdIdeal.nD,
      r.2.mem ((c.tc : Thread Cert.SwishBwdIdeal.nD Cert.SwishBwdIdeal.τ).loc Cert.SwishBwdIdeal.main_arg0) = m ((c.tc : Thread Cert.SwishBwdIdeal.nD Cert.SwishBwdIdeal.τ).loc Cert.SwishBwdIdeal.main_arg0)
      ∧ r.2.mem ((c.tc : Thread Cert.SwishBwdIdeal.nD Cert.SwishBwdIdeal.τ).loc Cert.SwishBwdIdeal.main_arg1) = m ((c.tc : Thread Cert.SwishBwdIdeal.nD Cert.SwishBwdIdeal.τ).loc Cert.SwishBwdIdeal.main_arg1)
      ∧ r.2.mem ((c.tc : Thread Cert.SwishBwdIdeal.nD Cert.SwishBwdIdeal.τ).loc Cert.SwishBwdIdeal.main_arg2) = m ((c.tc : Thread Cert.SwishBwdIdeal.nD Cert.SwishBwdIdeal.τ).loc Cert.SwishBwdIdeal.main_arg2)
      ∧ r.2.mem ((c.tc : Thread Cert.SwishBwdIdeal.nD Cert.SwishBwdIdeal.τ).loc Cert.SwishBwdIdeal.main_arg3) = m ((c.tc : Thread Cert.SwishBwdIdeal.nD Cert.SwishBwdIdeal.τ).loc Cert.SwishBwdIdeal.main_arg3))
      ∧ r.2.sem = fun _ => 0)

def quiescent_SwishBwdIdeal_pre_swish_finite [hSwishBwdIdeal : Cert.SwishBwdIdeal.Facts] [hPre_swish_finite : Cert.Pre_swish_finite.Facts] : Prop :=
  ∀ (m : (ℓ : Loc Cert.SwishBwdIdeal.nD Cert.SwishBwdIdeal.τ Cert.SwishBwdIdeal.sig) → Buf (Elt Ideal) ℓ) (g : Dev Cert.SwishBwdIdeal.nD → PrngReg), Pre_SwishBwdIdeal_swish_finite m →
    θ_run (Cert.SwishBwdIdeal.defs (F := Ideal)) (onTc (τ := Cert.SwishBwdIdeal.τ) (Cert.SwishBwdIdeal.main (F := Ideal))) ⟨m, fun _ => 0, g⟩ (fun r => (∀ c : Dev Cert.SwishBwdIdeal.nD,
      r.2.mem ((c.tc : Thread Cert.SwishBwdIdeal.nD Cert.SwishBwdIdeal.τ).loc Cert.SwishBwdIdeal.main_arg0) = m ((c.tc : Thread Cert.SwishBwdIdeal.nD Cert.SwishBwdIdeal.τ).loc Cert.SwishBwdIdeal.main_arg0)
      ∧ r.2.mem ((c.tc : Thread Cert.SwishBwdIdeal.nD Cert.SwishBwdIdeal.τ).loc Cert.SwishBwdIdeal.main_arg1) = m ((c.tc : Thread Cert.SwishBwdIdeal.nD Cert.SwishBwdIdeal.τ).loc Cert.SwishBwdIdeal.main_arg1)
      ∧ r.2.mem ((c.tc : Thread Cert.SwishBwdIdeal.nD Cert.SwishBwdIdeal.τ).loc Cert.SwishBwdIdeal.main_arg2) = m ((c.tc : Thread Cert.SwishBwdIdeal.nD Cert.SwishBwdIdeal.τ).loc Cert.SwishBwdIdeal.main_arg2)
      ∧ r.2.mem ((c.tc : Thread Cert.SwishBwdIdeal.nD Cert.SwishBwdIdeal.τ).loc Cert.SwishBwdIdeal.main_arg3) = m ((c.tc : Thread Cert.SwishBwdIdeal.nD Cert.SwishBwdIdeal.τ).loc Cert.SwishBwdIdeal.main_arg3))
      ∧ r.2.sem = fun _ => 0)

def quiescent_SwishBwdRefIdeal [hSwishBwdRefIdeal : Cert.SwishBwdRefIdeal.Facts] : Prop :=
  ∀ (m : (ℓ : Loc Cert.SwishBwdRefIdeal.nD Cert.SwishBwdRefIdeal.τ Cert.SwishBwdRefIdeal.sig) → Buf (Elt Ideal) ℓ) (g : Dev Cert.SwishBwdRefIdeal.nD → PrngReg), Pre_SwishBwdRefIdeal m →
    θ_run (Cert.SwishBwdRefIdeal.defs (F := Ideal)) (onTc (τ := Cert.SwishBwdRefIdeal.τ) (Cert.SwishBwdRefIdeal.main (F := Ideal))) ⟨m, fun _ => 0, g⟩ (fun r => (∀ c : Dev Cert.SwishBwdRefIdeal.nD,
      r.2.mem ((c.tc : Thread Cert.SwishBwdRefIdeal.nD Cert.SwishBwdRefIdeal.τ).loc Cert.SwishBwdRefIdeal.main_arg0) = m ((c.tc : Thread Cert.SwishBwdRefIdeal.nD Cert.SwishBwdRefIdeal.τ).loc Cert.SwishBwdRefIdeal.main_arg0)
      ∧ r.2.mem ((c.tc : Thread Cert.SwishBwdRefIdeal.nD Cert.SwishBwdRefIdeal.τ).loc Cert.SwishBwdRefIdeal.main_arg1) = m ((c.tc : Thread Cert.SwishBwdRefIdeal.nD Cert.SwishBwdRefIdeal.τ).loc Cert.SwishBwdRefIdeal.main_arg1)
      ∧ r.2.mem ((c.tc : Thread Cert.SwishBwdRefIdeal.nD Cert.SwishBwdRefIdeal.τ).loc Cert.SwishBwdRefIdeal.main_arg2) = m ((c.tc : Thread Cert.SwishBwdRefIdeal.nD Cert.SwishBwdRefIdeal.τ).loc Cert.SwishBwdRefIdeal.main_arg2)
      ∧ r.2.mem ((c.tc : Thread Cert.SwishBwdRefIdeal.nD Cert.SwishBwdRefIdeal.τ).loc Cert.SwishBwdRefIdeal.main_arg3) = m ((c.tc : Thread Cert.SwishBwdRefIdeal.nD Cert.SwishBwdRefIdeal.τ).loc Cert.SwishBwdRefIdeal.main_arg3))
      ∧ r.2.sem = fun _ => 0)

def quiescent_SwishBwdRefIdeal_pre_swish_finite [hSwishBwdRefIdeal : Cert.SwishBwdRefIdeal.Facts] [hPre_swish_finite : Cert.Pre_swish_finite.Facts] : Prop :=
  ∀ (m : (ℓ : Loc Cert.SwishBwdRefIdeal.nD Cert.SwishBwdRefIdeal.τ Cert.SwishBwdRefIdeal.sig) → Buf (Elt Ideal) ℓ) (g : Dev Cert.SwishBwdRefIdeal.nD → PrngReg), Pre_SwishBwdRefIdeal_swish_finite m →
    θ_run (Cert.SwishBwdRefIdeal.defs (F := Ideal)) (onTc (τ := Cert.SwishBwdRefIdeal.τ) (Cert.SwishBwdRefIdeal.main (F := Ideal))) ⟨m, fun _ => 0, g⟩ (fun r => (∀ c : Dev Cert.SwishBwdRefIdeal.nD,
      r.2.mem ((c.tc : Thread Cert.SwishBwdRefIdeal.nD Cert.SwishBwdRefIdeal.τ).loc Cert.SwishBwdRefIdeal.main_arg0) = m ((c.tc : Thread Cert.SwishBwdRefIdeal.nD Cert.SwishBwdRefIdeal.τ).loc Cert.SwishBwdRefIdeal.main_arg0)
      ∧ r.2.mem ((c.tc : Thread Cert.SwishBwdRefIdeal.nD Cert.SwishBwdRefIdeal.τ).loc Cert.SwishBwdRefIdeal.main_arg1) = m ((c.tc : Thread Cert.SwishBwdRefIdeal.nD Cert.SwishBwdRefIdeal.τ).loc Cert.SwishBwdRefIdeal.main_arg1)
      ∧ r.2.mem ((c.tc : Thread Cert.SwishBwdRefIdeal.nD Cert.SwishBwdRefIdeal.τ).loc Cert.SwishBwdRefIdeal.main_arg2) = m ((c.tc : Thread Cert.SwishBwdRefIdeal.nD Cert.SwishBwdRefIdeal.τ).loc Cert.SwishBwdRefIdeal.main_arg2)
      ∧ r.2.mem ((c.tc : Thread Cert.SwishBwdRefIdeal.nD Cert.SwishBwdRefIdeal.τ).loc Cert.SwishBwdRefIdeal.main_arg3) = m ((c.tc : Thread Cert.SwishBwdRefIdeal.nD Cert.SwishBwdRefIdeal.τ).loc Cert.SwishBwdRefIdeal.main_arg3))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2)
      ∧ r.2.mem ((c.tc : Thread Cert.LossBwd.nD Cert.LossBwd.τ).loc Cert.LossBwd.main_arg3) = m ((c.tc : Thread Cert.LossBwd.nD Cert.LossBwd.τ).loc Cert.LossBwd.main_arg3))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3))
      ∧ r.2.sem = fun _ => 0)

def quiescent_LossBwdIdeal_pre_loss_finite [hLossBwdIdeal : Cert.LossBwdIdeal.Facts] [hPre_loss_finite : Cert.Pre_loss_finite.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal_loss_finite m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3))
      ∧ r.2.sem = fun _ => 0)

def quiescent_LossBwdRefIdeal [hLossBwdRefIdeal : Cert.LossBwdRefIdeal.Facts] : Prop :=
  ∀ (m : (ℓ : Loc Cert.LossBwdRefIdeal.nD Cert.LossBwdRefIdeal.τ Cert.LossBwdRefIdeal.sig) → Buf (Elt Ideal) ℓ) (g : Dev Cert.LossBwdRefIdeal.nD → PrngReg), Pre_LossBwdRefIdeal m →
    θ_run (Cert.LossBwdRefIdeal.defs (F := Ideal)) (onTc (τ := Cert.LossBwdRefIdeal.τ) (Cert.LossBwdRefIdeal.main (F := Ideal))) ⟨m, fun _ => 0, g⟩ (fun r => (∀ c : Dev Cert.LossBwdRefIdeal.nD,
      r.2.mem ((c.tc : Thread Cert.LossBwdRefIdeal.nD Cert.LossBwdRefIdeal.τ).loc Cert.LossBwdRefIdeal.main_arg0) = m ((c.tc : Thread Cert.LossBwdRefIdeal.nD Cert.LossBwdRefIdeal.τ).loc Cert.LossBwdRefIdeal.main_arg0)
      ∧ r.2.mem ((c.tc : Thread Cert.LossBwdRefIdeal.nD Cert.LossBwdRefIdeal.τ).loc Cert.LossBwdRefIdeal.main_arg1) = m ((c.tc : Thread Cert.LossBwdRefIdeal.nD Cert.LossBwdRefIdeal.τ).loc Cert.LossBwdRefIdeal.main_arg1)
      ∧ r.2.mem ((c.tc : Thread Cert.LossBwdRefIdeal.nD Cert.LossBwdRefIdeal.τ).loc Cert.LossBwdRefIdeal.main_arg2) = m ((c.tc : Thread Cert.LossBwdRefIdeal.nD Cert.LossBwdRefIdeal.τ).loc Cert.LossBwdRefIdeal.main_arg2)
      ∧ r.2.mem ((c.tc : Thread Cert.LossBwdRefIdeal.nD Cert.LossBwdRefIdeal.τ).loc Cert.LossBwdRefIdeal.main_arg3) = m ((c.tc : Thread Cert.LossBwdRefIdeal.nD Cert.LossBwdRefIdeal.τ).loc Cert.LossBwdRefIdeal.main_arg3))
      ∧ r.2.sem = fun _ => 0)

def quiescent_LossBwdRefIdeal_pre_loss_finite [hLossBwdRefIdeal : Cert.LossBwdRefIdeal.Facts] [hPre_loss_finite : Cert.Pre_loss_finite.Facts] : Prop :=
  ∀ (m : (ℓ : Loc Cert.LossBwdRefIdeal.nD Cert.LossBwdRefIdeal.τ Cert.LossBwdRefIdeal.sig) → Buf (Elt Ideal) ℓ) (g : Dev Cert.LossBwdRefIdeal.nD → PrngReg), Pre_LossBwdRefIdeal_loss_finite m →
    θ_run (Cert.LossBwdRefIdeal.defs (F := Ideal)) (onTc (τ := Cert.LossBwdRefIdeal.τ) (Cert.LossBwdRefIdeal.main (F := Ideal))) ⟨m, fun _ => 0, g⟩ (fun r => (∀ c : Dev Cert.LossBwdRefIdeal.nD,
      r.2.mem ((c.tc : Thread Cert.LossBwdRefIdeal.nD Cert.LossBwdRefIdeal.τ).loc Cert.LossBwdRefIdeal.main_arg0) = m ((c.tc : Thread Cert.LossBwdRefIdeal.nD Cert.LossBwdRefIdeal.τ).loc Cert.LossBwdRefIdeal.main_arg0)
      ∧ r.2.mem ((c.tc : Thread Cert.LossBwdRefIdeal.nD Cert.LossBwdRefIdeal.τ).loc Cert.LossBwdRefIdeal.main_arg1) = m ((c.tc : Thread Cert.LossBwdRefIdeal.nD Cert.LossBwdRefIdeal.τ).loc Cert.LossBwdRefIdeal.main_arg1)
      ∧ r.2.mem ((c.tc : Thread Cert.LossBwdRefIdeal.nD Cert.LossBwdRefIdeal.τ).loc Cert.LossBwdRefIdeal.main_arg2) = m ((c.tc : Thread Cert.LossBwdRefIdeal.nD Cert.LossBwdRefIdeal.τ).loc Cert.LossBwdRefIdeal.main_arg2)
      ∧ r.2.mem ((c.tc : Thread Cert.LossBwdRefIdeal.nD Cert.LossBwdRefIdeal.τ).loc Cert.LossBwdRefIdeal.main_arg3) = m ((c.tc : Thread Cert.LossBwdRefIdeal.nD Cert.LossBwdRefIdeal.τ).loc Cert.LossBwdRefIdeal.main_arg3))
      ∧ r.2.sem = fun _ => 0)

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1)
      ∧ r.2.mem ((c.tc : Thread Cert.UpBwd.nD Cert.UpBwd.τ).loc Cert.UpBwd.main_arg2) = m ((c.tc : Thread Cert.UpBwd.nD Cert.UpBwd.τ).loc Cert.UpBwd.main_arg2)
      ∧ r.2.mem ((c.tc : Thread Cert.UpBwd.nD Cert.UpBwd.τ).loc Cert.UpBwd.main_arg3) = m ((c.tc : Thread Cert.UpBwd.nD Cert.UpBwd.τ).loc Cert.UpBwd.main_arg3)
      ∧ r.2.mem ((c.tc : Thread Cert.UpBwd.nD Cert.UpBwd.τ).loc Cert.UpBwd.main_arg4) = m ((c.tc : Thread Cert.UpBwd.nD Cert.UpBwd.τ).loc Cert.UpBwd.main_arg4)
      ∧ r.2.mem ((c.tc : Thread Cert.UpBwd.nD Cert.UpBwd.τ).loc Cert.UpBwd.main_arg5) = m ((c.tc : Thread Cert.UpBwd.nD Cert.UpBwd.τ).loc Cert.UpBwd.main_arg5)
      ∧ r.2.mem ((c.tc : Thread Cert.UpBwd.nD Cert.UpBwd.τ).loc Cert.UpBwd.main_arg6) = m ((c.tc : Thread Cert.UpBwd.nD Cert.UpBwd.τ).loc Cert.UpBwd.main_arg6))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
      ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5)
      ∧ r.2.mem ((c.tc : Thread Cert.UpBwdIdeal.nD Cert.UpBwdIdeal.τ).loc Cert.UpBwdIdeal.main_arg6) = m ((c.tc : Thread Cert.UpBwdIdeal.nD Cert.UpBwdIdeal.τ).loc Cert.UpBwdIdeal.main_arg6))
      ∧ r.2.sem = fun _ => 0)

def quiescent_UpBwdIdeal_pre_up_finite [hUpBwdIdeal : Cert.UpBwdIdeal.Facts] [hPre_up_finite : Cert.Pre_up_finite.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal_up_finite m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
      ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5)
      ∧ r.2.mem ((c.tc : Thread Cert.UpBwdIdeal.nD Cert.UpBwdIdeal.τ).loc Cert.UpBwdIdeal.main_arg6) = m ((c.tc : Thread Cert.UpBwdIdeal.nD Cert.UpBwdIdeal.τ).loc Cert.UpBwdIdeal.main_arg6))
      ∧ r.2.sem = fun _ => 0)

def quiescent_UpBwdRefIdeal [hUpBwdRefIdeal : Cert.UpBwdRefIdeal.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1)
      ∧ r.2.mem ((c.tc : Thread Cert.UpBwdRefIdeal.nD Cert.UpBwdRefIdeal.τ).loc Cert.UpBwdRefIdeal.main_arg2) = m ((c.tc : Thread Cert.UpBwdRefIdeal.nD Cert.UpBwdRefIdeal.τ).loc Cert.UpBwdRefIdeal.main_arg2)
      ∧ r.2.mem ((c.tc : Thread Cert.UpBwdRefIdeal.nD Cert.UpBwdRefIdeal.τ).loc Cert.UpBwdRefIdeal.main_arg3) = m ((c.tc : Thread Cert.UpBwdRefIdeal.nD Cert.UpBwdRefIdeal.τ).loc Cert.UpBwdRefIdeal.main_arg3)
      ∧ r.2.mem ((c.tc : Thread Cert.UpBwdRefIdeal.nD Cert.UpBwdRefIdeal.τ).loc Cert.UpBwdRefIdeal.main_arg4) = m ((c.tc : Thread Cert.UpBwdRefIdeal.nD Cert.UpBwdRefIdeal.τ).loc Cert.UpBwdRefIdeal.main_arg4)
      ∧ r.2.mem ((c.tc : Thread Cert.UpBwdRefIdeal.nD Cert.UpBwdRefIdeal.τ).loc Cert.UpBwdRefIdeal.main_arg5) = m ((c.tc : Thread Cert.UpBwdRefIdeal.nD Cert.UpBwdRefIdeal.τ).loc Cert.UpBwdRefIdeal.main_arg5)
      ∧ r.2.mem ((c.tc : Thread Cert.UpBwdRefIdeal.nD Cert.UpBwdRefIdeal.τ).loc Cert.UpBwdRefIdeal.main_arg6) = m ((c.tc : Thread Cert.UpBwdRefIdeal.nD Cert.UpBwdRefIdeal.τ).loc Cert.UpBwdRefIdeal.main_arg6))
      ∧ r.2.sem = fun _ => 0)

def quiescent_UpBwdRefIdeal_pre_up_finite [hUpBwdRefIdeal : Cert.UpBwdRefIdeal.Facts] [hPre_up_finite : Cert.Pre_up_finite.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal_up_finite m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1)
      ∧ r.2.mem ((c.tc : Thread Cert.UpBwdRefIdeal.nD Cert.UpBwdRefIdeal.τ).loc Cert.UpBwdRefIdeal.main_arg2) = m ((c.tc : Thread Cert.UpBwdRefIdeal.nD Cert.UpBwdRefIdeal.τ).loc Cert.UpBwdRefIdeal.main_arg2)
      ∧ r.2.mem ((c.tc : Thread Cert.UpBwdRefIdeal.nD Cert.UpBwdRefIdeal.τ).loc Cert.UpBwdRefIdeal.main_arg3) = m ((c.tc : Thread Cert.UpBwdRefIdeal.nD Cert.UpBwdRefIdeal.τ).loc Cert.UpBwdRefIdeal.main_arg3)
      ∧ r.2.mem ((c.tc : Thread Cert.UpBwdRefIdeal.nD Cert.UpBwdRefIdeal.τ).loc Cert.UpBwdRefIdeal.main_arg4) = m ((c.tc : Thread Cert.UpBwdRefIdeal.nD Cert.UpBwdRefIdeal.τ).loc Cert.UpBwdRefIdeal.main_arg4)
      ∧ r.2.mem ((c.tc : Thread Cert.UpBwdRefIdeal.nD Cert.UpBwdRefIdeal.τ).loc Cert.UpBwdRefIdeal.main_arg5) = m ((c.tc : Thread Cert.UpBwdRefIdeal.nD Cert.UpBwdRefIdeal.τ).loc Cert.UpBwdRefIdeal.main_arg5)
      ∧ r.2.mem ((c.tc : Thread Cert.UpBwdRefIdeal.nD Cert.UpBwdRefIdeal.τ).loc Cert.UpBwdRefIdeal.main_arg6) = m ((c.tc : Thread Cert.UpBwdRefIdeal.nD Cert.UpBwdRefIdeal.τ).loc Cert.UpBwdRefIdeal.main_arg6))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_AttnBwdRefIdeal_pre_attn_finite [hAttnBwdRefIdeal : Cert.AttnBwdRefIdeal.Facts] [hPre_attn_finite : Cert.Pre_attn_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attn_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_LatentsBwd [hLatentsBwd : Cert.LatentsBwd.Facts] : Prop :=
  ∀ (m : (ℓ : Loc Cert.LatentsBwd.nD Cert.LatentsBwd.τ Cert.LatentsBwd.sig) → Buf (Elt Bits) ℓ) (g : Dev Cert.LatentsBwd.nD → PrngReg), Pre_LatentsBwd m →
    θ_run (Cert.LatentsBwd.defs (F := Bits)) (onTc (τ := Cert.LatentsBwd.τ) (Cert.LatentsBwd.main (F := Bits))) ⟨m, fun _ => 0, g⟩ (fun r => (∀ c : Dev Cert.LatentsBwd.nD,
      r.2.mem ((c.tc : Thread Cert.LatentsBwd.nD Cert.LatentsBwd.τ).loc Cert.LatentsBwd.main_arg0) = m ((c.tc : Thread Cert.LatentsBwd.nD Cert.LatentsBwd.τ).loc Cert.LatentsBwd.main_arg0)
      ∧ r.2.mem ((c.tc : Thread Cert.LatentsBwd.nD Cert.LatentsBwd.τ).loc Cert.LatentsBwd.main_arg1) = m ((c.tc : Thread Cert.LatentsBwd.nD Cert.LatentsBwd.τ).loc Cert.LatentsBwd.main_arg1)
      ∧ r.2.mem ((c.tc : Thread Cert.LatentsBwd.nD Cert.LatentsBwd.τ).loc Cert.LatentsBwd.main_arg2) = m ((c.tc : Thread Cert.LatentsBwd.nD Cert.LatentsBwd.τ).loc Cert.LatentsBwd.main_arg2)
      ∧ r.2.mem ((c.tc : Thread Cert.LatentsBwd.nD Cert.LatentsBwd.τ).loc Cert.LatentsBwd.main_arg3) = m ((c.tc : Thread Cert.LatentsBwd.nD Cert.LatentsBwd.τ).loc Cert.LatentsBwd.main_arg3)
      ∧ r.2.mem ((c.tc : Thread Cert.LatentsBwd.nD Cert.LatentsBwd.τ).loc Cert.LatentsBwd.main_arg4) = m ((c.tc : Thread Cert.LatentsBwd.nD Cert.LatentsBwd.τ).loc Cert.LatentsBwd.main_arg4)
      ∧ r.2.mem ((c.tc : Thread Cert.LatentsBwd.nD Cert.LatentsBwd.τ).loc Cert.LatentsBwd.main_arg5) = m ((c.tc : Thread Cert.LatentsBwd.nD Cert.LatentsBwd.τ).loc Cert.LatentsBwd.main_arg5)
      ∧ r.2.mem ((c.tc : Thread Cert.LatentsBwd.nD Cert.LatentsBwd.τ).loc Cert.LatentsBwd.main_arg6) = m ((c.tc : Thread Cert.LatentsBwd.nD Cert.LatentsBwd.τ).loc Cert.LatentsBwd.main_arg6))
      ∧ r.2.sem = fun _ => 0)

def quiescent_LatentsBwdIdeal [hLatentsBwdIdeal : Cert.LatentsBwdIdeal.Facts] : Prop :=
  ∀ (m : (ℓ : Loc Cert.LatentsBwdIdeal.nD Cert.LatentsBwdIdeal.τ Cert.LatentsBwdIdeal.sig) → Buf (Elt Ideal) ℓ) (g : Dev Cert.LatentsBwdIdeal.nD → PrngReg), Pre_LatentsBwdIdeal m →
    θ_run (Cert.LatentsBwdIdeal.defs (F := Ideal)) (onTc (τ := Cert.LatentsBwdIdeal.τ) (Cert.LatentsBwdIdeal.main (F := Ideal))) ⟨m, fun _ => 0, g⟩ (fun r => (∀ c : Dev Cert.LatentsBwdIdeal.nD,
      r.2.mem ((c.tc : Thread Cert.LatentsBwdIdeal.nD Cert.LatentsBwdIdeal.τ).loc Cert.LatentsBwdIdeal.main_arg0) = m ((c.tc : Thread Cert.LatentsBwdIdeal.nD Cert.LatentsBwdIdeal.τ).loc Cert.LatentsBwdIdeal.main_arg0)
      ∧ r.2.mem ((c.tc : Thread Cert.LatentsBwdIdeal.nD Cert.LatentsBwdIdeal.τ).loc Cert.LatentsBwdIdeal.main_arg1) = m ((c.tc : Thread Cert.LatentsBwdIdeal.nD Cert.LatentsBwdIdeal.τ).loc Cert.LatentsBwdIdeal.main_arg1)
      ∧ r.2.mem ((c.tc : Thread Cert.LatentsBwdIdeal.nD Cert.LatentsBwdIdeal.τ).loc Cert.LatentsBwdIdeal.main_arg2) = m ((c.tc : Thread Cert.LatentsBwdIdeal.nD Cert.LatentsBwdIdeal.τ).loc Cert.LatentsBwdIdeal.main_arg2)
      ∧ r.2.mem ((c.tc : Thread Cert.LatentsBwdIdeal.nD Cert.LatentsBwdIdeal.τ).loc Cert.LatentsBwdIdeal.main_arg3) = m ((c.tc : Thread Cert.LatentsBwdIdeal.nD Cert.LatentsBwdIdeal.τ).loc Cert.LatentsBwdIdeal.main_arg3)
      ∧ r.2.mem ((c.tc : Thread Cert.LatentsBwdIdeal.nD Cert.LatentsBwdIdeal.τ).loc Cert.LatentsBwdIdeal.main_arg4) = m ((c.tc : Thread Cert.LatentsBwdIdeal.nD Cert.LatentsBwdIdeal.τ).loc Cert.LatentsBwdIdeal.main_arg4)
      ∧ r.2.mem ((c.tc : Thread Cert.LatentsBwdIdeal.nD Cert.LatentsBwdIdeal.τ).loc Cert.LatentsBwdIdeal.main_arg5) = m ((c.tc : Thread Cert.LatentsBwdIdeal.nD Cert.LatentsBwdIdeal.τ).loc Cert.LatentsBwdIdeal.main_arg5)
      ∧ r.2.mem ((c.tc : Thread Cert.LatentsBwdIdeal.nD Cert.LatentsBwdIdeal.τ).loc Cert.LatentsBwdIdeal.main_arg6) = m ((c.tc : Thread Cert.LatentsBwdIdeal.nD Cert.LatentsBwdIdeal.τ).loc Cert.LatentsBwdIdeal.main_arg6))
      ∧ r.2.sem = fun _ => 0)

def quiescent_LatentsBwdIdeal_pre_latents_finite [hLatentsBwdIdeal : Cert.LatentsBwdIdeal.Facts] [hPre_latents_finite : Cert.Pre_latents_finite.Facts] : Prop :=
  ∀ (m : (ℓ : Loc Cert.LatentsBwdIdeal.nD Cert.LatentsBwdIdeal.τ Cert.LatentsBwdIdeal.sig) → Buf (Elt Ideal) ℓ) (g : Dev Cert.LatentsBwdIdeal.nD → PrngReg), Pre_LatentsBwdIdeal_latents_finite m →
    θ_run (Cert.LatentsBwdIdeal.defs (F := Ideal)) (onTc (τ := Cert.LatentsBwdIdeal.τ) (Cert.LatentsBwdIdeal.main (F := Ideal))) ⟨m, fun _ => 0, g⟩ (fun r => (∀ c : Dev Cert.LatentsBwdIdeal.nD,
      r.2.mem ((c.tc : Thread Cert.LatentsBwdIdeal.nD Cert.LatentsBwdIdeal.τ).loc Cert.LatentsBwdIdeal.main_arg0) = m ((c.tc : Thread Cert.LatentsBwdIdeal.nD Cert.LatentsBwdIdeal.τ).loc Cert.LatentsBwdIdeal.main_arg0)
      ∧ r.2.mem ((c.tc : Thread Cert.LatentsBwdIdeal.nD Cert.LatentsBwdIdeal.τ).loc Cert.LatentsBwdIdeal.main_arg1) = m ((c.tc : Thread Cert.LatentsBwdIdeal.nD Cert.LatentsBwdIdeal.τ).loc Cert.LatentsBwdIdeal.main_arg1)
      ∧ r.2.mem ((c.tc : Thread Cert.LatentsBwdIdeal.nD Cert.LatentsBwdIdeal.τ).loc Cert.LatentsBwdIdeal.main_arg2) = m ((c.tc : Thread Cert.LatentsBwdIdeal.nD Cert.LatentsBwdIdeal.τ).loc Cert.LatentsBwdIdeal.main_arg2)
      ∧ r.2.mem ((c.tc : Thread Cert.LatentsBwdIdeal.nD Cert.LatentsBwdIdeal.τ).loc Cert.LatentsBwdIdeal.main_arg3) = m ((c.tc : Thread Cert.LatentsBwdIdeal.nD Cert.LatentsBwdIdeal.τ).loc Cert.LatentsBwdIdeal.main_arg3)
      ∧ r.2.mem ((c.tc : Thread Cert.LatentsBwdIdeal.nD Cert.LatentsBwdIdeal.τ).loc Cert.LatentsBwdIdeal.main_arg4) = m ((c.tc : Thread Cert.LatentsBwdIdeal.nD Cert.LatentsBwdIdeal.τ).loc Cert.LatentsBwdIdeal.main_arg4)
      ∧ r.2.mem ((c.tc : Thread Cert.LatentsBwdIdeal.nD Cert.LatentsBwdIdeal.τ).loc Cert.LatentsBwdIdeal.main_arg5) = m ((c.tc : Thread Cert.LatentsBwdIdeal.nD Cert.LatentsBwdIdeal.τ).loc Cert.LatentsBwdIdeal.main_arg5)
      ∧ r.2.mem ((c.tc : Thread Cert.LatentsBwdIdeal.nD Cert.LatentsBwdIdeal.τ).loc Cert.LatentsBwdIdeal.main_arg6) = m ((c.tc : Thread Cert.LatentsBwdIdeal.nD Cert.LatentsBwdIdeal.τ).loc Cert.LatentsBwdIdeal.main_arg6))
      ∧ r.2.sem = fun _ => 0)

def quiescent_LatentsBwdRefIdeal [hLatentsBwdRefIdeal : Cert.LatentsBwdRefIdeal.Facts] : Prop :=
  ∀ (m : (ℓ : Loc Cert.LatentsBwdRefIdeal.nD Cert.LatentsBwdRefIdeal.τ Cert.LatentsBwdRefIdeal.sig) → Buf (Elt Ideal) ℓ) (g : Dev Cert.LatentsBwdRefIdeal.nD → PrngReg), Pre_LatentsBwdRefIdeal m →
    θ_run (Cert.LatentsBwdRefIdeal.defs (F := Ideal)) (onTc (τ := Cert.LatentsBwdRefIdeal.τ) (Cert.LatentsBwdRefIdeal.main (F := Ideal))) ⟨m, fun _ => 0, g⟩ (fun r => (∀ c : Dev Cert.LatentsBwdRefIdeal.nD,
      r.2.mem ((c.tc : Thread Cert.LatentsBwdRefIdeal.nD Cert.LatentsBwdRefIdeal.τ).loc Cert.LatentsBwdRefIdeal.main_arg0) = m ((c.tc : Thread Cert.LatentsBwdRefIdeal.nD Cert.LatentsBwdRefIdeal.τ).loc Cert.LatentsBwdRefIdeal.main_arg0)
      ∧ r.2.mem ((c.tc : Thread Cert.LatentsBwdRefIdeal.nD Cert.LatentsBwdRefIdeal.τ).loc Cert.LatentsBwdRefIdeal.main_arg1) = m ((c.tc : Thread Cert.LatentsBwdRefIdeal.nD Cert.LatentsBwdRefIdeal.τ).loc Cert.LatentsBwdRefIdeal.main_arg1)
      ∧ r.2.mem ((c.tc : Thread Cert.LatentsBwdRefIdeal.nD Cert.LatentsBwdRefIdeal.τ).loc Cert.LatentsBwdRefIdeal.main_arg2) = m ((c.tc : Thread Cert.LatentsBwdRefIdeal.nD Cert.LatentsBwdRefIdeal.τ).loc Cert.LatentsBwdRefIdeal.main_arg2)
      ∧ r.2.mem ((c.tc : Thread Cert.LatentsBwdRefIdeal.nD Cert.LatentsBwdRefIdeal.τ).loc Cert.LatentsBwdRefIdeal.main_arg3) = m ((c.tc : Thread Cert.LatentsBwdRefIdeal.nD Cert.LatentsBwdRefIdeal.τ).loc Cert.LatentsBwdRefIdeal.main_arg3)
      ∧ r.2.mem ((c.tc : Thread Cert.LatentsBwdRefIdeal.nD Cert.LatentsBwdRefIdeal.τ).loc Cert.LatentsBwdRefIdeal.main_arg4) = m ((c.tc : Thread Cert.LatentsBwdRefIdeal.nD Cert.LatentsBwdRefIdeal.τ).loc Cert.LatentsBwdRefIdeal.main_arg4)
      ∧ r.2.mem ((c.tc : Thread Cert.LatentsBwdRefIdeal.nD Cert.LatentsBwdRefIdeal.τ).loc Cert.LatentsBwdRefIdeal.main_arg5) = m ((c.tc : Thread Cert.LatentsBwdRefIdeal.nD Cert.LatentsBwdRefIdeal.τ).loc Cert.LatentsBwdRefIdeal.main_arg5)
      ∧ r.2.mem ((c.tc : Thread Cert.LatentsBwdRefIdeal.nD Cert.LatentsBwdRefIdeal.τ).loc Cert.LatentsBwdRefIdeal.main_arg6) = m ((c.tc : Thread Cert.LatentsBwdRefIdeal.nD Cert.LatentsBwdRefIdeal.τ).loc Cert.LatentsBwdRefIdeal.main_arg6))
      ∧ r.2.sem = fun _ => 0)

def quiescent_LatentsBwdRefIdeal_pre_latents_finite [hLatentsBwdRefIdeal : Cert.LatentsBwdRefIdeal.Facts] [hPre_latents_finite : Cert.Pre_latents_finite.Facts] : Prop :=
  ∀ (m : (ℓ : Loc Cert.LatentsBwdRefIdeal.nD Cert.LatentsBwdRefIdeal.τ Cert.LatentsBwdRefIdeal.sig) → Buf (Elt Ideal) ℓ) (g : Dev Cert.LatentsBwdRefIdeal.nD → PrngReg), Pre_LatentsBwdRefIdeal_latents_finite m →
    θ_run (Cert.LatentsBwdRefIdeal.defs (F := Ideal)) (onTc (τ := Cert.LatentsBwdRefIdeal.τ) (Cert.LatentsBwdRefIdeal.main (F := Ideal))) ⟨m, fun _ => 0, g⟩ (fun r => (∀ c : Dev Cert.LatentsBwdRefIdeal.nD,
      r.2.mem ((c.tc : Thread Cert.LatentsBwdRefIdeal.nD Cert.LatentsBwdRefIdeal.τ).loc Cert.LatentsBwdRefIdeal.main_arg0) = m ((c.tc : Thread Cert.LatentsBwdRefIdeal.nD Cert.LatentsBwdRefIdeal.τ).loc Cert.LatentsBwdRefIdeal.main_arg0)
      ∧ r.2.mem ((c.tc : Thread Cert.LatentsBwdRefIdeal.nD Cert.LatentsBwdRefIdeal.τ).loc Cert.LatentsBwdRefIdeal.main_arg1) = m ((c.tc : Thread Cert.LatentsBwdRefIdeal.nD Cert.LatentsBwdRefIdeal.τ).loc Cert.LatentsBwdRefIdeal.main_arg1)
      ∧ r.2.mem ((c.tc : Thread Cert.LatentsBwdRefIdeal.nD Cert.LatentsBwdRefIdeal.τ).loc Cert.LatentsBwdRefIdeal.main_arg2) = m ((c.tc : Thread Cert.LatentsBwdRefIdeal.nD Cert.LatentsBwdRefIdeal.τ).loc Cert.LatentsBwdRefIdeal.main_arg2)
      ∧ r.2.mem ((c.tc : Thread Cert.LatentsBwdRefIdeal.nD Cert.LatentsBwdRefIdeal.τ).loc Cert.LatentsBwdRefIdeal.main_arg3) = m ((c.tc : Thread Cert.LatentsBwdRefIdeal.nD Cert.LatentsBwdRefIdeal.τ).loc Cert.LatentsBwdRefIdeal.main_arg3)
      ∧ r.2.mem ((c.tc : Thread Cert.LatentsBwdRefIdeal.nD Cert.LatentsBwdRefIdeal.τ).loc Cert.LatentsBwdRefIdeal.main_arg4) = m ((c.tc : Thread Cert.LatentsBwdRefIdeal.nD Cert.LatentsBwdRefIdeal.τ).loc Cert.LatentsBwdRefIdeal.main_arg4)
      ∧ r.2.mem ((c.tc : Thread Cert.LatentsBwdRefIdeal.nD Cert.LatentsBwdRefIdeal.τ).loc Cert.LatentsBwdRefIdeal.main_arg5) = m ((c.tc : Thread Cert.LatentsBwdRefIdeal.nD Cert.LatentsBwdRefIdeal.τ).loc Cert.LatentsBwdRefIdeal.main_arg5)
      ∧ r.2.mem ((c.tc : Thread Cert.LatentsBwdRefIdeal.nD Cert.LatentsBwdRefIdeal.τ).loc Cert.LatentsBwdRefIdeal.main_arg6) = m ((c.tc : Thread Cert.LatentsBwdRefIdeal.nD Cert.LatentsBwdRefIdeal.τ).loc Cert.LatentsBwdRefIdeal.main_arg6))
      ∧ r.2.sem = fun _ => 0)

def quiescent_ScInBwd [hScInBwd : Cert.ScInBwd.Facts] : Prop :=
  ∀ (m : (ℓ : Loc Cert.ScInBwd.nD Cert.ScInBwd.τ Cert.ScInBwd.sig) → Buf (Elt Bits) ℓ) (g : Dev Cert.ScInBwd.nD → PrngReg), Pre_ScInBwd m →
    θ_run (Cert.ScInBwd.defs (F := Bits)) (onTc (τ := Cert.ScInBwd.τ) (Cert.ScInBwd.main (F := Bits))) ⟨m, fun _ => 0, g⟩ (fun r => (∀ c : Dev Cert.ScInBwd.nD,
      r.2.mem ((c.tc : Thread Cert.ScInBwd.nD Cert.ScInBwd.τ).loc Cert.ScInBwd.main_arg0) = m ((c.tc : Thread Cert.ScInBwd.nD Cert.ScInBwd.τ).loc Cert.ScInBwd.main_arg0)
      ∧ r.2.mem ((c.tc : Thread Cert.ScInBwd.nD Cert.ScInBwd.τ).loc Cert.ScInBwd.main_arg1) = m ((c.tc : Thread Cert.ScInBwd.nD Cert.ScInBwd.τ).loc Cert.ScInBwd.main_arg1)
      ∧ r.2.mem ((c.tc : Thread Cert.ScInBwd.nD Cert.ScInBwd.τ).loc Cert.ScInBwd.main_arg2) = m ((c.tc : Thread Cert.ScInBwd.nD Cert.ScInBwd.τ).loc Cert.ScInBwd.main_arg2)
      ∧ r.2.mem ((c.tc : Thread Cert.ScInBwd.nD Cert.ScInBwd.τ).loc Cert.ScInBwd.main_arg3) = m ((c.tc : Thread Cert.ScInBwd.nD Cert.ScInBwd.τ).loc Cert.ScInBwd.main_arg3)
      ∧ r.2.mem ((c.tc : Thread Cert.ScInBwd.nD Cert.ScInBwd.τ).loc Cert.ScInBwd.main_arg4) = m ((c.tc : Thread Cert.ScInBwd.nD Cert.ScInBwd.τ).loc Cert.ScInBwd.main_arg4)
      ∧ r.2.mem ((c.tc : Thread Cert.ScInBwd.nD Cert.ScInBwd.τ).loc Cert.ScInBwd.main_arg5) = m ((c.tc : Thread Cert.ScInBwd.nD Cert.ScInBwd.τ).loc Cert.ScInBwd.main_arg5)
      ∧ r.2.mem ((c.tc : Thread Cert.ScInBwd.nD Cert.ScInBwd.τ).loc Cert.ScInBwd.main_arg6) = m ((c.tc : Thread Cert.ScInBwd.nD Cert.ScInBwd.τ).loc Cert.ScInBwd.main_arg6))
      ∧ r.2.sem = fun _ => 0)

def quiescent_ScInBwdIdeal [hScInBwdIdeal : Cert.ScInBwdIdeal.Facts] : Prop :=
  ∀ (m : (ℓ : Loc Cert.ScInBwdIdeal.nD Cert.ScInBwdIdeal.τ Cert.ScInBwdIdeal.sig) → Buf (Elt Ideal) ℓ) (g : Dev Cert.ScInBwdIdeal.nD → PrngReg), Pre_ScInBwdIdeal m →
    θ_run (Cert.ScInBwdIdeal.defs (F := Ideal)) (onTc (τ := Cert.ScInBwdIdeal.τ) (Cert.ScInBwdIdeal.main (F := Ideal))) ⟨m, fun _ => 0, g⟩ (fun r => (∀ c : Dev Cert.ScInBwdIdeal.nD,
      r.2.mem ((c.tc : Thread Cert.ScInBwdIdeal.nD Cert.ScInBwdIdeal.τ).loc Cert.ScInBwdIdeal.main_arg0) = m ((c.tc : Thread Cert.ScInBwdIdeal.nD Cert.ScInBwdIdeal.τ).loc Cert.ScInBwdIdeal.main_arg0)
      ∧ r.2.mem ((c.tc : Thread Cert.ScInBwdIdeal.nD Cert.ScInBwdIdeal.τ).loc Cert.ScInBwdIdeal.main_arg1) = m ((c.tc : Thread Cert.ScInBwdIdeal.nD Cert.ScInBwdIdeal.τ).loc Cert.ScInBwdIdeal.main_arg1)
      ∧ r.2.mem ((c.tc : Thread Cert.ScInBwdIdeal.nD Cert.ScInBwdIdeal.τ).loc Cert.ScInBwdIdeal.main_arg2) = m ((c.tc : Thread Cert.ScInBwdIdeal.nD Cert.ScInBwdIdeal.τ).loc Cert.ScInBwdIdeal.main_arg2)
      ∧ r.2.mem ((c.tc : Thread Cert.ScInBwdIdeal.nD Cert.ScInBwdIdeal.τ).loc Cert.ScInBwdIdeal.main_arg3) = m ((c.tc : Thread Cert.ScInBwdIdeal.nD Cert.ScInBwdIdeal.τ).loc Cert.ScInBwdIdeal.main_arg3)
      ∧ r.2.mem ((c.tc : Thread Cert.ScInBwdIdeal.nD Cert.ScInBwdIdeal.τ).loc Cert.ScInBwdIdeal.main_arg4) = m ((c.tc : Thread Cert.ScInBwdIdeal.nD Cert.ScInBwdIdeal.τ).loc Cert.ScInBwdIdeal.main_arg4)
      ∧ r.2.mem ((c.tc : Thread Cert.ScInBwdIdeal.nD Cert.ScInBwdIdeal.τ).loc Cert.ScInBwdIdeal.main_arg5) = m ((c.tc : Thread Cert.ScInBwdIdeal.nD Cert.ScInBwdIdeal.τ).loc Cert.ScInBwdIdeal.main_arg5)
      ∧ r.2.mem ((c.tc : Thread Cert.ScInBwdIdeal.nD Cert.ScInBwdIdeal.τ).loc Cert.ScInBwdIdeal.main_arg6) = m ((c.tc : Thread Cert.ScInBwdIdeal.nD Cert.ScInBwdIdeal.τ).loc Cert.ScInBwdIdeal.main_arg6))
      ∧ r.2.sem = fun _ => 0)

def quiescent_ScInBwdIdeal_pre_scin_finite [hScInBwdIdeal : Cert.ScInBwdIdeal.Facts] [hPre_scin_finite : Cert.Pre_scin_finite.Facts] : Prop :=
  ∀ (m : (ℓ : Loc Cert.ScInBwdIdeal.nD Cert.ScInBwdIdeal.τ Cert.ScInBwdIdeal.sig) → Buf (Elt Ideal) ℓ) (g : Dev Cert.ScInBwdIdeal.nD → PrngReg), Pre_ScInBwdIdeal_scin_finite m →
    θ_run (Cert.ScInBwdIdeal.defs (F := Ideal)) (onTc (τ := Cert.ScInBwdIdeal.τ) (Cert.ScInBwdIdeal.main (F := Ideal))) ⟨m, fun _ => 0, g⟩ (fun r => (∀ c : Dev Cert.ScInBwdIdeal.nD,
      r.2.mem ((c.tc : Thread Cert.ScInBwdIdeal.nD Cert.ScInBwdIdeal.τ).loc Cert.ScInBwdIdeal.main_arg0) = m ((c.tc : Thread Cert.ScInBwdIdeal.nD Cert.ScInBwdIdeal.τ).loc Cert.ScInBwdIdeal.main_arg0)
      ∧ r.2.mem ((c.tc : Thread Cert.ScInBwdIdeal.nD Cert.ScInBwdIdeal.τ).loc Cert.ScInBwdIdeal.main_arg1) = m ((c.tc : Thread Cert.ScInBwdIdeal.nD Cert.ScInBwdIdeal.τ).loc Cert.ScInBwdIdeal.main_arg1)
      ∧ r.2.mem ((c.tc : Thread Cert.ScInBwdIdeal.nD Cert.ScInBwdIdeal.τ).loc Cert.ScInBwdIdeal.main_arg2) = m ((c.tc : Thread Cert.ScInBwdIdeal.nD Cert.ScInBwdIdeal.τ).loc Cert.ScInBwdIdeal.main_arg2)
      ∧ r.2.mem ((c.tc : Thread Cert.ScInBwdIdeal.nD Cert.ScInBwdIdeal.τ).loc Cert.ScInBwdIdeal.main_arg3) = m ((c.tc : Thread Cert.ScInBwdIdeal.nD Cert.ScInBwdIdeal.τ).loc Cert.ScInBwdIdeal.main_arg3)
      ∧ r.2.mem ((c.tc : Thread Cert.ScInBwdIdeal.nD Cert.ScInBwdIdeal.τ).loc Cert.ScInBwdIdeal.main_arg4) = m ((c.tc : Thread Cert.ScInBwdIdeal.nD Cert.ScInBwdIdeal.τ).loc Cert.ScInBwdIdeal.main_arg4)
      ∧ r.2.mem ((c.tc : Thread Cert.ScInBwdIdeal.nD Cert.ScInBwdIdeal.τ).loc Cert.ScInBwdIdeal.main_arg5) = m ((c.tc : Thread Cert.ScInBwdIdeal.nD Cert.ScInBwdIdeal.τ).loc Cert.ScInBwdIdeal.main_arg5)
      ∧ r.2.mem ((c.tc : Thread Cert.ScInBwdIdeal.nD Cert.ScInBwdIdeal.τ).loc Cert.ScInBwdIdeal.main_arg6) = m ((c.tc : Thread Cert.ScInBwdIdeal.nD Cert.ScInBwdIdeal.τ).loc Cert.ScInBwdIdeal.main_arg6))
      ∧ r.2.sem = fun _ => 0)

def quiescent_ScInBwdRefIdeal [hScInBwdRefIdeal : Cert.ScInBwdRefIdeal.Facts] : Prop :=
  ∀ (m : (ℓ : Loc Cert.ScInBwdRefIdeal.nD Cert.ScInBwdRefIdeal.τ Cert.ScInBwdRefIdeal.sig) → Buf (Elt Ideal) ℓ) (g : Dev Cert.ScInBwdRefIdeal.nD → PrngReg), Pre_ScInBwdRefIdeal m →
    θ_run (Cert.ScInBwdRefIdeal.defs (F := Ideal)) (onTc (τ := Cert.ScInBwdRefIdeal.τ) (Cert.ScInBwdRefIdeal.main (F := Ideal))) ⟨m, fun _ => 0, g⟩ (fun r => (∀ c : Dev Cert.ScInBwdRefIdeal.nD,
      r.2.mem ((c.tc : Thread Cert.ScInBwdRefIdeal.nD Cert.ScInBwdRefIdeal.τ).loc Cert.ScInBwdRefIdeal.main_arg0) = m ((c.tc : Thread Cert.ScInBwdRefIdeal.nD Cert.ScInBwdRefIdeal.τ).loc Cert.ScInBwdRefIdeal.main_arg0)
      ∧ r.2.mem ((c.tc : Thread Cert.ScInBwdRefIdeal.nD Cert.ScInBwdRefIdeal.τ).loc Cert.ScInBwdRefIdeal.main_arg1) = m ((c.tc : Thread Cert.ScInBwdRefIdeal.nD Cert.ScInBwdRefIdeal.τ).loc Cert.ScInBwdRefIdeal.main_arg1)
      ∧ r.2.mem ((c.tc : Thread Cert.ScInBwdRefIdeal.nD Cert.ScInBwdRefIdeal.τ).loc Cert.ScInBwdRefIdeal.main_arg2) = m ((c.tc : Thread Cert.ScInBwdRefIdeal.nD Cert.ScInBwdRefIdeal.τ).loc Cert.ScInBwdRefIdeal.main_arg2)
      ∧ r.2.mem ((c.tc : Thread Cert.ScInBwdRefIdeal.nD Cert.ScInBwdRefIdeal.τ).loc Cert.ScInBwdRefIdeal.main_arg3) = m ((c.tc : Thread Cert.ScInBwdRefIdeal.nD Cert.ScInBwdRefIdeal.τ).loc Cert.ScInBwdRefIdeal.main_arg3)
      ∧ r.2.mem ((c.tc : Thread Cert.ScInBwdRefIdeal.nD Cert.ScInBwdRefIdeal.τ).loc Cert.ScInBwdRefIdeal.main_arg4) = m ((c.tc : Thread Cert.ScInBwdRefIdeal.nD Cert.ScInBwdRefIdeal.τ).loc Cert.ScInBwdRefIdeal.main_arg4)
      ∧ r.2.mem ((c.tc : Thread Cert.ScInBwdRefIdeal.nD Cert.ScInBwdRefIdeal.τ).loc Cert.ScInBwdRefIdeal.main_arg5) = m ((c.tc : Thread Cert.ScInBwdRefIdeal.nD Cert.ScInBwdRefIdeal.τ).loc Cert.ScInBwdRefIdeal.main_arg5)
      ∧ r.2.mem ((c.tc : Thread Cert.ScInBwdRefIdeal.nD Cert.ScInBwdRefIdeal.τ).loc Cert.ScInBwdRefIdeal.main_arg6) = m ((c.tc : Thread Cert.ScInBwdRefIdeal.nD Cert.ScInBwdRefIdeal.τ).loc Cert.ScInBwdRefIdeal.main_arg6))
      ∧ r.2.sem = fun _ => 0)

def quiescent_ScInBwdRefIdeal_pre_scin_finite [hScInBwdRefIdeal : Cert.ScInBwdRefIdeal.Facts] [hPre_scin_finite : Cert.Pre_scin_finite.Facts] : Prop :=
  ∀ (m : (ℓ : Loc Cert.ScInBwdRefIdeal.nD Cert.ScInBwdRefIdeal.τ Cert.ScInBwdRefIdeal.sig) → Buf (Elt Ideal) ℓ) (g : Dev Cert.ScInBwdRefIdeal.nD → PrngReg), Pre_ScInBwdRefIdeal_scin_finite m →
    θ_run (Cert.ScInBwdRefIdeal.defs (F := Ideal)) (onTc (τ := Cert.ScInBwdRefIdeal.τ) (Cert.ScInBwdRefIdeal.main (F := Ideal))) ⟨m, fun _ => 0, g⟩ (fun r => (∀ c : Dev Cert.ScInBwdRefIdeal.nD,
      r.2.mem ((c.tc : Thread Cert.ScInBwdRefIdeal.nD Cert.ScInBwdRefIdeal.τ).loc Cert.ScInBwdRefIdeal.main_arg0) = m ((c.tc : Thread Cert.ScInBwdRefIdeal.nD Cert.ScInBwdRefIdeal.τ).loc Cert.ScInBwdRefIdeal.main_arg0)
      ∧ r.2.mem ((c.tc : Thread Cert.ScInBwdRefIdeal.nD Cert.ScInBwdRefIdeal.τ).loc Cert.ScInBwdRefIdeal.main_arg1) = m ((c.tc : Thread Cert.ScInBwdRefIdeal.nD Cert.ScInBwdRefIdeal.τ).loc Cert.ScInBwdRefIdeal.main_arg1)
      ∧ r.2.mem ((c.tc : Thread Cert.ScInBwdRefIdeal.nD Cert.ScInBwdRefIdeal.τ).loc Cert.ScInBwdRefIdeal.main_arg2) = m ((c.tc : Thread Cert.ScInBwdRefIdeal.nD Cert.ScInBwdRefIdeal.τ).loc Cert.ScInBwdRefIdeal.main_arg2)
      ∧ r.2.mem ((c.tc : Thread Cert.ScInBwdRefIdeal.nD Cert.ScInBwdRefIdeal.τ).loc Cert.ScInBwdRefIdeal.main_arg3) = m ((c.tc : Thread Cert.ScInBwdRefIdeal.nD Cert.ScInBwdRefIdeal.τ).loc Cert.ScInBwdRefIdeal.main_arg3)
      ∧ r.2.mem ((c.tc : Thread Cert.ScInBwdRefIdeal.nD Cert.ScInBwdRefIdeal.τ).loc Cert.ScInBwdRefIdeal.main_arg4) = m ((c.tc : Thread Cert.ScInBwdRefIdeal.nD Cert.ScInBwdRefIdeal.τ).loc Cert.ScInBwdRefIdeal.main_arg4)
      ∧ r.2.mem ((c.tc : Thread Cert.ScInBwdRefIdeal.nD Cert.ScInBwdRefIdeal.τ).loc Cert.ScInBwdRefIdeal.main_arg5) = m ((c.tc : Thread Cert.ScInBwdRefIdeal.nD Cert.ScInBwdRefIdeal.τ).loc Cert.ScInBwdRefIdeal.main_arg5)
      ∧ r.2.mem ((c.tc : Thread Cert.ScInBwdRefIdeal.nD Cert.ScInBwdRefIdeal.τ).loc Cert.ScInBwdRefIdeal.main_arg6) = m ((c.tc : Thread Cert.ScInBwdRefIdeal.nD Cert.ScInBwdRefIdeal.τ).loc Cert.ScInBwdRefIdeal.main_arg6))
      ∧ r.2.sem = fun _ => 0)

def quiescent_Dw2Bwd [hDw2Bwd : Cert.Dw2Bwd.Facts] : Prop :=
  ∀ (m : (ℓ : Loc Cert.Dw2Bwd.nD Cert.Dw2Bwd.τ Cert.Dw2Bwd.sig) → Buf (Elt Bits) ℓ) (g : Dev Cert.Dw2Bwd.nD → PrngReg), Pre_Dw2Bwd m →
    θ_run (Cert.Dw2Bwd.defs (F := Bits)) (onTc (τ := Cert.Dw2Bwd.τ) (Cert.Dw2Bwd.main (F := Bits))) ⟨m, fun _ => 0, g⟩ (fun r => (∀ c : Dev Cert.Dw2Bwd.nD,
      r.2.mem ((c.tc : Thread Cert.Dw2Bwd.nD Cert.Dw2Bwd.τ).loc Cert.Dw2Bwd.main_arg0) = m ((c.tc : Thread Cert.Dw2Bwd.nD Cert.Dw2Bwd.τ).loc Cert.Dw2Bwd.main_arg0)
      ∧ r.2.mem ((c.tc : Thread Cert.Dw2Bwd.nD Cert.Dw2Bwd.τ).loc Cert.Dw2Bwd.main_arg1) = m ((c.tc : Thread Cert.Dw2Bwd.nD Cert.Dw2Bwd.τ).loc Cert.Dw2Bwd.main_arg1))
      ∧ r.2.sem = fun _ => 0)

def quiescent_Dw2BwdIdeal [hDw2BwdIdeal : Cert.Dw2BwdIdeal.Facts] : Prop :=
  ∀ (m : (ℓ : Loc Cert.Dw2BwdIdeal.nD Cert.Dw2BwdIdeal.τ Cert.Dw2BwdIdeal.sig) → Buf (Elt Ideal) ℓ) (g : Dev Cert.Dw2BwdIdeal.nD → PrngReg), Pre_Dw2BwdIdeal m →
    θ_run (Cert.Dw2BwdIdeal.defs (F := Ideal)) (onTc (τ := Cert.Dw2BwdIdeal.τ) (Cert.Dw2BwdIdeal.main (F := Ideal))) ⟨m, fun _ => 0, g⟩ (fun r => (∀ c : Dev Cert.Dw2BwdIdeal.nD,
      r.2.mem ((c.tc : Thread Cert.Dw2BwdIdeal.nD Cert.Dw2BwdIdeal.τ).loc Cert.Dw2BwdIdeal.main_arg0) = m ((c.tc : Thread Cert.Dw2BwdIdeal.nD Cert.Dw2BwdIdeal.τ).loc Cert.Dw2BwdIdeal.main_arg0)
      ∧ r.2.mem ((c.tc : Thread Cert.Dw2BwdIdeal.nD Cert.Dw2BwdIdeal.τ).loc Cert.Dw2BwdIdeal.main_arg1) = m ((c.tc : Thread Cert.Dw2BwdIdeal.nD Cert.Dw2BwdIdeal.τ).loc Cert.Dw2BwdIdeal.main_arg1))
      ∧ r.2.sem = fun _ => 0)

def quiescent_Dw2BwdRefIdeal [hDw2BwdRefIdeal : Cert.Dw2BwdRefIdeal.Facts] : Prop :=
  ∀ (m : (ℓ : Loc Cert.Dw2BwdRefIdeal.nD Cert.Dw2BwdRefIdeal.τ Cert.Dw2BwdRefIdeal.sig) → Buf (Elt Ideal) ℓ) (g : Dev Cert.Dw2BwdRefIdeal.nD → PrngReg), Pre_Dw2BwdRefIdeal m →
    θ_run (Cert.Dw2BwdRefIdeal.defs (F := Ideal)) (onTc (τ := Cert.Dw2BwdRefIdeal.τ) (Cert.Dw2BwdRefIdeal.main (F := Ideal))) ⟨m, fun _ => 0, g⟩ (fun r => (∀ c : Dev Cert.Dw2BwdRefIdeal.nD,
      r.2.mem ((c.tc : Thread Cert.Dw2BwdRefIdeal.nD Cert.Dw2BwdRefIdeal.τ).loc Cert.Dw2BwdRefIdeal.main_arg0) = m ((c.tc : Thread Cert.Dw2BwdRefIdeal.nD Cert.Dw2BwdRefIdeal.τ).loc Cert.Dw2BwdRefIdeal.main_arg0)
      ∧ r.2.mem ((c.tc : Thread Cert.Dw2BwdRefIdeal.nD Cert.Dw2BwdRefIdeal.τ).loc Cert.Dw2BwdRefIdeal.main_arg1) = m ((c.tc : Thread Cert.Dw2BwdRefIdeal.nD Cert.Dw2BwdRefIdeal.τ).loc Cert.Dw2BwdRefIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_attn_fwd_finite [hAttnFwdIdeal : Cert.AttnFwdIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attn_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_attn_fwd_finite [hAttnFwdRefIdeal : Cert.AttnFwdRefIdeal.Facts] [hPre_attn_fwd_finite : Cert.Pre_attn_fwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attn_fwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2)
      ∧ r.2.mem ((c.tc : Thread Cert.DownFwd.nD Cert.DownFwd.τ).loc Cert.DownFwd.main_arg3) = m ((c.tc : Thread Cert.DownFwd.nD Cert.DownFwd.τ).loc Cert.DownFwd.main_arg3)
      ∧ r.2.mem ((c.tc : Thread Cert.DownFwd.nD Cert.DownFwd.τ).loc Cert.DownFwd.main_arg4) = m ((c.tc : Thread Cert.DownFwd.nD Cert.DownFwd.τ).loc Cert.DownFwd.main_arg4))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
      ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3)
      ∧ r.2.mem ((c.tc : Thread Cert.DownFwdIdeal.nD Cert.DownFwdIdeal.τ).loc Cert.DownFwdIdeal.main_arg4) = m ((c.tc : Thread Cert.DownFwdIdeal.nD Cert.DownFwdIdeal.τ).loc Cert.DownFwdIdeal.main_arg4))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2)
      ∧ r.2.mem ((c.tc : Thread Cert.DownFwdRefIdeal.nD Cert.DownFwdRefIdeal.τ).loc Cert.DownFwdRefIdeal.main_arg3) = m ((c.tc : Thread Cert.DownFwdRefIdeal.nD Cert.DownFwdRefIdeal.τ).loc Cert.DownFwdRefIdeal.main_arg3)
      ∧ r.2.mem ((c.tc : Thread Cert.DownFwdRefIdeal.nD Cert.DownFwdRefIdeal.τ).loc Cert.DownFwdRefIdeal.main_arg4) = m ((c.tc : Thread Cert.DownFwdRefIdeal.nD Cert.DownFwdRefIdeal.τ).loc Cert.DownFwdRefIdeal.main_arg4))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4)
      ∧ r.2.mem ((c.tc : Thread Cert.OutFwd.nD Cert.OutFwd.τ).loc Cert.OutFwd.main_arg5) = m ((c.tc : Thread Cert.OutFwd.nD Cert.OutFwd.τ).loc Cert.OutFwd.main_arg5))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
      ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3)
      ∧ r.2.mem ((c.tc : Thread Cert.OutFwdRefIdeal.nD Cert.OutFwdRefIdeal.τ).loc Cert.OutFwdRefIdeal.main_arg4) = m ((c.tc : Thread Cert.OutFwdRefIdeal.nD Cert.OutFwdRefIdeal.τ).loc Cert.OutFwdRefIdeal.main_arg4)
      ∧ r.2.mem ((c.tc : Thread Cert.OutFwdRefIdeal.nD Cert.OutFwdRefIdeal.τ).loc Cert.OutFwdRefIdeal.main_arg5) = m ((c.tc : Thread Cert.OutFwdRefIdeal.nD Cert.OutFwdRefIdeal.τ).loc Cert.OutFwdRefIdeal.main_arg5))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1))
      ∧ r.2.sem = fun _ => 0)

def quiescent_SwishFwd [hSwishFwd : Cert.SwishFwd.Facts] : Prop :=
  ∀ (m : (ℓ : Loc Cert.SwishFwd.nD Cert.SwishFwd.τ Cert.SwishFwd.sig) → Buf (Elt Bits) ℓ) (g : Dev Cert.SwishFwd.nD → PrngReg), Pre_SwishFwd m →
    θ_run (Cert.SwishFwd.defs (F := Bits)) (onTc (τ := Cert.SwishFwd.τ) (Cert.SwishFwd.main (F := Bits))) ⟨m, fun _ => 0, g⟩ (fun r => (∀ c : Dev Cert.SwishFwd.nD,
      r.2.mem ((c.tc : Thread Cert.SwishFwd.nD Cert.SwishFwd.τ).loc Cert.SwishFwd.main_arg0) = m ((c.tc : Thread Cert.SwishFwd.nD Cert.SwishFwd.τ).loc Cert.SwishFwd.main_arg0)
      ∧ r.2.mem ((c.tc : Thread Cert.SwishFwd.nD Cert.SwishFwd.τ).loc Cert.SwishFwd.main_arg1) = m ((c.tc : Thread Cert.SwishFwd.nD Cert.SwishFwd.τ).loc Cert.SwishFwd.main_arg1)
      ∧ r.2.mem ((c.tc : Thread Cert.SwishFwd.nD Cert.SwishFwd.τ).loc Cert.SwishFwd.main_arg2) = m ((c.tc : Thread Cert.SwishFwd.nD Cert.SwishFwd.τ).loc Cert.SwishFwd.main_arg2))
      ∧ r.2.sem = fun _ => 0)

def quiescent_SwishFwdIdeal [hSwishFwdIdeal : Cert.SwishFwdIdeal.Facts] : Prop :=
  ∀ (m : (ℓ : Loc Cert.SwishFwdIdeal.nD Cert.SwishFwdIdeal.τ Cert.SwishFwdIdeal.sig) → Buf (Elt Ideal) ℓ) (g : Dev Cert.SwishFwdIdeal.nD → PrngReg), Pre_SwishFwdIdeal m →
    θ_run (Cert.SwishFwdIdeal.defs (F := Ideal)) (onTc (τ := Cert.SwishFwdIdeal.τ) (Cert.SwishFwdIdeal.main (F := Ideal))) ⟨m, fun _ => 0, g⟩ (fun r => (∀ c : Dev Cert.SwishFwdIdeal.nD,
      r.2.mem ((c.tc : Thread Cert.SwishFwdIdeal.nD Cert.SwishFwdIdeal.τ).loc Cert.SwishFwdIdeal.main_arg0) = m ((c.tc : Thread Cert.SwishFwdIdeal.nD Cert.SwishFwdIdeal.τ).loc Cert.SwishFwdIdeal.main_arg0)
      ∧ r.2.mem ((c.tc : Thread Cert.SwishFwdIdeal.nD Cert.SwishFwdIdeal.τ).loc Cert.SwishFwdIdeal.main_arg1) = m ((c.tc : Thread Cert.SwishFwdIdeal.nD Cert.SwishFwdIdeal.τ).loc Cert.SwishFwdIdeal.main_arg1)
      ∧ r.2.mem ((c.tc : Thread Cert.SwishFwdIdeal.nD Cert.SwishFwdIdeal.τ).loc Cert.SwishFwdIdeal.main_arg2) = m ((c.tc : Thread Cert.SwishFwdIdeal.nD Cert.SwishFwdIdeal.τ).loc Cert.SwishFwdIdeal.main_arg2))
      ∧ r.2.sem = fun _ => 0)

def quiescent_SwishFwdRefIdeal [hSwishFwdRefIdeal : Cert.SwishFwdRefIdeal.Facts] : Prop :=
  ∀ (m : (ℓ : Loc Cert.SwishFwdRefIdeal.nD Cert.SwishFwdRefIdeal.τ Cert.SwishFwdRefIdeal.sig) → Buf (Elt Ideal) ℓ) (g : Dev Cert.SwishFwdRefIdeal.nD → PrngReg), Pre_SwishFwdRefIdeal m →
    θ_run (Cert.SwishFwdRefIdeal.defs (F := Ideal)) (onTc (τ := Cert.SwishFwdRefIdeal.τ) (Cert.SwishFwdRefIdeal.main (F := Ideal))) ⟨m, fun _ => 0, g⟩ (fun r => (∀ c : Dev Cert.SwishFwdRefIdeal.nD,
      r.2.mem ((c.tc : Thread Cert.SwishFwdRefIdeal.nD Cert.SwishFwdRefIdeal.τ).loc Cert.SwishFwdRefIdeal.main_arg0) = m ((c.tc : Thread Cert.SwishFwdRefIdeal.nD Cert.SwishFwdRefIdeal.τ).loc Cert.SwishFwdRefIdeal.main_arg0)
      ∧ r.2.mem ((c.tc : Thread Cert.SwishFwdRefIdeal.nD Cert.SwishFwdRefIdeal.τ).loc Cert.SwishFwdRefIdeal.main_arg1) = m ((c.tc : Thread Cert.SwishFwdRefIdeal.nD Cert.SwishFwdRefIdeal.τ).loc Cert.SwishFwdRefIdeal.main_arg1)
      ∧ r.2.mem ((c.tc : Thread Cert.SwishFwdRefIdeal.nD Cert.SwishFwdRefIdeal.τ).loc Cert.SwishFwdRefIdeal.main_arg2) = m ((c.tc : Thread Cert.SwishFwdRefIdeal.nD Cert.SwishFwdRefIdeal.τ).loc Cert.SwishFwdRefIdeal.main_arg2))
      ∧ r.2.sem = fun _ => 0)

def quiescent_LatentsFwd [hLatentsFwd : Cert.LatentsFwd.Facts] : Prop :=
  ∀ (m : (ℓ : Loc Cert.LatentsFwd.nD Cert.LatentsFwd.τ Cert.LatentsFwd.sig) → Buf (Elt Bits) ℓ) (g : Dev Cert.LatentsFwd.nD → PrngReg), Pre_LatentsFwd m →
    θ_run (Cert.LatentsFwd.defs (F := Bits)) (onTc (τ := Cert.LatentsFwd.τ) (Cert.LatentsFwd.main (F := Bits))) ⟨m, fun _ => 0, g⟩ (fun r => (∀ c : Dev Cert.LatentsFwd.nD,
      r.2.mem ((c.tc : Thread Cert.LatentsFwd.nD Cert.LatentsFwd.τ).loc Cert.LatentsFwd.main_arg0) = m ((c.tc : Thread Cert.LatentsFwd.nD Cert.LatentsFwd.τ).loc Cert.LatentsFwd.main_arg0)
      ∧ r.2.mem ((c.tc : Thread Cert.LatentsFwd.nD Cert.LatentsFwd.τ).loc Cert.LatentsFwd.main_arg1) = m ((c.tc : Thread Cert.LatentsFwd.nD Cert.LatentsFwd.τ).loc Cert.LatentsFwd.main_arg1)
      ∧ r.2.mem ((c.tc : Thread Cert.LatentsFwd.nD Cert.LatentsFwd.τ).loc Cert.LatentsFwd.main_arg2) = m ((c.tc : Thread Cert.LatentsFwd.nD Cert.LatentsFwd.τ).loc Cert.LatentsFwd.main_arg2)
      ∧ r.2.mem ((c.tc : Thread Cert.LatentsFwd.nD Cert.LatentsFwd.τ).loc Cert.LatentsFwd.main_arg3) = m ((c.tc : Thread Cert.LatentsFwd.nD Cert.LatentsFwd.τ).loc Cert.LatentsFwd.main_arg3))
      ∧ r.2.sem = fun _ => 0)

def quiescent_LatentsFwdIdeal [hLatentsFwdIdeal : Cert.LatentsFwdIdeal.Facts] : Prop :=
  ∀ (m : (ℓ : Loc Cert.LatentsFwdIdeal.nD Cert.LatentsFwdIdeal.τ Cert.LatentsFwdIdeal.sig) → Buf (Elt Ideal) ℓ) (g : Dev Cert.LatentsFwdIdeal.nD → PrngReg), Pre_LatentsFwdIdeal m →
    θ_run (Cert.LatentsFwdIdeal.defs (F := Ideal)) (onTc (τ := Cert.LatentsFwdIdeal.τ) (Cert.LatentsFwdIdeal.main (F := Ideal))) ⟨m, fun _ => 0, g⟩ (fun r => (∀ c : Dev Cert.LatentsFwdIdeal.nD,
      r.2.mem ((c.tc : Thread Cert.LatentsFwdIdeal.nD Cert.LatentsFwdIdeal.τ).loc Cert.LatentsFwdIdeal.main_arg0) = m ((c.tc : Thread Cert.LatentsFwdIdeal.nD Cert.LatentsFwdIdeal.τ).loc Cert.LatentsFwdIdeal.main_arg0)
      ∧ r.2.mem ((c.tc : Thread Cert.LatentsFwdIdeal.nD Cert.LatentsFwdIdeal.τ).loc Cert.LatentsFwdIdeal.main_arg1) = m ((c.tc : Thread Cert.LatentsFwdIdeal.nD Cert.LatentsFwdIdeal.τ).loc Cert.LatentsFwdIdeal.main_arg1)
      ∧ r.2.mem ((c.tc : Thread Cert.LatentsFwdIdeal.nD Cert.LatentsFwdIdeal.τ).loc Cert.LatentsFwdIdeal.main_arg2) = m ((c.tc : Thread Cert.LatentsFwdIdeal.nD Cert.LatentsFwdIdeal.τ).loc Cert.LatentsFwdIdeal.main_arg2)
      ∧ r.2.mem ((c.tc : Thread Cert.LatentsFwdIdeal.nD Cert.LatentsFwdIdeal.τ).loc Cert.LatentsFwdIdeal.main_arg3) = m ((c.tc : Thread Cert.LatentsFwdIdeal.nD Cert.LatentsFwdIdeal.τ).loc Cert.LatentsFwdIdeal.main_arg3))
      ∧ r.2.sem = fun _ => 0)

def quiescent_LatentsFwdRefIdeal [hLatentsFwdRefIdeal : Cert.LatentsFwdRefIdeal.Facts] : Prop :=
  ∀ (m : (ℓ : Loc Cert.LatentsFwdRefIdeal.nD Cert.LatentsFwdRefIdeal.τ Cert.LatentsFwdRefIdeal.sig) → Buf (Elt Ideal) ℓ) (g : Dev Cert.LatentsFwdRefIdeal.nD → PrngReg), Pre_LatentsFwdRefIdeal m →
    θ_run (Cert.LatentsFwdRefIdeal.defs (F := Ideal)) (onTc (τ := Cert.LatentsFwdRefIdeal.τ) (Cert.LatentsFwdRefIdeal.main (F := Ideal))) ⟨m, fun _ => 0, g⟩ (fun r => (∀ c : Dev Cert.LatentsFwdRefIdeal.nD,
      r.2.mem ((c.tc : Thread Cert.LatentsFwdRefIdeal.nD Cert.LatentsFwdRefIdeal.τ).loc Cert.LatentsFwdRefIdeal.main_arg0) = m ((c.tc : Thread Cert.LatentsFwdRefIdeal.nD Cert.LatentsFwdRefIdeal.τ).loc Cert.LatentsFwdRefIdeal.main_arg0)
      ∧ r.2.mem ((c.tc : Thread Cert.LatentsFwdRefIdeal.nD Cert.LatentsFwdRefIdeal.τ).loc Cert.LatentsFwdRefIdeal.main_arg1) = m ((c.tc : Thread Cert.LatentsFwdRefIdeal.nD Cert.LatentsFwdRefIdeal.τ).loc Cert.LatentsFwdRefIdeal.main_arg1)
      ∧ r.2.mem ((c.tc : Thread Cert.LatentsFwdRefIdeal.nD Cert.LatentsFwdRefIdeal.τ).loc Cert.LatentsFwdRefIdeal.main_arg2) = m ((c.tc : Thread Cert.LatentsFwdRefIdeal.nD Cert.LatentsFwdRefIdeal.τ).loc Cert.LatentsFwdRefIdeal.main_arg2)
      ∧ r.2.mem ((c.tc : Thread Cert.LatentsFwdRefIdeal.nD Cert.LatentsFwdRefIdeal.τ).loc Cert.LatentsFwdRefIdeal.main_arg3) = m ((c.tc : Thread Cert.LatentsFwdRefIdeal.nD Cert.LatentsFwdRefIdeal.τ).loc Cert.LatentsFwdRefIdeal.main_arg3))
      ∧ r.2.sem = fun _ => 0)

def quiescent_QueriesFwd [hQueriesFwd : Cert.QueriesFwd.Facts] : Prop :=
  ∀ (m : (ℓ : Loc Cert.QueriesFwd.nD Cert.QueriesFwd.τ Cert.QueriesFwd.sig) → Buf (Elt Bits) ℓ) (g : Dev Cert.QueriesFwd.nD → PrngReg), Pre_QueriesFwd m →
    θ_run (Cert.QueriesFwd.defs (F := Bits)) (onTc (τ := Cert.QueriesFwd.τ) (Cert.QueriesFwd.main (F := Bits))) ⟨m, fun _ => 0, g⟩ (fun r => (∀ c : Dev Cert.QueriesFwd.nD,
      r.2.mem ((c.tc : Thread Cert.QueriesFwd.nD Cert.QueriesFwd.τ).loc Cert.QueriesFwd.main_arg0) = m ((c.tc : Thread Cert.QueriesFwd.nD Cert.QueriesFwd.τ).loc Cert.QueriesFwd.main_arg0)
      ∧ r.2.mem ((c.tc : Thread Cert.QueriesFwd.nD Cert.QueriesFwd.τ).loc Cert.QueriesFwd.main_arg1) = m ((c.tc : Thread Cert.QueriesFwd.nD Cert.QueriesFwd.τ).loc Cert.QueriesFwd.main_arg1))
      ∧ r.2.sem = fun _ => 0)

def quiescent_QueriesFwdIdeal [hQueriesFwdIdeal : Cert.QueriesFwdIdeal.Facts] : Prop :=
  ∀ (m : (ℓ : Loc Cert.QueriesFwdIdeal.nD Cert.QueriesFwdIdeal.τ Cert.QueriesFwdIdeal.sig) → Buf (Elt Ideal) ℓ) (g : Dev Cert.QueriesFwdIdeal.nD → PrngReg), Pre_QueriesFwdIdeal m →
    θ_run (Cert.QueriesFwdIdeal.defs (F := Ideal)) (onTc (τ := Cert.QueriesFwdIdeal.τ) (Cert.QueriesFwdIdeal.main (F := Ideal))) ⟨m, fun _ => 0, g⟩ (fun r => (∀ c : Dev Cert.QueriesFwdIdeal.nD,
      r.2.mem ((c.tc : Thread Cert.QueriesFwdIdeal.nD Cert.QueriesFwdIdeal.τ).loc Cert.QueriesFwdIdeal.main_arg0) = m ((c.tc : Thread Cert.QueriesFwdIdeal.nD Cert.QueriesFwdIdeal.τ).loc Cert.QueriesFwdIdeal.main_arg0)
      ∧ r.2.mem ((c.tc : Thread Cert.QueriesFwdIdeal.nD Cert.QueriesFwdIdeal.τ).loc Cert.QueriesFwdIdeal.main_arg1) = m ((c.tc : Thread Cert.QueriesFwdIdeal.nD Cert.QueriesFwdIdeal.τ).loc Cert.QueriesFwdIdeal.main_arg1))
      ∧ r.2.sem = fun _ => 0)

def quiescent_QueriesFwdRefIdeal [hQueriesFwdRefIdeal : Cert.QueriesFwdRefIdeal.Facts] : Prop :=
  ∀ (m : (ℓ : Loc Cert.QueriesFwdRefIdeal.nD Cert.QueriesFwdRefIdeal.τ Cert.QueriesFwdRefIdeal.sig) → Buf (Elt Ideal) ℓ) (g : Dev Cert.QueriesFwdRefIdeal.nD → PrngReg), Pre_QueriesFwdRefIdeal m →
    θ_run (Cert.QueriesFwdRefIdeal.defs (F := Ideal)) (onTc (τ := Cert.QueriesFwdRefIdeal.τ) (Cert.QueriesFwdRefIdeal.main (F := Ideal))) ⟨m, fun _ => 0, g⟩ (fun r => (∀ c : Dev Cert.QueriesFwdRefIdeal.nD,
      r.2.mem ((c.tc : Thread Cert.QueriesFwdRefIdeal.nD Cert.QueriesFwdRefIdeal.τ).loc Cert.QueriesFwdRefIdeal.main_arg0) = m ((c.tc : Thread Cert.QueriesFwdRefIdeal.nD Cert.QueriesFwdRefIdeal.τ).loc Cert.QueriesFwdRefIdeal.main_arg0)
      ∧ r.2.mem ((c.tc : Thread Cert.QueriesFwdRefIdeal.nD Cert.QueriesFwdRefIdeal.τ).loc Cert.QueriesFwdRefIdeal.main_arg1) = m ((c.tc : Thread Cert.QueriesFwdRefIdeal.nD Cert.QueriesFwdRefIdeal.τ).loc Cert.QueriesFwdRefIdeal.main_arg1))
      ∧ r.2.sem = fun _ => 0)

def quiescent_KeysFwd [hKeysFwd : Cert.KeysFwd.Facts] : Prop :=
  ∀ (m : (ℓ : Loc Cert.KeysFwd.nD Cert.KeysFwd.τ Cert.KeysFwd.sig) → Buf (Elt Bits) ℓ) (g : Dev Cert.KeysFwd.nD → PrngReg), Pre_KeysFwd m →
    θ_run (Cert.KeysFwd.defs (F := Bits)) (onTc (τ := Cert.KeysFwd.τ) (Cert.KeysFwd.main (F := Bits))) ⟨m, fun _ => 0, g⟩ (fun r => (∀ c : Dev Cert.KeysFwd.nD,
      r.2.mem ((c.tc : Thread Cert.KeysFwd.nD Cert.KeysFwd.τ).loc Cert.KeysFwd.main_arg0) = m ((c.tc : Thread Cert.KeysFwd.nD Cert.KeysFwd.τ).loc Cert.KeysFwd.main_arg0)
      ∧ r.2.mem ((c.tc : Thread Cert.KeysFwd.nD Cert.KeysFwd.τ).loc Cert.KeysFwd.main_arg1) = m ((c.tc : Thread Cert.KeysFwd.nD Cert.KeysFwd.τ).loc Cert.KeysFwd.main_arg1)
      ∧ r.2.mem ((c.tc : Thread Cert.KeysFwd.nD Cert.KeysFwd.τ).loc Cert.KeysFwd.main_arg2) = m ((c.tc : Thread Cert.KeysFwd.nD Cert.KeysFwd.τ).loc Cert.KeysFwd.main_arg2))
      ∧ r.2.sem = fun _ => 0)

def quiescent_KeysFwdIdeal [hKeysFwdIdeal : Cert.KeysFwdIdeal.Facts] : Prop :=
  ∀ (m : (ℓ : Loc Cert.KeysFwdIdeal.nD Cert.KeysFwdIdeal.τ Cert.KeysFwdIdeal.sig) → Buf (Elt Ideal) ℓ) (g : Dev Cert.KeysFwdIdeal.nD → PrngReg), Pre_KeysFwdIdeal m →
    θ_run (Cert.KeysFwdIdeal.defs (F := Ideal)) (onTc (τ := Cert.KeysFwdIdeal.τ) (Cert.KeysFwdIdeal.main (F := Ideal))) ⟨m, fun _ => 0, g⟩ (fun r => (∀ c : Dev Cert.KeysFwdIdeal.nD,
      r.2.mem ((c.tc : Thread Cert.KeysFwdIdeal.nD Cert.KeysFwdIdeal.τ).loc Cert.KeysFwdIdeal.main_arg0) = m ((c.tc : Thread Cert.KeysFwdIdeal.nD Cert.KeysFwdIdeal.τ).loc Cert.KeysFwdIdeal.main_arg0)
      ∧ r.2.mem ((c.tc : Thread Cert.KeysFwdIdeal.nD Cert.KeysFwdIdeal.τ).loc Cert.KeysFwdIdeal.main_arg1) = m ((c.tc : Thread Cert.KeysFwdIdeal.nD Cert.KeysFwdIdeal.τ).loc Cert.KeysFwdIdeal.main_arg1)
      ∧ r.2.mem ((c.tc : Thread Cert.KeysFwdIdeal.nD Cert.KeysFwdIdeal.τ).loc Cert.KeysFwdIdeal.main_arg2) = m ((c.tc : Thread Cert.KeysFwdIdeal.nD Cert.KeysFwdIdeal.τ).loc Cert.KeysFwdIdeal.main_arg2))
      ∧ r.2.sem = fun _ => 0)

def quiescent_KeysFwdRefIdeal [hKeysFwdRefIdeal : Cert.KeysFwdRefIdeal.Facts] : Prop :=
  ∀ (m : (ℓ : Loc Cert.KeysFwdRefIdeal.nD Cert.KeysFwdRefIdeal.τ Cert.KeysFwdRefIdeal.sig) → Buf (Elt Ideal) ℓ) (g : Dev Cert.KeysFwdRefIdeal.nD → PrngReg), Pre_KeysFwdRefIdeal m →
    θ_run (Cert.KeysFwdRefIdeal.defs (F := Ideal)) (onTc (τ := Cert.KeysFwdRefIdeal.τ) (Cert.KeysFwdRefIdeal.main (F := Ideal))) ⟨m, fun _ => 0, g⟩ (fun r => (∀ c : Dev Cert.KeysFwdRefIdeal.nD,
      r.2.mem ((c.tc : Thread Cert.KeysFwdRefIdeal.nD Cert.KeysFwdRefIdeal.τ).loc Cert.KeysFwdRefIdeal.main_arg0) = m ((c.tc : Thread Cert.KeysFwdRefIdeal.nD Cert.KeysFwdRefIdeal.τ).loc Cert.KeysFwdRefIdeal.main_arg0)
      ∧ r.2.mem ((c.tc : Thread Cert.KeysFwdRefIdeal.nD Cert.KeysFwdRefIdeal.τ).loc Cert.KeysFwdRefIdeal.main_arg1) = m ((c.tc : Thread Cert.KeysFwdRefIdeal.nD Cert.KeysFwdRefIdeal.τ).loc Cert.KeysFwdRefIdeal.main_arg1)
      ∧ r.2.mem ((c.tc : Thread Cert.KeysFwdRefIdeal.nD Cert.KeysFwdRefIdeal.τ).loc Cert.KeysFwdRefIdeal.main_arg2) = m ((c.tc : Thread Cert.KeysFwdRefIdeal.nD Cert.KeysFwdRefIdeal.τ).loc Cert.KeysFwdRefIdeal.main_arg2))
      ∧ r.2.sem = fun _ => 0)

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1)
      ∧ r.2.mem ((c.tc : Thread Cert.GluBwd.nD Cert.GluBwd.τ).loc Cert.GluBwd.main_arg2) = m ((c.tc : Thread Cert.GluBwd.nD Cert.GluBwd.τ).loc Cert.GluBwd.main_arg2))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
      ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1)
      ∧ r.2.mem ((c.tc : Thread Cert.GluFwdRefIdeal.nD Cert.GluFwdRefIdeal.τ).loc Cert.GluFwdRefIdeal.main_arg2) = m ((c.tc : Thread Cert.GluFwdRefIdeal.nD Cert.GluFwdRefIdeal.τ).loc Cert.GluFwdRefIdeal.main_arg2))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1))
      ∧ r.2.sem = fun _ => 0)

def quiescent_ToInBwd [hToInBwd : Cert.ToInBwd.Facts] : Prop :=
  ∀ (m : (ℓ : Loc Cert.ToInBwd.nD Cert.ToInBwd.τ Cert.ToInBwd.sig) → Buf (Elt Bits) ℓ) (g : Dev Cert.ToInBwd.nD → PrngReg), Pre_ToInBwd m →
    θ_run (Cert.ToInBwd.defs (F := Bits)) (onTc (τ := Cert.ToInBwd.τ) (Cert.ToInBwd.main (F := Bits))) ⟨m, fun _ => 0, g⟩ (fun r => (∀ c : Dev Cert.ToInBwd.nD,
      r.2.mem ((c.tc : Thread Cert.ToInBwd.nD Cert.ToInBwd.τ).loc Cert.ToInBwd.main_arg0) = m ((c.tc : Thread Cert.ToInBwd.nD Cert.ToInBwd.τ).loc Cert.ToInBwd.main_arg0)
      ∧ r.2.mem ((c.tc : Thread Cert.ToInBwd.nD Cert.ToInBwd.τ).loc Cert.ToInBwd.main_arg1) = m ((c.tc : Thread Cert.ToInBwd.nD Cert.ToInBwd.τ).loc Cert.ToInBwd.main_arg1)
      ∧ r.2.mem ((c.tc : Thread Cert.ToInBwd.nD Cert.ToInBwd.τ).loc Cert.ToInBwd.main_arg2) = m ((c.tc : Thread Cert.ToInBwd.nD Cert.ToInBwd.τ).loc Cert.ToInBwd.main_arg2))
      ∧ r.2.sem = fun _ => 0)

def quiescent_ToInBwdIdeal [hToInBwdIdeal : Cert.ToInBwdIdeal.Facts] : Prop :=
  ∀ (m : (ℓ : Loc Cert.ToInBwdIdeal.nD Cert.ToInBwdIdeal.τ Cert.ToInBwdIdeal.sig) → Buf (Elt Ideal) ℓ) (g : Dev Cert.ToInBwdIdeal.nD → PrngReg), Pre_ToInBwdIdeal m →
    θ_run (Cert.ToInBwdIdeal.defs (F := Ideal)) (onTc (τ := Cert.ToInBwdIdeal.τ) (Cert.ToInBwdIdeal.main (F := Ideal))) ⟨m, fun _ => 0, g⟩ (fun r => (∀ c : Dev Cert.ToInBwdIdeal.nD,
      r.2.mem ((c.tc : Thread Cert.ToInBwdIdeal.nD Cert.ToInBwdIdeal.τ).loc Cert.ToInBwdIdeal.main_arg0) = m ((c.tc : Thread Cert.ToInBwdIdeal.nD Cert.ToInBwdIdeal.τ).loc Cert.ToInBwdIdeal.main_arg0)
      ∧ r.2.mem ((c.tc : Thread Cert.ToInBwdIdeal.nD Cert.ToInBwdIdeal.τ).loc Cert.ToInBwdIdeal.main_arg1) = m ((c.tc : Thread Cert.ToInBwdIdeal.nD Cert.ToInBwdIdeal.τ).loc Cert.ToInBwdIdeal.main_arg1)
      ∧ r.2.mem ((c.tc : Thread Cert.ToInBwdIdeal.nD Cert.ToInBwdIdeal.τ).loc Cert.ToInBwdIdeal.main_arg2) = m ((c.tc : Thread Cert.ToInBwdIdeal.nD Cert.ToInBwdIdeal.τ).loc Cert.ToInBwdIdeal.main_arg2))
      ∧ r.2.sem = fun _ => 0)

def quiescent_ToInBwdRefIdeal [hToInBwdRefIdeal : Cert.ToInBwdRefIdeal.Facts] : Prop :=
  ∀ (m : (ℓ : Loc Cert.ToInBwdRefIdeal.nD Cert.ToInBwdRefIdeal.τ Cert.ToInBwdRefIdeal.sig) → Buf (Elt Ideal) ℓ) (g : Dev Cert.ToInBwdRefIdeal.nD → PrngReg), Pre_ToInBwdRefIdeal m →
    θ_run (Cert.ToInBwdRefIdeal.defs (F := Ideal)) (onTc (τ := Cert.ToInBwdRefIdeal.τ) (Cert.ToInBwdRefIdeal.main (F := Ideal))) ⟨m, fun _ => 0, g⟩ (fun r => (∀ c : Dev Cert.ToInBwdRefIdeal.nD,
      r.2.mem ((c.tc : Thread Cert.ToInBwdRefIdeal.nD Cert.ToInBwdRefIdeal.τ).loc Cert.ToInBwdRefIdeal.main_arg0) = m ((c.tc : Thread Cert.ToInBwdRefIdeal.nD Cert.ToInBwdRefIdeal.τ).loc Cert.ToInBwdRefIdeal.main_arg0)
      ∧ r.2.mem ((c.tc : Thread Cert.ToInBwdRefIdeal.nD Cert.ToInBwdRefIdeal.τ).loc Cert.ToInBwdRefIdeal.main_arg1) = m ((c.tc : Thread Cert.ToInBwdRefIdeal.nD Cert.ToInBwdRefIdeal.τ).loc Cert.ToInBwdRefIdeal.main_arg1)
      ∧ r.2.mem ((c.tc : Thread Cert.ToInBwdRefIdeal.nD Cert.ToInBwdRefIdeal.τ).loc Cert.ToInBwdRefIdeal.main_arg2) = m ((c.tc : Thread Cert.ToInBwdRefIdeal.nD Cert.ToInBwdRefIdeal.τ).loc Cert.ToInBwdRefIdeal.main_arg2))
      ∧ r.2.sem = fun _ => 0)

def preserves_ScBwd_ScBwdIdeal : Prop :=
  True

def algebraic_ScBwdIdeal_ScBwdRefIdeal [hScBwdIdeal : Cert.ScBwdIdeal.Facts] [hScBwdRefIdeal : Cert.ScBwdRefIdeal.Facts] : Prop :=
  ∀ (m : (ℓ : Loc Cert.ScBwdIdeal.nD Cert.ScBwdIdeal.τ Cert.ScBwdIdeal.sig) → Buf (Elt Ideal) ℓ) (g : Dev Cert.ScBwdIdeal.nD → PrngReg)
    (m' : (ℓ : Loc Cert.ScBwdRefIdeal.nD Cert.ScBwdRefIdeal.τ Cert.ScBwdRefIdeal.sig) → Buf (Elt Ideal) ℓ) (g' : Dev Cert.ScBwdRefIdeal.nD → PrngReg), Pre_ScBwdIdeal m →
    (∀ c : Dev Cert.ScBwdIdeal.nD,
      m' ((c.tc : Thread Cert.ScBwdRefIdeal.nD Cert.ScBwdRefIdeal.τ).loc Cert.ScBwdRefIdeal.main_arg0) = m ((c.tc : Thread Cert.ScBwdIdeal.nD Cert.ScBwdIdeal.τ).loc Cert.ScBwdIdeal.main_arg0)
      ∧ m' ((c.tc : Thread Cert.ScBwdRefIdeal.nD Cert.ScBwdRefIdeal.τ).loc Cert.ScBwdRefIdeal.main_arg1) = m ((c.tc : Thread Cert.ScBwdIdeal.nD Cert.ScBwdIdeal.τ).loc Cert.ScBwdIdeal.main_arg1)
      ∧ m' ((c.tc : Thread Cert.ScBwdRefIdeal.nD Cert.ScBwdRefIdeal.τ).loc Cert.ScBwdRefIdeal.main_arg2) = m ((c.tc : Thread Cert.ScBwdIdeal.nD Cert.ScBwdIdeal.τ).loc Cert.ScBwdIdeal.main_arg2)) →
    ∃ (v0 : (c : Dev Cert.ScBwdIdeal.nD) → Buf (Elt Ideal) ((c.tc : Thread Cert.ScBwdIdeal.nD Cert.ScBwdIdeal.τ).loc Cert.ScBwdIdeal.main_v0_0)) (v1 : (c : Dev Cert.ScBwdIdeal.nD) → Buf (Elt Ideal) ((c.tc : Thread Cert.ScBwdIdeal.nD Cert.ScBwdIdeal.τ).loc Cert.ScBwdIdeal.main_v0_1)),
      θ_run (Cert.ScBwdIdeal.defs (F := Ideal)) (onTc (τ := Cert.ScBwdIdeal.τ) (Cert.ScBwdIdeal.main (F := Ideal))) ⟨m, fun _ => 0, g⟩ (fun r => ∀ c : Dev Cert.ScBwdIdeal.nD,
          r.2.mem ((c.tc : Thread Cert.ScBwdIdeal.nD Cert.ScBwdIdeal.τ).loc Cert.ScBwdIdeal.main_v0_0) = v0 c
          ∧ r.2.mem ((c.tc : Thread Cert.ScBwdIdeal.nD Cert.ScBwdIdeal.τ).loc Cert.ScBwdIdeal.main_v0_1) = v1 c
          ∧ r.2.mem ((c.tc : Thread Cert.ScBwdIdeal.nD Cert.ScBwdIdeal.τ).loc Cert.ScBwdIdeal.main_arg0) = m ((c.tc : Thread Cert.ScBwdIdeal.nD Cert.ScBwdIdeal.τ).loc Cert.ScBwdIdeal.main_arg0)
          ∧ r.2.mem ((c.tc : Thread Cert.ScBwdIdeal.nD Cert.ScBwdIdeal.τ).loc Cert.ScBwdIdeal.main_arg1) = m ((c.tc : Thread Cert.ScBwdIdeal.nD Cert.ScBwdIdeal.τ).loc Cert.ScBwdIdeal.main_arg1)
          ∧ r.2.mem ((c.tc : Thread Cert.ScBwdIdeal.nD Cert.ScBwdIdeal.τ).loc Cert.ScBwdIdeal.main_arg2) = m ((c.tc : Thread Cert.ScBwdIdeal.nD Cert.ScBwdIdeal.τ).loc Cert.ScBwdIdeal.main_arg2))
      ∧ θ_run (Cert.ScBwdRefIdeal.defs (F := Ideal)) (onTc (τ := Cert.ScBwdRefIdeal.τ) (Cert.ScBwdRefIdeal.main (F := Ideal))) ⟨m', fun _ => 0, g'⟩ (fun r => ∀ c : Dev Cert.ScBwdRefIdeal.nD,
          r.2.mem ((c.tc : Thread Cert.ScBwdRefIdeal.nD Cert.ScBwdRefIdeal.τ).loc Cert.ScBwdRefIdeal.main_v75) = v0 c
          ∧ r.2.mem ((c.tc : Thread Cert.ScBwdRefIdeal.nD Cert.ScBwdRefIdeal.τ).loc Cert.ScBwdRefIdeal.main_v62) = v1 c
          ∧ r.2.mem ((c.tc : Thread Cert.ScBwdRefIdeal.nD Cert.ScBwdRefIdeal.τ).loc Cert.ScBwdRefIdeal.main_arg0) = m' ((c.tc : Thread Cert.ScBwdRefIdeal.nD Cert.ScBwdRefIdeal.τ).loc Cert.ScBwdRefIdeal.main_arg0)
          ∧ r.2.mem ((c.tc : Thread Cert.ScBwdRefIdeal.nD Cert.ScBwdRefIdeal.τ).loc Cert.ScBwdRefIdeal.main_arg1) = m' ((c.tc : Thread Cert.ScBwdRefIdeal.nD Cert.ScBwdRefIdeal.τ).loc Cert.ScBwdRefIdeal.main_arg1)
          ∧ r.2.mem ((c.tc : Thread Cert.ScBwdRefIdeal.nD Cert.ScBwdRefIdeal.τ).loc Cert.ScBwdRefIdeal.main_arg2) = m' ((c.tc : Thread Cert.ScBwdRefIdeal.nD Cert.ScBwdRefIdeal.τ).loc Cert.ScBwdRefIdeal.main_arg2))

def preserves_UnropeBwd_UnropeBwdIdeal : Prop :=
  True

def algebraic_UnropeBwdIdeal_UnropeBwdRefIdeal [hUnropeBwdIdeal : Cert.UnropeBwdIdeal.Facts] [hUnropeBwdRefIdeal : Cert.UnropeBwdRefIdeal.Facts] : Prop :=
  ∀ (m : (ℓ : Loc Cert.UnropeBwdIdeal.nD Cert.UnropeBwdIdeal.τ Cert.UnropeBwdIdeal.sig) → Buf (Elt Ideal) ℓ) (g : Dev Cert.UnropeBwdIdeal.nD → PrngReg)
    (m' : (ℓ : Loc Cert.UnropeBwdRefIdeal.nD Cert.UnropeBwdRefIdeal.τ Cert.UnropeBwdRefIdeal.sig) → Buf (Elt Ideal) ℓ) (g' : Dev Cert.UnropeBwdRefIdeal.nD → PrngReg), Pre_UnropeBwdIdeal m →
    (∀ c : Dev Cert.UnropeBwdIdeal.nD,
      m' ((c.tc : Thread Cert.UnropeBwdRefIdeal.nD Cert.UnropeBwdRefIdeal.τ).loc Cert.UnropeBwdRefIdeal.main_arg0) = m ((c.tc : Thread Cert.UnropeBwdIdeal.nD Cert.UnropeBwdIdeal.τ).loc Cert.UnropeBwdIdeal.main_arg0)
      ∧ m' ((c.tc : Thread Cert.UnropeBwdRefIdeal.nD Cert.UnropeBwdRefIdeal.τ).loc Cert.UnropeBwdRefIdeal.main_arg1) = m ((c.tc : Thread Cert.UnropeBwdIdeal.nD Cert.UnropeBwdIdeal.τ).loc Cert.UnropeBwdIdeal.main_arg1)) →
    ∃ (v0 : (c : Dev Cert.UnropeBwdIdeal.nD) → Buf (Elt Ideal) ((c.tc : Thread Cert.UnropeBwdIdeal.nD Cert.UnropeBwdIdeal.τ).loc Cert.UnropeBwdIdeal.main_v28_0)) (v1 : (c : Dev Cert.UnropeBwdIdeal.nD) → Buf (Elt Ideal) ((c.tc : Thread Cert.UnropeBwdIdeal.nD Cert.UnropeBwdIdeal.τ).loc Cert.UnropeBwdIdeal.main_v28_1)) (v2 : (c : Dev Cert.UnropeBwdIdeal.nD) → Buf (Elt Ideal) ((c.tc : Thread Cert.UnropeBwdIdeal.nD Cert.UnropeBwdIdeal.τ).loc Cert.UnropeBwdIdeal.main_v28_2)),
      θ_run (Cert.UnropeBwdIdeal.defs (F := Ideal)) (onTc (τ := Cert.UnropeBwdIdeal.τ) (Cert.UnropeBwdIdeal.main (F := Ideal))) ⟨m, fun _ => 0, g⟩ (fun r => ∀ c : Dev Cert.UnropeBwdIdeal.nD,
          r.2.mem ((c.tc : Thread Cert.UnropeBwdIdeal.nD Cert.UnropeBwdIdeal.τ).loc Cert.UnropeBwdIdeal.main_v28_0) = v0 c
          ∧ r.2.mem ((c.tc : Thread Cert.UnropeBwdIdeal.nD Cert.UnropeBwdIdeal.τ).loc Cert.UnropeBwdIdeal.main_v28_1) = v1 c
          ∧ r.2.mem ((c.tc : Thread Cert.UnropeBwdIdeal.nD Cert.UnropeBwdIdeal.τ).loc Cert.UnropeBwdIdeal.main_v28_2) = v2 c
          ∧ r.2.mem ((c.tc : Thread Cert.UnropeBwdIdeal.nD Cert.UnropeBwdIdeal.τ).loc Cert.UnropeBwdIdeal.main_arg0) = m ((c.tc : Thread Cert.UnropeBwdIdeal.nD Cert.UnropeBwdIdeal.τ).loc Cert.UnropeBwdIdeal.main_arg0)
          ∧ r.2.mem ((c.tc : Thread Cert.UnropeBwdIdeal.nD Cert.UnropeBwdIdeal.τ).loc Cert.UnropeBwdIdeal.main_arg1) = m ((c.tc : Thread Cert.UnropeBwdIdeal.nD Cert.UnropeBwdIdeal.τ).loc Cert.UnropeBwdIdeal.main_arg1))
      ∧ θ_run (Cert.UnropeBwdRefIdeal.defs (F := Ideal)) (onTc (τ := Cert.UnropeBwdRefIdeal.τ) (Cert.UnropeBwdRefIdeal.main (F := Ideal))) ⟨m', fun _ => 0, g'⟩ (fun r => ∀ c : Dev Cert.UnropeBwdRefIdeal.nD,
          r.2.mem ((c.tc : Thread Cert.UnropeBwdRefIdeal.nD Cert.UnropeBwdRefIdeal.τ).loc Cert.UnropeBwdRefIdeal.main_v68) = v0 c
          ∧ r.2.mem ((c.tc : Thread Cert.UnropeBwdRefIdeal.nD Cert.UnropeBwdRefIdeal.τ).loc Cert.UnropeBwdRefIdeal.main_v70) = v1 c
          ∧ r.2.mem ((c.tc : Thread Cert.UnropeBwdRefIdeal.nD Cert.UnropeBwdRefIdeal.τ).loc Cert.UnropeBwdRefIdeal.main_v71) = v2 c
          ∧ r.2.mem ((c.tc : Thread Cert.UnropeBwdRefIdeal.nD Cert.UnropeBwdRefIdeal.τ).loc Cert.UnropeBwdRefIdeal.main_arg0) = m' ((c.tc : Thread Cert.UnropeBwdRefIdeal.nD Cert.UnropeBwdRefIdeal.τ).loc Cert.UnropeBwdRefIdeal.main_arg0)
          ∧ r.2.mem ((c.tc : Thread Cert.UnropeBwdRefIdeal.nD Cert.UnropeBwdRefIdeal.τ).loc Cert.UnropeBwdRefIdeal.main_arg1) = m' ((c.tc : Thread Cert.UnropeBwdRefIdeal.nD Cert.UnropeBwdRefIdeal.τ).loc Cert.UnropeBwdRefIdeal.main_arg1))

def preserves_DownBwd_DownBwdIdeal : Prop :=
  True

def algebraic_DownBwdIdeal_DownBwdRefIdeal [hDownBwdIdeal : Cert.DownBwdIdeal.Facts] [hDownBwdRefIdeal : Cert.DownBwdRefIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg)
    (m' : (ℓ : Loc Cert.DownBwdRefIdeal.nD Cert.DownBwdRefIdeal.τ Cert.DownBwdRefIdeal.sig) → Buf (Elt Ideal) ℓ) (g' : Dev Cert.DownBwdRefIdeal.nD → PrngReg), Pre_DownBwdIdeal m →
    (∀ c : Dev Cert.DownBwdIdeal.nD,
      m' ((c.tc : Thread Cert.DownBwdRefIdeal.nD Cert.DownBwdRefIdeal.τ).loc Cert.DownBwdRefIdeal.main_arg0) = m ((c.tc : Thread Cert.DownBwdIdeal.nD Cert.DownBwdIdeal.τ).loc Cert.DownBwdIdeal.main_arg0)
      ∧ m' ((c.tc : Thread Cert.DownBwdRefIdeal.nD Cert.DownBwdRefIdeal.τ).loc Cert.DownBwdRefIdeal.main_arg1) = m ((c.tc : Thread Cert.DownBwdIdeal.nD Cert.DownBwdIdeal.τ).loc Cert.DownBwdIdeal.main_arg1)
      ∧ m' ((c.tc : Thread Cert.DownBwdRefIdeal.nD Cert.DownBwdRefIdeal.τ).loc Cert.DownBwdRefIdeal.main_arg2) = m ((c.tc : Thread Cert.DownBwdIdeal.nD Cert.DownBwdIdeal.τ).loc Cert.DownBwdIdeal.main_arg2)) →
    ∃ (v0 : (c : Dev Cert.DownBwdIdeal.nD) → Buf (Elt Ideal) ((c.tc : Thread Cert.DownBwdIdeal.nD Cert.DownBwdIdeal.τ).loc Cert.DownBwdIdeal.main_v3)),
      θ_run (Cert.DownBwdIdeal.defs (F := Ideal)) (onTc (τ := Cert.DownBwdIdeal.τ) (Cert.DownBwdIdeal.main (F := Ideal))) ⟨m, fun _ => 0, g⟩ (fun r => ∀ c : Dev Cert.DownBwdIdeal.nD,
          r.2.mem ((c.tc : Thread Cert.DownBwdIdeal.nD Cert.DownBwdIdeal.τ).loc Cert.DownBwdIdeal.main_v3) = v0 c
          ∧ r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
          ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
          ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2))
      ∧ θ_run (Cert.DownBwdRefIdeal.defs (F := Ideal)) (onTc (τ := Cert.DownBwdRefIdeal.τ) (Cert.DownBwdRefIdeal.main (F := Ideal))) ⟨m', fun _ => 0, g'⟩ (fun r => ∀ c : Dev Cert.DownBwdRefIdeal.nD,
          r.2.mem ((c.tc : Thread Cert.DownBwdRefIdeal.nD Cert.DownBwdRefIdeal.τ).loc Cert.DownBwdRefIdeal.main_v12) = v0 c
          ∧ r.2.mem ((c.tc : Thread Cert.DownBwdRefIdeal.nD Cert.DownBwdRefIdeal.τ).loc Cert.DownBwdRefIdeal.main_arg0) = m' ((c.tc : Thread Cert.DownBwdRefIdeal.nD Cert.DownBwdRefIdeal.τ).loc Cert.DownBwdRefIdeal.main_arg0)
          ∧ r.2.mem ((c.tc : Thread Cert.DownBwdRefIdeal.nD Cert.DownBwdRefIdeal.τ).loc Cert.DownBwdRefIdeal.main_arg1) = m' ((c.tc : Thread Cert.DownBwdRefIdeal.nD Cert.DownBwdRefIdeal.τ).loc Cert.DownBwdRefIdeal.main_arg1)
          ∧ r.2.mem ((c.tc : Thread Cert.DownBwdRefIdeal.nD Cert.DownBwdRefIdeal.τ).loc Cert.DownBwdRefIdeal.main_arg2) = m' ((c.tc : Thread Cert.DownBwdRefIdeal.nD Cert.DownBwdRefIdeal.τ).loc Cert.DownBwdRefIdeal.main_arg2))

def preserves_SwishBwd_SwishBwdIdeal : Prop :=
  True

def algebraic_SwishBwdIdeal_SwishBwdRefIdeal_pre_swish_finite [hSwishBwdIdeal : Cert.SwishBwdIdeal.Facts] [hSwishBwdRefIdeal : Cert.SwishBwdRefIdeal.Facts] [hPre_swish_finite : Cert.Pre_swish_finite.Facts] : Prop :=
  ∀ (m : (ℓ : Loc Cert.SwishBwdIdeal.nD Cert.SwishBwdIdeal.τ Cert.SwishBwdIdeal.sig) → Buf (Elt Ideal) ℓ) (g : Dev Cert.SwishBwdIdeal.nD → PrngReg)
    (m' : (ℓ : Loc Cert.SwishBwdRefIdeal.nD Cert.SwishBwdRefIdeal.τ Cert.SwishBwdRefIdeal.sig) → Buf (Elt Ideal) ℓ) (g' : Dev Cert.SwishBwdRefIdeal.nD → PrngReg), Pre_SwishBwdIdeal_swish_finite m →
    (∀ c : Dev Cert.SwishBwdIdeal.nD,
      m' ((c.tc : Thread Cert.SwishBwdRefIdeal.nD Cert.SwishBwdRefIdeal.τ).loc Cert.SwishBwdRefIdeal.main_arg0) = m ((c.tc : Thread Cert.SwishBwdIdeal.nD Cert.SwishBwdIdeal.τ).loc Cert.SwishBwdIdeal.main_arg0)
      ∧ m' ((c.tc : Thread Cert.SwishBwdRefIdeal.nD Cert.SwishBwdRefIdeal.τ).loc Cert.SwishBwdRefIdeal.main_arg1) = m ((c.tc : Thread Cert.SwishBwdIdeal.nD Cert.SwishBwdIdeal.τ).loc Cert.SwishBwdIdeal.main_arg1)
      ∧ m' ((c.tc : Thread Cert.SwishBwdRefIdeal.nD Cert.SwishBwdRefIdeal.τ).loc Cert.SwishBwdRefIdeal.main_arg2) = m ((c.tc : Thread Cert.SwishBwdIdeal.nD Cert.SwishBwdIdeal.τ).loc Cert.SwishBwdIdeal.main_arg2)
      ∧ m' ((c.tc : Thread Cert.SwishBwdRefIdeal.nD Cert.SwishBwdRefIdeal.τ).loc Cert.SwishBwdRefIdeal.main_arg3) = m ((c.tc : Thread Cert.SwishBwdIdeal.nD Cert.SwishBwdIdeal.τ).loc Cert.SwishBwdIdeal.main_arg3)) →
    ∃ (v0 : (c : Dev Cert.SwishBwdIdeal.nD) → Buf (Elt Ideal) ((c.tc : Thread Cert.SwishBwdIdeal.nD Cert.SwishBwdIdeal.τ).loc Cert.SwishBwdIdeal.main_v0_0)) (v1 : (c : Dev Cert.SwishBwdIdeal.nD) → Buf (Elt Ideal) ((c.tc : Thread Cert.SwishBwdIdeal.nD Cert.SwishBwdIdeal.τ).loc Cert.SwishBwdIdeal.main_v0_1)) (v2 : (c : Dev Cert.SwishBwdIdeal.nD) → Buf (Elt Ideal) ((c.tc : Thread Cert.SwishBwdIdeal.nD Cert.SwishBwdIdeal.τ).loc Cert.SwishBwdIdeal.main_v0_2)),
      θ_run (Cert.SwishBwdIdeal.defs (F := Ideal)) (onTc (τ := Cert.SwishBwdIdeal.τ) (Cert.SwishBwdIdeal.main (F := Ideal))) ⟨m, fun _ => 0, g⟩ (fun r => ∀ c : Dev Cert.SwishBwdIdeal.nD,
          r.2.mem ((c.tc : Thread Cert.SwishBwdIdeal.nD Cert.SwishBwdIdeal.τ).loc Cert.SwishBwdIdeal.main_v0_0) = v0 c
          ∧ r.2.mem ((c.tc : Thread Cert.SwishBwdIdeal.nD Cert.SwishBwdIdeal.τ).loc Cert.SwishBwdIdeal.main_v0_1) = v1 c
          ∧ r.2.mem ((c.tc : Thread Cert.SwishBwdIdeal.nD Cert.SwishBwdIdeal.τ).loc Cert.SwishBwdIdeal.main_v0_2) = v2 c
          ∧ r.2.mem ((c.tc : Thread Cert.SwishBwdIdeal.nD Cert.SwishBwdIdeal.τ).loc Cert.SwishBwdIdeal.main_arg0) = m ((c.tc : Thread Cert.SwishBwdIdeal.nD Cert.SwishBwdIdeal.τ).loc Cert.SwishBwdIdeal.main_arg0)
          ∧ r.2.mem ((c.tc : Thread Cert.SwishBwdIdeal.nD Cert.SwishBwdIdeal.τ).loc Cert.SwishBwdIdeal.main_arg1) = m ((c.tc : Thread Cert.SwishBwdIdeal.nD Cert.SwishBwdIdeal.τ).loc Cert.SwishBwdIdeal.main_arg1)
          ∧ r.2.mem ((c.tc : Thread Cert.SwishBwdIdeal.nD Cert.SwishBwdIdeal.τ).loc Cert.SwishBwdIdeal.main_arg2) = m ((c.tc : Thread Cert.SwishBwdIdeal.nD Cert.SwishBwdIdeal.τ).loc Cert.SwishBwdIdeal.main_arg2)
          ∧ r.2.mem ((c.tc : Thread Cert.SwishBwdIdeal.nD Cert.SwishBwdIdeal.τ).loc Cert.SwishBwdIdeal.main_arg3) = m ((c.tc : Thread Cert.SwishBwdIdeal.nD Cert.SwishBwdIdeal.τ).loc Cert.SwishBwdIdeal.main_arg3))
      ∧ θ_run (Cert.SwishBwdRefIdeal.defs (F := Ideal)) (onTc (τ := Cert.SwishBwdRefIdeal.τ) (Cert.SwishBwdRefIdeal.main (F := Ideal))) ⟨m', fun _ => 0, g'⟩ (fun r => ∀ c : Dev Cert.SwishBwdRefIdeal.nD,
          r.2.mem ((c.tc : Thread Cert.SwishBwdRefIdeal.nD Cert.SwishBwdRefIdeal.τ).loc Cert.SwishBwdRefIdeal.main_v59) = v0 c
          ∧ r.2.mem ((c.tc : Thread Cert.SwishBwdRefIdeal.nD Cert.SwishBwdRefIdeal.τ).loc Cert.SwishBwdRefIdeal.main_v33) = v1 c
          ∧ r.2.mem ((c.tc : Thread Cert.SwishBwdRefIdeal.nD Cert.SwishBwdRefIdeal.τ).loc Cert.SwishBwdRefIdeal.main_v30) = v2 c
          ∧ r.2.mem ((c.tc : Thread Cert.SwishBwdRefIdeal.nD Cert.SwishBwdRefIdeal.τ).loc Cert.SwishBwdRefIdeal.main_arg0) = m' ((c.tc : Thread Cert.SwishBwdRefIdeal.nD Cert.SwishBwdRefIdeal.τ).loc Cert.SwishBwdRefIdeal.main_arg0)
          ∧ r.2.mem ((c.tc : Thread Cert.SwishBwdRefIdeal.nD Cert.SwishBwdRefIdeal.τ).loc Cert.SwishBwdRefIdeal.main_arg1) = m' ((c.tc : Thread Cert.SwishBwdRefIdeal.nD Cert.SwishBwdRefIdeal.τ).loc Cert.SwishBwdRefIdeal.main_arg1)
          ∧ r.2.mem ((c.tc : Thread Cert.SwishBwdRefIdeal.nD Cert.SwishBwdRefIdeal.τ).loc Cert.SwishBwdRefIdeal.main_arg2) = m' ((c.tc : Thread Cert.SwishBwdRefIdeal.nD Cert.SwishBwdRefIdeal.τ).loc Cert.SwishBwdRefIdeal.main_arg2)
          ∧ r.2.mem ((c.tc : Thread Cert.SwishBwdRefIdeal.nD Cert.SwishBwdRefIdeal.τ).loc Cert.SwishBwdRefIdeal.main_arg3) = m' ((c.tc : Thread Cert.SwishBwdRefIdeal.nD Cert.SwishBwdRefIdeal.τ).loc Cert.SwishBwdRefIdeal.main_arg3))

def preserves_LossBwd_LossBwdIdeal : Prop :=
  True

def algebraic_LossBwdIdeal_LossBwdRefIdeal_pre_loss_finite [hLossBwdIdeal : Cert.LossBwdIdeal.Facts] [hLossBwdRefIdeal : Cert.LossBwdRefIdeal.Facts] [hPre_loss_finite : Cert.Pre_loss_finite.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossBwdRefIdeal.nD Cert.LossBwdRefIdeal.τ Cert.LossBwdRefIdeal.sig) → Buf (Elt Ideal) ℓ) (g' : Dev Cert.LossBwdRefIdeal.nD → PrngReg), Pre_LossBwdIdeal_loss_finite m →
    (∀ c : Dev Cert.LossBwdIdeal.nD,
      m' ((c.tc : Thread Cert.LossBwdRefIdeal.nD Cert.LossBwdRefIdeal.τ).loc Cert.LossBwdRefIdeal.main_arg0) = m ((c.tc : Thread Cert.LossBwdIdeal.nD Cert.LossBwdIdeal.τ).loc Cert.LossBwdIdeal.main_arg0)
      ∧ m' ((c.tc : Thread Cert.LossBwdRefIdeal.nD Cert.LossBwdRefIdeal.τ).loc Cert.LossBwdRefIdeal.main_arg1) = m ((c.tc : Thread Cert.LossBwdIdeal.nD Cert.LossBwdIdeal.τ).loc Cert.LossBwdIdeal.main_arg1)
      ∧ m' ((c.tc : Thread Cert.LossBwdRefIdeal.nD Cert.LossBwdRefIdeal.τ).loc Cert.LossBwdRefIdeal.main_arg2) = m ((c.tc : Thread Cert.LossBwdIdeal.nD Cert.LossBwdIdeal.τ).loc Cert.LossBwdIdeal.main_arg2)
      ∧ m' ((c.tc : Thread Cert.LossBwdRefIdeal.nD Cert.LossBwdRefIdeal.τ).loc Cert.LossBwdRefIdeal.main_arg3) = m ((c.tc : Thread Cert.LossBwdIdeal.nD Cert.LossBwdIdeal.τ).loc Cert.LossBwdIdeal.main_arg3)) →
    ∃ (v0 : (c : Dev Cert.LossBwdIdeal.nD) → Buf (Elt Ideal) ((c.tc : Thread Cert.LossBwdIdeal.nD Cert.LossBwdIdeal.τ).loc Cert.LossBwdIdeal.main_v20_0)) (v1 : (c : Dev Cert.LossBwdIdeal.nD) → Buf (Elt Ideal) ((c.tc : Thread Cert.LossBwdIdeal.nD Cert.LossBwdIdeal.τ).loc Cert.LossBwdIdeal.main_v20_1)) (v2 : (c : Dev Cert.LossBwdIdeal.nD) → Buf (Elt Ideal) ((c.tc : Thread Cert.LossBwdIdeal.nD Cert.LossBwdIdeal.τ).loc Cert.LossBwdIdeal.main_v20_2)) (v3 : (c : Dev Cert.LossBwdIdeal.nD) → Buf (Elt Ideal) ((c.tc : Thread Cert.LossBwdIdeal.nD Cert.LossBwdIdeal.τ).loc Cert.LossBwdIdeal.main_v20_3)) (v4 : (c : Dev Cert.LossBwdIdeal.nD) → Buf (Elt Ideal) ((c.tc : Thread Cert.LossBwdIdeal.nD Cert.LossBwdIdeal.τ).loc Cert.LossBwdIdeal.main_v20_4)) (v5 : (c : Dev Cert.LossBwdIdeal.nD) → Buf (Elt Ideal) ((c.tc : Thread Cert.LossBwdIdeal.nD Cert.LossBwdIdeal.τ).loc Cert.LossBwdIdeal.main_v20_5)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v20_0) = v0 c
          ∧ r.2.mem ((c.tc : Thread Cert.LossBwdIdeal.nD Cert.LossBwdIdeal.τ).loc Cert.LossBwdIdeal.main_v20_1) = v1 c
          ∧ r.2.mem ((c.tc : Thread Cert.LossBwdIdeal.nD Cert.LossBwdIdeal.τ).loc Cert.LossBwdIdeal.main_v20_2) = v2 c
          ∧ r.2.mem ((c.tc : Thread Cert.LossBwdIdeal.nD Cert.LossBwdIdeal.τ).loc Cert.LossBwdIdeal.main_v20_3) = v3 c
          ∧ r.2.mem ((c.tc : Thread Cert.LossBwdIdeal.nD Cert.LossBwdIdeal.τ).loc Cert.LossBwdIdeal.main_v20_4) = v4 c
          ∧ r.2.mem ((c.tc : Thread Cert.LossBwdIdeal.nD Cert.LossBwdIdeal.τ).loc Cert.LossBwdIdeal.main_v20_5) = v5 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
          ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3))
      ∧ θ_run (Cert.LossBwdRefIdeal.defs (F := Ideal)) (onTc (τ := Cert.LossBwdRefIdeal.τ) (Cert.LossBwdRefIdeal.main (F := Ideal))) ⟨m', fun _ => 0, g'⟩ (fun r => ∀ c : Dev Cert.LossBwdRefIdeal.nD,
          r.2.mem ((c.tc : Thread Cert.LossBwdRefIdeal.nD Cert.LossBwdRefIdeal.τ).loc Cert.LossBwdRefIdeal.main_v75) = v0 c
          ∧ r.2.mem ((c.tc : Thread Cert.LossBwdRefIdeal.nD Cert.LossBwdRefIdeal.τ).loc Cert.LossBwdRefIdeal.main_v78) = v1 c
          ∧ r.2.mem ((c.tc : Thread Cert.LossBwdRefIdeal.nD Cert.LossBwdRefIdeal.τ).loc Cert.LossBwdRefIdeal.main_v49) = v2 c
          ∧ r.2.mem ((c.tc : Thread Cert.LossBwdRefIdeal.nD Cert.LossBwdRefIdeal.τ).loc Cert.LossBwdRefIdeal.main_v46) = v3 c
          ∧ r.2.mem ((c.tc : Thread Cert.LossBwdRefIdeal.nD Cert.LossBwdRefIdeal.τ).loc Cert.LossBwdRefIdeal.main_v77) = v4 c
          ∧ r.2.mem ((c.tc : Thread Cert.LossBwdRefIdeal.nD Cert.LossBwdRefIdeal.τ).loc Cert.LossBwdRefIdeal.main_v79) = v5 c
          ∧ r.2.mem ((c.tc : Thread Cert.LossBwdRefIdeal.nD Cert.LossBwdRefIdeal.τ).loc Cert.LossBwdRefIdeal.main_arg0) = m' ((c.tc : Thread Cert.LossBwdRefIdeal.nD Cert.LossBwdRefIdeal.τ).loc Cert.LossBwdRefIdeal.main_arg0)
          ∧ r.2.mem ((c.tc : Thread Cert.LossBwdRefIdeal.nD Cert.LossBwdRefIdeal.τ).loc Cert.LossBwdRefIdeal.main_arg1) = m' ((c.tc : Thread Cert.LossBwdRefIdeal.nD Cert.LossBwdRefIdeal.τ).loc Cert.LossBwdRefIdeal.main_arg1)
          ∧ r.2.mem ((c.tc : Thread Cert.LossBwdRefIdeal.nD Cert.LossBwdRefIdeal.τ).loc Cert.LossBwdRefIdeal.main_arg2) = m' ((c.tc : Thread Cert.LossBwdRefIdeal.nD Cert.LossBwdRefIdeal.τ).loc Cert.LossBwdRefIdeal.main_arg2)
          ∧ r.2.mem ((c.tc : Thread Cert.LossBwdRefIdeal.nD Cert.LossBwdRefIdeal.τ).loc Cert.LossBwdRefIdeal.main_arg3) = m' ((c.tc : Thread Cert.LossBwdRefIdeal.nD Cert.LossBwdRefIdeal.τ).loc Cert.LossBwdRefIdeal.main_arg3))

def preserves_UpBwd_UpBwdIdeal : Prop :=
  True

def algebraic_UpBwdIdeal_UpBwdRefIdeal_pre_up_finite [hUpBwdIdeal : Cert.UpBwdIdeal.Facts] [hUpBwdRefIdeal : Cert.UpBwdRefIdeal.Facts] [hPre_up_finite : Cert.Pre_up_finite.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.UpBwdRefIdeal.nD Cert.UpBwdRefIdeal.τ Cert.UpBwdRefIdeal.sig) → Buf (Elt Ideal) ℓ) (g' : Dev Cert.UpBwdRefIdeal.nD → PrngReg), Pre_UpBwdIdeal_up_finite m →
    (∀ c : Dev Cert.UpBwdIdeal.nD,
      m' ((c.tc : Thread Cert.UpBwdRefIdeal.nD Cert.UpBwdRefIdeal.τ).loc Cert.UpBwdRefIdeal.main_arg0) = m ((c.tc : Thread Cert.UpBwdIdeal.nD Cert.UpBwdIdeal.τ).loc Cert.UpBwdIdeal.main_arg0)
      ∧ m' ((c.tc : Thread Cert.UpBwdRefIdeal.nD Cert.UpBwdRefIdeal.τ).loc Cert.UpBwdRefIdeal.main_arg1) = m ((c.tc : Thread Cert.UpBwdIdeal.nD Cert.UpBwdIdeal.τ).loc Cert.UpBwdIdeal.main_arg1)
      ∧ m' ((c.tc : Thread Cert.UpBwdRefIdeal.nD Cert.UpBwdRefIdeal.τ).loc Cert.UpBwdRefIdeal.main_arg2) = m ((c.tc : Thread Cert.UpBwdIdeal.nD Cert.UpBwdIdeal.τ).loc Cert.UpBwdIdeal.main_arg2)
      ∧ m' ((c.tc : Thread Cert.UpBwdRefIdeal.nD Cert.UpBwdRefIdeal.τ).loc Cert.UpBwdRefIdeal.main_arg3) = m ((c.tc : Thread Cert.UpBwdIdeal.nD Cert.UpBwdIdeal.τ).loc Cert.UpBwdIdeal.main_arg3)
      ∧ m' ((c.tc : Thread Cert.UpBwdRefIdeal.nD Cert.UpBwdRefIdeal.τ).loc Cert.UpBwdRefIdeal.main_arg4) = m ((c.tc : Thread Cert.UpBwdIdeal.nD Cert.UpBwdIdeal.τ).loc Cert.UpBwdIdeal.main_arg4)
      ∧ m' ((c.tc : Thread Cert.UpBwdRefIdeal.nD Cert.UpBwdRefIdeal.τ).loc Cert.UpBwdRefIdeal.main_arg5) = m ((c.tc : Thread Cert.UpBwdIdeal.nD Cert.UpBwdIdeal.τ).loc Cert.UpBwdIdeal.main_arg5)
      ∧ m' ((c.tc : Thread Cert.UpBwdRefIdeal.nD Cert.UpBwdRefIdeal.τ).loc Cert.UpBwdRefIdeal.main_arg6) = m ((c.tc : Thread Cert.UpBwdIdeal.nD Cert.UpBwdIdeal.τ).loc Cert.UpBwdIdeal.main_arg6)) →
    ∃ (v0 : (c : Dev Cert.UpBwdIdeal.nD) → Buf (Elt Ideal) ((c.tc : Thread Cert.UpBwdIdeal.nD Cert.UpBwdIdeal.τ).loc Cert.UpBwdIdeal.main_v24_0)) (v1 : (c : Dev Cert.UpBwdIdeal.nD) → Buf (Elt Ideal) ((c.tc : Thread Cert.UpBwdIdeal.nD Cert.UpBwdIdeal.τ).loc Cert.UpBwdIdeal.main_v24_1)) (v2 : (c : Dev Cert.UpBwdIdeal.nD) → Buf (Elt Ideal) ((c.tc : Thread Cert.UpBwdIdeal.nD Cert.UpBwdIdeal.τ).loc Cert.UpBwdIdeal.main_v24_2)) (v3 : (c : Dev Cert.UpBwdIdeal.nD) → Buf (Elt Ideal) ((c.tc : Thread Cert.UpBwdIdeal.nD Cert.UpBwdIdeal.τ).loc Cert.UpBwdIdeal.main_v24_3)) (v4 : (c : Dev Cert.UpBwdIdeal.nD) → Buf (Elt Ideal) ((c.tc : Thread Cert.UpBwdIdeal.nD Cert.UpBwdIdeal.τ).loc Cert.UpBwdIdeal.main_v24_4)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v24_0) = v0 c
          ∧ r.2.mem ((c.tc : Thread Cert.UpBwdIdeal.nD Cert.UpBwdIdeal.τ).loc Cert.UpBwdIdeal.main_v24_1) = v1 c
          ∧ r.2.mem ((c.tc : Thread Cert.UpBwdIdeal.nD Cert.UpBwdIdeal.τ).loc Cert.UpBwdIdeal.main_v24_2) = v2 c
          ∧ r.2.mem ((c.tc : Thread Cert.UpBwdIdeal.nD Cert.UpBwdIdeal.τ).loc Cert.UpBwdIdeal.main_v24_3) = v3 c
          ∧ r.2.mem ((c.tc : Thread Cert.UpBwdIdeal.nD Cert.UpBwdIdeal.τ).loc Cert.UpBwdIdeal.main_v24_4) = v4 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
          ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
          ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
          ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
          ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5)
          ∧ r.2.mem ((c.tc : Thread Cert.UpBwdIdeal.nD Cert.UpBwdIdeal.τ).loc Cert.UpBwdIdeal.main_arg6) = m ((c.tc : Thread Cert.UpBwdIdeal.nD Cert.UpBwdIdeal.τ).loc Cert.UpBwdIdeal.main_arg6))
      ∧ θ_run (Cert.UpBwdRefIdeal.defs (F := Ideal)) (onTc (τ := Cert.UpBwdRefIdeal.τ) (Cert.UpBwdRefIdeal.main (F := Ideal))) ⟨m', fun _ => 0, g'⟩ (fun r => ∀ c : Dev Cert.UpBwdRefIdeal.nD,
          r.2.mem ((c.tc : Thread Cert.UpBwdRefIdeal.nD Cert.UpBwdRefIdeal.τ).loc Cert.UpBwdRefIdeal.main_v66) = v0 c
          ∧ r.2.mem ((c.tc : Thread Cert.UpBwdRefIdeal.nD Cert.UpBwdRefIdeal.τ).loc Cert.UpBwdRefIdeal.main_v69) = v1 c
          ∧ r.2.mem ((c.tc : Thread Cert.UpBwdRefIdeal.nD Cert.UpBwdRefIdeal.τ).loc Cert.UpBwdRefIdeal.main_v40) = v2 c
          ∧ r.2.mem ((c.tc : Thread Cert.UpBwdRefIdeal.nD Cert.UpBwdRefIdeal.τ).loc Cert.UpBwdRefIdeal.main_v37) = v3 c
          ∧ r.2.mem ((c.tc : Thread Cert.UpBwdRefIdeal.nD Cert.UpBwdRefIdeal.τ).loc Cert.UpBwdRefIdeal.main_v68) = v4 c
          ∧ r.2.mem ((c.tc : Thread Cert.UpBwdRefIdeal.nD Cert.UpBwdRefIdeal.τ).loc Cert.UpBwdRefIdeal.main_arg0) = m' ((c.tc : Thread Cert.UpBwdRefIdeal.nD Cert.UpBwdRefIdeal.τ).loc Cert.UpBwdRefIdeal.main_arg0)
          ∧ r.2.mem ((c.tc : Thread Cert.UpBwdRefIdeal.nD Cert.UpBwdRefIdeal.τ).loc Cert.UpBwdRefIdeal.main_arg1) = m' ((c.tc : Thread Cert.UpBwdRefIdeal.nD Cert.UpBwdRefIdeal.τ).loc Cert.UpBwdRefIdeal.main_arg1)
          ∧ r.2.mem ((c.tc : Thread Cert.UpBwdRefIdeal.nD Cert.UpBwdRefIdeal.τ).loc Cert.UpBwdRefIdeal.main_arg2) = m' ((c.tc : Thread Cert.UpBwdRefIdeal.nD Cert.UpBwdRefIdeal.τ).loc Cert.UpBwdRefIdeal.main_arg2)
          ∧ r.2.mem ((c.tc : Thread Cert.UpBwdRefIdeal.nD Cert.UpBwdRefIdeal.τ).loc Cert.UpBwdRefIdeal.main_arg3) = m' ((c.tc : Thread Cert.UpBwdRefIdeal.nD Cert.UpBwdRefIdeal.τ).loc Cert.UpBwdRefIdeal.main_arg3)
          ∧ r.2.mem ((c.tc : Thread Cert.UpBwdRefIdeal.nD Cert.UpBwdRefIdeal.τ).loc Cert.UpBwdRefIdeal.main_arg4) = m' ((c.tc : Thread Cert.UpBwdRefIdeal.nD Cert.UpBwdRefIdeal.τ).loc Cert.UpBwdRefIdeal.main_arg4)
          ∧ r.2.mem ((c.tc : Thread Cert.UpBwdRefIdeal.nD Cert.UpBwdRefIdeal.τ).loc Cert.UpBwdRefIdeal.main_arg5) = m' ((c.tc : Thread Cert.UpBwdRefIdeal.nD Cert.UpBwdRefIdeal.τ).loc Cert.UpBwdRefIdeal.main_arg5)
          ∧ r.2.mem ((c.tc : Thread Cert.UpBwdRefIdeal.nD Cert.UpBwdRefIdeal.τ).loc Cert.UpBwdRefIdeal.main_arg6) = m' ((c.tc : Thread Cert.UpBwdRefIdeal.nD Cert.UpBwdRefIdeal.τ).loc Cert.UpBwdRefIdeal.main_arg6))

def preserves_AttnBwd_AttnBwdIdeal : Prop :=
  IdealRules.named_const.Statement Cert.AttnBwdIdeal.κ "mask" .f32 0xF149F2CA#32 ⊥

def algebraic_AttnBwdIdeal_AttnBwdRefIdeal_pre_attn_finite [hAttnBwdIdeal : Cert.AttnBwdIdeal.Facts] [hAttnBwdRefIdeal : Cert.AttnBwdRefIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attn_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v10_0)) (v1 : (c : Dev Cert.AttnBwdIdeal.nD) → Buf (Elt Ideal) ((c.tc : Thread Cert.AttnBwdIdeal.nD Cert.AttnBwdIdeal.τ).loc Cert.AttnBwdIdeal.main_v10_1)) (v2 : (c : Dev Cert.AttnBwdIdeal.nD) → Buf (Elt Ideal) ((c.tc : Thread Cert.AttnBwdIdeal.nD Cert.AttnBwdIdeal.τ).loc Cert.AttnBwdIdeal.main_v10_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v10_0) = v0 c
          ∧ r.2.mem ((c.tc : Thread Cert.AttnBwdIdeal.nD Cert.AttnBwdIdeal.τ).loc Cert.AttnBwdIdeal.main_v10_1) = v1 c
          ∧ r.2.mem ((c.tc : Thread Cert.AttnBwdIdeal.nD Cert.AttnBwdIdeal.τ).loc Cert.AttnBwdIdeal.main_v10_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v67) = v0 c
          ∧ r.2.mem ((c.tc : Thread Cert.AttnBwdRefIdeal.nD Cert.AttnBwdRefIdeal.τ).loc Cert.AttnBwdRefIdeal.main_v70) = v1 c
          ∧ r.2.mem ((c.tc : Thread Cert.AttnBwdRefIdeal.nD Cert.AttnBwdRefIdeal.τ).loc Cert.AttnBwdRefIdeal.main_v72) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3))

def preserves_LatentsBwd_LatentsBwdIdeal : Prop :=
  True

def algebraic_LatentsBwdIdeal_LatentsBwdRefIdeal_pre_latents_finite [hLatentsBwdIdeal : Cert.LatentsBwdIdeal.Facts] [hLatentsBwdRefIdeal : Cert.LatentsBwdRefIdeal.Facts] [hPre_latents_finite : Cert.Pre_latents_finite.Facts] : Prop :=
  ∀ (m : (ℓ : Loc Cert.LatentsBwdIdeal.nD Cert.LatentsBwdIdeal.τ Cert.LatentsBwdIdeal.sig) → Buf (Elt Ideal) ℓ) (g : Dev Cert.LatentsBwdIdeal.nD → PrngReg)
    (m' : (ℓ : Loc Cert.LatentsBwdRefIdeal.nD Cert.LatentsBwdRefIdeal.τ Cert.LatentsBwdRefIdeal.sig) → Buf (Elt Ideal) ℓ) (g' : Dev Cert.LatentsBwdRefIdeal.nD → PrngReg), Pre_LatentsBwdIdeal_latents_finite m →
    (∀ c : Dev Cert.LatentsBwdIdeal.nD,
      m' ((c.tc : Thread Cert.LatentsBwdRefIdeal.nD Cert.LatentsBwdRefIdeal.τ).loc Cert.LatentsBwdRefIdeal.main_arg0) = m ((c.tc : Thread Cert.LatentsBwdIdeal.nD Cert.LatentsBwdIdeal.τ).loc Cert.LatentsBwdIdeal.main_arg0)
      ∧ m' ((c.tc : Thread Cert.LatentsBwdRefIdeal.nD Cert.LatentsBwdRefIdeal.τ).loc Cert.LatentsBwdRefIdeal.main_arg1) = m ((c.tc : Thread Cert.LatentsBwdIdeal.nD Cert.LatentsBwdIdeal.τ).loc Cert.LatentsBwdIdeal.main_arg1)
      ∧ m' ((c.tc : Thread Cert.LatentsBwdRefIdeal.nD Cert.LatentsBwdRefIdeal.τ).loc Cert.LatentsBwdRefIdeal.main_arg2) = m ((c.tc : Thread Cert.LatentsBwdIdeal.nD Cert.LatentsBwdIdeal.τ).loc Cert.LatentsBwdIdeal.main_arg2)
      ∧ m' ((c.tc : Thread Cert.LatentsBwdRefIdeal.nD Cert.LatentsBwdRefIdeal.τ).loc Cert.LatentsBwdRefIdeal.main_arg3) = m ((c.tc : Thread Cert.LatentsBwdIdeal.nD Cert.LatentsBwdIdeal.τ).loc Cert.LatentsBwdIdeal.main_arg3)
      ∧ m' ((c.tc : Thread Cert.LatentsBwdRefIdeal.nD Cert.LatentsBwdRefIdeal.τ).loc Cert.LatentsBwdRefIdeal.main_arg4) = m ((c.tc : Thread Cert.LatentsBwdIdeal.nD Cert.LatentsBwdIdeal.τ).loc Cert.LatentsBwdIdeal.main_arg4)
      ∧ m' ((c.tc : Thread Cert.LatentsBwdRefIdeal.nD Cert.LatentsBwdRefIdeal.τ).loc Cert.LatentsBwdRefIdeal.main_arg5) = m ((c.tc : Thread Cert.LatentsBwdIdeal.nD Cert.LatentsBwdIdeal.τ).loc Cert.LatentsBwdIdeal.main_arg5)
      ∧ m' ((c.tc : Thread Cert.LatentsBwdRefIdeal.nD Cert.LatentsBwdRefIdeal.τ).loc Cert.LatentsBwdRefIdeal.main_arg6) = m ((c.tc : Thread Cert.LatentsBwdIdeal.nD Cert.LatentsBwdIdeal.τ).loc Cert.LatentsBwdIdeal.main_arg6)) →
    ∃ (v0 : (c : Dev Cert.LatentsBwdIdeal.nD) → Buf (Elt Ideal) ((c.tc : Thread Cert.LatentsBwdIdeal.nD Cert.LatentsBwdIdeal.τ).loc Cert.LatentsBwdIdeal.main_v25_0)) (v1 : (c : Dev Cert.LatentsBwdIdeal.nD) → Buf (Elt Ideal) ((c.tc : Thread Cert.LatentsBwdIdeal.nD Cert.LatentsBwdIdeal.τ).loc Cert.LatentsBwdIdeal.main_v25_1)) (v2 : (c : Dev Cert.LatentsBwdIdeal.nD) → Buf (Elt Ideal) ((c.tc : Thread Cert.LatentsBwdIdeal.nD Cert.LatentsBwdIdeal.τ).loc Cert.LatentsBwdIdeal.main_v25_2)),
      θ_run (Cert.LatentsBwdIdeal.defs (F := Ideal)) (onTc (τ := Cert.LatentsBwdIdeal.τ) (Cert.LatentsBwdIdeal.main (F := Ideal))) ⟨m, fun _ => 0, g⟩ (fun r => ∀ c : Dev Cert.LatentsBwdIdeal.nD,
          r.2.mem ((c.tc : Thread Cert.LatentsBwdIdeal.nD Cert.LatentsBwdIdeal.τ).loc Cert.LatentsBwdIdeal.main_v25_0) = v0 c
          ∧ r.2.mem ((c.tc : Thread Cert.LatentsBwdIdeal.nD Cert.LatentsBwdIdeal.τ).loc Cert.LatentsBwdIdeal.main_v25_1) = v1 c
          ∧ r.2.mem ((c.tc : Thread Cert.LatentsBwdIdeal.nD Cert.LatentsBwdIdeal.τ).loc Cert.LatentsBwdIdeal.main_v25_2) = v2 c
          ∧ r.2.mem ((c.tc : Thread Cert.LatentsBwdIdeal.nD Cert.LatentsBwdIdeal.τ).loc Cert.LatentsBwdIdeal.main_arg0) = m ((c.tc : Thread Cert.LatentsBwdIdeal.nD Cert.LatentsBwdIdeal.τ).loc Cert.LatentsBwdIdeal.main_arg0)
          ∧ r.2.mem ((c.tc : Thread Cert.LatentsBwdIdeal.nD Cert.LatentsBwdIdeal.τ).loc Cert.LatentsBwdIdeal.main_arg1) = m ((c.tc : Thread Cert.LatentsBwdIdeal.nD Cert.LatentsBwdIdeal.τ).loc Cert.LatentsBwdIdeal.main_arg1)
          ∧ r.2.mem ((c.tc : Thread Cert.LatentsBwdIdeal.nD Cert.LatentsBwdIdeal.τ).loc Cert.LatentsBwdIdeal.main_arg2) = m ((c.tc : Thread Cert.LatentsBwdIdeal.nD Cert.LatentsBwdIdeal.τ).loc Cert.LatentsBwdIdeal.main_arg2)
          ∧ r.2.mem ((c.tc : Thread Cert.LatentsBwdIdeal.nD Cert.LatentsBwdIdeal.τ).loc Cert.LatentsBwdIdeal.main_arg3) = m ((c.tc : Thread Cert.LatentsBwdIdeal.nD Cert.LatentsBwdIdeal.τ).loc Cert.LatentsBwdIdeal.main_arg3)
          ∧ r.2.mem ((c.tc : Thread Cert.LatentsBwdIdeal.nD Cert.LatentsBwdIdeal.τ).loc Cert.LatentsBwdIdeal.main_arg4) = m ((c.tc : Thread Cert.LatentsBwdIdeal.nD Cert.LatentsBwdIdeal.τ).loc Cert.LatentsBwdIdeal.main_arg4)
          ∧ r.2.mem ((c.tc : Thread Cert.LatentsBwdIdeal.nD Cert.LatentsBwdIdeal.τ).loc Cert.LatentsBwdIdeal.main_arg5) = m ((c.tc : Thread Cert.LatentsBwdIdeal.nD Cert.LatentsBwdIdeal.τ).loc Cert.LatentsBwdIdeal.main_arg5)
          ∧ r.2.mem ((c.tc : Thread Cert.LatentsBwdIdeal.nD Cert.LatentsBwdIdeal.τ).loc Cert.LatentsBwdIdeal.main_arg6) = m ((c.tc : Thread Cert.LatentsBwdIdeal.nD Cert.LatentsBwdIdeal.τ).loc Cert.LatentsBwdIdeal.main_arg6))
      ∧ θ_run (Cert.LatentsBwdRefIdeal.defs (F := Ideal)) (onTc (τ := Cert.LatentsBwdRefIdeal.τ) (Cert.LatentsBwdRefIdeal.main (F := Ideal))) ⟨m', fun _ => 0, g'⟩ (fun r => ∀ c : Dev Cert.LatentsBwdRefIdeal.nD,
          r.2.mem ((c.tc : Thread Cert.LatentsBwdRefIdeal.nD Cert.LatentsBwdRefIdeal.τ).loc Cert.LatentsBwdRefIdeal.main_v112) = v0 c
          ∧ r.2.mem ((c.tc : Thread Cert.LatentsBwdRefIdeal.nD Cert.LatentsBwdRefIdeal.τ).loc Cert.LatentsBwdRefIdeal.main_v95) = v1 c
          ∧ r.2.mem ((c.tc : Thread Cert.LatentsBwdRefIdeal.nD Cert.LatentsBwdRefIdeal.τ).loc Cert.LatentsBwdRefIdeal.main_v76) = v2 c
          ∧ r.2.mem ((c.tc : Thread Cert.LatentsBwdRefIdeal.nD Cert.LatentsBwdRefIdeal.τ).loc Cert.LatentsBwdRefIdeal.main_arg0) = m' ((c.tc : Thread Cert.LatentsBwdRefIdeal.nD Cert.LatentsBwdRefIdeal.τ).loc Cert.LatentsBwdRefIdeal.main_arg0)
          ∧ r.2.mem ((c.tc : Thread Cert.LatentsBwdRefIdeal.nD Cert.LatentsBwdRefIdeal.τ).loc Cert.LatentsBwdRefIdeal.main_arg1) = m' ((c.tc : Thread Cert.LatentsBwdRefIdeal.nD Cert.LatentsBwdRefIdeal.τ).loc Cert.LatentsBwdRefIdeal.main_arg1)
          ∧ r.2.mem ((c.tc : Thread Cert.LatentsBwdRefIdeal.nD Cert.LatentsBwdRefIdeal.τ).loc Cert.LatentsBwdRefIdeal.main_arg2) = m' ((c.tc : Thread Cert.LatentsBwdRefIdeal.nD Cert.LatentsBwdRefIdeal.τ).loc Cert.LatentsBwdRefIdeal.main_arg2)
          ∧ r.2.mem ((c.tc : Thread Cert.LatentsBwdRefIdeal.nD Cert.LatentsBwdRefIdeal.τ).loc Cert.LatentsBwdRefIdeal.main_arg3) = m' ((c.tc : Thread Cert.LatentsBwdRefIdeal.nD Cert.LatentsBwdRefIdeal.τ).loc Cert.LatentsBwdRefIdeal.main_arg3)
          ∧ r.2.mem ((c.tc : Thread Cert.LatentsBwdRefIdeal.nD Cert.LatentsBwdRefIdeal.τ).loc Cert.LatentsBwdRefIdeal.main_arg4) = m' ((c.tc : Thread Cert.LatentsBwdRefIdeal.nD Cert.LatentsBwdRefIdeal.τ).loc Cert.LatentsBwdRefIdeal.main_arg4)
          ∧ r.2.mem ((c.tc : Thread Cert.LatentsBwdRefIdeal.nD Cert.LatentsBwdRefIdeal.τ).loc Cert.LatentsBwdRefIdeal.main_arg5) = m' ((c.tc : Thread Cert.LatentsBwdRefIdeal.nD Cert.LatentsBwdRefIdeal.τ).loc Cert.LatentsBwdRefIdeal.main_arg5)
          ∧ r.2.mem ((c.tc : Thread Cert.LatentsBwdRefIdeal.nD Cert.LatentsBwdRefIdeal.τ).loc Cert.LatentsBwdRefIdeal.main_arg6) = m' ((c.tc : Thread Cert.LatentsBwdRefIdeal.nD Cert.LatentsBwdRefIdeal.τ).loc Cert.LatentsBwdRefIdeal.main_arg6))

def preserves_ScInBwd_ScInBwdIdeal : Prop :=
  True

def algebraic_ScInBwdIdeal_ScInBwdRefIdeal_pre_scin_finite [hScInBwdIdeal : Cert.ScInBwdIdeal.Facts] [hScInBwdRefIdeal : Cert.ScInBwdRefIdeal.Facts] [hPre_scin_finite : Cert.Pre_scin_finite.Facts] : Prop :=
  ∀ (m : (ℓ : Loc Cert.ScInBwdIdeal.nD Cert.ScInBwdIdeal.τ Cert.ScInBwdIdeal.sig) → Buf (Elt Ideal) ℓ) (g : Dev Cert.ScInBwdIdeal.nD → PrngReg)
    (m' : (ℓ : Loc Cert.ScInBwdRefIdeal.nD Cert.ScInBwdRefIdeal.τ Cert.ScInBwdRefIdeal.sig) → Buf (Elt Ideal) ℓ) (g' : Dev Cert.ScInBwdRefIdeal.nD → PrngReg), Pre_ScInBwdIdeal_scin_finite m →
    (∀ c : Dev Cert.ScInBwdIdeal.nD,
      m' ((c.tc : Thread Cert.ScInBwdRefIdeal.nD Cert.ScInBwdRefIdeal.τ).loc Cert.ScInBwdRefIdeal.main_arg0) = m ((c.tc : Thread Cert.ScInBwdIdeal.nD Cert.ScInBwdIdeal.τ).loc Cert.ScInBwdIdeal.main_arg0)
      ∧ m' ((c.tc : Thread Cert.ScInBwdRefIdeal.nD Cert.ScInBwdRefIdeal.τ).loc Cert.ScInBwdRefIdeal.main_arg1) = m ((c.tc : Thread Cert.ScInBwdIdeal.nD Cert.ScInBwdIdeal.τ).loc Cert.ScInBwdIdeal.main_arg1)
      ∧ m' ((c.tc : Thread Cert.ScInBwdRefIdeal.nD Cert.ScInBwdRefIdeal.τ).loc Cert.ScInBwdRefIdeal.main_arg2) = m ((c.tc : Thread Cert.ScInBwdIdeal.nD Cert.ScInBwdIdeal.τ).loc Cert.ScInBwdIdeal.main_arg2)
      ∧ m' ((c.tc : Thread Cert.ScInBwdRefIdeal.nD Cert.ScInBwdRefIdeal.τ).loc Cert.ScInBwdRefIdeal.main_arg3) = m ((c.tc : Thread Cert.ScInBwdIdeal.nD Cert.ScInBwdIdeal.τ).loc Cert.ScInBwdIdeal.main_arg3)
      ∧ m' ((c.tc : Thread Cert.ScInBwdRefIdeal.nD Cert.ScInBwdRefIdeal.τ).loc Cert.ScInBwdRefIdeal.main_arg4) = m ((c.tc : Thread Cert.ScInBwdIdeal.nD Cert.ScInBwdIdeal.τ).loc Cert.ScInBwdIdeal.main_arg4)
      ∧ m' ((c.tc : Thread Cert.ScInBwdRefIdeal.nD Cert.ScInBwdRefIdeal.τ).loc Cert.ScInBwdRefIdeal.main_arg5) = m ((c.tc : Thread Cert.ScInBwdIdeal.nD Cert.ScInBwdIdeal.τ).loc Cert.ScInBwdIdeal.main_arg5)
      ∧ m' ((c.tc : Thread Cert.ScInBwdRefIdeal.nD Cert.ScInBwdRefIdeal.τ).loc Cert.ScInBwdRefIdeal.main_arg6) = m ((c.tc : Thread Cert.ScInBwdIdeal.nD Cert.ScInBwdIdeal.τ).loc Cert.ScInBwdIdeal.main_arg6)) →
    ∃ (v0 : (c : Dev Cert.ScInBwdIdeal.nD) → Buf (Elt Ideal) ((c.tc : Thread Cert.ScInBwdIdeal.nD Cert.ScInBwdIdeal.τ).loc Cert.ScInBwdIdeal.main_v24_0)) (v1 : (c : Dev Cert.ScInBwdIdeal.nD) → Buf (Elt Ideal) ((c.tc : Thread Cert.ScInBwdIdeal.nD Cert.ScInBwdIdeal.τ).loc Cert.ScInBwdIdeal.main_v24_1)) (v2 : (c : Dev Cert.ScInBwdIdeal.nD) → Buf (Elt Ideal) ((c.tc : Thread Cert.ScInBwdIdeal.nD Cert.ScInBwdIdeal.τ).loc Cert.ScInBwdIdeal.main_v24_2)) (v3 : (c : Dev Cert.ScInBwdIdeal.nD) → Buf (Elt Ideal) ((c.tc : Thread Cert.ScInBwdIdeal.nD Cert.ScInBwdIdeal.τ).loc Cert.ScInBwdIdeal.main_v24_3)) (v4 : (c : Dev Cert.ScInBwdIdeal.nD) → Buf (Elt Ideal) ((c.tc : Thread Cert.ScInBwdIdeal.nD Cert.ScInBwdIdeal.τ).loc Cert.ScInBwdIdeal.main_v24_4)),
      θ_run (Cert.ScInBwdIdeal.defs (F := Ideal)) (onTc (τ := Cert.ScInBwdIdeal.τ) (Cert.ScInBwdIdeal.main (F := Ideal))) ⟨m, fun _ => 0, g⟩ (fun r => ∀ c : Dev Cert.ScInBwdIdeal.nD,
          r.2.mem ((c.tc : Thread Cert.ScInBwdIdeal.nD Cert.ScInBwdIdeal.τ).loc Cert.ScInBwdIdeal.main_v24_0) = v0 c
          ∧ r.2.mem ((c.tc : Thread Cert.ScInBwdIdeal.nD Cert.ScInBwdIdeal.τ).loc Cert.ScInBwdIdeal.main_v24_1) = v1 c
          ∧ r.2.mem ((c.tc : Thread Cert.ScInBwdIdeal.nD Cert.ScInBwdIdeal.τ).loc Cert.ScInBwdIdeal.main_v24_2) = v2 c
          ∧ r.2.mem ((c.tc : Thread Cert.ScInBwdIdeal.nD Cert.ScInBwdIdeal.τ).loc Cert.ScInBwdIdeal.main_v24_3) = v3 c
          ∧ r.2.mem ((c.tc : Thread Cert.ScInBwdIdeal.nD Cert.ScInBwdIdeal.τ).loc Cert.ScInBwdIdeal.main_v24_4) = v4 c
          ∧ r.2.mem ((c.tc : Thread Cert.ScInBwdIdeal.nD Cert.ScInBwdIdeal.τ).loc Cert.ScInBwdIdeal.main_arg0) = m ((c.tc : Thread Cert.ScInBwdIdeal.nD Cert.ScInBwdIdeal.τ).loc Cert.ScInBwdIdeal.main_arg0)
          ∧ r.2.mem ((c.tc : Thread Cert.ScInBwdIdeal.nD Cert.ScInBwdIdeal.τ).loc Cert.ScInBwdIdeal.main_arg1) = m ((c.tc : Thread Cert.ScInBwdIdeal.nD Cert.ScInBwdIdeal.τ).loc Cert.ScInBwdIdeal.main_arg1)
          ∧ r.2.mem ((c.tc : Thread Cert.ScInBwdIdeal.nD Cert.ScInBwdIdeal.τ).loc Cert.ScInBwdIdeal.main_arg2) = m ((c.tc : Thread Cert.ScInBwdIdeal.nD Cert.ScInBwdIdeal.τ).loc Cert.ScInBwdIdeal.main_arg2)
          ∧ r.2.mem ((c.tc : Thread Cert.ScInBwdIdeal.nD Cert.ScInBwdIdeal.τ).loc Cert.ScInBwdIdeal.main_arg3) = m ((c.tc : Thread Cert.ScInBwdIdeal.nD Cert.ScInBwdIdeal.τ).loc Cert.ScInBwdIdeal.main_arg3)
          ∧ r.2.mem ((c.tc : Thread Cert.ScInBwdIdeal.nD Cert.ScInBwdIdeal.τ).loc Cert.ScInBwdIdeal.main_arg4) = m ((c.tc : Thread Cert.ScInBwdIdeal.nD Cert.ScInBwdIdeal.τ).loc Cert.ScInBwdIdeal.main_arg4)
          ∧ r.2.mem ((c.tc : Thread Cert.ScInBwdIdeal.nD Cert.ScInBwdIdeal.τ).loc Cert.ScInBwdIdeal.main_arg5) = m ((c.tc : Thread Cert.ScInBwdIdeal.nD Cert.ScInBwdIdeal.τ).loc Cert.ScInBwdIdeal.main_arg5)
          ∧ r.2.mem ((c.tc : Thread Cert.ScInBwdIdeal.nD Cert.ScInBwdIdeal.τ).loc Cert.ScInBwdIdeal.main_arg6) = m ((c.tc : Thread Cert.ScInBwdIdeal.nD Cert.ScInBwdIdeal.τ).loc Cert.ScInBwdIdeal.main_arg6))
      ∧ θ_run (Cert.ScInBwdRefIdeal.defs (F := Ideal)) (onTc (τ := Cert.ScInBwdRefIdeal.τ) (Cert.ScInBwdRefIdeal.main (F := Ideal))) ⟨m', fun _ => 0, g'⟩ (fun r => ∀ c : Dev Cert.ScInBwdRefIdeal.nD,
          r.2.mem ((c.tc : Thread Cert.ScInBwdRefIdeal.nD Cert.ScInBwdRefIdeal.τ).loc Cert.ScInBwdRefIdeal.main_v73) = v0 c
          ∧ r.2.mem ((c.tc : Thread Cert.ScInBwdRefIdeal.nD Cert.ScInBwdRefIdeal.τ).loc Cert.ScInBwdRefIdeal.main_v76) = v1 c
          ∧ r.2.mem ((c.tc : Thread Cert.ScInBwdRefIdeal.nD Cert.ScInBwdRefIdeal.τ).loc Cert.ScInBwdRefIdeal.main_v47) = v2 c
          ∧ r.2.mem ((c.tc : Thread Cert.ScInBwdRefIdeal.nD Cert.ScInBwdRefIdeal.τ).loc Cert.ScInBwdRefIdeal.main_v44) = v3 c
          ∧ r.2.mem ((c.tc : Thread Cert.ScInBwdRefIdeal.nD Cert.ScInBwdRefIdeal.τ).loc Cert.ScInBwdRefIdeal.main_v75) = v4 c
          ∧ r.2.mem ((c.tc : Thread Cert.ScInBwdRefIdeal.nD Cert.ScInBwdRefIdeal.τ).loc Cert.ScInBwdRefIdeal.main_arg0) = m' ((c.tc : Thread Cert.ScInBwdRefIdeal.nD Cert.ScInBwdRefIdeal.τ).loc Cert.ScInBwdRefIdeal.main_arg0)
          ∧ r.2.mem ((c.tc : Thread Cert.ScInBwdRefIdeal.nD Cert.ScInBwdRefIdeal.τ).loc Cert.ScInBwdRefIdeal.main_arg1) = m' ((c.tc : Thread Cert.ScInBwdRefIdeal.nD Cert.ScInBwdRefIdeal.τ).loc Cert.ScInBwdRefIdeal.main_arg1)
          ∧ r.2.mem ((c.tc : Thread Cert.ScInBwdRefIdeal.nD Cert.ScInBwdRefIdeal.τ).loc Cert.ScInBwdRefIdeal.main_arg2) = m' ((c.tc : Thread Cert.ScInBwdRefIdeal.nD Cert.ScInBwdRefIdeal.τ).loc Cert.ScInBwdRefIdeal.main_arg2)
          ∧ r.2.mem ((c.tc : Thread Cert.ScInBwdRefIdeal.nD Cert.ScInBwdRefIdeal.τ).loc Cert.ScInBwdRefIdeal.main_arg3) = m' ((c.tc : Thread Cert.ScInBwdRefIdeal.nD Cert.ScInBwdRefIdeal.τ).loc Cert.ScInBwdRefIdeal.main_arg3)
          ∧ r.2.mem ((c.tc : Thread Cert.ScInBwdRefIdeal.nD Cert.ScInBwdRefIdeal.τ).loc Cert.ScInBwdRefIdeal.main_arg4) = m' ((c.tc : Thread Cert.ScInBwdRefIdeal.nD Cert.ScInBwdRefIdeal.τ).loc Cert.ScInBwdRefIdeal.main_arg4)
          ∧ r.2.mem ((c.tc : Thread Cert.ScInBwdRefIdeal.nD Cert.ScInBwdRefIdeal.τ).loc Cert.ScInBwdRefIdeal.main_arg5) = m' ((c.tc : Thread Cert.ScInBwdRefIdeal.nD Cert.ScInBwdRefIdeal.τ).loc Cert.ScInBwdRefIdeal.main_arg5)
          ∧ r.2.mem ((c.tc : Thread Cert.ScInBwdRefIdeal.nD Cert.ScInBwdRefIdeal.τ).loc Cert.ScInBwdRefIdeal.main_arg6) = m' ((c.tc : Thread Cert.ScInBwdRefIdeal.nD Cert.ScInBwdRefIdeal.τ).loc Cert.ScInBwdRefIdeal.main_arg6))

def preserves_Dw2Bwd_Dw2BwdIdeal : Prop :=
  True

def algebraic_Dw2BwdIdeal_Dw2BwdRefIdeal [hDw2BwdIdeal : Cert.Dw2BwdIdeal.Facts] [hDw2BwdRefIdeal : Cert.Dw2BwdRefIdeal.Facts] : Prop :=
  ∀ (m : (ℓ : Loc Cert.Dw2BwdIdeal.nD Cert.Dw2BwdIdeal.τ Cert.Dw2BwdIdeal.sig) → Buf (Elt Ideal) ℓ) (g : Dev Cert.Dw2BwdIdeal.nD → PrngReg)
    (m' : (ℓ : Loc Cert.Dw2BwdRefIdeal.nD Cert.Dw2BwdRefIdeal.τ Cert.Dw2BwdRefIdeal.sig) → Buf (Elt Ideal) ℓ) (g' : Dev Cert.Dw2BwdRefIdeal.nD → PrngReg), Pre_Dw2BwdIdeal m →
    (∀ c : Dev Cert.Dw2BwdIdeal.nD,
      m' ((c.tc : Thread Cert.Dw2BwdRefIdeal.nD Cert.Dw2BwdRefIdeal.τ).loc Cert.Dw2BwdRefIdeal.main_arg0) = m ((c.tc : Thread Cert.Dw2BwdIdeal.nD Cert.Dw2BwdIdeal.τ).loc Cert.Dw2BwdIdeal.main_arg0)
      ∧ m' ((c.tc : Thread Cert.Dw2BwdRefIdeal.nD Cert.Dw2BwdRefIdeal.τ).loc Cert.Dw2BwdRefIdeal.main_arg1) = m ((c.tc : Thread Cert.Dw2BwdIdeal.nD Cert.Dw2BwdIdeal.τ).loc Cert.Dw2BwdIdeal.main_arg1)) →
    ∃ (v0 : (c : Dev Cert.Dw2BwdIdeal.nD) → Buf (Elt Ideal) ((c.tc : Thread Cert.Dw2BwdIdeal.nD Cert.Dw2BwdIdeal.τ).loc Cert.Dw2BwdIdeal.main_v3)),
      θ_run (Cert.Dw2BwdIdeal.defs (F := Ideal)) (onTc (τ := Cert.Dw2BwdIdeal.τ) (Cert.Dw2BwdIdeal.main (F := Ideal))) ⟨m, fun _ => 0, g⟩ (fun r => ∀ c : Dev Cert.Dw2BwdIdeal.nD,
          r.2.mem ((c.tc : Thread Cert.Dw2BwdIdeal.nD Cert.Dw2BwdIdeal.τ).loc Cert.Dw2BwdIdeal.main_v3) = v0 c
          ∧ r.2.mem ((c.tc : Thread Cert.Dw2BwdIdeal.nD Cert.Dw2BwdIdeal.τ).loc Cert.Dw2BwdIdeal.main_arg0) = m ((c.tc : Thread Cert.Dw2BwdIdeal.nD Cert.Dw2BwdIdeal.τ).loc Cert.Dw2BwdIdeal.main_arg0)
          ∧ r.2.mem ((c.tc : Thread Cert.Dw2BwdIdeal.nD Cert.Dw2BwdIdeal.τ).loc Cert.Dw2BwdIdeal.main_arg1) = m ((c.tc : Thread Cert.Dw2BwdIdeal.nD Cert.Dw2BwdIdeal.τ).loc Cert.Dw2BwdIdeal.main_arg1))
      ∧ θ_run (Cert.Dw2BwdRefIdeal.defs (F := Ideal)) (onTc (τ := Cert.Dw2BwdRefIdeal.τ) (Cert.Dw2BwdRefIdeal.main (F := Ideal))) ⟨m', fun _ => 0, g'⟩ (fun r => ∀ c : Dev Cert.Dw2BwdRefIdeal.nD,
          r.2.mem ((c.tc : Thread Cert.Dw2BwdRefIdeal.nD Cert.Dw2BwdRefIdeal.τ).loc Cert.Dw2BwdRefIdeal.main_v7) = v0 c
          ∧ r.2.mem ((c.tc : Thread Cert.Dw2BwdRefIdeal.nD Cert.Dw2BwdRefIdeal.τ).loc Cert.Dw2BwdRefIdeal.main_arg0) = m' ((c.tc : Thread Cert.Dw2BwdRefIdeal.nD Cert.Dw2BwdRefIdeal.τ).loc Cert.Dw2BwdRefIdeal.main_arg0)
          ∧ r.2.mem ((c.tc : Thread Cert.Dw2BwdRefIdeal.nD Cert.Dw2BwdRefIdeal.τ).loc Cert.Dw2BwdRefIdeal.main_arg1) = m' ((c.tc : Thread Cert.Dw2BwdRefIdeal.nD Cert.Dw2BwdRefIdeal.τ).loc Cert.Dw2BwdRefIdeal.main_arg1))

def preserves_AttnFwd_AttnFwdIdeal : Prop :=
  IdealRules.named_const.Statement Cert.AttnFwdIdeal.κ "mask" .f32 0xF149F2CA#32 ⊥

def algebraic_AttnFwdIdeal_AttnFwdRefIdeal_pre_attn_fwd_finite [hAttnFwdIdeal : Cert.AttnFwdIdeal.Facts] [hAttnFwdRefIdeal : Cert.AttnFwdRefIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attn_fwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v8)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v8) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v26) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)
      ∧ m' ((c.tc : Thread Cert.DownFwdRefIdeal.nD Cert.DownFwdRefIdeal.τ).loc Cert.DownFwdRefIdeal.main_arg3) = m ((c.tc : Thread Cert.DownFwdIdeal.nD Cert.DownFwdIdeal.τ).loc Cert.DownFwdIdeal.main_arg3)
      ∧ m' ((c.tc : Thread Cert.DownFwdRefIdeal.nD Cert.DownFwdRefIdeal.τ).loc Cert.DownFwdRefIdeal.main_arg4) = m ((c.tc : Thread Cert.DownFwdIdeal.nD Cert.DownFwdIdeal.τ).loc Cert.DownFwdIdeal.main_arg4)) →
    ∃ (v0 : (c : Dev Cert.DownFwdIdeal.nD) → Buf (Elt Ideal) ((c.tc : Thread Cert.DownFwdIdeal.nD Cert.DownFwdIdeal.τ).loc Cert.DownFwdIdeal.main_v2_0)) (v1 : (c : Dev Cert.DownFwdIdeal.nD) → Buf (Elt Ideal) ((c.tc : Thread Cert.DownFwdIdeal.nD Cert.DownFwdIdeal.τ).loc Cert.DownFwdIdeal.main_v2_1)) (v2 : (c : Dev Cert.DownFwdIdeal.nD) → Buf (Elt Ideal) ((c.tc : Thread Cert.DownFwdIdeal.nD Cert.DownFwdIdeal.τ).loc Cert.DownFwdIdeal.main_v2_2)) (v3 : (c : Dev Cert.DownFwdIdeal.nD) → Buf (Elt Ideal) ((c.tc : Thread Cert.DownFwdIdeal.nD Cert.DownFwdIdeal.τ).loc Cert.DownFwdIdeal.main_v2_3)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v2_0) = v0 c
          ∧ r.2.mem ((c.tc : Thread Cert.DownFwdIdeal.nD Cert.DownFwdIdeal.τ).loc Cert.DownFwdIdeal.main_v2_1) = v1 c
          ∧ r.2.mem ((c.tc : Thread Cert.DownFwdIdeal.nD Cert.DownFwdIdeal.τ).loc Cert.DownFwdIdeal.main_v2_2) = v2 c
          ∧ r.2.mem ((c.tc : Thread Cert.DownFwdIdeal.nD Cert.DownFwdIdeal.τ).loc Cert.DownFwdIdeal.main_v2_3) = v3 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
          ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3)
          ∧ r.2.mem ((c.tc : Thread Cert.DownFwdIdeal.nD Cert.DownFwdIdeal.τ).loc Cert.DownFwdIdeal.main_arg4) = m ((c.tc : Thread Cert.DownFwdIdeal.nD Cert.DownFwdIdeal.τ).loc Cert.DownFwdIdeal.main_arg4))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v41) = v0 c
          ∧ r.2.mem ((c.tc : Thread Cert.DownFwdRefIdeal.nD Cert.DownFwdRefIdeal.τ).loc Cert.DownFwdRefIdeal.main_v42) = v1 c
          ∧ r.2.mem ((c.tc : Thread Cert.DownFwdRefIdeal.nD Cert.DownFwdRefIdeal.τ).loc Cert.DownFwdRefIdeal.main_v46) = v2 c
          ∧ r.2.mem ((c.tc : Thread Cert.DownFwdRefIdeal.nD Cert.DownFwdRefIdeal.τ).loc Cert.DownFwdRefIdeal.main_v19) = v3 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2)
          ∧ r.2.mem ((c.tc : Thread Cert.DownFwdRefIdeal.nD Cert.DownFwdRefIdeal.τ).loc Cert.DownFwdRefIdeal.main_arg3) = m' ((c.tc : Thread Cert.DownFwdRefIdeal.nD Cert.DownFwdRefIdeal.τ).loc Cert.DownFwdRefIdeal.main_arg3)
          ∧ r.2.mem ((c.tc : Thread Cert.DownFwdRefIdeal.nD Cert.DownFwdRefIdeal.τ).loc Cert.DownFwdRefIdeal.main_arg4) = m' ((c.tc : Thread Cert.DownFwdRefIdeal.nD Cert.DownFwdRefIdeal.τ).loc Cert.DownFwdRefIdeal.main_arg4))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)
      ∧ m' ((c.tc : Thread Cert.OutFwdRefIdeal.nD Cert.OutFwdRefIdeal.τ).loc Cert.OutFwdRefIdeal.main_arg4) = m ((c.tc : Thread Cert.OutFwdIdeal.nD Cert.OutFwdIdeal.τ).loc Cert.OutFwdIdeal.main_arg4)
      ∧ m' ((c.tc : Thread Cert.OutFwdRefIdeal.nD Cert.OutFwdRefIdeal.τ).loc Cert.OutFwdRefIdeal.main_arg5) = m ((c.tc : Thread Cert.OutFwdIdeal.nD Cert.OutFwdIdeal.τ).loc Cert.OutFwdIdeal.main_arg5)) →
    ∃ (v0 : (c : Dev Cert.OutFwdIdeal.nD) → Buf (Elt Ideal) ((c.tc : Thread Cert.OutFwdIdeal.nD Cert.OutFwdIdeal.τ).loc Cert.OutFwdIdeal.main_v2_0)) (v1 : (c : Dev Cert.OutFwdIdeal.nD) → Buf (Elt Ideal) ((c.tc : Thread Cert.OutFwdIdeal.nD Cert.OutFwdIdeal.τ).loc Cert.OutFwdIdeal.main_v2_1)) (v2 : (c : Dev Cert.OutFwdIdeal.nD) → Buf (Elt Ideal) ((c.tc : Thread Cert.OutFwdIdeal.nD Cert.OutFwdIdeal.τ).loc Cert.OutFwdIdeal.main_v2_2)) (v3 : (c : Dev Cert.OutFwdIdeal.nD) → Buf (Elt Ideal) ((c.tc : Thread Cert.OutFwdIdeal.nD Cert.OutFwdIdeal.τ).loc Cert.OutFwdIdeal.main_v2_3)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v2_0) = v0 c
          ∧ r.2.mem ((c.tc : Thread Cert.OutFwdIdeal.nD Cert.OutFwdIdeal.τ).loc Cert.OutFwdIdeal.main_v2_1) = v1 c
          ∧ r.2.mem ((c.tc : Thread Cert.OutFwdIdeal.nD Cert.OutFwdIdeal.τ).loc Cert.OutFwdIdeal.main_v2_2) = v2 c
          ∧ r.2.mem ((c.tc : Thread Cert.OutFwdIdeal.nD Cert.OutFwdIdeal.τ).loc Cert.OutFwdIdeal.main_v2_3) = v3 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
          ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v41) = v0 c
          ∧ r.2.mem ((c.tc : Thread Cert.OutFwdRefIdeal.nD Cert.OutFwdRefIdeal.τ).loc Cert.OutFwdRefIdeal.main_v42) = v1 c
          ∧ r.2.mem ((c.tc : Thread Cert.OutFwdRefIdeal.nD Cert.OutFwdRefIdeal.τ).loc Cert.OutFwdRefIdeal.main_v46) = v2 c
          ∧ r.2.mem ((c.tc : Thread Cert.OutFwdRefIdeal.nD Cert.OutFwdRefIdeal.τ).loc Cert.OutFwdRefIdeal.main_v19) = v3 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3)
          ∧ r.2.mem ((c.tc : Thread Cert.OutFwdRefIdeal.nD Cert.OutFwdRefIdeal.τ).loc Cert.OutFwdRefIdeal.main_arg4) = m' ((c.tc : Thread Cert.OutFwdRefIdeal.nD Cert.OutFwdRefIdeal.τ).loc Cert.OutFwdRefIdeal.main_arg4)
          ∧ r.2.mem ((c.tc : Thread Cert.OutFwdRefIdeal.nD Cert.OutFwdRefIdeal.τ).loc Cert.OutFwdRefIdeal.main_arg5) = m' ((c.tc : Thread Cert.OutFwdRefIdeal.nD Cert.OutFwdRefIdeal.τ).loc Cert.OutFwdRefIdeal.main_arg5))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)) →
    ∃ (v0 : (c : Dev Cert.GateFwdIdeal.nD) → Buf (Elt Ideal) ((c.tc : Thread Cert.GateFwdIdeal.nD Cert.GateFwdIdeal.τ).loc Cert.GateFwdIdeal.main_v0)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v0) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v29) = v0 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1))

def preserves_SwishFwd_SwishFwdIdeal : Prop :=
  True

def algebraic_SwishFwdIdeal_SwishFwdRefIdeal [hSwishFwdIdeal : Cert.SwishFwdIdeal.Facts] [hSwishFwdRefIdeal : Cert.SwishFwdRefIdeal.Facts] : Prop :=
  ∀ (m : (ℓ : Loc Cert.SwishFwdIdeal.nD Cert.SwishFwdIdeal.τ Cert.SwishFwdIdeal.sig) → Buf (Elt Ideal) ℓ) (g : Dev Cert.SwishFwdIdeal.nD → PrngReg)
    (m' : (ℓ : Loc Cert.SwishFwdRefIdeal.nD Cert.SwishFwdRefIdeal.τ Cert.SwishFwdRefIdeal.sig) → Buf (Elt Ideal) ℓ) (g' : Dev Cert.SwishFwdRefIdeal.nD → PrngReg), Pre_SwishFwdIdeal m →
    (∀ c : Dev Cert.SwishFwdIdeal.nD,
      m' ((c.tc : Thread Cert.SwishFwdRefIdeal.nD Cert.SwishFwdRefIdeal.τ).loc Cert.SwishFwdRefIdeal.main_arg0) = m ((c.tc : Thread Cert.SwishFwdIdeal.nD Cert.SwishFwdIdeal.τ).loc Cert.SwishFwdIdeal.main_arg0)
      ∧ m' ((c.tc : Thread Cert.SwishFwdRefIdeal.nD Cert.SwishFwdRefIdeal.τ).loc Cert.SwishFwdRefIdeal.main_arg1) = m ((c.tc : Thread Cert.SwishFwdIdeal.nD Cert.SwishFwdIdeal.τ).loc Cert.SwishFwdIdeal.main_arg1)
      ∧ m' ((c.tc : Thread Cert.SwishFwdRefIdeal.nD Cert.SwishFwdRefIdeal.τ).loc Cert.SwishFwdRefIdeal.main_arg2) = m ((c.tc : Thread Cert.SwishFwdIdeal.nD Cert.SwishFwdIdeal.τ).loc Cert.SwishFwdIdeal.main_arg2)) →
    ∃ (v0 : (c : Dev Cert.SwishFwdIdeal.nD) → Buf (Elt Ideal) ((c.tc : Thread Cert.SwishFwdIdeal.nD Cert.SwishFwdIdeal.τ).loc Cert.SwishFwdIdeal.main_v0)),
      θ_run (Cert.SwishFwdIdeal.defs (F := Ideal)) (onTc (τ := Cert.SwishFwdIdeal.τ) (Cert.SwishFwdIdeal.main (F := Ideal))) ⟨m, fun _ => 0, g⟩ (fun r => ∀ c : Dev Cert.SwishFwdIdeal.nD,
          r.2.mem ((c.tc : Thread Cert.SwishFwdIdeal.nD Cert.SwishFwdIdeal.τ).loc Cert.SwishFwdIdeal.main_v0) = v0 c
          ∧ r.2.mem ((c.tc : Thread Cert.SwishFwdIdeal.nD Cert.SwishFwdIdeal.τ).loc Cert.SwishFwdIdeal.main_arg0) = m ((c.tc : Thread Cert.SwishFwdIdeal.nD Cert.SwishFwdIdeal.τ).loc Cert.SwishFwdIdeal.main_arg0)
          ∧ r.2.mem ((c.tc : Thread Cert.SwishFwdIdeal.nD Cert.SwishFwdIdeal.τ).loc Cert.SwishFwdIdeal.main_arg1) = m ((c.tc : Thread Cert.SwishFwdIdeal.nD Cert.SwishFwdIdeal.τ).loc Cert.SwishFwdIdeal.main_arg1)
          ∧ r.2.mem ((c.tc : Thread Cert.SwishFwdIdeal.nD Cert.SwishFwdIdeal.τ).loc Cert.SwishFwdIdeal.main_arg2) = m ((c.tc : Thread Cert.SwishFwdIdeal.nD Cert.SwishFwdIdeal.τ).loc Cert.SwishFwdIdeal.main_arg2))
      ∧ θ_run (Cert.SwishFwdRefIdeal.defs (F := Ideal)) (onTc (τ := Cert.SwishFwdRefIdeal.τ) (Cert.SwishFwdRefIdeal.main (F := Ideal))) ⟨m', fun _ => 0, g'⟩ (fun r => ∀ c : Dev Cert.SwishFwdRefIdeal.nD,
          r.2.mem ((c.tc : Thread Cert.SwishFwdRefIdeal.nD Cert.SwishFwdRefIdeal.τ).loc Cert.SwishFwdRefIdeal.main_v23) = v0 c
          ∧ r.2.mem ((c.tc : Thread Cert.SwishFwdRefIdeal.nD Cert.SwishFwdRefIdeal.τ).loc Cert.SwishFwdRefIdeal.main_arg0) = m' ((c.tc : Thread Cert.SwishFwdRefIdeal.nD Cert.SwishFwdRefIdeal.τ).loc Cert.SwishFwdRefIdeal.main_arg0)
          ∧ r.2.mem ((c.tc : Thread Cert.SwishFwdRefIdeal.nD Cert.SwishFwdRefIdeal.τ).loc Cert.SwishFwdRefIdeal.main_arg1) = m' ((c.tc : Thread Cert.SwishFwdRefIdeal.nD Cert.SwishFwdRefIdeal.τ).loc Cert.SwishFwdRefIdeal.main_arg1)
          ∧ r.2.mem ((c.tc : Thread Cert.SwishFwdRefIdeal.nD Cert.SwishFwdRefIdeal.τ).loc Cert.SwishFwdRefIdeal.main_arg2) = m' ((c.tc : Thread Cert.SwishFwdRefIdeal.nD Cert.SwishFwdRefIdeal.τ).loc Cert.SwishFwdRefIdeal.main_arg2))

def preserves_LatentsFwd_LatentsFwdIdeal : Prop :=
  True

def algebraic_LatentsFwdIdeal_LatentsFwdRefIdeal [hLatentsFwdIdeal : Cert.LatentsFwdIdeal.Facts] [hLatentsFwdRefIdeal : Cert.LatentsFwdRefIdeal.Facts] : Prop :=
  ∀ (m : (ℓ : Loc Cert.LatentsFwdIdeal.nD Cert.LatentsFwdIdeal.τ Cert.LatentsFwdIdeal.sig) → Buf (Elt Ideal) ℓ) (g : Dev Cert.LatentsFwdIdeal.nD → PrngReg)
    (m' : (ℓ : Loc Cert.LatentsFwdRefIdeal.nD Cert.LatentsFwdRefIdeal.τ Cert.LatentsFwdRefIdeal.sig) → Buf (Elt Ideal) ℓ) (g' : Dev Cert.LatentsFwdRefIdeal.nD → PrngReg), Pre_LatentsFwdIdeal m →
    (∀ c : Dev Cert.LatentsFwdIdeal.nD,
      m' ((c.tc : Thread Cert.LatentsFwdRefIdeal.nD Cert.LatentsFwdRefIdeal.τ).loc Cert.LatentsFwdRefIdeal.main_arg0) = m ((c.tc : Thread Cert.LatentsFwdIdeal.nD Cert.LatentsFwdIdeal.τ).loc Cert.LatentsFwdIdeal.main_arg0)
      ∧ m' ((c.tc : Thread Cert.LatentsFwdRefIdeal.nD Cert.LatentsFwdRefIdeal.τ).loc Cert.LatentsFwdRefIdeal.main_arg1) = m ((c.tc : Thread Cert.LatentsFwdIdeal.nD Cert.LatentsFwdIdeal.τ).loc Cert.LatentsFwdIdeal.main_arg1)
      ∧ m' ((c.tc : Thread Cert.LatentsFwdRefIdeal.nD Cert.LatentsFwdRefIdeal.τ).loc Cert.LatentsFwdRefIdeal.main_arg2) = m ((c.tc : Thread Cert.LatentsFwdIdeal.nD Cert.LatentsFwdIdeal.τ).loc Cert.LatentsFwdIdeal.main_arg2)
      ∧ m' ((c.tc : Thread Cert.LatentsFwdRefIdeal.nD Cert.LatentsFwdRefIdeal.τ).loc Cert.LatentsFwdRefIdeal.main_arg3) = m ((c.tc : Thread Cert.LatentsFwdIdeal.nD Cert.LatentsFwdIdeal.τ).loc Cert.LatentsFwdIdeal.main_arg3)) →
    ∃ (v0 : (c : Dev Cert.LatentsFwdIdeal.nD) → Buf (Elt Ideal) ((c.tc : Thread Cert.LatentsFwdIdeal.nD Cert.LatentsFwdIdeal.τ).loc Cert.LatentsFwdIdeal.main_v24_0)) (v1 : (c : Dev Cert.LatentsFwdIdeal.nD) → Buf (Elt Ideal) ((c.tc : Thread Cert.LatentsFwdIdeal.nD Cert.LatentsFwdIdeal.τ).loc Cert.LatentsFwdIdeal.main_v24_1)) (v2 : (c : Dev Cert.LatentsFwdIdeal.nD) → Buf (Elt Ideal) ((c.tc : Thread Cert.LatentsFwdIdeal.nD Cert.LatentsFwdIdeal.τ).loc Cert.LatentsFwdIdeal.main_v24_2)),
      θ_run (Cert.LatentsFwdIdeal.defs (F := Ideal)) (onTc (τ := Cert.LatentsFwdIdeal.τ) (Cert.LatentsFwdIdeal.main (F := Ideal))) ⟨m, fun _ => 0, g⟩ (fun r => ∀ c : Dev Cert.LatentsFwdIdeal.nD,
          r.2.mem ((c.tc : Thread Cert.LatentsFwdIdeal.nD Cert.LatentsFwdIdeal.τ).loc Cert.LatentsFwdIdeal.main_v24_0) = v0 c
          ∧ r.2.mem ((c.tc : Thread Cert.LatentsFwdIdeal.nD Cert.LatentsFwdIdeal.τ).loc Cert.LatentsFwdIdeal.main_v24_1) = v1 c
          ∧ r.2.mem ((c.tc : Thread Cert.LatentsFwdIdeal.nD Cert.LatentsFwdIdeal.τ).loc Cert.LatentsFwdIdeal.main_v24_2) = v2 c
          ∧ r.2.mem ((c.tc : Thread Cert.LatentsFwdIdeal.nD Cert.LatentsFwdIdeal.τ).loc Cert.LatentsFwdIdeal.main_arg0) = m ((c.tc : Thread Cert.LatentsFwdIdeal.nD Cert.LatentsFwdIdeal.τ).loc Cert.LatentsFwdIdeal.main_arg0)
          ∧ r.2.mem ((c.tc : Thread Cert.LatentsFwdIdeal.nD Cert.LatentsFwdIdeal.τ).loc Cert.LatentsFwdIdeal.main_arg1) = m ((c.tc : Thread Cert.LatentsFwdIdeal.nD Cert.LatentsFwdIdeal.τ).loc Cert.LatentsFwdIdeal.main_arg1)
          ∧ r.2.mem ((c.tc : Thread Cert.LatentsFwdIdeal.nD Cert.LatentsFwdIdeal.τ).loc Cert.LatentsFwdIdeal.main_arg2) = m ((c.tc : Thread Cert.LatentsFwdIdeal.nD Cert.LatentsFwdIdeal.τ).loc Cert.LatentsFwdIdeal.main_arg2)
          ∧ r.2.mem ((c.tc : Thread Cert.LatentsFwdIdeal.nD Cert.LatentsFwdIdeal.τ).loc Cert.LatentsFwdIdeal.main_arg3) = m ((c.tc : Thread Cert.LatentsFwdIdeal.nD Cert.LatentsFwdIdeal.τ).loc Cert.LatentsFwdIdeal.main_arg3))
      ∧ θ_run (Cert.LatentsFwdRefIdeal.defs (F := Ideal)) (onTc (τ := Cert.LatentsFwdRefIdeal.τ) (Cert.LatentsFwdRefIdeal.main (F := Ideal))) ⟨m', fun _ => 0, g'⟩ (fun r => ∀ c : Dev Cert.LatentsFwdRefIdeal.nD,
          r.2.mem ((c.tc : Thread Cert.LatentsFwdRefIdeal.nD Cert.LatentsFwdRefIdeal.τ).loc Cert.LatentsFwdRefIdeal.main_v41) = v0 c
          ∧ r.2.mem ((c.tc : Thread Cert.LatentsFwdRefIdeal.nD Cert.LatentsFwdRefIdeal.τ).loc Cert.LatentsFwdRefIdeal.main_v55) = v1 c
          ∧ r.2.mem ((c.tc : Thread Cert.LatentsFwdRefIdeal.nD Cert.LatentsFwdRefIdeal.τ).loc Cert.LatentsFwdRefIdeal.main_v56) = v2 c
          ∧ r.2.mem ((c.tc : Thread Cert.LatentsFwdRefIdeal.nD Cert.LatentsFwdRefIdeal.τ).loc Cert.LatentsFwdRefIdeal.main_arg0) = m' ((c.tc : Thread Cert.LatentsFwdRefIdeal.nD Cert.LatentsFwdRefIdeal.τ).loc Cert.LatentsFwdRefIdeal.main_arg0)
          ∧ r.2.mem ((c.tc : Thread Cert.LatentsFwdRefIdeal.nD Cert.LatentsFwdRefIdeal.τ).loc Cert.LatentsFwdRefIdeal.main_arg1) = m' ((c.tc : Thread Cert.LatentsFwdRefIdeal.nD Cert.LatentsFwdRefIdeal.τ).loc Cert.LatentsFwdRefIdeal.main_arg1)
          ∧ r.2.mem ((c.tc : Thread Cert.LatentsFwdRefIdeal.nD Cert.LatentsFwdRefIdeal.τ).loc Cert.LatentsFwdRefIdeal.main_arg2) = m' ((c.tc : Thread Cert.LatentsFwdRefIdeal.nD Cert.LatentsFwdRefIdeal.τ).loc Cert.LatentsFwdRefIdeal.main_arg2)
          ∧ r.2.mem ((c.tc : Thread Cert.LatentsFwdRefIdeal.nD Cert.LatentsFwdRefIdeal.τ).loc Cert.LatentsFwdRefIdeal.main_arg3) = m' ((c.tc : Thread Cert.LatentsFwdRefIdeal.nD Cert.LatentsFwdRefIdeal.τ).loc Cert.LatentsFwdRefIdeal.main_arg3))

def preserves_QueriesFwd_QueriesFwdIdeal : Prop :=
  True

def algebraic_QueriesFwdIdeal_QueriesFwdRefIdeal [hQueriesFwdIdeal : Cert.QueriesFwdIdeal.Facts] [hQueriesFwdRefIdeal : Cert.QueriesFwdRefIdeal.Facts] : Prop :=
  ∀ (m : (ℓ : Loc Cert.QueriesFwdIdeal.nD Cert.QueriesFwdIdeal.τ Cert.QueriesFwdIdeal.sig) → Buf (Elt Ideal) ℓ) (g : Dev Cert.QueriesFwdIdeal.nD → PrngReg)
    (m' : (ℓ : Loc Cert.QueriesFwdRefIdeal.nD Cert.QueriesFwdRefIdeal.τ Cert.QueriesFwdRefIdeal.sig) → Buf (Elt Ideal) ℓ) (g' : Dev Cert.QueriesFwdRefIdeal.nD → PrngReg), Pre_QueriesFwdIdeal m →
    (∀ c : Dev Cert.QueriesFwdIdeal.nD,
      m' ((c.tc : Thread Cert.QueriesFwdRefIdeal.nD Cert.QueriesFwdRefIdeal.τ).loc Cert.QueriesFwdRefIdeal.main_arg0) = m ((c.tc : Thread Cert.QueriesFwdIdeal.nD Cert.QueriesFwdIdeal.τ).loc Cert.QueriesFwdIdeal.main_arg0)
      ∧ m' ((c.tc : Thread Cert.QueriesFwdRefIdeal.nD Cert.QueriesFwdRefIdeal.τ).loc Cert.QueriesFwdRefIdeal.main_arg1) = m ((c.tc : Thread Cert.QueriesFwdIdeal.nD Cert.QueriesFwdIdeal.τ).loc Cert.QueriesFwdIdeal.main_arg1)) →
    ∃ (v0 : (c : Dev Cert.QueriesFwdIdeal.nD) → Buf (Elt Ideal) ((c.tc : Thread Cert.QueriesFwdIdeal.nD Cert.QueriesFwdIdeal.τ).loc Cert.QueriesFwdIdeal.main_v27)),
      θ_run (Cert.QueriesFwdIdeal.defs (F := Ideal)) (onTc (τ := Cert.QueriesFwdIdeal.τ) (Cert.QueriesFwdIdeal.main (F := Ideal))) ⟨m, fun _ => 0, g⟩ (fun r => ∀ c : Dev Cert.QueriesFwdIdeal.nD,
          r.2.mem ((c.tc : Thread Cert.QueriesFwdIdeal.nD Cert.QueriesFwdIdeal.τ).loc Cert.QueriesFwdIdeal.main_v27) = v0 c
          ∧ r.2.mem ((c.tc : Thread Cert.QueriesFwdIdeal.nD Cert.QueriesFwdIdeal.τ).loc Cert.QueriesFwdIdeal.main_arg0) = m ((c.tc : Thread Cert.QueriesFwdIdeal.nD Cert.QueriesFwdIdeal.τ).loc Cert.QueriesFwdIdeal.main_arg0)
          ∧ r.2.mem ((c.tc : Thread Cert.QueriesFwdIdeal.nD Cert.QueriesFwdIdeal.τ).loc Cert.QueriesFwdIdeal.main_arg1) = m ((c.tc : Thread Cert.QueriesFwdIdeal.nD Cert.QueriesFwdIdeal.τ).loc Cert.QueriesFwdIdeal.main_arg1))
      ∧ θ_run (Cert.QueriesFwdRefIdeal.defs (F := Ideal)) (onTc (τ := Cert.QueriesFwdRefIdeal.τ) (Cert.QueriesFwdRefIdeal.main (F := Ideal))) ⟨m', fun _ => 0, g'⟩ (fun r => ∀ c : Dev Cert.QueriesFwdRefIdeal.nD,
          r.2.mem ((c.tc : Thread Cert.QueriesFwdRefIdeal.nD Cert.QueriesFwdRefIdeal.τ).loc Cert.QueriesFwdRefIdeal.main_v40) = v0 c
          ∧ r.2.mem ((c.tc : Thread Cert.QueriesFwdRefIdeal.nD Cert.QueriesFwdRefIdeal.τ).loc Cert.QueriesFwdRefIdeal.main_arg0) = m' ((c.tc : Thread Cert.QueriesFwdRefIdeal.nD Cert.QueriesFwdRefIdeal.τ).loc Cert.QueriesFwdRefIdeal.main_arg0)
          ∧ r.2.mem ((c.tc : Thread Cert.QueriesFwdRefIdeal.nD Cert.QueriesFwdRefIdeal.τ).loc Cert.QueriesFwdRefIdeal.main_arg1) = m' ((c.tc : Thread Cert.QueriesFwdRefIdeal.nD Cert.QueriesFwdRefIdeal.τ).loc Cert.QueriesFwdRefIdeal.main_arg1))

def preserves_KeysFwd_KeysFwdIdeal : Prop :=
  True

def algebraic_KeysFwdIdeal_KeysFwdRefIdeal [hKeysFwdIdeal : Cert.KeysFwdIdeal.Facts] [hKeysFwdRefIdeal : Cert.KeysFwdRefIdeal.Facts] : Prop :=
  ∀ (m : (ℓ : Loc Cert.KeysFwdIdeal.nD Cert.KeysFwdIdeal.τ Cert.KeysFwdIdeal.sig) → Buf (Elt Ideal) ℓ) (g : Dev Cert.KeysFwdIdeal.nD → PrngReg)
    (m' : (ℓ : Loc Cert.KeysFwdRefIdeal.nD Cert.KeysFwdRefIdeal.τ Cert.KeysFwdRefIdeal.sig) → Buf (Elt Ideal) ℓ) (g' : Dev Cert.KeysFwdRefIdeal.nD → PrngReg), Pre_KeysFwdIdeal m →
    (∀ c : Dev Cert.KeysFwdIdeal.nD,
      m' ((c.tc : Thread Cert.KeysFwdRefIdeal.nD Cert.KeysFwdRefIdeal.τ).loc Cert.KeysFwdRefIdeal.main_arg0) = m ((c.tc : Thread Cert.KeysFwdIdeal.nD Cert.KeysFwdIdeal.τ).loc Cert.KeysFwdIdeal.main_arg0)
      ∧ m' ((c.tc : Thread Cert.KeysFwdRefIdeal.nD Cert.KeysFwdRefIdeal.τ).loc Cert.KeysFwdRefIdeal.main_arg1) = m ((c.tc : Thread Cert.KeysFwdIdeal.nD Cert.KeysFwdIdeal.τ).loc Cert.KeysFwdIdeal.main_arg1)
      ∧ m' ((c.tc : Thread Cert.KeysFwdRefIdeal.nD Cert.KeysFwdRefIdeal.τ).loc Cert.KeysFwdRefIdeal.main_arg2) = m ((c.tc : Thread Cert.KeysFwdIdeal.nD Cert.KeysFwdIdeal.τ).loc Cert.KeysFwdIdeal.main_arg2)) →
    ∃ (v0 : (c : Dev Cert.KeysFwdIdeal.nD) → Buf (Elt Ideal) ((c.tc : Thread Cert.KeysFwdIdeal.nD Cert.KeysFwdIdeal.τ).loc Cert.KeysFwdIdeal.main_v4)),
      θ_run (Cert.KeysFwdIdeal.defs (F := Ideal)) (onTc (τ := Cert.KeysFwdIdeal.τ) (Cert.KeysFwdIdeal.main (F := Ideal))) ⟨m, fun _ => 0, g⟩ (fun r => ∀ c : Dev Cert.KeysFwdIdeal.nD,
          r.2.mem ((c.tc : Thread Cert.KeysFwdIdeal.nD Cert.KeysFwdIdeal.τ).loc Cert.KeysFwdIdeal.main_v4) = v0 c
          ∧ r.2.mem ((c.tc : Thread Cert.KeysFwdIdeal.nD Cert.KeysFwdIdeal.τ).loc Cert.KeysFwdIdeal.main_arg0) = m ((c.tc : Thread Cert.KeysFwdIdeal.nD Cert.KeysFwdIdeal.τ).loc Cert.KeysFwdIdeal.main_arg0)
          ∧ r.2.mem ((c.tc : Thread Cert.KeysFwdIdeal.nD Cert.KeysFwdIdeal.τ).loc Cert.KeysFwdIdeal.main_arg1) = m ((c.tc : Thread Cert.KeysFwdIdeal.nD Cert.KeysFwdIdeal.τ).loc Cert.KeysFwdIdeal.main_arg1)
          ∧ r.2.mem ((c.tc : Thread Cert.KeysFwdIdeal.nD Cert.KeysFwdIdeal.τ).loc Cert.KeysFwdIdeal.main_arg2) = m ((c.tc : Thread Cert.KeysFwdIdeal.nD Cert.KeysFwdIdeal.τ).loc Cert.KeysFwdIdeal.main_arg2))
      ∧ θ_run (Cert.KeysFwdRefIdeal.defs (F := Ideal)) (onTc (τ := Cert.KeysFwdRefIdeal.τ) (Cert.KeysFwdRefIdeal.main (F := Ideal))) ⟨m', fun _ => 0, g'⟩ (fun r => ∀ c : Dev Cert.KeysFwdRefIdeal.nD,
          r.2.mem ((c.tc : Thread Cert.KeysFwdRefIdeal.nD Cert.KeysFwdRefIdeal.τ).loc Cert.KeysFwdRefIdeal.main_v7) = v0 c
          ∧ r.2.mem ((c.tc : Thread Cert.KeysFwdRefIdeal.nD Cert.KeysFwdRefIdeal.τ).loc Cert.KeysFwdRefIdeal.main_arg0) = m' ((c.tc : Thread Cert.KeysFwdRefIdeal.nD Cert.KeysFwdRefIdeal.τ).loc Cert.KeysFwdRefIdeal.main_arg0)
          ∧ r.2.mem ((c.tc : Thread Cert.KeysFwdRefIdeal.nD Cert.KeysFwdRefIdeal.τ).loc Cert.KeysFwdRefIdeal.main_arg1) = m' ((c.tc : Thread Cert.KeysFwdRefIdeal.nD Cert.KeysFwdRefIdeal.τ).loc Cert.KeysFwdRefIdeal.main_arg1)
          ∧ r.2.mem ((c.tc : Thread Cert.KeysFwdRefIdeal.nD Cert.KeysFwdRefIdeal.τ).loc Cert.KeysFwdRefIdeal.main_arg2) = m' ((c.tc : Thread Cert.KeysFwdRefIdeal.nD Cert.KeysFwdRefIdeal.τ).loc Cert.KeysFwdRefIdeal.main_arg2))

def preserves_GluBwd_GluBwdIdeal : Prop :=
  True

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)
      ∧ m' ((c.tc : Thread Cert.GluFwdRefIdeal.nD Cert.GluFwdRefIdeal.τ).loc Cert.GluFwdRefIdeal.main_arg2) = m ((c.tc : Thread Cert.GluFwdIdeal.nD Cert.GluFwdIdeal.τ).loc Cert.GluFwdIdeal.main_arg2)) →
    ∃ (v0 : (c : Dev Cert.GluFwdIdeal.nD) → Buf (Elt Ideal) ((c.tc : Thread Cert.GluFwdIdeal.nD Cert.GluFwdIdeal.τ).loc Cert.GluFwdIdeal.main_v0)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v0) = v0 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
          ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v230) = v0 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1)
          ∧ r.2.mem ((c.tc : Thread Cert.GluFwdRefIdeal.nD Cert.GluFwdRefIdeal.τ).loc Cert.GluFwdRefIdeal.main_arg2) = m' ((c.tc : Thread Cert.GluFwdRefIdeal.nD Cert.GluFwdRefIdeal.τ).loc Cert.GluFwdRefIdeal.main_arg2))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v11)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v11) = v0 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v1) = v0 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1))

def preserves_ToInBwd_ToInBwdIdeal : Prop :=
  True

def algebraic_ToInBwdIdeal_ToInBwdRefIdeal [hToInBwdIdeal : Cert.ToInBwdIdeal.Facts] [hToInBwdRefIdeal : Cert.ToInBwdRefIdeal.Facts] : Prop :=
  ∀ (m : (ℓ : Loc Cert.ToInBwdIdeal.nD Cert.ToInBwdIdeal.τ Cert.ToInBwdIdeal.sig) → Buf (Elt Ideal) ℓ) (g : Dev Cert.ToInBwdIdeal.nD → PrngReg)
    (m' : (ℓ : Loc Cert.ToInBwdRefIdeal.nD Cert.ToInBwdRefIdeal.τ Cert.ToInBwdRefIdeal.sig) → Buf (Elt Ideal) ℓ) (g' : Dev Cert.ToInBwdRefIdeal.nD → PrngReg), Pre_ToInBwdIdeal m →
    (∀ c : Dev Cert.ToInBwdIdeal.nD,
      m' ((c.tc : Thread Cert.ToInBwdRefIdeal.nD Cert.ToInBwdRefIdeal.τ).loc Cert.ToInBwdRefIdeal.main_arg0) = m ((c.tc : Thread Cert.ToInBwdIdeal.nD Cert.ToInBwdIdeal.τ).loc Cert.ToInBwdIdeal.main_arg0)
      ∧ m' ((c.tc : Thread Cert.ToInBwdRefIdeal.nD Cert.ToInBwdRefIdeal.τ).loc Cert.ToInBwdRefIdeal.main_arg1) = m ((c.tc : Thread Cert.ToInBwdIdeal.nD Cert.ToInBwdIdeal.τ).loc Cert.ToInBwdIdeal.main_arg1)
      ∧ m' ((c.tc : Thread Cert.ToInBwdRefIdeal.nD Cert.ToInBwdRefIdeal.τ).loc Cert.ToInBwdRefIdeal.main_arg2) = m ((c.tc : Thread Cert.ToInBwdIdeal.nD Cert.ToInBwdIdeal.τ).loc Cert.ToInBwdIdeal.main_arg2)) →
    ∃ (v0 : (c : Dev Cert.ToInBwdIdeal.nD) → Buf (Elt Ideal) ((c.tc : Thread Cert.ToInBwdIdeal.nD Cert.ToInBwdIdeal.τ).loc Cert.ToInBwdIdeal.main_v2)),
      θ_run (Cert.ToInBwdIdeal.defs (F := Ideal)) (onTc (τ := Cert.ToInBwdIdeal.τ) (Cert.ToInBwdIdeal.main (F := Ideal))) ⟨m, fun _ => 0, g⟩ (fun r => ∀ c : Dev Cert.ToInBwdIdeal.nD,
          r.2.mem ((c.tc : Thread Cert.ToInBwdIdeal.nD Cert.ToInBwdIdeal.τ).loc Cert.ToInBwdIdeal.main_v2) = v0 c
          ∧ r.2.mem ((c.tc : Thread Cert.ToInBwdIdeal.nD Cert.ToInBwdIdeal.τ).loc Cert.ToInBwdIdeal.main_arg0) = m ((c.tc : Thread Cert.ToInBwdIdeal.nD Cert.ToInBwdIdeal.τ).loc Cert.ToInBwdIdeal.main_arg0)
          ∧ r.2.mem ((c.tc : Thread Cert.ToInBwdIdeal.nD Cert.ToInBwdIdeal.τ).loc Cert.ToInBwdIdeal.main_arg1) = m ((c.tc : Thread Cert.ToInBwdIdeal.nD Cert.ToInBwdIdeal.τ).loc Cert.ToInBwdIdeal.main_arg1)
          ∧ r.2.mem ((c.tc : Thread Cert.ToInBwdIdeal.nD Cert.ToInBwdIdeal.τ).loc Cert.ToInBwdIdeal.main_arg2) = m ((c.tc : Thread Cert.ToInBwdIdeal.nD Cert.ToInBwdIdeal.τ).loc Cert.ToInBwdIdeal.main_arg2))
      ∧ θ_run (Cert.ToInBwdRefIdeal.defs (F := Ideal)) (onTc (τ := Cert.ToInBwdRefIdeal.τ) (Cert.ToInBwdRefIdeal.main (F := Ideal))) ⟨m', fun _ => 0, g'⟩ (fun r => ∀ c : Dev Cert.ToInBwdRefIdeal.nD,
          r.2.mem ((c.tc : Thread Cert.ToInBwdRefIdeal.nD Cert.ToInBwdRefIdeal.τ).loc Cert.ToInBwdRefIdeal.main_v14) = v0 c
          ∧ r.2.mem ((c.tc : Thread Cert.ToInBwdRefIdeal.nD Cert.ToInBwdRefIdeal.τ).loc Cert.ToInBwdRefIdeal.main_arg0) = m' ((c.tc : Thread Cert.ToInBwdRefIdeal.nD Cert.ToInBwdRefIdeal.τ).loc Cert.ToInBwdRefIdeal.main_arg0)
          ∧ r.2.mem ((c.tc : Thread Cert.ToInBwdRefIdeal.nD Cert.ToInBwdRefIdeal.τ).loc Cert.ToInBwdRefIdeal.main_arg1) = m' ((c.tc : Thread Cert.ToInBwdRefIdeal.nD Cert.ToInBwdRefIdeal.τ).loc Cert.ToInBwdRefIdeal.main_arg1)
          ∧ r.2.mem ((c.tc : Thread Cert.ToInBwdRefIdeal.nD Cert.ToInBwdRefIdeal.τ).loc Cert.ToInBwdRefIdeal.main_arg2) = m' ((c.tc : Thread Cert.ToInBwdRefIdeal.nD Cert.ToInBwdRefIdeal.τ).loc Cert.ToInBwdRefIdeal.main_arg2))

def Claim : Prop :=
  ∃ (hScBwd : Cert.ScBwd.Facts) (hScBwdIdeal : Cert.ScBwdIdeal.Facts) (hScBwdRefIdeal : Cert.ScBwdRefIdeal.Facts) (hUnropeBwd : Cert.UnropeBwd.Facts) (hUnropeBwdIdeal : Cert.UnropeBwdIdeal.Facts) (hUnropeBwdRefIdeal : Cert.UnropeBwdRefIdeal.Facts) (hDownBwd : Cert.DownBwd.Facts) (hDownBwdIdeal : Cert.DownBwdIdeal.Facts) (hDownBwdRefIdeal : Cert.DownBwdRefIdeal.Facts) (hSwishBwd : Cert.SwishBwd.Facts) (hSwishBwdIdeal : Cert.SwishBwdIdeal.Facts) (hSwishBwdRefIdeal : Cert.SwishBwdRefIdeal.Facts) (hLossBwd : Cert.LossBwd.Facts) (hLossBwdIdeal : Cert.LossBwdIdeal.Facts) (hLossBwdRefIdeal : Cert.LossBwdRefIdeal.Facts) (hUpBwd : Cert.UpBwd.Facts) (hUpBwdIdeal : Cert.UpBwdIdeal.Facts) (hUpBwdRefIdeal : Cert.UpBwdRefIdeal.Facts) (hAttnBwd : Cert.AttnBwd.Facts) (hAttnBwdIdeal : Cert.AttnBwdIdeal.Facts) (hAttnBwdRefIdeal : Cert.AttnBwdRefIdeal.Facts) (hLatentsBwd : Cert.LatentsBwd.Facts) (hLatentsBwdIdeal : Cert.LatentsBwdIdeal.Facts) (hLatentsBwdRefIdeal : Cert.LatentsBwdRefIdeal.Facts) (hScInBwd : Cert.ScInBwd.Facts) (hScInBwdIdeal : Cert.ScInBwdIdeal.Facts) (hScInBwdRefIdeal : Cert.ScInBwdRefIdeal.Facts) (hDw2Bwd : Cert.Dw2Bwd.Facts) (hDw2BwdIdeal : Cert.Dw2BwdIdeal.Facts) (hDw2BwdRefIdeal : Cert.Dw2BwdRefIdeal.Facts) (hAttnFwd : Cert.AttnFwd.Facts) (hAttnFwdIdeal : Cert.AttnFwdIdeal.Facts) (hAttnFwdRefIdeal : Cert.AttnFwdRefIdeal.Facts) (hDownFwd : Cert.DownFwd.Facts) (hDownFwdIdeal : Cert.DownFwdIdeal.Facts) (hDownFwdRefIdeal : Cert.DownFwdRefIdeal.Facts) (hOutFwd : Cert.OutFwd.Facts) (hOutFwdIdeal : Cert.OutFwdIdeal.Facts) (hOutFwdRefIdeal : Cert.OutFwdRefIdeal.Facts) (hGateFwd : Cert.GateFwd.Facts) (hGateFwdIdeal : Cert.GateFwdIdeal.Facts) (hGateFwdRefIdeal : Cert.GateFwdRefIdeal.Facts) (hSwishFwd : Cert.SwishFwd.Facts) (hSwishFwdIdeal : Cert.SwishFwdIdeal.Facts) (hSwishFwdRefIdeal : Cert.SwishFwdRefIdeal.Facts) (hLatentsFwd : Cert.LatentsFwd.Facts) (hLatentsFwdIdeal : Cert.LatentsFwdIdeal.Facts) (hLatentsFwdRefIdeal : Cert.LatentsFwdRefIdeal.Facts) (hQueriesFwd : Cert.QueriesFwd.Facts) (hQueriesFwdIdeal : Cert.QueriesFwdIdeal.Facts) (hQueriesFwdRefIdeal : Cert.QueriesFwdRefIdeal.Facts) (hKeysFwd : Cert.KeysFwd.Facts) (hKeysFwdIdeal : Cert.KeysFwdIdeal.Facts) (hKeysFwdRefIdeal : Cert.KeysFwdRefIdeal.Facts) (hGluBwd : Cert.GluBwd.Facts) (hGluBwdIdeal : Cert.GluBwdIdeal.Facts) (hGluFwd : Cert.GluFwd.Facts) (hGluFwdIdeal : Cert.GluFwdIdeal.Facts) (hGluFwdRefIdeal : Cert.GluFwdRefIdeal.Facts) (hUpFwd : Cert.UpFwd.Facts) (hUpFwdIdeal : Cert.UpFwdIdeal.Facts) (hUpFwdRefIdeal : Cert.UpFwdRefIdeal.Facts) (hToInBwd : Cert.ToInBwd.Facts) (hToInBwdIdeal : Cert.ToInBwdIdeal.Facts) (hToInBwdRefIdeal : Cert.ToInBwdRefIdeal.Facts) (hPre_swish_finite : Cert.Pre_swish_finite.Facts) (hPre_loss_finite : Cert.Pre_loss_finite.Facts) (hPre_up_finite : Cert.Pre_up_finite.Facts) (hPre_attn_finite : Cert.Pre_attn_finite.Facts) (hPre_latents_finite : Cert.Pre_latents_finite.Facts) (hPre_scin_finite : Cert.Pre_scin_finite.Facts) (hPre_attn_fwd_finite : Cert.Pre_attn_fwd_finite.Facts),
    quiescent_ScBwd (hScBwd := hScBwd)
    ∧ quiescent_ScBwdIdeal (hScBwdIdeal := hScBwdIdeal)
    ∧ quiescent_ScBwdRefIdeal (hScBwdRefIdeal := hScBwdRefIdeal)
    ∧ quiescent_UnropeBwd (hUnropeBwd := hUnropeBwd)
    ∧ quiescent_UnropeBwdIdeal (hUnropeBwdIdeal := hUnropeBwdIdeal)
    ∧ quiescent_UnropeBwdRefIdeal (hUnropeBwdRefIdeal := hUnropeBwdRefIdeal)
    ∧ quiescent_DownBwd (hDownBwd := hDownBwd)
    ∧ quiescent_DownBwdIdeal (hDownBwdIdeal := hDownBwdIdeal)
    ∧ quiescent_DownBwdRefIdeal (hDownBwdRefIdeal := hDownBwdRefIdeal)
    ∧ quiescent_SwishBwd (hSwishBwd := hSwishBwd)
    ∧ quiescent_SwishBwdIdeal (hSwishBwdIdeal := hSwishBwdIdeal)
    ∧ quiescent_SwishBwdIdeal_pre_swish_finite (hSwishBwdIdeal := hSwishBwdIdeal) (hPre_swish_finite := hPre_swish_finite)
    ∧ quiescent_SwishBwdRefIdeal (hSwishBwdRefIdeal := hSwishBwdRefIdeal)
    ∧ quiescent_SwishBwdRefIdeal_pre_swish_finite (hSwishBwdRefIdeal := hSwishBwdRefIdeal) (hPre_swish_finite := hPre_swish_finite)
    ∧ quiescent_LossBwd (hLossBwd := hLossBwd)
    ∧ quiescent_LossBwdIdeal (hLossBwdIdeal := hLossBwdIdeal)
    ∧ quiescent_LossBwdIdeal_pre_loss_finite (hLossBwdIdeal := hLossBwdIdeal) (hPre_loss_finite := hPre_loss_finite)
    ∧ quiescent_LossBwdRefIdeal (hLossBwdRefIdeal := hLossBwdRefIdeal)
    ∧ quiescent_LossBwdRefIdeal_pre_loss_finite (hLossBwdRefIdeal := hLossBwdRefIdeal) (hPre_loss_finite := hPre_loss_finite)
    ∧ quiescent_UpBwd (hUpBwd := hUpBwd)
    ∧ quiescent_UpBwdIdeal (hUpBwdIdeal := hUpBwdIdeal)
    ∧ quiescent_UpBwdIdeal_pre_up_finite (hUpBwdIdeal := hUpBwdIdeal) (hPre_up_finite := hPre_up_finite)
    ∧ quiescent_UpBwdRefIdeal (hUpBwdRefIdeal := hUpBwdRefIdeal)
    ∧ quiescent_UpBwdRefIdeal_pre_up_finite (hUpBwdRefIdeal := hUpBwdRefIdeal) (hPre_up_finite := hPre_up_finite)
    ∧ quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnBwdRefIdeal (hAttnBwdRefIdeal := hAttnBwdRefIdeal)
    ∧ quiescent_AttnBwdRefIdeal_pre_attn_finite (hAttnBwdRefIdeal := hAttnBwdRefIdeal) (hPre_attn_finite := hPre_attn_finite)
    ∧ quiescent_LatentsBwd (hLatentsBwd := hLatentsBwd)
    ∧ quiescent_LatentsBwdIdeal (hLatentsBwdIdeal := hLatentsBwdIdeal)
    ∧ quiescent_LatentsBwdIdeal_pre_latents_finite (hLatentsBwdIdeal := hLatentsBwdIdeal) (hPre_latents_finite := hPre_latents_finite)
    ∧ quiescent_LatentsBwdRefIdeal (hLatentsBwdRefIdeal := hLatentsBwdRefIdeal)
    ∧ quiescent_LatentsBwdRefIdeal_pre_latents_finite (hLatentsBwdRefIdeal := hLatentsBwdRefIdeal) (hPre_latents_finite := hPre_latents_finite)
    ∧ quiescent_ScInBwd (hScInBwd := hScInBwd)
    ∧ quiescent_ScInBwdIdeal (hScInBwdIdeal := hScInBwdIdeal)
    ∧ quiescent_ScInBwdIdeal_pre_scin_finite (hScInBwdIdeal := hScInBwdIdeal) (hPre_scin_finite := hPre_scin_finite)
    ∧ quiescent_ScInBwdRefIdeal (hScInBwdRefIdeal := hScInBwdRefIdeal)
    ∧ quiescent_ScInBwdRefIdeal_pre_scin_finite (hScInBwdRefIdeal := hScInBwdRefIdeal) (hPre_scin_finite := hPre_scin_finite)
    ∧ quiescent_Dw2Bwd (hDw2Bwd := hDw2Bwd)
    ∧ quiescent_Dw2BwdIdeal (hDw2BwdIdeal := hDw2BwdIdeal)
    ∧ quiescent_Dw2BwdRefIdeal (hDw2BwdRefIdeal := hDw2BwdRefIdeal)
    ∧ quiescent_AttnFwd (hAttnFwd := hAttnFwd)
    ∧ quiescent_AttnFwdIdeal (hAttnFwdIdeal := hAttnFwdIdeal)
    ∧ quiescent_AttnFwdIdeal_pre_attn_fwd_finite (hAttnFwdIdeal := hAttnFwdIdeal) (hPre_attn_fwd_finite := hPre_attn_fwd_finite)
    ∧ quiescent_AttnFwdRefIdeal (hAttnFwdRefIdeal := hAttnFwdRefIdeal)
    ∧ quiescent_AttnFwdRefIdeal_pre_attn_fwd_finite (hAttnFwdRefIdeal := hAttnFwdRefIdeal) (hPre_attn_fwd_finite := hPre_attn_fwd_finite)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_SwishFwd (hSwishFwd := hSwishFwd)
    ∧ quiescent_SwishFwdIdeal (hSwishFwdIdeal := hSwishFwdIdeal)
    ∧ quiescent_SwishFwdRefIdeal (hSwishFwdRefIdeal := hSwishFwdRefIdeal)
    ∧ quiescent_LatentsFwd (hLatentsFwd := hLatentsFwd)
    ∧ quiescent_LatentsFwdIdeal (hLatentsFwdIdeal := hLatentsFwdIdeal)
    ∧ quiescent_LatentsFwdRefIdeal (hLatentsFwdRefIdeal := hLatentsFwdRefIdeal)
    ∧ quiescent_QueriesFwd (hQueriesFwd := hQueriesFwd)
    ∧ quiescent_QueriesFwdIdeal (hQueriesFwdIdeal := hQueriesFwdIdeal)
    ∧ quiescent_QueriesFwdRefIdeal (hQueriesFwdRefIdeal := hQueriesFwdRefIdeal)
    ∧ quiescent_KeysFwd (hKeysFwd := hKeysFwd)
    ∧ quiescent_KeysFwdIdeal (hKeysFwdIdeal := hKeysFwdIdeal)
    ∧ quiescent_KeysFwdRefIdeal (hKeysFwdRefIdeal := hKeysFwdRefIdeal)
    ∧ quiescent_GluBwd (hGluBwd := hGluBwd)
    ∧ quiescent_GluBwdIdeal (hGluBwdIdeal := hGluBwdIdeal)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_ToInBwd (hToInBwd := hToInBwd)
    ∧ quiescent_ToInBwdIdeal (hToInBwdIdeal := hToInBwdIdeal)
    ∧ quiescent_ToInBwdRefIdeal (hToInBwdRefIdeal := hToInBwdRefIdeal)
    ∧ preserves_ScBwd_ScBwdIdeal
    ∧ algebraic_ScBwdIdeal_ScBwdRefIdeal (hScBwdIdeal := hScBwdIdeal) (hScBwdRefIdeal := hScBwdRefIdeal)
    ∧ preserves_UnropeBwd_UnropeBwdIdeal
    ∧ algebraic_UnropeBwdIdeal_UnropeBwdRefIdeal (hUnropeBwdIdeal := hUnropeBwdIdeal) (hUnropeBwdRefIdeal := hUnropeBwdRefIdeal)
    ∧ preserves_DownBwd_DownBwdIdeal
    ∧ algebraic_DownBwdIdeal_DownBwdRefIdeal (hDownBwdIdeal := hDownBwdIdeal) (hDownBwdRefIdeal := hDownBwdRefIdeal)
    ∧ preserves_SwishBwd_SwishBwdIdeal
    ∧ algebraic_SwishBwdIdeal_SwishBwdRefIdeal_pre_swish_finite (hSwishBwdIdeal := hSwishBwdIdeal) (hSwishBwdRefIdeal := hSwishBwdRefIdeal) (hPre_swish_finite := hPre_swish_finite)
    ∧ preserves_LossBwd_LossBwdIdeal
    ∧ algebraic_LossBwdIdeal_LossBwdRefIdeal_pre_loss_finite (hLossBwdIdeal := hLossBwdIdeal) (hLossBwdRefIdeal := hLossBwdRefIdeal) (hPre_loss_finite := hPre_loss_finite)
    ∧ preserves_UpBwd_UpBwdIdeal
    ∧ algebraic_UpBwdIdeal_UpBwdRefIdeal_pre_up_finite (hUpBwdIdeal := hUpBwdIdeal) (hUpBwdRefIdeal := hUpBwdRefIdeal) (hPre_up_finite := hPre_up_finite)
    ∧ preserves_AttnBwd_AttnBwdIdeal
    ∧ algebraic_AttnBwdIdeal_AttnBwdRefIdeal_pre_attn_finite (hAttnBwdIdeal := hAttnBwdIdeal) (hAttnBwdRefIdeal := hAttnBwdRefIdeal) (hPre_attn_finite := hPre_attn_finite)
    ∧ preserves_LatentsBwd_LatentsBwdIdeal
    ∧ algebraic_LatentsBwdIdeal_LatentsBwdRefIdeal_pre_latents_finite (hLatentsBwdIdeal := hLatentsBwdIdeal) (hLatentsBwdRefIdeal := hLatentsBwdRefIdeal) (hPre_latents_finite := hPre_latents_finite)
    ∧ preserves_ScInBwd_ScInBwdIdeal
    ∧ algebraic_ScInBwdIdeal_ScInBwdRefIdeal_pre_scin_finite (hScInBwdIdeal := hScInBwdIdeal) (hScInBwdRefIdeal := hScInBwdRefIdeal) (hPre_scin_finite := hPre_scin_finite)
    ∧ preserves_Dw2Bwd_Dw2BwdIdeal
    ∧ algebraic_Dw2BwdIdeal_Dw2BwdRefIdeal (hDw2BwdIdeal := hDw2BwdIdeal) (hDw2BwdRefIdeal := hDw2BwdRefIdeal)
    ∧ preserves_AttnFwd_AttnFwdIdeal
    ∧ algebraic_AttnFwdIdeal_AttnFwdRefIdeal_pre_attn_fwd_finite (hAttnFwdIdeal := hAttnFwdIdeal) (hAttnFwdRefIdeal := hAttnFwdRefIdeal) (hPre_attn_fwd_finite := hPre_attn_fwd_finite)
    ∧ preserves_DownFwd_DownFwdIdeal
    ∧ algebraic_DownFwdIdeal_DownFwdRefIdeal (hDownFwdIdeal := hDownFwdIdeal) (hDownFwdRefIdeal := hDownFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_GateFwd_GateFwdIdeal
    ∧ algebraic_GateFwdIdeal_GateFwdRefIdeal (hGateFwdIdeal := hGateFwdIdeal) (hGateFwdRefIdeal := hGateFwdRefIdeal)
    ∧ preserves_SwishFwd_SwishFwdIdeal
    ∧ algebraic_SwishFwdIdeal_SwishFwdRefIdeal (hSwishFwdIdeal := hSwishFwdIdeal) (hSwishFwdRefIdeal := hSwishFwdRefIdeal)
    ∧ preserves_LatentsFwd_LatentsFwdIdeal
    ∧ algebraic_LatentsFwdIdeal_LatentsFwdRefIdeal (hLatentsFwdIdeal := hLatentsFwdIdeal) (hLatentsFwdRefIdeal := hLatentsFwdRefIdeal)
    ∧ preserves_QueriesFwd_QueriesFwdIdeal
    ∧ algebraic_QueriesFwdIdeal_QueriesFwdRefIdeal (hQueriesFwdIdeal := hQueriesFwdIdeal) (hQueriesFwdRefIdeal := hQueriesFwdRefIdeal)
    ∧ preserves_KeysFwd_KeysFwdIdeal
    ∧ algebraic_KeysFwdIdeal_KeysFwdRefIdeal (hKeysFwdIdeal := hKeysFwdIdeal) (hKeysFwdRefIdeal := hKeysFwdRefIdeal)
    ∧ preserves_GluBwd_GluBwdIdeal
    ∧ preserves_GluFwd_GluFwdIdeal
    ∧ algebraic_GluFwdIdeal_GluFwdRefIdeal (hGluFwdIdeal := hGluFwdIdeal) (hGluFwdRefIdeal := hGluFwdRefIdeal)
    ∧ preserves_UpFwd_UpFwdIdeal
    ∧ algebraic_UpFwdIdeal_UpFwdRefIdeal (hUpFwdIdeal := hUpFwdIdeal) (hUpFwdRefIdeal := hUpFwdRefIdeal)
    ∧ preserves_ToInBwd_ToInBwdIdeal
    ∧ algebraic_ToInBwdIdeal_ToInBwdRefIdeal (hToInBwdIdeal := hToInBwdIdeal) (hToInBwdRefIdeal := hToInBwdRefIdeal)
-- ==== Pre_attn_finite.lean ====
abbrev S2048x8x192 : Shape := ⟨3, ![2048, 8, 192]⟩
abbrev S2048x8x128 : Shape := ⟨3, ![2048, 8, 128]⟩
abbrev S_ : Shape := ⟨0, ![]⟩

class Facts : Prop where
  bcast_S_S2048x8x192 : S_.BroadcastsInDim S2048x8x192 (![] : Fin 0 → Fin S2048x8x192.rank)
  bcast_S_S2048x8x128 : S_.BroadcastsInDim S2048x8x128 (![] : Fin 0 → Fin S2048x8x128.rank)

variable [Facts]

def fn {F : FTy → Type} [FloatOps F] (main_arg0 : FVec F S2048x8x192 .f32) (main_arg1 : FVec F S2048x8x192 .f32) (main_arg2 : FVec F S2048x8x128 .f32) (main_arg3 : FVec F S2048x8x128 .f32) : IVec S2048x8x192 1 × IVec S2048x8x192 1 × IVec S2048x8x128 1 × IVec S2048x8x128 1 :=
  let main_v0 : FVec F S2048x8x192 .f32 := Host.absf main_arg0
  let main_cst : FVec F S_ .f32 := constant S_ .f32 0x7F800000#32
  let main_v1 : FVec F S2048x8x192 .f32 := broadcastInDim S2048x8x192 ![] bcast_S_S2048x8x192 main_cst
  let main_v2 : IVec S2048x8x192 1 := cmpf .olt main_v0 main_v1
  let main_v3 : FVec F S2048x8x192 .f32 := Host.absf main_arg1
  let main_cst_0 : FVec F S_ .f32 := constant S_ .f32 0x7F800000#32
  let main_v4 : FVec F S2048x8x192 .f32 := broadcastInDim S2048x8x192 ![] bcast_S_S2048x8x192 main_cst_0
  let main_v5 : IVec S2048x8x192 1 := cmpf .olt main_v3 main_v4
  let main_v6 : FVec F S2048x8x128 .f32 := Host.absf main_arg2
  let main_cst_1 : FVec F S_ .f32 := constant S_ .f32 0x7F800000#32
  let main_v7 : FVec F S2048x8x128 .f32 := broadcastInDim S2048x8x128 ![] bcast_S_S2048x8x128 main_cst_1
  let main_v8 : IVec S2048x8x128 1 := cmpf .olt main_v6 main_v7
  let main_v9 : FVec F S2048x8x128 .f32 := Host.absf main_arg3
  let main_cst_2 : FVec F S_ .f32 := constant S_ .f32 0x7F800000#32
  let main_v10 : FVec F S2048x8x128 .f32 := broadcastInDim S2048x8x128 ![] bcast_S_S2048x8x128 main_cst_2
  let main_v11 : IVec S2048x8x128 1 := cmpf .olt main_v9 main_v10
  (main_v2, main_v5, main_v8, main_v11)
-- ==== Pre_attn_fwd_finite.lean ====
abbrev S2048x8x192 : Shape := ⟨3, ![2048, 8, 192]⟩
abbrev S2048x8x128 : Shape := ⟨3, ![2048, 8, 128]⟩
abbrev S_ : Shape := ⟨0, ![]⟩

class Facts : Prop where
  bcast_S_S2048x8x192 : S_.BroadcastsInDim S2048x8x192 (![] : Fin 0 → Fin S2048x8x192.rank)

variable [Facts]

def fn {F : FTy → Type} [FloatOps F] (main_arg0 : FVec F S2048x8x192 .f32) (main_arg1 : FVec F S2048x8x192 .f32) (main_arg2 : FVec F S2048x8x128 .f32) : IVec S2048x8x192 1 × IVec S2048x8x192 1 :=
  let main_v0 : FVec F S2048x8x192 .f32 := Host.absf main_arg0
  let main_cst : FVec F S_ .f32 := constant S_ .f32 0x7F800000#32
  let main_v1 : FVec F S2048x8x192 .f32 := broadcastInDim S2048x8x192 ![] bcast_S_S2048x8x192 main_cst
  let main_v2 : IVec S2048x8x192 1 := cmpf .olt main_v0 main_v1
  let main_v3 : FVec F S2048x8x192 .f32 := Host.absf main_arg1
  let main_cst_0 : FVec F S_ .f32 := constant S_ .f32 0x7F800000#32
  let main_v4 : FVec F S2048x8x192 .f32 := broadcastInDim S2048x8x192 ![] bcast_S_S2048x8x192 main_cst_0
  let main_v5 : IVec S2048x8x192 1 := cmpf .olt main_v3 main_v4
  (main_v2, main_v5)
-- ==== Pre_latents_finite.lean ====
abbrev S2048x384 : Shape := ⟨2, ![2048, 384]⟩
abbrev S2048x320 : Shape := ⟨2, ![2048, 320]⟩
abbrev S1x384 : Shape := ⟨2, ![1, 384]⟩
abbrev S1x256 : Shape := ⟨2, ![1, 256]⟩
abbrev S2048x256 : Shape := ⟨2, ![2048, 256]⟩
abbrev S2048x64 : Shape := ⟨2, ![2048, 64]⟩
abbrev S_ : Shape := ⟨0, ![]⟩

class Facts : Prop where
  bcast_S_S2048x384 : S_.BroadcastsInDim S2048x384 (![] : Fin 0 → Fin S2048x384.rank)
  slices_S2048x320_S2048x256_0_0 : S2048x320.Slices ![0, 0] S2048x256
  bcast_S_S2048x256 : S_.BroadcastsInDim S2048x256 (![] : Fin 0 → Fin S2048x256.rank)
  bcast_S_S1x384 : S_.BroadcastsInDim S1x384 (![] : Fin 0 → Fin S1x384.rank)
  bcast_S_S1x256 : S_.BroadcastsInDim S1x256 (![] : Fin 0 → Fin S1x256.rank)

variable [Facts]

def fn_part1 {F : FTy → Type} [FloatOps F] (main_v2 : IVec S2048x384 1) (main_v6 : IVec S2048x256 1) (main_v9 : IVec S1x384 1) (main_v12 : IVec S1x256 1) (main_v15 : IVec S2048x384 1) (main_v16 : FVec F S2048x256 .f32) (main_v17 : FVec F S2048x256 .f32) : IVec S2048x384 1 × IVec S2048x256 1 × IVec S1x384 1 × IVec S1x256 1 × IVec S2048x384 1 × IVec S2048x256 1 :=
  let main_v18 : IVec S2048x256 1 := cmpf .olt main_v16 main_v17
  (main_v2, main_v6, main_v9, main_v12, main_v15, main_v18)

def fn {F : FTy → Type} [FloatOps F] (main_arg0 : FVec F S2048x384 .f32) (main_arg1 : FVec F S2048x320 .f32) (main_arg2 : FVec F S1x384 .f32) (main_arg3 : FVec F S1x256 .f32) (main_arg4 : FVec F S2048x384 .f32) (main_arg5 : FVec F S2048x256 .f32) (main_arg6 : FVec F S2048x64 .f32) : IVec S2048x384 1 × IVec S2048x256 1 × IVec S1x384 1 × IVec S1x256 1 × IVec S2048x384 1 × IVec S2048x256 1 :=
  let main_v0 : FVec F S2048x384 .f32 := Host.absf main_arg0
  let main_cst : FVec F S_ .f32 := constant S_ .f32 0x7F800000#32
  let main_v1 : FVec F S2048x384 .f32 := broadcastInDim S2048x384 ![] bcast_S_S2048x384 main_cst
  let main_v2 : IVec S2048x384 1 := cmpf .olt main_v0 main_v1
  let main_v3 : FVec F S2048x256 .f32 := (extractStridedSlice S2048x256 ![0, 0] · slices_S2048x320_S2048x256_0_0) main_arg1
  let main_v4 : FVec F S2048x256 .f32 := Host.absf main_v3
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_v7 : FVec F S1x384 .f32 := Host.absf main_arg2
  let main_cst_1 : FVec F S_ .f32 := constant S_ .f32 0x7F800000#32
  let main_v8 : FVec F S1x384 .f32 := broadcastInDim S1x384 ![] bcast_S_S1x384 main_cst_1
  let main_v9 : IVec S1x384 1 := cmpf .olt main_v7 main_v8
  let main_v10 : FVec F S1x256 .f32 := Host.absf main_arg3
  let main_cst_2 : FVec F S_ .f32 := constant S_ .f32 0x7F800000#32
  let main_v11 : FVec F S1x256 .f32 := broadcastInDim S1x256 ![] bcast_S_S1x256 main_cst_2
  let main_v12 : IVec S1x256 1 := cmpf .olt main_v10 main_v11
  let main_v13 : FVec F S2048x384 .f32 := Host.absf main_arg4
  let main_cst_3 : FVec F S_ .f32 := constant S_ .f32 0x7F800000#32
  let main_v14 : FVec F S2048x384 .f32 := broadcastInDim S2048x384 ![] bcast_S_S2048x384 main_cst_3
  let main_v15 : IVec S2048x384 1 := cmpf .olt main_v13 main_v14
  let main_v16 : FVec F S2048x256 .f32 := Host.absf main_arg5
  let main_cst_4 : FVec F S_ .f32 := constant S_ .f32 0x7F800000#32
  let main_v17 : FVec F S2048x256 .f32 := broadcastInDim S2048x256 ![] bcast_S_S2048x256 main_cst_4
  fn_part1 (F := F) main_v2 main_v6 main_v9 main_v12 main_v15 main_v16 main_v17
-- ==== Pre_loss_finite.lean ====
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S2048x1024 .f32) (main_arg1 : FVec F S1x1024 .f32) (main_arg2 : FVec F S1x1024 .f32) (main_arg3 : FVec F S2048x1024 .f32) : IVec S2048x1024 1 × IVec S1x1024 1 × IVec S1x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  (main_v2, main_v5, main_v8, main_v11)
-- ==== Pre_scin_finite.lean ====
abbrev S2048x1024 : Shape := ⟨2, ![2048, 1024]⟩
abbrev S1x1024 : Shape := ⟨2, ![1, 1024]⟩
abbrev S1024x3072 : Shape := ⟨2, ![1024, 3072]⟩
abbrev S3x2048x1024 : Shape := ⟨3, ![3, 2048, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)
  bcast_S_S1024x3072 : S_.BroadcastsInDim S1024x3072 (![] : Fin 0 → Fin S1024x3072.rank)
  bcast_S_S3x2048x1024 : S_.BroadcastsInDim S3x2048x1024 (![] : Fin 0 → Fin S3x2048x1024.rank)

variable [Facts]

def fn {F : FTy → Type} [FloatOps F] (main_arg0 : FVec F S2048x1024 .f32) (main_arg1 : FVec F S1x1024 .f32) (main_arg2 : FVec F S1x1024 .f32) (main_arg3 : FVec F S1x1024 .f32) (main_arg4 : FVec F S1024x3072 .f32) (main_arg5 : FVec F S3x2048x1024 .f32) (main_arg6 : FVec F S2048x1024 .f32) : IVec S2048x1024 1 × IVec S1x1024 1 × IVec S1x1024 1 × IVec S1024x3072 1 × IVec S3x2048x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x3072 .f32 := Host.absf main_arg4
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_v12 : FVec F S3x2048x1024 .f32 := Host.absf main_arg5
  let main_cst_3 : FVec F S_ .f32 := constant S_ .f32 0x7F800000#32
  let main_v13 : FVec F S3x2048x1024 .f32 := broadcastInDim S3x2048x1024 ![] bcast_S_S3x2048x1024 main_cst_3
  let main_v14 : IVec S3x2048x1024 1 := cmpf .olt main_v12 main_v13
  let main_v15 : FVec F S2048x1024 .f32 := Host.absf main_arg6
  let main_cst_4 : FVec F S_ .f32 := constant S_ .f32 0x7F800000#32
  let main_v16 : FVec F S2048x1024 .f32 := broadcastInDim S2048x1024 ![] bcast_S_S2048x1024 main_cst_4
  let main_v17 : IVec S2048x1024 1 := cmpf .olt main_v15 main_v16
  (main_v2, main_v5, main_v8, main_v11, main_v14, main_v17)
-- ==== Pre_swish_finite.lean ====
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S2048x1024 .f32) (main_arg1 : FVec F S1x1024 .f32) (main_arg2 : FVec F S1x1024 .f32) (main_arg3 : FVec F S2048x1024 .f32) : IVec S2048x1024 1 × IVec S1x1024 1 × IVec S1x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  (main_v2, main_v5, main_v8, main_v11)
-- ==== Pre_up_finite.lean ====
abbrev S2048x1024 : Shape := ⟨2, ![2048, 1024]⟩
abbrev S1x1024 : Shape := ⟨2, ![1, 1024]⟩
abbrev S1024x4096 : Shape := ⟨2, ![1024, 4096]⟩
abbrev S2048x4096 : Shape := ⟨2, ![2048, 4096]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)
  bcast_S_S1024x4096 : S_.BroadcastsInDim S1024x4096 (![] : Fin 0 → Fin S1024x4096.rank)
  bcast_S_S2048x4096 : S_.BroadcastsInDim S2048x4096 (![] : Fin 0 → Fin S2048x4096.rank)

variable [Facts]

def fn {F : FTy → Type} [FloatOps F] (main_arg0 : FVec F S2048x1024 .f32) (main_arg1 : FVec F S1x1024 .f32) (main_arg2 : FVec F S1x1024 .f32) (main_arg3 : FVec F S1x1024 .f32) (main_arg4 : FVec F S1024x4096 .f32) (main_arg5 : FVec F S2048x4096 .f32) (main_arg6 : FVec F S2048x1024 .f32) : IVec S2048x1024 1 × IVec S1x1024 1 × IVec S1x1024 1 × IVec S1024x4096 1 × IVec S2048x4096 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x4096 .f32 := Host.absf main_arg4
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_v12 : FVec F S2048x4096 .f32 := Host.absf main_arg5
  let main_cst_3 : FVec F S_ .f32 := constant S_ .f32 0x7F800000#32
  let main_v13 : FVec F S2048x4096 .f32 := broadcastInDim S2048x4096 ![] bcast_S_S2048x4096 main_cst_3
  let main_v14 : IVec S2048x4096 1 := cmpf .olt main_v12 main_v13
  let main_v15 : FVec F S2048x1024 .f32 := Host.absf main_arg6
  let main_cst_4 : FVec F S_ .f32 := constant S_ .f32 0x7F800000#32
  let main_v16 : FVec F S2048x1024 .f32 := broadcastInDim S2048x1024 ![] bcast_S_S2048x1024 main_cst_4
  let main_v17 : IVec S2048x1024 1 := cmpf .olt main_v15 main_v16
  (main_v2, main_v5, main_v8, main_v11, main_v14, main_v17)
-- ==== ScBwd.lean ====
abbrev S2048x3072 : Shape := ⟨2, ![2048, 3072]⟩
abbrev S3x1024 : Shape := ⟨2, ![3, 1024]⟩
abbrev S2048x1024 : Shape := ⟨2, ![2048, 1024]⟩
abbrev S3x2048x1024 : Shape := ⟨3, ![3, 2048, 1024]⟩
abbrev S2048x256 : Shape := ⟨2, ![2048, 256]⟩
abbrev S3x256 : Shape := ⟨2, ![3, 256]⟩
abbrev S3x2048x256 : Shape := ⟨3, ![3, 2048, 256]⟩
abbrev S1x256 : Shape := ⟨2, ![1, 256]⟩
abbrev S256 : Shape := ⟨1, ![256]⟩
abbrev S1x2048x256 : Shape := ⟨3, ![1, 2048, 256]⟩

abbrev nBuf : Space → Nat
  | .hbm => 5
  | .vmem => 14
  | .smem => 0
  | _ => 0

abbrev bufTy : (tb : Table) → Fin (tcTables nBuf tb) → BufTy
  | .hbm, ⟨0, _⟩ => ⟨S2048x3072, .f32⟩
  | .hbm, ⟨1, _⟩ => ⟨S3x1024, .f32⟩
  | .hbm, ⟨2, _⟩ => ⟨S2048x1024, .f32⟩
  | .hbm, ⟨3, _⟩ => ⟨S3x2048x1024, .bf16⟩
  | .hbm, ⟨4, _⟩ => ⟨S3x1024, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S3x256, .f32⟩
  | .local _ .vmem, ⟨7, _⟩ => ⟨S3x256, .f32⟩
  | .local _ .vmem, ⟨8, _⟩ => ⟨S2048x256, .f32⟩
  | .local _ .vmem, ⟨9, _⟩ => ⟨S2048x256, .f32⟩
  | .local _ .vmem, ⟨10, _⟩ => ⟨S3x2048x256, .bf16⟩
  | .local _ .vmem, ⟨11, _⟩ => ⟨S3x2048x256, .bf16⟩
  | .local _ .vmem, ⟨12, _⟩ => ⟨S3x256, .f32⟩
  | .local _ .vmem, ⟨13, _⟩ => ⟨S3x256, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ScBwdRefIdeal.lean ====
abbrev S2048x3072 : Shape := ⟨2, ![2048, 3072]⟩
abbrev S3x1024 : Shape := ⟨2, ![3, 1024]⟩
abbrev S2048x1024 : Shape := ⟨2, ![2048, 1024]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S1024 : Shape := ⟨1, ![1024]⟩
abbrev S1x2048x1024 : Shape := ⟨3, ![1, 2048, 1024]⟩
abbrev S3x2048x1024 : Shape := ⟨3, ![3, 2048, 1024]⟩

abbrev nBuf : Space → Nat
  | .hbm => 94
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S3x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2x1024, .f32⟩
  | .hbm, ⟨9, _⟩ => ⟨S2050x1024, .f32⟩
  | .hbm, ⟨10, _⟩ => ⟨S_, .f32⟩
  | .hbm, ⟨11, _⟩ => ⟨S2x1024, .f32⟩
  | .hbm, ⟨12, _⟩ => ⟨S1x1024, .f32⟩
  | .hbm, ⟨13, _⟩ => ⟨S1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S1x1024, .f32⟩
  | .hbm, ⟨29, _⟩ => ⟨S1024, .f32⟩
  | .hbm, ⟨30, _⟩ => ⟨S2048x1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S_, .f32⟩
  | .hbm, ⟨47, _⟩ => ⟨S2050x1024, .f32⟩
  | .hbm, ⟨48, _⟩ => ⟨S1x1024, .f32⟩
  | .hbm, ⟨49, _⟩ => ⟨S_, .f32⟩
  | .hbm, ⟨50, _⟩ => ⟨S3x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S_, .f32⟩
  | .hbm, ⟨60, _⟩ => ⟨S2050x1024, .f32⟩
  | .hbm, ⟨61, _⟩ => ⟨S2050x1024, .f32⟩
  | .hbm, ⟨62, _⟩ => ⟨S1x1024, .f32⟩
  | .hbm, ⟨63, _⟩ => ⟨S_, .f32⟩
  | .hbm, ⟨64, _⟩ => ⟨S3x1024, .f32⟩
  | .hbm, ⟨65, _⟩ => ⟨S3x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S_, .f32⟩
  | .hbm, ⟨73, _⟩ => ⟨S1024, .f32⟩
  | .hbm, ⟨74, _⟩ => ⟨S_, .f32⟩
  | .hbm, ⟨75, _⟩ => ⟨S2050x1024, .f32⟩
  | .hbm, ⟨76, _⟩ => ⟨S2050x1024, .f32⟩
  | .hbm, ⟨77, _⟩ => ⟨S1x1024, .f32⟩
  | .hbm, ⟨78, _⟩ => ⟨S_, .f32⟩
  | .hbm, ⟨79, _⟩ => ⟨S3x1024, .f32⟩
  | .hbm, ⟨80, _⟩ => ⟨S3x1024, .f32⟩
  | .hbm, ⟨81, _⟩ => ⟨S2x1024, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S2048x3072, .f32⟩
  | .hbm, ⟨86, _⟩ => ⟨S2048x1024, .f32⟩
  | .hbm, ⟨87, _⟩ => ⟨S2048x1024, .f32⟩
  | .hbm, ⟨88, _⟩ => ⟨S2048x1024, .f32⟩
  | .hbm, ⟨89, _⟩ => ⟨S1x2048x1024, .f32⟩
  | .hbm, ⟨90, _⟩ => ⟨S1x2048x1024, .f32⟩
  | .hbm, ⟨91, _⟩ => ⟨S1x2048x1024, .f32⟩
  | .hbm, ⟨92, _⟩ => ⟨S3x2048x1024, .f32⟩
  | .hbm, ⟨93, _⟩ => ⟨S3x2048x1024, .bf16⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_13 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩

abbrev nD : Nat := 1
abbrev τ : Topo := Topo.v7x

variable {F : FTy → Type} [FloatOps F]
-- ==== UnropeBwd.lean ====
abbrev S2048x8x192 : Shape := ⟨3, ![2048, 8, 192]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S2048x8x256 : Shape := ⟨3, ![2048, 8, 256]⟩
abbrev S2048x2048 : Shape := ⟨2, ![2048, 2048]⟩
abbrev S2048x1024 : Shape := ⟨2, ![2048, 1024]⟩
abbrev S512x2048 : Shape := ⟨2, ![512, 2048]⟩
abbrev S512x128 : Shape := ⟨2, ![512, 128]⟩
abbrev S512x1024 : Shape := ⟨2, ![512, 1024]⟩

abbrev nBuf : Space → Nat
  | .hbm => 42
  | .vmem => 14
  | .smem => 0
  | _ => 0

abbrev bufTy : (tb : Table) → Fin (tcTables nBuf tb) → BufTy
  | .hbm, ⟨0, _⟩ => ⟨S2048x8x192, .f32⟩
  | .hbm, ⟨1, _⟩ => ⟨S2048x8x192, .f32⟩
  | .hbm, ⟨2, _⟩ => ⟨S2048, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S2048x1, .f32⟩
  | .hbm, ⟨18, _⟩ => ⟨S1x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S_, .f32⟩
  | .hbm, ⟨25, _⟩ => ⟨S2048x64, .f32⟩
  | .hbm, ⟨26, _⟩ => ⟨S2048x128, .f32⟩
  | .hbm, ⟨27, _⟩ => ⟨S2048x32, .f32⟩
  | .hbm, ⟨28, _⟩ => ⟨S2048x128, .f32⟩
  | .hbm, ⟨29, _⟩ => ⟨S_, .i32⟩
  | .hbm, ⟨30, _⟩ => ⟨S_, .f32⟩
  | .hbm, ⟨31, _⟩ => ⟨S2048x8x256, .f32⟩
  | .hbm, ⟨32, _⟩ => ⟨S2048x2048, .f32⟩
  | .hbm, ⟨33, _⟩ => ⟨S2048x2048, .bf16⟩
  | .hbm, ⟨34, _⟩ => ⟨S_, .i32⟩
  | .hbm, ⟨35, _⟩ => ⟨S_, .f32⟩
  | .hbm, ⟨36, _⟩ => ⟨S2048x8x256, .f32⟩
  | .hbm, ⟨37, _⟩ => ⟨S2048x2048, .f32⟩
  | .hbm, ⟨38, _⟩ => ⟨S2048x2048, .bf16⟩
  | .hbm, ⟨39, _⟩ => ⟨S2048x2048, .bf16⟩
  | .hbm, ⟨40, _⟩ => ⟨S2048x1024, .bf16⟩
  | .hbm, ⟨41, _⟩ => ⟨S2048x128, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x2048, .bf16⟩
  | .local _ .vmem, ⟨9, _⟩ => ⟨S512x2048, .bf16⟩
  | .local _ .vmem, ⟨10, _⟩ => ⟨S512x1024, .bf16⟩
  | .local _ .vmem, ⟨11, _⟩ => ⟨S512x1024, .bf16⟩
  | .local _ .vmem, ⟨12, _⟩ => ⟨S512x128, .f32⟩
  | .local _ .vmem, ⟨13, _⟩ => ⟨S512x128, .f32⟩
  | _, _ => ⟨S2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_call0_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_call1_v0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28_0 : Ref sig .tc := ⟨.hbm, 39, rfl⟩
abbrev main_v28_1 : Ref sig .tc := ⟨.hbm, 40, rfl⟩
abbrev main_v28_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UnropeBwdRefIdeal.lean ====
abbrev S2048x8x192 : Shape := ⟨3, ![2048, 8, 192]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x8x128 : Shape := ⟨3, ![2048, 8, 128]⟩
abbrev S2048x64 : Shape := ⟨2, ![2048, 64]⟩
abbrev S2048x8x64 : Shape := ⟨3, ![2048, 8, 64]⟩
abbrev S2048x1x32 : Shape := ⟨3, ![2048, 1, 32]⟩
abbrev S2048x8x32 : Shape := ⟨3, ![2048, 8, 32]⟩
abbrev S2048x1x64 : Shape := ⟨3, ![2048, 1, 64]⟩
abbrev S2048x8x256 : Shape := ⟨3, ![2048, 8, 256]⟩
abbrev S2048x2048 : Shape := ⟨2, ![2048, 2048]⟩
abbrev S2048x1024 : Shape := ⟨2, ![2048, 1024]⟩
abbrev S2048x128 : Shape := ⟨2, ![2048, 128]⟩

abbrev nBuf : Space → Nat
  | .hbm => 89
  | .vmem => 0
  | .smem => 0
  | _ => 0

abbrev bufTy : (tb : Table) → Fin (tcTables nBuf tb) → BufTy
  | .hbm, ⟨0, _⟩ => ⟨S2048x8x192, .f32⟩
  | .hbm, ⟨1, _⟩ => ⟨S2048x8x192, .f32⟩
  | .hbm, ⟨2, _⟩ => ⟨S2048, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S2048x1, .f32⟩
  | .hbm, ⟨18, _⟩ => ⟨S1x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S_, .f32⟩
  | .hbm, ⟨25, _⟩ => ⟨S2048x8x192, .f32⟩
  | .hbm, ⟨26, _⟩ => ⟨S_, .f32⟩
  | .hbm, ⟨27, _⟩ => ⟨S2048x8x128, .f32⟩
  | .hbm, ⟨28, _⟩ => ⟨S_, .f32⟩
  | .hbm, ⟨29, _⟩ => ⟨S2048x64, .f32⟩
  | .hbm, ⟨30, _⟩ => ⟨S2048x8x64, .f32⟩
  | .hbm, ⟨31, _⟩ => ⟨S2048x1x32, .f32⟩
  | .hbm, ⟨32, _⟩ => ⟨S2048x1x32, .f32⟩
  | .hbm, ⟨33, _⟩ => ⟨S2048x8x32, .f32⟩
  | .hbm, ⟨34, _⟩ => ⟨S2048x8x32, .f32⟩
  | .hbm, ⟨35, _⟩ => ⟨S2048x8x32, .f32⟩
  | .hbm, ⟨36, _⟩ => ⟨S2048x8x32, .f32⟩
  | .hbm, ⟨37, _⟩ => ⟨S2048x8x32, .f32⟩
  | .hbm, ⟨38, _⟩ => ⟨S2048x8x32, .f32⟩
  | .hbm, ⟨39, _⟩ => ⟨S2048x8x32, .f32⟩
  | .hbm, ⟨40, _⟩ => ⟨S2048x8x32, .f32⟩
  | .hbm, ⟨41, _⟩ => ⟨S2048x8x32, .f32⟩
  | .hbm, ⟨42, _⟩ => ⟨S2048x8x32, .f32⟩
  | .hbm, ⟨43, _⟩ => ⟨S2048x8x32, .f32⟩
  | .hbm, ⟨44, _⟩ => ⟨S2048x8x32, .f32⟩
  | .hbm, ⟨45, _⟩ => ⟨S2048x8x64, .f32⟩
  | .hbm, ⟨46, _⟩ => ⟨S2048x1x64, .f32⟩
  | .hbm, ⟨47, _⟩ => ⟨S2048x8x64, .f32⟩
  | .hbm, ⟨48, _⟩ => ⟨S2048x8x128, .f32⟩
  | .hbm, ⟨49, _⟩ => ⟨S2048x8x192, .f32⟩
  | .hbm, ⟨50, _⟩ => ⟨S2048x8x192, .f32⟩
  | .hbm, ⟨51, _⟩ => ⟨S2048x8x128, .f32⟩
  | .hbm, ⟨52, _⟩ => ⟨S2048x8x64, .f32⟩
  | .hbm, ⟨53, _⟩ => ⟨S2048x8x128, .f32⟩
  | .hbm, ⟨54, _⟩ => ⟨S2048x8x64, .f32⟩
  | .hbm, ⟨55, _⟩ => ⟨S_, .f32⟩
  | .hbm, ⟨56, _⟩ => ⟨S2048x8x192, .f32⟩
  | .hbm, ⟨57, _⟩ => ⟨S_, .f32⟩
  | .hbm, ⟨58, _⟩ => ⟨S2048x64, .f32⟩
  | .hbm, ⟨59, _⟩ => ⟨S2048x1x64, .f32⟩
  | .hbm, ⟨60, _⟩ => ⟨S_, .f32⟩
  | .hbm, ⟨61, _⟩ => ⟨S2048x64, .f32⟩
  | .hbm, ⟨62, _⟩ => ⟨S2048x8x32, .f32⟩
  | .hbm, ⟨63, _⟩ => ⟨S2048x8x32, .f32⟩
  | .hbm, ⟨64, _⟩ => ⟨S2048x8x32, .f32⟩
  | .hbm, ⟨65, _⟩ => ⟨S2048x8x32, .f32⟩
  | .hbm, ⟨66, _⟩ => ⟨S2048x8x32, .f32⟩
  | .hbm, ⟨67, _⟩ => ⟨S2048x8x32, .f32⟩
  | .hbm, ⟨68, _⟩ => ⟨S2048x8x32, .f32⟩
  | .hbm, ⟨69, _⟩ => ⟨S2048x8x32, .f32⟩
  | .hbm, ⟨70, _⟩ => ⟨S2048x8x32, .f32⟩
  | .hbm, ⟨71, _⟩ => ⟨S2048x8x32, .f32⟩
  | .hbm, ⟨72, _⟩ => ⟨S2048x8x32, .f32⟩
  | .hbm, ⟨73, _⟩ => ⟨S2048x8x32, .f32⟩
  | .hbm, ⟨74, _⟩ => ⟨S2048x8x32, .f32⟩
  | .hbm, ⟨75, _⟩ => ⟨S2048x8x64, .f32⟩
  | .hbm, ⟨76, _⟩ => ⟨S_, .f32⟩
  | .hbm, ⟨77, _⟩ => ⟨S2048x8x192, .f32⟩
  | .hbm, ⟨78, _⟩ => ⟨S2048x8x192, .f32⟩
  | .hbm, ⟨79, _⟩ => ⟨S_, .i32⟩
  | .hbm, ⟨80, _⟩ => ⟨S_, .f32⟩
  | .hbm, ⟨81, _⟩ => ⟨S2048x8x256, .f32⟩
  | .hbm, ⟨82, _⟩ => ⟨S2048x2048, .f32⟩
  | .hbm, ⟨83, _⟩ => ⟨S2048x2048, .bf16⟩
  | .hbm, ⟨84, _⟩ => ⟨S2048x1024, .f32⟩
  | .hbm, ⟨85, _⟩ => ⟨S2048x1024, .bf16⟩
  | .hbm, ⟨86, _⟩ => ⟨S_, .i32⟩
  | .hbm, ⟨87, _⟩ => ⟨S_, .f32⟩
  | .hbm, ⟨88, _⟩ => ⟨S2048x128, .f32⟩
  | _, _ => ⟨S2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_6 : Ref sig .tc := ⟨.hbm, 55, rfl⟩
abbrev main_v46 : Ref sig .tc := ⟨.hbm, 56, rfl⟩
abbrev main_cst_7 : Ref sig .tc := ⟨.hbm, 57, rfl⟩
abbrev main_v47 : Ref sig .tc := ⟨.hbm, 58, rfl⟩
abbrev main_v48 : Ref sig .tc := ⟨.hbm, 59, rfl⟩
abbrev main_cst_8 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_9 : Ref sig .tc := ⟨.hbm, 76, rfl⟩
abbrev main_v64 : Ref sig .tc := ⟨.hbm, 77, rfl⟩
abbrev main_v65 : Ref sig .tc := ⟨.hbm, 78, rfl⟩
abbrev main_c : Ref sig .tc := ⟨.hbm, 79, rfl⟩
abbrev main_call0_v0 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_c_10 : Ref sig .tc := ⟨.hbm, 86, rfl⟩
abbrev main_call1_v0 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== DownBwd.lean ====
abbrev S2048x1024 : Shape := ⟨2, ![2048, 1024]⟩
abbrev S4096x1024 : Shape := ⟨2, ![4096, 1024]⟩
abbrev S2048x4096 : Shape := ⟨2, ![2048, 4096]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | .hbm, ⟨2, _⟩ => ⟨S2048x4096, .f32⟩
  | .hbm, ⟨3, _⟩ => ⟨S2048x1024, .bf16⟩
  | .hbm, ⟨4, _⟩ => ⟨S4096x1024, .bf16⟩
  | .hbm, ⟨5, _⟩ => ⟨S2048x4096, .bf16⟩
  | .hbm, ⟨6, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownBwdRefIdeal.lean ====
abbrev S2048x1024 : Shape := ⟨2, ![2048, 1024]⟩
abbrev S4096x1024 : Shape := ⟨2, ![4096, 1024]⟩
abbrev S2048x4096 : Shape := ⟨2, ![2048, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | .hbm, ⟨2, _⟩ => ⟨S2048x4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .i1⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S2048x1024, .f32⟩
  | .hbm, ⟨16, _⟩ => ⟨S2048x4096, .f32⟩
  | .hbm, ⟨17, _⟩ => ⟨S2048x4096, .f32⟩
  | .hbm, ⟨18, _⟩ => ⟨S_, .f32⟩
  | .hbm, ⟨19, _⟩ => ⟨S2048x4096, .f32⟩
  | .hbm, ⟨20, _⟩ => ⟨S2048x4096, .f32⟩
  | .hbm, ⟨21, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== SwishBwd.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== SwishBwdRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 95
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S2048x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S2048, .f32⟩
  | .hbm, ⟨67, _⟩ => ⟨S2048x1, .f32⟩
  | .hbm, ⟨68, _⟩ => ⟨S2048x1024, .f32⟩
  | .hbm, ⟨69, _⟩ => ⟨S2048x1024, .f32⟩
  | .hbm, ⟨70, _⟩ => ⟨S2048x1, .f32⟩
  | .hbm, ⟨71, _⟩ => ⟨S2048x1024, .f32⟩
  | .hbm, ⟨72, _⟩ => ⟨S_, .f32⟩
  | .hbm, ⟨73, _⟩ => ⟨S2048, .f32⟩
  | .hbm, ⟨74, _⟩ => ⟨S2048x1, .f32⟩
  | .hbm, ⟨75, _⟩ => ⟨S_, .f32⟩
  | .hbm, ⟨76, _⟩ => ⟨S2048x1, .f32⟩
  | .hbm, ⟨77, _⟩ => ⟨S2048x1, .f32⟩
  | .hbm, ⟨78, _⟩ => ⟨S_, .f32⟩
  | .hbm, ⟨79, _⟩ => ⟨S2048, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S_, .f32⟩
  | .hbm, ⟨84, _⟩ => ⟨S2048, .f32⟩
  | .hbm, ⟨85, _⟩ => ⟨S2048x1, .f32⟩
  | .hbm, ⟨86, _⟩ => ⟨S2048x1024, .f32⟩
  | .hbm, ⟨87, _⟩ => ⟨S2048x1, .f32⟩
  | .hbm, ⟨88, _⟩ => ⟨S_, .f32⟩
  | .hbm, ⟨89, _⟩ => ⟨S2048x1, .f32⟩
  | .hbm, ⟨90, _⟩ => ⟨S2048x1, .f32⟩
  | .hbm, ⟨91, _⟩ => ⟨S_, .f32⟩
  | .hbm, ⟨92, _⟩ => ⟨S2048, .f32⟩
  | .hbm, ⟨93, _⟩ => ⟨S2048x1024, .f32⟩
  | .hbm, ⟨94, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v27_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v27_1 : Ref sig .tc := ⟨.hbm, 49, rfl⟩
abbrev main_v27_0 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_7 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩
abbrev main_v56 : Ref sig .tc := ⟨.hbm, 90, rfl⟩
abbrev main_cst_14 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩

abbrev nD : Nat := 1
abbrev τ : Topo := Topo.v7x

variable {F : FTy → Type} [FloatOps F]
-- ==== LossBwd.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S512x1024 : Shape := ⟨2, ![512, 1024]⟩
abbrev S512x1 : Shape := ⟨2, ![512, 1]⟩
abbrev S512 : Shape := ⟨1, ![512]⟩
abbrev S1 : Shape := ⟨1, ![1]⟩
abbrev S1x1 : Shape := ⟨2, ![1, 1]⟩
abbrev S1024 : Shape := ⟨1, ![1024]⟩

abbrev nBuf : Space → Nat
  | .hbm => 35
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .bf16⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1, .f32⟩
  | .local _ .vmem, ⟨7, _⟩ => ⟨S512x1, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev main_v20_4 : Ref sig .tc := ⟨.hbm, 33, rfl⟩
abbrev main_v20_5 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== LossBwdRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 110
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S1x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048, .f32⟩
  | .hbm, ⟨49, _⟩ => ⟨S_, .f32⟩
  | .hbm, ⟨50, _⟩ => ⟨S2048, .f32⟩
  | .hbm, ⟨51, _⟩ => ⟨S2048, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S2048, .f32⟩
  | .hbm, ⟨60, _⟩ => ⟨S_, .f32⟩
  | .hbm, ⟨61, _⟩ => ⟨S2048, .f32⟩
  | .hbm, ⟨62, _⟩ => ⟨S2048, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S2048x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S_, .f32⟩
  | .hbm, ⟨76, _⟩ => ⟨S2048, .f32⟩
  | .hbm, ⟨77, _⟩ => ⟨S2048x1, .f32⟩
  | .hbm, ⟨78, _⟩ => ⟨S2048x1024, .f32⟩
  | .hbm, ⟨79, _⟩ => ⟨S2048x1024, .f32⟩
  | .hbm, ⟨80, _⟩ => ⟨S2048x1, .f32⟩
  | .hbm, ⟨81, _⟩ => ⟨S2048x1024, .f32⟩
  | .hbm, ⟨82, _⟩ => ⟨S_, .f32⟩
  | .hbm, ⟨83, _⟩ => ⟨S2048, .f32⟩
  | .hbm, ⟨84, _⟩ => ⟨S2048x1, .f32⟩
  | .hbm, ⟨85, _⟩ => ⟨S_, .f32⟩
  | .hbm, ⟨86, _⟩ => ⟨S2048x1, .f32⟩
  | .hbm, ⟨87, _⟩ => ⟨S2048x1, .f32⟩
  | .hbm, ⟨88, _⟩ => ⟨S_, .f32⟩
  | .hbm, ⟨89, _⟩ => ⟨S2048, .f32⟩
  | .hbm, ⟨90, _⟩ => ⟨S2048x1024, .f32⟩
  | .hbm, ⟨91, _⟩ => ⟨S2048x1024, .f32⟩
  | .hbm, ⟨92, _⟩ => ⟨S2048x1024, .f32⟩
  | .hbm, ⟨93, _⟩ => ⟨S_, .f32⟩
  | .hbm, ⟨94, _⟩ => ⟨S2048, .f32⟩
  | .hbm, ⟨95, _⟩ => ⟨S2048x1, .f32⟩
  | .hbm, ⟨96, _⟩ => ⟨S2048x1024, .f32⟩
  | .hbm, ⟨97, _⟩ => ⟨S2048x1, .f32⟩
  | .hbm, ⟨98, _⟩ => ⟨S_, .f32⟩
  | .hbm, ⟨99, _⟩ => ⟨S2048x1, .f32⟩
  | .hbm, ⟨100, _⟩ => ⟨S2048x1, .f32⟩
  | .hbm, ⟨101, _⟩ => ⟨S_, .f32⟩
  | .hbm, ⟨102, _⟩ => ⟨S2048, .f32⟩
  | .hbm, ⟨103, _⟩ => ⟨S2048x1024, .f32⟩
  | .hbm, ⟨104, _⟩ => ⟨S2048x1024, .f32⟩
  | .hbm, ⟨105, _⟩ => ⟨S_, .f32⟩
  | .hbm, ⟨106, _⟩ => ⟨S1024, .f32⟩
  | .hbm, ⟨107, _⟩ => ⟨S1x1024, .f32⟩
  | .hbm, ⟨108, _⟩ => ⟨S2048x1024, .bf16⟩
  | .hbm, ⟨109, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_cst_11 : Ref sig .tc := ⟨.hbm, 54, rfl⟩
abbrev main_v38 : Ref sig .tc := ⟨.hbm, 55, rfl⟩
abbrev main_cst_12 : Ref sig .tc := ⟨.hbm, 56, rfl⟩
abbrev main_cst_13 : Ref sig .tc := ⟨.hbm, 57, rfl⟩
abbrev main_v39 : Ref sig .tc := ⟨.hbm, 58, rfl⟩
abbrev main_v40 : Ref sig .tc := ⟨.hbm, 59, rfl⟩
abbrev main_cst_14 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_15 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_16 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_17 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_18 : Ref sig .tc := ⟨.hbm, 82, rfl⟩
abbrev main_v59 : Ref sig .tc := ⟨.hbm, 83, rfl⟩
abbrev main_v60 : Ref sig .tc := ⟨.hbm, 84, rfl⟩
abbrev main_cst_19 : Ref sig .tc := ⟨.hbm, 85, rfl⟩
abbrev main_v61 : Ref sig .tc := ⟨.hbm, 86, rfl⟩
abbrev main_v62 : Ref sig .tc := ⟨.hbm, 87, rfl⟩
abbrev main_cst_20 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_21 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_22 : Ref sig .tc := ⟨.hbm, 98, rfl⟩
abbrev main_v71 : Ref sig .tc := ⟨.hbm, 99, rfl⟩
abbrev main_v72 : Ref sig .tc := ⟨.hbm, 100, rfl⟩
abbrev main_cst_23 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_24 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]
-- ==== UpBwd.lean ====
abbrev S2048x1024 : Shape := ⟨2, ![2048, 1024]⟩
abbrev S1x1024 : Shape := ⟨2, ![1, 1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S512x4096 : Shape := ⟨2, ![512, 4096]⟩
abbrev S512x1024 : Shape := ⟨2, ![512, 1024]⟩
abbrev S512x1 : Shape := ⟨2, ![512, 1]⟩
abbrev S512 : Shape := ⟨1, ![512]⟩
abbrev S1024 : Shape := ⟨1, ![1024]⟩

abbrev nBuf : Space → Nat
  | .hbm => 41
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x4096, .f32⟩
  | .hbm, ⟨5, _⟩ => ⟨S2048x4096, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x4096, .bf16⟩
  | .hbm, ⟨35, _⟩ => ⟨S1024x4096, .bf16⟩
  | .hbm, ⟨36, _⟩ => ⟨S2048x1024, .f32⟩
  | .hbm, ⟨37, _⟩ => ⟨S2048x1024, .bf16⟩
  | .hbm, ⟨38, _⟩ => ⟨S1x1024, .f32⟩
  | .hbm, ⟨39, _⟩ => ⟨S1x1024, .f32⟩
  | .hbm, ⟨40, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1, .f32⟩
  | .local _ .vmem, ⟨8, _⟩ => ⟨S512x1, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24_0 : Ref sig .tc := ⟨.hbm, 36, rfl⟩
abbrev main_v24_1 : Ref sig .tc := ⟨.hbm, 37, rfl⟩
abbrev main_v24_2 : Ref sig .tc := ⟨.hbm, 38, rfl⟩
abbrev main_v24_3 : Ref sig .tc := ⟨.hbm, 39, rfl⟩
abbrev main_v24_4 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== UpBwdRefIdeal.lean ====
abbrev S2048x1024 : Shape := ⟨2, ![2048, 1024]⟩
abbrev S1x1024 : Shape := ⟨2, ![1, 1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 96
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x4096, .f32⟩
  | .hbm, ⟨5, _⟩ => ⟨S2048x4096, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x4096, .f32⟩
  | .hbm, ⟨44, _⟩ => ⟨S_, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S2048x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S_, .f32⟩
  | .hbm, ⟨63, _⟩ => ⟨S2048, .f32⟩
  | .hbm, ⟨64, _⟩ => ⟨S2048x1, .f32⟩
  | .hbm, ⟨65, _⟩ => ⟨S2048x1024, .f32⟩
  | .hbm, ⟨66, _⟩ => ⟨S2048x1024, .f32⟩
  | .hbm, ⟨67, _⟩ => ⟨S2048x1, .f32⟩
  | .hbm, ⟨68, _⟩ => ⟨S2048x1024, .f32⟩
  | .hbm, ⟨69, _⟩ => ⟨S_, .f32⟩
  | .hbm, ⟨70, _⟩ => ⟨S2048, .f32⟩
  | .hbm, ⟨71, _⟩ => ⟨S2048x1, .f32⟩
  | .hbm, ⟨72, _⟩ => ⟨S_, .f32⟩
  | .hbm, ⟨73, _⟩ => ⟨S2048x1, .f32⟩
  | .hbm, ⟨74, _⟩ => ⟨S2048x1, .f32⟩
  | .hbm, ⟨75, _⟩ => ⟨S_, .f32⟩
  | .hbm, ⟨76, _⟩ => ⟨S2048, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S_, .f32⟩
  | .hbm, ⟨81, _⟩ => ⟨S2048, .f32⟩
  | .hbm, ⟨82, _⟩ => ⟨S2048x1, .f32⟩
  | .hbm, ⟨83, _⟩ => ⟨S2048x1024, .f32⟩
  | .hbm, ⟨84, _⟩ => ⟨S2048x1, .f32⟩
  | .hbm, ⟨85, _⟩ => ⟨S_, .f32⟩
  | .hbm, ⟨86, _⟩ => ⟨S2048x1, .f32⟩
  | .hbm, ⟨87, _⟩ => ⟨S2048x1, .f32⟩
  | .hbm, ⟨88, _⟩ => ⟨S_, .f32⟩
  | .hbm, ⟨89, _⟩ => ⟨S2048, .f32⟩
  | .hbm, ⟨90, _⟩ => ⟨S2048x1024, .f32⟩
  | .hbm, ⟨91, _⟩ => ⟨S2048x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_v52 : Ref sig .tc := ⟨.hbm, 73, rfl⟩
abbrev main_v53 : Ref sig .tc := ⟨.hbm, 74, rfl⟩
abbrev main_cst_13 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_15 : Ref sig .tc := ⟨.hbm, 85, rfl⟩
abbrev main_v62 : Ref sig .tc := ⟨.hbm, 86, rfl⟩
abbrev main_v63 : Ref sig .tc := ⟨.hbm, 87, rfl⟩
abbrev main_cst_16 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_17 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]
-- ==== AttnBwd.lean ====
abbrev S2048x8x192 : Shape := ⟨3, ![2048, 8, 192]⟩
abbrev S2048x8x128 : Shape := ⟨3, ![2048, 8, 128]⟩
abbrev S_ : Shape := ⟨0, ![]⟩
abbrev S2048x8x256 : Shape := ⟨3, ![2048, 8, 256]⟩
abbrev S2048x2048 : Shape := ⟨2, ![2048, 2048]⟩
abbrev S2048x1024 : Shape := ⟨2, ![2048, 1024]⟩
abbrev S2048x256 : Shape := ⟨2, ![2048, 256]⟩
abbrev S2048x128 : Shape := ⟨2, ![2048, 128]⟩
abbrev S512x256 : Shape := ⟨2, ![512, 256]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x1024 : Shape := ⟨2, ![512, 1024]⟩
abbrev S1024x128 : Shape := ⟨2, ![1024, 128]⟩
abbrev S1536x256 : Shape := ⟨2, ![1536, 256]⟩
abbrev S512x1536 : Shape := ⟨2, ![512, 1536]⟩
abbrev S1536x128 : Shape := ⟨2, ![1536, 128]⟩
abbrev S512x2048 : Shape := ⟨2, ![512, 2048]⟩

abbrev nBuf : Space → Nat
  | .hbm => 21
  | .vmem => 16
  | .smem => 0
  | _ => 0

abbrev bufTy : (tb : Table) → Fin (tcTables nBuf tb) → BufTy
  | .hbm, ⟨0, _⟩ => ⟨S2048x8x192, .f32⟩
  | .hbm, ⟨1, _⟩ => ⟨S2048x8x192, .f32⟩
  | .hbm, ⟨2, _⟩ => ⟨S2048x8x128, .f32⟩
  | .hbm, ⟨3, _⟩ => ⟨S2048x8x128, .f32⟩
  | .hbm, ⟨4, _⟩ => ⟨S_, .i32⟩
  | .hbm, ⟨5, _⟩ => ⟨S_, .f32⟩
  | .hbm, ⟨6, _⟩ => ⟨S2048x8x256, .f32⟩
  | .hbm, ⟨7, _⟩ => ⟨S2048x2048, .f32⟩
  | .hbm, ⟨8, _⟩ => ⟨S2048x2048, .bf16⟩
  | .hbm, ⟨9, _⟩ => ⟨S_, .i32⟩
  | .hbm, ⟨10, _⟩ => ⟨S_, .f32⟩
  | .hbm, ⟨11, _⟩ => ⟨S2048x8x256, .f32⟩
  | .hbm, ⟨12, _⟩ => ⟨S2048x2048, .f32⟩
  | .hbm, ⟨13, _⟩ => ⟨S2048x2048, .bf16⟩
  | .hbm, ⟨14, _⟩ => ⟨S2048x1024, .f32⟩
  | .hbm, ⟨15, _⟩ => ⟨S2048x1024, .bf16⟩
  | .hbm, ⟨16, _⟩ => ⟨S2048x1024, .f32⟩
  | .hbm, ⟨17, _⟩ => ⟨S2048x1024, .bf16⟩
  | .hbm, ⟨18, _⟩ => ⟨S2048x2048, .bf16⟩
  | .hbm, ⟨19, _⟩ => ⟨S2048x2048, .bf16⟩
  | .hbm, ⟨20, _⟩ => ⟨S2048x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x128, .bf16⟩
  | .local _ .vmem, ⟨13, _⟩ => ⟨S2048x128, .bf16⟩
  | .local _ .vmem, ⟨14, _⟩ => ⟨S2048x256, .f32⟩
  | .local _ .vmem, ⟨15, _⟩ => ⟨S2048x128, .f32⟩
  | _, _ => ⟨S2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnBwdIdeal.lean ====
variable {F : FTy → Type} [FloatOps F] [Named F]
def κ : String → Option EReal := fun
  | "mask" => some ⊥
  | _ => none
-- ==== AttnBwdRefIdeal.lean ====
abbrev S2048x8x192 : Shape := ⟨3, ![2048, 8, 192]⟩
abbrev S2048x8x128 : Shape := ⟨3, ![2048, 8, 128]⟩
abbrev S2048 : Shape := ⟨1, ![2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S8x2048x2048 : Shape := ⟨3, ![8, 2048, 2048]⟩
abbrev S1x2048x2048 : Shape := ⟨3, ![1, 2048, 2048]⟩
abbrev S8x2048 : Shape := ⟨2, ![8, 2048]⟩
abbrev S8x2048x1 : Shape := ⟨3, ![8, 2048, 1]⟩
abbrev S8x128x2048 : Shape := ⟨3, ![8, 128, 2048]⟩
abbrev S8x2048x192 : Shape := ⟨3, ![8, 2048, 192]⟩
abbrev S2048x8x256 : Shape := ⟨3, ![2048, 8, 256]⟩
abbrev S2048x1024 : Shape := ⟨2, ![2048, 1024]⟩

abbrev nBuf : Space → Nat
  | .hbm => 120
  | .vmem => 0
  | .smem => 0
  | _ => 0

abbrev bufTy : (tb : Table) → Fin (tcTables nBuf tb) → BufTy
  | .hbm, ⟨0, _⟩ => ⟨S2048x8x192, .f32⟩
  | .hbm, ⟨1, _⟩ => ⟨S2048x8x192, .f32⟩
  | .hbm, ⟨2, _⟩ => ⟨S2048x8x128, .f32⟩
  | .hbm, ⟨3, _⟩ => ⟨S2048x8x128, .f32⟩
  | .hbm, ⟨4, _⟩ => ⟨S2048, .i32⟩
  | .hbm, ⟨5, _⟩ => ⟨S_, .i32⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S_, .i32⟩
  | .hbm, ⟨11, _⟩ => ⟨S2048, .i32⟩
  | .hbm, ⟨12, _⟩ => ⟨S2048, .i1⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i1⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S1x2048, .i32⟩
  | .hbm, ⟨24, _⟩ => ⟨S2048x1, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S8x2048x2048, .f32⟩
  | .hbm, ⟨29, _⟩ => ⟨S_, .f32⟩
  | .hbm, ⟨30, _⟩ => ⟨S8x2048x2048, .f32⟩
  | .hbm, ⟨31, _⟩ => ⟨S8x2048x2048, .f32⟩
  | .hbm, ⟨32, _⟩ => ⟨S1x2048x2048, .i1⟩
  | .hbm, ⟨33, _⟩ => ⟨S_, .f32⟩
  | .hbm, ⟨34, _⟩ => ⟨S_, .f32⟩
  | .hbm, ⟨35, _⟩ => ⟨S8x2048x2048, .i1⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S8x2048x1, .f32⟩
  | .hbm, ⟨43, _⟩ => ⟨S8x2048x2048, .f32⟩
  | .hbm, ⟨44, _⟩ => ⟨S8x2048x2048, .i1⟩
  | .hbm, ⟨45, _⟩ => ⟨S8x2048x2048, .f32⟩
  | .hbm, ⟨46, _⟩ => ⟨S_, .f32⟩
  | .hbm, ⟨47, _⟩ => ⟨S8x2048, .f32⟩
  | .hbm, ⟨48, _⟩ => ⟨S_, .f32⟩
  | .hbm, ⟨49, _⟩ => ⟨S8x2048, .f32⟩
  | .hbm, ⟨50, _⟩ => ⟨S8x2048, .f32⟩
  | .hbm, ⟨51, _⟩ => ⟨S_, .f32⟩
  | .hbm, ⟨52, _⟩ => ⟨S8x2048, .f32⟩
  | .hbm, ⟨53, _⟩ => ⟨S8x2048, .i1⟩
  | .hbm, ⟨54, _⟩ => ⟨S_, .f32⟩
  | .hbm, ⟨55, _⟩ => ⟨S8x2048, .f32⟩
  | .hbm, ⟨56, _⟩ => ⟨S8x2048, .i1⟩
  | .hbm, ⟨57, _⟩ => ⟨S_, .f32⟩
  | .hbm, ⟨58, _⟩ => ⟨S8x2048, .f32⟩
  | .hbm, ⟨59, _⟩ => ⟨S_, .f32⟩
  | .hbm, ⟨60, _⟩ => ⟨S8x2048, .f32⟩
  | .hbm, ⟨61, _⟩ => ⟨S_, .f32⟩
  | .hbm, ⟨62, _⟩ => ⟨S8x2048, .f32⟩
  | .hbm, ⟨63, _⟩ => ⟨S8x2048, .f32⟩
  | .hbm, ⟨64, _⟩ => ⟨S8x2048, .f32⟩
  | .hbm, ⟨65, _⟩ => ⟨S8x2048x1, .f32⟩
  | .hbm, ⟨66, _⟩ => ⟨S8x2048x2048, .f32⟩
  | .hbm, ⟨67, _⟩ => ⟨S8x2048x2048, .f32⟩
  | .hbm, ⟨68, _⟩ => ⟨S8x2048x2048, .f32⟩
  | .hbm, ⟨69, _⟩ => ⟨S_, .f32⟩
  | .hbm, ⟨70, _⟩ => ⟨S8x2048, .f32⟩
  | .hbm, ⟨71, _⟩ => ⟨S8x2048x1, .f32⟩
  | .hbm, ⟨72, _⟩ => ⟨S8x2048x2048, .f32⟩
  | .hbm, ⟨73, _⟩ => ⟨S8x2048x2048, .f32⟩
  | .hbm, ⟨74, _⟩ => ⟨S8x2048x1, .f32⟩
  | .hbm, ⟨75, _⟩ => ⟨S_, .f32⟩
  | .hbm, ⟨76, _⟩ => ⟨S8x2048x1, .f32⟩
  | .hbm, ⟨77, _⟩ => ⟨S8x2048x1, .f32⟩
  | .hbm, ⟨78, _⟩ => ⟨S8x128x2048, .f32⟩
  | .hbm, ⟨79, _⟩ => ⟨S2048x8x128, .f32⟩
  | .hbm, ⟨80, _⟩ => ⟨S8x128x2048, .f32⟩
  | .hbm, ⟨81, _⟩ => ⟨S8x2048x2048, .f32⟩
  | .hbm, ⟨82, _⟩ => ⟨S8x128x2048, .f32⟩
  | .hbm, ⟨83, _⟩ => ⟨S2048x8x128, .f32⟩
  | .hbm, ⟨84, _⟩ => ⟨S8x2048x2048, .f32⟩
  | .hbm, ⟨85, _⟩ => ⟨S8x2048x2048, .f32⟩
  | .hbm, ⟨86, _⟩ => ⟨S8x2048x2048, .f32⟩
  | .hbm, ⟨87, _⟩ => ⟨S_, .f32⟩
  | .hbm, ⟨88, _⟩ => ⟨S8x2048, .f32⟩
  | .hbm, ⟨89, _⟩ => ⟨S8x2048x1, .f32⟩
  | .hbm, ⟨90, _⟩ => ⟨S8x2048x1, .f32⟩
  | .hbm, ⟨91, _⟩ => ⟨S8x2048x2048, .f32⟩
  | .hbm, ⟨92, _⟩ => ⟨S8x2048x2048, .f32⟩
  | .hbm, ⟨93, _⟩ => ⟨S_, .f32⟩
  | .hbm, ⟨94, _⟩ => ⟨S8x2048, .f32⟩
  | .hbm, ⟨95, _⟩ => ⟨S8x2048x2048, .f32⟩
  | .hbm, ⟨96, _⟩ => ⟨S8x2048x2048, .f32⟩
  | .hbm, ⟨97, _⟩ => ⟨S8x2048x2048, .f32⟩
  | .hbm, ⟨98, _⟩ => ⟨S_, .f32⟩
  | .hbm, ⟨99, _⟩ => ⟨S8x2048x2048, .f32⟩
  | .hbm, ⟨100, _⟩ => ⟨S8x2048x2048, .f32⟩
  | .hbm, ⟨101, _⟩ => ⟨S_, .f32⟩
  | .hbm, ⟨102, _⟩ => ⟨S8x2048x2048, .f32⟩
  | .hbm, ⟨103, _⟩ => ⟨S8x2048x2048, .f32⟩
  | .hbm, ⟨104, _⟩ => ⟨S8x2048x192, .f32⟩
  | .hbm, ⟨105, _⟩ => ⟨S2048x8x192, .f32⟩
  | .hbm, ⟨106, _⟩ => ⟨S8x2048x192, .f32⟩
  | .hbm, ⟨107, _⟩ => ⟨S2048x8x192, .f32⟩
  | .hbm, ⟨108, _⟩ => ⟨S_, .i32⟩
  | .hbm, ⟨109, _⟩ => ⟨S_, .f32⟩
  | .hbm, ⟨110, _⟩ => ⟨S2048x8x256, .f32⟩
  | .hbm, ⟨111, _⟩ => ⟨S2048x2048, .f32⟩
  | .hbm, ⟨112, _⟩ => ⟨S2048x2048, .bf16⟩
  | .hbm, ⟨113, _⟩ => ⟨S_, .i32⟩
  | .hbm, ⟨114, _⟩ => ⟨S_, .f32⟩
  | .hbm, ⟨115, _⟩ => ⟨S2048x8x256, .f32⟩
  | .hbm, ⟨116, _⟩ => ⟨S2048x2048, .f32⟩
  | .hbm, ⟨117, _⟩ => ⟨S2048x2048, .bf16⟩
  | .hbm, ⟨118, _⟩ => ⟨S2048x1024, .f32⟩
  | .hbm, ⟨119, _⟩ => ⟨S2048x1024, .bf16⟩
  | _, _ => ⟨S2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_0 : Ref sig .tc := ⟨.hbm, 33, rfl⟩
abbrev main_call1_v0 : Ref sig .tc := ⟨.hbm, 34, rfl⟩
abbrev main_v11_1 : Ref sig .tc := ⟨.hbm, 35, rfl⟩
abbrev main_call1_v2 : Ref sig .tc := ⟨.hbm, 36, rfl⟩
abbrev main_v11_0 : Ref sig .tc := ⟨.hbm, 37, rfl⟩
abbrev main_call1_cst : Ref sig .tc := ⟨.hbm, 38, rfl⟩
abbrev main_v11_2 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_cst_4 : Ref sig .tc := ⟨.hbm, 51, rfl⟩
abbrev main_v20 : Ref sig .tc := ⟨.hbm, 52, rfl⟩
abbrev main_v21 : Ref sig .tc := ⟨.hbm, 53, rfl⟩
abbrev main_cst_5 : Ref sig .tc := ⟨.hbm, 54, rfl⟩
abbrev main_v22 : Ref sig .tc := ⟨.hbm, 55, rfl⟩
abbrev main_v23 : Ref sig .tc := ⟨.hbm, 56, rfl⟩
abbrev main_cst_6 : Ref sig .tc := ⟨.hbm, 57, rfl⟩
abbrev main_v24 : Ref sig .tc := ⟨.hbm, 58, rfl⟩
abbrev main_cst_7 : Ref sig .tc := ⟨.hbm, 59, rfl⟩
abbrev main_v25 : Ref sig .tc := ⟨.hbm, 60, rfl⟩
abbrev main_cst_8 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_9 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_10 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_11 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_12 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_call2_cst : Ref sig .tc := ⟨.hbm, 98, rfl⟩
abbrev main_call2_v0 : Ref sig .tc := ⟨.hbm, 99, rfl⟩
abbrev main_v58 : Ref sig .tc := ⟨.hbm, 100, rfl⟩
abbrev main_cst_13 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_c_14 : Ref sig .tc := ⟨.hbm, 108, rfl⟩
abbrev main_call3_v0 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_c_15 : Ref sig .tc := ⟨.hbm, 113, rfl⟩
abbrev main_call4_v0 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩

abbrev nD : Nat := 1
abbrev τ : Topo := Topo.v7x

variable {F : FTy → Type} [FloatOps F]
-- ==== LatentsBwd.lean ====
abbrev S2048x384 : Shape := ⟨2, ![2048, 384]⟩
abbrev S2048x320 : Shape := ⟨2, ![2048, 320]⟩
abbrev S1x384 : Shape := ⟨2, ![1, 384]⟩
abbrev S1x256 : Shape := ⟨2, ![1, 256]⟩
abbrev S2048x256 : Shape := ⟨2, ![2048, 256]⟩
abbrev S2048x64 : Shape := ⟨2, ![2048, 64]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S2048x768 : Shape := ⟨2, ![2048, 768]⟩
abbrev S512x768 : Shape := ⟨2, ![512, 768]⟩
abbrev S512x128 : Shape := ⟨2, ![512, 128]⟩
abbrev S512x384 : Shape := ⟨2, ![512, 384]⟩
abbrev S512x256 : Shape := ⟨2, ![512, 256]⟩
abbrev S512 : Shape := ⟨1, ![512]⟩
abbrev S512x1 : Shape := ⟨2, ![512, 1]⟩
abbrev S384 : Shape := ⟨1, ![384]⟩
abbrev S256 : Shape := ⟨1, ![256]⟩

abbrev nBuf : Space → Nat
  | .hbm => 44
  | .vmem => 18
  | .smem => 0
  | _ => 0

abbrev bufTy : (tb : Table) → Fin (tcTables nBuf tb) → BufTy
  | .hbm, ⟨0, _⟩ => ⟨S2048x384, .f32⟩
  | .hbm, ⟨1, _⟩ => ⟨S2048x320, .f32⟩
  | .hbm, ⟨2, _⟩ => ⟨S1x384, .f32⟩
  | .hbm, ⟨3, _⟩ => ⟨S1x256, .f32⟩
  | .hbm, ⟨4, _⟩ => ⟨S2048x384, .f32⟩
  | .hbm, ⟨5, _⟩ => ⟨S2048x256, .f32⟩
  | .hbm, ⟨6, _⟩ => ⟨S2048x64, .f32⟩
  | .hbm, ⟨7, _⟩ => ⟨S2048, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S2048x1, .f32⟩
  | .hbm, ⟨23, _⟩ => ⟨S1x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S_, .f32⟩
  | .hbm, ⟨30, _⟩ => ⟨S2048x64, .f32⟩
  | .hbm, ⟨31, _⟩ => ⟨S2048x128, .f32⟩
  | .hbm, ⟨32, _⟩ => ⟨S2048x32, .f32⟩
  | .hbm, ⟨33, _⟩ => ⟨S2048x128, .f32⟩
  | .hbm, ⟨34, _⟩ => ⟨S_, .i32⟩
  | .hbm, ⟨35, _⟩ => ⟨S_, .f32⟩
  | .hbm, ⟨36, _⟩ => ⟨S2048x384, .f32⟩
  | .hbm, ⟨37, _⟩ => ⟨S2048x768, .f32⟩
  | .hbm, ⟨38, _⟩ => ⟨S_, .i32⟩
  | .hbm, ⟨39, _⟩ => ⟨S_, .f32⟩
  | .hbm, ⟨40, _⟩ => ⟨S2048x128, .f32⟩
  | .hbm, ⟨41, _⟩ => ⟨S2048x768, .bf16⟩
  | .hbm, ⟨42, _⟩ => ⟨S1x384, .f32⟩
  | .hbm, ⟨43, _⟩ => ⟨S1x256, .f32⟩
  | .local _ .vmem, ⟨0, _⟩ => ⟨S512x768, .f32⟩
  | .local _ .vmem, ⟨1, _⟩ => ⟨S512x768, .f32⟩
  | .local _ .vmem, ⟨2, _⟩ => ⟨S1x384, .f32⟩
  | .local _ .vmem, ⟨3, _⟩ => ⟨S1x256, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x384, .f32⟩
  | .local _ .vmem, ⟨9, _⟩ => ⟨S512x384, .f32⟩
  | .local _ .vmem, ⟨10, _⟩ => ⟨S512x256, .f32⟩
  | .local _ .vmem, ⟨11, _⟩ => ⟨S512x256, .f32⟩
  | .local _ .vmem, ⟨12, _⟩ => ⟨S512x128, .f32⟩
  | .local _ .vmem, ⟨13, _⟩ => ⟨S512x128, .f32⟩
  | .local _ .vmem, ⟨14, _⟩ => ⟨S512x768, .bf16⟩
  | .local _ .vmem, ⟨15, _⟩ => ⟨S512x768, .bf16⟩
  | .local _ .vmem, ⟨16, _⟩ => ⟨S1x384, .f32⟩
  | .local _ .vmem, ⟨17, _⟩ => ⟨S1x256, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.hbm, 34, rfl⟩
abbrev main_call0_v0 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_call1_v0 : Ref sig .tc := ⟨.hbm, 39, rfl⟩
abbrev main_v24 : Ref sig .tc := ⟨.hbm, 40, rfl⟩
abbrev main_v25_0 : Ref sig .tc := ⟨.hbm, 41, rfl⟩
abbrev main_v25_1 : Ref sig .tc := ⟨.hbm, 42, rfl⟩
abbrev main_v25_2 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== LatentsBwdRefIdeal.lean ====
abbrev S2048x384 : Shape := ⟨2, ![2048, 384]⟩
abbrev S2048x320 : Shape := ⟨2, ![2048, 320]⟩
abbrev S1x384 : Shape := ⟨2, ![1, 384]⟩
abbrev S1x256 : Shape := ⟨2, ![1, 256]⟩
abbrev S2048x256 : Shape := ⟨2, ![2048, 256]⟩
abbrev S2048x64 : Shape := ⟨2, ![2048, 64]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S256 : Shape := ⟨1, ![256]⟩
abbrev S384 : Shape := ⟨1, ![384]⟩
abbrev S2048x768 : Shape := ⟨2, ![2048, 768]⟩

abbrev nBuf : Space → Nat
  | .hbm => 146
  | .vmem => 0
  | .smem => 0
  | _ => 0

abbrev hbmTy0_0 (i : Nat) : BufTy := match i % 128 with
  | 0 => ⟨S2048x384, .f32⟩
  | 1 => ⟨S2048x320, .f32⟩
  | 2 => ⟨S1x384, .f32⟩
  | 3 => ⟨S1x256, .f32⟩
  | 4 => ⟨S2048x384, .f32⟩
  | 5 => ⟨S2048x256, .f32⟩
  | 6 => ⟨S2048x64, .f32⟩
  | 7 => ⟨S2048, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S2048x1, .f32⟩
  | 23 => ⟨S1x32, .f32⟩
  | 24 => ⟨S2048x32, .f32⟩
  | 25 => ⟨S2048x32, .f32⟩
  | 26 => ⟨S2048x32, .f32⟩
  | 27 => ⟨S2048x32, .f32⟩
  | 28 => ⟨S2048x32, .f32⟩
  | 29 => ⟨S2048x384, .f32⟩
  | 30 => ⟨S_, .f32⟩
  | 31 => ⟨S2048x384, .f32⟩
  | 32 => ⟨S2048x384, .f32⟩
  | 33 => ⟨S_, .f32⟩
  | 34 => ⟨S2048, .f32⟩
  | 35 => ⟨S2048x1, .f32⟩
  | 36 => ⟨S_, .f32⟩
  | 37 => ⟨S2048x1, .f32⟩
  | 38 => ⟨S2048x1, .f32⟩
  | 39 => ⟨S_, .f32⟩
  | 40 => ⟨S2048x1, .f32⟩
  | 41 => ⟨S2048x1, .f32⟩
  | 42 => ⟨S2048x1, .f32⟩
  | 43 => ⟨S2048x1, .f32⟩
  | 44 => ⟨S_, .f32⟩
  | 45 => ⟨S2048x1, .f32⟩
  | 46 => ⟨S2048x1, .f32⟩
  | 47 => ⟨S2048x384, .f32⟩
  | 48 => ⟨S2048x384, .f32⟩
  | 49 => ⟨S2048x384, .f32⟩
  | 50 => ⟨S2048x384, .f32⟩
  | 51 => ⟨S2048x256, .f32⟩
  | 52 => ⟨S2048x256, .f32⟩
  | 53 => ⟨S_, .f32⟩
  | 54 => ⟨S2048x256, .f32⟩
  | 55 => ⟨S2048x256, .f32⟩
  | 56 => ⟨S_, .f32⟩
  | 57 => ⟨S2048, .f32⟩
  | 58 => ⟨S2048x1, .f32⟩
  | 59 => ⟨S_, .f32⟩
  | 60 => ⟨S2048x1, .f32⟩
  | 61 => ⟨S2048x1, .f32⟩
  | 62 => ⟨S_, .f32⟩
  | 63 => ⟨S2048x1, .f32⟩
  | 64 => ⟨S2048x1, .f32⟩
  | 65 => ⟨S2048x1, .f32⟩
  | 66 => ⟨S2048x1, .f32⟩
  | 67 => ⟨S_, .f32⟩
  | 68 => ⟨S2048x1, .f32⟩
  | 69 => ⟨S2048x1, .f32⟩
  | 70 => ⟨S2048x256, .f32⟩
  | 71 => ⟨S2048x256, .f32⟩
  | 72 => ⟨S2048x256, .f32⟩
  | 73 => ⟨S2048x256, .f32⟩
  | 74 => ⟨S2048x64, .f32⟩
  | 75 => ⟨S2048x32, .f32⟩
  | 76 => ⟨S2048x32, .f32⟩
  | 77 => ⟨S2048x32, .f32⟩
  | 78 => ⟨S2048x32, .f32⟩
  | 79 => ⟨S2048x32, .f32⟩
  | 80 => ⟨S2048x32, .f32⟩
  | 81 => ⟨S2048x32, .f32⟩
  | 82 => ⟨S2048x32, .f32⟩
  | 83 => ⟨S2048x64, .f32⟩
  | 84 => ⟨S2048x32, .f32⟩
  | 85 => ⟨S2048x32, .f32⟩
  | 86 => ⟨S2048x32, .f32⟩
  | 87 => ⟨S2048x32, .f32⟩
  | 88 => ⟨S2048x32, .f32⟩
  | 89 => ⟨S2048x32, .f32⟩
  | 90 => ⟨S2048x32, .f32⟩
  | 91 => ⟨S2048x32, .f32⟩
  | 92 => ⟨S2048x32, .f32⟩
  | 93 => ⟨S2048x64, .f32⟩
  | 94 => ⟨S_, .f32⟩
  | 95 => ⟨S2048x320, .f32⟩
  | 96 => ⟨S2048x256, .f32⟩
  | 97 => ⟨S_, .f32⟩
  | 98 => ⟨S256, .f32⟩
  | 99 => ⟨S1x256, .f32⟩
  | 100 => ⟨S2048x256, .f32⟩
  | 101 => ⟨S2048x256, .f32⟩
  | 102 => ⟨S2048x256, .f32⟩
  | 103 => ⟨S_, .f32⟩
  | 104 => ⟨S2048, .f32⟩
  | 105 => ⟨S2048x1, .f32⟩
  | 106 => ⟨S2048x256, .f32⟩
  | 107 => ⟨S2048x256, .f32⟩
  | 108 => ⟨S2048x1, .f32⟩
  | 109 => ⟨S_, .f32⟩
  | 110 => ⟨S2048x1, .f32⟩
  | 111 => ⟨S2048x1, .f32⟩
  | 112 => ⟨S_, .f32⟩
  | 113 => ⟨S2048, .f32⟩
  | 114 => ⟨S2048x256, .f32⟩
  | 115 => ⟨S2048x256, .f32⟩
  | 116 => ⟨S2048x256, .f32⟩
  | 117 => ⟨S_, .f32⟩
  | 118 => ⟨S2048x320, .f32⟩
  | 119 => ⟨S2048x320, .f32⟩
  | 120 => ⟨S2048x384, .f32⟩
  | 121 => ⟨S_, .f32⟩
  | 122 => ⟨S384, .f32⟩
  | 123 => ⟨S1x384, .f32⟩
  | 124 => ⟨S2048x384, .f32⟩
  | 125 => ⟨S2048x384, .f32⟩
  | 126 => ⟨S2048x384, .f32⟩
  | 127 => ⟨S_, .f32⟩
  | _ => ⟨S2048x384, .f32⟩

abbrev hbmTy0_1 (i : Nat) : BufTy := match i % 128 with
  | 0 => ⟨S2048, .f32⟩
  | 1 => ⟨S2048x1, .f32⟩
  | 2 => ⟨S2048x384, .f32⟩
  | 3 => ⟨S2048x384, .f32⟩
  | 4 => ⟨S2048x1, .f32⟩
  | 5 => ⟨S_, .f32⟩
  | 6 => ⟨S2048x1, .f32⟩
  | 7 => ⟨S2048x1, .f32⟩
  | 8 => ⟨S_, .f32⟩
  | 9 => ⟨S2048, .f32⟩
  | 10 => ⟨S2048x384, .f32⟩
  | 11 => ⟨S2048x384, .f32⟩
  | 12 => ⟨S2048x384, .f32⟩
  | 13 => ⟨S_, .i32⟩
  | 14 => ⟨S_, .f32⟩
  | 15 => ⟨S2048x384, .f32⟩
  | 16 => ⟨S2048x768, .f32⟩
  | 17 => ⟨S2048x768, .bf16⟩
  | _ => ⟨S2048x384, .f32⟩

abbrev hbmTy (i : Nat) : BufTy := match i / 128 with
  | 0 => hbmTy0_0 i
  | 1 => hbmTy0_1 i
  | _ => ⟨S2048x384, .f32⟩

abbrev bufTy : (tb : Table) → Fin (tcTables nBuf tb) → BufTy
  | .hbm, ⟨i, _⟩ => hbmTy i
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_cst_11 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_12 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_13 : Ref sig .tc := ⟨.hbm, 94, rfl⟩
abbrev main_v73 : Ref sig .tc := ⟨.hbm, 95, rfl⟩
abbrev main_v74 : Ref sig .tc := ⟨.hbm, 96, rfl⟩
abbrev main_cst_14 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_15 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_16 : Ref sig .tc := ⟨.hbm, 109, rfl⟩
abbrev main_v85 : Ref sig .tc := ⟨.hbm, 110, rfl⟩
abbrev main_v86 : Ref sig .tc := ⟨.hbm, 111, rfl⟩
abbrev main_cst_17 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_18 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_19 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_20 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_21 : Ref sig .tc := ⟨.hbm, 133, rfl⟩
abbrev main_v104 : Ref sig .tc := ⟨.hbm, 134, rfl⟩
abbrev main_v105 : Ref sig .tc := ⟨.hbm, 135, rfl⟩
abbrev main_cst_22 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_c : Ref sig .tc := ⟨.hbm, 141, rfl⟩
abbrev main_call0_v0 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩

abbrev nD : Nat := 1
abbrev τ : Topo := Topo.v7x

variable {F : FTy → Type} [FloatOps F]
-- ==== ScInBwd.lean ====
abbrev S2048x1024 : Shape := ⟨2, ![2048, 1024]⟩
abbrev S1x1024 : Shape := ⟨2, ![1, 1024]⟩
abbrev S1024x3072 : Shape := ⟨2, ![1024, 3072]⟩
abbrev S3x2048x1024 : Shape := ⟨3, ![3, 2048, 1024]⟩
abbrev S_ : Shape := ⟨0, ![]⟩
abbrev S2048 : Shape := ⟨1, ![2048]⟩
abbrev S2048x1 : Shape := ⟨2, ![2048, 1]⟩
abbrev S3x512x1024 : Shape := ⟨3, ![3, 512, 1024]⟩
abbrev S512x1024 : Shape := ⟨2, ![512, 1024]⟩
abbrev S512x1 : Shape := ⟨2, ![512, 1]⟩
abbrev S1x512x1024 : Shape := ⟨3, ![1, 512, 1024]⟩
abbrev S512x3072 : Shape := ⟨2, ![512, 3072]⟩
abbrev S512 : Shape := ⟨1, ![512]⟩
abbrev S1024 : Shape := ⟨1, ![1024]⟩

abbrev nBuf : Space → Nat
  | .hbm => 41
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x3072, .f32⟩
  | .hbm, ⟨5, _⟩ => ⟨S3x2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S1024x3072, .bf16⟩
  | .hbm, ⟨35, _⟩ => ⟨S3x2048x1024, .bf16⟩
  | .hbm, ⟨36, _⟩ => ⟨S2048x1024, .f32⟩
  | .hbm, ⟨37, _⟩ => ⟨S2048x1024, .bf16⟩
  | .hbm, ⟨38, _⟩ => ⟨S1x1024, .f32⟩
  | .hbm, ⟨39, _⟩ => ⟨S1x1024, .f32⟩
  | .hbm, ⟨40, _⟩ => ⟨S1x1024, .f32⟩
  | .local _ .vmem, ⟨0, _⟩ => ⟨S3x512x1024, .bf16⟩
  | .local _ .vmem, ⟨1, _⟩ => ⟨S3x512x1024, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1, .f32⟩
  | .local _ .vmem, ⟨8, _⟩ => ⟨S512x1, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24_0 : Ref sig .tc := ⟨.hbm, 36, rfl⟩
abbrev main_v24_1 : Ref sig .tc := ⟨.hbm, 37, rfl⟩
abbrev main_v24_2 : Ref sig .tc := ⟨.hbm, 38, rfl⟩
abbrev main_v24_3 : Ref sig .tc := ⟨.hbm, 39, rfl⟩
abbrev main_v24_4 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== ScInBwdRefIdeal.lean ====
abbrev S2048x1024 : Shape := ⟨2, ![2048, 1024]⟩
abbrev S1x1024 : Shape := ⟨2, ![1, 1024]⟩
abbrev S1024x3072 : Shape := ⟨2, ![1024, 3072]⟩
abbrev S3x2048x1024 : Shape := ⟨3, ![3, 2048, 1024]⟩
abbrev S_ : Shape := ⟨0, ![]⟩
abbrev S2048 : Shape := ⟨1, ![2048]⟩
abbrev S2048x1 : Shape := ⟨2, ![2048, 1]⟩
abbrev S2048x3072 : Shape := ⟨2, ![2048, 3072]⟩
abbrev S1x2048x1024 : Shape := ⟨3, ![1, 2048, 1024]⟩
abbrev S1024 : Shape := ⟨1, ![1024]⟩

abbrev nBuf : Space → Nat
  | .hbm => 103
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x3072, .f32⟩
  | .hbm, ⟨5, _⟩ => ⟨S3x2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x3072, .f32⟩
  | .hbm, ⟨44, _⟩ => ⟨S_, .f32⟩
  | .hbm, ⟨45, _⟩ => ⟨S2048x1024, .f32⟩
  | .hbm, ⟨46, _⟩ => ⟨S2048x1024, .f32⟩
  | .hbm, ⟨47, _⟩ => ⟨S1x2048x1024, .f32⟩
  | .hbm, ⟨48, _⟩ => ⟨S2048x1024, .f32⟩
  | .hbm, ⟨49, _⟩ => ⟨S1x2048x1024, .f32⟩
  | .hbm, ⟨50, _⟩ => ⟨S2048x1024, .f32⟩
  | .hbm, ⟨51, _⟩ => ⟨S1x2048x1024, .f32⟩
  | .hbm, ⟨52, _⟩ => ⟨S2048x1024, .f32⟩
  | .hbm, ⟨53, _⟩ => ⟨S2048x3072, .f32⟩
  | .hbm, ⟨54, _⟩ => ⟨S_, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S2048x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S_, .f32⟩
  | .hbm, ⟨70, _⟩ => ⟨S2048, .f32⟩
  | .hbm, ⟨71, _⟩ => ⟨S2048x1, .f32⟩
  | .hbm, ⟨72, _⟩ => ⟨S2048x1024, .f32⟩
  | .hbm, ⟨73, _⟩ => ⟨S2048x1024, .f32⟩
  | .hbm, ⟨74, _⟩ => ⟨S2048x1, .f32⟩
  | .hbm, ⟨75, _⟩ => ⟨S2048x1024, .f32⟩
  | .hbm, ⟨76, _⟩ => ⟨S_, .f32⟩
  | .hbm, ⟨77, _⟩ => ⟨S2048, .f32⟩
  | .hbm, ⟨78, _⟩ => ⟨S2048x1, .f32⟩
  | .hbm, ⟨79, _⟩ => ⟨S_, .f32⟩
  | .hbm, ⟨80, _⟩ => ⟨S2048x1, .f32⟩
  | .hbm, ⟨81, _⟩ => ⟨S2048x1, .f32⟩
  | .hbm, ⟨82, _⟩ => ⟨S_, .f32⟩
  | .hbm, ⟨83, _⟩ => ⟨S2048, .f32⟩
  | .hbm, ⟨84, _⟩ => ⟨S2048x1024, .f32⟩
  | .hbm, ⟨85, _⟩ => ⟨S2048x1024, .f32⟩
  | .hbm, ⟨86, _⟩ => ⟨S2048x1024, .f32⟩
  | .hbm, ⟨87, _⟩ => ⟨S_, .f32⟩
  | .hbm, ⟨88, _⟩ => ⟨S2048, .f32⟩
  | .hbm, ⟨89, _⟩ => ⟨S2048x1, .f32⟩
  | .hbm, ⟨90, _⟩ => ⟨S2048x1024, .f32⟩
  | .hbm, ⟨91, _⟩ => ⟨S2048x1, .f32⟩
  | .hbm, ⟨92, _⟩ => ⟨S_, .f32⟩
  | .hbm, ⟨93, _⟩ => ⟨S2048x1, .f32⟩
  | .hbm, ⟨94, _⟩ => ⟨S2048x1, .f32⟩
  | .hbm, ⟨95, _⟩ => ⟨S_, .f32⟩
  | .hbm, ⟨96, _⟩ => ⟨S2048, .f32⟩
  | .hbm, ⟨97, _⟩ => ⟨S2048x1024, .f32⟩
  | .hbm, ⟨98, _⟩ => ⟨S2048x1024, .f32⟩
  | .hbm, ⟨99, _⟩ => ⟨S_, .f32⟩
  | .hbm, ⟨100, _⟩ => ⟨S1024, .f32⟩
  | .hbm, ⟨101, _⟩ => ⟨S1x1024, .f32⟩
  | .hbm, ⟨102, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_15 : Ref sig .tc := ⟨.hbm, 92, rfl⟩
abbrev main_v69 : Ref sig .tc := ⟨.hbm, 93, rfl⟩
abbrev main_v70 : Ref sig .tc := ⟨.hbm, 94, rfl⟩
abbrev main_cst_16 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_17 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩

abbrev nD : Nat := 1
abbrev τ : Topo := Topo.v7x

variable {F : FTy → Type} [FloatOps F]
-- ==== Dw2Bwd.lean ====
abbrev S2048x4096 : Shape := ⟨2, ![2048, 4096]⟩
abbrev S2048x1024 : Shape := ⟨2, ![2048, 1024]⟩
abbrev S4096x1024 : Shape := ⟨2, ![4096, 1024]⟩
abbrev S1024x1024 : Shape := ⟨2, ![1024, 1024]⟩
abbrev S4x1024x1024 : Shape := ⟨3, ![4, 1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S2048x4096, .bf16⟩
  | .hbm, ⟨3, _⟩ => ⟨S2048x1024, .bf16⟩
  | .hbm, ⟨4, _⟩ => ⟨S4096x1024, .bf16⟩
  | .hbm, ⟨5, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dw2BwdRefIdeal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | .hbm, ⟨12, _⟩ => ⟨S4x1024x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== AttnFwd.lean ====
abbrev S2048x8x192 : Shape := ⟨3, ![2048, 8, 192]⟩
abbrev S2048x8x128 : Shape := ⟨3, ![2048, 8, 128]⟩
abbrev S_ : Shape := ⟨0, ![]⟩
abbrev S2048x8x256 : Shape := ⟨3, ![2048, 8, 256]⟩
abbrev S2048x2048 : Shape := ⟨2, ![2048, 2048]⟩
abbrev S2048x1024 : Shape := ⟨2, ![2048, 1024]⟩
abbrev S2048x256 : Shape := ⟨2, ![2048, 256]⟩
abbrev S2048x128 : Shape := ⟨2, ![2048, 128]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S1024x256 : Shape := ⟨2, ![1024, 256]⟩
abbrev S512x1024 : Shape := ⟨2, ![512, 1024]⟩
abbrev S1024x128 : Shape := ⟨2, ![1024, 128]⟩
abbrev S1536x256 : Shape := ⟨2, ![1536, 256]⟩
abbrev S512x1536 : Shape := ⟨2, ![512, 1536]⟩
abbrev S1536x128 : Shape := ⟨2, ![1536, 128]⟩
abbrev S512x2048 : Shape := ⟨2, ![512, 2048]⟩

abbrev nBuf : Space → Nat
  | .hbm => 16
  | .vmem => 8
  | .smem => 0
  | _ => 0

abbrev bufTy : (tb : Table) → Fin (tcTables nBuf tb) → BufTy
  | .hbm, ⟨0, _⟩ => ⟨S2048x8x192, .f32⟩
  | .hbm, ⟨1, _⟩ => ⟨S2048x8x192, .f32⟩
  | .hbm, ⟨2, _⟩ => ⟨S2048x8x128, .f32⟩
  | .hbm, ⟨3, _⟩ => ⟨S_, .i32⟩
  | .hbm, ⟨4, _⟩ => ⟨S_, .f32⟩
  | .hbm, ⟨5, _⟩ => ⟨S2048x8x256, .f32⟩
  | .hbm, ⟨6, _⟩ => ⟨S2048x2048, .f32⟩
  | .hbm, ⟨7, _⟩ => ⟨S2048x2048, .bf16⟩
  | .hbm, ⟨8, _⟩ => ⟨S_, .i32⟩
  | .hbm, ⟨9, _⟩ => ⟨S_, .f32⟩
  | .hbm, ⟨10, _⟩ => ⟨S2048x8x256, .f32⟩
  | .hbm, ⟨11, _⟩ => ⟨S2048x2048, .f32⟩
  | .hbm, ⟨12, _⟩ => ⟨S2048x2048, .bf16⟩
  | .hbm, ⟨13, _⟩ => ⟨S2048x1024, .f32⟩
  | .hbm, ⟨14, _⟩ => ⟨S2048x1024, .bf16⟩
  | .hbm, ⟨15, _⟩ => ⟨S2048x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | _, _ => ⟨S2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnFwdIdeal.lean ====
variable {F : FTy → Type} [FloatOps F] [Named F]
def κ : String → Option EReal := fun
  | "mask" => some ⊥
  | _ => none
-- ==== AttnFwdRefIdeal.lean ====
abbrev S2048x8x192 : Shape := ⟨3, ![2048, 8, 192]⟩
abbrev S2048x8x128 : Shape := ⟨3, ![2048, 8, 128]⟩
abbrev S2048 : Shape := ⟨1, ![2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S8x2048x2048 : Shape := ⟨3, ![8, 2048, 2048]⟩
abbrev S1x2048x2048 : Shape := ⟨3, ![1, 2048, 2048]⟩
abbrev S8x2048 : Shape := ⟨2, ![8, 2048]⟩
abbrev S8x2048x1 : Shape := ⟨3, ![8, 2048, 1]⟩
abbrev S8x128x2048 : Shape := ⟨3, ![8, 128, 2048]⟩
abbrev S2048x1024 : Shape := ⟨2, ![2048, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x8x192, .f32⟩
  | .hbm, ⟨1, _⟩ => ⟨S2048x8x192, .f32⟩
  | .hbm, ⟨2, _⟩ => ⟨S2048x8x128, .f32⟩
  | .hbm, ⟨3, _⟩ => ⟨S2048, .i32⟩
  | .hbm, ⟨4, _⟩ => ⟨S_, .i32⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S_, .i32⟩
  | .hbm, ⟨10, _⟩ => ⟨S2048, .i32⟩
  | .hbm, ⟨11, _⟩ => ⟨S2048, .i1⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i1⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S1x2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S8x2048x2048, .f32⟩
  | .hbm, ⟨28, _⟩ => ⟨S_, .f32⟩
  | .hbm, ⟨29, _⟩ => ⟨S8x2048x2048, .f32⟩
  | .hbm, ⟨30, _⟩ => ⟨S8x2048x2048, .f32⟩
  | .hbm, ⟨31, _⟩ => ⟨S1x2048x2048, .i1⟩
  | .hbm, ⟨32, _⟩ => ⟨S_, .f32⟩
  | .hbm, ⟨33, _⟩ => ⟨S_, .f32⟩
  | .hbm, ⟨34, _⟩ => ⟨S8x2048x2048, .i1⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048, .f32⟩
  | .hbm, ⟨39, _⟩ => ⟨S_, .f32⟩
  | .hbm, ⟨40, _⟩ => ⟨S8x2048, .f32⟩
  | .hbm, ⟨41, _⟩ => ⟨S8x2048, .f32⟩
  | .hbm, ⟨42, _⟩ => ⟨S8x2048x1, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S8x2048x2048, .f32⟩
  | .hbm, ⟨50, _⟩ => ⟨S8x2048x2048, .f32⟩
  | .hbm, ⟨51, _⟩ => ⟨S8x128x2048, .f32⟩
  | .hbm, ⟨52, _⟩ => ⟨S2048x8x128, .f32⟩
  | .hbm, ⟨53, _⟩ => ⟨S2048x1024, .f32⟩
  | .hbm, ⟨54, _⟩ => ⟨S2048x1024, .bf16⟩
  | _, _ => ⟨S2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v11 : Ref sig .tc := ⟨.hbm, 36, rfl⟩
abbrev main_cst_1 : Ref sig .tc := ⟨.hbm, 37, rfl⟩
abbrev main_v12 : Ref sig .tc := ⟨.hbm, 38, rfl⟩
abbrev main_cst_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_3 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩

abbrev nD : Nat := 1
abbrev τ : Topo := Topo.v7x

variable {F : FTy → Type} [FloatOps F]
-- ==== DownFwd.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S2048x1 : Shape := ⟨2, ![2048, 1]⟩
abbrev S512x4096 : Shape := ⟨2, ![512, 4096]⟩
abbrev S512x1024 : Shape := ⟨2, ![512, 1024]⟩
abbrev S512x1 : Shape := ⟨2, ![512, 1]⟩
abbrev S512 : Shape := ⟨1, ![512]⟩

abbrev nBuf : Space → Nat
  | .hbm => 11
  | .vmem => 15
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x4096, .bf16⟩
  | .hbm, ⟨6, _⟩ => ⟨S4096x1024, .bf16⟩
  | .hbm, ⟨7, _⟩ => ⟨S2048x1024, .f32⟩
  | .hbm, ⟨8, _⟩ => ⟨S2048x1024, .bf16⟩
  | .hbm, ⟨9, _⟩ => ⟨S2048x1024, .f32⟩
  | .hbm, ⟨10, _⟩ => ⟨S2048x1, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== DownFwdRefIdeal.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 65
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x4096, .f32⟩
  | .hbm, ⟨10, _⟩ => ⟨S2048x4096, .f32⟩
  | .hbm, ⟨11, _⟩ => ⟨S2048x4096, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1, .f32⟩
  | .hbm, ⟨52, _⟩ => ⟨S2048x1, .f32⟩
  | .hbm, ⟨53, _⟩ => ⟨S2048x1, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .bf16⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== OutFwd.lean ====
abbrev S2048x1024 : Shape := ⟨2, ![2048, 1024]⟩
abbrev S1024x1024 : Shape := ⟨2, ![1024, 1024]⟩
abbrev S1x1024 : Shape := ⟨2, ![1, 1024]⟩
abbrev S2048x1 : Shape := ⟨2, ![2048, 1]⟩
abbrev S512x1024 : Shape := ⟨2, ![512, 1024]⟩
abbrev S512x1 : Shape := ⟨2, ![512, 1]⟩
abbrev S512 : Shape := ⟨1, ![512]⟩

abbrev nBuf : Space → Nat
  | .hbm => 12
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S2048x1024, .bf16⟩
  | .hbm, ⟨7, _⟩ => ⟨S1024x1024, .bf16⟩
  | .hbm, ⟨8, _⟩ => ⟨S2048x1024, .f32⟩
  | .hbm, ⟨9, _⟩ => ⟨S2048x1024, .bf16⟩
  | .hbm, ⟨10, _⟩ => ⟨S2048x1024, .f32⟩
  | .hbm, ⟨11, _⟩ => ⟨S2048x1, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1, .f32⟩
  | .local _ .vmem, ⟨15, _⟩ => ⟨S512x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== OutFwdRefIdeal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 64
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048x1, .f32⟩
  | .hbm, ⟨51, _⟩ => ⟨S2048x1, .f32⟩
  | .hbm, ⟨52, _⟩ => ⟨S2048x1, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .bf16⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== GateFwd.lean ====
abbrev S2048x3072 : Shape := ⟨2, ![2048, 3072]⟩
abbrev S3x1024 : Shape := ⟨2, ![3, 1024]⟩
abbrev S2048x1024 : Shape := ⟨2, ![2048, 1024]⟩
abbrev S2048x256 : Shape := ⟨2, ![2048, 256]⟩
abbrev S3x256 : Shape := ⟨2, ![3, 256]⟩
abbrev S1x256 : Shape := ⟨2, ![1, 256]⟩

abbrev nBuf : Space → Nat
  | .hbm => 3
  | .vmem => 10
  | .smem => 0
  | _ => 0

abbrev bufTy : (tb : Table) → Fin (tcTables nBuf tb) → BufTy
  | .hbm, ⟨0, _⟩ => ⟨S2048x3072, .f32⟩
  | .hbm, ⟨1, _⟩ => ⟨S3x1024, .f32⟩
  | .hbm, ⟨2, _⟩ => ⟨S2048x1024, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S3x256, .f32⟩
  | .local _ .vmem, ⟨7, _⟩ => ⟨S3x256, .f32⟩
  | .local _ .vmem, ⟨8, _⟩ => ⟨S2048x256, .bf16⟩
  | .local _ .vmem, ⟨9, _⟩ => ⟨S2048x256, .bf16⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateFwdRefIdeal.lean ====
abbrev S2048x3072 : Shape := ⟨2, ![2048, 3072]⟩
abbrev S3x1024 : Shape := ⟨2, ![3, 1024]⟩
abbrev S2048x1024 : Shape := ⟨2, ![2048, 1024]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S1024 : Shape := ⟨1, ![1024]⟩

abbrev nBuf : Space → Nat
  | .hbm => 34
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S3x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2x1024, .f32⟩
  | .hbm, ⟨8, _⟩ => ⟨S2050x1024, .f32⟩
  | .hbm, ⟨9, _⟩ => ⟨S1x1024, .f32⟩
  | .hbm, ⟨10, _⟩ => ⟨S1024, .f32⟩
  | .hbm, ⟨11, _⟩ => ⟨S2048x1024, .f32⟩
  | .hbm, ⟨12, _⟩ => ⟨S1x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S1024, .f32⟩
  | .hbm, ⟨27, _⟩ => ⟨S2048x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .bf16⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== SwishFwd.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SwishFwdRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== LatentsFwd.lean ====
abbrev S2048x384 : Shape := ⟨2, ![2048, 384]⟩
abbrev S2048x320 : Shape := ⟨2, ![2048, 320]⟩
abbrev S1x384 : Shape := ⟨2, ![1, 384]⟩
abbrev S1x256 : Shape := ⟨2, ![1, 256]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S2048x768 : Shape := ⟨2, ![2048, 768]⟩
abbrev S2048x256 : Shape := ⟨2, ![2048, 256]⟩
abbrev S512x768 : Shape := ⟨2, ![512, 768]⟩
abbrev S512x128 : Shape := ⟨2, ![512, 128]⟩
abbrev S512x384 : Shape := ⟨2, ![512, 384]⟩
abbrev S512x256 : Shape := ⟨2, ![512, 256]⟩
abbrev S512 : Shape := ⟨1, ![512]⟩
abbrev S512x1 : Shape := ⟨2, ![512, 1]⟩

abbrev nBuf : Space → Nat
  | .hbm => 38
  | .vmem => 14
  | .smem => 0
  | _ => 0

abbrev bufTy : (tb : Table) → Fin (tcTables nBuf tb) → BufTy
  | .hbm, ⟨0, _⟩ => ⟨S2048x384, .f32⟩
  | .hbm, ⟨1, _⟩ => ⟨S2048x320, .f32⟩
  | .hbm, ⟨2, _⟩ => ⟨S1x384, .f32⟩
  | .hbm, ⟨3, _⟩ => ⟨S1x256, .f32⟩
  | .hbm, ⟨4, _⟩ => ⟨S2048, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S2048x1, .f32⟩
  | .hbm, ⟨20, _⟩ => ⟨S1x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S_, .f32⟩
  | .hbm, ⟨27, _⟩ => ⟨S2048x64, .f32⟩
  | .hbm, ⟨28, _⟩ => ⟨S2048x128, .f32⟩
  | .hbm, ⟨29, _⟩ => ⟨S2048x32, .f32⟩
  | .hbm, ⟨30, _⟩ => ⟨S2048x128, .f32⟩
  | .hbm, ⟨31, _⟩ => ⟨S_, .i32⟩
  | .hbm, ⟨32, _⟩ => ⟨S_, .f32⟩
  | .hbm, ⟨33, _⟩ => ⟨S2048x384, .f32⟩
  | .hbm, ⟨34, _⟩ => ⟨S2048x768, .f32⟩
  | .hbm, ⟨35, _⟩ => ⟨S2048x384, .bf16⟩
  | .hbm, ⟨36, _⟩ => ⟨S2048x256, .bf16⟩
  | .hbm, ⟨37, _⟩ => ⟨S2048x128, .bf16⟩
  | .local _ .vmem, ⟨0, _⟩ => ⟨S512x768, .f32⟩
  | .local _ .vmem, ⟨1, _⟩ => ⟨S512x768, .f32⟩
  | .local _ .vmem, ⟨2, _⟩ => ⟨S1x384, .f32⟩
  | .local _ .vmem, ⟨3, _⟩ => ⟨S1x256, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x384, .bf16⟩
  | .local _ .vmem, ⟨9, _⟩ => ⟨S512x384, .bf16⟩
  | .local _ .vmem, ⟨10, _⟩ => ⟨S512x256, .bf16⟩
  | .local _ .vmem, ⟨11, _⟩ => ⟨S512x256, .bf16⟩
  | .local _ .vmem, ⟨12, _⟩ => ⟨S512x128, .bf16⟩
  | .local _ .vmem, ⟨13, _⟩ => ⟨S512x128, .bf16⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_call0_v0 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev main_v24_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LatentsFwdRefIdeal.lean ====
abbrev S2048x384 : Shape := ⟨2, ![2048, 384]⟩
abbrev S2048x320 : Shape := ⟨2, ![2048, 320]⟩
abbrev S1x384 : Shape := ⟨2, ![1, 384]⟩
abbrev S1x256 : Shape := ⟨2, ![1, 256]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S2048x256 : Shape := ⟨2, ![2048, 256]⟩

abbrev nBuf : Space → Nat
  | .hbm => 73
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S2048x320, .f32⟩
  | .hbm, ⟨2, _⟩ => ⟨S1x384, .f32⟩
  | .hbm, ⟨3, _⟩ => ⟨S1x256, .f32⟩
  | .hbm, ⟨4, _⟩ => ⟨S2048, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S2048x1, .f32⟩
  | .hbm, ⟨20, _⟩ => ⟨S1x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x64, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x32, .f32⟩
  | .hbm, ⟨32, _⟩ => ⟨S2048x32, .f32⟩
  | .hbm, ⟨33, _⟩ => ⟨S2048x32, .f32⟩
  | .hbm, ⟨34, _⟩ => ⟨S2048x32, .f32⟩
  | .hbm, ⟨35, _⟩ => ⟨S2048x64, .f32⟩
  | .hbm, ⟨36, _⟩ => ⟨S_, .i32⟩
  | .hbm, ⟨37, _⟩ => ⟨S_, .f32⟩
  | .hbm, ⟨38, _⟩ => ⟨S2048x128, .f32⟩
  | .hbm, ⟨39, _⟩ => ⟨S2048x384, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S2048x1, .f32⟩
  | .hbm, ⟨50, _⟩ => ⟨S2048x384, .f32⟩
  | .hbm, ⟨51, _⟩ => ⟨S2048x384, .f32⟩
  | .hbm, ⟨52, _⟩ => ⟨S2048x384, .f32⟩
  | .hbm, ⟨53, _⟩ => ⟨S2048x384, .f32⟩
  | .hbm, ⟨54, _⟩ => ⟨S2048x384, .bf16⟩
  | .hbm, ⟨55, _⟩ => ⟨S2048x256, .f32⟩
  | .hbm, ⟨56, _⟩ => ⟨S2048x256, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S2048x1, .f32⟩
  | .hbm, ⟨67, _⟩ => ⟨S2048x256, .f32⟩
  | .hbm, ⟨68, _⟩ => ⟨S2048x256, .f32⟩
  | .hbm, ⟨69, _⟩ => ⟨S2048x256, .f32⟩
  | .hbm, ⟨70, _⟩ => ⟨S2048x256, .f32⟩
  | .hbm, ⟨71, _⟩ => ⟨S2048x256, .bf16⟩
  | .hbm, ⟨72, _⟩ => ⟨S2048x128, .bf16⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_call0_v0 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]
-- ==== QueriesFwd.lean ====
abbrev S2048x384 : Shape := ⟨2, ![2048, 384]⟩
abbrev S384x1536 : Shape := ⟨2, ![384, 1536]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S384x8x192 : Shape := ⟨3, ![384, 8, 192]⟩
abbrev S384x8x256 : Shape := ⟨3, ![384, 8, 256]⟩
abbrev S384x2048 : Shape := ⟨2, ![384, 2048]⟩
abbrev S2048x2048 : Shape := ⟨2, ![2048, 2048]⟩
abbrev S384x256 : Shape := ⟨2, ![384, 256]⟩
abbrev S2048x256 : Shape := ⟨2, ![2048, 256]⟩

abbrev nBuf : Space → Nat
  | .hbm => 37
  | .vmem => 7
  | .smem => 0
  | _ => 0

abbrev bufTy : (tb : Table) → Fin (tcTables nBuf tb) → BufTy
  | .hbm, ⟨0, _⟩ => ⟨S2048x384, .f32⟩
  | .hbm, ⟨1, _⟩ => ⟨S384x1536, .f32⟩
  | .hbm, ⟨2, _⟩ => ⟨S2048, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S2048x1, .f32⟩
  | .hbm, ⟨18, _⟩ => ⟨S1x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S_, .f32⟩
  | .hbm, ⟨25, _⟩ => ⟨S2048x64, .f32⟩
  | .hbm, ⟨26, _⟩ => ⟨S2048x128, .f32⟩
  | .hbm, ⟨27, _⟩ => ⟨S2048x32, .f32⟩
  | .hbm, ⟨28, _⟩ => ⟨S2048x128, .f32⟩
  | .hbm, ⟨29, _⟩ => ⟨S384x8x192, .f32⟩
  | .hbm, ⟨30, _⟩ => ⟨S_, .i32⟩
  | .hbm, ⟨31, _⟩ => ⟨S_, .f32⟩
  | .hbm, ⟨32, _⟩ => ⟨S384x8x256, .f32⟩
  | .hbm, ⟨33, _⟩ => ⟨S384x2048, .f32⟩
  | .hbm, ⟨34, _⟩ => ⟨S2048x384, .bf16⟩
  | .hbm, ⟨35, _⟩ => ⟨S384x2048, .bf16⟩
  | .hbm, ⟨36, _⟩ => ⟨S2048x2048, .bf16⟩
  | .local _ .vmem, ⟨0, _⟩ => ⟨S2048x384, .bf16⟩
  | .local _ .vmem, ⟨1, _⟩ => ⟨S384x256, .bf16⟩
  | .local _ .vmem, ⟨2, _⟩ => ⟨S384x256, .bf16⟩
  | .local _ .vmem, ⟨3, _⟩ => ⟨S2048x128, .f32⟩
  | .local _ .vmem, ⟨4, _⟩ => ⟨S2048x128, .f32⟩
  | .local _ .vmem, ⟨5, _⟩ => ⟨S2048x256, .bf16⟩
  | .local _ .vmem, ⟨6, _⟩ => ⟨S2048x256, .bf16⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_call0_v0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== QueriesFwdRefIdeal.lean ====
abbrev S2048x384 : Shape := ⟨2, ![2048, 384]⟩
abbrev S384x1536 : Shape := ⟨2, ![384, 1536]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x1536 : Shape := ⟨2, ![2048, 1536]⟩
abbrev S2048x8x192 : Shape := ⟨3, ![2048, 8, 192]⟩
abbrev S2048x8x128 : Shape := ⟨3, ![2048, 8, 128]⟩
abbrev S2048x8x64 : Shape := ⟨3, ![2048, 8, 64]⟩
abbrev S2048x1x32 : Shape := ⟨3, ![2048, 1, 32]⟩
abbrev S2048x8x32 : Shape := ⟨3, ![2048, 8, 32]⟩
abbrev S2048x8x256 : Shape := ⟨3, ![2048, 8, 256]⟩
abbrev S2048x2048 : Shape := ⟨2, ![2048, 2048]⟩

abbrev nBuf : Space → Nat
  | .hbm => 49
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S384x1536, .f32⟩
  | .hbm, ⟨2, _⟩ => ⟨S2048, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S2048x1, .f32⟩
  | .hbm, ⟨18, _⟩ => ⟨S1x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x1536, .f32⟩
  | .hbm, ⟨25, _⟩ => ⟨S2048x8x192, .f32⟩
  | .hbm, ⟨26, _⟩ => ⟨S2048x8x128, .f32⟩
  | .hbm, ⟨27, _⟩ => ⟨S2048x8x64, .f32⟩
  | .hbm, ⟨28, _⟩ => ⟨S2048x1x32, .f32⟩
  | .hbm, ⟨29, _⟩ => ⟨S2048x1x32, .f32⟩
  | .hbm, ⟨30, _⟩ => ⟨S2048x8x32, .f32⟩
  | .hbm, ⟨31, _⟩ => ⟨S2048x8x32, .f32⟩
  | .hbm, ⟨32, _⟩ => ⟨S2048x8x32, .f32⟩
  | .hbm, ⟨33, _⟩ => ⟨S2048x8x32, .f32⟩
  | .hbm, ⟨34, _⟩ => ⟨S2048x8x32, .f32⟩
  | .hbm, ⟨35, _⟩ => ⟨S2048x8x32, .f32⟩
  | .hbm, ⟨36, _⟩ => ⟨S2048x8x32, .f32⟩
  | .hbm, ⟨37, _⟩ => ⟨S2048x8x32, .f32⟩
  | .hbm, ⟨38, _⟩ => ⟨S2048x8x32, .f32⟩
  | .hbm, ⟨39, _⟩ => ⟨S2048x8x32, .f32⟩
  | .hbm, ⟨40, _⟩ => ⟨S2048x8x32, .f32⟩
  | .hbm, ⟨41, _⟩ => ⟨S2048x8x32, .f32⟩
  | .hbm, ⟨42, _⟩ => ⟨S2048x8x64, .f32⟩
  | .hbm, ⟨43, _⟩ => ⟨S2048x8x192, .f32⟩
  | .hbm, ⟨44, _⟩ => ⟨S_, .i32⟩
  | .hbm, ⟨45, _⟩ => ⟨S_, .f32⟩
  | .hbm, ⟨46, _⟩ => ⟨S2048x8x256, .f32⟩
  | .hbm, ⟨47, _⟩ => ⟨S2048x2048, .f32⟩
  | .hbm, ⟨48, _⟩ => ⟨S2048x2048, .bf16⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_c : Ref sig .tc := ⟨.hbm, 44, rfl⟩
abbrev main_call0_v0 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩

abbrev nD : Nat := 1
abbrev τ : Topo := Topo.v7x

variable {F : FTy → Type} [FloatOps F]
-- ==== KeysFwd.lean ====
abbrev S2048x256 : Shape := ⟨2, ![2048, 256]⟩
abbrev S256x1024 : Shape := ⟨2, ![256, 1024]⟩
abbrev S2048x64 : Shape := ⟨2, ![2048, 64]⟩
abbrev S_ : Shape := ⟨0, ![]⟩
abbrev S2048x128 : Shape := ⟨2, ![2048, 128]⟩
abbrev S2048x2048 : Shape := ⟨2, ![2048, 2048]⟩
abbrev S256x128 : Shape := ⟨2, ![256, 128]⟩

abbrev nBuf : Space → Nat
  | .hbm => 10
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S256x1024, .f32⟩
  | .hbm, ⟨2, _⟩ => ⟨S2048x64, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S2048x256, .bf16⟩
  | .hbm, ⟨7, _⟩ => ⟨S256x1024, .bf16⟩
  | .hbm, ⟨8, _⟩ => ⟨S2048x128, .bf16⟩
  | .hbm, ⟨9, _⟩ => ⟨S2048x2048, .bf16⟩
  | .local _ .vmem, ⟨0, _⟩ => ⟨S2048x256, .bf16⟩
  | .local _ .vmem, ⟨1, _⟩ => ⟨S256x128, .bf16⟩
  | .local _ .vmem, ⟨2, _⟩ => ⟨S256x128, .bf16⟩
  | .local _ .vmem, ⟨3, _⟩ => ⟨S2048x128, .bf16⟩
  | .local _ .vmem, ⟨4, _⟩ => ⟨S2048x256, .bf16⟩
  | .local _ .vmem, ⟨5, _⟩ => ⟨S2048x256, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KeysFwdRefIdeal.lean ====
abbrev S2048x256 : Shape := ⟨2, ![2048, 256]⟩
abbrev S256x1024 : Shape := ⟨2, ![256, 1024]⟩
abbrev S2048x64 : Shape := ⟨2, ![2048, 64]⟩
abbrev S2048x1024 : Shape := ⟨2, ![2048, 1024]⟩
abbrev S2048x8x128 : Shape := ⟨3, ![2048, 8, 128]⟩
abbrev S2048x1x64 : Shape := ⟨3, ![2048, 1, 64]⟩
abbrev S2048x8x64 : Shape := ⟨3, ![2048, 8, 64]⟩
abbrev S2048x8x192 : Shape := ⟨3, ![2048, 8, 192]⟩
abbrev S_ : Shape := ⟨0, ![]⟩
abbrev S2048x8x256 : Shape := ⟨3, ![2048, 8, 256]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x1024, .f32⟩
  | .hbm, ⟨2, _⟩ => ⟨S2048x64, .f32⟩
  | .hbm, ⟨3, _⟩ => ⟨S2048x1024, .f32⟩
  | .hbm, ⟨4, _⟩ => ⟨S2048x8x128, .f32⟩
  | .hbm, ⟨5, _⟩ => ⟨S2048x1x64, .f32⟩
  | .hbm, ⟨6, _⟩ => ⟨S2048x8x64, .f32⟩
  | .hbm, ⟨7, _⟩ => ⟨S2048x8x192, .f32⟩
  | .hbm, ⟨8, _⟩ => ⟨S_, .i32⟩
  | .hbm, ⟨9, _⟩ => ⟨S_, .f32⟩
  | .hbm, ⟨10, _⟩ => ⟨S2048x8x256, .f32⟩
  | .hbm, ⟨11, _⟩ => ⟨S2048x2048, .f32⟩
  | .hbm, ⟨12, _⟩ => ⟨S2048x2048, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== GluBwd.lean ====
abbrev S2048x2048 : Shape := ⟨2, ![2048, 2048]⟩
abbrev S31x1024 : Shape := ⟨2, ![31, 1024]⟩
abbrev S2048x1024 : Shape := ⟨2, ![2048, 1024]⟩
abbrev S2x2048x1024 : Shape := ⟨3, ![2, 2048, 1024]⟩
abbrev S2x1024 : Shape := ⟨2, ![2, 1024]⟩
abbrev S1x1024 : Shape := ⟨2, ![1, 1024]⟩
abbrev S2048x128 : Shape := ⟨2, ![2048, 128]⟩
abbrev S31x128 : Shape := ⟨2, ![31, 128]⟩
abbrev S2x2048x128 : Shape := ⟨3, ![2, 2048, 128]⟩
abbrev S2x128 : Shape := ⟨2, ![2, 128]⟩
abbrev S1x128 : Shape := ⟨2, ![1, 128]⟩
abbrev S8x2080x128 : Shape := ⟨3, ![8, 2080, 128]⟩
abbrev S32x8x128 : Shape := ⟨3, ![32, 8, 128]⟩
abbrev S32x128 : Shape := ⟨2, ![32, 128]⟩
abbrev S1x32x128 : Shape := ⟨3, ![1, 32, 128]⟩
abbrev S1x2048x128 : Shape := ⟨3, ![1, 2048, 128]⟩
abbrev S128x128 : Shape := ⟨2, ![128, 128]⟩
abbrev S1x128x128 : Shape := ⟨3, ![1, 128, 128]⟩
abbrev S1x8x128 : Shape := ⟨3, ![1, 8, 128]⟩
abbrev S8x128 : Shape := ⟨2, ![8, 128]⟩
abbrev S16x8x128 : Shape := ⟨3, ![16, 8, 128]⟩
abbrev S128 : Shape := ⟨1, ![128]⟩

abbrev nBuf : Space → Nat
  | .hbm => 7
  | .vmem => 20
  | .smem => 0
  | _ => 0

abbrev bufTy : (tb : Table) → Fin (tcTables nBuf tb) → BufTy
  | .hbm, ⟨0, _⟩ => ⟨S2048x2048, .f32⟩
  | .hbm, ⟨1, _⟩ => ⟨S31x1024, .f32⟩
  | .hbm, ⟨2, _⟩ => ⟨S2048x1024, .f32⟩
  | .hbm, ⟨3, _⟩ => ⟨S2x2048x1024, .bf16⟩
  | .hbm, ⟨4, _⟩ => ⟨S2x1024, .f32⟩
  | .hbm, ⟨5, _⟩ => ⟨S31x1024, .f32⟩
  | .hbm, ⟨6, _⟩ => ⟨S1x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S31x128, .f32⟩
  | .local _ .vmem, ⟨5, _⟩ => ⟨S31x128, .f32⟩
  | .local _ .vmem, ⟨6, _⟩ => ⟨S2048x128, .f32⟩
  | .local _ .vmem, ⟨7, _⟩ => ⟨S2048x128, .f32⟩
  | .local _ .vmem, ⟨8, _⟩ => ⟨S2x2048x128, .bf16⟩
  | .local _ .vmem, ⟨9, _⟩ => ⟨S2x2048x128, .bf16⟩
  | .local _ .vmem, ⟨10, _⟩ => ⟨S2x128, .f32⟩
  | .local _ .vmem, ⟨11, _⟩ => ⟨S2x128, .f32⟩
  | .local _ .vmem, ⟨12, _⟩ => ⟨S31x128, .f32⟩
  | .local _ .vmem, ⟨13, _⟩ => ⟨S31x128, .f32⟩
  | .local _ .vmem, ⟨14, _⟩ => ⟨S1x128, .f32⟩
  | .local _ .vmem, ⟨15, _⟩ => ⟨S1x128, .f32⟩
  | .local _ .vmem, ⟨16, _⟩ => ⟨S8x2080x128, .f32⟩
  | .local _ .vmem, ⟨17, _⟩ => ⟨S8x2080x128, .f32⟩
  | .local _ .vmem, ⟨18, _⟩ => ⟨S32x8x128, .f32⟩
  | .local _ .vmem, ⟨19, _⟩ => ⟨S2048x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v192 : BitVec 32 := Scalar.addi c0_i32 c16_i32
  let c1_i32_139 : BitVec 32 := 1#32
  ⟨c0_i32, v192, c1_i32_139⟩
def k0_mult1 (k0_t1 : Fin k0_t1_loop.trips) : BitVec 32 :=
  let c0_i32 : BitVec 32 := 0#32
  let c1_i32_139 : BitVec 32 := 1#32
  let arg13 : BitVec 32 := Scf.iv c0_i32 c1_i32_139 k0_t1
  let c128_i32 : BitVec 32 := 128#32
  let v372 : BitVec 32 := Scalar.muli arg13 c128_i32
  v372
def k0_off1 (k0_t1 : Fin k0_t1_loop.trips) : Fin 2 → Nat :=
  let c0_i32 : BitVec 32 := 0#32
  let c1_i32_139 : BitVec 32 := 1#32
  let arg13 : BitVec 32 := Scf.iv c0_i32 c1_i32_139 k0_t1
  let c128_i32 : BitVec 32 := 128#32
  let v372 : BitVec 32 := Scalar.muli arg13 c128_i32
  let v373 : BitVec 32 := v372
  let v374 : Index := Scalar.indexCast v373
  let c0_322 : Index := 0#32
  ![v374.toNat, 0]
def k0_off2 (k0_t1 : Fin k0_t1_loop.trips) (c24_i32 : BitVec 32) : Fin 3 → Nat :=
  let c6_326 : Index := 6#32
  let c0_i32 : BitVec 32 := 0#32
  let c1_i32_139 : BitVec 32 := 1#32
  let arg13 : BitVec 32 := Scf.iv c0_i32 c1_i32_139 k0_t1
  let c128_i32 : BitVec 32 := 128#32
  let v372 : BitVec 32 := Scalar.muli arg13 c128_i32
  let v373 : BitVec 32 := v372
  let v378 : BitVec 32 := Scalar.addi v373 c24_i32
  let v379 : Index := Scalar.indexCast v378
  let c0_327 : Index := 0#32
  ![6, v379.toNat, 0]
def k0_off3 (k0_t1 : Fin k0_t1_loop.trips) (c24_i32_328 : BitVec 32) : Fin 3 → Nat :=
  let c6_329 : Index := 6#32
  let c32_i32 : BitVec 32 := 32#32
  let c0_i32 : BitVec 32 := 0#32
  let c1_i32_139 : BitVec 32 := 1#32
  let arg13 : BitVec 32 := Scf.iv c0_i32 c1_i32_139 k0_t1
  let c128_i32 : BitVec 32 := 128#32
  let v372 : BitVec 32 := Scalar.muli arg13 c128_i32
  let v373 : BitVec 32 := v372
  let v385 : BitVec 32 := Scalar.addi c32_i32 v373
  let v386 : BitVec 32 := Scalar.subi v385 c24_i32_328
  let v387 : Index := Scalar.indexCast v386
  let c0_330 : Index := 0#32
  ![6, v387.toNat, 0]
def k0_off4 (k0_t1 : Fin k0_t1_loop.trips) (c24_i32_340 : BitVec 32) : Fin 3 → Nat :=
  let c5_341 : Index := 5#32
  let c0_i32 : BitVec 32 := 0#32
  let c1_i32_139 : BitVec 32 := 1#32
  let arg13 : BitVec 32 := Scf.iv c0_i32 c1_i32_139 k0_t1
  let c128_i32 : BitVec 32 := 128#32
  let v372 : BitVec 32 := Scalar.muli arg13 c128_i32
  let v373 : BitVec 32 := v372
  let v400 : BitVec 32 := Scalar.addi v373 c24_i32_340
  let v401 : Index := Scalar.indexCast v400
  let c0_342 : Index := 0#32
  ![5, v401.toNat, 0]
def k0_off5 (k0_t1 : Fin k0_t1_loop.trips) (c24_i32_344 : BitVec 32) : Fin 3 → Nat :=
  let c5_345 : Index := 5#32
  let c32_i32_343 : BitVec 32 := 32#32
  let c0_i32 : BitVec 32 := 0#32
  let c1_i32_139 : BitVec 32 := 1#32
  let arg13 : BitVec 32 := Scf.iv c0_i32 c1_i32_139 k0_t1
  let c128_i32 : BitVec 32 := 128#32
  let v372 : BitVec 32 := Scalar.muli arg13 c128_i32
  let v373 : BitVec 32 := v372
  let v407 : BitVec 32 := Scalar.addi c32_i32_343 v373
  let v408 : BitVec 32 := Scalar.subi v407 c24_i32_344
  let v409 : Index := Scalar.indexCast v408
  let c0_346 : Index := 0#32
  ![5, v409.toNat, 0]
def k0_off6 (k0_t1 : Fin k0_t1_loop.trips) (c24_i32_356 : BitVec 32) : Fin 3 → Nat :=
  let c4_357 : Index := 4#32
  let c0_i32 : BitVec 32 := 0#32
  let c1_i32_139 : BitVec 32 := 1#32
  let arg13 : BitVec 32 := Scf.iv c0_i32 c1_i32_139 k0_t1
  let c128_i32 : BitVec 32 := 128#32
  let v372 : BitVec 32 := Scalar.muli arg13 c128_i32
  let v373 : BitVec 32 := v372
  let v422 : BitVec 32 := Scalar.addi v373 c24_i32_356
  let v423 : Index := Scalar.indexCast v422
  let c0_358 : Index := 0#32
  ![4, v423.toNat, 0]
def k0_off7 (k0_t1 : Fin k0_t1_loop.trips) (c24_i32_360 : BitVec 32) : Fin 3 → Nat :=
  let c4_361 : Index := 4#32
  let c32_i32_359 : BitVec 32 := 32#32
  let c0_i32 : BitVec 32 := 0#32
  let c1_i32_139 : BitVec 32 := 1#32
  let arg13 : BitVec 32 := Scf.iv c0_i32 c1_i32_139 k0_t1
  let c128_i32 : BitVec 32 := 128#32
  let v372 : BitVec 32 := Scalar.muli arg13 c128_i32
  let v373 : BitVec 32 := v372
  let v429 : BitVec 32 := Scalar.addi c32_i32_359 v373
  let v430 : BitVec 32 := Scalar.subi v429 c24_i32_360
  let v431 : Index := Scalar.indexCast v430
  let c0_362 : Index := 0#32
  ![4, v431.toNat, 0]
def k0_off8 (k0_t1 : Fin k0_t1_loop.trips) (c24_i32_372 : BitVec 32) : Fin 3 → Nat :=
  let c3_373 : Index := 3#32
  let c0_i32 : BitVec 32 := 0#32
  let c1_i32_139 : BitVec 32 := 1#32
  let arg13 : BitVec 32 := Scf.iv c0_i32 c1_i32_139 k0_t1
  let c128_i32 : BitVec 32 := 128#32
  let v372 : BitVec 32 := Scalar.muli arg13 c128_i32
  let v373 : BitVec 32 := v372
  let v444 : BitVec 32 := Scalar.addi v373 c24_i32_372
  let v445 : Index := Scalar.indexCast v444
  let c0_374 : Index := 0#32
  ![3, v445.toNat, 0]
def k0_off9 (k0_t1 : Fin k0_t1_loop.trips) (c24_i32_376 : BitVec 32) : Fin 3 → Nat :=
  let c3_377 : Index := 3#32
  let c32_i32_375 : BitVec 32 := 32#32
  let c0_i32 : BitVec 32 := 0#32
  let c1_i32_139 : BitVec 32 := 1#32
  let arg13 : BitVec 32 := Scf.iv c0_i32 c1_i32_139 k0_t1
  let c128_i32 : BitVec 32 := 128#32
  let v372 : BitVec 32 := Scalar.muli arg13 c128_i32
  let v373 : BitVec 32 := v372
  let v451 : BitVec 32 := Scalar.addi c32_i32_375 v373
  let v452 : BitVec 32 := Scalar.subi v451 c24_i32_376
  let v453 : Index := Scalar.indexCast v452
  let c0_378 : Index := 0#32
  ![3, v453.toNat, 0]
def k0_off10 (k0_t1 : Fin k0_t1_loop.trips) (c24_i32_388 : BitVec 32) : Fin 3 → Nat :=
  let c2_389 : Index := 2#32
  let c0_i32 : BitVec 32 := 0#32
  let c1_i32_139 : BitVec 32 := 1#32
  let arg13 : BitVec 32 := Scf.iv c0_i32 c1_i32_139 k0_t1
  let c128_i32 : BitVec 32 := 128#32
  let v372 : BitVec 32 := Scalar.muli arg13 c128_i32
  let v373 : BitVec 32 := v372
  let v466 : BitVec 32 := Scalar.addi v373 c24_i32_388
  let v467 : Index := Scalar.indexCast v466
  let c0_390 : Index := 0#32
  ![2, v467.toNat, 0]
def k0_off11 (k0_t1 : Fin k0_t1_loop.trips) (c24_i32_392 : BitVec 32) : Fin 3 → Nat :=
  let c2_393 : Index := 2#32
  let c32_i32_391 : BitVec 32 := 32#32
  let c0_i32 : BitVec 32 := 0#32
  let c1_i32_139 : BitVec 32 := 1#32
  let arg13 : BitVec 32 := Scf.iv c0_i32 c1_i32_139 k0_t1
  let c128_i32 : BitVec 32 := 128#32
  let v372 : BitVec 32 := Scalar.muli arg13 c128_i32
  let v373 : BitVec 32 := v372
  let v473 : BitVec 32 := Scalar.addi c32_i32_391 v373
  let v474 : BitVec 32 := Scalar.subi v473 c24_i32_392
  let v475 : Index := Scalar.indexCast v474
  let c0_394 : Index := 0#32
  ![2, v475.toNat, 0]
def k0_off12 (k0_t1 : Fin k0_t1_loop.trips) (c24_i32_404 : BitVec 32) : Fin 3 → Nat :=
  let c1_405 : Index := 1#32
  let c0_i32 : BitVec 32 := 0#32
  let c1_i32_139 : BitVec 32 := 1#32
  let arg13 : BitVec 32 := Scf.iv c0_i32 c1_i32_139 k0_t1
  let c128_i32 : BitVec 32 := 128#32
  let v372 : BitVec 32 := Scalar.muli arg13 c128_i32
  let v373 : BitVec 32 := v372
  let v488 : BitVec 32 := Scalar.addi v373 c24_i32_404
  let v489 : Index := Scalar.indexCast v488
  let c0_406 : Index := 0#32
  ![1, v489.toNat, 0]
def k0_off13 (k0_t1 : Fin k0_t1_loop.trips) (c24_i32_408 : BitVec 32) : Fin 3 → Nat :=
  let c1_409 : Index := 1#32
  let c32_i32_407 : BitVec 32 := 32#32
  let c0_i32 : BitVec 32 := 0#32
  let c1_i32_139 : BitVec 32 := 1#32
  let arg13 : BitVec 32 := Scf.iv c0_i32 c1_i32_139 k0_t1
  let c128_i32 : BitVec 32 := 128#32
  let v372 : BitVec 32 := Scalar.muli arg13 c128_i32
  let v373 : BitVec 32 := v372
  let v495 : BitVec 32 := Scalar.addi c32_i32_407 v373
  let v496 : BitVec 32 := Scalar.subi v495 c24_i32_408
  let v497 : Index := Scalar.indexCast v496
  let c0_410 : Index := 0#32
  ![1, v497.toNat, 0]
def k0_off14 (k0_t1 : Fin k0_t1_loop.trips) (c24_i32_420 : BitVec 32) : Fin 3 → Nat :=
  let c0_421 : Index := 0#32
  let c0_i32 : BitVec 32 := 0#32
  let c1_i32_139 : BitVec 32 := 1#32
  let arg13 : BitVec 32 := Scf.iv c0_i32 c1_i32_139 k0_t1
  let c128_i32 : BitVec 32 := 128#32
  let v372 : BitVec 32 := Scalar.muli arg13 c128_i32
  let v373 : BitVec 32 := v372
  let v510 : BitVec 32 := Scalar.addi v373 c24_i32_420
  let v511 : Index := Scalar.indexCast v510
  let c0_422 : Index := 0#32
  ![0, v511.toNat, 0]
def k0_off15 (k0_t1 : Fin k0_t1_loop.trips) (c24_i32_424 : BitVec 32) : Fin 3 → Nat :=
  let c0_425 : Index := 0#32
  let c32_i32_423 : BitVec 32 := 32#32
  let c0_i32 : BitVec 32 := 0#32
  let c1_i32_139 : BitVec 32 := 1#32
  let arg13 : BitVec 32 := Scf.iv c0_i32 c1_i32_139 k0_t1
  let c128_i32 : BitVec 32 := 128#32
  let v372 : BitVec 32 := Scalar.muli arg13 c128_i32
  let v373 : BitVec 32 := v372
  let v517 : BitVec 32 := Scalar.addi c32_i32_423 v373
  let v518 : BitVec 32 := Scalar.subi v517 c24_i32_424
  let v519 : Index := Scalar.indexCast v518
  let c0_426 : Index := 0#32
  ![0, v519.toNat, 0]
def k0_off16 (k0_t1 : Fin k0_t1_loop.trips) (c16_i32_436 : BitVec 32) : Fin 3 → Nat :=
  let c7_437 : Index := 7#32
  let c0_i32 : BitVec 32 := 0#32
  let c1_i32_139 : BitVec 32 := 1#32
  let arg13 : BitVec 32 := Scf.iv c0_i32 c1_i32_139 k0_t1
  let c128_i32 : BitVec 32 := 128#32
  let v372 : BitVec 32 := Scalar.muli arg13 c128_i32
  let v373 : BitVec 32 := v372
  let v532 : BitVec 32 := Scalar.addi v373 c16_i32_436
  let v533 : Index := Scalar.indexCast v532
  let c0_438 : Index := 0#32
  ![7, v533.toNat, 0]
def k0_off17 (k0_t1 : Fin k0_t1_loop.trips) (c16_i32_440 : BitVec 32) : Fin 3 → Nat :=
  let c7_441 : Index := 7#32
  let c32_i32_439 : BitVec 32 := 32#32
  let c0_i32 : BitVec 32 := 0#32
  let c1_i32_139 : BitVec 32 := 1#32
  let arg13 : BitVec 32 := Scf.iv c0_i32 c1_i32_139 k0_t1
  let c128_i32 : BitVec 32 := 128#32
  let v372 : BitVec 32 := Scalar.muli arg13 c128_i32
  let v373 : BitVec 32 := v372
  let v539 : BitVec 32 := Scalar.addi c32_i32_439 v373
  let v540 : BitVec 32 := Scalar.subi v539 c16_i32_440
  let v541 : Index := Scalar.indexCast v540
  let c0_442 : Index := 0#32
  ![7, v541.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S31x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S31x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GluFwd.lean ====
abbrev S2048x2048 : Shape := ⟨2, ![2048, 2048]⟩
abbrev S31x1024 : Shape := ⟨2, ![31, 1024]⟩
abbrev S1x1024 : Shape := ⟨2, ![1, 1024]⟩
abbrev S2048x1024 : Shape := ⟨2, ![2048, 1024]⟩
abbrev S2048x128 : Shape := ⟨2, ![2048, 128]⟩
abbrev S31x128 : Shape := ⟨2, ![31, 128]⟩
abbrev S1x128 : Shape := ⟨2, ![1, 128]⟩
abbrev S8x2080x128 : Shape := ⟨3, ![8, 2080, 128]⟩
abbrev S32x128 : Shape := ⟨2, ![32, 128]⟩
abbrev S1x32x128 : Shape := ⟨3, ![1, 32, 128]⟩
abbrev S1x2048x128 : Shape := ⟨3, ![1, 2048, 128]⟩
abbrev S128x128 : Shape := ⟨2, ![128, 128]⟩
abbrev S1x128x128 : Shape := ⟨3, ![1, 128, 128]⟩

abbrev nBuf : Space → Nat
  | .hbm => 4
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S31x1024, .f32⟩
  | .hbm, ⟨2, _⟩ => ⟨S1x1024, .f32⟩
  | .hbm, ⟨3, _⟩ => ⟨S2048x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S31x128, .f32⟩
  | .local _ .vmem, ⟨5, _⟩ => ⟨S31x128, .f32⟩
  | .local _ .vmem, ⟨6, _⟩ => ⟨S1x128, .f32⟩
  | .local _ .vmem, ⟨7, _⟩ => ⟨S1x128, .f32⟩
  | .local _ .vmem, ⟨8, _⟩ => ⟨S2048x128, .f32⟩
  | .local _ .vmem, ⟨9, _⟩ => ⟨S2048x128, .f32⟩
  | .local _ .vmem, ⟨10, _⟩ => ⟨S8x2080x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v96 : BitVec 32 := Scalar.addi c0_i32 c16_i32
  let c1_i32_64 : BitVec 32 := 1#32
  ⟨c0_i32, v96, c1_i32_64⟩
def k0_mult1 (k0_t1 : Fin k0_t1_loop.trips) : BitVec 32 :=
  let c0_i32 : BitVec 32 := 0#32
  let c1_i32_64 : BitVec 32 := 1#32
  let arg7 : BitVec 32 := Scf.iv c0_i32 c1_i32_64 k0_t1
  let c128_i32 : BitVec 32 := 128#32
  let v97 : BitVec 32 := Scalar.muli arg7 c128_i32
  v97
def k0_off1 (k0_t1 : Fin k0_t1_loop.trips) (c24_i32 : BitVec 32) : Fin 3 → Nat :=
  let c6_70 : Index := 6#32
  let c32_i32 : BitVec 32 := 32#32
  let c0_i32 : BitVec 32 := 0#32
  let c1_i32_64 : BitVec 32 := 1#32
  let arg7 : BitVec 32 := Scf.iv c0_i32 c1_i32_64 k0_t1
  let c128_i32 : BitVec 32 := 128#32
  let v97 : BitVec 32 := Scalar.muli arg7 c128_i32
  let v98 : BitVec 32 := v97
  let v103 : BitVec 32 := Scalar.addi c32_i32 v98
  let v104 : BitVec 32 := Scalar.subi v103 c24_i32
  let v105 : Index := Scalar.indexCast v104
  let c0_71 : Index := 0#32
  ![6, v105.toNat, 0]
def k0_off2 (k0_t1 : Fin k0_t1_loop.trips) (c24_i32_75 : BitVec 32) : Fin 3 → Nat :=
  let c5_76 : Index := 5#32
  let c32_i32_74 : BitVec 32 := 32#32
  let c0_i32 : BitVec 32 := 0#32
  let c1_i32_64 : BitVec 32 := 1#32
  let arg7 : BitVec 32 := Scf.iv c0_i32 c1_i32_64 k0_t1
  let c128_i32 : BitVec 32 := 128#32
  let v97 : BitVec 32 := Scalar.muli arg7 c128_i32
  let v98 : BitVec 32 := v97
  let v112 : BitVec 32 := Scalar.addi c32_i32_74 v98
  let v113 : BitVec 32 := Scalar.subi v112 c24_i32_75
  let v114 : Index := Scalar.indexCast v113
  let c0_77 : Index := 0#32
  ![5, v114.toNat, 0]
def k0_off3 (k0_t1 : Fin k0_t1_loop.trips) (c24_i32_81 : BitVec 32) : Fin 3 → Nat :=
  let c4_82 : Index := 4#32
  let c32_i32_80 : BitVec 32 := 32#32
  let c0_i32 : BitVec 32 := 0#32
  let c1_i32_64 : BitVec 32 := 1#32
  let arg7 : BitVec 32 := Scf.iv c0_i32 c1_i32_64 k0_t1
  let c128_i32 : BitVec 32 := 128#32
  let v97 : BitVec 32 := Scalar.muli arg7 c128_i32
  let v98 : BitVec 32 := v97
  let v121 : BitVec 32 := Scalar.addi c32_i32_80 v98
  let v122 : BitVec 32 := Scalar.subi v121 c24_i32_81
  let v123 : Index := Scalar.indexCast v122
  let c0_83 : Index := 0#32
  ![4, v123.toNat, 0]
def k0_off4 (k0_t1 : Fin k0_t1_loop.trips) (c24_i32_87 : BitVec 32) : Fin 3 → Nat :=
  let c3_88 : Index := 3#32
  let c32_i32_86 : BitVec 32 := 32#32
  let c0_i32 : BitVec 32 := 0#32
  let c1_i32_64 : BitVec 32 := 1#32
  let arg7 : BitVec 32 := Scf.iv c0_i32 c1_i32_64 k0_t1
  let c128_i32 : BitVec 32 := 128#32
  let v97 : BitVec 32 := Scalar.muli arg7 c128_i32
  let v98 : BitVec 32 := v97
  let v130 : BitVec 32 := Scalar.addi c32_i32_86 v98
  let v131 : BitVec 32 := Scalar.subi v130 c24_i32_87
  let v132 : Index := Scalar.indexCast v131
  let c0_89 : Index := 0#32
  ![3, v132.toNat, 0]
def k0_off5 (k0_t1 : Fin k0_t1_loop.trips) (c24_i32_93 : BitVec 32) : Fin 3 → Nat :=
  let c2_94 : Index := 2#32
  let c32_i32_92 : BitVec 32 := 32#32
  let c0_i32 : BitVec 32 := 0#32
  let c1_i32_64 : BitVec 32 := 1#32
  let arg7 : BitVec 32 := Scf.iv c0_i32 c1_i32_64 k0_t1
  let c128_i32 : BitVec 32 := 128#32
  let v97 : BitVec 32 := Scalar.muli arg7 c128_i32
  let v98 : BitVec 32 := v97
  let v139 : BitVec 32 := Scalar.addi c32_i32_92 v98
  let v140 : BitVec 32 := Scalar.subi v139 c24_i32_93
  let v141 : Index := Scalar.indexCast v140
  let c0_95 : Index := 0#32
  ![2, v141.toNat, 0]
def k0_off6 (k0_t1 : Fin k0_t1_loop.trips) (c24_i32_99 : BitVec 32) : Fin 3 → Nat :=
  let c1_100 : Index := 1#32
  let c32_i32_98 : BitVec 32 := 32#32
  let c0_i32 : BitVec 32 := 0#32
  let c1_i32_64 : BitVec 32 := 1#32
  let arg7 : BitVec 32 := Scf.iv c0_i32 c1_i32_64 k0_t1
  let c128_i32 : BitVec 32 := 128#32
  let v97 : BitVec 32 := Scalar.muli arg7 c128_i32
  let v98 : BitVec 32 := v97
  let v148 : BitVec 32 := Scalar.addi c32_i32_98 v98
  let v149 : BitVec 32 := Scalar.subi v148 c24_i32_99
  let v150 : Index := Scalar.indexCast v149
  let c0_101 : Index := 0#32
  ![1, v150.toNat, 0]
def k0_off7 (k0_t1 : Fin k0_t1_loop.trips) (c24_i32_105 : BitVec 32) : Fin 3 → Nat :=
  let c0_106 : Index := 0#32
  let c32_i32_104 : BitVec 32 := 32#32
  let c0_i32 : BitVec 32 := 0#32
  let c1_i32_64 : BitVec 32 := 1#32
  let arg7 : BitVec 32 := Scf.iv c0_i32 c1_i32_64 k0_t1
  let c128_i32 : BitVec 32 := 128#32
  let v97 : BitVec 32 := Scalar.muli arg7 c128_i32
  let v98 : BitVec 32 := v97
  let v157 : BitVec 32 := Scalar.addi c32_i32_104 v98
  let v158 : BitVec 32 := Scalar.subi v157 c24_i32_105
  let v159 : Index := Scalar.indexCast v158
  let c0_107 : Index := 0#32
  ![0, v159.toNat, 0]
def k0_off8 (k0_t1 : Fin k0_t1_loop.trips) (c16_i32_111 : BitVec 32) : Fin 3 → Nat :=
  let c7_112 : Index := 7#32
  let c32_i32_110 : BitVec 32 := 32#32
  let c0_i32 : BitVec 32 := 0#32
  let c1_i32_64 : BitVec 32 := 1#32
  let arg7 : BitVec 32 := Scf.iv c0_i32 c1_i32_64 k0_t1
  let c128_i32 : BitVec 32 := 128#32
  let v97 : BitVec 32 := Scalar.muli arg7 c128_i32
  let v98 : BitVec 32 := v97
  let v166 : BitVec 32 := Scalar.addi c32_i32_110 v98
  let v167 : BitVec 32 := Scalar.subi v166 c16_i32_111
  let v168 : Index := Scalar.indexCast v167
  let c0_113 : Index := 0#32
  ![7, v168.toNat, 0]
def k0_off9 (k0_t1 : Fin k0_t1_loop.trips) : Fin 2 → Nat :=
  let c0_i32 : BitVec 32 := 0#32
  let c1_i32_64 : BitVec 32 := 1#32
  let arg7 : BitVec 32 := Scf.iv c0_i32 c1_i32_64 k0_t1
  let c128_i32 : BitVec 32 := 128#32
  let v97 : BitVec 32 := Scalar.muli arg7 c128_i32
  let v98 : BitVec 32 := v97
  let v381 : Index := Scalar.indexCast v98
  let c0_228 : Index := 0#32
  ![v381.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S31x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GluFwdRefIdeal.lean ====
abbrev S2048x2048 : Shape := ⟨2, ![2048, 2048]⟩
abbrev S31x1024 : Shape := ⟨2, ![31, 1024]⟩
abbrev S1x1024 : Shape := ⟨2, ![1, 1024]⟩
abbrev S2048x1024 : Shape := ⟨2, ![2048, 1024]⟩
abbrev S_ : Shape := ⟨0, ![]⟩
abbrev S30x1024 : Shape := ⟨2, ![30, 1024]⟩
abbrev S2078x1024 : Shape := ⟨2, ![2078, 1024]⟩
abbrev S1024 : Shape := ⟨1, ![1024]⟩

abbrev nBuf : Space → Nat
  | .hbm => 238
  | .vmem => 0
  | .smem => 0
  | _ => 0

abbrev hbmTy0_0 (i : Nat) : BufTy := match i % 128 with
  | 0 => ⟨S2048x2048, .f32⟩
  | 1 => ⟨S31x1024, .f32⟩
  | 2 => ⟨S1x1024, .f32⟩
  | 3 => ⟨S2048x1024, .f32⟩
  | 4 => ⟨S2048x1024, .f32⟩
  | 5 => ⟨S2048x1024, .f32⟩
  | 6 => ⟨S2048x1024, .f32⟩
  | 7 => ⟨S_, .f32⟩
  | 8 => ⟨S2048x1024, .f32⟩
  | 9 => ⟨S2048x1024, .f32⟩
  | 10 => ⟨S_, .f32⟩
  | 11 => ⟨S2048x1024, .f32⟩
  | 12 => ⟨S2048x1024, .f32⟩
  | 13 => ⟨S2048x1024, .f32⟩
  | 14 => ⟨S_, .f32⟩
  | 15 => ⟨S30x1024, .f32⟩
  | 16 => ⟨S2078x1024, .f32⟩
  | 17 => ⟨S1x1024, .f32⟩
  | 18 => ⟨S1024, .f32⟩
  | 19 => ⟨S2048x1024, .f32⟩
  | 20 => ⟨S1x1024, .f32⟩
  | 21 => ⟨S2048x1024, .f32⟩
  | 22 => ⟨S2048x1024, .f32⟩
  | 23 => ⟨S_, .f32⟩
  | 24 => ⟨S2048x1024, .f32⟩
  | 25 => ⟨S2048x1024, .f32⟩
  | 26 => ⟨S1x1024, .f32⟩
  | 27 => ⟨S1024, .f32⟩
  | 28 => ⟨S2048x1024, .f32⟩
  | 29 => ⟨S1x1024, .f32⟩
  | 30 => ⟨S2048x1024, .f32⟩
  | 31 => ⟨S2048x1024, .f32⟩
  | 32 => ⟨S2048x1024, .f32⟩
  | 33 => ⟨S1x1024, .f32⟩
  | 34 => ⟨S1024, .f32⟩
  | 35 => ⟨S2048x1024, .f32⟩
  | 36 => ⟨S1x1024, .f32⟩
  | 37 => ⟨S2048x1024, .f32⟩
  | 38 => ⟨S2048x1024, .f32⟩
  | 39 => ⟨S2048x1024, .f32⟩
  | 40 => ⟨S1x1024, .f32⟩
  | 41 => ⟨S1024, .f32⟩
  | 42 => ⟨S2048x1024, .f32⟩
  | 43 => ⟨S1x1024, .f32⟩
  | 44 => ⟨S2048x1024, .f32⟩
  | 45 => ⟨S2048x1024, .f32⟩
  | 46 => ⟨S2048x1024, .f32⟩
  | 47 => ⟨S1x1024, .f32⟩
  | 48 => ⟨S1024, .f32⟩
  | 49 => ⟨S2048x1024, .f32⟩
  | 50 => ⟨S1x1024, .f32⟩
  | 51 => ⟨S2048x1024, .f32⟩
  | 52 => ⟨S2048x1024, .f32⟩
  | 53 => ⟨S2048x1024, .f32⟩
  | 54 => ⟨S1x1024, .f32⟩
  | 55 => ⟨S1024, .f32⟩
  | 56 => ⟨S2048x1024, .f32⟩
  | 57 => ⟨S1x1024, .f32⟩
  | 58 => ⟨S2048x1024, .f32⟩
  | 59 => ⟨S2048x1024, .f32⟩
  | 60 => ⟨S2048x1024, .f32⟩
  | 61 => ⟨S1x1024, .f32⟩
  | 62 => ⟨S1024, .f32⟩
  | 63 => ⟨S2048x1024, .f32⟩
  | 64 => ⟨S1x1024, .f32⟩
  | 65 => ⟨S2048x1024, .f32⟩
  | 66 => ⟨S2048x1024, .f32⟩
  | 67 => ⟨S2048x1024, .f32⟩
  | 68 => ⟨S1x1024, .f32⟩
  | 69 => ⟨S1024, .f32⟩
  | 70 => ⟨S2048x1024, .f32⟩
  | 71 => ⟨S1x1024, .f32⟩
  | 72 => ⟨S2048x1024, .f32⟩
  | 73 => ⟨S2048x1024, .f32⟩
  | 74 => ⟨S2048x1024, .f32⟩
  | 75 => ⟨S1x1024, .f32⟩
  | 76 => ⟨S1024, .f32⟩
  | 77 => ⟨S2048x1024, .f32⟩
  | 78 => ⟨S1x1024, .f32⟩
  | 79 => ⟨S2048x1024, .f32⟩
  | 80 => ⟨S2048x1024, .f32⟩
  | 81 => ⟨S2048x1024, .f32⟩
  | 82 => ⟨S1x1024, .f32⟩
  | 83 => ⟨S1024, .f32⟩
  | 84 => ⟨S2048x1024, .f32⟩
  | 85 => ⟨S1x1024, .f32⟩
  | 86 => ⟨S2048x1024, .f32⟩
  | 87 => ⟨S2048x1024, .f32⟩
  | 88 => ⟨S2048x1024, .f32⟩
  | 89 => ⟨S1x1024, .f32⟩
  | 90 => ⟨S1024, .f32⟩
  | 91 => ⟨S2048x1024, .f32⟩
  | 92 => ⟨S1x1024, .f32⟩
  | 93 => ⟨S2048x1024, .f32⟩
  | 94 => ⟨S2048x1024, .f32⟩
  | 95 => ⟨S2048x1024, .f32⟩
  | 96 => ⟨S1x1024, .f32⟩
  | 97 => ⟨S1024, .f32⟩
  | 98 => ⟨S2048x1024, .f32⟩
  | 99 => ⟨S1x1024, .f32⟩
  | 100 => ⟨S2048x1024, .f32⟩
  | 101 => ⟨S2048x1024, .f32⟩
  | 102 => ⟨S2048x1024, .f32⟩
  | 103 => ⟨S1x1024, .f32⟩
  | 104 => ⟨S1024, .f32⟩
  | 105 => ⟨S2048x1024, .f32⟩
  | 106 => ⟨S1x1024, .f32⟩
  | 107 => ⟨S2048x1024, .f32⟩
  | 108 => ⟨S2048x1024, .f32⟩
  | 109 => ⟨S2048x1024, .f32⟩
  | 110 => ⟨S1x1024, .f32⟩
  | 111 => ⟨S1024, .f32⟩
  | 112 => ⟨S2048x1024, .f32⟩
  | 113 => ⟨S1x1024, .f32⟩
  | 114 => ⟨S2048x1024, .f32⟩
  | 115 => ⟨S2048x1024, .f32⟩
  | 116 => ⟨S2048x1024, .f32⟩
  | 117 => ⟨S1x1024, .f32⟩
  | 118 => ⟨S1024, .f32⟩
  | 119 => ⟨S2048x1024, .f32⟩
  | 120 => ⟨S1x1024, .f32⟩
  | 121 => ⟨S2048x1024, .f32⟩
  | 122 => ⟨S2048x1024, .f32⟩
  | 123 => ⟨S2048x1024, .f32⟩
  | 124 => ⟨S1x1024, .f32⟩
  | 125 => ⟨S1024, .f32⟩
  | 126 => ⟨S2048x1024, .f32⟩
  | 127 => ⟨S1x1024, .f32⟩
  | _ => ⟨S2048x2048, .f32⟩

abbrev hbmTy0_1 (i : Nat) : BufTy := match i % 128 with
  | 0 => ⟨S2048x1024, .f32⟩
  | 1 => ⟨S2048x1024, .f32⟩
  | 2 => ⟨S2048x1024, .f32⟩
  | 3 => ⟨S1x1024, .f32⟩
  | 4 => ⟨S1024, .f32⟩
  | 5 => ⟨S2048x1024, .f32⟩
  | 6 => ⟨S1x1024, .f32⟩
  | 7 => ⟨S2048x1024, .f32⟩
  | 8 => ⟨S2048x1024, .f32⟩
  | 9 => ⟨S2048x1024, .f32⟩
  | 10 => ⟨S1x1024, .f32⟩
  | 11 => ⟨S1024, .f32⟩
  | 12 => ⟨S2048x1024, .f32⟩
  | 13 => ⟨S1x1024, .f32⟩
  | 14 => ⟨S2048x1024, .f32⟩
  | 15 => ⟨S2048x1024, .f32⟩
  | 16 => ⟨S2048x1024, .f32⟩
  | 17 => ⟨S1x1024, .f32⟩
  | 18 => ⟨S1024, .f32⟩
  | 19 => ⟨S2048x1024, .f32⟩
  | 20 => ⟨S1x1024, .f32⟩
  | 21 => ⟨S2048x1024, .f32⟩
  | 22 => ⟨S2048x1024, .f32⟩
  | 23 => ⟨S2048x1024, .f32⟩
  | 24 => ⟨S1x1024, .f32⟩
  | 25 => ⟨S1024, .f32⟩
  | 26 => ⟨S2048x1024, .f32⟩
  | 27 => ⟨S1x1024, .f32⟩
  | 28 => ⟨S2048x1024, .f32⟩
  | 29 => ⟨S2048x1024, .f32⟩
  | 30 => ⟨S2048x1024, .f32⟩
  | 31 => ⟨S1x1024, .f32⟩
  | 32 => ⟨S1024, .f32⟩
  | 33 => ⟨S2048x1024, .f32⟩
  | 34 => ⟨S1x1024, .f32⟩
  | 35 => ⟨S2048x1024, .f32⟩
  | 36 => ⟨S2048x1024, .f32⟩
  | 37 => ⟨S2048x1024, .f32⟩
  | 38 => ⟨S1x1024, .f32⟩
  | 39 => ⟨S1024, .f32⟩
  | 40 => ⟨S2048x1024, .f32⟩
  | 41 => ⟨S1x1024, .f32⟩
  | 42 => ⟨S2048x1024, .f32⟩
  | 43 => ⟨S2048x1024, .f32⟩
  | 44 => ⟨S2048x1024, .f32⟩
  | 45 => ⟨S1x1024, .f32⟩
  | 46 => ⟨S1024, .f32⟩
  | 47 => ⟨S2048x1024, .f32⟩
  | 48 => ⟨S1x1024, .f32⟩
  | 49 => ⟨S2048x1024, .f32⟩
  | 50 => ⟨S2048x1024, .f32⟩
  | 51 => ⟨S2048x1024, .f32⟩
  | 52 => ⟨S1x1024, .f32⟩
  | 53 => ⟨S1024, .f32⟩
  | 54 => ⟨S2048x1024, .f32⟩
  | 55 => ⟨S1x1024, .f32⟩
  | 56 => ⟨S2048x1024, .f32⟩
  | 57 => ⟨S2048x1024, .f32⟩
  | 58 => ⟨S2048x1024, .f32⟩
  | 59 => ⟨S1x1024, .f32⟩
  | 60 => ⟨S1024, .f32⟩
  | 61 => ⟨S2048x1024, .f32⟩
  | 62 => ⟨S1x1024, .f32⟩
  | 63 => ⟨S2048x1024, .f32⟩
  | 64 => ⟨S2048x1024, .f32⟩
  | 65 => ⟨S2048x1024, .f32⟩
  | 66 => ⟨S1x1024, .f32⟩
  | 67 => ⟨S1024, .f32⟩
  | 68 => ⟨S2048x1024, .f32⟩
  | 69 => ⟨S1x1024, .f32⟩
  | 70 => ⟨S2048x1024, .f32⟩
  | 71 => ⟨S2048x1024, .f32⟩
  | 72 => ⟨S2048x1024, .f32⟩
  | 73 => ⟨S1x1024, .f32⟩
  | 74 => ⟨S1024, .f32⟩
  | 75 => ⟨S2048x1024, .f32⟩
  | 76 => ⟨S1x1024, .f32⟩
  | 77 => ⟨S2048x1024, .f32⟩
  | 78 => ⟨S2048x1024, .f32⟩
  | 79 => ⟨S2048x1024, .f32⟩
  | 80 => ⟨S1x1024, .f32⟩
  | 81 => ⟨S1024, .f32⟩
  | 82 => ⟨S2048x1024, .f32⟩
  | 83 => ⟨S1x1024, .f32⟩
  | 84 => ⟨S2048x1024, .f32⟩
  | 85 => ⟨S2048x1024, .f32⟩
  | 86 => ⟨S2048x1024, .f32⟩
  | 87 => ⟨S1x1024, .f32⟩
  | 88 => ⟨S1024, .f32⟩
  | 89 => ⟨S2048x1024, .f32⟩
  | 90 => ⟨S1x1024, .f32⟩
  | 91 => ⟨S2048x1024, .f32⟩
  | 92 => ⟨S2048x1024, .f32⟩
  | 93 => ⟨S2048x1024, .f32⟩
  | 94 => ⟨S1x1024, .f32⟩
  | 95 => ⟨S1024, .f32⟩
  | 96 => ⟨S2048x1024, .f32⟩
  | 97 => ⟨S1x1024, .f32⟩
  | 98 => ⟨S2048x1024, .f32⟩
  | 99 => ⟨S2048x1024, .f32⟩
  | 100 => ⟨S2048x1024, .f32⟩
  | 101 => ⟨S1x1024, .f32⟩
  | 102 => ⟨S1024, .f32⟩
  | 103 => ⟨S2048x1024, .f32⟩
  | 104 => ⟨S1x1024, .f32⟩
  | 105 => ⟨S2048x1024, .f32⟩
  | 106 => ⟨S2048x1024, .f32⟩
  | 107 => ⟨S2048x1024, .f32⟩
  | 108 => ⟨S2048x1024, .f32⟩
  | 109 => ⟨S2048x1024, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_v228 : Ref sig .tc := ⟨.hbm, 235, rfl⟩
abbrev main_v229 : Ref sig .tc := ⟨.hbm, 236, rfl⟩
abbrev main_v230 : Ref sig .tc := ⟨.hbm, 237, rfl⟩

abbrev nD : Nat := 1
abbrev τ : Topo := Topo.v7x

variable {F : FTy → Type} [FloatOps F]
-- ==== UpFwd.lean ====
abbrev S2048x1024 : Shape := ⟨2, ![2048, 1024]⟩
abbrev S1024x4096 : Shape := ⟨2, ![1024, 4096]⟩
abbrev S1024x1024 : Shape := ⟨2, ![1024, 1024]⟩
abbrev S1x1024x1024 : Shape := ⟨3, ![1, 1024, 1024]⟩
abbrev S4x1024x1024 : Shape := ⟨3, ![4, 1024, 1024]⟩
abbrev S2048x4096 : Shape := ⟨2, ![2048, 4096]⟩

abbrev nBuf : Space → Nat
  | .hbm => 14
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S1024x4096, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1x1024x1024, .bf16⟩
  | .hbm, ⟨8, _⟩ => ⟨S1x1024x1024, .bf16⟩
  | .hbm, ⟨9, _⟩ => ⟨S1x1024x1024, .bf16⟩
  | .hbm, ⟨10, _⟩ => ⟨S1x1024x1024, .bf16⟩
  | .hbm, ⟨11, _⟩ => ⟨S4x1024x1024, .bf16⟩
  | .hbm, ⟨12, _⟩ => ⟨S2048x1024, .bf16⟩
  | .hbm, ⟨13, _⟩ => ⟨S2048x4096, .bf16⟩
  | .local _ .vmem, ⟨0, _⟩ => ⟨S2048x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S2048x1024, .bf16⟩
  | .local _ .vmem, ⟨4, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwdRefIdeal.lean ====
abbrev S2048x1024 : Shape := ⟨2, ![2048, 1024]⟩
abbrev S1024x4096 : Shape := ⟨2, ![1024, 4096]⟩
abbrev S2048x4096 : Shape := ⟨2, ![2048, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .hbm, ⟨3, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ToInBwd.lean ====
abbrev S1024x3072 : Shape := ⟨2, ![1024, 3072]⟩
abbrev S3x2048x1024 : Shape := ⟨3, ![3, 2048, 1024]⟩
abbrev S2048x1024 : Shape := ⟨2, ![2048, 1024]⟩
abbrev S3x512x1024 : Shape := ⟨3, ![3, 512, 1024]⟩
abbrev S512x1024 : Shape := ⟨2, ![512, 1024]⟩
abbrev S1x512x1024 : Shape := ⟨3, ![1, 512, 1024]⟩
abbrev S512x3072 : Shape := ⟨2, ![512, 3072]⟩

abbrev nBuf : Space → Nat
  | .hbm => 6
  | .vmem => 7
  | .smem => 0
  | _ => 0

abbrev bufTy : (tb : Table) → Fin (tcTables nBuf tb) → BufTy
  | .hbm, ⟨0, _⟩ => ⟨S1024x3072, .f32⟩
  | .hbm, ⟨1, _⟩ => ⟨S3x2048x1024, .f32⟩
  | .hbm, ⟨2, _⟩ => ⟨S2048x1024, .f32⟩
  | .hbm, ⟨3, _⟩ => ⟨S1024x3072, .bf16⟩
  | .hbm, ⟨4, _⟩ => ⟨S3x2048x1024, .bf16⟩
  | .hbm, ⟨5, _⟩ => ⟨S2048x1024, .f32⟩
  | .local _ .vmem, ⟨0, _⟩ => ⟨S3x512x1024, .bf16⟩
  | .local _ .vmem, ⟨1, _⟩ => ⟨S3x512x1024, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S1024x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S3x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ToInBwdRefIdeal.lean ====
abbrev S1024x3072 : Shape := ⟨2, ![1024, 3072]⟩
abbrev S3x2048x1024 : Shape := ⟨3, ![3, 2048, 1024]⟩
abbrev S2048x1024 : Shape := ⟨2, ![2048, 1024]⟩
abbrev S_ : Shape := ⟨0, ![]⟩
abbrev S2048x3072 : Shape := ⟨2, ![2048, 3072]⟩
abbrev S1x2048x1024 : Shape := ⟨3, ![1, 2048, 1024]⟩

abbrev nBuf : Space → Nat
  | .hbm => 21
  | .vmem => 0
  | .smem => 0
  | _ => 0

abbrev bufTy : (tb : Table) → Fin (tcTables nBuf tb) → BufTy
  | .hbm, ⟨0, _⟩ => ⟨S1024x3072, .f32⟩
  | .hbm, ⟨1, _⟩ => ⟨S3x2048x1024, .f32⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S2048x3072, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S1x2048x1024, .f32⟩
  | .hbm, ⟨10, _⟩ => ⟨S2048x1024, .f32⟩
  | .hbm, ⟨11, _⟩ => ⟨S1x2048x1024, .f32⟩
  | .hbm, ⟨12, _⟩ => ⟨S2048x1024, .f32⟩
  | .hbm, ⟨13, _⟩ => ⟨S1x2048x1024, .f32⟩
  | .hbm, ⟨14, _⟩ => ⟨S2048x1024, .f32⟩
  | .hbm, ⟨15, _⟩ => ⟨S2048x3072, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | _, _ => ⟨S1024x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.ScBlk.lean ====
/- The gradient of the short convolution's gate (`short_conv_gate_bwd`): what one block holds. -/
module

public import proofs.«01_k».proof.Defs
public import proofs.«01_k».proof.Proof.Gen.ScBwdIdeal.Value
public import proofs.«01_k».proof.Proof.Gen.ScBwdRefIdeal.Read
public import Idealize.ShloMosaic.Lib.WordCmp
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.ScBwdIdeal.Hand

open Cert.ScBwdIdeal Cert.ScBwdIdeal.Gen Idealize.ShloMosaic Idealize.ShloMosaic.TcCoe Idealize.SL.Sem
open Idealize.ShloMosaic.Pipeline (Dat)

variable (m : (ℓ : Loc nD τ sig) → Buf (Elt Ideal) ℓ)

/-! ## A causal convolution of three taps on one column, and its transpose -/

/-- `z` moved down by `k` rows, zero above. -/
def down (z : Fin 2048 → EReal) (k : ℕ) (r : Fin 2048) : EReal := if h : (r : ℕ) < k then 0 else z ⟨(r : ℕ) - k, by omega⟩

/-- `z` moved up by `k` rows, zero below. -/
def up (z : Fin 2048 → EReal) (k : ℕ) (r : Fin 2048) : EReal := if h : (r : ℕ) + k < 2048 then z ⟨(r : ℕ) + k, h⟩ else 0

/-- The convolution of a column with three taps. -/
def conv (w0 w1 w2 : EReal) (z : Fin 2048 → EReal) (r : Fin 2048) : EReal := w0 * down z 2 r + w1 * down z 1 r + w2 * z r

/-- Its transpose. -/
def convT (w0 w1 w2 : EReal) (z : Fin 2048 → EReal) (r : Fin 2048) : EReal := w0 * up z 2 r + w1 * up z 1 r + w2 * z r

theorem sge1 (x : Fin 2048) : IntOp.cmpi CmpIPredicate.sge (BitVec.ofNat 32 (x : ℕ)) 1#32 = if (x : ℕ) < 1 then 0#1 else 1#1 := by
  have h := x.isLt
  simp (disch := omega) only [hlo_ix]
  by_cases h1 : (x : ℕ) < 1
  · rw [if_pos h1, decide_eq_false (by omega)]; rfl
  · rw [if_neg h1, decide_eq_true (by omega)]; rfl
theorem sge2 (x : Fin 2048) : IntOp.cmpi CmpIPredicate.sge (BitVec.ofNat 32 (x : ℕ)) 2#32 = if (x : ℕ) < 2 then 0#1 else 1#1 := by
  have h := x.isLt
  simp (disch := omega) only [hlo_ix]
  by_cases h1 : (x : ℕ) < 2
  · rw [if_pos h1, decide_eq_false (by omega)]; rfl
  · rw [if_neg h1, decide_eq_true (by omega)]; rfl
theorem slt6 (x : Fin 2048) : IntOp.cmpi CmpIPredicate.slt (BitVec.ofNat 32 (x : ℕ)) 2046#32 = if (x : ℕ) + 2 < 2048 then 1#1 else 0#1 := by
  have h := x.isLt
  simp (disch := omega) only [hlo_ix]
  by_cases h1 : (x : ℕ) + 2 < 2048
  · rw [if_pos h1, decide_eq_true (by omega)]; rfl
  · rw [if_neg h1, decide_eq_false (by omega)]; rfl
theorem slt7 (x : Fin 2048) : IntOp.cmpi CmpIPredicate.slt (BitVec.ofNat 32 (x : ℕ)) 2047#32 = if (x : ℕ) + 1 < 2048 then 1#1 else 0#1 := by
  have h := x.isLt
  simp (disch := omega) only [hlo_ix]
  by_cases h1 : (x : ℕ) + 1 < 2048
  · rw [if_pos h1, decide_eq_true (by omega)]; rfl
  · rw [if_neg h1, decide_eq_false (by omega)]; rfl

theorem sel0 (a b : EReal) : Scalar.select (α := EReal) 0#1 a b = b := rfl
theorem sel1 (a b : EReal) : Scalar.select (α := EReal) 1#1 a b = a := rfl

/-- The body's masked rotation by one row, scaled, is the move down. -/
theorem down1 (a : EReal) (z : Fin 2048 → EReal) (x : Fin 2048) (q) (hq : (q : Fin 2048) = ⟨((x : ℕ) + 2048 - 1) % 2048, Nat.mod_lt _ (by decide)⟩) :
    Scalar.select (IntOp.cmpi CmpIPredicate.sge (BitVec.ofNat 32 (x : ℕ)) 1#32) (a * z q) 0 = a * down z 1 x := by
  subst hq
  rw [sge1, down]
  by_cases h : (x : ℕ) < 1
  · rw [if_pos h, dif_pos h, sel0, mul_zero]
  · have e : (⟨((x : ℕ) + 2048 - 1) % 2048, Nat.mod_lt _ (by decide)⟩ : Fin 2048) = ⟨(x : ℕ) - 1, by omega⟩ :=
      Fin.ext (by show ((x : ℕ) + 2048 - 1) % 2048 = (x : ℕ) - 1; omega)
    rw [if_neg h, dif_neg h, sel1, e]
theorem down2 (a : EReal) (z : Fin 2048 → EReal) (x : Fin 2048) (q) (hq : (q : Fin 2048) = ⟨((x : ℕ) + 2048 - 2) % 2048, Nat.mod_lt _ (by decide)⟩) :
    Scalar.select (IntOp.cmpi CmpIPredicate.sge (BitVec.ofNat 32 (x : ℕ)) 2#32) (a * z q) 0 = a * down z 2 x := by
  subst hq
  rw [sge2, down]
  by_cases h : (x : ℕ) < 2
  · rw [if_pos h, dif_pos h, sel0, mul_zero]
  · have e : (⟨((x : ℕ) + 2048 - 2) % 2048, Nat.mod_lt _ (by decide)⟩ : Fin 2048) = ⟨(x : ℕ) - 2, by omega⟩ :=
      Fin.ext (by show ((x : ℕ) + 2048 - 2) % 2048 = (x : ℕ) - 2; omega)
    rw [if_neg h, dif_neg h, sel1, e]
/-- The body's masked rotation by all but one row, scaled, is the move up. -/
theorem up1 (a : EReal) (z : Fin 2048 → EReal) (x : Fin 2048) (q) (hq : (q : Fin 2048) = ⟨((x : ℕ) + 2048 - 2047) % 2048, Nat.mod_lt _ (by decide)⟩) :
    Scalar.select (IntOp.cmpi CmpIPredicate.slt (BitVec.ofNat 32 (x : ℕ)) 2047#32) (a * z q) 0 = a * up z 1 x := by
  subst hq
  rw [slt7, up]
  by_cases h : (x : ℕ) + 1 < 2048
  · have e : (⟨((x : ℕ) + 2048 - 2047) % 2048, Nat.mod_lt _ (by decide)⟩ : Fin 2048) = ⟨(x : ℕ) + 1, h⟩ :=
      Fin.ext (by show ((x : ℕ) + 2048 - 2047) % 2048 = (x : ℕ) + 1; omega)
    rw [if_pos h, dif_pos h, sel1, e]
  · rw [if_neg h, dif_neg h, sel0, mul_zero]
theorem up2 (a : EReal) (z : Fin 2048 → EReal) (x : Fin 2048) (q) (hq : (q : Fin 2048) = ⟨((x : ℕ) + 2048 - 2046) % 2048, Nat.mod_lt _ (by decide)⟩) :
    Scalar.select (IntOp.cmpi CmpIPredicate.slt (BitVec.ofNat 32 (x : ℕ)) 2046#32) (a * z q) 0 = a * up z 2 x := by
  subst hq
  rw [slt6, up]
  by_cases h : (x : ℕ) + 2 < 2048
  · have e : (⟨((x : ℕ) + 2048 - 2046) % 2048, Nat.mod_lt _ (by decide)⟩ : Fin 2048) = ⟨(x : ℕ) + 2, h⟩ :=
      Fin.ext (by show ((x : ℕ) + 2048 - 2046) % 2048 = (x : ℕ) + 2; omega)
    rw [if_pos h, dif_pos h, sel1, e]
  · rw [if_neg h, dif_neg h, sel0, mul_zero]

/-! ## What one block holds -/

/-- The three gradients of one column: of the outer gate, of the inner gate and of the value. -/
def duT (b c h g : Fin 2048 → EReal) (w : Fin 3 → EReal) (p : Fin 3) (r : Fin 2048) : EReal :=
  if (p : ℕ) = 0 then g r * conv (w 0) (w 1) (w 2) (fun x => c x * h x) r
  else if (p : ℕ) = 1 then convT (w 0) (w 1) (w 2) (fun x => g x * b x) r * h r
  else convT (w 0) (w 1) (w 2) (fun x => g x * b x) r * c r

/-- The gradient of a tap. -/
def dwT (b c h g : Fin 2048 → EReal) (p : Fin 3) : EReal :=
  if (p : ℕ) = 0 then ∑ x, g x * b x * down (fun r => c r * h r) 2 x
  else if (p : ℕ) = 1 then ∑ x, g x * b x * down (fun r => c r * h r) 1 x
  else ∑ x, g x * b x * (c x * h x)

theorem out5_at (b c h : FVec Ideal S2048x256 .f32) (w : FVec Ideal S3x256 .f32) (g : FVec Ideal S2048x256 .f32) (p : Fin 3) (r : Fin 2048) (l : Fin 256) :
    @Eq EReal (out0_5 (F := Ideal) b c h w g (ix3 p r l))
      (duT (fun x => b (ix2 x l)) (fun x => c (ix2 x l)) (fun x => h (ix2 x l)) (fun x => g (ix2 x l)) (fun k => w (ix2 k l)) p r) := by
  unfold_out out0_5
  canon_tiles y hy
  all_goals
    idx_vars y
    open_payloads
    pointwise
    obtain rfl : r = y1 := Fin.ext hy1
    obtain rfl : l = y2 := Fin.ext hy2
  · rw [duT, if_neg (by omega), if_neg (by omega)]
    exact congrArg (· * c (ix2 r l)) (congrArg₂ (· + ·) (congrArg₂ (· + ·) (up2 _ (fun x => g (ix2 x l) * b (ix2 x l)) r _ rfl)
      (up1 _ (fun x => g (ix2 x l) * b (ix2 x l)) r _ rfl)) rfl)
  · rw [duT, if_neg (by omega), if_pos (by omega)]
    exact congrArg (· * h (ix2 r l)) (congrArg₂ (· + ·) (congrArg₂ (· + ·) (up2 _ (fun x => g (ix2 x l) * b (ix2 x l)) r _ rfl)
      (up1 _ (fun x => g (ix2 x l) * b (ix2 x l)) r _ rfl)) rfl)
  · rw [duT, if_pos (by omega)]
    exact congrArg (g (ix2 r l) * ·) (congrArg₂ (· + ·) (congrArg₂ (· + ·) (down2 _ (fun x => c (ix2 x l) * h (ix2 x l)) r _ rfl)
      (down1 _ (fun x => c (ix2 x l) * h (ix2 x l)) r _ rfl)) rfl)

theorem out6_at (b c h : FVec Ideal S2048x256 .f32) (w : FVec Ideal S3x256 .f32) (g : FVec Ideal S2048x256 .f32) (p : Fin 3) (l : Fin 256) :
    @Eq EReal (out0_6 (F := Ideal) b c h w g (ix2 p l))
      (dwT (fun x => b (ix2 x l)) (fun x => c (ix2 x l)) (fun x => h (ix2 x l)) (fun x => g (ix2 x l)) p) := by
  unfold_out out0_6
  canon_tiles y hy
  all_goals
    idx_vars y
    open_payloads
    pointwise
    obtain rfl : l = y1 := Fin.ext hy1
  · rw [dwT, if_neg (by omega), if_neg (by omega)]
  · rw [dwT, if_neg (by omega), if_pos (by omega)]
    exact Finset.sum_congr rfl fun x _ => down1 _ (fun r => c (ix2 r l) * h (ix2 r l)) x _ rfl
  · rw [dwT, if_pos (by omega)]
    exact Finset.sum_congr rfl fun x _ => down2 _ (fun r => c (ix2 r l) * h (ix2 r l)) x _ rfl

end Cert.ScBwdIdeal.Hand

end
-- ==== Proof.Sc.lean ====
/- The gradient of the short convolution's gate (`short_conv_gate_bwd`): the kernel's two arrays are the reference's. -/
module

public import proofs.«01_k».proof.Defs
public import proofs.«01_k».proof.Proof.Gen.ScBwdIdeal.Value
public import proofs.«01_k».proof.Proof.Gen.ScBwdRefIdeal.Read
public import proofs.«01_k».proof.Proof.ScBlk
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.ScBwdIdeal.Hand

open Cert.ScBwdIdeal Cert.ScBwdIdeal.Gen Idealize.ShloMosaic Idealize.ShloMosaic.TcCoe Idealize.SL.Sem
open Idealize.ShloMosaic.Pipeline (Dat)

variable (m : (ℓ : Loc nD τ sig) → Buf (Elt Ideal) ℓ)

section
open Cert.ScBwdRefIdeal.Read

theorem conv_ref (w0 w1 w2 a b c : EReal) (z : Fin 2048 → EReal) (r : Fin 2048) (ha : a = down z 2 r) (hb : b = down z 1 r) (hc : c = z r) :
    w0 * a + w1 * b + w2 * c = conv w0 w1 w2 z r := by
  rw [ha, hb, hc]; rfl

theorem convT_ref (w0 w1 w2 a b c : EReal) (z : Fin 2048 → EReal) (r : Fin 2048) (ha : a = w0 * up z 2 r) (hb : b = w1 * up z 1 r)
    (hc : c = w2 * z r) : c + b + a = convT w0 w1 w2 z r := by
  rw [ha, hb, hc, add_comm, add_comm (w2 * z r), ← add_assoc]; rfl

theorem dite_mul_up (w : EReal) (z : Fin 2048 → EReal) (k : ℕ) (r : Fin 2048) (P : Prop) [Decidable P] (f : P → EReal)
    (hP : P ↔ (r : ℕ) + k < 2048) (hf : ∀ h : (r : ℕ) + k < 2048, f (hP.mpr h) = w * z ⟨(r : ℕ) + k, h⟩) :
    (if h : P then f h else 0) = w * up z k r := by
  unfold up
  by_cases h : (r : ℕ) + k < 2048
  · rw [dif_pos (hP.mpr h), dif_pos h, hf h]
  · rw [dif_neg (fun x => h (hP.mp x)), dif_neg h, mul_zero]

/-- The reference's stacked gradient at an index. -/
theorem ref5_at (u : FVec Ideal S2048x3072 .f32) (w : FVec Ideal S3x1024 .f32) (g : FVec Ideal S2048x1024 .f32) (p : Fin 3) (r : Fin 2048)
    (l : Fin 1024) : @Eq EReal (val_main_v75 (F := Ideal) u w g (ix3 p r l))
      (duT (fun x => u (ix2 x ⟨l, by omega⟩)) (fun x => u (ix2 x ⟨1024 + l, by omega⟩)) (fun x => u (ix2 x ⟨2048 + l, by omega⟩))
        (fun x => g (ix2 x l)) (fun k => w (ix2 k l)) p r) := by
  pointwise [val_main_v0, val_main_v1, val_main_v2, val_main_v3, val_main_cst, val_main_v4, val_main_v5, val_main_cst_0,
    val_main_v6, val_main_v7, val_main_v8, val_main_v9, val_main_v10, val_main_v11, val_main_v12, val_main_cst_1,
    val_main_v13, val_main_v14, val_main_v15, val_main_v16, val_main_v17, val_main_v18, val_main_v19,
    val_main_v20, val_main_v21, val_main_v22, val_main_v23, val_main_v24, val_main_v25, val_main_v26,
    val_main_v27, val_main_v28, val_main_v29, val_main_v30, val_main_v31, val_main_v32, val_main_v33,
    val_main_v34, val_main_cst_2, val_main_v35, val_main_v36, val_main_cst_3, val_main_v37, val_main_cst_4,
    val_main_v38, val_main_v39, val_main_cst_5, val_main_v40, val_main_v41, val_main_v42, val_main_v43,
    val_main_cst_6, val_main_v44, val_main_v45, val_main_cst_7, val_main_v46, val_main_cst_8, val_main_v47,
    val_main_v48, val_main_v49, val_main_cst_9, val_main_v50, val_main_v51, val_main_v52, val_main_v53,
    val_main_v54, val_main_cst_10, val_main_v55, val_main_v56, val_main_cst_11, val_main_v57, val_main_cst_12,
    val_main_v58, val_main_v59, val_main_v60, val_main_cst_13, val_main_v61, val_main_v62, val_main_v63,
    val_main_v64, val_main_v65, val_main_v66, val_main_v67, val_main_v68, val_main_v69, val_main_v70,
    val_main_v71, val_main_v72, val_main_v73, val_main_v74, val_main_v75]
  have hp := p.isLt
  have hl := l.isLt
  have hr := r.isLt
  unfold duT
  by_cases h0 : (p : ℕ) = 0
  · refine Eq.trans (dif_pos (by omega)) (Eq.trans ?_ (if_pos h0).symm)
    refine congrArg (g (ix2 r l) * ·) (conv_ref _ _ _ _ _ _ (fun x => u (ix2 x ⟨1024 + l, by omega⟩) * u (ix2 x ⟨2048 + l, by omega⟩)) r rfl ?_ rfl)
    unfold down
    by_cases h : (r : ℕ) < 1
    · rw [dif_pos h, dif_pos (by omega)]
    · rw [dif_neg h, dif_neg (by omega)]
      simp only [show 1 + (r : ℕ) - 2 = (r : ℕ) - 1 by omega]
  have e1 : ¬ (p : ℕ) < 1 := by omega
  by_cases h1 : (p : ℕ) = 1
  · refine Eq.trans (dif_neg e1) (Eq.trans (dif_pos (by omega)) (Eq.trans ?_ ((if_neg h0).trans (if_pos h1)).symm))
    refine congrArg (· * u (ix2 r ⟨2048 + l, by omega⟩)) (convT_ref _ _ _ _ _ _ (fun x => g (ix2 x l) * u (ix2 x ⟨l, by omega⟩)) r
      (dite_mul_up _ _ _ _ _ _ (by omega) fun h => ?_) (dite_mul_up _ _ _ _ _ _ (by omega) fun h => ?_) ?_)
    · beta_reduce; rw [mul_comm (g _)]; simp only [show 2 + (r : ℕ) = (r : ℕ) + 2 by omega]
    · beta_reduce; rw [mul_comm (g _)]; simp only [show 2 + (r : ℕ) - 1 = (r : ℕ) + 1 by omega]
    · beta_reduce; rw [mul_comm (g _)]
  · refine Eq.trans (dif_neg e1) (Eq.trans (dif_neg (by omega)) (Eq.trans (dif_neg (by omega)) (Eq.trans (dif_neg (by omega))
      (Eq.trans (mul_comm (G := EReal) _ _) (Eq.trans ?_ ((if_neg h0).trans (if_neg h1)).symm)))))
    simp only [show 2048 + (l : ℕ) - 1024 - 1024 = (l : ℕ) by omega]
    refine congrArg (· * u (ix2 r ⟨1024 + l, by omega⟩)) (convT_ref (w (ix2 0 l)) (w (ix2 1 l)) (w (ix2 2 l)) _ _ _ (fun x => g (ix2 x l) * u (ix2 x ⟨l, by omega⟩)) r
      (dite_mul_up _ _ _ _ _ _ (by omega) fun h => ?_) (dite_mul_up _ _ _ _ _ _ (by omega) fun h => ?_) ?_)
    · simp only [show 2 + (r : ℕ) = (r : ℕ) + 2 by omega]
      exact congrArg (w (ix2 0 l) * ·) (mul_comm (G := EReal) _ _)
    · simp only [show 2 + (r : ℕ) - 1 = (r : ℕ) + 1 by omega]
      exact congrArg (w (ix2 1 l) * ·) (mul_comm (G := EReal) _ _)
    · exact (dif_pos hl).trans (congrArg (w (ix2 2 l) * ·) (mul_comm (G := EReal) _ _))

/-- A sum over all rows whose first two terms vanish. -/
theorem sum_skip2 (f : Fin 2048 → EReal) (g : Fin 2 → EReal) (h : Fin 2046 → EReal) (hg : ∀ x : Fin 2, g x = f ⟨x, by omega⟩)
    (hh : ∀ x : Fin 2046, h x = f ⟨2 + x, by omega⟩) : ∑ x, g x + ∑ x, h x = ∑ x, f x := by
  rw [Fin.sum_univ_add (a := 2) (b := 2046) f]
  exact congrArg₂ (· + ·) (Finset.sum_congr rfl fun x _ => hg x) (Finset.sum_congr rfl fun x _ => hh x)

/-- The reference's gradient of a tap at an index. -/
theorem ref6_at (u : FVec Ideal S2048x3072 .f32) (g : FVec Ideal S2048x1024 .f32) (p : Fin 3)
    (l : Fin 1024) : @Eq EReal (val_main_v62 (F := Ideal) u g (ix2 p l))
      (dwT (fun x => u (ix2 x ⟨l, by omega⟩)) (fun x => u (ix2 x ⟨1024 + l, by omega⟩)) (fun x => u (ix2 x ⟨2048 + l, by omega⟩))
        (fun x => g (ix2 x l)) p) := by
  pointwise [val_main_v0, val_main_v1, val_main_v2, val_main_v3, val_main_cst, val_main_v4, val_main_v5, val_main_cst_0,
    val_main_v6, val_main_v7, val_main_v8, val_main_v9, val_main_v10, val_main_v11, val_main_v12, val_main_cst_1,
    val_main_v13, val_main_v14, val_main_v15, val_main_v16, val_main_v17, val_main_v18, val_main_v19,
    val_main_v20, val_main_v21, val_main_v22, val_main_v23, val_main_v24, val_main_v25, val_main_v26,
    val_main_v27, val_main_v28, val_main_v29, val_main_v30, val_main_v31, val_main_v32, val_main_v33,
    val_main_v34, val_main_cst_2, val_main_v35, val_main_v36, val_main_cst_3, val_main_v37, val_main_cst_4,
    val_main_v38, val_main_v39, val_main_cst_5, val_main_v40, val_main_v41, val_main_v42, val_main_v43,
    val_main_cst_6, val_main_v44, val_main_v45, val_main_cst_7, val_main_v46, val_main_cst_8, val_main_v47,
    val_main_v48, val_main_v49, val_main_cst_9, val_main_v50, val_main_v51, val_main_v52, val_main_v53,
    val_main_v54, val_main_cst_10, val_main_v55, val_main_v56, val_main_cst_11, val_main_v57, val_main_cst_12,
    val_main_v58, val_main_v59, val_main_v60, val_main_cst_13, val_main_v61, val_main_v62, val_main_v63,
    val_main_v64, val_main_v65, val_main_v66, val_main_v67, val_main_v68, val_main_v69, val_main_v70,
    val_main_v71, val_main_v72, val_main_v73, val_main_v74, val_main_v75]
  have hp := p.isLt
  unfold dwT
  by_cases h0 : (p : ℕ) = 0
  · rw [if_pos h0, dif_neg (by omega), dif_neg (by omega), dif_pos (by omega), zero_add, zero_add, Fin.sum_univ_one]
    refine sum_skip2 _ _ _ (fun x => ?_) (fun x => ?_)
    · rw [mul_zero, down, dif_pos (by show (x : ℕ) < 2; omega), mul_zero]
    · rw [down, dif_neg (by show ¬ 2 + (x : ℕ) < 2; omega), mul_comm (g _)]
      simp only [show 2 + (x : ℕ) - 2 = (x : ℕ) by omega]
  by_cases h1 : (p : ℕ) = 1
  · rw [if_neg h0, if_pos h1, dif_neg (by omega), dif_pos (by omega), dif_neg (by omega), zero_add, add_zero, Fin.sum_univ_one]
    refine Finset.sum_congr rfl fun x _ => ?_
    rw [mul_comm (g _)]
    unfold down
    by_cases h : (x : ℕ) < 1
    · rw [dif_pos h, dif_pos (by omega)]
    · rw [dif_neg h, dif_neg (by omega)]
      simp only [show 1 + (x : ℕ) - 2 = (x : ℕ) - 1 by omega]
  · rw [if_neg h0, if_neg h1, dif_pos (by omega), dif_neg (by omega), dif_neg (by omega), add_zero, add_zero, Fin.sum_univ_one]
    exact Finset.sum_congr rfl fun x _ => by rw [mul_comm (g _)]

end

/-! ## The arrays -/

/-- The windows' block indices at a grid point. -/
theorem idx : ∀ t : Fin cfg0.N, win0_0.index t = ![0, t.val] ∧ win0_1.index t = ![0, t.val + 4] ∧ win0_2.index t = ![0, t.val + 8]
    ∧ win0_3.index t = ![0, t.val] ∧ win0_4.index t = ![0, t.val] ∧ win0_5.index t = ![0, 0, t.val] ∧ win0_6.index t = ![0, t.val] :=
  (by decide +kernel : ∀ t : Fin grid0.N, _)

theorem col_lt (t : Fin cfg0.N) (l : Fin 256) : t.val * 256 + l < 1024 := by
  have h : t.val < 4 := lt_of_lt_of_eq t.isLt N_0
  omega

/-- The two gates, the value, the cotangent and the taps of a column of a block. -/
theorem cols (c : Dev nD) (t : Fin cfg0.N) (l : Fin 256) :
    (fun x : Fin 2048 => (iblk m c 0 t (ix2 x l : S2048x256.Idx) : EReal))
        = (fun x => m ((c : Thread nD τ).loc main_arg0) (ix2 x ⟨t.val * 256 + l, (col_lt t l).trans (by decide)⟩ : S2048x3072.Idx))
    ∧ (fun x : Fin 2048 => (iblk m c 1 t (ix2 x l : S2048x256.Idx) : EReal))
        = (fun x => m ((c : Thread nD τ).loc main_arg0) (ix2 x ⟨1024 + (t.val * 256 + l), by have := col_lt t l; omega⟩ : S2048x3072.Idx))
    ∧ (fun x : Fin 2048 => (iblk m c 2 t (ix2 x l : S2048x256.Idx) : EReal))
        = (fun x => m ((c : Thread nD τ).loc main_arg0) (ix2 x ⟨2048 + (t.val * 256 + l), by have := col_lt t l; omega⟩ : S2048x3072.Idx))
    ∧ (fun x : Fin 2048 => (iblk m c 4 t (ix2 x l : S2048x256.Idx) : EReal))
        = (fun x => m ((c : Thread nD τ).loc main_arg2) (ix2 x ⟨t.val * 256 + l, col_lt t l⟩ : S2048x1024.Idx))
    ∧ (fun k : Fin 3 => (iblk m c 3 t (ix2 k l : S3x256.Idx) : EReal))
        = (fun k => m ((c : Thread nD τ).loc main_arg1) (ix2 k ⟨t.val * 256 + l, col_lt t l⟩ : S3x1024.Idx)) := by
  refine ⟨funext fun x => ?_, funext fun x => ?_, funext fun x => ?_, funext fun x => ?_, funext fun x => ?_⟩ <;> blk_point [iblk, V, idx t]

open Cert.ScBwdRefIdeal.Read in
/-- The stacked gradients of the two gates and the value. -/
theorem final5 (c : Dev nD) : (dats m 0 c).arrAt 5 (cfgs 0).N = val_main_v75 (F := Ideal) (m ((c : Thread nD τ).loc main_arg0))
    (m ((c : Thread nD τ).loc main_arg1)) (m ((c : Thread nD τ).loc main_arg2)) := by
  refine (dats m 0 c).arrAt_eq_of_covers 5 _ (by decide +kernel) fun t _ y => ?_
  blk_simp
  rw [after0_5]
  idx_vars y
  rw [show ((cfg0.win 5).blk t).view.emb (ix3 y0 y1 y2 : S3x2048x256.Idx) = (ix3 y0 y1 ⟨t.val * 256 + y2, col_lt t y2⟩ : S3x2048x1024.Idx) by blk_ext [idx t]]
  refine (out5_at _ _ _ _ _ y0 y1 y2).trans (Eq.trans ?_ (ref5_at _ _ _ _ _ _).symm)
  obtain ⟨e0, e1, e2, e4, e3⟩ := cols m c t y2
  rw [e0, e1, e2, e4, e3]

open Cert.ScBwdRefIdeal.Read in
/-- The gradient of the taps. -/
theorem final6 (c : Dev nD) : (dats m 0 c).arrAt 6 (cfgs 0).N = val_main_v62 (F := Ideal) (m ((c : Thread nD τ).loc main_arg0))
    (m ((c : Thread nD τ).loc main_arg2)) := by
  refine (dats m 0 c).arrAt_eq_of_covers 6 _ (by decide +kernel) fun t _ y => ?_
  blk_simp
  rw [after0_6]
  idx_vars y
  rw [show ((cfg0.win 6).blk t).view.emb (ix2 y0 y1 : S3x256.Idx) = (ix2 y0 ⟨t.val * 256 + y1, col_lt t y1⟩ : S3x1024.Idx) by blk_ext [idx t]]
  refine (out6_at _ _ _ _ _ y0 y1).trans (Eq.trans ?_ (ref6_at _ _ _ _).symm)
  obtain ⟨e0, e1, e2, e4, -⟩ := cols m c t y1
  rw [e0, e1, e2, e4]

end Cert.ScBwdIdeal.Hand

namespace Cert.Proof

open Idealize.ShloMosaic Idealize.SL.Sem

theorem algebraic_Sc [Cert.ScBwdIdeal.Facts] [Cert.ScBwdRefIdeal.Facts] : Cert.algebraic_ScBwdIdeal_ScBwdRefIdeal := by
  pair_intro
  · run_from Cert.ScBwdIdeal.Gen.run_main m g
  · run_from Cert.ScBwdRefIdeal.Value.run m' g'
    · refine (Cert.ScBwdRefIdeal.Read.val_main_v75_eq m' c).trans ?_
      rw [(hagree c).1, (hagree c).2.1, (hagree c).2.2]
      exact (Cert.ScBwdIdeal.Hand.final5 m c).symm
    · exact (Cert.ScBwdIdeal.Hand.final6 m c).symm

end Cert.Proof

end
-- ==== Proof.UnropeBlk.lean ====
/- The gradient of the rotary embedding of the queries, the split of the keys and the sum over heads of the shared
   key part (`mla_unrope_grads`): the kernel's three arrays are the reference's. -/
module

public import proofs.«01_k».proof.Defs
public import proofs.«01_k».proof.Proof.Gen.UnropeBwdIdeal.Value
public import proofs.«01_k».proof.Proof.Gen.UnropeBwdRefIdeal.Read
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.UnropeBwdIdeal.Hand

open Cert.UnropeBwdIdeal Cert.UnropeBwdIdeal.Gen Idealize.ShloMosaic Idealize.ShloMosaic.TcCoe Idealize.SL.Sem
open Idealize.ShloMosaic.Pipeline (Dat)

variable (m : (ℓ : Loc nD τ sig) → Buf (Elt Ideal) ℓ)

/-! ## What one block holds -/

/-- The rotated part of a head backwards: lane `w` against the lane of the other half. -/
def rot (x : Fin 128 → EReal) (a b : EReal) (w : Fin 128) : EReal :=
  x w * a - Scalar.select (IntOp.cmpi CmpIPredicate.slt (BitVec.ofNat 32 (w : ℕ)) 32#32)
    (x ⟨((w : ℕ) + 128 - 96) % 128, Nat.mod_lt _ (by decide)⟩) (x ⟨((w : ℕ) + 128 - 32) % 128, Nat.mod_lt _ (by decide)⟩) * b

/-- The block of `dq` that one point writes: the first half of a head as it is, the second rotated back. -/
def dqBlk (x0 : FVec Ideal S512x2048 .bf16) (x2 x3 : FVec Ideal S512x128 .f32) (r : Fin 512) (l : Fin 2048) : EReal :=
  if h : (l : ℕ) % 256 < 128 then x0 (ix2 r l)
  else rot (fun w => x0 (ix2 r ⟨(l : ℕ) / 256 * 256 + 128 + w, by omega⟩)) (x2 (ix2 r ⟨(l : ℕ) % 256 - 128, by omega⟩))
    (x3 (ix2 r ⟨(l : ℕ) % 256 - 128, by omega⟩)) ⟨(l : ℕ) % 256 - 128, by omega⟩

/-- A lane of the second half, counted from the first lane `b` of that half. -/
theorem dqBlk_rope (x0 : FVec Ideal S512x2048 .bf16) (x2 x3 : FVec Ideal S512x128 .f32) (r : Fin 512) (l : Fin 2048) {b : ℕ}
    {w : Fin 128} (hl : (l : ℕ) = b + w) (hb : b % 256 = 128) :
    dqBlk x0 x2 x3 r l = x0 (ix2 r ⟨b + (w : ℕ), by omega⟩) * x2 (ix2 r w)
      - Scalar.select (IntOp.cmpi CmpIPredicate.slt (BitVec.ofNat 32 (w : ℕ)) 32#32)
          (x0 (ix2 r ⟨b + ((w : ℕ) + 128 - 96) % 128, by omega⟩)) (x0 (ix2 r ⟨b + ((w : ℕ) + 128 - 32) % 128, by omega⟩))
        * x3 (ix2 r w) := by
  have e : (⟨(l : ℕ) % 256 - 128, by omega⟩ : Fin 128) = w := Fin.ext (by show (l : ℕ) % 256 - 128 = w; omega)
  have eb : (l : ℕ) / 256 * 256 + 128 = b := by omega
  rw [dqBlk, dif_neg (show ¬ (l : ℕ) % 256 < 128 by omega), rot, e]
  subst eb
  rfl

theorem out4_at (x0 x1 : FVec Ideal S512x2048 .bf16) (x2 x3 : FVec Ideal S512x128 .f32) (r : Fin 512) (l : Fin 2048) :
    @Eq EReal (out0_4 (F := Ideal) x0 x1 x2 x3 (ix2 r l)) (dqBlk x0 x2 x3 r l) := by
  unfold_out out0_4
  canon_tiles x h
  all_goals
    idx_vars x
    open_payloads
    pointwise
    obtain rfl : r = x0 := Fin.ext h0
    first
    | exact (dqBlk_rope _ _ _ r l h1 rfl).symm
    | (rw [dqBlk, dif_pos (show (l : ℕ) % 256 < 128 by omega)]
       blk_ext)

theorem out5_at (x0 x1 : FVec Ideal S512x2048 .bf16) (x2 x3 : FVec Ideal S512x128 .f32) (r : Fin 512) (l : Fin 1024) :
    @Eq EReal (out0_5 (F := Ideal) x0 x1 x2 x3 (ix2 r l)) (x1 (ix2 r ⟨(l : ℕ) / 128 * 256 + (l : ℕ) % 128, by omega⟩)) := by
  unfold_out out0_5
  canon_tiles x h
  all_goals
    idx_vars x
    open_payloads
    pointwise
    blk_ext

theorem out6_at (x0 x1 : FVec Ideal S512x2048 .bf16) (x2 x3 : FVec Ideal S512x128 .f32) (r : Fin 512) (l : Fin 128) :
    @Eq EReal (out0_6 (F := Ideal) x0 x1 x2 x3 (ix2 r l)) (∑ h : Fin 8, x1 (ix2 r ⟨(h : ℕ) * 256 + 128 + l, by omega⟩)) := by
  unfold_out out0_6
  frame_out
  pointwise [k0_pay1, k0_pay35, k0_pay30, k0_pay26, k0_pay19, k0_pay11, k0_pay7]
  rw [Fin.sum_univ_eight]
  blk_point

/-! ## The two halves of the rotation -/

theorem rot_lo (x : Fin 128 → EReal) (a b : EReal) (w : Fin 128) (h : (w : ℕ) < 32) :
    rot x a b w = x w * a - x ⟨(w : ℕ) + 32, by omega⟩ * b := by
  have e : IntOp.cmpi CmpIPredicate.slt (BitVec.ofNat 32 (w : ℕ)) 32#32 = 1#1 := by
    simp (disch := omega) only [hlo_ix]
    simp [h]
  have e2 : (⟨((w : ℕ) + 128 - 96) % 128, Nat.mod_lt _ (by decide)⟩ : Fin 128) = ⟨(w : ℕ) + 32, by omega⟩ :=
    Fin.ext (by show ((w : ℕ) + 128 - 96) % 128 = (w : ℕ) + 32; omega)
  rw [rot, e, e2]; rfl

theorem rot_hi (x : Fin 128 → EReal) (a b : EReal) (w : Fin 128) (h : ¬ (w : ℕ) < 32) :
    rot x a b w = x w * a - x ⟨(w : ℕ) - 32, by omega⟩ * b := by
  have e : IntOp.cmpi CmpIPredicate.slt (BitVec.ofNat 32 (w : ℕ)) 32#32 = 0#1 := by
    simp (disch := omega) only [hlo_ix]
    simp [h]
  have e2 : (⟨((w : ℕ) + 128 - 32) % 128, Nat.mod_lt _ (by decide)⟩ : Fin 128) = ⟨(w : ℕ) - 32, by omega⟩ :=
    Fin.ext (by show ((w : ℕ) + 128 - 32) % 128 = (w : ℕ) - 32; omega)
  rw [rot, e, e2]; rfl

end Cert.UnropeBwdIdeal.Hand
-- ==== Proof.UnropeHost.lean ====
/- The gradient of the rotary embedding of the queries, the split of the keys and the sum over heads of the shared
   key part (`mla_unrope_grads`): the kernel's three arrays are the reference's. -/
module

public import proofs.«01_k».proof.Defs
public import proofs.«01_k».proof.Proof.Gen.UnropeBwdIdeal.Value
public import proofs.«01_k».proof.Proof.Gen.UnropeBwdRefIdeal.Read
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.UnropeBwdIdeal.Hand

open Cert.UnropeBwdIdeal Cert.UnropeBwdIdeal.Gen Idealize.ShloMosaic Idealize.ShloMosaic.TcCoe Idealize.SL.Sem
open Idealize.ShloMosaic.Pipeline (Dat)

variable (m : (ℓ : Loc nD τ sig) → Buf (Elt Ideal) ℓ)

/-- The cosines and sines of the rotary embedding, as the reference's own lines compute them. -/
abbrev COS : FVec Ideal S2048x32 .f32 := Cert.UnropeBwdRefIdeal.Read.val_main_v16 (F := Ideal)
abbrev SIN : FVec Ideal S2048x32 .f32 := Cert.UnropeBwdRefIdeal.Read.val_main_v17 (F := Ideal)

/-- The padding value, an integer zero made a float, is zero. -/
theorem pad_zero : (FloatOps.sitofp (F := Ideal) FTy.f32 (0#32) : EReal) = 0 := by
  show (((0#32).toInt : ℝ) : EReal) = 0
  simp

/-! ## What the host code hands to the kernel -/

set_option maxHeartbeats 1600000 in
theorem dq_at (c : Dev nD) (r : Fin 2048) (l : Fin 2048) : @Eq EReal (V m c main_v24 (ix2 r l : S2048x2048.Idx))
    (if h : (l : ℕ) / 256 < 8 ∧ (l : ℕ) % 256 < 192 then
      m ((c : Thread nD τ).loc main_arg0) (ix3 r ⟨(l : ℕ) / 256, h.1⟩ ⟨(l : ℕ) % 256, h.2⟩ : S2048x8x192.Idx) else (0 : EReal)) := by
  simp only [V, hostOps0, hostOps0_1, hostOps0_2, hostOps0_3, hostOps0_4, List.flatten_cons, List.flatten_nil,
    List.append_nil, List.cons_append, List.nil_append, StableHlo.TRef.binary, StableHlo.TRef.unary, StableHlo.TRef.toBuf,
    StableHlo.TRef.ofBuf, cast_eq]
  after_results
  pointwise
  rw [pad_zero]

set_option maxHeartbeats 1600000 in
theorem dk_at (c : Dev nD) (r : Fin 2048) (l : Fin 2048) : @Eq EReal (V m c main_v27 (ix2 r l : S2048x2048.Idx))
    (if h : (l : ℕ) / 256 < 8 ∧ (l : ℕ) % 256 < 192 then
      m ((c : Thread nD τ).loc main_arg1) (ix3 r ⟨(l : ℕ) / 256, h.1⟩ ⟨(l : ℕ) % 256, h.2⟩ : S2048x8x192.Idx) else (0 : EReal)) := by
  simp only [V, hostOps0, hostOps0_1, hostOps0_2, hostOps0_3, hostOps0_4, List.flatten_cons, List.flatten_nil,
    List.append_nil, List.cons_append, List.nil_append, StableHlo.TRef.binary, StableHlo.TRef.unary, StableHlo.TRef.toBuf,
    StableHlo.TRef.ofBuf, cast_eq]
  after_results
  pointwise
  rw [pad_zero]

set_option maxHeartbeats 1600000 in
theorem cf_eq (c : Dev nD) : V m c main_v19 = concatenate S2048x128 1 [⟨S2048x32, COS⟩, ⟨S2048x32, COS⟩,
    ⟨S2048x64, broadcastInDim S2048x64 ![] bcast_S_S2048x64 (constant (F := Ideal) S_ .f32 0x00000000#32)⟩]
    concatenates_S2048x32_S2048x32_S2048x64_S2048x128_d1 := by
  simp only [V, hostOps0, hostOps0_1, hostOps0_2, hostOps0_3, hostOps0_4, List.flatten_cons, List.flatten_nil,
    List.append_nil, List.cons_append, List.nil_append, StableHlo.TRef.binary, StableHlo.TRef.unary, StableHlo.TRef.toBuf,
    StableHlo.TRef.ofBuf, cast_eq]
  after_results
  rfl

set_option maxHeartbeats 1600000 in
theorem sf_eq (c : Dev nD) : V m c main_v21 = concatenate S2048x128 1 [⟨S2048x32, Host.negf SIN⟩, ⟨S2048x32, SIN⟩,
    ⟨S2048x64, broadcastInDim S2048x64 ![] bcast_S_S2048x64 (constant (F := Ideal) S_ .f32 0x00000000#32)⟩]
    concatenates_S2048x32_S2048x32_S2048x64_S2048x128_d1 := by
  simp only [V, hostOps0, hostOps0_1, hostOps0_2, hostOps0_3, hostOps0_4, List.flatten_cons, List.flatten_nil,
    List.append_nil, List.cons_append, List.nil_append, StableHlo.TRef.binary, StableHlo.TRef.unary, StableHlo.TRef.toBuf,
    StableHlo.TRef.ofBuf, cast_eq]
  after_results
  rfl

theorem cf_at (c : Dev nD) (r : Fin 2048) (l : Fin 128) : @Eq EReal (V m c main_v19 (ix2 r l : S2048x128.Idx))
    (if h : (l : ℕ) < 32 then COS (ix2 r ⟨l, h⟩) else if h : (l : ℕ) < 64 then COS (ix2 r ⟨l - 32, by omega⟩) else 0) := by
  rw [cf_eq]; pointwise
  by_cases h1 : (l : ℕ) < 32
  · simp only [dif_pos h1]
  · by_cases h2 : (l : ℕ) < 64
    · have h3 : (l : ℕ) - 32 < 32 := by omega
      simp only [dif_neg h1, dif_pos h2, dif_pos h3]
    · have h3 : ¬ (l : ℕ) - 32 < 32 := by omega
      simp only [dif_neg h1, dif_neg h2, dif_neg h3]

theorem sf_at (c : Dev nD) (r : Fin 2048) (l : Fin 128) : @Eq EReal (V m c main_v21 (ix2 r l : S2048x128.Idx))
    (if h : (l : ℕ) < 32 then - SIN (ix2 r ⟨l, h⟩) else if h : (l : ℕ) < 64 then SIN (ix2 r ⟨l - 32, by omega⟩) else 0) := by
  rw [sf_eq]; pointwise
  by_cases h1 : (l : ℕ) < 32
  · simp only [dif_pos h1]
  · by_cases h2 : (l : ℕ) < 64
    · have h3 : (l : ℕ) - 32 < 32 := by omega
      simp only [dif_neg h1, dif_pos h2, dif_pos h3]
    · have h3 : ¬ (l : ℕ) - 32 < 32 := by omega
      simp only [dif_neg h1, dif_neg h2, dif_neg h3]

end Cert.UnropeBwdIdeal.Hand
-- ==== Proof.UnropeRef.lean ====
/- The gradient of the rotary embedding of the queries, the split of the keys and the sum over heads of the shared
   key part (`mla_unrope_grads`): the kernel's three arrays are the reference's. -/
module

public import proofs.«01_k».proof.Defs
public import proofs.«01_k».proof.Proof.Gen.UnropeBwdIdeal.Value
public import proofs.«01_k».proof.Proof.Gen.UnropeBwdRefIdeal.Read
public import proofs.«01_k».proof.Proof.UnropeHost
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.UnropeBwdIdeal.Hand

open Cert.UnropeBwdIdeal Cert.UnropeBwdIdeal.Gen Idealize.ShloMosaic Idealize.ShloMosaic.TcCoe Idealize.SL.Sem
open Idealize.ShloMosaic.Pipeline (Dat)

variable (m : (ℓ : Loc nD τ sig) → Buf (Elt Ideal) ℓ)

/-! ## The reference at an index -/

/-- The gradient of a query's lane `l % 256` of head `l / 256`. -/
@[irreducible] def dqT (X : FVec Ideal S2048x8x192 .f32) (R : Fin 2048) (l : Fin 2048) : EReal :=
  if h : (l : ℕ) % 256 < 128 then X (ix3 R ⟨(l : ℕ) / 256, by omega⟩ ⟨(l : ℕ) % 256, by omega⟩)
  else if h2 : (l : ℕ) % 256 < 160 then
    X (ix3 R ⟨(l : ℕ) / 256, by omega⟩ ⟨(l : ℕ) % 256, by omega⟩) * COS (ix2 R ⟨(l : ℕ) % 256 - 128, by omega⟩)
      + X (ix3 R ⟨(l : ℕ) / 256, by omega⟩ ⟨(l : ℕ) % 256 + 32, by omega⟩) * SIN (ix2 R ⟨(l : ℕ) % 256 - 128, by omega⟩)
  else if h3 : (l : ℕ) % 256 < 192 then
    X (ix3 R ⟨(l : ℕ) / 256, by omega⟩ ⟨(l : ℕ) % 256, by omega⟩) * COS (ix2 R ⟨(l : ℕ) % 256 - 160, by omega⟩)
      - X (ix3 R ⟨(l : ℕ) / 256, by omega⟩ ⟨(l : ℕ) % 256 - 32, by omega⟩) * SIN (ix2 R ⟨(l : ℕ) % 256 - 160, by omega⟩)
  else 0

theorem add_neg_mul_eq (a b c d : EReal) : a * b + -c * d = a * b - c * d := by
  rw [EReal.neg_mul, sub_eq_add_neg]

section
open Cert.UnropeBwdRefIdeal.Read

theorem ref4_at (X : FVec Ideal S2048x8x192 .f32) (R : Fin 2048) (l : Fin 2048) :
    @Eq EReal (val_main_v68 (F := Ideal) X (ix2 R l)) (dqT X R l) := by
  pointwise [val_main_v0, val_main_v1, val_main_cst, val_main_v2, val_main_v3, val_main_cst_0, val_main_v4, val_main_v5,
    val_main_v6, val_main_cst_1, val_main_v7, val_main_v8, val_main_cst_2, val_main_v9, val_main_v10,
    val_main_v11, val_main_v12, val_main_v13, val_main_v14, val_main_v15, val_main_cst_3, val_main_v18,
    val_main_cst_4, val_main_v19, val_main_cst_5, val_main_v20, val_main_v21, val_main_v22, val_main_v23,
    val_main_v24, val_main_v25, val_main_v26, val_main_v27, val_main_v28, val_main_v29, val_main_v30,
    val_main_v31, val_main_v32, val_main_v33, val_main_v34, val_main_v35, val_main_v36, val_main_v37,
    val_main_v38, val_main_v39, val_main_v40, val_main_v41, val_main_v42, val_main_v43, val_main_v44,
    val_main_v45, val_main_cst_6, val_main_v46, val_main_cst_7, val_main_v47, val_main_v48, val_main_cst_8,
    val_main_v49, val_main_v50, val_main_v51, val_main_v52, val_main_v53, val_main_v54, val_main_v55,
    val_main_v56, val_main_v57, val_main_v58, val_main_v59, val_main_v60, val_main_v61, val_main_v62,
    val_main_v63, val_main_cst_9, val_main_v64, val_main_v65, val_main_c, val_main_call0_v0, val_main_v66,
    val_main_v67, val_main_v68, val_main_v69, val_main_v70, val_main_c_10, val_main_call1_v0, val_main_v71]
  have hl := l.isLt
  have h8 : (l : ℕ) / 256 < 8 := by omega
  simp only [pad_zero]
  unfold dqT
  by_cases h1 : (l : ℕ) % 256 < 128
  · have a1 : (l : ℕ) % 256 < 192 := by omega
    have a2 : ¬ (128 ≤ (l : ℕ) % 256) := by omega
    simp only [h8, h1, a1, a2, true_and, false_and, and_false, and_true, dif_pos, dif_neg, not_false_eq_true, add_zero, ↓reduceDIte]
  · have a2 : 128 ≤ (l : ℕ) % 256 := by omega
    by_cases h2 : (l : ℕ) % 256 < 160
    · have a1 : (l : ℕ) % 256 < 192 := by omega
      have a3 : (l : ℕ) % 256 - 128 < 64 := by omega
      have a4 : (l : ℕ) % 256 - 128 < 32 := by omega
      simp only [h8, h1, h2, a1, a2, a3, a4, and_self, and_false, zero_add, ↓reduceDIte]
      refine (add_comm (G := EReal) _ _).trans ?_
      blk_point
    · by_cases h3 : (l : ℕ) % 256 < 192
      · have a3 : (l : ℕ) % 256 - 128 < 64 := by omega
        have a4 : ¬ (l : ℕ) % 256 - 128 < 32 := by omega
        simp only [h8, h1, h2, h3, a2, a3, a4, and_self, and_false, zero_add, ↓reduceDIte]
        refine (add_neg_mul_eq _ _ _ _).trans ?_
        blk_point
      · simp only [h1, h2, h3, and_false, ↓reduceDIte]

theorem ref5_at (Y : FVec Ideal S2048x8x192 .f32) (R : Fin 2048) (l : Fin 1024) :
    @Eq EReal (val_main_v70 (F := Ideal) Y (ix2 R l)) (Y (ix3 R ⟨(l : ℕ) / 128, by omega⟩ ⟨(l : ℕ) % 128, by omega⟩)) := by
  pointwise [val_main_v0, val_main_v1, val_main_cst, val_main_v2, val_main_v3, val_main_cst_0, val_main_v4, val_main_v5,
    val_main_v6, val_main_cst_1, val_main_v7, val_main_v8, val_main_cst_2, val_main_v9, val_main_v10,
    val_main_v11, val_main_v12, val_main_v13, val_main_v14, val_main_v15, val_main_cst_3, val_main_v18,
    val_main_cst_4, val_main_v19, val_main_cst_5, val_main_v20, val_main_v21, val_main_v22, val_main_v23,
    val_main_v24, val_main_v25, val_main_v26, val_main_v27, val_main_v28, val_main_v29, val_main_v30,
    val_main_v31, val_main_v32, val_main_v33, val_main_v34, val_main_v35, val_main_v36, val_main_v37,
    val_main_v38, val_main_v39, val_main_v40, val_main_v41, val_main_v42, val_main_v43, val_main_v44,
    val_main_v45, val_main_cst_6, val_main_v46, val_main_cst_7, val_main_v47, val_main_v48, val_main_cst_8,
    val_main_v49, val_main_v50, val_main_v51, val_main_v52, val_main_v53, val_main_v54, val_main_v55,
    val_main_v56, val_main_v57, val_main_v58, val_main_v59, val_main_v60, val_main_v61, val_main_v62,
    val_main_v63, val_main_cst_9, val_main_v64, val_main_v65, val_main_c, val_main_call0_v0, val_main_v66,
    val_main_v67, val_main_v68, val_main_v69, val_main_v70, val_main_c_10, val_main_call1_v0, val_main_v71]

theorem ref6_at (Y : FVec Ideal S2048x8x192 .f32) (R : Fin 2048) (l : Fin 128) :
    @Eq EReal (val_main_v71 (F := Ideal) Y (ix2 R l))
      (if h : (l : ℕ) < 64 then ∑ x : Fin 8, Y (ix3 R x ⟨128 + (l : ℕ), by omega⟩) else 0) := by
  pointwise [val_main_v0, val_main_v1, val_main_cst, val_main_v2, val_main_v3, val_main_cst_0, val_main_v4, val_main_v5,
    val_main_v6, val_main_cst_1, val_main_v7, val_main_v8, val_main_cst_2, val_main_v9, val_main_v10,
    val_main_v11, val_main_v12, val_main_v13, val_main_v14, val_main_v15, val_main_cst_3, val_main_v18,
    val_main_cst_4, val_main_v19, val_main_cst_5, val_main_v20, val_main_v21, val_main_v22, val_main_v23,
    val_main_v24, val_main_v25, val_main_v26, val_main_v27, val_main_v28, val_main_v29, val_main_v30,
    val_main_v31, val_main_v32, val_main_v33, val_main_v34, val_main_v35, val_main_v36, val_main_v37,
    val_main_v38, val_main_v39, val_main_v40, val_main_v41, val_main_v42, val_main_v43, val_main_v44,
    val_main_v45, val_main_cst_6, val_main_v46, val_main_cst_7, val_main_v47, val_main_v48, val_main_cst_8,
    val_main_v49, val_main_v50, val_main_v51, val_main_v52, val_main_v53, val_main_v54, val_main_v55,
    val_main_v56, val_main_v57, val_main_v58, val_main_v59, val_main_v60, val_main_v61, val_main_v62,
    val_main_v63, val_main_cst_9, val_main_v64, val_main_v65, val_main_c, val_main_call0_v0, val_main_v66,
    val_main_v67, val_main_v68, val_main_v69, val_main_v70, val_main_c_10, val_main_call1_v0, val_main_v71]
  simp only [pad_zero]
  simp

end

end Cert.UnropeBwdIdeal.Hand
-- ==== Proof.Unrope.lean ====
/- The gradient of the rotary embedding of the queries, the split of the keys and the sum over heads of the shared
   key part (`mla_unrope_grads`): the kernel's three arrays are the reference's. -/
module

public import proofs.«01_k».proof.Defs
public import proofs.«01_k».proof.Proof.Gen.UnropeBwdIdeal.Value
public import proofs.«01_k».proof.Proof.Gen.UnropeBwdRefIdeal.Read
public import proofs.«01_k».proof.Proof.UnropeBlk
public import proofs.«01_k».proof.Proof.UnropeRef
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.UnropeBwdIdeal.Hand

open Cert.UnropeBwdIdeal Cert.UnropeBwdIdeal.Gen Idealize.ShloMosaic Idealize.ShloMosaic.TcCoe Idealize.SL.Sem
open Idealize.ShloMosaic.Pipeline (Dat)

variable (m : (ℓ : Loc nD τ sig) → Buf (Elt Ideal) ℓ)

/-! ## The arrays -/

/-- The windows' block indices at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

theorem row_lt (t : Fin cfg0.N) (r : Fin 512) : t.val * 512 + r < 2048 := by
  have h : t.val < 4 := lt_of_lt_of_eq t.isLt N_0
  omega

theorem blk0 (c : Dev nD) (t : Fin cfg0.N) (r : Fin 512) (l : Fin 2048) :
    @Eq EReal (iblk m c 0 t (ix2 r l : S512x2048.Idx)) (V m c main_v24 (ix2 ⟨t.val * 512 + r, row_lt t r⟩ l : S2048x2048.Idx)) := by
  blk_ext [iblk, idx t]
theorem blk1 (c : Dev nD) (t : Fin cfg0.N) (r : Fin 512) (l : Fin 2048) :
    @Eq EReal (iblk m c 1 t (ix2 r l : S512x2048.Idx)) (V m c main_v27 (ix2 ⟨t.val * 512 + r, row_lt t r⟩ l : S2048x2048.Idx)) := by
  blk_ext [iblk, idx t]
theorem blk2 (c : Dev nD) (t : Fin cfg0.N) (r : Fin 512) (l : Fin 128) :
    @Eq EReal (iblk m c 2 t (ix2 r l : S512x128.Idx)) (V m c main_v19 (ix2 ⟨t.val * 512 + r, row_lt t r⟩ l : S2048x128.Idx)) := by
  blk_ext [iblk, idx t]
theorem blk3 (c : Dev nD) (t : Fin cfg0.N) (r : Fin 512) (l : Fin 128) :
    @Eq EReal (iblk m c 3 t (ix2 r l : S512x128.Idx)) (V m c main_v21 (ix2 ⟨t.val * 512 + r, row_lt t r⟩ l : S2048x128.Idx)) := by
  blk_ext [iblk, idx t]

/-- A lane inside a head's 192 columns of the padded operand. -/
theorem dq_in (c : Dev nD) (R : Fin 2048) (L : Fin 2048) (h : Fin 8) (w : ℕ) (hL : (L : ℕ) = (h : ℕ) * 256 + w) (hw : w < 192) :
    @Eq EReal (V m c main_v24 (ix2 R L : S2048x2048.Idx))
      (m ((c : Thread nD τ).loc main_arg0) (ix3 R h ⟨w, hw⟩ : S2048x8x192.Idx)) := by
  have e1 : (L : ℕ) / 256 = h := by omega
  have e2 : (L : ℕ) % 256 = w := by omega
  refine (dq_at m c R L).trans ((dif_pos (by omega)).trans ?_)
  simp only [e1, e2]

/-- A lane in the padding behind a head's 192 columns. -/
theorem dq_out (c : Dev nD) (R : Fin 2048) (L : Fin 2048) (hL : ¬ (L : ℕ) % 256 < 192) :
    @Eq EReal (V m c main_v24 (ix2 R L : S2048x2048.Idx)) 0 :=
  (dq_at m c R L).trans (dif_neg fun h => hL h.2)

theorem dk_in (c : Dev nD) (R : Fin 2048) (L : Fin 2048) (h : Fin 8) (w : ℕ) (hL : (L : ℕ) = (h : ℕ) * 256 + w) (hw : w < 192) :
    @Eq EReal (V m c main_v27 (ix2 R L : S2048x2048.Idx))
      (m ((c : Thread nD τ).loc main_arg1) (ix3 R h ⟨w, hw⟩ : S2048x8x192.Idx)) := by
  have e1 : (L : ℕ) / 256 = h := by omega
  have e2 : (L : ℕ) % 256 = w := by omega
  refine (dk_at m c R L).trans ((dif_pos (by omega)).trans ?_)
  simp only [e1, e2]

theorem dk_out (c : Dev nD) (R : Fin 2048) (L : Fin 2048) (hL : ¬ (L : ℕ) % 256 < 192) :
    @Eq EReal (V m c main_v27 (ix2 R L : S2048x2048.Idx)) 0 :=
  (dk_at m c R L).trans (dif_neg fun h => hL h.2)

theorem cf_lo (c : Dev nD) (R : Fin 2048) (w : Fin 128) (h : (w : ℕ) < 32) :
    @Eq EReal (V m c main_v19 (ix2 R w : S2048x128.Idx)) (COS (ix2 R ⟨w, h⟩)) := (cf_at m c R w).trans (dif_pos h)
theorem cf_hi (c : Dev nD) (R : Fin 2048) (w : Fin 128) (h : ¬ (w : ℕ) < 32) (h2 : (w : ℕ) < 64) :
    @Eq EReal (V m c main_v19 (ix2 R w : S2048x128.Idx)) (COS (ix2 R ⟨w - 32, by omega⟩)) :=
  (cf_at m c R w).trans ((dif_neg h).trans (dif_pos h2))
theorem cf_out (c : Dev nD) (R : Fin 2048) (w : Fin 128) (h2 : ¬ (w : ℕ) < 64) :
    @Eq EReal (V m c main_v19 (ix2 R w : S2048x128.Idx)) 0 :=
  (cf_at m c R w).trans ((dif_neg (by omega)).trans (dif_neg h2))
theorem sf_lo (c : Dev nD) (R : Fin 2048) (w : Fin 128) (h : (w : ℕ) < 32) :
    @Eq EReal (V m c main_v21 (ix2 R w : S2048x128.Idx)) (- SIN (ix2 R ⟨w, h⟩)) := (sf_at m c R w).trans (dif_pos h)
theorem sf_hi (c : Dev nD) (R : Fin 2048) (w : Fin 128) (h : ¬ (w : ℕ) < 32) (h2 : (w : ℕ) < 64) :
    @Eq EReal (V m c main_v21 (ix2 R w : S2048x128.Idx)) (SIN (ix2 R ⟨w - 32, by omega⟩)) :=
  (sf_at m c R w).trans ((dif_neg h).trans (dif_pos h2))
theorem sf_out (c : Dev nD) (R : Fin 2048) (w : Fin 128) (h2 : ¬ (w : ℕ) < 64) :
    @Eq EReal (V m c main_v21 (ix2 R w : S2048x128.Idx)) 0 :=
  (sf_at m c R w).trans ((dif_neg (by omega)).trans (dif_neg h2))

theorem sub_mul_neg (a b c d : EReal) : a * b - c * -d = a * b + c * d := by
  rw [mul_neg, sub_eq_add_neg, neg_neg]

/-- The block that a point writes of `dq` is the reference's gradient there. -/
theorem block4 (c : Dev nD) (t : Fin cfg0.N) (r : Fin 512) (l : Fin 2048) :
    dqBlk (iblk m c 0 t) (iblk m c 2 t) (iblk m c 3 t) r l
      = dqT (m ((c : Thread nD τ).loc main_arg0)) ⟨t.val * 512 + r, row_lt t r⟩ l := by
  have hl := l.isLt
  have b0 := fun l' => blk0 m c t r l'
  have b2 := fun l' => blk2 m c t r l'
  have b3 := fun l' => blk3 m c t r l'
  unfold dqBlk dqT
  by_cases h1 : (l : ℕ) % 256 < 128
  · rw [dif_pos h1, dif_pos h1]
    exact (b0 l).trans (dq_in m c _ l ⟨(l : ℕ) / 256, by omega⟩ _ (by show (l : ℕ) = (l : ℕ) / 256 * 256 + _; omega) (by omega))
  rw [dif_neg h1, dif_neg h1]
  by_cases h2 : (l : ℕ) % 256 < 160
  · rw [dif_pos h2, rot_lo _ _ _ _ (by show (l : ℕ) % 256 - 128 < 32; omega)]
    have e0 := (b0 ⟨(l : ℕ) / 256 * 256 + 128 + ((l : ℕ) % 256 - 128), by omega⟩).trans (dq_in m c _ _ ⟨(l : ℕ) / 256, by omega⟩ ((l : ℕ) % 256)
      (by show (l : ℕ) / 256 * 256 + 128 + ((l : ℕ) % 256 - 128) = (l : ℕ) / 256 * 256 + _; omega) (by omega))
    have e1 := (b0 ⟨(l : ℕ) / 256 * 256 + 128 + ((l : ℕ) % 256 - 128 + 32), by omega⟩).trans (dq_in m c _ _ ⟨(l : ℕ) / 256, by omega⟩ ((l : ℕ) % 256 + 32)
      (by show (l : ℕ) / 256 * 256 + 128 + ((l : ℕ) % 256 - 128 + 32) = (l : ℕ) / 256 * 256 + _; omega) (by omega))
    have e2 := (b2 ⟨(l : ℕ) % 256 - 128, by omega⟩).trans (cf_lo m c _ _ (by show (l : ℕ) % 256 - 128 < 32; omega))
    have e3 := (b3 ⟨(l : ℕ) % 256 - 128, by omega⟩).trans (sf_lo m c _ _ (by show (l : ℕ) % 256 - 128 < 32; omega))
    exact (congrArg₂ (· - ·) (congrArg₂ (· * ·) e0 e2) (congrArg₂ (· * ·) e1 e3)).trans (sub_mul_neg _ _ _ _)
  rw [dif_neg h2, rot_hi _ _ _ _ (by show ¬ (l : ℕ) % 256 - 128 < 32; omega)]
  by_cases h3 : (l : ℕ) % 256 < 192
  · rw [dif_pos h3]
    have e0 := (b0 ⟨(l : ℕ) / 256 * 256 + 128 + ((l : ℕ) % 256 - 128), by omega⟩).trans (dq_in m c _ _ ⟨(l : ℕ) / 256, by omega⟩ ((l : ℕ) % 256)
      (by show (l : ℕ) / 256 * 256 + 128 + ((l : ℕ) % 256 - 128) = (l : ℕ) / 256 * 256 + _; omega) (by omega))
    have e1 := (b0 ⟨(l : ℕ) / 256 * 256 + 128 + ((l : ℕ) % 256 - 128 - 32), by omega⟩).trans (dq_in m c _ _ ⟨(l : ℕ) / 256, by omega⟩ ((l : ℕ) % 256 - 32)
      (by show (l : ℕ) / 256 * 256 + 128 + ((l : ℕ) % 256 - 128 - 32) = (l : ℕ) / 256 * 256 + _; omega) (by omega))
    have e2 := (b2 ⟨(l : ℕ) % 256 - 128, by omega⟩).trans (cf_hi m c _ _ (by show ¬ (l : ℕ) % 256 - 128 < 32; omega) (by show (l : ℕ) % 256 - 128 < 64; omega))
    have e3 := (b3 ⟨(l : ℕ) % 256 - 128, by omega⟩).trans (sf_hi m c _ _ (by show ¬ (l : ℕ) % 256 - 128 < 32; omega) (by show (l : ℕ) % 256 - 128 < 64; omega))
    have ew : (⟨(l : ℕ) % 256 - 128 - 32, by omega⟩ : Fin 32) = ⟨(l : ℕ) % 256 - 160, by omega⟩ := Fin.ext (by show (l : ℕ) % 256 - 128 - 32 = (l : ℕ) % 256 - 160; omega)
    refine (congrArg₂ (· - ·) (congrArg₂ (· * ·) e0 e2) (congrArg₂ (· * ·) e1 e3)).trans ?_
    simp only [ew]
  · rw [dif_neg h3]
    have e2 := (b2 ⟨(l : ℕ) % 256 - 128, by omega⟩).trans (cf_out m c _ _ (by show ¬ (l : ℕ) % 256 - 128 < 64; omega))
    have e3 := (b3 ⟨(l : ℕ) % 256 - 128, by omega⟩).trans (sf_out m c _ _ (by show ¬ (l : ℕ) % 256 - 128 < 64; omega))
    refine (congrArg₂ (· - ·) (congrArg₂ (· * ·) rfl e2) (congrArg₂ (· * ·) rfl e3)).trans ?_
    show _ * (0 : EReal) - _ * (0 : EReal) = 0
    rw [mul_zero, mul_zero, sub_zero]

open Cert.UnropeBwdRefIdeal.Read in
/-- The gradient of the queries. -/
theorem final4 (c : Dev nD) : (dats m 0 c).arrAt 4 (cfgs 0).N = val_main_v68 (F := Ideal) (m ((c : Thread nD τ).loc main_arg0)) := by
  refine (dats m 0 c).arrAt_eq_of_covers 4 _ (by decide +kernel) fun t _ y => ?_
  blk_simp
  rw [after0_4]
  idx_vars y
  rw [show ((cfg0.win 4).blk t).view.emb (ix2 y0 y1 : S512x2048.Idx) = (ix2 ⟨t.val * 512 + y0, row_lt t y0⟩ y1 : S2048x2048.Idx) by blk_ext [idx t]]
  exact (out4_at _ _ _ _ y0 y1).trans ((block4 m c t y0 y1).trans (ref4_at _ _ _).symm)

open Cert.UnropeBwdRefIdeal.Read in
/-- The part of the keys' gradient that each head has for itself. -/
theorem final5 (c : Dev nD) : (dats m 0 c).arrAt 5 (cfgs 0).N = val_main_v70 (F := Ideal) (m ((c : Thread nD τ).loc main_arg1)) := by
  refine (dats m 0 c).arrAt_eq_of_covers 5 _ (by decide +kernel) fun t _ y => ?_
  blk_simp
  rw [after0_5]
  idx_vars y
  rw [show ((cfg0.win 5).blk t).view.emb (ix2 y0 y1 : S512x1024.Idx) = (ix2 ⟨t.val * 512 + y0, row_lt t y0⟩ y1 : S2048x1024.Idx) by blk_ext [idx t]]
  refine (out5_at _ _ _ _ y0 y1).trans (((blk1 m c t y0 _).trans ?_).trans (ref5_at _ _ _).symm)
  exact dk_in m c _ _ ⟨(y1 : ℕ) / 128, by omega⟩ _ rfl (by omega)

open Cert.UnropeBwdRefIdeal.Read in
/-- The gradient of the shared part of the keys: the sum over the heads. -/
theorem final6 (c : Dev nD) : (dats m 0 c).arrAt 6 (cfgs 0).N = val_main_v71 (F := Ideal) (m ((c : Thread nD τ).loc main_arg1)) := by
  refine (dats m 0 c).arrAt_eq_of_covers 6 _ (by decide +kernel) fun t _ y => ?_
  blk_simp
  rw [after0_6]
  idx_vars y
  rw [show ((cfg0.win 6).blk t).view.emb (ix2 y0 y1 : S512x128.Idx) = (ix2 ⟨t.val * 512 + y0, row_lt t y0⟩ y1 : S2048x128.Idx) by blk_ext [idx t]]
  refine (out6_at _ _ _ _ y0 y1).trans (Eq.trans ?_ (ref6_at _ _ _).symm)
  by_cases h : (y1 : ℕ) < 64
  · rw [dif_pos h]
    refine Finset.sum_congr rfl fun x _ => (blk1 m c t y0 _).trans ?_
    exact dk_in m c _ _ x _ (by show (x : ℕ) * 256 + 128 + y1 = (x : ℕ) * 256 + (128 + y1); omega) (by omega)
  · rw [dif_neg h]
    refine Finset.sum_eq_zero fun x _ => (blk1 m c t y0 _).trans ?_
    exact dk_out m c _ _ (by show ¬ ((x : ℕ) * 256 + 128 + y1) % 256 < 192; omega)

end Cert.UnropeBwdIdeal.Hand

namespace Cert.Proof

open Idealize.ShloMosaic Idealize.SL.Sem

theorem algebraic_Unrope [Cert.UnropeBwdIdeal.Facts] [Cert.UnropeBwdRefIdeal.Facts] :
    Cert.algebraic_UnropeBwdIdeal_UnropeBwdRefIdeal := by
  pair_intro
  · run_from Cert.UnropeBwdIdeal.Gen.run_main m g
    · exact Cert.UnropeBwdIdeal.Gen.V_main_arg0 m c
    · exact Cert.UnropeBwdIdeal.Gen.V_main_arg1 m c
  · run_from Cert.UnropeBwdRefIdeal.Value.run m' g'
    · refine (Cert.UnropeBwdRefIdeal.Read.val_main_v68_eq m' c).trans ?_
      rw [(hagree c).1]
      exact (Cert.UnropeBwdIdeal.Hand.final4 m c).symm
    · exact (Cert.UnropeBwdIdeal.Hand.final5 m c).symm
    · exact (Cert.UnropeBwdRefIdeal.Read.val_main_v71_eq _).trans (Cert.UnropeBwdIdeal.Hand.final6 m c).symm

end Cert.Proof

end
-- ==== Proof.Down.lean ====
/- The gradient of the squared ReLU fused with the product by w₂ᵀ (`mlp_down_bwd`): the kernel's array is the
   reference's. -/
module

public import proofs.«01_k».proof.Defs
public import proofs.«01_k».proof.Proof.Gen.DownBwdIdeal.Value
public import proofs.«01_k».proof.Proof.Gen.DownBwdRefIdeal.Read
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.DownBwdIdeal.Hand

open Cert.DownBwdIdeal Cert.DownBwdIdeal.Gen Idealize.ShloMosaic Idealize.ShloMosaic.TcCoe Idealize.SL.Sem
open Idealize.ShloMosaic.Pipeline (Dat)

variable (m : (ℓ : Loc nD τ sig) → Buf (Elt Ideal) ℓ)

/-- The windows' block indices at a grid point. -/
theorem idx : ∀ t : Fin cfg0.N, win0_0.index t = ![t.val / 4, 0] ∧ win0_1.index t = ![t.val % 4, 0]
    ∧ win0_2.index t = ![t.val / 4, t.val % 4] ∧ win0_3.index t = ![t.val / 4, t.val % 4] :=
  (by decide +kernel : ∀ t : Fin grid0.N, _)

/-- The reference's array over the kernel's arguments. -/
abbrev REF (X : FVec Ideal S2048x1024 .f32) (W : FVec Ideal S4096x1024 .f32) (H : FVec Ideal S2048x4096 .f32) :
    FVec Ideal S2048x4096 .bf16 :=
  Cert.DownBwdRefIdeal.Read.val_main_v12 (F := Ideal) X W H

/-- The factor `max x 0` is zero exactly where the reference's selection writes zero. -/
theorem relu_gate (a b x : EReal) : a * (b * max x 0) = if 0 < x then a * (b * max x 0) else 0 := by
  split_ifs with h
  · rfl
  · rw [max_eq_right (not_lt.mp h), mul_zero, mul_zero]

/-- What the body stores at `y` of point `t` is the reference's element there. -/
theorem point (c : Dev nD) (t : Fin cfg0.N) (y) : k0_pay1 (iblk m c 0 t) (iblk m c 1 t) (iblk m c 2 t) y
    = REF (m ((c : Thread nD τ).loc main_arg0)) (m ((c : Thread nD τ).loc main_arg1))
        (m ((c : Thread nD τ).loc main_arg2)) (((cfg0.win 3).blk t).view.emb y) := by
  pointwise [k0_pay1, REF, Cert.DownBwdRefIdeal.Read.val_main_v12, Cert.DownBwdRefIdeal.Read.val_main_v11,
    Cert.DownBwdRefIdeal.Read.val_main_v10, Cert.DownBwdRefIdeal.Read.val_main_v9, Cert.DownBwdRefIdeal.Read.val_main_v8,
    Cert.DownBwdRefIdeal.Read.val_main_v6, Cert.DownBwdRefIdeal.Read.val_main_v5, Cert.DownBwdRefIdeal.Read.val_main_v2,
    Cert.DownBwdRefIdeal.Read.val_main_v1, Cert.DownBwdRefIdeal.Read.val_main_v0, Cert.DownBwdRefIdeal.Read.val_main_call0_v0,
    Cert.DownBwdRefIdeal.Read.val_main_call0_cst, Cert.DownBwdRefIdeal.Read.val_main_cst,
    Cert.DownBwdRefIdeal.Read.val_main_cst_2, Cert.DownBwdRefIdeal.Read.val_main_cst_1]
  refine (relu_gate _ _ _).trans ?_
  blk_point [iblk, V, idx t]

/-- The kernel's result array is the reference's. -/
theorem final (c : Dev nD) : (dats m 0 c).arrAt 3 (cfgs 0).N
    = REF (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point m c t y

end Cert.DownBwdIdeal.Hand

namespace Cert.Proof

open Idealize.ShloMosaic Idealize.SL.Sem

theorem algebraic_Down [Cert.DownBwdIdeal.Facts] [Cert.DownBwdRefIdeal.Facts] : Cert.algebraic_DownBwdIdeal_DownBwdRefIdeal := by
  pair_intro
  · run_from Cert.DownBwdIdeal.Gen.run_main m g
  · run_from Cert.DownBwdRefIdeal.Value.run m' g'
    exact (Cert.DownBwdIdeal.Hand.final m c).symm

end Cert.Proof

end
-- ==== Proof.LnMath.lean ====
/- A row's layer normalisation and its gradient on extended reals, in the kernels' grouping and in the reference's; they
   are one on finite rows. Also the slope of the swish. Nothing here names a program. -/
module

public import Idealize.ShloMosaic.Lib.IdealHost

@[expose] public section

noncomputable section

namespace Cert.Proof

open Idealize.ShloMosaic

/-- The quotient of two reals. -/
theorem div_real (a b : ℝ) (h : b ≠ 0) : Ideal.div (a : EReal) (b : EReal) = ((a / b : ℝ) : EReal) := by
  rw [Ideal.div_coe h, ← EReal.coe_mul]
  congr 1
  ring

/-- An extended real that is a real number. -/
def IsR (x : EReal) : Prop := ∃ r : ℝ, x = r

namespace IsR

variable {x y : EReal}

theorem coe (r : ℝ) : IsR (r : EReal) := ⟨r, rfl⟩

theorem of_lt (h : Ideal.cmp .olt (max x (-x)) (Ideal.ofBits .f32 0x7F800000#32) = 1#1) : IsR x := by
  have htop : Ideal.ofBits .f32 0x7F800000#32 = ⊤ := by simp [Ideal.ofBits, Ideal.ieee]
  rw [htop] at h
  unfold Ideal.cmp at h
  induction x with
  | bot => simp at h
  | coe r => exact ⟨r, rfl⟩
  | top => simp at h

theorem add (hx : IsR x) (hy : IsR y) : IsR (x + y) := by
  obtain ⟨a, rfl⟩ := hx; obtain ⟨b, rfl⟩ := hy; exact ⟨a + b, by push_cast; rfl⟩

theorem sub (hx : IsR x) (hy : IsR y) : IsR (x - y) := by
  obtain ⟨a, rfl⟩ := hx; obtain ⟨b, rfl⟩ := hy; exact ⟨a - b, by push_cast; rfl⟩

theorem mul (hx : IsR x) (hy : IsR y) : IsR (x * y) := by
  obtain ⟨a, rfl⟩ := hx; obtain ⟨b, rfl⟩ := hy; exact ⟨a * b, by push_cast; rfl⟩

theorem neg (hx : IsR x) : IsR (-x) := by
  obtain ⟨a, rfl⟩ := hx; exact ⟨-a, by push_cast; rfl⟩

theorem exp (hx : IsR x) : IsR (Ideal.exp x) := by
  obtain ⟨a, rfl⟩ := hx; exact ⟨Real.exp a, rfl⟩

theorem div (hx : IsR x) (hy : IsR y) (h0 : y ≠ 0) : IsR (Ideal.div x y) := by
  obtain ⟨a, rfl⟩ := hx; obtain ⟨b, rfl⟩ := hy
  exact ⟨a / b, div_real a b (fun h => h0 (by rw [h]; rfl))⟩

end IsR

/-- A finite sum of reals, each made an extended real. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsR.sum {ι : Type} (s : Finset ι) (f : ι → EReal) (h : ∀ i, IsR (f i)) : IsR (∑ i ∈ s, f i) := by
  choose g hg using h
  simp only [hg]
  exact ⟨_, sum_coe s g⟩

/-- The constants of a row of 1,024. -/
abbrev cN : EReal := Ideal.ofBits FTy.f32 0x44800000#32
abbrev cE : EReal := Ideal.ofBits FTy.f32 0x3727C5AC#32
abbrev c2 : EReal := Ideal.ofBits FTy.f32 0x40000000#32
abbrev cH : EReal := Ideal.ofBits FTy.f32 0xBF000000#32

/-- The small number under the root. -/
def epsR : ℝ := 10995116 / 1099511627776

theorem cN_eq : cN = ((1024 : ℝ) : EReal) := by
  simp [cN, Ideal.ofBits, Ideal.ieee, -EReal.coe_mul]; norm_num
theorem c2_eq : c2 = ((2 : ℝ) : EReal) := by
  simp [c2, Ideal.ofBits, Ideal.ieee, -EReal.coe_mul]; try norm_num
theorem cH_eq : cH = ((-(1 / 2) : ℝ) : EReal) := by
  simp [cH, Ideal.ofBits, Ideal.ieee, -EReal.coe_mul]; try norm_num
theorem cE_eq : cE = (epsR : EReal) := by
  unfold epsR
  simp [cE, Ideal.ofBits, Ideal.ieee, -EReal.coe_mul]; try norm_num

/-! ## The row's normalisation -/

variable (x d : Fin 1024 → EReal)

/-- The mean, the shifted variance, the reciprocal root, the normalised row. -/
def lnMu : EReal := Ideal.div (∑ j, x j) cN
def lnVe : EReal := Ideal.div (∑ j, (x j - lnMu x) * (x j - lnMu x)) cN + cE
def lnRs : EReal := Ideal.rsqrt (lnVe x)
def lnXh (l : Fin 1024) : EReal := (x l - lnMu x) * lnRs x

/-- The gradient of the row as the kernels group it. -/
def lnGradK (l : Fin 1024) : EReal :=
  lnRs x * (d l - Ideal.div (∑ j, d j) cN - lnXh x l * Ideal.div (∑ j, d j * lnXh x j) cN)

/-- The gradient of the row as the reference groups it: the scaled part, the part through the variance, the sum. -/
def lnPart (l : Fin 1024) : EReal := d l * lnRs x
def lnVar (l : Fin 1024) : EReal :=
  (∑ _j : Fin 1, Ideal.div ((∑ j, (x j - lnMu x) * d j) * (cH * Ideal.div (lnRs x) (lnVe x))) cN) * (c2 * (x l - lnMu x))
def lnGradR (l : Fin 1024) : EReal :=
  lnPart x d l + lnVar x d l + ∑ _j : Fin 1, Ideal.div ((∑ j, -lnPart x d j) + ∑ j, -lnVar x d j) cN

/-! ## On reals -/

section Real
variable (a e : Fin 1024 → ℝ)

def muR : ℝ := (∑ j, a j) / 1024
def veR : ℝ := (∑ j, (a j - muR a) * (a j - muR a)) / 1024 + epsR
def rsR : ℝ := (Real.sqrt (veR a))⁻¹

theorem veR_pos : 0 < veR a := by
  unfold veR
  have h : 0 ≤ (∑ j, (a j - muR a) * (a j - muR a)) / 1024 := div_nonneg (Finset.sum_nonneg fun j _ => mul_self_nonneg _) (by norm_num)
  have : 0 < epsR := by unfold epsR; norm_num
  linarith

theorem rsR_div : rsR a / veR a = rsR a * (rsR a * rsR a) := by
  have h := Real.mul_self_sqrt (veR_pos a).le
  have h0 : Real.sqrt (veR a) ≠ 0 := (Real.sqrt_pos.mpr (veR_pos a)).ne'
  unfold rsR
  rw [← mul_inv, h, div_eq_mul_inv]

theorem sum_dev : ∑ j, (a j - muR a) = 0 := by
  rw [Finset.sum_sub_distrib, Finset.sum_const, Finset.card_univ, Fintype.card_fin, nsmul_eq_mul]
  unfold muR
  push_cast
  ring

variable {a e}

theorem mu_coe : lnMu (fun j => (a j : EReal)) = (muR a : EReal) := by
  unfold lnMu muR
  rw [sum_coe, cN_eq, div_real _ _ (by norm_num)]

theorem ve_coe : lnVe (fun j => (a j : EReal)) = (veR a : EReal) := by
  unfold lnVe veR
  simp only [mu_coe, ← EReal.coe_sub, ← EReal.coe_mul]
  rw [sum_coe, cN_eq, cE_eq, div_real _ _ (by norm_num), ← EReal.coe_add]

theorem rs_coe : lnRs (fun j => (a j : EReal)) = (rsR a : EReal) := by
  unfold lnRs rsR
  rw [ve_coe]
  have h := veR_pos a
  show (if veR a < 0 then (⊥ : EReal) else if veR a = 0 then ⊤ else (((Real.sqrt (veR a))⁻¹ : ℝ) : EReal)) = _
  rw [if_neg (by linarith), if_neg h.ne']

theorem xh_coe (l : Fin 1024) : lnXh (fun j => (a j : EReal)) l = (((a l - muR a) * rsR a : ℝ) : EReal) := by
  unfold lnXh
  rw [mu_coe, rs_coe, ← EReal.coe_sub, ← EReal.coe_mul]

theorem gradK_coe (l : Fin 1024) : lnGradK (fun j => (a j : EReal)) (fun j => (e j : EReal)) l
    = ((rsR a * (e l - (∑ j, e j) / 1024 - ((a l - muR a) * rsR a) * ((∑ j, e j * ((a j - muR a) * rsR a)) / 1024)) : ℝ) : EReal) := by
  unfold lnGradK
  simp only [xh_coe, rs_coe, ← EReal.coe_sub, ← EReal.coe_mul]
  rw [sum_coe, sum_coe, cN_eq, div_real _ _ (by norm_num), div_real _ _ (by norm_num)]
  simp only [← EReal.coe_sub, ← EReal.coe_mul]

theorem part_coe (l : Fin 1024) : lnPart (fun j => (a j : EReal)) (fun j => (e j : EReal)) l = ((e l * rsR a : ℝ) : EReal) := by
  unfold lnPart
  rw [rs_coe, ← EReal.coe_mul]

theorem var_coe (l : Fin 1024) : lnVar (fun j => (a j : EReal)) (fun j => (e j : EReal)) l
    = ((((∑ j, (a j - muR a) * e j) * (-(1 / 2) * (rsR a / veR a)) / 1024) * (2 * (a l - muR a)) : ℝ) : EReal) := by
  unfold lnVar
  rw [Fin.sum_univ_one]
  simp only [rs_coe, ve_coe, mu_coe, ← EReal.coe_sub, ← EReal.coe_mul]
  rw [sum_coe, cN_eq, cH_eq, c2_eq, div_real _ _ (veR_pos a).ne']
  simp only [← EReal.coe_sub, ← EReal.coe_mul]
  rw [div_real _ _ (by norm_num), ← EReal.coe_mul]

theorem gradR_coe (l : Fin 1024) : lnGradR (fun j => (a j : EReal)) (fun j => (e j : EReal)) l
    = ((e l * rsR a + (((∑ j, (a j - muR a) * e j) * (-(1 / 2) * (rsR a / veR a)) / 1024) * (2 * (a l - muR a)))
        + ((∑ j, -(e j * rsR a)) + ∑ j, -(((∑ j, (a j - muR a) * e j) * (-(1 / 2) * (rsR a / veR a)) / 1024) * (2 * (a j - muR a)))) / 1024 : ℝ) : EReal) := by
  unfold lnGradR
  rw [Fin.sum_univ_one]
  simp only [part_coe, var_coe, ← EReal.coe_neg]
  rw [sum_coe, sum_coe, cN_eq]
  simp only [← EReal.coe_add]
  rw [div_real _ _ (by norm_num), ← EReal.coe_add]

theorem grad_real (l : Fin 1024) :
    e l * rsR a + (((∑ j, (a j - muR a) * e j) * (-(1 / 2) * (rsR a / veR a)) / 1024) * (2 * (a l - muR a)))
        + ((∑ j, -(e j * rsR a)) + ∑ j, -(((∑ j, (a j - muR a) * e j) * (-(1 / 2) * (rsR a / veR a)) / 1024) * (2 * (a j - muR a)))) / 1024
    = rsR a * (e l - (∑ j, e j) / 1024 - ((a l - muR a) * rsR a) * ((∑ j, e j * ((a j - muR a) * rsR a)) / 1024)) := by
  rw [rsR_div]
  have h1 : ∑ j, -(e j * rsR a) = -((∑ j, e j) * rsR a) := by rw [Finset.sum_neg_distrib, Finset.sum_mul]
  have h3 : ∑ j, e j * ((a j - muR a) * rsR a) = (∑ j, (a j - muR a) * e j) * rsR a := by
    rw [Finset.sum_mul]; exact Finset.sum_congr rfl fun j _ => by ring
  rw [h1, h3]
  generalize (∑ j, (a j - muR a) * e j) = C
  have h2 : ∑ j, -((C * (-(1 / 2) * (rsR a * (rsR a * rsR a))) / 1024) * (2 * (a j - muR a))) = 0 := by
    rw [Finset.sum_neg_distrib, ← Finset.mul_sum, ← Finset.mul_sum, sum_dev]; ring
  rw [h2]
  ring

end Real

variable {x d}

theorem lnMu_isR (hx : ∀ j, IsR (x j)) : IsR (lnMu x) := by
  choose a ha using hx
  obtain rfl : x = fun j => (a j : EReal) := funext ha
  exact ⟨_, mu_coe⟩

theorem lnXh_isR (hx : ∀ j, IsR (x j)) (l : Fin 1024) : IsR (lnXh x l) := by
  choose a ha using hx
  obtain rfl : x = fun j => (a j : EReal) := funext ha
  exact ⟨_, xh_coe l⟩

/-- The two groupings of the gradient are one on finite rows. -/
theorem lnGrad_eq (hx : ∀ j, IsR (x j)) (hd : ∀ j, IsR (d j)) (l : Fin 1024) : lnGradR x d l = lnGradK x d l := by
  choose a ha using hx
  obtain rfl : x = fun j => (a j : EReal) := funext ha
  choose e he using hd
  obtain rfl : d = fun j => (e j : EReal) := funext he
  rw [gradR_coe, gradK_coe, grad_real]

/-! ## The swish -/

/-- The logistic function as the reference's host code spells it. -/
def sgm (n : EReal) : EReal := Ideal.div 1 (1 + Ideal.exp (-n))

theorem sgm_isR {n : EReal} (h : IsR n) : IsR (sgm n) := by
  obtain ⟨a, rfl⟩ := h
  have hp := Real.exp_pos (-a)
  refine ⟨1 / (1 + Real.exp (-a)), ?_⟩
  show Ideal.div 1 (1 + (Real.exp (-a) : EReal)) = _
  rw [← EReal.coe_one, ← EReal.coe_add, div_real _ _ (by linarith)]

/-- The gradient through the swish: the kernel's product and the reference's sum of two products. -/
theorem swish_eq {n s : EReal} (hn : IsR n) (hs : IsR s) :
    s * sgm n + n * s * (sgm n * (1 - sgm n)) = s * (sgm n * (1 + n * (1 - sgm n))) := by
  obtain ⟨g, hg⟩ := sgm_isR hn
  rw [hg]
  obtain ⟨a, rfl⟩ := hn
  obtain ⟨b, rfl⟩ := hs
  simp only [← EReal.coe_one, ← EReal.coe_sub, ← EReal.coe_mul, ← EReal.coe_add]
  congr 1
  ring

end Cert.Proof

end
-- ==== Proof.Swish.lean ====
/- The gradient through the convolution module's normalisation and swish (`conformer_norm_swish_bwd`): the kernel's three
   arrays are the reference's on finite arguments. -/
module

public import proofs.«01_k».proof.Defs
public import proofs.«01_k».proof.Proof.Gen.SwishBwdIdeal.Value
public import proofs.«01_k».proof.Proof.Gen.SwishBwdRefIdeal.Read
public import proofs.«01_k».proof.Proof.LnMath
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.SwishBwdIdeal.Hand

open Cert.SwishBwdIdeal Cert.SwishBwdIdeal.Gen Idealize.ShloMosaic Idealize.ShloMosaic.TcCoe Idealize.SL.Sem
open Idealize.ShloMosaic.Pipeline (Dat)
open Cert.Proof

variable (m : (ℓ : Loc nD τ sig) → Buf (Elt Ideal) ℓ)

/-! ## The payloads at an index -/

section
variable (x0 x3 : FVec Ideal S512x1024 .f32) (x1 x2 : FVec Ideal S1x1024 .f32) (r : Fin 512) (l : Fin 1024)

/-- The gradient at the normalised row, as the kernel groups it, of a row, the gain, the bias and the cotangent. -/
def dnK (x g b s : Fin 1024 → EReal) (l : Fin 1024) : EReal :=
  s l * (sgm (lnXh x l * g l + b l) * (1 + (lnXh x l * g l + b l) * (1 - sgm (lnXh x l * g l + b l))))

theorem pay6_at : @Eq EReal (k0_pay6 (F := Ideal) x0 (ix2 r l)) (x0 (ix2 r l) - lnMu fun j => x0 (ix2 r j)) := by
  unfold k0_pay6
  pointwise
  rfl

theorem pay7_at : @Eq EReal (k0_pay7 (F := Ideal) x0 (ix2 r 0)) (lnRs fun j => x0 (ix2 r j)) := by
  unfold k0_pay7
  pointwise
  simp only [pay6_at]
  rfl

theorem pay8_at : @Eq EReal (k0_pay8 (F := Ideal) x0 (ix2 r l)) (lnXh (fun j => x0 (ix2 r j)) l) := by
  unfold k0_pay8
  pointwise
  simp only [pay6_at, pay7_at]
  rfl

theorem pay9_at : @Eq EReal (k0_pay9 (F := Ideal) x0 x1 x2 x3 (ix2 r l))
    (dnK (fun j => x0 (ix2 r j)) (fun j => x1 (ix2 0 j)) (fun j => x2 (ix2 0 j)) (fun j => x3 (ix2 r j)) l) := by
  unfold k0_pay9
  pointwise
  simp only [pay8_at]
  rfl

theorem pay10_at : @Eq EReal (k0_pay10 (F := Ideal) x0 x1 x2 x3 x1 (ix2 r l))
    (dnK (fun j => x0 (ix2 r j)) (fun j => x1 (ix2 0 j)) (fun j => x2 (ix2 0 j)) (fun j => x3 (ix2 r j)) l * x1 (ix2 0 l)) := by
  unfold k0_pay10
  pointwise
  simp only [pay9_at]

theorem pay1_at : @Eq EReal (k0_pay1 (F := Ideal) (k0_pay7 x0) (k0_pay8 x0) (k0_pay10 x0 x1 x2 x3 x1) (k0_pay11 x0 x1 x2 x3 x1)
      (k0_pay12 x0 x1 x2 x3 x1) (ix2 r l))
    (lnGradK (fun j => x0 (ix2 r j)) (fun l => dnK (fun j => x0 (ix2 r j)) (fun j => x1 (ix2 0 j)) (fun j => x2 (ix2 0 j)) (fun j => x3 (ix2 r j)) l * x1 (ix2 0 l)) l) := by
  unfold k0_pay1 k0_pay11 k0_pay12
  pointwise
  simp only [pay7_at, pay8_at, pay10_at]
  rfl

theorem pay3_at (acc : FVec Ideal S1x1024 .f32) : @Eq EReal (k0_pay3 (F := Ideal) (k0_pay8 x0) (k0_pay9 x0 x1 x2 x3) acc (ix2 0 l))
    (acc (ix2 0 l) + ∑ r : Fin 512, dnK (fun j => x0 (ix2 r j)) (fun j => x1 (ix2 0 j)) (fun j => x2 (ix2 0 j)) (fun j => x3 (ix2 r j)) l * lnXh (fun j => x0 (ix2 r j)) l) := by
  unfold k0_pay3
  pointwise
  simp only [pay8_at, pay9_at]

theorem pay5_at (acc : FVec Ideal S1x1024 .f32) : @Eq EReal (k0_pay5 (F := Ideal) (k0_pay9 x0 x1 x2 x3) acc (ix2 0 l))
    (acc (ix2 0 l) + ∑ r : Fin 512, dnK (fun j => x0 (ix2 r j)) (fun j => x1 (ix2 0 j)) (fun j => x2 (ix2 0 j)) (fun j => x3 (ix2 r j)) l) := by
  unfold k0_pay5
  pointwise
  simp only [pay9_at]

end

/-! ## The reference's arrays at an index -/

section
open Cert.SwishBwdRefIdeal.Read
variable (x0 x3 : FVec Ideal S2048x1024 .f32) (x1 x2 : FVec Ideal S1x1024 .f32) (r : Fin 2048) (l : Fin 1024)

variable (z : Fin 1)

theorem ref3_at : @Eq EReal (val_main_v3 (F := Ideal) x0 (ix2 r z))
    (lnMu (fun j => x0 (ix2 r j))) := by
  pointwise [val_main_cst, val_main_v0, val_main_v1, val_main_cst_0, val_main_v2, val_main_v3, val_main_v4, val_main_v5, val_main_v6, val_main_cst_1, val_main_v7, val_main_v8, val_main_cst_2, val_main_v9, val_main_v10, val_main_cst_3, val_main_v11, val_main_v12, val_main_v13, val_main_v14, val_main_cst_4, val_main_v15, val_main_v16, val_main_v17, val_main_v18, val_main_cst_5, val_main_v19, val_main_v20, val_main_v21, val_main_v22, val_main_v23, val_main_v24, val_main_v25, val_main_v26, val_main_call0_v0, val_main_call0_v1, val_main_call0_cst, val_main_call0_v2, val_main_call0_v3, val_main_call0_cst_0, val_main_call0_v4, val_main_v27_2, val_main_call0_cst_1, val_main_call0_v6, val_main_call0_v7, val_main_v27_1, val_main_v27_0, val_main_call1_v0, val_main_call1_v1, val_main_call1_v2, val_main_v28, val_main_cst_6, val_main_v29, val_main_v30, val_main_v31, val_main_cst_7, val_main_v32, val_main_v33, val_main_v34, val_main_v35, val_main_v36, val_main_cst_8, val_main_v37, val_main_v38, val_main_v39, val_main_v40, val_main_v41, val_main_v42, val_main_cst_9, val_main_v43, val_main_v44, val_main_cst_10, val_main_v45, val_main_v46, val_main_cst_11, val_main_v47, val_main_v48, val_main_v49, val_main_v50, val_main_cst_12, val_main_v51, val_main_v52, val_main_v53, val_main_v54, val_main_cst_13, val_main_v55, val_main_v56, val_main_cst_14, val_main_v57, val_main_v58, val_main_v59]
  rfl

theorem ref14_at : @Eq EReal (val_main_v14 (F := Ideal) x0 (ix2 r l))
    (x0 (ix2 r l) - lnMu (fun j => x0 (ix2 r j))) := by
  pointwise [val_main_cst, val_main_v0, val_main_v1, val_main_cst_0, val_main_v2, val_main_v4, val_main_v5, val_main_v6, val_main_cst_1, val_main_v7, val_main_v8, val_main_cst_2, val_main_v9, val_main_v10, val_main_cst_3, val_main_v11, val_main_v12, val_main_v13, val_main_v14, val_main_cst_4, val_main_v15, val_main_v16, val_main_v17, val_main_v18, val_main_cst_5, val_main_v19, val_main_v20, val_main_v21, val_main_v22, val_main_v23, val_main_v24, val_main_v25, val_main_v26, val_main_call0_v0, val_main_call0_v1, val_main_call0_cst, val_main_call0_v2, val_main_call0_v3, val_main_call0_cst_0, val_main_call0_v4, val_main_v27_2, val_main_call0_cst_1, val_main_call0_v6, val_main_call0_v7, val_main_v27_1, val_main_v27_0, val_main_call1_v0, val_main_call1_v1, val_main_call1_v2, val_main_v28, val_main_cst_6, val_main_v29, val_main_v30, val_main_v31, val_main_cst_7, val_main_v32, val_main_v33, val_main_v34, val_main_v35, val_main_v36, val_main_cst_8, val_main_v37, val_main_v38, val_main_v39, val_main_v40, val_main_v41, val_main_v42, val_main_cst_9, val_main_v43, val_main_v44, val_main_cst_10, val_main_v45, val_main_v46, val_main_cst_11, val_main_v47, val_main_v48, val_main_v49, val_main_v50, val_main_cst_12, val_main_v51, val_main_v52, val_main_v53, val_main_v54, val_main_cst_13, val_main_v55, val_main_v56, val_main_cst_14, val_main_v57, val_main_v58, val_main_v59]
  simp only [ref3_at]

theorem ref16_at : @Eq EReal (val_main_v16 (F := Ideal) x0 (ix2 r z))
    (lnVe (fun j => x0 (ix2 r j))) := by
  pointwise [val_main_cst, val_main_v0, val_main_v1, val_main_cst_0, val_main_v2, val_main_v4, val_main_v5, val_main_v6, val_main_cst_1, val_main_v7, val_main_v8, val_main_cst_2, val_main_v9, val_main_v10, val_main_cst_3, val_main_v11, val_main_v12, val_main_v13, val_main_cst_4, val_main_v15, val_main_v16, val_main_v17, val_main_v18, val_main_cst_5, val_main_v19, val_main_v20, val_main_v21, val_main_v22, val_main_v23, val_main_v24, val_main_v25, val_main_v26, val_main_call0_v0, val_main_call0_v1, val_main_call0_cst, val_main_call0_v2, val_main_call0_v3, val_main_call0_cst_0, val_main_call0_v4, val_main_v27_2, val_main_call0_cst_1, val_main_call0_v6, val_main_call0_v7, val_main_v27_1, val_main_v27_0, val_main_call1_v0, val_main_call1_v1, val_main_call1_v2, val_main_v28, val_main_cst_6, val_main_v29, val_main_v30, val_main_v31, val_main_cst_7, val_main_v32, val_main_v33, val_main_v34, val_main_v35, val_main_v36, val_main_cst_8, val_main_v37, val_main_v38, val_main_v39, val_main_v40, val_main_v41, val_main_v42, val_main_cst_9, val_main_v43, val_main_v44, val_main_cst_10, val_main_v45, val_main_v46, val_main_cst_11, val_main_v47, val_main_v48, val_main_v49, val_main_v50, val_main_cst_12, val_main_v51, val_main_v52, val_main_v53, val_main_v54, val_main_cst_13, val_main_v55, val_main_v56, val_main_cst_14, val_main_v57, val_main_v58, val_main_v59]
  simp only [ref3_at, ref14_at]
  rfl

theorem ref17_at : @Eq EReal (val_main_v17 (F := Ideal) x0 (ix2 r z))
    (lnRs (fun j => x0 (ix2 r j))) := by
  pointwise [val_main_cst, val_main_v0, val_main_v1, val_main_cst_0, val_main_v2, val_main_v4, val_main_v5, val_main_v6, val_main_cst_1, val_main_v7, val_main_v8, val_main_cst_2, val_main_v9, val_main_v10, val_main_cst_3, val_main_v11, val_main_v12, val_main_v13, val_main_cst_4, val_main_v15, val_main_v17, val_main_v18, val_main_cst_5, val_main_v19, val_main_v20, val_main_v21, val_main_v22, val_main_v23, val_main_v24, val_main_v25, val_main_v26, val_main_call0_v0, val_main_call0_v1, val_main_call0_cst, val_main_call0_v2, val_main_call0_v3, val_main_call0_cst_0, val_main_call0_v4, val_main_v27_2, val_main_call0_cst_1, val_main_call0_v6, val_main_call0_v7, val_main_v27_1, val_main_v27_0, val_main_call1_v0, val_main_call1_v1, val_main_call1_v2, val_main_v28, val_main_cst_6, val_main_v29, val_main_v30, val_main_v31, val_main_cst_7, val_main_v32, val_main_v33, val_main_v34, val_main_v35, val_main_v36, val_main_cst_8, val_main_v37, val_main_v38, val_main_v39, val_main_v40, val_main_v41, val_main_v42, val_main_cst_9, val_main_v43, val_main_v44, val_main_cst_10, val_main_v45, val_main_v46, val_main_cst_11, val_main_v47, val_main_v48, val_main_v49, val_main_v50, val_main_cst_12, val_main_v51, val_main_v52, val_main_v53, val_main_v54, val_main_cst_13, val_main_v55, val_main_v56, val_main_cst_14, val_main_v57, val_main_v58, val_main_v59]
  simp only [ref3_at, ref14_at, ref16_at]
  rfl

theorem ref22_at : @Eq EReal (val_main_v22 (F := Ideal) x0 (ix2 r l))
    (lnXh (fun j => x0 (ix2 r j)) l) := by
  pointwise [val_main_cst, val_main_v0, val_main_v1, val_main_cst_0, val_main_v2, val_main_v4, val_main_v5, val_main_v6, val_main_cst_1, val_main_v7, val_main_v8, val_main_cst_2, val_main_v9, val_main_v10, val_main_cst_3, val_main_v11, val_main_v12, val_main_v13, val_main_cst_4, val_main_v15, val_main_v18, val_main_cst_5, val_main_v19, val_main_v20, val_main_v21, val_main_v22, val_main_v23, val_main_v24, val_main_v25, val_main_v26, val_main_call0_v0, val_main_call0_v1, val_main_call0_cst, val_main_call0_v2, val_main_call0_v3, val_main_call0_cst_0, val_main_call0_v4, val_main_v27_2, val_main_call0_cst_1, val_main_call0_v6, val_main_call0_v7, val_main_v27_1, val_main_v27_0, val_main_call1_v0, val_main_call1_v1, val_main_call1_v2, val_main_v28, val_main_cst_6, val_main_v29, val_main_v30, val_main_v31, val_main_cst_7, val_main_v32, val_main_v33, val_main_v34, val_main_v35, val_main_v36, val_main_cst_8, val_main_v37, val_main_v38, val_main_v39, val_main_v40, val_main_v41, val_main_v42, val_main_cst_9, val_main_v43, val_main_v44, val_main_cst_10, val_main_v45, val_main_v46, val_main_cst_11, val_main_v47, val_main_v48, val_main_v49, val_main_v50, val_main_cst_12, val_main_v51, val_main_v52, val_main_v53, val_main_v54, val_main_cst_13, val_main_v55, val_main_v56, val_main_cst_14, val_main_v57, val_main_v58, val_main_v59]
  simp only [ref3_at, ref14_at, ref16_at, ref17_at]
  rfl

variable (h0 : ∀ i, IsR (x0 i)) (h1 : ∀ i, IsR (x1 i)) (h2 : ∀ i, IsR (x2 i)) (h3 : ∀ i, IsR (x3 i))
include h0 h1 h2 h3

theorem n_isR : IsR (lnXh (fun j => x0 (ix2 r j)) l * x1 (ix2 0 l) + x2 (ix2 0 l)) :=
  ((lnXh_isR (fun j => h0 _) l).mul (h1 _)).add (h2 _)

theorem dn_isR : IsR (dnK (fun j => x0 (ix2 r j)) (fun j => x1 (ix2 0 j)) (fun j => x2 (ix2 0 j)) (fun j => x3 (ix2 r j)) l) := by
  have hn := n_isR x0 x3 x1 x2 r l h0 h1 h2 h3
  have hs := sgm_isR hn
  have h1' : IsR (1 : EReal) := ⟨1, rfl⟩
  exact (h3 _).mul (hs.mul (h1'.add (hn.mul (h1'.sub hs))))

theorem ref28_at : @Eq EReal (val_main_v28 (F := Ideal) x0 x1 x2 x3 (ix2 r l))
    (dnK (fun j => x0 (ix2 r j)) (fun j => x1 (ix2 0 j)) (fun j => x2 (ix2 0 j)) (fun j => x3 (ix2 r j)) l) := by
  pointwise [val_main_cst, val_main_v0, val_main_v1, val_main_cst_0, val_main_v2, val_main_v4, val_main_v5, val_main_v6, val_main_cst_1, val_main_v7, val_main_v8, val_main_cst_2, val_main_v9, val_main_v10, val_main_cst_3, val_main_v11, val_main_v12, val_main_v13, val_main_cst_4, val_main_v15, val_main_v18, val_main_cst_5, val_main_v19, val_main_v20, val_main_v21, val_main_v23, val_main_v24, val_main_v25, val_main_v26, val_main_call0_v0, val_main_call0_v1, val_main_call0_cst, val_main_call0_v2, val_main_call0_v3, val_main_call0_cst_0, val_main_call0_v4, val_main_v27_2, val_main_call0_cst_1, val_main_call0_v6, val_main_call0_v7, val_main_v27_1, val_main_v27_0, val_main_call1_v0, val_main_call1_v1, val_main_call1_v2, val_main_v28, val_main_cst_6, val_main_v29, val_main_v30, val_main_v31, val_main_cst_7, val_main_v32, val_main_v33, val_main_v34, val_main_v35, val_main_v36, val_main_cst_8, val_main_v37, val_main_v38, val_main_v39, val_main_v40, val_main_v41, val_main_v42, val_main_cst_9, val_main_v43, val_main_v44, val_main_cst_10, val_main_v45, val_main_v46, val_main_cst_11, val_main_v47, val_main_v48, val_main_v49, val_main_v50, val_main_cst_12, val_main_v51, val_main_v52, val_main_v53, val_main_v54, val_main_cst_13, val_main_v55, val_main_v56, val_main_cst_14, val_main_v57, val_main_v58, val_main_v59]
  simp only [ref22_at]
  exact swish_eq (n_isR x0 x3 x1 x2 r l h0 h1 h2 h3) (h3 _)

theorem ref35_at : @Eq EReal (val_main_v35 (F := Ideal) x0 x1 x2 x3 (ix2 r l))
    (dnK (fun j => x0 (ix2 r j)) (fun j => x1 (ix2 0 j)) (fun j => x2 (ix2 0 j)) (fun j => x3 (ix2 r j)) l * x1 (ix2 0 l)) := by
  pointwise [val_main_cst, val_main_v0, val_main_v1, val_main_cst_0, val_main_v2, val_main_v4, val_main_v5, val_main_v6, val_main_cst_1, val_main_v7, val_main_v8, val_main_cst_2, val_main_v9, val_main_v10, val_main_cst_3, val_main_v11, val_main_v12, val_main_v13, val_main_cst_4, val_main_v15, val_main_v18, val_main_cst_5, val_main_v19, val_main_v20, val_main_v21, val_main_v23, val_main_v24, val_main_v25, val_main_v26, val_main_call0_v0, val_main_call0_v1, val_main_call0_cst, val_main_call0_v2, val_main_call0_v3, val_main_call0_cst_0, val_main_call0_v4, val_main_v27_2, val_main_call0_cst_1, val_main_call0_v6, val_main_call0_v7, val_main_v27_1, val_main_v27_0, val_main_call1_v0, val_main_call1_v1, val_main_call1_v2, val_main_cst_6, val_main_v29, val_main_v30, val_main_v31, val_main_cst_7, val_main_v32, val_main_v33, val_main_v34, val_main_v35, val_main_v36, val_main_cst_8, val_main_v37, val_main_v38, val_main_v39, val_main_v40, val_main_v41, val_main_v42, val_main_cst_9, val_main_v43, val_main_v44, val_main_cst_10, val_main_v45, val_main_v46, val_main_cst_11, val_main_v47, val_main_v48, val_main_v49, val_main_v50, val_main_cst_12, val_main_v51, val_main_v52, val_main_v53, val_main_v54, val_main_cst_13, val_main_v55, val_main_v56, val_main_cst_14, val_main_v57, val_main_v58, val_main_v59]
  simp only [ref28_at x0 x3 x1 x2 _ _ h0 h1 h2 h3]

theorem ref40_at : @Eq EReal (val_main_v40 (F := Ideal) x0 x1 x2 x3 (ix2 r l))
    (lnPart (fun j => x0 (ix2 r j)) (fun l => dnK (fun j => x0 (ix2 r j)) (fun j => x1 (ix2 0 j)) (fun j => x2 (ix2 0 j)) (fun j => x3 (ix2 r j)) l * x1 (ix2 0 l)) l) := by
  pointwise [val_main_cst, val_main_v0, val_main_v1, val_main_cst_0, val_main_v2, val_main_v4, val_main_v5, val_main_v6, val_main_cst_1, val_main_v7, val_main_v8, val_main_cst_2, val_main_v9, val_main_v10, val_main_cst_3, val_main_v11, val_main_v12, val_main_v13, val_main_cst_4, val_main_v15, val_main_v18, val_main_cst_5, val_main_v19, val_main_v20, val_main_v21, val_main_v23, val_main_v24, val_main_v25, val_main_v26, val_main_call0_v0, val_main_call0_v1, val_main_call0_cst, val_main_call0_v2, val_main_call0_v3, val_main_call0_cst_0, val_main_call0_v4, val_main_v27_2, val_main_call0_cst_1, val_main_call0_v6, val_main_call0_v7, val_main_v27_1, val_main_v27_0, val_main_call1_v0, val_main_call1_v1, val_main_call1_v2, val_main_cst_6, val_main_v29, val_main_v30, val_main_v31, val_main_cst_7, val_main_v32, val_main_v33, val_main_v34, val_main_v36, val_main_cst_8, val_main_v37, val_main_v38, val_main_v39, val_main_v40, val_main_v41, val_main_v42, val_main_cst_9, val_main_v43, val_main_v44, val_main_cst_10, val_main_v45, val_main_v46, val_main_cst_11, val_main_v47, val_main_v48, val_main_v49, val_main_v50, val_main_cst_12, val_main_v51, val_main_v52, val_main_v53, val_main_v54, val_main_cst_13, val_main_v55, val_main_v56, val_main_cst_14, val_main_v57, val_main_v58, val_main_v59]
  simp only [ref17_at, ref35_at x0 x3 x1 x2 _ _ h0 h1 h2 h3]
  rfl

theorem ref49_at : @Eq EReal (val_main_v49 (F := Ideal) x0 x1 x2 x3 (ix2 r l))
    (lnVar (fun j => x0 (ix2 r j)) (fun l => dnK (fun j => x0 (ix2 r j)) (fun j => x1 (ix2 0 j)) (fun j => x2 (ix2 0 j)) (fun j => x3 (ix2 r j)) l * x1 (ix2 0 l)) l) := by
  pointwise [val_main_cst, val_main_v0, val_main_v1, val_main_cst_0, val_main_v2, val_main_v4, val_main_v5, val_main_v6, val_main_cst_1, val_main_v7, val_main_v8, val_main_cst_2, val_main_v9, val_main_v10, val_main_cst_3, val_main_v11, val_main_v12, val_main_v13, val_main_cst_4, val_main_v15, val_main_v18, val_main_cst_5, val_main_v19, val_main_v20, val_main_v21, val_main_v23, val_main_v24, val_main_v25, val_main_v26, val_main_call0_v0, val_main_call0_v1, val_main_call0_cst, val_main_call0_v2, val_main_call0_v3, val_main_call0_cst_0, val_main_call0_v4, val_main_v27_2, val_main_call0_cst_1, val_main_call0_v6, val_main_call0_v7, val_main_v27_1, val_main_v27_0, val_main_call1_v0, val_main_call1_v1, val_main_call1_v2, val_main_cst_6, val_main_v29, val_main_v30, val_main_v31, val_main_cst_7, val_main_v32, val_main_v33, val_main_v34, val_main_v36, val_main_cst_8, val_main_v37, val_main_v38, val_main_v39, val_main_v41, val_main_v42, val_main_cst_9, val_main_v43, val_main_v44, val_main_cst_10, val_main_v45, val_main_v46, val_main_cst_11, val_main_v47, val_main_v48, val_main_v49, val_main_v50, val_main_cst_12, val_main_v51, val_main_v52, val_main_v53, val_main_v54, val_main_cst_13, val_main_v55, val_main_v56, val_main_cst_14, val_main_v57, val_main_v58, val_main_v59]
  simp only [ref3_at, ref14_at, ref16_at, ref17_at, ref35_at x0 x3 x1 x2 _ _ h0 h1 h2 h3]
  rfl

theorem ref59_at : @Eq EReal (val_main_v59 (F := Ideal) x0 x1 x2 x3 (ix2 r l))
    (lnGradK (fun j => x0 (ix2 r j)) (fun l => dnK (fun j => x0 (ix2 r j)) (fun j => x1 (ix2 0 j)) (fun j => x2 (ix2 0 j)) (fun j => x3 (ix2 r j)) l * x1 (ix2 0 l)) l) := by
  pointwise [val_main_cst, val_main_v0, val_main_v1, val_main_cst_0, val_main_v2, val_main_v4, val_main_v5, val_main_v6, val_main_cst_1, val_main_v7, val_main_v8, val_main_cst_2, val_main_v9, val_main_v10, val_main_cst_3, val_main_v11, val_main_v12, val_main_v13, val_main_cst_4, val_main_v15, val_main_v18, val_main_cst_5, val_main_v19, val_main_v20, val_main_v21, val_main_v23, val_main_v24, val_main_v25, val_main_v26, val_main_call0_v0, val_main_call0_v1, val_main_call0_cst, val_main_call0_v2, val_main_call0_v3, val_main_call0_cst_0, val_main_call0_v4, val_main_v27_2, val_main_call0_cst_1, val_main_call0_v6, val_main_call0_v7, val_main_v27_1, val_main_v27_0, val_main_call1_v0, val_main_call1_v1, val_main_call1_v2, val_main_cst_6, val_main_v29, val_main_v30, val_main_v31, val_main_cst_7, val_main_v32, val_main_v33, val_main_v34, val_main_v36, val_main_cst_8, val_main_v37, val_main_v38, val_main_v39, val_main_v41, val_main_v42, val_main_cst_9, val_main_v43, val_main_v44, val_main_cst_10, val_main_v45, val_main_v46, val_main_cst_11, val_main_v47, val_main_v48, val_main_v50, val_main_cst_12, val_main_v51, val_main_v52, val_main_v53, val_main_v54, val_main_cst_13, val_main_v55, val_main_v56, val_main_cst_14, val_main_v57, val_main_v58, val_main_v59]
  simp only [ref40_at x0 x3 x1 x2 _ _ h0 h1 h2 h3, ref49_at x0 x3 x1 x2 _ _ h0 h1 h2 h3]
  exact lnGrad_eq (fun j => h0 _) (fun j => (dn_isR x0 x3 x1 x2 r j h0 h1 h2 h3).mul (h1 _)) l

theorem ref30_at : @Eq EReal (val_main_v30 (F := Ideal) x0 x1 x2 x3 (ix2 0 l))
    (∑ r : Fin 2048, dnK (fun j => x0 (ix2 r j)) (fun j => x1 (ix2 0 j)) (fun j => x2 (ix2 0 j)) (fun j => x3 (ix2 r j)) l) := by
  pointwise [val_main_cst, val_main_v0, val_main_v1, val_main_cst_0, val_main_v2, val_main_v4, val_main_v5, val_main_v6, val_main_cst_1, val_main_v7, val_main_v8, val_main_cst_2, val_main_v9, val_main_v10, val_main_cst_3, val_main_v11, val_main_v12, val_main_v13, val_main_cst_4, val_main_v15, val_main_v18, val_main_cst_5, val_main_v19, val_main_v20, val_main_v21, val_main_v23, val_main_v24, val_main_v25, val_main_v26, val_main_call0_v0, val_main_call0_v1, val_main_call0_cst, val_main_call0_v2, val_main_call0_v3, val_main_call0_cst_0, val_main_call0_v4, val_main_v27_2, val_main_call0_cst_1, val_main_call0_v6, val_main_call0_v7, val_main_v27_1, val_main_v27_0, val_main_call1_v0, val_main_call1_v1, val_main_call1_v2, val_main_cst_6, val_main_v29, val_main_v30, val_main_v31, val_main_cst_7, val_main_v32, val_main_v33, val_main_v34, val_main_v36, val_main_cst_8, val_main_v37, val_main_v38, val_main_v39, val_main_v41, val_main_v42, val_main_cst_9, val_main_v43, val_main_v44, val_main_cst_10, val_main_v45, val_main_v46, val_main_cst_11, val_main_v47, val_main_v48, val_main_v50, val_main_cst_12, val_main_v51, val_main_v52, val_main_v53, val_main_v54, val_main_cst_13, val_main_v55, val_main_v56, val_main_cst_14, val_main_v57, val_main_v58]
  simp only [ref28_at x0 x3 x1 x2 _ _ h0 h1 h2 h3]

theorem ref33_at : @Eq EReal (val_main_v33 (F := Ideal) x0 x1 x2 x3 (ix2 0 l))
    (∑ r : Fin 2048, dnK (fun j => x0 (ix2 r j)) (fun j => x1 (ix2 0 j)) (fun j => x2 (ix2 0 j)) (fun j => x3 (ix2 r j)) l * lnXh (fun j => x0 (ix2 r j)) l) := by
  pointwise [val_main_cst, val_main_v0, val_main_v1, val_main_cst_0, val_main_v2, val_main_v4, val_main_v5, val_main_v6, val_main_cst_1, val_main_v7, val_main_v8, val_main_cst_2, val_main_v9, val_main_v10, val_main_cst_3, val_main_v11, val_main_v12, val_main_v13, val_main_cst_4, val_main_v15, val_main_v18, val_main_cst_5, val_main_v19, val_main_v20, val_main_v21, val_main_v23, val_main_v24, val_main_v25, val_main_v26, val_main_call0_v0, val_main_call0_v1, val_main_call0_cst, val_main_call0_v2, val_main_call0_v3, val_main_call0_cst_0, val_main_call0_v4, val_main_v27_2, val_main_call0_cst_1, val_main_call0_v6, val_main_call0_v7, val_main_v27_1, val_main_v27_0, val_main_call1_v0, val_main_call1_v1, val_main_call1_v2, val_main_cst_6, val_main_v29, val_main_v31, val_main_cst_7, val_main_v32, val_main_v33, val_main_v34, val_main_v36, val_main_cst_8, val_main_v37, val_main_v38, val_main_v39, val_main_v41, val_main_v42, val_main_cst_9, val_main_v43, val_main_v44, val_main_cst_10, val_main_v45, val_main_v46, val_main_cst_11, val_main_v47, val_main_v48, val_main_v50, val_main_cst_12, val_main_v51, val_main_v52, val_main_v53, val_main_v54, val_main_cst_13, val_main_v55, val_main_v56, val_main_cst_14, val_main_v57, val_main_v58]
  simp only [ref22_at, ref28_at x0 x3 x1 x2 _ _ h0 h1 h2 h3]
  exact Finset.sum_congr rfl fun x _ => mul_comm (G := EReal) _ _

end

/-! ## The arrays -/

/-- The windows' block indices at a grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![0, 0] ∧ win0_6.index t = ![0, 0] :=
  (by decide +kernel : ∀ t : Fin grid0.N, _)

theorem row_lt (t : Fin cfg0.N) (l : Fin 512) : t.val * 512 + l < 2048 := by
  have h : t.val < 4 := lt_of_lt_of_eq t.isLt N_0
  omega

/-- The row, the cotangent, the gain and the bias of a row of a block. -/
theorem rows (c : Dev nD) (t : Fin cfg0.N) (r : Fin 512) :
    (fun j : Fin 1024 => (iblk m c 0 t (ix2 r j : S512x1024.Idx) : EReal))
        = (fun j => m ((c : Thread nD τ).loc main_arg0) (ix2 ⟨t.val * 512 + r, row_lt t r⟩ j : S2048x1024.Idx))
    ∧ (fun j : Fin 1024 => (iblk m c 3 t (ix2 r j : S512x1024.Idx) : EReal))
        = (fun j => m ((c : Thread nD τ).loc main_arg3) (ix2 ⟨t.val * 512 + r, row_lt t r⟩ j : S2048x1024.Idx))
    ∧ (fun j : Fin 1024 => (iblk m c 1 t (ix2 0 j : S1x1024.Idx) : EReal))
        = (fun j => m ((c : Thread nD τ).loc main_arg1) (ix2 0 j : S1x1024.Idx))
    ∧ (fun j : Fin 1024 => (iblk m c 2 t (ix2 0 j : S1x1024.Idx) : EReal))
        = (fun j => m ((c : Thread nD τ).loc main_arg2) (ix2 0 j : S1x1024.Idx)) := by
  refine ⟨funext fun x => ?_, funext fun x => ?_, funext fun x => ?_, funext fun x => ?_⟩ <;> blk_point [iblk, V, idx t]

/-- Every argument is finite. -/
def Fin4 (c : Dev nD) : Prop :=
  (∀ i, IsR (m ((c : Thread nD τ).loc main_arg0) i)) ∧ (∀ i, IsR (m ((c : Thread nD τ).loc main_arg1) i))
  ∧ (∀ i, IsR (m ((c : Thread nD τ).loc main_arg2) i)) ∧ (∀ i, IsR (m ((c : Thread nD τ).loc main_arg3) i))

open Cert.SwishBwdRefIdeal.Read in
theorem final4 (c : Dev nD) (h : Fin4 m c) : (dats m 0 c).arrAt 4 (cfgs 0).N = val_main_v59 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  idx_vars y
  rw [show ((cfg0.win 4).blk t).view.emb (ix2 y0 y1 : S512x1024.Idx) = (ix2 ⟨t.val * 512 + y0, row_lt t y0⟩ y1 : S2048x1024.Idx) by blk_ext [idx t]]
  have key : ∀ y : S512x1024.Idx, (outsAt0 m c t.val t.isLt).1 y = k0_pay1 (F := Ideal) (k0_pay7 (iblk m c 0 t)) (k0_pay8 (iblk m c 0 t))
      (k0_pay10 (iblk m c 0 t) (iblk m c 1 t) (iblk m c 2 t) (iblk m c 3 t) (iblk m c 1 t))
      (k0_pay11 (iblk m c 0 t) (iblk m c 1 t) (iblk m c 2 t) (iblk m c 3 t) (iblk m c 1 t))
      (k0_pay12 (iblk m c 0 t) (iblk m c 1 t) (iblk m c 2 t) (iblk m c 3 t) (iblk m c 1 t)) y := by
    intro y
    by_cases h0 : t.val % 4 = 0
    · rw [outsAt0_A m c t h0 h0]; frame_out
    · rw [outsAt0_B m c t h0 h0]; frame_out
  refine (key _).trans ((pay1_at _ _ _ _ y0 y1).trans (Eq.trans ?_ (ref59_at _ _ _ _ _ _ h.1 h.2.1 h.2.2.1 h.2.2.2).symm))
  obtain ⟨e0, e3, e1, e2⟩ := rows m c t y0
  simp only [e0, e3, e1, e2, congrFun e1 _]

open Cert.SwishBwdRefIdeal.Read in
theorem final5 (c : Dev nD) (h : Fin4 m c) : (dats m 0 c).arrAt 5 (cfgs 0).N = val_main_v33 (F := Ideal) (m ((c : Thread nD τ).loc main_arg0))
    (m ((c : Thread nD τ).loc main_arg1)) (m ((c : Thread nD τ).loc main_arg2)) (m ((c : Thread nD τ).loc main_arg3)) := by
  have hz : ∀ j : S1x1024.Idx, @Eq EReal (k0_pay2 (F := Ideal) j) 0 := fun j => by
    unfold k0_pay2; pointwise
  refine (dats m 0 c).arrAt_eq_of_after_last 5 t0_3 (by decide +kernel) _ fun j => ?_
  blk_simp
  rw [after0_5, Pipeline.eq_sum_fin_of_reset_step_apply_last (fun n h => (outsAt0 m c n h).2.1) 4 (fun _ => (0 : EReal))
    (fun t j => (∑ r : Fin 512, dnK (fun k => iblk m c 0 t (ix2 r k : S512x1024.Idx)) (fun k => iblk m c 1 t (ix2 0 k : S1x1024.Idx)) (fun k => iblk m c 2 t (ix2 0 k : S1x1024.Idx)) (fun k => iblk m c 3 t (ix2 r k : S512x1024.Idx)) (j 1) * lnXh (fun k => iblk m c 0 t (ix2 r k : S512x1024.Idx)) (j 1) : EReal))
    (fun t h j => by
      idx_vars j
      obtain rfl : j0 = 0 := Subsingleton.elim _ _
      rw [outsAt0_A m c t h h]
      frame_out
      exact (pay3_at _ _ _ _ _ _).trans (congrArg (· + _) (hz _)))
    (fun t h j => by
      idx_vars j
      obtain rfl : j0 = 0 := Subsingleton.elim _ _
      rw [outsAt0_B m c t h h]
      frame_out
      exact pay3_at _ _ _ _ _ _)
    (le_of_eq N_0) t0_3 rfl j, zero_add]
  idx_vars j
  obtain rfl : j0 = 0 := Subsingleton.elim _ _
  refine Eq.trans ?_ (ref33_at _ _ _ _ _ h.1 h.2.1 h.2.2.1 h.2.2.2).symm
  refine (Fin.sum_points_lanes_congr (A := 1) 4 (g := fun _ r => (dnK (fun j => m ((c : Thread nD τ).loc main_arg0) (ix2 r j : S2048x1024.Idx)) (fun j => m ((c : Thread nD τ).loc main_arg1) (ix2 0 j : S1x1024.Idx)) (fun j => m ((c : Thread nD τ).loc main_arg2) (ix2 0 j : S1x1024.Idx)) (fun j => m ((c : Thread nD τ).loc main_arg3) (ix2 r j : S2048x1024.Idx)) j1 * lnXh (fun j => m ((c : Thread nD τ).loc main_arg0) (ix2 r j : S2048x1024.Idx)) j1 : EReal)) fun t k ha hl => ?_).trans (Fin.sum_univ_one _)
  obtain ⟨e0, e3, e1, e2⟩ := rows m c t k
  have ht : t.val % 4 * 512 + k = t.val * 512 + k := by
    have := lt_of_lt_of_eq t.isLt N_0
    omega
  simp only [ht]
  beta_reduce
  simp only [e0, e3, e1, e2]

open Cert.SwishBwdRefIdeal.Read in
theorem final6 (c : Dev nD) (h : Fin4 m c) : (dats m 0 c).arrAt 6 (cfgs 0).N = val_main_v30 (F := Ideal) (m ((c : Thread nD τ).loc main_arg0))
    (m ((c : Thread nD τ).loc main_arg1)) (m ((c : Thread nD τ).loc main_arg2)) (m ((c : Thread nD τ).loc main_arg3)) := by
  have hz : ∀ j : S1x1024.Idx, @Eq EReal (k0_pay4 (F := Ideal) j) 0 := fun j => by
    unfold k0_pay4; pointwise
  refine (dats m 0 c).arrAt_eq_of_after_last 6 t0_3 (by decide +kernel) _ fun j => ?_
  blk_simp
  rw [after0_6, Pipeline.eq_sum_fin_of_reset_step_apply_last (fun n h => (outsAt0 m c n h).2.2) 4 (fun _ => (0 : EReal))
    (fun t j => (∑ r : Fin 512, dnK (fun k => iblk m c 0 t (ix2 r k : S512x1024.Idx)) (fun k => iblk m c 1 t (ix2 0 k : S1x1024.Idx)) (fun k => iblk m c 2 t (ix2 0 k : S1x1024.Idx)) (fun k => iblk m c 3 t (ix2 r k : S512x1024.Idx)) (j 1) : EReal))
    (fun t h j => by
      idx_vars j
      obtain rfl : j0 = 0 := Subsingleton.elim _ _
      rw [outsAt0_A m c t h h]
      frame_out
      exact (pay5_at _ _ _ _ _ _).trans (congrArg (· + _) (hz _)))
    (fun t h j => by
      idx_vars j
      obtain rfl : j0 = 0 := Subsingleton.elim _ _
      rw [outsAt0_B m c t h h]
      frame_out
      exact pay5_at _ _ _ _ _ _)
    (le_of_eq N_0) t0_3 rfl j, zero_add]
  idx_vars j
  obtain rfl : j0 = 0 := Subsingleton.elim _ _
  refine Eq.trans ?_ (ref30_at _ _ _ _ _ h.1 h.2.1 h.2.2.1 h.2.2.2).symm
  refine (Fin.sum_points_lanes_congr (A := 1) 4 (g := fun _ r => (dnK (fun j => m ((c : Thread nD τ).loc main_arg0) (ix2 r j : S2048x1024.Idx)) (fun j => m ((c : Thread nD τ).loc main_arg1) (ix2 0 j : S1x1024.Idx)) (fun j => m ((c : Thread nD τ).loc main_arg2) (ix2 0 j : S1x1024.Idx)) (fun j => m ((c : Thread nD τ).loc main_arg3) (ix2 r j : S2048x1024.Idx)) j1 : EReal)) fun t k ha hl => ?_).trans (Fin.sum_univ_one _)
  obtain ⟨e0, e3, e1, e2⟩ := rows m c t k
  have ht : t.val % 4 * 512 + k = t.val * 512 + k := by
    have := lt_of_lt_of_eq t.isLt N_0
    omega
  simp only [ht]
  beta_reduce
  simp only [e0, e3, e1, e2]

end Cert.SwishBwdIdeal.Hand

namespace Cert.Proof

open Idealize.ShloMosaic Idealize.SL.Sem

theorem fin_Swish [Cert.Pre_swish_finite.Facts] (m : (ℓ : Loc Cert.SwishBwdIdeal.nD Cert.SwishBwdIdeal.τ Cert.SwishBwdIdeal.sig) → Buf (Elt Ideal) ℓ)
    (h : Cert.Pre_SwishBwdIdeal_swish_finite m) (c : Dev Cert.SwishBwdIdeal.nD) : Cert.SwishBwdIdeal.Hand.Fin4 m c :=
  ⟨fun i => IsR.of_lt (congrFun (h c).1 i), fun i => IsR.of_lt (congrFun (h c).2.1 i), fun i => IsR.of_lt (congrFun (h c).2.2.1 i),
    fun i => IsR.of_lt (congrFun (h c).2.2.2 i)⟩

theorem algebraic_Swish [Cert.SwishBwdIdeal.Facts] [Cert.SwishBwdRefIdeal.Facts] [Cert.Pre_swish_finite.Facts] :
    Cert.algebraic_SwishBwdIdeal_SwishBwdRefIdeal_pre_swish_finite := by
  intro m g m' g' hpre hagree
  refine ⟨fun c => (Cert.SwishBwdIdeal.Gen.dats m 0 c).arrAt 4 (Cert.SwishBwdIdeal.cfgs 0).N,
    fun c => (Cert.SwishBwdIdeal.Gen.dats m 0 c).arrAt 5 (Cert.SwishBwdIdeal.cfgs 0).N,
    fun c => (Cert.SwishBwdIdeal.Gen.dats m 0 c).arrAt 6 (Cert.SwishBwdIdeal.cfgs 0).N, ?_, ?_⟩
  · exact (θ_run _ _ _).mono (fun r h c => ⟨(h.1 c).1 4, (h.1 c).1 5, (h.1 c).1 6, h.2 c⟩)
      (θ_run_and (Cert.SwishBwdIdeal.Gen.run_main m g) (Cert.SwishBwdIdeal.Gen.unchanged m g))
  · refine (θ_run _ _ _).mono (fun r h c => ⟨((h c).1).trans ?_, ((h c).2.1).trans ?_, ((h c).2.2.1).trans ?_, (h c).2.2.2⟩) (Cert.SwishBwdRefIdeal.Value.run m' g')
    · refine (Cert.SwishBwdRefIdeal.Read.val_main_v59_eq m' c).trans ?_
      rw [(hagree c).1, (hagree c).2.1, (hagree c).2.2.1, (hagree c).2.2.2]
      exact (Cert.SwishBwdIdeal.Hand.final4 m c (fin_Swish m hpre c)).symm
    · refine (Cert.SwishBwdRefIdeal.Read.val_main_v33_eq m' c).trans ?_
      rw [(hagree c).1, (hagree c).2.1, (hagree c).2.2.1, (hagree c).2.2.2]
      exact (Cert.SwishBwdIdeal.Hand.final5 m c (fin_Swish m hpre c)).symm
    · refine (Cert.SwishBwdRefIdeal.Read.val_main_v30_eq m' c).trans ?_
      rw [(hagree c).1, (hagree c).2.1, (hagree c).2.2.1, (hagree c).2.2.2]
      exact (Cert.SwishBwdIdeal.Hand.final6 m c (fin_Swish m hpre c)).symm

end Cert.Proof

end
-- ==== Proof.Loss.lean ====
/- The loss and the gradient through the last layer norm (`loss_ln_backward`): the kernel's six arrays are the
   reference's on finite arguments. -/
module

public import proofs.«01_k».proof.Defs
public import proofs.«01_k».proof.Proof.Gen.LossBwdIdeal.Value
public import proofs.«01_k».proof.Proof.Gen.LossBwdRefIdeal.Read
public import proofs.«01_k».proof.Proof.LnMath
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.LossBwdIdeal.Hand

open Cert.LossBwdIdeal Cert.LossBwdIdeal.Gen Idealize.ShloMosaic Idealize.ShloMosaic.TcCoe Idealize.SL.Sem
open Idealize.ShloMosaic.Pipeline (Dat)
open Cert.Proof

variable (m : (ℓ : Loc nD τ sig) → Buf (Elt Ideal) ℓ)

/-! ## The row's loss and its gradient -/

/-- The kernel's two constants, one half and one over the width. -/
def cP : EReal := Ideal.ofBits .f32 0x3F000000#32
def cI : EReal := Ideal.ofBits .f32 0x3A800000#32

theorem cP_eq : cP = ((1 / 2 : ℝ) : EReal) := by
  simp [cP, Ideal.ofBits, Ideal.ieee, -EReal.coe_mul]; try norm_num

theorem cI_eq : cI = ((1 / 1024 : ℝ) : EReal) := by
  simp [cI, Ideal.ofBits, Ideal.ieee, -EReal.coe_mul]; try norm_num

/-- The slope of half the mean square, as the reference and as the kernel groups it. -/
theorem slope_eq {e : EReal} (h : IsR e) : Ideal.div cP cN * (c2 * e) = e * cI := by
  obtain ⟨a, rfl⟩ := h
  rw [cP_eq, cI_eq, cN_eq, c2_eq, div_real _ _ (by norm_num), ← EReal.coe_mul, ← EReal.coe_mul, ← EReal.coe_mul]
  congr 1
  ring

/-- One half of a sum of reals is the sum of the halves. -/
theorem half_sum {n : ℕ} (f : Fin n → EReal) (h : ∀ i, IsR (f i)) : cP * ∑ i, f i = ∑ i, cP * f i := by
  choose a ha using h
  obtain rfl : f = fun i => (a i : EReal) := funext ha
  rw [cP_eq, sum_coe, ← EReal.coe_mul, Finset.mul_sum]
  simp only [← EReal.coe_mul]
  rw [sum_coe]

variable (x g b s : Fin 1024 → EReal)

/-- A row's error, its gradient at the normalised row, and its loss. -/
def yL (l : Fin 1024) : EReal := lnXh x l * g l + b l
def eL (l : Fin 1024) : EReal := yL x g b l - s l
def dyL (l : Fin 1024) : EReal := eL x g b s l * cI
def dxL (l : Fin 1024) : EReal := dyL x g b s l * g l
def loL : EReal := Ideal.div (∑ j, eL x g b s j * eL x g b s j) cN

section
variable {x g b s : Fin 1024 → EReal} (hx : ∀ j, IsR (x j)) (hg : ∀ j, IsR (g j)) (hb : ∀ j, IsR (b j)) (hs : ∀ j, IsR (s j))
include hx hg hb hs

theorem eL_isR (l : Fin 1024) : IsR (eL x g b s l) := (((lnXh_isR hx l).mul (hg l)).add (hb l)).sub (hs l)

theorem dxL_isR (l : Fin 1024) : IsR (dxL x g b s l) :=
  ((eL_isR hx hg hb hs l).mul ⟨_, cI_eq⟩).mul (hg l)

theorem loL_isR : IsR (loL x g b s) := by
  refine IsR.div (IsR.sum _ _ fun j => (eL_isR hx hg hb hs j).mul (eL_isR hx hg hb hs j)) ⟨_, cN_eq⟩ ?_
  rw [cN_eq]
  norm_num

end

/-! ## The payloads at an index -/

section
variable (x0 x1 x2 : FVec Ideal S512x1024 .f32) (x3 : FVec Ideal S512x1 .f32) (x4 acc : FVec Ideal S1x1024 .f32) (r : Fin 512) (l : Fin 1024)

theorem pay3_at : @Eq EReal (k0_pay3 (F := Ideal) x0 x1 (ix2 r l)) (x0 (ix2 r l) - x1 (ix2 r l)) := by
  unfold k0_pay3
  pointwise

theorem pay5_at : @Eq EReal (k0_pay5 (F := Ideal) x0 x1 acc (ix2 0 l))
    (acc (ix2 0 l) + cP * ∑ r : Fin 512, Ideal.div (∑ j : Fin 1024, (x0 (ix2 r j) - x1 (ix2 r j)) * (x0 (ix2 r j) - x1 (ix2 r j))) cN) := by
  unfold k0_pay5
  pointwise
  simp only [pay3_at]
  rfl

theorem pay6_at : @Eq EReal (k0_pay6 (F := Ideal) x0 x1 (ix2 r l)) ((x0 (ix2 r l) - x1 (ix2 r l)) * cI) := by
  unfold k0_pay6
  pointwise
  simp only [pay3_at]
  rfl

theorem pay9_at : @Eq EReal (k0_pay9 (F := Ideal) x0 x1 x4 (ix2 r l)) ((x0 (ix2 r l) - x1 (ix2 r l)) * cI * x4 (ix2 0 l)) := by
  unfold k0_pay9
  pointwise
  simp only [pay6_at]

/-- The gradient of the row, of the saved normalised row and its scale. -/
def payR (xh : Fin 1024 → EReal) (rs : EReal) (d : Fin 1024 → EReal) (l : Fin 1024) : EReal :=
  rs * (d l - Ideal.div (∑ j, d j) cN - xh l * Ideal.div (∑ j, d j * xh j) cN)

theorem pay12_at : @Eq EReal (k0_pay12 (F := Ideal) (k0_pay7 x2) (k0_pay8 x3) (k0_pay9 x0 x1 x4) (k0_pay10 x0 x1 x4) k0_pay11 (ix2 r l))
    (payR (fun j => x2 (ix2 r j)) (x3 (ix2 r 0)) (fun j => (x0 (ix2 r j) - x1 (ix2 r j)) * cI * x4 (ix2 0 j)) l) := by
  unfold k0_pay12 k0_pay11 k0_pay10 k0_pay7 k0_pay8
  pointwise
  simp only [pay9_at]
  rfl

theorem pay13_at : @Eq EReal (k0_pay13 (F := Ideal) (k0_pay7 x2) (k0_pay8 x3) (k0_pay9 x0 x1 x4) (k0_pay10 x0 x1 x4) k0_pay11 (ix2 r l))
    (payR (fun j => x2 (ix2 r j)) (x3 (ix2 r 0)) (fun j => (x0 (ix2 r j) - x1 (ix2 r j)) * cI * x4 (ix2 0 j)) l) := by
  unfold k0_pay13
  pointwise
  exact pay12_at x0 x1 x2 x3 x4 r l

theorem pay15_at : @Eq EReal (k0_pay15 (F := Ideal) (k0_pay6 x0 x1) (k0_pay7 x2) acc (ix2 0 l))
    (acc (ix2 0 l) + ∑ r : Fin 512, (x0 (ix2 r l) - x1 (ix2 r l)) * cI * x2 (ix2 r l)) := by
  unfold k0_pay15 k0_pay7
  pointwise
  simp only [pay6_at]

theorem pay17_at : @Eq EReal (k0_pay17 (F := Ideal) (k0_pay6 x0 x1) acc (ix2 0 l))
    (acc (ix2 0 l) + ∑ r : Fin 512, (x0 (ix2 r l) - x1 (ix2 r l)) * cI) := by
  unfold k0_pay17
  pointwise
  simp only [pay6_at]

theorem pay2_at : @Eq EReal (k0_pay2 (F := Ideal) (k0_pay12 (k0_pay7 x2) (k0_pay8 x3) (k0_pay9 x0 x1 x4) (k0_pay10 x0 x1 x4) k0_pay11) acc (ix2 0 l))
    (acc (ix2 0 l) + ∑ r : Fin 512, payR (fun j => x2 (ix2 r j)) (x3 (ix2 r 0)) (fun j => (x0 (ix2 r j) - x1 (ix2 r j)) * cI * x4 (ix2 0 j)) l) := by
  unfold k0_pay2
  pointwise
  simp only [pay12_at]

end

/-! ## The reference's arrays at an index -/

section
open Cert.LossBwdRefIdeal.Read
variable (x0 x3 : FVec Ideal S2048x1024 .f32) (x1 x2 : FVec Ideal S1x1024 .f32) (r : Fin 2048) (l : Fin 1024) (z : Fin 1)

theorem ref2_at : @Eq EReal (val_main_v2 (F := Ideal) x0 (ix2 r l))
    (x0 (ix2 r l)) := by
  pointwise [val_main_cst, val_main_v0, val_main_v1, val_main_v2, val_main_cst_0, val_main_v3, val_main_v4, val_main_cst_1, val_main_v5, val_main_v6, val_main_v7, val_main_v8, val_main_v9, val_main_cst_2, val_main_v10, val_main_v11, val_main_cst_3, val_main_v12, val_main_v13, val_main_cst_4, val_main_v14, val_main_v15, val_main_v16, val_main_v17, val_main_cst_5, val_main_v18, val_main_v19, val_main_v20, val_main_v21, val_main_cst_6, val_main_v22, val_main_v23, val_main_v24, val_main_v25, val_main_v26, val_main_v27, val_main_v28, val_main_v29, val_main_v30, val_main_v31, val_main_cst_7, val_main_v32, val_main_v33, val_main_cst_8, val_main_v34, val_main_cst_9, val_main_v35, val_main_v36, val_main_cst_10, val_main_v37, val_main_cst_11, val_main_v38, val_main_cst_12, val_main_cst_13, val_main_v39, val_main_v40, val_main_cst_14, val_main_v41, val_main_v42, val_main_v43, val_main_v44, val_main_cst_15, val_main_v45, val_main_v46, val_main_v47, val_main_cst_16, val_main_v48, val_main_v49, val_main_v50, val_main_v51, val_main_v52, val_main_cst_17, val_main_v53, val_main_v54, val_main_v55, val_main_v56, val_main_v57, val_main_v58, val_main_cst_18, val_main_v59, val_main_v60, val_main_cst_19, val_main_v61, val_main_v62, val_main_cst_20, val_main_v63, val_main_v64, val_main_v65, val_main_v66, val_main_cst_21, val_main_v67, val_main_v68, val_main_v69, val_main_v70, val_main_cst_22, val_main_v71, val_main_v72, val_main_cst_23, val_main_v73, val_main_v74, val_main_v75, val_main_cst_24, val_main_v76, val_main_v77, val_main_v78, val_main_v79]

theorem ref6_at : @Eq EReal (val_main_v6 (F := Ideal) x0 (ix2 r z))
    (lnMu (fun j => x0 (ix2 r j))) := by
  pointwise [val_main_cst, val_main_v0, val_main_v1, val_main_cst_0, val_main_v3, val_main_v4, val_main_cst_1, val_main_v5, val_main_v6, val_main_v7, val_main_v8, val_main_v9, val_main_cst_2, val_main_v10, val_main_v11, val_main_cst_3, val_main_v12, val_main_v13, val_main_cst_4, val_main_v14, val_main_v15, val_main_v16, val_main_v17, val_main_cst_5, val_main_v18, val_main_v19, val_main_v20, val_main_v21, val_main_cst_6, val_main_v22, val_main_v23, val_main_v24, val_main_v25, val_main_v26, val_main_v27, val_main_v28, val_main_v29, val_main_v30, val_main_v31, val_main_cst_7, val_main_v32, val_main_v33, val_main_cst_8, val_main_v34, val_main_cst_9, val_main_v35, val_main_v36, val_main_cst_10, val_main_v37, val_main_cst_11, val_main_v38, val_main_cst_12, val_main_cst_13, val_main_v39, val_main_v40, val_main_cst_14, val_main_v41, val_main_v42, val_main_v43, val_main_v44, val_main_cst_15, val_main_v45, val_main_v46, val_main_v47, val_main_cst_16, val_main_v48, val_main_v49, val_main_v50, val_main_v51, val_main_v52, val_main_cst_17, val_main_v53, val_main_v54, val_main_v55, val_main_v56, val_main_v57, val_main_v58, val_main_cst_18, val_main_v59, val_main_v60, val_main_cst_19, val_main_v61, val_main_v62, val_main_cst_20, val_main_v63, val_main_v64, val_main_v65, val_main_v66, val_main_cst_21, val_main_v67, val_main_v68, val_main_v69, val_main_v70, val_main_cst_22, val_main_v71, val_main_v72, val_main_cst_23, val_main_v73, val_main_v74, val_main_v75, val_main_cst_24, val_main_v76, val_main_v77, val_main_v78, val_main_v79]
  simp only [ref2_at]
  rfl

theorem ref17_at : @Eq EReal (val_main_v17 (F := Ideal) x0 (ix2 r l))
    (x0 (ix2 r l) - lnMu (fun j => x0 (ix2 r j))) := by
  pointwise [val_main_cst, val_main_v0, val_main_v1, val_main_cst_0, val_main_v3, val_main_v4, val_main_cst_1, val_main_v5, val_main_v7, val_main_v8, val_main_v9, val_main_cst_2, val_main_v10, val_main_v11, val_main_cst_3, val_main_v12, val_main_v13, val_main_cst_4, val_main_v14, val_main_v15, val_main_v16, val_main_v17, val_main_cst_5, val_main_v18, val_main_v19, val_main_v20, val_main_v21, val_main_cst_6, val_main_v22, val_main_v23, val_main_v24, val_main_v25, val_main_v26, val_main_v27, val_main_v28, val_main_v29, val_main_v30, val_main_v31, val_main_cst_7, val_main_v32, val_main_v33, val_main_cst_8, val_main_v34, val_main_cst_9, val_main_v35, val_main_v36, val_main_cst_10, val_main_v37, val_main_cst_11, val_main_v38, val_main_cst_12, val_main_cst_13, val_main_v39, val_main_v40, val_main_cst_14, val_main_v41, val_main_v42, val_main_v43, val_main_v44, val_main_cst_15, val_main_v45, val_main_v46, val_main_v47, val_main_cst_16, val_main_v48, val_main_v49, val_main_v50, val_main_v51, val_main_v52, val_main_cst_17, val_main_v53, val_main_v54, val_main_v55, val_main_v56, val_main_v57, val_main_v58, val_main_cst_18, val_main_v59, val_main_v60, val_main_cst_19, val_main_v61, val_main_v62, val_main_cst_20, val_main_v63, val_main_v64, val_main_v65, val_main_v66, val_main_cst_21, val_main_v67, val_main_v68, val_main_v69, val_main_v70, val_main_cst_22, val_main_v71, val_main_v72, val_main_cst_23, val_main_v73, val_main_v74, val_main_v75, val_main_cst_24, val_main_v76, val_main_v77, val_main_v78, val_main_v79]
  simp only [ref2_at, ref6_at]

theorem ref19_at : @Eq EReal (val_main_v19 (F := Ideal) x0 (ix2 r z))
    (lnVe (fun j => x0 (ix2 r j))) := by
  pointwise [val_main_cst, val_main_v0, val_main_v1, val_main_cst_0, val_main_v3, val_main_v4, val_main_cst_1, val_main_v5, val_main_v7, val_main_v8, val_main_v9, val_main_cst_2, val_main_v10, val_main_v11, val_main_cst_3, val_main_v12, val_main_v13, val_main_cst_4, val_main_v14, val_main_v15, val_main_v16, val_main_cst_5, val_main_v18, val_main_v19, val_main_v20, val_main_v21, val_main_cst_6, val_main_v22, val_main_v23, val_main_v24, val_main_v25, val_main_v26, val_main_v27, val_main_v28, val_main_v29, val_main_v30, val_main_v31, val_main_cst_7, val_main_v32, val_main_v33, val_main_cst_8, val_main_v34, val_main_cst_9, val_main_v35, val_main_v36, val_main_cst_10, val_main_v37, val_main_cst_11, val_main_v38, val_main_cst_12, val_main_cst_13, val_main_v39, val_main_v40, val_main_cst_14, val_main_v41, val_main_v42, val_main_v43, val_main_v44, val_main_cst_15, val_main_v45, val_main_v46, val_main_v47, val_main_cst_16, val_main_v48, val_main_v49, val_main_v50, val_main_v51, val_main_v52, val_main_cst_17, val_main_v53, val_main_v54, val_main_v55, val_main_v56, val_main_v57, val_main_v58, val_main_cst_18, val_main_v59, val_main_v60, val_main_cst_19, val_main_v61, val_main_v62, val_main_cst_20, val_main_v63, val_main_v64, val_main_v65, val_main_v66, val_main_cst_21, val_main_v67, val_main_v68, val_main_v69, val_main_v70, val_main_cst_22, val_main_v71, val_main_v72, val_main_cst_23, val_main_v73, val_main_v74, val_main_v75, val_main_cst_24, val_main_v76, val_main_v77, val_main_v78, val_main_v79]
  simp only [ref2_at, ref6_at, ref17_at]
  rfl

theorem ref20_at : @Eq EReal (val_main_v20 (F := Ideal) x0 (ix2 r z))
    (lnRs (fun j => x0 (ix2 r j))) := by
  pointwise [val_main_cst, val_main_v0, val_main_v1, val_main_cst_0, val_main_v3, val_main_v4, val_main_cst_1, val_main_v5, val_main_v7, val_main_v8, val_main_v9, val_main_cst_2, val_main_v10, val_main_v11, val_main_cst_3, val_main_v12, val_main_v13, val_main_cst_4, val_main_v14, val_main_v15, val_main_v16, val_main_cst_5, val_main_v18, val_main_v20, val_main_v21, val_main_cst_6, val_main_v22, val_main_v23, val_main_v24, val_main_v25, val_main_v26, val_main_v27, val_main_v28, val_main_v29, val_main_v30, val_main_v31, val_main_cst_7, val_main_v32, val_main_v33, val_main_cst_8, val_main_v34, val_main_cst_9, val_main_v35, val_main_v36, val_main_cst_10, val_main_v37, val_main_cst_11, val_main_v38, val_main_cst_12, val_main_cst_13, val_main_v39, val_main_v40, val_main_cst_14, val_main_v41, val_main_v42, val_main_v43, val_main_v44, val_main_cst_15, val_main_v45, val_main_v46, val_main_v47, val_main_cst_16, val_main_v48, val_main_v49, val_main_v50, val_main_v51, val_main_v52, val_main_cst_17, val_main_v53, val_main_v54, val_main_v55, val_main_v56, val_main_v57, val_main_v58, val_main_cst_18, val_main_v59, val_main_v60, val_main_cst_19, val_main_v61, val_main_v62, val_main_cst_20, val_main_v63, val_main_v64, val_main_v65, val_main_v66, val_main_cst_21, val_main_v67, val_main_v68, val_main_v69, val_main_v70, val_main_cst_22, val_main_v71, val_main_v72, val_main_cst_23, val_main_v73, val_main_v74, val_main_v75, val_main_cst_24, val_main_v76, val_main_v77, val_main_v78, val_main_v79]
  simp only [ref19_at]
  rfl

theorem ref25_at : @Eq EReal (val_main_v25 (F := Ideal) x0 (ix2 r l))
    (lnXh (fun j => x0 (ix2 r j)) l) := by
  pointwise [val_main_cst, val_main_v0, val_main_v1, val_main_cst_0, val_main_v3, val_main_v4, val_main_cst_1, val_main_v5, val_main_v7, val_main_v8, val_main_v9, val_main_cst_2, val_main_v10, val_main_v11, val_main_cst_3, val_main_v12, val_main_v13, val_main_cst_4, val_main_v14, val_main_v15, val_main_v16, val_main_cst_5, val_main_v18, val_main_v21, val_main_cst_6, val_main_v22, val_main_v23, val_main_v24, val_main_v25, val_main_v26, val_main_v27, val_main_v28, val_main_v29, val_main_v30, val_main_v31, val_main_cst_7, val_main_v32, val_main_v33, val_main_cst_8, val_main_v34, val_main_cst_9, val_main_v35, val_main_v36, val_main_cst_10, val_main_v37, val_main_cst_11, val_main_v38, val_main_cst_12, val_main_cst_13, val_main_v39, val_main_v40, val_main_cst_14, val_main_v41, val_main_v42, val_main_v43, val_main_v44, val_main_cst_15, val_main_v45, val_main_v46, val_main_v47, val_main_cst_16, val_main_v48, val_main_v49, val_main_v50, val_main_v51, val_main_v52, val_main_cst_17, val_main_v53, val_main_v54, val_main_v55, val_main_v56, val_main_v57, val_main_v58, val_main_cst_18, val_main_v59, val_main_v60, val_main_cst_19, val_main_v61, val_main_v62, val_main_cst_20, val_main_v63, val_main_v64, val_main_v65, val_main_v66, val_main_cst_21, val_main_v67, val_main_v68, val_main_v69, val_main_v70, val_main_cst_22, val_main_v71, val_main_v72, val_main_cst_23, val_main_v73, val_main_v74, val_main_v75, val_main_cst_24, val_main_v76, val_main_v77, val_main_v78, val_main_v79]
  simp only [ref17_at, ref2_at, ref6_at, ref20_at]
  rfl

theorem ref29_at : @Eq EReal (val_main_v29 (F := Ideal) x0 x1 x2 (ix2 r l))
    (yL (fun j => x0 (ix2 r j)) (fun j => x1 (ix2 0 j)) (fun j => x2 (ix2 0 j)) l) := by
  pointwise [val_main_cst, val_main_v0, val_main_v1, val_main_cst_0, val_main_v3, val_main_v4, val_main_cst_1, val_main_v5, val_main_v7, val_main_v8, val_main_v9, val_main_cst_2, val_main_v10, val_main_v11, val_main_cst_3, val_main_v12, val_main_v13, val_main_cst_4, val_main_v14, val_main_v15, val_main_v16, val_main_cst_5, val_main_v18, val_main_v21, val_main_cst_6, val_main_v22, val_main_v23, val_main_v24, val_main_v26, val_main_v27, val_main_v28, val_main_v29, val_main_v30, val_main_v31, val_main_cst_7, val_main_v32, val_main_v33, val_main_cst_8, val_main_v34, val_main_cst_9, val_main_v35, val_main_v36, val_main_cst_10, val_main_v37, val_main_cst_11, val_main_v38, val_main_cst_12, val_main_cst_13, val_main_v39, val_main_v40, val_main_cst_14, val_main_v41, val_main_v42, val_main_v43, val_main_v44, val_main_cst_15, val_main_v45, val_main_v46, val_main_v47, val_main_cst_16, val_main_v48, val_main_v49, val_main_v50, val_main_v51, val_main_v52, val_main_cst_17, val_main_v53, val_main_v54, val_main_v55, val_main_v56, val_main_v57, val_main_v58, val_main_cst_18, val_main_v59, val_main_v60, val_main_cst_19, val_main_v61, val_main_v62, val_main_cst_20, val_main_v63, val_main_v64, val_main_v65, val_main_v66, val_main_cst_21, val_main_v67, val_main_v68, val_main_v69, val_main_v70, val_main_cst_22, val_main_v71, val_main_v72, val_main_cst_23, val_main_v73, val_main_v74, val_main_v75, val_main_cst_24, val_main_v76, val_main_v77, val_main_v78, val_main_v79]
  simp only [ref25_at]
  rfl

variable (h0 : ∀ i, IsR (x0 i)) (h1 : ∀ i, IsR (x1 i)) (h2 : ∀ i, IsR (x2 i)) (h3 : ∀ i, IsR (x3 i))
include h0 h1 h2 h3

theorem ref44_at : @Eq EReal (val_main_v44 (F := Ideal) x0 x1 x2 x3 (ix2 r l))
    (dyL (fun j => x0 (ix2 r j)) (fun j => x1 (ix2 0 j)) (fun j => x2 (ix2 0 j)) (fun j => x3 (ix2 r j)) l) := by
  pointwise [val_main_cst, val_main_v0, val_main_v1, val_main_cst_0, val_main_v3, val_main_v4, val_main_cst_1, val_main_v5, val_main_v7, val_main_v8, val_main_v9, val_main_cst_2, val_main_v10, val_main_v11, val_main_cst_3, val_main_v12, val_main_v13, val_main_cst_4, val_main_v14, val_main_v15, val_main_v16, val_main_cst_5, val_main_v18, val_main_v21, val_main_cst_6, val_main_v22, val_main_v23, val_main_v24, val_main_v26, val_main_v27, val_main_v28, val_main_v30, val_main_v31, val_main_cst_7, val_main_v32, val_main_v33, val_main_cst_8, val_main_v34, val_main_cst_9, val_main_v35, val_main_v36, val_main_cst_10, val_main_v37, val_main_cst_11, val_main_v38, val_main_cst_12, val_main_cst_13, val_main_v39, val_main_v40, val_main_cst_14, val_main_v41, val_main_v42, val_main_v43, val_main_v44, val_main_cst_15, val_main_v45, val_main_v46, val_main_v47, val_main_cst_16, val_main_v48, val_main_v49, val_main_v50, val_main_v51, val_main_v52, val_main_cst_17, val_main_v53, val_main_v54, val_main_v55, val_main_v56, val_main_v57, val_main_v58, val_main_cst_18, val_main_v59, val_main_v60, val_main_cst_19, val_main_v61, val_main_v62, val_main_cst_20, val_main_v63, val_main_v64, val_main_v65, val_main_v66, val_main_cst_21, val_main_v67, val_main_v68, val_main_v69, val_main_v70, val_main_cst_22, val_main_v71, val_main_v72, val_main_cst_23, val_main_v73, val_main_v74, val_main_v75, val_main_cst_24, val_main_v76, val_main_v77, val_main_v78, val_main_v79]
  simp only [ref29_at]
  exact slope_eq (eL_isR (x := (fun j => x0 (ix2 r j))) (g := fun j => x1 (ix2 0 j)) (b := fun j => x2 (ix2 0 j)) (s := fun j => x3 (ix2 r j)) (fun _ => h0 _) (fun _ => h1 _) (fun _ => h2 _) (fun _ => h3 _) l)

theorem ref51_at : @Eq EReal (val_main_v51 (F := Ideal) x0 x1 x2 x3 (ix2 r l))
    (dxL (fun j => x0 (ix2 r j)) (fun j => x1 (ix2 0 j)) (fun j => x2 (ix2 0 j)) (fun j => x3 (ix2 r j)) l) := by
  pointwise [val_main_cst, val_main_v0, val_main_v1, val_main_cst_0, val_main_v3, val_main_v4, val_main_cst_1, val_main_v5, val_main_v7, val_main_v8, val_main_v9, val_main_cst_2, val_main_v10, val_main_v11, val_main_cst_3, val_main_v12, val_main_v13, val_main_cst_4, val_main_v14, val_main_v15, val_main_v16, val_main_cst_5, val_main_v18, val_main_v21, val_main_cst_6, val_main_v22, val_main_v23, val_main_v24, val_main_v26, val_main_v27, val_main_v28, val_main_v30, val_main_v31, val_main_cst_7, val_main_v32, val_main_v33, val_main_cst_8, val_main_v34, val_main_cst_9, val_main_v35, val_main_v36, val_main_cst_10, val_main_v37, val_main_cst_11, val_main_v38, val_main_cst_12, val_main_cst_13, val_main_v39, val_main_v40, val_main_cst_14, val_main_v41, val_main_v42, val_main_v43, val_main_cst_15, val_main_v45, val_main_v46, val_main_v47, val_main_cst_16, val_main_v48, val_main_v49, val_main_v50, val_main_v51, val_main_v52, val_main_cst_17, val_main_v53, val_main_v54, val_main_v55, val_main_v56, val_main_v57, val_main_v58, val_main_cst_18, val_main_v59, val_main_v60, val_main_cst_19, val_main_v61, val_main_v62, val_main_cst_20, val_main_v63, val_main_v64, val_main_v65, val_main_v66, val_main_cst_21, val_main_v67, val_main_v68, val_main_v69, val_main_v70, val_main_cst_22, val_main_v71, val_main_v72, val_main_cst_23, val_main_v73, val_main_v74, val_main_v75, val_main_cst_24, val_main_v76, val_main_v77, val_main_v78, val_main_v79]
  simp only [ref44_at x0 x3 x1 x2 _ _ h0 h1 h2 h3]
  rfl

theorem ref56_at : @Eq EReal (val_main_v56 (F := Ideal) x0 x1 x2 x3 (ix2 r l))
    (lnPart (fun j => x0 (ix2 r j)) (dxL (fun j => x0 (ix2 r j)) (fun j => x1 (ix2 0 j)) (fun j => x2 (ix2 0 j)) (fun j => x3 (ix2 r j))) l) := by
  pointwise [val_main_cst, val_main_v0, val_main_v1, val_main_cst_0, val_main_v3, val_main_v4, val_main_cst_1, val_main_v5, val_main_v7, val_main_v8, val_main_v9, val_main_cst_2, val_main_v10, val_main_v11, val_main_cst_3, val_main_v12, val_main_v13, val_main_cst_4, val_main_v14, val_main_v15, val_main_v16, val_main_cst_5, val_main_v18, val_main_v21, val_main_cst_6, val_main_v22, val_main_v23, val_main_v24, val_main_v26, val_main_v27, val_main_v28, val_main_v30, val_main_v31, val_main_cst_7, val_main_v32, val_main_v33, val_main_cst_8, val_main_v34, val_main_cst_9, val_main_v35, val_main_v36, val_main_cst_10, val_main_v37, val_main_cst_11, val_main_v38, val_main_cst_12, val_main_cst_13, val_main_v39, val_main_v40, val_main_cst_14, val_main_v41, val_main_v42, val_main_v43, val_main_cst_15, val_main_v45, val_main_v46, val_main_v47, val_main_cst_16, val_main_v48, val_main_v49, val_main_v50, val_main_v52, val_main_cst_17, val_main_v53, val_main_v54, val_main_v55, val_main_v56, val_main_v57, val_main_v58, val_main_cst_18, val_main_v59, val_main_v60, val_main_cst_19, val_main_v61, val_main_v62, val_main_cst_20, val_main_v63, val_main_v64, val_main_v65, val_main_v66, val_main_cst_21, val_main_v67, val_main_v68, val_main_v69, val_main_v70, val_main_cst_22, val_main_v71, val_main_v72, val_main_cst_23, val_main_v73, val_main_v74, val_main_v75, val_main_cst_24, val_main_v76, val_main_v77, val_main_v78, val_main_v79]
  simp only [ref20_at, ref51_at x0 x3 x1 x2 _ _ h0 h1 h2 h3]
  rfl

theorem ref65_at : @Eq EReal (val_main_v65 (F := Ideal) x0 x1 x2 x3 (ix2 r l))
    (lnVar (fun j => x0 (ix2 r j)) (dxL (fun j => x0 (ix2 r j)) (fun j => x1 (ix2 0 j)) (fun j => x2 (ix2 0 j)) (fun j => x3 (ix2 r j))) l) := by
  pointwise [val_main_cst, val_main_v0, val_main_v1, val_main_cst_0, val_main_v3, val_main_v4, val_main_cst_1, val_main_v5, val_main_v7, val_main_v8, val_main_v9, val_main_cst_2, val_main_v10, val_main_v11, val_main_cst_3, val_main_v12, val_main_v13, val_main_cst_4, val_main_v14, val_main_v15, val_main_v16, val_main_cst_5, val_main_v18, val_main_v21, val_main_cst_6, val_main_v22, val_main_v23, val_main_v24, val_main_v26, val_main_v27, val_main_v28, val_main_v30, val_main_v31, val_main_cst_7, val_main_v32, val_main_v33, val_main_cst_8, val_main_v34, val_main_cst_9, val_main_v35, val_main_v36, val_main_cst_10, val_main_v37, val_main_cst_11, val_main_v38, val_main_cst_12, val_main_cst_13, val_main_v39, val_main_v40, val_main_cst_14, val_main_v41, val_main_v42, val_main_v43, val_main_cst_15, val_main_v45, val_main_v46, val_main_v47, val_main_cst_16, val_main_v48, val_main_v49, val_main_v50, val_main_v52, val_main_cst_17, val_main_v53, val_main_v54, val_main_v55, val_main_v57, val_main_v58, val_main_cst_18, val_main_v59, val_main_v60, val_main_cst_19, val_main_v61, val_main_v62, val_main_cst_20, val_main_v63, val_main_v64, val_main_v65, val_main_v66, val_main_cst_21, val_main_v67, val_main_v68, val_main_v69, val_main_v70, val_main_cst_22, val_main_v71, val_main_v72, val_main_cst_23, val_main_v73, val_main_v74, val_main_v75, val_main_cst_24, val_main_v76, val_main_v77, val_main_v78, val_main_v79]
  simp only [ref2_at, ref6_at, ref17_at, ref19_at, ref20_at, ref51_at x0 x3 x1 x2 _ _ h0 h1 h2 h3]
  rfl

theorem ref75_at : @Eq EReal (val_main_v75 (F := Ideal) x0 x1 x2 x3 (ix2 r l))
    (lnGradK (fun j => x0 (ix2 r j)) (dxL (fun j => x0 (ix2 r j)) (fun j => x1 (ix2 0 j)) (fun j => x2 (ix2 0 j)) (fun j => x3 (ix2 r j))) l) := by
  pointwise [val_main_cst, val_main_v0, val_main_v1, val_main_cst_0, val_main_v3, val_main_v4, val_main_cst_1, val_main_v5, val_main_v7, val_main_v8, val_main_v9, val_main_cst_2, val_main_v10, val_main_v11, val_main_cst_3, val_main_v12, val_main_v13, val_main_cst_4, val_main_v14, val_main_v15, val_main_v16, val_main_cst_5, val_main_v18, val_main_v21, val_main_cst_6, val_main_v22, val_main_v23, val_main_v24, val_main_v26, val_main_v27, val_main_v28, val_main_v30, val_main_v31, val_main_cst_7, val_main_v32, val_main_v33, val_main_cst_8, val_main_v34, val_main_cst_9, val_main_v35, val_main_v36, val_main_cst_10, val_main_v37, val_main_cst_11, val_main_v38, val_main_cst_12, val_main_cst_13, val_main_v39, val_main_v40, val_main_cst_14, val_main_v41, val_main_v42, val_main_v43, val_main_cst_15, val_main_v45, val_main_v46, val_main_v47, val_main_cst_16, val_main_v48, val_main_v49, val_main_v50, val_main_v52, val_main_cst_17, val_main_v53, val_main_v54, val_main_v55, val_main_v57, val_main_v58, val_main_cst_18, val_main_v59, val_main_v60, val_main_cst_19, val_main_v61, val_main_v62, val_main_cst_20, val_main_v63, val_main_v64, val_main_v66, val_main_cst_21, val_main_v67, val_main_v68, val_main_v69, val_main_v70, val_main_cst_22, val_main_v71, val_main_v72, val_main_cst_23, val_main_v73, val_main_v74, val_main_v75, val_main_cst_24, val_main_v76, val_main_v77, val_main_v78, val_main_v79]
  simp only [ref56_at x0 x3 x1 x2 _ _ h0 h1 h2 h3, ref65_at x0 x3 x1 x2 _ _ h0 h1 h2 h3]
  exact lnGrad_eq (fun j => h0 _) (dxL_isR (x := (fun j => x0 (ix2 r j))) (fun _ => h0 _) (fun _ => h1 _) (fun _ => h2 _) (fun _ => h3 _)) l

theorem ref78_at : @Eq EReal (val_main_v78 (F := Ideal) x0 x1 x2 x3 (ix2 r l))
    (lnGradK (fun j => x0 (ix2 r j)) (dxL (fun j => x0 (ix2 r j)) (fun j => x1 (ix2 0 j)) (fun j => x2 (ix2 0 j)) (fun j => x3 (ix2 r j))) l) := by
  pointwise [val_main_cst, val_main_v0, val_main_v1, val_main_cst_0, val_main_v3, val_main_v4, val_main_cst_1, val_main_v5, val_main_v7, val_main_v8, val_main_v9, val_main_cst_2, val_main_v10, val_main_v11, val_main_cst_3, val_main_v12, val_main_v13, val_main_cst_4, val_main_v14, val_main_v15, val_main_v16, val_main_cst_5, val_main_v18, val_main_v21, val_main_cst_6, val_main_v22, val_main_v23, val_main_v24, val_main_v26, val_main_v27, val_main_v28, val_main_v30, val_main_v31, val_main_cst_7, val_main_v32, val_main_v33, val_main_cst_8, val_main_v34, val_main_cst_9, val_main_v35, val_main_v36, val_main_cst_10, val_main_v37, val_main_cst_11, val_main_v38, val_main_cst_12, val_main_cst_13, val_main_v39, val_main_v40, val_main_cst_14, val_main_v41, val_main_v42, val_main_v43, val_main_cst_15, val_main_v45, val_main_v46, val_main_v47, val_main_cst_16, val_main_v48, val_main_v49, val_main_v50, val_main_v52, val_main_cst_17, val_main_v53, val_main_v54, val_main_v55, val_main_v57, val_main_v58, val_main_cst_18, val_main_v59, val_main_v60, val_main_cst_19, val_main_v61, val_main_v62, val_main_cst_20, val_main_v63, val_main_v64, val_main_v66, val_main_cst_21, val_main_v67, val_main_v68, val_main_v69, val_main_v70, val_main_cst_22, val_main_v71, val_main_v72, val_main_cst_23, val_main_v73, val_main_v74, val_main_cst_24, val_main_v76, val_main_v77, val_main_v78, val_main_v79]
  exact ref75_at x0 x3 x1 x2 _ _ h0 h1 h2 h3

theorem ref46_at : @Eq EReal (val_main_v46 (F := Ideal) x0 x1 x2 x3 (ix2 0 l))
    (∑ r : Fin 2048, dyL (fun j => x0 (ix2 r j)) (fun j => x1 (ix2 0 j)) (fun j => x2 (ix2 0 j)) (fun j => x3 (ix2 r j)) l) := by
  pointwise [val_main_cst, val_main_v0, val_main_v1, val_main_cst_0, val_main_v3, val_main_v4, val_main_cst_1, val_main_v5, val_main_v7, val_main_v8, val_main_v9, val_main_cst_2, val_main_v10, val_main_v11, val_main_cst_3, val_main_v12, val_main_v13, val_main_cst_4, val_main_v14, val_main_v15, val_main_v16, val_main_cst_5, val_main_v18, val_main_v21, val_main_cst_6, val_main_v22, val_main_v23, val_main_v24, val_main_v26, val_main_v27, val_main_v28, val_main_v30, val_main_v31, val_main_cst_7, val_main_v32, val_main_v33, val_main_cst_8, val_main_v34, val_main_cst_9, val_main_v35, val_main_v36, val_main_cst_10, val_main_v37, val_main_cst_11, val_main_v38, val_main_cst_12, val_main_cst_13, val_main_v39, val_main_v40, val_main_cst_14, val_main_v41, val_main_v42, val_main_v43, val_main_cst_15, val_main_v45, val_main_v46, val_main_v47, val_main_cst_16, val_main_v48, val_main_v49, val_main_v50, val_main_v52, val_main_cst_17, val_main_v53, val_main_v54, val_main_v55, val_main_v57, val_main_v58, val_main_cst_18, val_main_v59, val_main_v60, val_main_cst_19, val_main_v61, val_main_v62, val_main_cst_20, val_main_v63, val_main_v64, val_main_v66, val_main_cst_21, val_main_v67, val_main_v68, val_main_v69, val_main_v70, val_main_cst_22, val_main_v71, val_main_v72, val_main_cst_23, val_main_v73, val_main_v74, val_main_cst_24, val_main_v76, val_main_v77, val_main_v79]
  simp only [ref44_at x0 x3 x1 x2 _ _ h0 h1 h2 h3]

theorem ref49_at : @Eq EReal (val_main_v49 (F := Ideal) x0 x1 x2 x3 (ix2 0 l))
    (∑ r : Fin 2048, dyL (fun j => x0 (ix2 r j)) (fun j => x1 (ix2 0 j)) (fun j => x2 (ix2 0 j)) (fun j => x3 (ix2 r j)) l * lnXh (fun j => x0 (ix2 r j)) l) := by
  pointwise [val_main_cst, val_main_v0, val_main_v1, val_main_cst_0, val_main_v3, val_main_v4, val_main_cst_1, val_main_v5, val_main_v7, val_main_v8, val_main_v9, val_main_cst_2, val_main_v10, val_main_v11, val_main_cst_3, val_main_v12, val_main_v13, val_main_cst_4, val_main_v14, val_main_v15, val_main_v16, val_main_cst_5, val_main_v18, val_main_v21, val_main_cst_6, val_main_v22, val_main_v23, val_main_v24, val_main_v26, val_main_v27, val_main_v28, val_main_v30, val_main_v31, val_main_cst_7, val_main_v32, val_main_v33, val_main_cst_8, val_main_v34, val_main_cst_9, val_main_v35, val_main_v36, val_main_cst_10, val_main_v37, val_main_cst_11, val_main_v38, val_main_cst_12, val_main_cst_13, val_main_v39, val_main_v40, val_main_cst_14, val_main_v41, val_main_v42, val_main_v43, val_main_cst_15, val_main_v45, val_main_v47, val_main_cst_16, val_main_v48, val_main_v49, val_main_v50, val_main_v52, val_main_cst_17, val_main_v53, val_main_v54, val_main_v55, val_main_v57, val_main_v58, val_main_cst_18, val_main_v59, val_main_v60, val_main_cst_19, val_main_v61, val_main_v62, val_main_cst_20, val_main_v63, val_main_v64, val_main_v66, val_main_cst_21, val_main_v67, val_main_v68, val_main_v69, val_main_v70, val_main_cst_22, val_main_v71, val_main_v72, val_main_cst_23, val_main_v73, val_main_v74, val_main_cst_24, val_main_v76, val_main_v77, val_main_v79]
  simp only [ref25_at, ref44_at x0 x3 x1 x2 _ _ h0 h1 h2 h3]
  try exact Finset.sum_congr rfl fun x _ => mul_comm (G := EReal) _ _

theorem ref77_at : @Eq EReal (val_main_v77 (F := Ideal) x0 x1 x2 x3 (ix2 0 l))
    (∑ r : Fin 2048, lnGradK (fun j => x0 (ix2 r j)) (dxL (fun j => x0 (ix2 r j)) (fun j => x1 (ix2 0 j)) (fun j => x2 (ix2 0 j)) (fun j => x3 (ix2 r j))) l) := by
  pointwise [val_main_cst, val_main_v0, val_main_v1, val_main_cst_0, val_main_v3, val_main_v4, val_main_cst_1, val_main_v5, val_main_v7, val_main_v8, val_main_v9, val_main_cst_2, val_main_v10, val_main_v11, val_main_cst_3, val_main_v12, val_main_v13, val_main_cst_4, val_main_v14, val_main_v15, val_main_v16, val_main_cst_5, val_main_v18, val_main_v21, val_main_cst_6, val_main_v22, val_main_v23, val_main_v24, val_main_v26, val_main_v27, val_main_v28, val_main_v30, val_main_v31, val_main_cst_7, val_main_v32, val_main_v33, val_main_cst_8, val_main_v34, val_main_cst_9, val_main_v35, val_main_v36, val_main_cst_10, val_main_v37, val_main_cst_11, val_main_v38, val_main_cst_12, val_main_cst_13, val_main_v39, val_main_v40, val_main_cst_14, val_main_v41, val_main_v42, val_main_v43, val_main_cst_15, val_main_v45, val_main_v47, val_main_cst_16, val_main_v48, val_main_v50, val_main_v52, val_main_cst_17, val_main_v53, val_main_v54, val_main_v55, val_main_v57, val_main_v58, val_main_cst_18, val_main_v59, val_main_v60, val_main_cst_19, val_main_v61, val_main_v62, val_main_cst_20, val_main_v63, val_main_v64, val_main_v66, val_main_cst_21, val_main_v67, val_main_v68, val_main_v69, val_main_v70, val_main_cst_22, val_main_v71, val_main_v72, val_main_cst_23, val_main_v73, val_main_v74, val_main_cst_24, val_main_v76, val_main_v77, val_main_v79]
  simp only [ref75_at x0 x3 x1 x2 _ _ h0 h1 h2 h3]

theorem ref79_at : @Eq EReal (val_main_v79 (F := Ideal) x0 x1 x2 x3 (ix2 0 l))
    (∑ r : Fin 2048, cP * loL (fun j => x0 (ix2 r j)) (fun j => x1 (ix2 0 j)) (fun j => x2 (ix2 0 j)) (fun j => x3 (ix2 r j))) := by
  pointwise [val_main_cst, val_main_v0, val_main_v1, val_main_cst_0, val_main_v3, val_main_v4, val_main_cst_1, val_main_v5, val_main_v7, val_main_v8, val_main_v9, val_main_cst_2, val_main_v10, val_main_v11, val_main_cst_3, val_main_v12, val_main_v13, val_main_cst_4, val_main_v14, val_main_v15, val_main_v16, val_main_cst_5, val_main_v18, val_main_v21, val_main_cst_6, val_main_v22, val_main_v23, val_main_v24, val_main_v26, val_main_v27, val_main_v28, val_main_v30, val_main_v31, val_main_cst_7, val_main_v32, val_main_v33, val_main_cst_8, val_main_v34, val_main_cst_9, val_main_v35, val_main_v36, val_main_cst_10, val_main_v37, val_main_cst_11, val_main_v38, val_main_cst_12, val_main_cst_13, val_main_v39, val_main_v40, val_main_cst_14, val_main_v41, val_main_v42, val_main_v43, val_main_cst_15, val_main_v45, val_main_v47, val_main_cst_16, val_main_v48, val_main_v50, val_main_v52, val_main_cst_17, val_main_v53, val_main_v54, val_main_v55, val_main_v57, val_main_v58, val_main_cst_18, val_main_v59, val_main_v60, val_main_cst_19, val_main_v61, val_main_v62, val_main_cst_20, val_main_v63, val_main_v64, val_main_v66, val_main_cst_21, val_main_v67, val_main_v68, val_main_v69, val_main_v70, val_main_cst_22, val_main_v71, val_main_v72, val_main_cst_23, val_main_v73, val_main_v74, val_main_cst_24, val_main_v76, val_main_v79]
  simp only [ref29_at]
  exact half_sum (fun r => loL (fun j => x0 (ix2 r j)) (fun j => x1 (ix2 0 j)) (fun j => x2 (ix2 0 j)) (fun j => x3 (ix2 r j))) fun r => loL_isR (x := (fun j => x0 (ix2 r j))) (fun _ => h0 _) (fun _ => h1 _) (fun _ => h2 _) (fun _ => h3 _)

end

/-! ## The saved forward values -/

/-- The arguments' rows. -/
def xR (c : Dev nD) (r : Fin 2048) : Fin 1024 → EReal := fun j => m ((c : Thread nD τ).loc main_arg0) (ix2 r j : S2048x1024.Idx)
def gR (c : Dev nD) : Fin 1024 → EReal := fun j => m ((c : Thread nD τ).loc main_arg1) (ix2 0 j : S1x1024.Idx)
def bR (c : Dev nD) : Fin 1024 → EReal := fun j => m ((c : Thread nD τ).loc main_arg2) (ix2 0 j : S1x1024.Idx)
def sR (c : Dev nD) (r : Fin 2048) : Fin 1024 → EReal := fun j => m ((c : Thread nD τ).loc main_arg3) (ix2 r j : S2048x1024.Idx)

theorem hv15 (c : Dev nD) (r : Fin 2048) (l : Fin 1024) : @Eq EReal (V m c main_v15 (ix2 r l : S2048x1024.Idx)) (lnXh (xR m c r) l) := by
  simp only [V, hostOps0, List.flatten_cons, List.flatten_nil, List.append_nil, List.cons_append, List.nil_append, StableHlo.TRef.binary,
    StableHlo.TRef.unary, StableHlo.TRef.toBuf, StableHlo.TRef.ofBuf, cast_eq]
  after_results
  pointwise
  rfl

theorem hv13 (c : Dev nD) (r : Fin 2048) (z : Fin 1) : @Eq EReal (V m c main_v13 (ix2 r z : S2048x1.Idx)) (lnRs (xR m c r)) := by
  simp only [V, hostOps0, List.flatten_cons, List.flatten_nil, List.append_nil, List.cons_append, List.nil_append, StableHlo.TRef.binary,
    StableHlo.TRef.unary, StableHlo.TRef.toBuf, StableHlo.TRef.ofBuf, cast_eq]
  after_results
  pointwise
  rfl

theorem hv19 (c : Dev nD) (r : Fin 2048) (l : Fin 1024) : @Eq EReal (V m c main_v19 (ix2 r l : S2048x1024.Idx)) (yL (xR m c r) (gR m c) (bR m c) l) := by
  simp only [V, hostOps0, List.flatten_cons, List.flatten_nil, List.append_nil, List.cons_append, List.nil_append, StableHlo.TRef.binary,
    StableHlo.TRef.unary, StableHlo.TRef.toBuf, StableHlo.TRef.ofBuf, cast_eq]
  after_results
  pointwise
  rfl

/-! ## The arrays -/

/-- The windows' block indices at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0] ∧ win0_9.index t = ![0, 0] ∧ win0_10.index t = ![0, 0] :=
  (by decide +kernel : ∀ t : Fin grid0.N, _)

theorem row_lt (t : Fin cfg0.N) (l : Fin 512) : t.val * 512 + l < 2048 := by
  have h : t.val < 4 := lt_of_lt_of_eq t.isLt N_0
  omega

section
variable (c : Dev nD) (t : Fin cfg0.N) (r : Fin 512) (l : Fin 1024)

theorem blk0 : @Eq EReal (iblk m c 0 t (ix2 r l : S512x1024.Idx)) (yL (xR m c ⟨t.val * 512 + r, row_lt t r⟩) (gR m c) (bR m c) l) := by
  rw [show iblk m c 0 t (ix2 r l : S512x1024.Idx) = V m c main_v19 (ix2 ⟨t.val * 512 + r, row_lt t r⟩ l : S2048x1024.Idx) by blk_ext [iblk, idx t]]
  exact hv19 m c _ l

theorem blk1 : @Eq EReal (iblk m c 1 t (ix2 r l : S512x1024.Idx)) (sR m c ⟨t.val * 512 + r, row_lt t r⟩ l) := by
  rw [sR]
  blk_point [iblk, V, idx t]

theorem blk2 : @Eq EReal (iblk m c 2 t (ix2 r l : S512x1024.Idx)) (lnXh (xR m c ⟨t.val * 512 + r, row_lt t r⟩) l) := by
  rw [show iblk m c 2 t (ix2 r l : S512x1024.Idx) = V m c main_v15 (ix2 ⟨t.val * 512 + r, row_lt t r⟩ l : S2048x1024.Idx) by blk_ext [iblk, idx t]]
  exact hv15 m c _ l

theorem blk3 : @Eq EReal (iblk m c 3 t (ix2 r 0 : S512x1.Idx)) (lnRs (xR m c ⟨t.val * 512 + r, row_lt t r⟩)) := by
  rw [show iblk m c 3 t (ix2 r 0 : S512x1.Idx) = V m c main_v13 (ix2 ⟨t.val * 512 + r, row_lt t r⟩ 0 : S2048x1.Idx) by blk_ext [iblk, idx t]]
  exact hv13 m c _ 0

theorem blk4 : @Eq EReal (iblk m c 4 t (ix2 0 l : S1x1024.Idx)) (gR m c l) := by
  rw [gR]
  blk_point [iblk, V, idx t]

end

/-- Every argument is finite. -/
def Fin4 (c : Dev nD) : Prop :=
  (∀ i, IsR (m ((c : Thread nD τ).loc main_arg0) i)) ∧ (∀ i, IsR (m ((c : Thread nD τ).loc main_arg1) i))
  ∧ (∀ i, IsR (m ((c : Thread nD τ).loc main_arg2) i)) ∧ (∀ i, IsR (m ((c : Thread nD τ).loc main_arg3) i))

open Cert.LossBwdRefIdeal.Read in
theorem final5 (c : Dev nD) (h : Fin4 m c) : (dats m 0 c).arrAt 5 (cfgs 0).N = val_main_v75 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  idx_vars y
  rw [show ((cfg0.win 5).blk t).view.emb (ix2 y0 y1 : S512x1024.Idx) = (ix2 ⟨t.val * 512 + y0, row_lt t y0⟩ y1 : S2048x1024.Idx) by blk_ext [idx t]]
  have key : ∀ y : S512x1024.Idx, (outsAt0 m c t.val t.isLt).1 y = k0_pay12 (F := Ideal) (k0_pay7 (iblk m c 2 t)) (k0_pay8 (iblk m c 3 t)) (k0_pay9 (iblk m c 0 t) (iblk m c 1 t) (iblk m c 4 t)) (k0_pay10 (iblk m c 0 t) (iblk m c 1 t) (iblk m c 4 t)) k0_pay11 y := by
    intro y
    by_cases h0 : t.val % 4 = 0
    · rw [outsAt0_A m c t h0 h0 h0 h0]; frame_out
    · rw [outsAt0_B m c t h0 h0 h0 h0]; frame_out
  refine (key _).trans ((pay12_at _ _ _ _ _ y0 y1).trans (Eq.trans ?_ (ref75_at _ _ _ _ _ _ h.1 h.2.1 h.2.2.1 h.2.2.2).symm))
  simp only [blk0, blk1, blk2, blk3, blk4]
  rfl

open Cert.LossBwdRefIdeal.Read in
theorem final6 (c : Dev nD) (h : Fin4 m c) : (dats m 0 c).arrAt 6 (cfgs 0).N = val_main_v78 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  idx_vars y
  rw [show ((cfg0.win 6).blk t).view.emb (ix2 y0 y1 : S512x1024.Idx) = (ix2 ⟨t.val * 512 + y0, row_lt t y0⟩ y1 : S2048x1024.Idx) by blk_ext [idx t]]
  have key : ∀ y : S512x1024.Idx, (outsAt0 m c t.val t.isLt).2.1 y = k0_pay13 (F := Ideal) (k0_pay7 (iblk m c 2 t)) (k0_pay8 (iblk m c 3 t)) (k0_pay9 (iblk m c 0 t) (iblk m c 1 t) (iblk m c 4 t)) (k0_pay10 (iblk m c 0 t) (iblk m c 1 t) (iblk m c 4 t)) k0_pay11 y := by
    intro y
    by_cases h0 : t.val % 4 = 0
    · rw [outsAt0_A m c t h0 h0 h0 h0]; frame_out
    · rw [outsAt0_B m c t h0 h0 h0 h0]; frame_out
  refine (key _).trans ((pay13_at _ _ _ _ _ y0 y1).trans (Eq.trans ?_ (ref78_at _ _ _ _ _ _ h.1 h.2.1 h.2.2.1 h.2.2.2).symm))
  simp only [blk0, blk1, blk2, blk3, blk4]
  rfl

open Cert.LossBwdRefIdeal.Read in
theorem final7 (c : Dev nD) (h : Fin4 m c) : (dats m 0 c).arrAt 7 (cfgs 0).N = val_main_v49 (F := Ideal) (m ((c : Thread nD τ).loc main_arg0)) (m ((c : Thread nD τ).loc main_arg1)) (m ((c : Thread nD τ).loc main_arg2)) (m ((c : Thread nD τ).loc main_arg3)) := by
  have hz : ∀ j : S1x1024.Idx, @Eq EReal (k0_pay14 (F := Ideal) j) 0 := fun j => by
    unfold k0_pay14; pointwise
  refine (dats m 0 c).arrAt_eq_of_after_last 7 t0_3 (by decide +kernel) _ fun j => ?_
  blk_simp
  rw [after0_7, Pipeline.eq_sum_fin_of_reset_step_apply_last (fun n h => (outsAt0 m c n h).2.2.1) 4 (fun _ => (0 : EReal))
    (fun t j => (∑ r : Fin 512, dyL (xR m c ⟨t.val * 512 + r, row_lt t r⟩) (gR m c) (bR m c) (sR m c ⟨t.val * 512 + r, row_lt t r⟩) (j 1) * lnXh (xR m c ⟨t.val * 512 + r, row_lt t r⟩) (j 1) : EReal))
    (fun t h0 j => by
      idx_vars j
      obtain rfl : j0 = 0 := Subsingleton.elim _ _
      rw [outsAt0_A m c t h0 h0 h0 h0]
      frame_out
      refine (pay15_at _ _ _ _ _).trans ?_
      rw [hz _]
      simp only [blk0, blk1, blk2, blk3, blk4]
      rfl)
    (fun t h0 j => by
      idx_vars j
      obtain rfl : j0 = 0 := Subsingleton.elim _ _
      rw [outsAt0_B m c t h0 h0 h0 h0]
      frame_out
      refine (pay15_at _ _ _ _ _).trans ?_
      simp only [blk0, blk1, blk2, blk3, blk4]
      rfl)
    (le_of_eq N_0) t0_3 rfl j, zero_add]
  idx_vars j
  obtain rfl : j0 = 0 := Subsingleton.elim _ _
  refine Eq.trans ?_ (ref49_at _ _ _ _ _ h.1 h.2.1 h.2.2.1 h.2.2.2).symm
  refine (Fin.sum_points_lanes_congr (A := 1) 4 (g := fun _ r => (dyL (xR m c r) (gR m c) (bR m c) (sR m c r) j1 * lnXh (xR m c r) j1 : EReal)) fun t k ha hl => ?_).trans (Fin.sum_univ_one _)
  have ht : t.val % 4 * 512 + k = t.val * 512 + k := by
    have := lt_of_lt_of_eq t.isLt N_0
    omega
  simp only [ht]

open Cert.LossBwdRefIdeal.Read in
theorem final8 (c : Dev nD) (h : Fin4 m c) : (dats m 0 c).arrAt 8 (cfgs 0).N = val_main_v46 (F := Ideal) (m ((c : Thread nD τ).loc main_arg0)) (m ((c : Thread nD τ).loc main_arg1)) (m ((c : Thread nD τ).loc main_arg2)) (m ((c : Thread nD τ).loc main_arg3)) := by
  have hz : ∀ j : S1x1024.Idx, @Eq EReal (k0_pay16 (F := Ideal) j) 0 := fun j => by
    unfold k0_pay16; pointwise
  refine (dats m 0 c).arrAt_eq_of_after_last 8 t0_3 (by decide +kernel) _ fun j => ?_
  blk_simp
  rw [after0_8, Pipeline.eq_sum_fin_of_reset_step_apply_last (fun n h => (outsAt0 m c n h).2.2.2.1) 4 (fun _ => (0 : EReal))
    (fun t j => (∑ r : Fin 512, dyL (xR m c ⟨t.val * 512 + r, row_lt t r⟩) (gR m c) (bR m c) (sR m c ⟨t.val * 512 + r, row_lt t r⟩) (j 1) : EReal))
    (fun t h0 j => by
      idx_vars j
      obtain rfl : j0 = 0 := Subsingleton.elim _ _
      rw [outsAt0_A m c t h0 h0 h0 h0]
      frame_out
      refine (pay17_at _ _ _ _).trans ?_
      rw [hz _]
      simp only [blk0, blk1, blk2, blk3, blk4]
      rfl)
    (fun t h0 j => by
      idx_vars j
      obtain rfl : j0 = 0 := Subsingleton.elim _ _
      rw [outsAt0_B m c t h0 h0 h0 h0]
      frame_out
      refine (pay17_at _ _ _ _).trans ?_
      simp only [blk0, blk1, blk2, blk3, blk4]
      rfl)
    (le_of_eq N_0) t0_3 rfl j, zero_add]
  idx_vars j
  obtain rfl : j0 = 0 := Subsingleton.elim _ _
  refine Eq.trans ?_ (ref46_at _ _ _ _ _ h.1 h.2.1 h.2.2.1 h.2.2.2).symm
  refine (Fin.sum_points_lanes_congr (A := 1) 4 (g := fun _ r => (dyL (xR m c r) (gR m c) (bR m c) (sR m c r) j1 : EReal)) fun t k ha hl => ?_).trans (Fin.sum_univ_one _)
  have ht : t.val % 4 * 512 + k = t.val * 512 + k := by
    have := lt_of_lt_of_eq t.isLt N_0
    omega
  simp only [ht]

open Cert.LossBwdRefIdeal.Read in
theorem final9 (c : Dev nD) (h : Fin4 m c) : (dats m 0 c).arrAt 9 (cfgs 0).N = val_main_v77 (F := Ideal) (m ((c : Thread nD τ).loc main_arg0)) (m ((c : Thread nD τ).loc main_arg1)) (m ((c : Thread nD τ).loc main_arg2)) (m ((c : Thread nD τ).loc main_arg3)) := by
  have hz : ∀ j : S1x1024.Idx, @Eq EReal (k0_pay1 (F := Ideal) j) 0 := fun j => by
    unfold k0_pay1; pointwise
  refine (dats m 0 c).arrAt_eq_of_after_last 9 t0_3 (by decide +kernel) _ fun j => ?_
  blk_simp
  rw [after0_9, Pipeline.eq_sum_fin_of_reset_step_apply_last (fun n h => (outsAt0 m c n h).2.2.2.2.1) 4 (fun _ => (0 : EReal))
    (fun t j => (∑ r : Fin 512, lnGradK (xR m c ⟨t.val * 512 + r, row_lt t r⟩) (dxL (xR m c ⟨t.val * 512 + r, row_lt t r⟩) (gR m c) (bR m c) (sR m c ⟨t.val * 512 + r, row_lt t r⟩)) (j 1) : EReal))
    (fun t h0 j => by
      idx_vars j
      obtain rfl : j0 = 0 := Subsingleton.elim _ _
      rw [outsAt0_A m c t h0 h0 h0 h0]
      frame_out
      refine (pay2_at _ _ _ _ _ _ _).trans ?_
      rw [hz _]
      simp only [blk0, blk1, blk2, blk3, blk4]
      rfl)
    (fun t h0 j => by
      idx_vars j
      obtain rfl : j0 = 0 := Subsingleton.elim _ _
      rw [outsAt0_B m c t h0 h0 h0 h0]
      frame_out
      refine (pay2_at _ _ _ _ _ _ _).trans ?_
      simp only [blk0, blk1, blk2, blk3, blk4]
      rfl)
    (le_of_eq N_0) t0_3 rfl j, zero_add]
  idx_vars j
  obtain rfl : j0 = 0 := Subsingleton.elim _ _
  refine Eq.trans ?_ (ref77_at _ _ _ _ _ h.1 h.2.1 h.2.2.1 h.2.2.2).symm
  refine (Fin.sum_points_lanes_congr (A := 1) 4 (g := fun _ r => (lnGradK (xR m c r) (dxL (xR m c r) (gR m c) (bR m c) (sR m c r)) j1 : EReal)) fun t k ha hl => ?_).trans (Fin.sum_univ_one _)
  have ht : t.val % 4 * 512 + k = t.val * 512 + k := by
    have := lt_of_lt_of_eq t.isLt N_0
    omega
  simp only [ht]

open Cert.LossBwdRefIdeal.Read in
theorem final10 (c : Dev nD) (h : Fin4 m c) : (dats m 0 c).arrAt 10 (cfgs 0).N = val_main_v79 (F := Ideal) (m ((c : Thread nD τ).loc main_arg0)) (m ((c : Thread nD τ).loc main_arg1)) (m ((c : Thread nD τ).loc main_arg2)) (m ((c : Thread nD τ).loc main_arg3)) := by
  have hz : ∀ j : S1x1024.Idx, @Eq EReal (k0_pay4 (F := Ideal) j) 0 := fun j => by
    unfold k0_pay4; pointwise
  refine (dats m 0 c).arrAt_eq_of_after_last 10 t0_3 (by decide +kernel) _ fun j => ?_
  blk_simp
  rw [after0_10, Pipeline.eq_sum_fin_of_reset_step_apply_last (fun n h => (outsAt0 m c n h).2.2.2.2.2) 4 (fun _ => (0 : EReal))
    (fun t j => (∑ r : Fin 512, cP * loL (xR m c ⟨t.val * 512 + r, row_lt t r⟩) (gR m c) (bR m c) (sR m c ⟨t.val * 512 + r, row_lt t r⟩) : EReal))
    (fun t h0 j => by
      idx_vars j
      obtain rfl : j0 = 0 := Subsingleton.elim _ _
      rw [outsAt0_A m c t h0 h0 h0 h0]
      frame_out
      refine (pay5_at _ _ _ _).trans ?_
      rw [hz _]
      simp only [blk0, blk1, blk2, blk3, blk4]
      exact congrArg ((0 : EReal) + ·) (half_sum _ fun r => loL_isR (x := xR m c ⟨t.val * 512 + r, row_lt t r⟩) (fun _ => h.1 _) (fun _ => h.2.1 _) (fun _ => h.2.2.1 _) (fun _ => h.2.2.2 _)))
    (fun t h0 j => by
      idx_vars j
      obtain rfl : j0 = 0 := Subsingleton.elim _ _
      rw [outsAt0_B m c t h0 h0 h0 h0]
      frame_out
      refine (pay5_at _ _ _ _).trans ?_
      simp only [blk0, blk1, blk2, blk3, blk4]
      exact congrArg (_ + ·) (half_sum _ fun r => loL_isR (x := xR m c ⟨t.val * 512 + r, row_lt t r⟩) (fun _ => h.1 _) (fun _ => h.2.1 _) (fun _ => h.2.2.1 _) (fun _ => h.2.2.2 _)))
    (le_of_eq N_0) t0_3 rfl j, zero_add]
  idx_vars j
  obtain rfl : j0 = 0 := Subsingleton.elim _ _
  refine Eq.trans ?_ (ref79_at _ _ _ _ _ h.1 h.2.1 h.2.2.1 h.2.2.2).symm
  refine (Fin.sum_points_lanes_congr (A := 1) 4 (g := fun _ r => (cP * loL (xR m c r) (gR m c) (bR m c) (sR m c r) : EReal)) fun t k ha hl => ?_).trans (Fin.sum_univ_one _)
  have ht : t.val % 4 * 512 + k = t.val * 512 + k := by
    have := lt_of_lt_of_eq t.isLt N_0
    omega
  simp only [ht]

end Cert.LossBwdIdeal.Hand

namespace Cert.Proof

open Idealize.ShloMosaic Idealize.SL.Sem

theorem fin_Loss [Cert.Pre_loss_finite.Facts] (m : (ℓ : Loc Cert.LossBwdIdeal.nD Cert.LossBwdIdeal.τ Cert.LossBwdIdeal.sig) → Buf (Elt Ideal) ℓ)
    (h : Cert.Pre_LossBwdIdeal_loss_finite m) (c : Dev Cert.LossBwdIdeal.nD) : Cert.LossBwdIdeal.Hand.Fin4 m c :=
  ⟨fun i => IsR.of_lt (congrFun (h c).1 i), fun i => IsR.of_lt (congrFun (h c).2.1 i), fun i => IsR.of_lt (congrFun (h c).2.2.1 i),
    fun i => IsR.of_lt (congrFun (h c).2.2.2 i)⟩

set_option maxHeartbeats 4000000 in
theorem algebraic_Loss [Cert.LossBwdIdeal.Facts] [Cert.LossBwdRefIdeal.Facts] [Cert.Pre_loss_finite.Facts] :
    Cert.algebraic_LossBwdIdeal_LossBwdRefIdeal_pre_loss_finite := by
  intro m g m' g' hpre hagree
  refine ⟨fun c => (Cert.LossBwdIdeal.Gen.dats m 0 c).arrAt 5 (Cert.LossBwdIdeal.cfgs 0).N,
    fun c => (Cert.LossBwdIdeal.Gen.dats m 0 c).arrAt 6 (Cert.LossBwdIdeal.cfgs 0).N,
    fun c => (Cert.LossBwdIdeal.Gen.dats m 0 c).arrAt 7 (Cert.LossBwdIdeal.cfgs 0).N,
    fun c => (Cert.LossBwdIdeal.Gen.dats m 0 c).arrAt 8 (Cert.LossBwdIdeal.cfgs 0).N,
    fun c => (Cert.LossBwdIdeal.Gen.dats m 0 c).arrAt 9 (Cert.LossBwdIdeal.cfgs 0).N,
    fun c => (Cert.LossBwdIdeal.Gen.dats m 0 c).arrAt 10 (Cert.LossBwdIdeal.cfgs 0).N, ?_, ?_⟩
  · exact (θ_run _ _ _).mono (fun r h c => ⟨(h.1 c).1 5, (h.1 c).1 6, (h.1 c).1 7, (h.1 c).1 8, (h.1 c).1 9, (h.1 c).1 10, h.2 c⟩)
      (θ_run_and (Cert.LossBwdIdeal.Gen.run_main m g) (Cert.LossBwdIdeal.Gen.unchanged m g))
  · refine (θ_run _ _ _).mono (fun r h c => ⟨((h c).1).trans ?_, ((h c).2.1).trans ?_, ((h c).2.2.1).trans ?_, ((h c).2.2.2.1).trans ?_, ((h c).2.2.2.2.1).trans ?_, ((h c).2.2.2.2.2.1).trans ?_, (h c).2.2.2.2.2.2⟩) (Cert.LossBwdRefIdeal.Value.run m' g')
    · refine (Cert.LossBwdRefIdeal.Read.val_main_v75_eq m' c).trans ?_
      rw [(hagree c).1, (hagree c).2.1, (hagree c).2.2.1, (hagree c).2.2.2]
      exact (Cert.LossBwdIdeal.Hand.final5 m c (fin_Loss m hpre c)).symm
    · refine (Cert.LossBwdRefIdeal.Read.val_main_v78_eq m' c).trans ?_
      rw [(hagree c).1, (hagree c).2.1, (hagree c).2.2.1, (hagree c).2.2.2]
      exact (Cert.LossBwdIdeal.Hand.final6 m c (fin_Loss m hpre c)).symm
    · refine (Cert.LossBwdRefIdeal.Read.val_main_v49_eq m' c).trans ?_
      rw [(hagree c).1, (hagree c).2.1, (hagree c).2.2.1, (hagree c).2.2.2]
      exact (Cert.LossBwdIdeal.Hand.final7 m c (fin_Loss m hpre c)).symm
    · refine (Cert.LossBwdRefIdeal.Read.val_main_v46_eq _ _ _ _).trans ?_
      rw [(hagree c).1, (hagree c).2.1, (hagree c).2.2.1, (hagree c).2.2.2]
      exact (Cert.LossBwdIdeal.Hand.final8 m c (fin_Loss m hpre c)).symm
    · refine (Cert.LossBwdRefIdeal.Read.val_main_v77_eq m' c).trans ?_
      rw [(hagree c).1, (hagree c).2.1, (hagree c).2.2.1, (hagree c).2.2.2]
      exact (Cert.LossBwdIdeal.Hand.final9 m c (fin_Loss m hpre c)).symm
    · refine (Cert.LossBwdRefIdeal.Read.val_main_v79_eq m' c).trans ?_
      rw [(hagree c).1, (hagree c).2.1, (hagree c).2.2.1, (hagree c).2.2.2]
      exact (Cert.LossBwdIdeal.Hand.final10 m c (fin_Loss m hpre c)).symm

end Cert.Proof

end
-- ==== Proof.Up.lean ====
/- The gradient through the feed-forward's first product and the layer norm before it (`mm_nt_ln_backward`): the
   kernel's five arrays are the reference's on finite arguments. -/
module

public import proofs.«01_k».proof.Defs
public import proofs.«01_k».proof.Proof.Gen.UpBwdIdeal.Value
public import proofs.«01_k».proof.Proof.Gen.UpBwdRefIdeal.Read
public import proofs.«01_k».proof.Proof.LnMath
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.UpBwdIdeal.Hand

open Cert.UpBwdIdeal Cert.UpBwdIdeal.Gen Idealize.ShloMosaic Idealize.ShloMosaic.TcCoe Idealize.SL.Sem
open Idealize.ShloMosaic.Pipeline (Dat)
open Cert.Proof

variable (m : (ℓ : Loc nD τ sig) → Buf (Elt Ideal) ℓ)

/-! ## The row's gradient at the normalised row -/

/-- The residual's factor. -/
def cA : EReal := Ideal.ofBits .f32 0x3FD744FD#32

theorem cA_isR : IsR cA := by
  refine ⟨(Ideal.ofBits .f32 0x3FD744FD#32).toReal, ?_⟩
  rw [cA, EReal.coe_toReal] <;> simp [Ideal.ofBits, Ideal.ieee, -EReal.coe_mul]

/-- The product's row plus the residual's, and that times the gain. -/
def dyU {K : ℕ} (w : Fin 1024 → Fin K → EReal) (h : Fin K → EReal) (d : Fin 1024 → EReal) (l : Fin 1024) : EReal :=
  (∑ k, h k * w l k) + cA * d l
def dxU {K : ℕ} (w : Fin 1024 → Fin K → EReal) (h : Fin K → EReal) (d g : Fin 1024 → EReal) (l : Fin 1024) : EReal :=
  dyU w h d l * g l

theorem dxU_isR {K : ℕ} {w : Fin 1024 → Fin K → EReal} {h : Fin K → EReal} {d g : Fin 1024 → EReal} (hw : ∀ i k, IsR (w i k))
    (hh : ∀ k, IsR (h k)) (hd : ∀ j, IsR (d j)) (hg : ∀ j, IsR (g j)) (l : Fin 1024) : IsR (dxU w h d g l) :=
  ((IsR.sum _ _ fun k => (hh k).mul (hw l k)).add (cA_isR.mul (hd l))).mul (hg l)

/-- The gradient of the row, of the saved normalised row and its scale. -/
def payR (xh : Fin 1024 → EReal) (rs : EReal) (d : Fin 1024 → EReal) (l : Fin 1024) : EReal :=
  rs * (d l - Ideal.div (∑ j, d j) cN - xh l * Ideal.div (∑ j, d j * xh j) cN)

/-! ## The payloads at an index -/

section
variable (x0 : FVec Ideal S512x4096 .bf16) (x1 : FVec Ideal S1024x4096 .bf16) (x2 x3 : FVec Ideal S512x1024 .f32)
  (x4 : FVec Ideal S512x1 .f32) (x5 acc : FVec Ideal S1x1024 .f32) (r : Fin 512) (l : Fin 1024)

theorem pay7_at : @Eq EReal (k0_pay7 (F := Ideal) x0 x1 x2 (ix2 r l))
    (dyU (fun i k => x1 (ix2 i k)) (fun k => x0 (ix2 r k)) (fun j => x2 (ix2 r j)) l) := by
  unfold k0_pay7
  pointwise
  rfl

theorem pay9_at : @Eq EReal (k0_pay9 (F := Ideal) x0 x1 x2 x3 x4 x5 (ix2 r l))
    (payR (fun j => x3 (ix2 r j)) (x4 (ix2 r 0)) (dxU (fun i k => x1 (ix2 i k)) (fun k => x0 (ix2 r k)) (fun j => x2 (ix2 r j)) fun j => x5 (ix2 0 j)) l) := by
  unfold k0_pay9 k0_pay8
  pointwise
  simp only [pay7_at]
  rfl

theorem pay10_at : @Eq EReal (k0_pay10 (F := Ideal) x0 x1 x2 x3 x4 x5 (ix2 r l))
    (payR (fun j => x3 (ix2 r j)) (x4 (ix2 r 0)) (dxU (fun i k => x1 (ix2 i k)) (fun k => x0 (ix2 r k)) (fun j => x2 (ix2 r j)) fun j => x5 (ix2 0 j)) l) := by
  unfold k0_pay10
  pointwise
  exact pay9_at x0 x1 x2 x3 x4 x5 r l

theorem pay2_at : @Eq EReal (k0_pay2 (F := Ideal) (k0_pay7 x0 x1 x2) (k0_pay8 x3) acc (ix2 0 l))
    (acc (ix2 0 l) + ∑ r : Fin 512, dyU (fun i k => x1 (ix2 i k)) (fun k => x0 (ix2 r k)) (fun j => x2 (ix2 r j)) l * x3 (ix2 r l)) := by
  unfold k0_pay2 k0_pay8
  pointwise
  simp only [pay7_at]

theorem pay4_at : @Eq EReal (k0_pay4 (F := Ideal) (k0_pay7 x0 x1 x2) acc (ix2 0 l))
    (acc (ix2 0 l) + ∑ r : Fin 512, dyU (fun i k => x1 (ix2 i k)) (fun k => x0 (ix2 r k)) (fun j => x2 (ix2 r j)) l) := by
  unfold k0_pay4
  pointwise
  simp only [pay7_at]

theorem pay6_at : @Eq EReal (k0_pay6 (F := Ideal) (k0_pay9 x0 x1 x2 x3 x4 x5) acc (ix2 0 l))
    (acc (ix2 0 l) + ∑ r : Fin 512, payR (fun j => x3 (ix2 r j)) (x4 (ix2 r 0))
      (dxU (fun i k => x1 (ix2 i k)) (fun k => x0 (ix2 r k)) (fun j => x2 (ix2 r j)) fun j => x5 (ix2 0 j)) l) := by
  unfold k0_pay6
  pointwise
  simp only [pay9_at]

end

/-! ## The reference's arrays at an index -/

section
open Cert.UpBwdRefIdeal.Read
variable (x0 x6 : FVec Ideal S2048x1024 .f32) (x1 x2 : FVec Ideal S1x1024 .f32) (x4 : FVec Ideal S1024x4096 .f32)
  (x5 : FVec Ideal S2048x4096 .f32) (r : Fin 2048) (l : Fin 1024) (z : Fin 1)

theorem ref1_at : @Eq EReal (val_main_v1 (F := Ideal) x0 x1 (ix2 r l))
    (x0 (ix2 r l) + x1 (ix2 0 l)) := by
  pointwise [val_main_v0, val_main_v1, val_main_cst, val_main_v2, val_main_v3, val_main_cst_0, val_main_v4, val_main_v5, val_main_v6, val_main_v7, val_main_v8, val_main_cst_1, val_main_v9, val_main_v10, val_main_cst_2, val_main_v11, val_main_v12, val_main_cst_3, val_main_v13, val_main_v14, val_main_v15, val_main_v16, val_main_cst_4, val_main_v17, val_main_v18, val_main_v19, val_main_v20, val_main_cst_5, val_main_v21, val_main_v22, val_main_v23, val_main_v24, val_main_v25, val_main_v26, val_main_v27, val_main_v28, val_main_v29, val_main_cst_6, val_main_v30, val_main_v31, val_main_cst_7, val_main_v32, val_main_v33, val_main_v34, val_main_v35, val_main_cst_8, val_main_v36, val_main_v37, val_main_v38, val_main_cst_9, val_main_v39, val_main_v40, val_main_v41, val_main_v42, val_main_v43, val_main_cst_10, val_main_v44, val_main_v45, val_main_v46, val_main_v47, val_main_v48, val_main_v49, val_main_cst_11, val_main_v50, val_main_v51, val_main_cst_12, val_main_v52, val_main_v53, val_main_cst_13, val_main_v54, val_main_v55, val_main_v56, val_main_v57, val_main_cst_14, val_main_v58, val_main_v59, val_main_v60, val_main_v61, val_main_cst_15, val_main_v62, val_main_v63, val_main_cst_16, val_main_v64, val_main_v65, val_main_v66, val_main_cst_17, val_main_v67, val_main_v68, val_main_v69]

theorem ref5_at : @Eq EReal (val_main_v5 (F := Ideal) x0 x1 (ix2 r z))
    (lnMu (fun j => x0 (ix2 r j) + x1 (ix2 0 j))) := by
  pointwise [val_main_v0, val_main_cst, val_main_v2, val_main_v3, val_main_cst_0, val_main_v4, val_main_v5, val_main_v6, val_main_v7, val_main_v8, val_main_cst_1, val_main_v9, val_main_v10, val_main_cst_2, val_main_v11, val_main_v12, val_main_cst_3, val_main_v13, val_main_v14, val_main_v15, val_main_v16, val_main_cst_4, val_main_v17, val_main_v18, val_main_v19, val_main_v20, val_main_cst_5, val_main_v21, val_main_v22, val_main_v23, val_main_v24, val_main_v25, val_main_v26, val_main_v27, val_main_v28, val_main_v29, val_main_cst_6, val_main_v30, val_main_v31, val_main_cst_7, val_main_v32, val_main_v33, val_main_v34, val_main_v35, val_main_cst_8, val_main_v36, val_main_v37, val_main_v38, val_main_cst_9, val_main_v39, val_main_v40, val_main_v41, val_main_v42, val_main_v43, val_main_cst_10, val_main_v44, val_main_v45, val_main_v46, val_main_v47, val_main_v48, val_main_v49, val_main_cst_11, val_main_v50, val_main_v51, val_main_cst_12, val_main_v52, val_main_v53, val_main_cst_13, val_main_v54, val_main_v55, val_main_v56, val_main_v57, val_main_cst_14, val_main_v58, val_main_v59, val_main_v60, val_main_v61, val_main_cst_15, val_main_v62, val_main_v63, val_main_cst_16, val_main_v64, val_main_v65, val_main_v66, val_main_cst_17, val_main_v67, val_main_v68, val_main_v69]
  simp only [ref1_at]
  rfl

theorem ref16_at : @Eq EReal (val_main_v16 (F := Ideal) x0 x1 (ix2 r l))
    (x0 (ix2 r l) + x1 (ix2 0 l) - lnMu (fun j => x0 (ix2 r j) + x1 (ix2 0 j))) := by
  pointwise [val_main_v0, val_main_cst, val_main_v2, val_main_v3, val_main_cst_0, val_main_v4, val_main_v6, val_main_v7, val_main_v8, val_main_cst_1, val_main_v9, val_main_v10, val_main_cst_2, val_main_v11, val_main_v12, val_main_cst_3, val_main_v13, val_main_v14, val_main_v15, val_main_v16, val_main_cst_4, val_main_v17, val_main_v18, val_main_v19, val_main_v20, val_main_cst_5, val_main_v21, val_main_v22, val_main_v23, val_main_v24, val_main_v25, val_main_v26, val_main_v27, val_main_v28, val_main_v29, val_main_cst_6, val_main_v30, val_main_v31, val_main_cst_7, val_main_v32, val_main_v33, val_main_v34, val_main_v35, val_main_cst_8, val_main_v36, val_main_v37, val_main_v38, val_main_cst_9, val_main_v39, val_main_v40, val_main_v41, val_main_v42, val_main_v43, val_main_cst_10, val_main_v44, val_main_v45, val_main_v46, val_main_v47, val_main_v48, val_main_v49, val_main_cst_11, val_main_v50, val_main_v51, val_main_cst_12, val_main_v52, val_main_v53, val_main_cst_13, val_main_v54, val_main_v55, val_main_v56, val_main_v57, val_main_cst_14, val_main_v58, val_main_v59, val_main_v60, val_main_v61, val_main_cst_15, val_main_v62, val_main_v63, val_main_cst_16, val_main_v64, val_main_v65, val_main_v66, val_main_cst_17, val_main_v67, val_main_v68, val_main_v69]
  simp only [ref1_at, ref5_at]

theorem ref18_at : @Eq EReal (val_main_v18 (F := Ideal) x0 x1 (ix2 r z))
    (lnVe (fun j => x0 (ix2 r j) + x1 (ix2 0 j))) := by
  pointwise [val_main_v0, val_main_cst, val_main_v2, val_main_v3, val_main_cst_0, val_main_v4, val_main_v6, val_main_v7, val_main_v8, val_main_cst_1, val_main_v9, val_main_v10, val_main_cst_2, val_main_v11, val_main_v12, val_main_cst_3, val_main_v13, val_main_v14, val_main_v15, val_main_cst_4, val_main_v17, val_main_v18, val_main_v19, val_main_v20, val_main_cst_5, val_main_v21, val_main_v22, val_main_v23, val_main_v24, val_main_v25, val_main_v26, val_main_v27, val_main_v28, val_main_v29, val_main_cst_6, val_main_v30, val_main_v31, val_main_cst_7, val_main_v32, val_main_v33, val_main_v34, val_main_v35, val_main_cst_8, val_main_v36, val_main_v37, val_main_v38, val_main_cst_9, val_main_v39, val_main_v40, val_main_v41, val_main_v42, val_main_v43, val_main_cst_10, val_main_v44, val_main_v45, val_main_v46, val_main_v47, val_main_v48, val_main_v49, val_main_cst_11, val_main_v50, val_main_v51, val_main_cst_12, val_main_v52, val_main_v53, val_main_cst_13, val_main_v54, val_main_v55, val_main_v56, val_main_v57, val_main_cst_14, val_main_v58, val_main_v59, val_main_v60, val_main_v61, val_main_cst_15, val_main_v62, val_main_v63, val_main_cst_16, val_main_v64, val_main_v65, val_main_v66, val_main_cst_17, val_main_v67, val_main_v68, val_main_v69]
  simp only [ref1_at, ref5_at, ref16_at]
  rfl

theorem ref19_at : @Eq EReal (val_main_v19 (F := Ideal) x0 x1 (ix2 r z))
    (lnRs (fun j => x0 (ix2 r j) + x1 (ix2 0 j))) := by
  pointwise [val_main_v0, val_main_cst, val_main_v2, val_main_v3, val_main_cst_0, val_main_v4, val_main_v6, val_main_v7, val_main_v8, val_main_cst_1, val_main_v9, val_main_v10, val_main_cst_2, val_main_v11, val_main_v12, val_main_cst_3, val_main_v13, val_main_v14, val_main_v15, val_main_cst_4, val_main_v17, val_main_v19, val_main_v20, val_main_cst_5, val_main_v21, val_main_v22, val_main_v23, val_main_v24, val_main_v25, val_main_v26, val_main_v27, val_main_v28, val_main_v29, val_main_cst_6, val_main_v30, val_main_v31, val_main_cst_7, val_main_v32, val_main_v33, val_main_v34, val_main_v35, val_main_cst_8, val_main_v36, val_main_v37, val_main_v38, val_main_cst_9, val_main_v39, val_main_v40, val_main_v41, val_main_v42, val_main_v43, val_main_cst_10, val_main_v44, val_main_v45, val_main_v46, val_main_v47, val_main_v48, val_main_v49, val_main_cst_11, val_main_v50, val_main_v51, val_main_cst_12, val_main_v52, val_main_v53, val_main_cst_13, val_main_v54, val_main_v55, val_main_v56, val_main_v57, val_main_cst_14, val_main_v58, val_main_v59, val_main_v60, val_main_v61, val_main_cst_15, val_main_v62, val_main_v63, val_main_cst_16, val_main_v64, val_main_v65, val_main_v66, val_main_cst_17, val_main_v67, val_main_v68, val_main_v69]
  simp only [ref18_at]
  rfl

theorem ref24_at : @Eq EReal (val_main_v24 (F := Ideal) x0 x1 (ix2 r l))
    (lnXh (fun j => x0 (ix2 r j) + x1 (ix2 0 j)) l) := by
  pointwise [val_main_v0, val_main_cst, val_main_v2, val_main_v3, val_main_cst_0, val_main_v4, val_main_v6, val_main_v7, val_main_v8, val_main_cst_1, val_main_v9, val_main_v10, val_main_cst_2, val_main_v11, val_main_v12, val_main_cst_3, val_main_v13, val_main_v14, val_main_v15, val_main_cst_4, val_main_v17, val_main_v20, val_main_cst_5, val_main_v21, val_main_v22, val_main_v23, val_main_v24, val_main_v25, val_main_v26, val_main_v27, val_main_v28, val_main_v29, val_main_cst_6, val_main_v30, val_main_v31, val_main_cst_7, val_main_v32, val_main_v33, val_main_v34, val_main_v35, val_main_cst_8, val_main_v36, val_main_v37, val_main_v38, val_main_cst_9, val_main_v39, val_main_v40, val_main_v41, val_main_v42, val_main_v43, val_main_cst_10, val_main_v44, val_main_v45, val_main_v46, val_main_v47, val_main_v48, val_main_v49, val_main_cst_11, val_main_v50, val_main_v51, val_main_cst_12, val_main_v52, val_main_v53, val_main_cst_13, val_main_v54, val_main_v55, val_main_v56, val_main_v57, val_main_cst_14, val_main_v58, val_main_v59, val_main_v60, val_main_v61, val_main_cst_15, val_main_v62, val_main_v63, val_main_cst_16, val_main_v64, val_main_v65, val_main_v66, val_main_cst_17, val_main_v67, val_main_v68, val_main_v69]
  simp only [ref16_at, ref1_at, ref5_at, ref19_at]
  rfl

theorem ref35_at : @Eq EReal (val_main_v35 (F := Ideal) x4 x5 x6 (ix2 r l))
    (dyU (fun i k => x4 (ix2 i k)) (fun k => x5 (ix2 r k)) (fun j => x6 (ix2 r j)) l) := by
  pointwise [val_main_v0, val_main_cst, val_main_v2, val_main_v3, val_main_cst_0, val_main_v4, val_main_v6, val_main_v7, val_main_v8, val_main_cst_1, val_main_v9, val_main_v10, val_main_cst_2, val_main_v11, val_main_v12, val_main_cst_3, val_main_v13, val_main_v14, val_main_v15, val_main_cst_4, val_main_v17, val_main_v20, val_main_cst_5, val_main_v21, val_main_v22, val_main_v23, val_main_v25, val_main_v26, val_main_v27, val_main_v28, val_main_v29, val_main_cst_6, val_main_v30, val_main_v31, val_main_cst_7, val_main_v32, val_main_v33, val_main_v34, val_main_v35, val_main_cst_8, val_main_v36, val_main_v37, val_main_v38, val_main_cst_9, val_main_v39, val_main_v40, val_main_v41, val_main_v42, val_main_v43, val_main_cst_10, val_main_v44, val_main_v45, val_main_v46, val_main_v47, val_main_v48, val_main_v49, val_main_cst_11, val_main_v50, val_main_v51, val_main_cst_12, val_main_v52, val_main_v53, val_main_cst_13, val_main_v54, val_main_v55, val_main_v56, val_main_v57, val_main_cst_14, val_main_v58, val_main_v59, val_main_v60, val_main_v61, val_main_cst_15, val_main_v62, val_main_v63, val_main_cst_16, val_main_v64, val_main_v65, val_main_v66, val_main_cst_17, val_main_v67, val_main_v68, val_main_v69]
  exact add_comm (G := EReal) _ _

theorem ref37_at : @Eq EReal (val_main_v37 (F := Ideal) x4 x5 x6 (ix2 0 l))
    (∑ r : Fin 2048, dyU (fun i k => x4 (ix2 i k)) (fun k => x5 (ix2 r k)) (fun j => x6 (ix2 r j)) l) := by
  pointwise [val_main_v0, val_main_cst, val_main_v2, val_main_v3, val_main_cst_0, val_main_v4, val_main_v6, val_main_v7, val_main_v8, val_main_cst_1, val_main_v9, val_main_v10, val_main_cst_2, val_main_v11, val_main_v12, val_main_cst_3, val_main_v13, val_main_v14, val_main_v15, val_main_cst_4, val_main_v17, val_main_v20, val_main_cst_5, val_main_v21, val_main_v22, val_main_v23, val_main_v25, val_main_v26, val_main_v27, val_main_v28, val_main_v29, val_main_cst_6, val_main_v30, val_main_v31, val_main_cst_7, val_main_v32, val_main_v33, val_main_v34, val_main_cst_8, val_main_v36, val_main_v37, val_main_v38, val_main_cst_9, val_main_v39, val_main_v40, val_main_v41, val_main_v42, val_main_v43, val_main_cst_10, val_main_v44, val_main_v45, val_main_v46, val_main_v47, val_main_v48, val_main_v49, val_main_cst_11, val_main_v50, val_main_v51, val_main_cst_12, val_main_v52, val_main_v53, val_main_cst_13, val_main_v54, val_main_v55, val_main_v56, val_main_v57, val_main_cst_14, val_main_v58, val_main_v59, val_main_v60, val_main_v61, val_main_cst_15, val_main_v62, val_main_v63, val_main_cst_16, val_main_v64, val_main_v65, val_main_v66, val_main_cst_17, val_main_v67, val_main_v68, val_main_v69]
  simp only [ref35_at]

theorem ref40_at : @Eq EReal (val_main_v40 (F := Ideal) x0 x1 x4 x5 x6 (ix2 0 l))
    (∑ r : Fin 2048, dyU (fun i k => x4 (ix2 i k)) (fun k => x5 (ix2 r k)) (fun j => x6 (ix2 r j)) l * lnXh (fun j => x0 (ix2 r j) + x1 (ix2 0 j)) l) := by
  pointwise [val_main_v0, val_main_cst, val_main_v2, val_main_v3, val_main_cst_0, val_main_v4, val_main_v6, val_main_v7, val_main_v8, val_main_cst_1, val_main_v9, val_main_v10, val_main_cst_2, val_main_v11, val_main_v12, val_main_cst_3, val_main_v13, val_main_v14, val_main_v15, val_main_cst_4, val_main_v17, val_main_v20, val_main_cst_5, val_main_v21, val_main_v22, val_main_v23, val_main_v25, val_main_v26, val_main_v27, val_main_v28, val_main_v29, val_main_cst_6, val_main_v30, val_main_v31, val_main_cst_7, val_main_v32, val_main_v33, val_main_v34, val_main_cst_8, val_main_v36, val_main_v38, val_main_cst_9, val_main_v39, val_main_v40, val_main_v41, val_main_v42, val_main_v43, val_main_cst_10, val_main_v44, val_main_v45, val_main_v46, val_main_v47, val_main_v48, val_main_v49, val_main_cst_11, val_main_v50, val_main_v51, val_main_cst_12, val_main_v52, val_main_v53, val_main_cst_13, val_main_v54, val_main_v55, val_main_v56, val_main_v57, val_main_cst_14, val_main_v58, val_main_v59, val_main_v60, val_main_v61, val_main_cst_15, val_main_v62, val_main_v63, val_main_cst_16, val_main_v64, val_main_v65, val_main_v66, val_main_cst_17, val_main_v67, val_main_v68, val_main_v69]
  simp only [ref35_at, ref24_at]
  exact Finset.sum_congr rfl fun x _ => mul_comm (G := EReal) _ _

theorem ref42_at : @Eq EReal (val_main_v42 (F := Ideal) x2 x4 x5 x6 (ix2 r l))
    ((dxU (fun i k => x4 (ix2 i k)) (fun k => x5 (ix2 r k)) (fun j => x6 (ix2 r j)) fun j => x2 (ix2 0 j)) l) := by
  pointwise [val_main_v0, val_main_cst, val_main_v2, val_main_v3, val_main_cst_0, val_main_v4, val_main_v6, val_main_v7, val_main_v8, val_main_cst_1, val_main_v9, val_main_v10, val_main_cst_2, val_main_v11, val_main_v12, val_main_cst_3, val_main_v13, val_main_v14, val_main_v15, val_main_cst_4, val_main_v17, val_main_v20, val_main_cst_5, val_main_v21, val_main_v22, val_main_v23, val_main_v25, val_main_v26, val_main_v27, val_main_v28, val_main_v29, val_main_cst_6, val_main_v30, val_main_v31, val_main_cst_7, val_main_v32, val_main_v33, val_main_v34, val_main_cst_8, val_main_v36, val_main_v38, val_main_cst_9, val_main_v39, val_main_v41, val_main_v42, val_main_v43, val_main_cst_10, val_main_v44, val_main_v45, val_main_v46, val_main_v47, val_main_v48, val_main_v49, val_main_cst_11, val_main_v50, val_main_v51, val_main_cst_12, val_main_v52, val_main_v53, val_main_cst_13, val_main_v54, val_main_v55, val_main_v56, val_main_v57, val_main_cst_14, val_main_v58, val_main_v59, val_main_v60, val_main_v61, val_main_cst_15, val_main_v62, val_main_v63, val_main_cst_16, val_main_v64, val_main_v65, val_main_v66, val_main_cst_17, val_main_v67, val_main_v68, val_main_v69]
  simp only [ref35_at]
  rfl

theorem ref47_at : @Eq EReal (val_main_v47 (F := Ideal) x0 x1 x2 x4 x5 x6 (ix2 r l))
    (lnPart (fun j => x0 (ix2 r j) + x1 (ix2 0 j)) (dxU (fun i k => x4 (ix2 i k)) (fun k => x5 (ix2 r k)) (fun j => x6 (ix2 r j)) fun j => x2 (ix2 0 j)) l) := by
  pointwise [val_main_v0, val_main_cst, val_main_v2, val_main_v3, val_main_cst_0, val_main_v4, val_main_v6, val_main_v7, val_main_v8, val_main_cst_1, val_main_v9, val_main_v10, val_main_cst_2, val_main_v11, val_main_v12, val_main_cst_3, val_main_v13, val_main_v14, val_main_v15, val_main_cst_4, val_main_v17, val_main_v20, val_main_cst_5, val_main_v21, val_main_v22, val_main_v23, val_main_v25, val_main_v26, val_main_v27, val_main_v28, val_main_v29, val_main_cst_6, val_main_v30, val_main_v31, val_main_cst_7, val_main_v32, val_main_v33, val_main_v34, val_main_cst_8, val_main_v36, val_main_v38, val_main_cst_9, val_main_v39, val_main_v41, val_main_v43, val_main_cst_10, val_main_v44, val_main_v45, val_main_v46, val_main_v47, val_main_v48, val_main_v49, val_main_cst_11, val_main_v50, val_main_v51, val_main_cst_12, val_main_v52, val_main_v53, val_main_cst_13, val_main_v54, val_main_v55, val_main_v56, val_main_v57, val_main_cst_14, val_main_v58, val_main_v59, val_main_v60, val_main_v61, val_main_cst_15, val_main_v62, val_main_v63, val_main_cst_16, val_main_v64, val_main_v65, val_main_v66, val_main_cst_17, val_main_v67, val_main_v68, val_main_v69]
  simp only [ref19_at, ref42_at]
  rfl

theorem ref56_at : @Eq EReal (val_main_v56 (F := Ideal) x0 x1 x2 x4 x5 x6 (ix2 r l))
    (lnVar (fun j => x0 (ix2 r j) + x1 (ix2 0 j)) (dxU (fun i k => x4 (ix2 i k)) (fun k => x5 (ix2 r k)) (fun j => x6 (ix2 r j)) fun j => x2 (ix2 0 j)) l) := by
  pointwise [val_main_v0, val_main_cst, val_main_v2, val_main_v3, val_main_cst_0, val_main_v4, val_main_v6, val_main_v7, val_main_v8, val_main_cst_1, val_main_v9, val_main_v10, val_main_cst_2, val_main_v11, val_main_v12, val_main_cst_3, val_main_v13, val_main_v14, val_main_v15, val_main_cst_4, val_main_v17, val_main_v20, val_main_cst_5, val_main_v21, val_main_v22, val_main_v23, val_main_v25, val_main_v26, val_main_v27, val_main_v28, val_main_v29, val_main_cst_6, val_main_v30, val_main_v31, val_main_cst_7, val_main_v32, val_main_v33, val_main_v34, val_main_cst_8, val_main_v36, val_main_v38, val_main_cst_9, val_main_v39, val_main_v41, val_main_v43, val_main_cst_10, val_main_v44, val_main_v45, val_main_v46, val_main_v48, val_main_v49, val_main_cst_11, val_main_v50, val_main_v51, val_main_cst_12, val_main_v52, val_main_v53, val_main_cst_13, val_main_v54, val_main_v55, val_main_v56, val_main_v57, val_main_cst_14, val_main_v58, val_main_v59, val_main_v60, val_main_v61, val_main_cst_15, val_main_v62, val_main_v63, val_main_cst_16, val_main_v64, val_main_v65, val_main_v66, val_main_cst_17, val_main_v67, val_main_v68, val_main_v69]
  simp only [ref1_at, ref5_at, ref16_at, ref18_at, ref19_at, ref42_at]
  rfl

variable (h0 : ∀ i, IsR (x0 i)) (h1 : ∀ i, IsR (x1 i)) (h2 : ∀ i, IsR (x2 i)) (h4 : ∀ i, IsR (x4 i)) (h5 : ∀ i, IsR (x5 i)) (h6 : ∀ i, IsR (x6 i))
include h0 h1 h2 h4 h5 h6

theorem ref66_at : @Eq EReal (val_main_v66 (F := Ideal) x0 x1 x2 x4 x5 x6 (ix2 r l))
    (lnGradK (fun j => x0 (ix2 r j) + x1 (ix2 0 j)) (dxU (fun i k => x4 (ix2 i k)) (fun k => x5 (ix2 r k)) (fun j => x6 (ix2 r j)) fun j => x2 (ix2 0 j)) l) := by
  pointwise [val_main_v0, val_main_cst, val_main_v2, val_main_v3, val_main_cst_0, val_main_v4, val_main_v6, val_main_v7, val_main_v8, val_main_cst_1, val_main_v9, val_main_v10, val_main_cst_2, val_main_v11, val_main_v12, val_main_cst_3, val_main_v13, val_main_v14, val_main_v15, val_main_cst_4, val_main_v17, val_main_v20, val_main_cst_5, val_main_v21, val_main_v22, val_main_v23, val_main_v25, val_main_v26, val_main_v27, val_main_v28, val_main_v29, val_main_cst_6, val_main_v30, val_main_v31, val_main_cst_7, val_main_v32, val_main_v33, val_main_v34, val_main_cst_8, val_main_v36, val_main_v38, val_main_cst_9, val_main_v39, val_main_v41, val_main_v43, val_main_cst_10, val_main_v44, val_main_v45, val_main_v46, val_main_v48, val_main_v49, val_main_cst_11, val_main_v50, val_main_v51, val_main_cst_12, val_main_v52, val_main_v53, val_main_cst_13, val_main_v54, val_main_v55, val_main_v57, val_main_cst_14, val_main_v58, val_main_v59, val_main_v60, val_main_v61, val_main_cst_15, val_main_v62, val_main_v63, val_main_cst_16, val_main_v64, val_main_v65, val_main_v66, val_main_cst_17, val_main_v67, val_main_v68, val_main_v69]
  simp only [ref47_at, ref56_at]
  exact lnGrad_eq (fun j => (h0 _).add (h1 _)) (dxU_isR (fun _ _ => h4 _) (fun _ => h5 _) (fun _ => h6 _) fun _ => h2 _) l

theorem ref69_at : @Eq EReal (val_main_v69 (F := Ideal) x0 x1 x2 x4 x5 x6 (ix2 r l))
    (lnGradK (fun j => x0 (ix2 r j) + x1 (ix2 0 j)) (dxU (fun i k => x4 (ix2 i k)) (fun k => x5 (ix2 r k)) (fun j => x6 (ix2 r j)) fun j => x2 (ix2 0 j)) l) := by
  pointwise [val_main_v0, val_main_cst, val_main_v2, val_main_v3, val_main_cst_0, val_main_v4, val_main_v6, val_main_v7, val_main_v8, val_main_cst_1, val_main_v9, val_main_v10, val_main_cst_2, val_main_v11, val_main_v12, val_main_cst_3, val_main_v13, val_main_v14, val_main_v15, val_main_cst_4, val_main_v17, val_main_v20, val_main_cst_5, val_main_v21, val_main_v22, val_main_v23, val_main_v25, val_main_v26, val_main_v27, val_main_v28, val_main_v29, val_main_cst_6, val_main_v30, val_main_v31, val_main_cst_7, val_main_v32, val_main_v33, val_main_v34, val_main_cst_8, val_main_v36, val_main_v38, val_main_cst_9, val_main_v39, val_main_v41, val_main_v43, val_main_cst_10, val_main_v44, val_main_v45, val_main_v46, val_main_v48, val_main_v49, val_main_cst_11, val_main_v50, val_main_v51, val_main_cst_12, val_main_v52, val_main_v53, val_main_cst_13, val_main_v54, val_main_v55, val_main_v57, val_main_cst_14, val_main_v58, val_main_v59, val_main_v60, val_main_v61, val_main_cst_15, val_main_v62, val_main_v63, val_main_cst_16, val_main_v64, val_main_v65, val_main_cst_17, val_main_v67, val_main_v68, val_main_v69]
  exact ref66_at x0 x6 x1 x2 x4 x5 _ _ h0 h1 h2 h4 h5 h6

theorem ref68_at : @Eq EReal (val_main_v68 (F := Ideal) x0 x1 x2 x4 x5 x6 (ix2 0 l))
    (∑ r : Fin 2048, lnGradK (fun j => x0 (ix2 r j) + x1 (ix2 0 j)) (dxU (fun i k => x4 (ix2 i k)) (fun k => x5 (ix2 r k)) (fun j => x6 (ix2 r j)) fun j => x2 (ix2 0 j)) l) := by
  pointwise [val_main_v0, val_main_cst, val_main_v2, val_main_v3, val_main_cst_0, val_main_v4, val_main_v6, val_main_v7, val_main_v8, val_main_cst_1, val_main_v9, val_main_v10, val_main_cst_2, val_main_v11, val_main_v12, val_main_cst_3, val_main_v13, val_main_v14, val_main_v15, val_main_cst_4, val_main_v17, val_main_v20, val_main_cst_5, val_main_v21, val_main_v22, val_main_v23, val_main_v25, val_main_v26, val_main_v27, val_main_v28, val_main_v29, val_main_cst_6, val_main_v30, val_main_v31, val_main_cst_7, val_main_v32, val_main_v33, val_main_v34, val_main_cst_8, val_main_v36, val_main_v38, val_main_cst_9, val_main_v39, val_main_v41, val_main_v43, val_main_cst_10, val_main_v44, val_main_v45, val_main_v46, val_main_v48, val_main_v49, val_main_cst_11, val_main_v50, val_main_v51, val_main_cst_12, val_main_v52, val_main_v53, val_main_cst_13, val_main_v54, val_main_v55, val_main_v57, val_main_cst_14, val_main_v58, val_main_v59, val_main_v60, val_main_v61, val_main_cst_15, val_main_v62, val_main_v63, val_main_cst_16, val_main_v64, val_main_v65, val_main_cst_17, val_main_v67, val_main_v68]
  simp only [ref66_at x0 x6 x1 x2 x4 x5 _ _ h0 h1 h2 h4 h5 h6]

end

/-! ## The saved forward values -/

/-- The arguments' rows. -/
def xR (c : Dev nD) (r : Fin 2048) : Fin 1024 → EReal := fun j =>
  (show EReal from m ((c : Thread nD τ).loc main_arg0) (ix2 r j : S2048x1024.Idx))
    + (show EReal from m ((c : Thread nD τ).loc main_arg1) (ix2 0 j : S1x1024.Idx))
def gR (c : Dev nD) : Fin 1024 → EReal := fun j => m ((c : Thread nD τ).loc main_arg2) (ix2 0 j : S1x1024.Idx)
def wR (c : Dev nD) : Fin 1024 → Fin 4096 → EReal := fun i k => m ((c : Thread nD τ).loc main_arg4) (ix2 i k : S1024x4096.Idx)
def hR (c : Dev nD) (r : Fin 2048) : Fin 4096 → EReal := fun k => m ((c : Thread nD τ).loc main_arg5) (ix2 r k : S2048x4096.Idx)
def dR (c : Dev nD) (r : Fin 2048) : Fin 1024 → EReal := fun j => m ((c : Thread nD τ).loc main_arg6) (ix2 r j : S2048x1024.Idx)

theorem hv17 (c : Dev nD) (r : Fin 2048) (l : Fin 1024) : @Eq EReal (V m c main_v17 (ix2 r l : S2048x1024.Idx)) (lnXh (xR m c r) l) := by
  simp only [V, hostOps0, List.flatten_cons, List.flatten_nil, List.append_nil, List.cons_append, List.nil_append, StableHlo.TRef.binary,
    StableHlo.TRef.unary, StableHlo.TRef.toBuf, StableHlo.TRef.ofBuf, cast_eq]
  after_results
  pointwise
  rfl

theorem hv15 (c : Dev nD) (r : Fin 2048) (z : Fin 1) : @Eq EReal (V m c main_v15 (ix2 r z : S2048x1.Idx)) (lnRs (xR m c r)) := by
  simp only [V, hostOps0, List.flatten_cons, List.flatten_nil, List.append_nil, List.cons_append, List.nil_append, StableHlo.TRef.binary,
    StableHlo.TRef.unary, StableHlo.TRef.toBuf, StableHlo.TRef.ofBuf, cast_eq]
  after_results
  pointwise
  rfl

theorem hv22 (c : Dev nD) (r : Fin 2048) (k : Fin 4096) : @Eq EReal (V m c main_v22 (ix2 r k : S2048x4096.Idx)) (hR m c r k) := by
  simp only [V, hostOps0, List.flatten_cons, List.flatten_nil, List.append_nil, List.cons_append, List.nil_append, StableHlo.TRef.binary,
    StableHlo.TRef.unary, StableHlo.TRef.toBuf, StableHlo.TRef.ofBuf, cast_eq]
  after_results
  pointwise
  rfl

theorem hv23 (c : Dev nD) (r : Fin 1024) (k : Fin 4096) : @Eq EReal (V m c main_v23 (ix2 r k : S1024x4096.Idx)) (wR m c r k) := by
  simp only [V, hostOps0, List.flatten_cons, List.flatten_nil, List.append_nil, List.cons_append, List.nil_append, StableHlo.TRef.binary,
    StableHlo.TRef.unary, StableHlo.TRef.toBuf, StableHlo.TRef.ofBuf, cast_eq]
  after_results
  pointwise
  rfl

/-! ## The arrays -/

/-- The windows' block indices at a grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![0, 0] ∧ win0_9.index t = ![0, 0] ∧ win0_10.index t = ![0, 0] :=
  (by decide +kernel : ∀ t : Fin grid0.N, _)

theorem row_lt (t : Fin cfg0.N) (l : Fin 512) : t.val * 512 + l < 2048 := by
  have h : t.val < 4 := lt_of_lt_of_eq t.isLt N_0
  omega

section
variable (c : Dev nD) (t : Fin cfg0.N) (r : Fin 512) (l : Fin 1024) (k : Fin 4096)

theorem blk0 : @Eq EReal (iblk m c 0 t (ix2 r k : S512x4096.Idx)) (hR m c ⟨t.val * 512 + r, row_lt t r⟩ k) := by
  rw [show iblk m c 0 t (ix2 r k : S512x4096.Idx) = V m c main_v22 (ix2 ⟨t.val * 512 + r, row_lt t r⟩ k : S2048x4096.Idx) by blk_ext [iblk, idx t]]
  exact hv22 m c _ k

theorem blk1 : @Eq EReal (iblk m c 1 t (ix2 l k : S1024x4096.Idx)) (wR m c l k) := by
  rw [show iblk m c 1 t (ix2 l k : S1024x4096.Idx) = V m c main_v23 (ix2 l k : S1024x4096.Idx) by blk_ext [iblk, idx t]]
  exact hv23 m c _ k

theorem blk2 : @Eq EReal (iblk m c 2 t (ix2 r l : S512x1024.Idx)) (dR m c ⟨t.val * 512 + r, row_lt t r⟩ l) := by
  rw [dR]
  blk_point [iblk, V, idx t]

theorem blk3 : @Eq EReal (iblk m c 3 t (ix2 r l : S512x1024.Idx)) (lnXh (xR m c ⟨t.val * 512 + r, row_lt t r⟩) l) := by
  rw [show iblk m c 3 t (ix2 r l : S512x1024.Idx) = V m c main_v17 (ix2 ⟨t.val * 512 + r, row_lt t r⟩ l : S2048x1024.Idx) by blk_ext [iblk, idx t]]
  exact hv17 m c _ l

theorem blk4 : @Eq EReal (iblk m c 4 t (ix2 r 0 : S512x1.Idx)) (lnRs (xR m c ⟨t.val * 512 + r, row_lt t r⟩)) := by
  rw [show iblk m c 4 t (ix2 r 0 : S512x1.Idx) = V m c main_v15 (ix2 ⟨t.val * 512 + r, row_lt t r⟩ 0 : S2048x1.Idx) by blk_ext [iblk, idx t]]
  exact hv15 m c _ 0

theorem blk5 : @Eq EReal (iblk m c 5 t (ix2 0 l : S1x1024.Idx)) (gR m c l) := by
  rw [gR]
  blk_point [iblk, V, idx t]

end

/-- Every argument the gradient reads is finite. -/
def Fin6 (c : Dev nD) : Prop :=
  (∀ i, IsR (m ((c : Thread nD τ).loc main_arg0) i)) ∧ (∀ i, IsR (m ((c : Thread nD τ).loc main_arg1) i))
  ∧ (∀ i, IsR (m ((c : Thread nD τ).loc main_arg2) i)) ∧ (∀ i, IsR (m ((c : Thread nD τ).loc main_arg4) i))
  ∧ (∀ i, IsR (m ((c : Thread nD τ).loc main_arg5) i)) ∧ (∀ i, IsR (m ((c : Thread nD τ).loc main_arg6) i))

open Cert.UpBwdRefIdeal.Read in
theorem final6 (c : Dev nD) (h : Fin6 m c) : (dats m 0 c).arrAt 6 (cfgs 0).N = val_main_v66 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (dats m 0 c).arrAt_eq_of_covers 6 _ (by decide +kernel) fun t _ y => ?_
  blk_simp
  rw [after0_6]
  idx_vars y
  rw [show ((cfg0.win 6).blk t).view.emb (ix2 y0 y1 : S512x1024.Idx) = (ix2 ⟨t.val * 512 + y0, row_lt t y0⟩ y1 : S2048x1024.Idx) by blk_ext [idx t]]
  have key : ∀ y : S512x1024.Idx, (outsAt0 m c t.val t.isLt).1 y = k0_pay9 (F := Ideal) (iblk m c 0 t) (iblk m c 1 t) (iblk m c 2 t) (iblk m c 3 t) (iblk m c 4 t) (iblk m c 5 t) y := by
    intro y
    by_cases h0 : t.val % 4 = 0
    · rw [outsAt0_A m c t h0 h0 h0]; frame_out
    · rw [outsAt0_B m c t h0 h0 h0]; frame_out
  refine (key _).trans ((pay9_at _ _ _ _ _ _ y0 y1).trans (Eq.trans ?_ (ref66_at _ _ _ _ _ _ _ _ h.1 h.2.1 h.2.2.1 h.2.2.2.1 h.2.2.2.2.1 h.2.2.2.2.2).symm))
  simp only [blk0, blk1, blk2, blk3, blk4, blk5]
  rfl

open Cert.UpBwdRefIdeal.Read in
theorem final7 (c : Dev nD) (h : Fin6 m c) : (dats m 0 c).arrAt 7 (cfgs 0).N = val_main_v69 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  idx_vars y
  rw [show ((cfg0.win 7).blk t).view.emb (ix2 y0 y1 : S512x1024.Idx) = (ix2 ⟨t.val * 512 + y0, row_lt t y0⟩ y1 : S2048x1024.Idx) by blk_ext [idx t]]
  have key : ∀ y : S512x1024.Idx, (outsAt0 m c t.val t.isLt).2.1 y = k0_pay10 (F := Ideal) (iblk m c 0 t) (iblk m c 1 t) (iblk m c 2 t) (iblk m c 3 t) (iblk m c 4 t) (iblk m c 5 t) y := by
    intro y
    by_cases h0 : t.val % 4 = 0
    · rw [outsAt0_A m c t h0 h0 h0]; frame_out
    · rw [outsAt0_B m c t h0 h0 h0]; frame_out
  refine (key _).trans ((pay10_at _ _ _ _ _ _ y0 y1).trans (Eq.trans ?_ (ref69_at _ _ _ _ _ _ _ _ h.1 h.2.1 h.2.2.1 h.2.2.2.1 h.2.2.2.2.1 h.2.2.2.2.2).symm))
  simp only [blk0, blk1, blk2, blk3, blk4, blk5]
  rfl

open Cert.UpBwdRefIdeal.Read in
theorem final8 (c : Dev nD) : (dats m 0 c).arrAt 8 (cfgs 0).N = val_main_v40 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  have hz : ∀ j : S1x1024.Idx, @Eq EReal (k0_pay1 (F := Ideal) j) 0 := fun j => by
    unfold k0_pay1; pointwise
  refine (dats m 0 c).arrAt_eq_of_after_last 8 t0_3 (by decide +kernel) _ fun j => ?_
  blk_simp
  rw [after0_8, Pipeline.eq_sum_fin_of_reset_step_apply_last (fun n h => (outsAt0 m c n h).2.2.1) 4 (fun _ => (0 : EReal))
    (fun t j => (∑ r : Fin 512, dyU (wR m c) (hR m c ⟨t.val * 512 + r, row_lt t r⟩) (dR m c ⟨t.val * 512 + r, row_lt t r⟩) (j 1) * lnXh (xR m c ⟨t.val * 512 + r, row_lt t r⟩) (j 1) : EReal))
    (fun t h0 j => by
      idx_vars j
      obtain rfl : j0 = 0 := Subsingleton.elim _ _
      rw [outsAt0_A m c t h0 h0 h0]
      frame_out
      refine (pay2_at _ _ _ _ _ _).trans ?_
      rw [hz _]
      simp only [blk0, blk1, blk2, blk3, blk4, blk5])
    (fun t h0 j => by
      idx_vars j
      obtain rfl : j0 = 0 := Subsingleton.elim _ _
      rw [outsAt0_B m c t h0 h0 h0]
      frame_out
      refine (pay2_at _ _ _ _ _ _).trans ?_
      simp only [blk0, blk1, blk2, blk3, blk4, blk5])
    (le_of_eq N_0) t0_3 rfl j, zero_add]
  idx_vars j
  obtain rfl : j0 = 0 := Subsingleton.elim _ _
  refine Eq.trans ?_ (ref40_at _ _ _ _ _ _).symm
  refine (Fin.sum_points_lanes_congr (A := 1) 4 (g := fun _ r => (dyU (wR m c) (hR m c r) (dR m c r) j1 * lnXh (xR m c r) j1 : EReal)) fun t k ha hl => ?_).trans (Fin.sum_univ_one _)
  have ht : t.val % 4 * 512 + k = t.val * 512 + k := by
    have := lt_of_lt_of_eq t.isLt N_0
    omega
  simp only [ht]

open Cert.UpBwdRefIdeal.Read in
theorem final9 (c : Dev nD) : (dats m 0 c).arrAt 9 (cfgs 0).N = val_main_v37 (F := Ideal) (m ((c : Thread nD τ).loc main_arg4)) (m ((c : Thread nD τ).loc main_arg5)) (m ((c : Thread nD τ).loc main_arg6)) := by
  have hz : ∀ j : S1x1024.Idx, @Eq EReal (k0_pay3 (F := Ideal) j) 0 := fun j => by
    unfold k0_pay3; pointwise
  refine (dats m 0 c).arrAt_eq_of_after_last 9 t0_3 (by decide +kernel) _ fun j => ?_
  blk_simp
  rw [after0_9, Pipeline.eq_sum_fin_of_reset_step_apply_last (fun n h => (outsAt0 m c n h).2.2.2.1) 4 (fun _ => (0 : EReal))
    (fun t j => (∑ r : Fin 512, dyU (wR m c) (hR m c ⟨t.val * 512 + r, row_lt t r⟩) (dR m c ⟨t.val * 512 + r, row_lt t r⟩) (j 1) : EReal))
    (fun t h0 j => by
      idx_vars j
      obtain rfl : j0 = 0 := Subsingleton.elim _ _
      rw [outsAt0_A m c t h0 h0 h0]
      frame_out
      refine (pay4_at _ _ _ _ _).trans ?_
      rw [hz _]
      simp only [blk0, blk1, blk2, blk3, blk4, blk5])
    (fun t h0 j => by
      idx_vars j
      obtain rfl : j0 = 0 := Subsingleton.elim _ _
      rw [outsAt0_B m c t h0 h0 h0]
      frame_out
      refine (pay4_at _ _ _ _ _).trans ?_
      simp only [blk0, blk1, blk2, blk3, blk4, blk5])
    (le_of_eq N_0) t0_3 rfl j, zero_add]
  idx_vars j
  obtain rfl : j0 = 0 := Subsingleton.elim _ _
  refine Eq.trans ?_ (ref37_at _ _ _ _).symm
  refine (Fin.sum_points_lanes_congr (A := 1) 4 (g := fun _ r => (dyU (wR m c) (hR m c r) (dR m c r) j1 : EReal)) fun t k ha hl => ?_).trans (Fin.sum_univ_one _)
  have ht : t.val % 4 * 512 + k = t.val * 512 + k := by
    have := lt_of_lt_of_eq t.isLt N_0
    omega
  simp only [ht]

open Cert.UpBwdRefIdeal.Read in
theorem final10 (c : Dev nD) (h : Fin6 m c) : (dats m 0 c).arrAt 10 (cfgs 0).N = val_main_v68 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  have hz : ∀ j : S1x1024.Idx, @Eq EReal (k0_pay5 (F := Ideal) j) 0 := fun j => by
    unfold k0_pay5; pointwise
  refine (dats m 0 c).arrAt_eq_of_after_last 10 t0_3 (by decide +kernel) _ fun j => ?_
  blk_simp
  rw [after0_10, Pipeline.eq_sum_fin_of_reset_step_apply_last (fun n h => (outsAt0 m c n h).2.2.2.2) 4 (fun _ => (0 : EReal))
    (fun t j => (∑ r : Fin 512, lnGradK (xR m c ⟨t.val * 512 + r, row_lt t r⟩) (dxU (wR m c) (hR m c ⟨t.val * 512 + r, row_lt t r⟩) (dR m c ⟨t.val * 512 + r, row_lt t r⟩) (gR m c)) (j 1) : EReal))
    (fun t h0 j => by
      idx_vars j
      obtain rfl : j0 = 0 := Subsingleton.elim _ _
      rw [outsAt0_A m c t h0 h0 h0]
      frame_out
      refine (pay6_at _ _ _ _ _ _ _ _).trans ?_
      rw [hz _]
      simp only [blk0, blk1, blk2, blk3, blk4, blk5]
      rfl)
    (fun t h0 j => by
      idx_vars j
      obtain rfl : j0 = 0 := Subsingleton.elim _ _
      rw [outsAt0_B m c t h0 h0 h0]
      frame_out
      refine (pay6_at _ _ _ _ _ _ _ _).trans ?_
      simp only [blk0, blk1, blk2, blk3, blk4, blk5]
      rfl)
    (le_of_eq N_0) t0_3 rfl j, zero_add]
  idx_vars j
  obtain rfl : j0 = 0 := Subsingleton.elim _ _
  refine Eq.trans ?_ (ref68_at _ _ _ _ _ _ _ h.1 h.2.1 h.2.2.1 h.2.2.2.1 h.2.2.2.2.1 h.2.2.2.2.2).symm
  refine (Fin.sum_points_lanes_congr (A := 1) 4 (g := fun _ r => (lnGradK (xR m c r) (dxU (wR m c) (hR m c r) (dR m c r) (gR m c)) j1 : EReal)) fun t k ha hl => ?_).trans (Fin.sum_univ_one _)
  have ht : t.val % 4 * 512 + k = t.val * 512 + k := by
    have := lt_of_lt_of_eq t.isLt N_0
    omega
  simp only [ht]

end Cert.UpBwdIdeal.Hand

namespace Cert.Proof

open Idealize.ShloMosaic Idealize.SL.Sem

theorem fin_Up [Cert.Pre_up_finite.Facts] (m : (ℓ : Loc Cert.UpBwdIdeal.nD Cert.UpBwdIdeal.τ Cert.UpBwdIdeal.sig) → Buf (Elt Ideal) ℓ)
    (h : Cert.Pre_UpBwdIdeal_up_finite m) (c : Dev Cert.UpBwdIdeal.nD) : Cert.UpBwdIdeal.Hand.Fin6 m c :=
  ⟨fun i => IsR.of_lt (congrFun (h c).1 i), fun i => IsR.of_lt (congrFun (h c).2.1 i), fun i => IsR.of_lt (congrFun (h c).2.2.1 i),
    fun i => IsR.of_lt (congrFun (h c).2.2.2.1 i), fun i => IsR.of_lt (congrFun (h c).2.2.2.2.1 i), fun i => IsR.of_lt (congrFun (h c).2.2.2.2.2 i)⟩

set_option maxHeartbeats 4000000 in
theorem algebraic_Up [Cert.UpBwdIdeal.Facts] [Cert.UpBwdRefIdeal.Facts] [Cert.Pre_up_finite.Facts] :
    Cert.algebraic_UpBwdIdeal_UpBwdRefIdeal_pre_up_finite := by
  intro m g m' g' hpre hagree
  refine ⟨fun c => (Cert.UpBwdIdeal.Gen.dats m 0 c).arrAt 6 (Cert.UpBwdIdeal.cfgs 0).N,
    fun c => (Cert.UpBwdIdeal.Gen.dats m 0 c).arrAt 7 (Cert.UpBwdIdeal.cfgs 0).N,
    fun c => (Cert.UpBwdIdeal.Gen.dats m 0 c).arrAt 8 (Cert.UpBwdIdeal.cfgs 0).N,
    fun c => (Cert.UpBwdIdeal.Gen.dats m 0 c).arrAt 9 (Cert.UpBwdIdeal.cfgs 0).N,
    fun c => (Cert.UpBwdIdeal.Gen.dats m 0 c).arrAt 10 (Cert.UpBwdIdeal.cfgs 0).N, ?_, ?_⟩
  · exact (θ_run _ _ _).mono (fun r h c => ⟨(h.1 c).1 6, (h.1 c).1 7, (h.1 c).1 8, (h.1 c).1 9, (h.1 c).1 10, h.2 c⟩)
      (θ_run_and (Cert.UpBwdIdeal.Gen.run_main m g) (Cert.UpBwdIdeal.Gen.unchanged m g))
  · refine (θ_run _ _ _).mono (fun r h c => ⟨((h c).1).trans ?_, ((h c).2.1).trans ?_, ((h c).2.2.1).trans ?_, ((h c).2.2.2.1).trans ?_, ((h c).2.2.2.2.1).trans ?_, (h c).2.2.2.2.2⟩) (Cert.UpBwdRefIdeal.Value.run m' g')
    · refine (Cert.UpBwdRefIdeal.Read.val_main_v66_eq m' c).trans ?_
      rw [(hagree c).1, (hagree c).2.1, (hagree c).2.2.1, (hagree c).2.2.2.2.1, (hagree c).2.2.2.2.2.1, (hagree c).2.2.2.2.2.2]
      exact (Cert.UpBwdIdeal.Hand.final6 m c (fin_Up m hpre c)).symm
    · refine (Cert.UpBwdRefIdeal.Read.val_main_v69_eq m' c).trans ?_
      rw [(hagree c).1, (hagree c).2.1, (hagree c).2.2.1, (hagree c).2.2.2.2.1, (hagree c).2.2.2.2.2.1, (hagree c).2.2.2.2.2.2]
      exact (Cert.UpBwdIdeal.Hand.final7 m c (fin_Up m hpre c)).symm
    · refine (Cert.UpBwdRefIdeal.Read.val_main_v40_eq _ _ _ _ _).trans ?_
      rw [(hagree c).1, (hagree c).2.1, (hagree c).2.2.2.2.1, (hagree c).2.2.2.2.2.1, (hagree c).2.2.2.2.2.2]
      exact (Cert.UpBwdIdeal.Hand.final8 m c).symm
    · refine (Cert.UpBwdRefIdeal.Read.val_main_v37_eq _ _ _).trans ?_
      rw [(hagree c).2.2.2.2.1, (hagree c).2.2.2.2.2.1, (hagree c).2.2.2.2.2.2]
      exact (Cert.UpBwdIdeal.Hand.final9 m c).symm
    · refine (Cert.UpBwdRefIdeal.Read.val_main_v68_eq m' c).trans ?_
      rw [(hagree c).1, (hagree c).2.1, (hagree c).2.2.1, (hagree c).2.2.2.2.1, (hagree c).2.2.2.2.2.1, (hagree c).2.2.2.2.2.2]
      exact (Cert.UpBwdIdeal.Hand.final10 m c (fin_Up m hpre c)).symm

end Cert.Proof

end
-- ==== Proof.AttnMath.lean ====
/- A masked row's softmax and its gradient on extended reals: over a prefix that holds every allowed entry it is the one
   over the whole row, and on rows with an allowed finite entry the kernel's grouping of the gradient is the
   reference's. Nothing here names a program. -/
module

public import proofs.«01_k».proof.Proof.LnMath

@[expose] public section

noncomputable section

namespace Cert.Proof

open Idealize.ShloMosaic

/-! ## Prefixes -/

/-- A sum over a prefix is the whole sum where the rest is zero. -/
theorem sum_prefix {n N : ℕ} (h : n ≤ N) (f : Fin N → EReal) (h0 : ∀ x : Fin N, n ≤ x.val → f x = 0) :
    ∑ x : Fin n, f (Fin.castLE h x) = ∑ x : Fin N, f x := by
  classical
  refine (Finset.sum_map Finset.univ (Fin.castLEEmb h) f).symm.trans ?_
  refine Finset.sum_subset (Finset.subset_univ _) fun x _ hx => h0 x ?_
  by_contra hlt
  exact hx (Finset.mem_map.mpr ⟨⟨x.val, by omega⟩, Finset.mem_univ _, rfl⟩)

/-- A row's maximum, from −∞. -/
def smM {n : ℕ} (s : Fin n → EReal) : EReal := Finset.fold max ⊥ s Finset.univ

theorem smM_sup {n : ℕ} (s : Fin n → EReal) : smM s = Finset.univ.sup s := rfl

theorem smM_prefix {n N : ℕ} (h : n ≤ N) (s : Fin N → EReal) (h0 : ∀ x : Fin N, n ≤ x.val → s x = ⊥) :
    smM (fun x : Fin n => s (Fin.castLE h x)) = smM s := by
  rw [smM_sup, smM_sup]
  refine le_antisymm (Finset.sup_le fun x _ => Finset.le_sup (f := s) (Finset.mem_univ _)) (Finset.sup_le fun x _ => ?_)
  by_cases hx : x.val < n
  · exact Finset.le_sup (f := fun x : Fin n => s (Fin.castLE h x)) (Finset.mem_univ ⟨x.val, hx⟩)
  · rw [h0 x (by omega)]; exact bot_le

/-- The exponentials, their sum, the probabilities. -/
def smE {n : ℕ} (s : Fin n → EReal) (j : Fin n) : EReal := Ideal.exp (s j - smM s)
def smL {n : ℕ} (s : Fin n → EReal) : EReal := ∑ x, smE s x
def smP {n : ℕ} (s : Fin n → EReal) (j : Fin n) : EReal := Ideal.div (smE s j) (smL s)

theorem smE_bot {n : ℕ} (s : Fin n → EReal) (j : Fin n) (h : s j = ⊥) : smE s j = 0 := by
  unfold smE
  rw [h, sub_eq_add_neg, EReal.bot_add]
  rfl

theorem smE_prefix {n N : ℕ} (h : n ≤ N) (s : Fin N → EReal) (h0 : ∀ x : Fin N, n ≤ x.val → s x = ⊥) (j : Fin n) :
    smE (fun x : Fin n => s (Fin.castLE h x)) j = smE s (Fin.castLE h j) := by
  unfold smE
  rw [smM_prefix h s h0]

theorem smL_prefix {n N : ℕ} (h : n ≤ N) (s : Fin N → EReal) (h0 : ∀ x : Fin N, n ≤ x.val → s x = ⊥) :
    smL (fun x : Fin n => s (Fin.castLE h x)) = smL s := by
  unfold smL
  rw [← sum_prefix h (smE s) fun x hx => smE_bot s x (h0 x hx)]
  exact Finset.sum_congr rfl fun x _ => smE_prefix h s h0 x

theorem smP_prefix {n N : ℕ} (h : n ≤ N) (s : Fin N → EReal) (h0 : ∀ x : Fin N, n ≤ x.val → s x = ⊥) (j : Fin n) :
    smP (fun x : Fin n => s (Fin.castLE h x)) j = smP s (Fin.castLE h j) := by
  unfold smP
  rw [smE_prefix h s h0, smL_prefix h s h0]

/-! ## Rows of reals and −∞ with one real -/

/-- Each entry is a real or −∞, and one is a real. -/
def SmRow {n : ℕ} (s : Fin n → EReal) : Prop := (∀ x, IsR (s x) ∨ s x = ⊥) ∧ ∃ x, IsR (s x)

variable {n : ℕ} {s : Fin n → EReal}

theorem SmRow.max (h : SmRow s) : IsR (smM s) := by
  obtain ⟨h1, x0, hx0⟩ := h
  rw [smM_sup]
  obtain ⟨i, -, hi⟩ := Finset.exists_mem_eq_sup Finset.univ ⟨x0, Finset.mem_univ _⟩ s
  rcases h1 i with hr | hb
  · rw [hi]; exact hr
  · exfalso
    have hle : s x0 ≤ Finset.univ.sup s := Finset.le_sup (Finset.mem_univ x0)
    rw [hi, hb, le_bot_iff] at hle
    obtain ⟨r, hr⟩ := hx0
    rw [hr] at hle
    exact EReal.coe_ne_bot r hle

theorem SmRow.exp (h : SmRow s) (x : Fin n) : ∃ r : ℝ, 0 ≤ r ∧ smE s x = (r : EReal) := by
  rcases h.1 x with hr | hb
  · obtain ⟨a, ha⟩ := hr.sub h.max
    exact ⟨Real.exp a, (Real.exp_pos a).le, by unfold smE; rw [ha]; rfl⟩
  · exact ⟨0, le_refl 0, smE_bot s x hb⟩

theorem SmRow.sum (h : SmRow s) : ∃ r : ℝ, 0 < r ∧ smL s = (r : EReal) := by
  choose e he0 he using h.exp
  obtain ⟨x0, hx0⟩ := h.2
  refine ⟨∑ x, e x, ?_, ?_⟩
  · refine Finset.sum_pos' (fun x _ => he0 x) ⟨x0, Finset.mem_univ _, ?_⟩
    obtain ⟨a, ha⟩ := hx0.sub h.max
    have h1 : smE s x0 = ((Real.exp a : ℝ) : EReal) := by unfold smE; rw [ha]; rfl
    rw [he x0] at h1
    rw [EReal.coe_eq_coe_iff.mp h1]
    exact Real.exp_pos a
  · unfold smL
    simp only [he]
    exact sum_coe _ _

theorem SmRow.prob (h : SmRow s) (x : Fin n) : IsR (smP s x) := by
  obtain ⟨e, -, he⟩ := h.exp x
  obtain ⟨L, hL, hLe⟩ := h.sum
  unfold smP
  rw [he, hLe]
  exact ⟨e / L, div_real e L hL.ne'⟩

theorem SmRow.prob_bot (h : SmRow s) (x : Fin n) (hx : s x = ⊥) : smP s x = 0 := by
  obtain ⟨L, hL, hLe⟩ := h.sum
  unfold smP
  rw [smE_bot s x hx, hLe, show (0 : EReal) = ((0 : ℝ) : EReal) from rfl, div_real 0 L hL.ne', zero_div]

/-- The gradient of a row's scores as the kernel groups it, before the scale. -/
def smG (s d : Fin n → EReal) (j : Fin n) : EReal := smP s j * (d j - ∑ x, smP s x * d x)

theorem SmRow.grad_bot (h : SmRow s) (d : Fin n → EReal) (x : Fin n) (hx : s x = ⊥) : smG s d x = 0 := by
  unfold smG
  rw [h.prob_bot x hx, zero_mul]

theorem smG_prefix {n N : ℕ} (h : n ≤ N) (s d : Fin N → EReal) (hs : SmRow s) (h0 : ∀ x : Fin N, n ≤ x.val → s x = ⊥) (j : Fin n) :
    smG (fun x : Fin n => s (Fin.castLE h x)) (fun x => d (Fin.castLE h x)) j = smG s d (Fin.castLE h j) := by
  unfold smG
  simp only [smP_prefix h s h0]
  rw [sum_prefix h (fun x => smP s x * d x) fun x hx => by rw [hs.prob_bot x (h0 x hx), zero_mul]]

/-- The reference's grouping. -/
theorem SmRow.grad (h : SmRow s) (d : Fin n → EReal) (hd : ∀ x, IsR (d x)) (j : Fin n) :
    (Ideal.div (d j) (smL s) + -(∑ x, d x * Ideal.div 1 (smL s * smL s) * smE s x)) * smE s j = smG s d j := by
  choose e he0 he using h.exp
  choose b hb using hd
  obtain ⟨L, hL, hLe⟩ := h.sum
  unfold smG smP
  simp only [he, hb, hLe, ← EReal.coe_mul, show (1 : EReal) = ((1 : ℝ) : EReal) from rfl,
    div_real _ _ hL.ne', div_real _ _ (mul_pos hL hL).ne', sum_coe, ← EReal.coe_neg, ← EReal.coe_add, ← EReal.coe_sub]
  congr 1
  have h1 : ∑ x, b x * (1 / (L * L)) * e x = (∑ x, e x / L * b x) / L := by
    rw [Finset.sum_div]
    refine Finset.sum_congr rfl fun x _ => ?_
    field_simp
  rw [h1]
  field_simp
  ring

end Cert.Proof

end
-- ==== Proof.AttnRef.lean ====
/- The reference of the attention gradient, stage by stage: the masked scores, their softmax, its gradient. -/
module

public import proofs.«01_k».proof.Defs
public import proofs.«01_k».proof.Proof.Gen.AttnBwdIdeal.Value
public import proofs.«01_k».proof.Proof.Gen.AttnBwdRefIdeal.Read
public import proofs.«01_k».proof.Proof.AttnMath
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem
open Idealize.ShloMosaic.Pipeline (Dat)
open Cert.Proof

variable (m : (ℓ : Loc nD τ sig) → Buf (Elt Ideal) ℓ)

/-- The scale of the scores. -/
abbrev cS : EReal := Ideal.ofBits FTy.f32 0x3D93CD3A#32

theorem ninf : Ideal.ofBits FTy.f32 0xFF800000#32 = (⊥ : EReal) := by simp [Ideal.ofBits, Ideal.ieee]

theorem pad_zero : (FloatOps.sitofp (F := Ideal) FTy.f32 (0#32) : EReal) = 0 := by
  show (((0#32).toInt : ℝ) : EReal) = 0
  simp

theorem cS_isR : IsR cS := by
  refine ⟨cS.toReal, ?_⟩
  rw [cS, EReal.coe_toReal] <;> simp [Ideal.ofBits, Ideal.ieee, -EReal.coe_mul]

abbrev XQ := (⟨S2048x8x192, .f32⟩ : BufTy).Contents (Elt Ideal)
abbrev XV := (⟨S2048x8x128, .f32⟩ : BufTy).Contents (Elt Ideal)

/-- Head `h`: row `i` of the masked scores, and of the probabilities' gradient. -/
def sR (x0 x1 : XQ) (h : Fin 8) (i j : Fin 2048) : EReal :=
  if j.val / 64 ≤ i.val / 64 then (∑ d : Fin 192, x0 (ix3 i h d) * x1 (ix3 j h d)) * cS else ⊥
def dR (x2 x3 : XV) (h : Fin 8) (i j : Fin 2048) : EReal := ∑ d : Fin 128, x3 (ix3 i h d) * x2 (ix3 j h d)

/-- The words of the mask. -/
theorem sle_word : ∀ a b : Fin 32, (IntOp.cmpi .sle (BitVec.ofNat 32 a.val) (BitVec.ofNat 32 b.val) = 1#1) ↔ a.val ≤ b.val := by decide +kernel

theorem select_word {α : Type} (c : BitVec 1) (P : Prop) [Decidable P] (h : c = 1#1 ↔ P) (a b : α) : Scalar.select c a b = if P then a else b := by
  by_cases hp : P
  · rw [if_pos hp, h.mpr hp]; rfl
  · rw [if_neg hp]
    have hc : c = 0#1 := by
      rcases (by decide : ∀ c : BitVec 1, c = 0#1 ∨ c = 1#1) c with h0 | h1
      · exact h0
      · exact absurd (h.mp h1) hp
    rw [hc]; rfl

open Cert.AttnBwdRefIdeal.Read

variable (x0 x1 : XQ) (x2 x3 : XV) (h : Fin 8) (r q : Fin 2048) (e : Fin 192) (l : Fin 128)

theorem ref1_at : (val_main_v1 (F := Ideal) (ix1 r)) = BitVec.ofNat 32 (r.val / 64) := by
  pointwise [val_main_v0, val_main_c, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13, val_main_v1]
  revert r
  decide +kernel

theorem ref11_1_at : (val_main_v11_1 (F := Ideal) (ix3 h r q) = 1#1) ↔ q.val / 64 ≤ r.val / 64 := by
  have hp : val_main_v11_1 (F := Ideal) (ix3 h r q) = IntOp.cmpi .sle (BitVec.ofNat 32 (q.val / 64)) (BitVec.ofNat 32 (r.val / 64)) := by
    pointwise [val_main_v0, val_main_c, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13, val_main_v2, val_main_v3, val_main_v4, val_main_v5, val_main_v6, val_main_v7, val_main_cst, val_main_v8, val_main_v9, val_main_v10, val_main_cst_0, val_main_call1_v0, val_main_v11_1, val_main_call1_v2, val_main_v11_0, val_main_call1_cst, val_main_v11_2, val_main_cst_1, val_main_v12, val_main_v13, val_main_v14, val_main_v15, val_main_v16, val_main_cst_2, val_main_v17, val_main_cst_3, val_main_v18, val_main_v19, val_main_cst_4, val_main_v20, val_main_v21, val_main_cst_5, val_main_v22, val_main_v23, val_main_cst_6, val_main_v24, val_main_cst_7, val_main_v25, val_main_cst_8, val_main_v26, val_main_v27, val_main_v28, val_main_v29, val_main_v30, val_main_v31, val_main_v32, val_main_cst_9, val_main_v33, val_main_v34, val_main_v35, val_main_v36, val_main_v37, val_main_cst_10, val_main_v38, val_main_v39, val_main_v40, val_main_v41, val_main_v42, val_main_v43, val_main_v44, val_main_v45, val_main_v46, val_main_v47, val_main_v48, val_main_cst_11, val_main_v49, val_main_v50, val_main_v51, val_main_v52, val_main_v53, val_main_cst_12, val_main_v54, val_main_v55, val_main_v56, val_main_v57, val_main_call2_cst, val_main_call2_v0, val_main_v58, val_main_cst_13, val_main_v59, val_main_v60, val_main_v61, val_main_v62, val_main_v63, val_main_v64, val_main_c_14, val_main_call3_v0, val_main_v65, val_main_v66, val_main_v67, val_main_c_15, val_main_call4_v0, val_main_v68, val_main_v69, val_main_v70, val_main_v71, val_main_v72]
    simp only [ref1_at]
  rw [hp]
  exact sle_word ⟨q.val / 64, by omega⟩ ⟨r.val / 64, by omega⟩

theorem ref7_at : @Eq EReal (val_main_v7 (F := Ideal) x0 x1 (ix3 h r q)) (∑ d : Fin 192, x0 (ix3 r h d) * x1 (ix3 q h d)) := by
  pointwise [val_main_v7]

theorem ref11_0_at : @Eq EReal (val_main_v11_0 (F := Ideal) x0 x1 (ix3 h r q))
    (sR x0 x1 h r q) := by
  pointwise [val_main_v0, val_main_c, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13, val_main_v2, val_main_v3, val_main_v4, val_main_v5, val_main_v6, val_main_cst, val_main_v8, val_main_v9, val_main_v10, val_main_cst_0, val_main_call1_v0, val_main_call1_v2, val_main_v11_0, val_main_call1_cst, val_main_v11_2, val_main_cst_1, val_main_v12, val_main_v13, val_main_v14, val_main_v15, val_main_v16, val_main_cst_2, val_main_v17, val_main_cst_3, val_main_v18, val_main_v19, val_main_cst_4, val_main_v20, val_main_v21, val_main_cst_5, val_main_v22, val_main_v23, val_main_cst_6, val_main_v24, val_main_cst_7, val_main_v25, val_main_cst_8, val_main_v26, val_main_v27, val_main_v28, val_main_v29, val_main_v30, val_main_v31, val_main_v32, val_main_cst_9, val_main_v33, val_main_v34, val_main_v35, val_main_v36, val_main_v37, val_main_cst_10, val_main_v38, val_main_v39, val_main_v40, val_main_v41, val_main_v42, val_main_v43, val_main_v44, val_main_v45, val_main_v46, val_main_v47, val_main_v48, val_main_cst_11, val_main_v49, val_main_v50, val_main_v51, val_main_v52, val_main_v53, val_main_cst_12, val_main_v54, val_main_v55, val_main_v56, val_main_v57, val_main_call2_cst, val_main_call2_v0, val_main_v58, val_main_cst_13, val_main_v59, val_main_v60, val_main_v61, val_main_v62, val_main_v63, val_main_v64, val_main_c_14, val_main_call3_v0, val_main_v65, val_main_v66, val_main_v67, val_main_c_15, val_main_call4_v0, val_main_v68, val_main_v69, val_main_v70, val_main_v71, val_main_v72]
  rw [select_word _ _ (ref11_1_at h r q), ref7_at]
  exact if_congr Iff.rfl rfl ninf

theorem ref12_at : @Eq EReal (val_main_v12 (F := Ideal) x0 x1 (ix2 h r))
    (smM (sR x0 x1 h r)) := by
  pointwise [val_main_v0, val_main_c, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13, val_main_v2, val_main_v3, val_main_v4, val_main_v5, val_main_v6, val_main_cst, val_main_v8, val_main_v9, val_main_v10, val_main_cst_0, val_main_call1_v0, val_main_call1_v2, val_main_call1_cst, val_main_v11_2, val_main_cst_1, val_main_v12, val_main_v13, val_main_v14, val_main_v15, val_main_v16, val_main_cst_2, val_main_v17, val_main_cst_3, val_main_v18, val_main_v19, val_main_cst_4, val_main_v20, val_main_v21, val_main_cst_5, val_main_v22, val_main_v23, val_main_cst_6, val_main_v24, val_main_cst_7, val_main_v25, val_main_cst_8, val_main_v26, val_main_v27, val_main_v28, val_main_v29, val_main_v30, val_main_v31, val_main_v32, val_main_cst_9, val_main_v33, val_main_v34, val_main_v35, val_main_v36, val_main_v37, val_main_cst_10, val_main_v38, val_main_v39, val_main_v40, val_main_v41, val_main_v42, val_main_v43, val_main_v44, val_main_v45, val_main_v46, val_main_v47, val_main_v48, val_main_cst_11, val_main_v49, val_main_v50, val_main_v51, val_main_v52, val_main_v53, val_main_cst_12, val_main_v54, val_main_v55, val_main_v56, val_main_v57, val_main_call2_cst, val_main_call2_v0, val_main_v58, val_main_cst_13, val_main_v59, val_main_v60, val_main_v61, val_main_v62, val_main_v63, val_main_v64, val_main_c_14, val_main_call3_v0, val_main_v65, val_main_v66, val_main_v67, val_main_c_15, val_main_call4_v0, val_main_v68, val_main_v69, val_main_v70, val_main_v71, val_main_v72]
  simp only [ref11_0_at, ninf]
  rfl

theorem bot_max (x : EReal) : max (⊥ : EReal) x = x := max_eq_right bot_le

theorem ref18_at : @Eq EReal (val_main_v18 (F := Ideal) (ix2 h r)) ⊥ := by
  pointwise [val_main_v18, val_main_cst_3]
  exact ninf

theorem ref19_at : @Eq EReal (val_main_v19 (F := Ideal) x0 x1 (ix2 h r)) (smM (sR x0 x1 h r)) := by
  refine (val_main_v19_apply (F := Ideal) x0 x1 (ix2 h r)).trans ?_
  rw [ref12_at, ref18_at]
  exact bot_max _

theorem ref32_at : @Eq EReal (val_main_v32 (F := Ideal) x0 x1 (ix3 h r q))
    (smE (sR x0 x1 h r) q) := by
  pointwise [val_main_v0, val_main_c, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13, val_main_v2, val_main_v3, val_main_v4, val_main_v5, val_main_v6, val_main_cst, val_main_v8, val_main_v9, val_main_v10, val_main_cst_0, val_main_call1_v0, val_main_call1_v2, val_main_call1_cst, val_main_v11_2, val_main_cst_1, val_main_v13, val_main_v14, val_main_v15, val_main_v16, val_main_cst_2, val_main_v17, val_main_cst_3, val_main_v18, val_main_cst_4, val_main_v20, val_main_v21, val_main_cst_5, val_main_v22, val_main_v23, val_main_cst_6, val_main_v24, val_main_cst_7, val_main_v25, val_main_cst_8, val_main_v26, val_main_v27, val_main_v28, val_main_v29, val_main_v30, val_main_v31, val_main_v32, val_main_cst_9, val_main_v33, val_main_v34, val_main_v35, val_main_v36, val_main_v37, val_main_cst_10, val_main_v38, val_main_v39, val_main_v40, val_main_v41, val_main_v42, val_main_v43, val_main_v44, val_main_v45, val_main_v46, val_main_v47, val_main_v48, val_main_cst_11, val_main_v49, val_main_v50, val_main_v51, val_main_v52, val_main_v53, val_main_cst_12, val_main_v54, val_main_v55, val_main_v56, val_main_v57, val_main_call2_cst, val_main_call2_v0, val_main_v58, val_main_cst_13, val_main_v59, val_main_v60, val_main_v61, val_main_v62, val_main_v63, val_main_v64, val_main_c_14, val_main_call3_v0, val_main_v65, val_main_v66, val_main_v67, val_main_c_15, val_main_call4_v0, val_main_v68, val_main_v69, val_main_v70, val_main_v71, val_main_v72]
  simp only [ref11_0_at, ref19_at]
  rfl

theorem ref34_at : @Eq EReal (val_main_v34 (F := Ideal) x0 x1 (ix3 h r (0 : Fin 1)))
    (smL (sR x0 x1 h r)) := by
  pointwise [val_main_v0, val_main_c, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13, val_main_v2, val_main_v3, val_main_v4, val_main_v5, val_main_v6, val_main_cst, val_main_v8, val_main_v9, val_main_v10, val_main_cst_0, val_main_call1_v0, val_main_call1_v2, val_main_call1_cst, val_main_v11_2, val_main_cst_1, val_main_v13, val_main_v14, val_main_v15, val_main_v16, val_main_cst_2, val_main_v17, val_main_cst_3, val_main_v18, val_main_cst_4, val_main_v20, val_main_v21, val_main_cst_5, val_main_v22, val_main_v23, val_main_cst_6, val_main_v24, val_main_cst_7, val_main_v25, val_main_cst_8, val_main_v26, val_main_v27, val_main_v28, val_main_v29, val_main_v30, val_main_v31, val_main_cst_9, val_main_v33, val_main_v34, val_main_v35, val_main_v36, val_main_v37, val_main_cst_10, val_main_v38, val_main_v39, val_main_v40, val_main_v41, val_main_v42, val_main_v43, val_main_v44, val_main_v45, val_main_v46, val_main_v47, val_main_v48, val_main_cst_11, val_main_v49, val_main_v50, val_main_v51, val_main_v52, val_main_v53, val_main_cst_12, val_main_v54, val_main_v55, val_main_v56, val_main_v57, val_main_call2_cst, val_main_call2_v0, val_main_v58, val_main_cst_13, val_main_v59, val_main_v60, val_main_v61, val_main_v62, val_main_v63, val_main_v64, val_main_c_14, val_main_call3_v0, val_main_v65, val_main_v66, val_main_v67, val_main_c_15, val_main_call4_v0, val_main_v68, val_main_v69, val_main_v70, val_main_v71, val_main_v72]
  simp only [ref32_at]
  rfl

theorem ref36_at : @Eq EReal (val_main_v36 (F := Ideal) x0 x1 (ix3 h r q))
    (smP (sR x0 x1 h r) q) := by
  pointwise [val_main_v0, val_main_c, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13, val_main_v2, val_main_v3, val_main_v4, val_main_v5, val_main_v6, val_main_cst, val_main_v8, val_main_v9, val_main_v10, val_main_cst_0, val_main_call1_v0, val_main_call1_v2, val_main_call1_cst, val_main_v11_2, val_main_cst_1, val_main_v13, val_main_v14, val_main_v15, val_main_v16, val_main_cst_2, val_main_v17, val_main_cst_3, val_main_v18, val_main_cst_4, val_main_v20, val_main_v21, val_main_cst_5, val_main_v22, val_main_v23, val_main_cst_6, val_main_v24, val_main_cst_7, val_main_v25, val_main_cst_8, val_main_v26, val_main_v27, val_main_v28, val_main_v29, val_main_v30, val_main_v31, val_main_cst_9, val_main_v33, val_main_v35, val_main_v36, val_main_v37, val_main_cst_10, val_main_v38, val_main_v39, val_main_v40, val_main_v41, val_main_v42, val_main_v43, val_main_v44, val_main_v45, val_main_v46, val_main_v47, val_main_v48, val_main_cst_11, val_main_v49, val_main_v50, val_main_v51, val_main_v52, val_main_v53, val_main_cst_12, val_main_v54, val_main_v55, val_main_v56, val_main_v57, val_main_call2_cst, val_main_call2_v0, val_main_v58, val_main_cst_13, val_main_v59, val_main_v60, val_main_v61, val_main_v62, val_main_v63, val_main_v64, val_main_c_14, val_main_call3_v0, val_main_v65, val_main_v66, val_main_v67, val_main_c_15, val_main_call4_v0, val_main_v68, val_main_v69, val_main_v70, val_main_v71, val_main_v72]
  simp only [ref32_at, ref34_at]
  rfl

theorem ref43_at : @Eq EReal (val_main_v43 (F := Ideal) x2 x3 (ix3 h r q))
    (dR x2 x3 h r q) := by
  pointwise [val_main_v0, val_main_c, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13, val_main_v2, val_main_v3, val_main_v4, val_main_v5, val_main_v6, val_main_cst, val_main_v8, val_main_v9, val_main_v10, val_main_cst_0, val_main_call1_v0, val_main_call1_v2, val_main_call1_cst, val_main_v11_2, val_main_cst_1, val_main_v13, val_main_v14, val_main_v15, val_main_v16, val_main_cst_2, val_main_v17, val_main_cst_3, val_main_v18, val_main_cst_4, val_main_v20, val_main_v21, val_main_cst_5, val_main_v22, val_main_v23, val_main_cst_6, val_main_v24, val_main_cst_7, val_main_v25, val_main_cst_8, val_main_v26, val_main_v27, val_main_v28, val_main_v29, val_main_v30, val_main_v31, val_main_cst_9, val_main_v33, val_main_v35, val_main_v37, val_main_cst_10, val_main_v38, val_main_v39, val_main_v40, val_main_v41, val_main_v42, val_main_v43, val_main_v44, val_main_v45, val_main_v46, val_main_v47, val_main_v48, val_main_cst_11, val_main_v49, val_main_v50, val_main_v51, val_main_v52, val_main_v53, val_main_cst_12, val_main_v54, val_main_v55, val_main_v56, val_main_v57, val_main_call2_cst, val_main_call2_v0, val_main_v58, val_main_cst_13, val_main_v59, val_main_v60, val_main_v61, val_main_v62, val_main_v63, val_main_v64, val_main_c_14, val_main_call3_v0, val_main_v65, val_main_v66, val_main_v67, val_main_c_15, val_main_call4_v0, val_main_v68, val_main_v69, val_main_v70, val_main_v71, val_main_v72]
  rfl

theorem ref39_at : @Eq EReal (val_main_v39 (F := Ideal) x0 x1 (ix3 h r (0 : Fin 1)))
    (Ideal.div 1 (smL (sR x0 x1 h r) * smL (sR x0 x1 h r))) := by
  pointwise [val_main_v0, val_main_c, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13, val_main_v2, val_main_v3, val_main_v4, val_main_v5, val_main_v6, val_main_cst, val_main_v8, val_main_v9, val_main_v10, val_main_cst_0, val_main_call1_v0, val_main_call1_v2, val_main_call1_cst, val_main_v11_2, val_main_cst_1, val_main_v13, val_main_v14, val_main_v15, val_main_v16, val_main_cst_2, val_main_v17, val_main_cst_3, val_main_v18, val_main_cst_4, val_main_v20, val_main_v21, val_main_cst_5, val_main_v22, val_main_v23, val_main_cst_6, val_main_v24, val_main_cst_7, val_main_v25, val_main_cst_8, val_main_v26, val_main_v27, val_main_v28, val_main_v29, val_main_v30, val_main_v31, val_main_cst_9, val_main_v33, val_main_v35, val_main_v37, val_main_cst_10, val_main_v38, val_main_v39, val_main_v40, val_main_v41, val_main_v42, val_main_v44, val_main_v45, val_main_v46, val_main_v47, val_main_v48, val_main_cst_11, val_main_v49, val_main_v50, val_main_v51, val_main_v52, val_main_v53, val_main_cst_12, val_main_v54, val_main_v55, val_main_v56, val_main_v57, val_main_call2_cst, val_main_call2_v0, val_main_v58, val_main_cst_13, val_main_v59, val_main_v60, val_main_v61, val_main_v62, val_main_v63, val_main_v64, val_main_c_14, val_main_call3_v0, val_main_v65, val_main_v66, val_main_v67, val_main_c_15, val_main_call4_v0, val_main_v68, val_main_v69, val_main_v70, val_main_v71, val_main_v72]
  simp only [ref34_at]

theorem ref50_at : @Eq EReal (val_main_v50 (F := Ideal) x0 x1 x2 x3 (ix3 h r (0 : Fin 1)))
    (∑ j, dR x2 x3 h r j * Ideal.div 1 (smL (sR x0 x1 h r) * smL (sR x0 x1 h r)) * smE (sR x0 x1 h r) j) := by
  pointwise [val_main_v0, val_main_c, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13, val_main_v2, val_main_v3, val_main_v4, val_main_v5, val_main_v6, val_main_cst, val_main_v8, val_main_v9, val_main_v10, val_main_cst_0, val_main_call1_v0, val_main_call1_v2, val_main_call1_cst, val_main_v11_2, val_main_cst_1, val_main_v13, val_main_v14, val_main_v15, val_main_v16, val_main_cst_2, val_main_v17, val_main_cst_3, val_main_v18, val_main_cst_4, val_main_v20, val_main_v21, val_main_cst_5, val_main_v22, val_main_v23, val_main_cst_6, val_main_v24, val_main_cst_7, val_main_v25, val_main_cst_8, val_main_v26, val_main_v27, val_main_v28, val_main_v29, val_main_v30, val_main_v31, val_main_cst_9, val_main_v33, val_main_v35, val_main_v37, val_main_cst_10, val_main_v38, val_main_v40, val_main_v41, val_main_v42, val_main_v44, val_main_v45, val_main_v46, val_main_v47, val_main_v48, val_main_cst_11, val_main_v49, val_main_v50, val_main_v51, val_main_v52, val_main_v53, val_main_cst_12, val_main_v54, val_main_v55, val_main_v56, val_main_v57, val_main_call2_cst, val_main_call2_v0, val_main_v58, val_main_cst_13, val_main_v59, val_main_v60, val_main_v61, val_main_v62, val_main_v63, val_main_v64, val_main_c_14, val_main_call3_v0, val_main_v65, val_main_v66, val_main_v67, val_main_c_15, val_main_call4_v0, val_main_v68, val_main_v69, val_main_v70, val_main_v71, val_main_v72]
  simp only [ref43_at, ref39_at, ref32_at]

theorem ref54_at : @Eq EReal (val_main_v54 (F := Ideal) x0 x1 x2 x3 (ix2 h r))
    (-(∑ j, dR x2 x3 h r j * Ideal.div 1 (smL (sR x0 x1 h r) * smL (sR x0 x1 h r)) * smE (sR x0 x1 h r) j)) := by
  pointwise [val_main_v0, val_main_c, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13, val_main_v2, val_main_v3, val_main_v4, val_main_v5, val_main_v6, val_main_cst, val_main_v8, val_main_v9, val_main_v10, val_main_cst_0, val_main_call1_v0, val_main_call1_v2, val_main_call1_cst, val_main_v11_2, val_main_cst_1, val_main_v13, val_main_v14, val_main_v15, val_main_v16, val_main_cst_2, val_main_v17, val_main_cst_3, val_main_v18, val_main_cst_4, val_main_v20, val_main_v21, val_main_cst_5, val_main_v22, val_main_v23, val_main_cst_6, val_main_v24, val_main_cst_7, val_main_v25, val_main_cst_8, val_main_v26, val_main_v27, val_main_v28, val_main_v29, val_main_v30, val_main_v31, val_main_cst_9, val_main_v33, val_main_v35, val_main_v37, val_main_cst_10, val_main_v38, val_main_v40, val_main_v41, val_main_v42, val_main_v44, val_main_v45, val_main_v46, val_main_v47, val_main_v48, val_main_cst_11, val_main_v49, val_main_v51, val_main_v52, val_main_v53, val_main_cst_12, val_main_v54, val_main_v55, val_main_v56, val_main_v57, val_main_call2_cst, val_main_call2_v0, val_main_v58, val_main_cst_13, val_main_v59, val_main_v60, val_main_v61, val_main_v62, val_main_v63, val_main_v64, val_main_c_14, val_main_call3_v0, val_main_v65, val_main_v66, val_main_v67, val_main_c_15, val_main_call4_v0, val_main_v68, val_main_v69, val_main_v70, val_main_v71, val_main_v72]
  exact (Fin.sum_univ_one _).trans (congrArg Neg.neg (ref50_at x0 x1 x2 x3 h r))

/-- The arguments' entries are real numbers. -/
def FinAt : Prop := (∀ i, IsR (x0 i)) ∧ (∀ i, IsR (x1 i)) ∧ (∀ i, IsR (x2 i)) ∧ ∀ i, IsR (x3 i)

variable {x0 x1 x2 x3}

theorem FinAt.row (H : FinAt x0 x1 x2 x3) : SmRow (sR x0 x1 h r) := by
  have hs : ∀ j, IsR ((∑ d : Fin 192, x0 (ix3 r h d) * x1 (ix3 j h d)) * cS) := fun j =>
    (IsR.sum _ _ fun d => (H.1 _).mul (H.2.1 _)).mul cS_isR
  refine ⟨fun j => ?_, r, ?_⟩
  · unfold sR
    split
    · exact Or.inl (hs j)
    · exact Or.inr rfl
  · unfold sR
    rw [if_pos (le_refl _)]
    exact hs r

theorem FinAt.dp (H : FinAt x0 x1 x2 x3) : IsR (dR x2 x3 h r q) := IsR.sum _ _ fun d => (H.2.2.2 _).mul (H.2.2.1 _)

variable (x0 x1 x2 x3)

/-- The scores' gradient. -/
def gR (x0 x1 : XQ) (x2 x3 : XV) (h : Fin 8) (i j : Fin 2048) : EReal := smG (sR x0 x1 h i) (dR x2 x3 h i) j * cS

theorem ref60_at (H : FinAt x0 x1 x2 x3) : @Eq EReal (val_main_v60 (F := Ideal) x0 x1 x2 x3 (ix3 h r q)) (gR x0 x1 x2 x3 h r q) := by
  pointwise [val_main_v60, val_main_v0, val_main_c, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13, val_main_v2, val_main_v3, val_main_v4, val_main_v5, val_main_v6, val_main_cst, val_main_v8, val_main_v9, val_main_v10, val_main_cst_0, val_main_call1_v0, val_main_call1_v2, val_main_call1_cst, val_main_v11_2, val_main_cst_1, val_main_v13, val_main_v14, val_main_v15, val_main_v16, val_main_cst_2, val_main_v17, val_main_cst_3, val_main_v18, val_main_cst_4, val_main_v20, val_main_v21, val_main_cst_5, val_main_v22, val_main_v23, val_main_cst_6, val_main_v24, val_main_cst_7, val_main_v25, val_main_cst_8, val_main_v26, val_main_v27, val_main_v28, val_main_v29, val_main_v30, val_main_v31, val_main_cst_9, val_main_v33, val_main_v35, val_main_v37, val_main_cst_10, val_main_v38, val_main_v40, val_main_v41, val_main_v42, val_main_v44, val_main_v45, val_main_v46, val_main_v47, val_main_v48, val_main_cst_11, val_main_v49, val_main_v51, val_main_v52, val_main_v53, val_main_cst_12, val_main_v55, val_main_v56, val_main_v57, val_main_call2_cst, val_main_call2_v0, val_main_v58, val_main_cst_13, val_main_v59, val_main_v61, val_main_v62, val_main_v63, val_main_v64, val_main_c_14, val_main_call3_v0, val_main_v65, val_main_v66, val_main_v67, val_main_c_15, val_main_call4_v0, val_main_v68, val_main_v69, val_main_v70, val_main_v71, val_main_v72]
  rw [select_word _ _ (ref11_1_at h r q)]
  simp only [ref43_at, ref34_at, ref54_at, ref32_at]
  by_cases hm : q.val / 64 ≤ r.val / 64
  · rw [if_pos hm]
    exact congrArg (· * cS) ((H.row h r).grad _ (fun j => H.dp h r j) q)
  · rw [if_neg hm, gR, (H.row h r).grad_bot _ q (by unfold sR; rw [if_neg hm]), zero_mul]

theorem ref62_at (H : FinAt x0 x1 x2 x3) : @Eq EReal (val_main_v62 (F := Ideal) x0 x1 x2 x3 (ix3 r h e)) (∑ i, gR x0 x1 x2 x3 h i r * x0 (ix3 i h e)) := by
  pointwise [val_main_v0, val_main_c, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13, val_main_v2, val_main_v3, val_main_v4, val_main_v5, val_main_v6, val_main_cst, val_main_v8, val_main_v9, val_main_v10, val_main_cst_0, val_main_call1_v0, val_main_call1_v2, val_main_call1_cst, val_main_v11_2, val_main_cst_1, val_main_v13, val_main_v14, val_main_v15, val_main_v16, val_main_cst_2, val_main_v17, val_main_cst_3, val_main_v18, val_main_cst_4, val_main_v20, val_main_v21, val_main_cst_5, val_main_v22, val_main_v23, val_main_cst_6, val_main_v24, val_main_cst_7, val_main_v25, val_main_cst_8, val_main_v26, val_main_v27, val_main_v28, val_main_v29, val_main_v30, val_main_v31, val_main_cst_9, val_main_v33, val_main_v35, val_main_v37, val_main_cst_10, val_main_v38, val_main_v40, val_main_v41, val_main_v42, val_main_v44, val_main_v45, val_main_v46, val_main_v47, val_main_v48, val_main_cst_11, val_main_v49, val_main_v51, val_main_v52, val_main_v53, val_main_cst_12, val_main_v55, val_main_v56, val_main_v57, val_main_call2_cst, val_main_call2_v0, val_main_v58, val_main_cst_13, val_main_v59, val_main_v61, val_main_v62, val_main_v63, val_main_v64, val_main_c_14, val_main_call3_v0, val_main_v65, val_main_v66, val_main_v67, val_main_c_15, val_main_call4_v0, val_main_v68, val_main_v69, val_main_v70, val_main_v71, val_main_v72]
  simp only [ref60_at _ _ _ _ _ _ _ H]

theorem ref64_at (H : FinAt x0 x1 x2 x3) : @Eq EReal (val_main_v64 (F := Ideal) x0 x1 x2 x3 (ix3 r h e)) (∑ j, gR x0 x1 x2 x3 h r j * x1 (ix3 j h e)) := by
  pointwise [val_main_v0, val_main_c, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13, val_main_v2, val_main_v3, val_main_v4, val_main_v5, val_main_v6, val_main_cst, val_main_v8, val_main_v9, val_main_v10, val_main_cst_0, val_main_call1_v0, val_main_call1_v2, val_main_call1_cst, val_main_v11_2, val_main_cst_1, val_main_v13, val_main_v14, val_main_v15, val_main_v16, val_main_cst_2, val_main_v17, val_main_cst_3, val_main_v18, val_main_cst_4, val_main_v20, val_main_v21, val_main_cst_5, val_main_v22, val_main_v23, val_main_cst_6, val_main_v24, val_main_cst_7, val_main_v25, val_main_cst_8, val_main_v26, val_main_v27, val_main_v28, val_main_v29, val_main_v30, val_main_v31, val_main_cst_9, val_main_v33, val_main_v35, val_main_v37, val_main_cst_10, val_main_v38, val_main_v40, val_main_v41, val_main_v42, val_main_v44, val_main_v45, val_main_v46, val_main_v47, val_main_v48, val_main_cst_11, val_main_v49, val_main_v51, val_main_v52, val_main_v53, val_main_cst_12, val_main_v55, val_main_v56, val_main_v57, val_main_call2_cst, val_main_call2_v0, val_main_v58, val_main_cst_13, val_main_v59, val_main_v61, val_main_v62, val_main_v63, val_main_v64, val_main_c_14, val_main_call3_v0, val_main_v65, val_main_v66, val_main_v67, val_main_c_15, val_main_call4_v0, val_main_v68, val_main_v69, val_main_v70, val_main_v71, val_main_v72]
  simp only [ref60_at _ _ _ _ _ _ _ H]

theorem ref45_at : @Eq EReal (val_main_v45 (F := Ideal) x0 x1 x3 (ix3 r h l)) (∑ i, x3 (ix3 i h l) * smP (sR x0 x1 h i) r) := by
  pointwise [val_main_v0, val_main_c, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13, val_main_v2, val_main_v3, val_main_v4, val_main_v5, val_main_v6, val_main_cst, val_main_v8, val_main_v9, val_main_v10, val_main_cst_0, val_main_call1_v0, val_main_call1_v2, val_main_call1_cst, val_main_v11_2, val_main_cst_1, val_main_v13, val_main_v14, val_main_v15, val_main_v16, val_main_cst_2, val_main_v17, val_main_cst_3, val_main_v18, val_main_cst_4, val_main_v20, val_main_v21, val_main_cst_5, val_main_v22, val_main_v23, val_main_cst_6, val_main_v24, val_main_cst_7, val_main_v25, val_main_cst_8, val_main_v26, val_main_v27, val_main_v28, val_main_v29, val_main_v30, val_main_v31, val_main_cst_9, val_main_v33, val_main_v35, val_main_v37, val_main_cst_10, val_main_v38, val_main_v40, val_main_v41, val_main_v42, val_main_v44, val_main_v45, val_main_v46, val_main_v47, val_main_v48, val_main_cst_11, val_main_v49, val_main_v51, val_main_v52, val_main_v53, val_main_cst_12, val_main_v55, val_main_v56, val_main_v57, val_main_call2_cst, val_main_call2_v0, val_main_v58, val_main_cst_13, val_main_v59, val_main_v61, val_main_v62, val_main_v63, val_main_v64, val_main_c_14, val_main_call3_v0, val_main_v65, val_main_v66, val_main_v67, val_main_c_15, val_main_call4_v0, val_main_v68, val_main_v69, val_main_v70, val_main_v71, val_main_v72]
  simp only [ref36_at]

theorem ref67_at (H : FinAt x0 x1 x2 x3) (w : Fin 256) (hL : h.val * 256 + w.val < 2048) : @Eq EReal (val_main_v67 (F := Ideal) x0 x1 x2 x3 (ix2 r (⟨h.val * 256 + w.val, hL⟩ : Fin 2048)))
    (if hw : w.val < 192 then ∑ j, gR x0 x1 x2 x3 h r j * x1 (ix3 j h ⟨w.val, hw⟩) else 0) := by
  have h1 : (h.val * 256 + w.val) / 256 = h.val := by omega
  have h2 : (h.val * 256 + w.val) % 256 = w.val := by omega
  pointwise [val_main_v0, val_main_c, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13, val_main_v2, val_main_v3, val_main_v4, val_main_v5, val_main_v6, val_main_cst, val_main_v8, val_main_v9, val_main_v10, val_main_cst_0, val_main_call1_v0, val_main_call1_v2, val_main_call1_cst, val_main_v11_2, val_main_cst_1, val_main_v13, val_main_v14, val_main_v15, val_main_v16, val_main_cst_2, val_main_v17, val_main_cst_3, val_main_v18, val_main_cst_4, val_main_v20, val_main_v21, val_main_cst_5, val_main_v22, val_main_v23, val_main_cst_6, val_main_v24, val_main_cst_7, val_main_v25, val_main_cst_8, val_main_v26, val_main_v27, val_main_v28, val_main_v29, val_main_v30, val_main_v31, val_main_cst_9, val_main_v33, val_main_v35, val_main_v37, val_main_cst_10, val_main_v38, val_main_v40, val_main_v41, val_main_v42, val_main_v44, val_main_v46, val_main_v47, val_main_v48, val_main_cst_11, val_main_v49, val_main_v51, val_main_v52, val_main_v53, val_main_cst_12, val_main_v55, val_main_v56, val_main_v57, val_main_call2_cst, val_main_call2_v0, val_main_v58, val_main_cst_13, val_main_v59, val_main_v61, val_main_v63, val_main_c_14, val_main_call3_v0, val_main_v65, val_main_v66, val_main_v67, val_main_c_15, val_main_call4_v0, val_main_v68, val_main_v69, val_main_v70, val_main_v71, val_main_v72]
  by_cases hw : w.val < 192
  · rw [dif_pos (show _ from by omega), dif_pos hw, ← ref64_at x0 x1 x2 x3 h r ⟨w.val, hw⟩ H]
  · rw [dif_neg (by omega), dif_neg hw]
    exact pad_zero

theorem ref70_at (H : FinAt x0 x1 x2 x3) (w : Fin 256) (hL : h.val * 256 + w.val < 2048) : @Eq EReal (val_main_v70 (F := Ideal) x0 x1 x2 x3 (ix2 r (⟨h.val * 256 + w.val, hL⟩ : Fin 2048)))
    (if hw : w.val < 192 then ∑ i, gR x0 x1 x2 x3 h i r * x0 (ix3 i h ⟨w.val, hw⟩) else 0) := by
  have h1 : (h.val * 256 + w.val) / 256 = h.val := by omega
  have h2 : (h.val * 256 + w.val) % 256 = w.val := by omega
  pointwise [val_main_v0, val_main_c, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13, val_main_v2, val_main_v3, val_main_v4, val_main_v5, val_main_v6, val_main_cst, val_main_v8, val_main_v9, val_main_v10, val_main_cst_0, val_main_call1_v0, val_main_call1_v2, val_main_call1_cst, val_main_v11_2, val_main_cst_1, val_main_v13, val_main_v14, val_main_v15, val_main_v16, val_main_cst_2, val_main_v17, val_main_cst_3, val_main_v18, val_main_cst_4, val_main_v20, val_main_v21, val_main_cst_5, val_main_v22, val_main_v23, val_main_cst_6, val_main_v24, val_main_cst_7, val_main_v25, val_main_cst_8, val_main_v26, val_main_v27, val_main_v28, val_main_v29, val_main_v30, val_main_v31, val_main_cst_9, val_main_v33, val_main_v35, val_main_v37, val_main_cst_10, val_main_v38, val_main_v40, val_main_v41, val_main_v42, val_main_v44, val_main_v46, val_main_v47, val_main_v48, val_main_cst_11, val_main_v49, val_main_v51, val_main_v52, val_main_v53, val_main_cst_12, val_main_v55, val_main_v56, val_main_v57, val_main_call2_cst, val_main_call2_v0, val_main_v58, val_main_cst_13, val_main_v59, val_main_v61, val_main_v63, val_main_c_14, val_main_call3_v0, val_main_v65, val_main_v66, val_main_v67, val_main_c_15, val_main_call4_v0, val_main_v68, val_main_v69, val_main_v70, val_main_v71, val_main_v72]
  by_cases hw : w.val < 192
  · rw [dif_pos (show _ from by omega), dif_pos hw, ← ref62_at x0 x1 x2 x3 h r ⟨w.val, hw⟩ H]
  · rw [dif_neg (by omega), dif_neg hw]
    exact pad_zero

theorem ref72_at (hL : h.val * 128 + l.val < 1024) : @Eq EReal (val_main_v72 (F := Ideal) x0 x1 x3 (ix2 r (⟨h.val * 128 + l.val, hL⟩ : Fin 1024)))
    (∑ i, x3 (ix3 i h l) * smP (sR x0 x1 h i) r) := by
  have h1 : (h.val * 128 + l.val) / 128 = h.val := by omega
  have h2 : (h.val * 128 + l.val) % 128 = l.val := by omega
  pointwise [val_main_v0, val_main_c, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13, val_main_v2, val_main_v3, val_main_v4, val_main_v5, val_main_v6, val_main_cst, val_main_v8, val_main_v9, val_main_v10, val_main_cst_0, val_main_call1_v0, val_main_call1_v2, val_main_call1_cst, val_main_v11_2, val_main_cst_1, val_main_v13, val_main_v14, val_main_v15, val_main_v16, val_main_cst_2, val_main_v17, val_main_cst_3, val_main_v18, val_main_cst_4, val_main_v20, val_main_v21, val_main_cst_5, val_main_v22, val_main_v23, val_main_cst_6, val_main_v24, val_main_cst_7, val_main_v25, val_main_cst_8, val_main_v26, val_main_v27, val_main_v28, val_main_v29, val_main_v30, val_main_v31, val_main_cst_9, val_main_v33, val_main_v35, val_main_v37, val_main_cst_10, val_main_v38, val_main_v40, val_main_v41, val_main_v42, val_main_v44, val_main_v46, val_main_v47, val_main_v48, val_main_cst_11, val_main_v49, val_main_v51, val_main_v52, val_main_v53, val_main_cst_12, val_main_v55, val_main_v56, val_main_v57, val_main_call2_cst, val_main_call2_v0, val_main_v58, val_main_cst_13, val_main_v59, val_main_v61, val_main_v63, val_main_c_14, val_main_call3_v0, val_main_v65, val_main_v66, val_main_v67, val_main_c_15, val_main_call4_v0, val_main_v68, val_main_v69, val_main_v70, val_main_v71, val_main_v72]
  rw [← ref45_at x0 x1 x3 h r l]

end Cert.AttnBwdIdeal.Hand

end
-- ==== Proof.AttnPay.lean ====
/- The attention gradient's tiles at an index: the probabilities, the scores' gradient, and the three products of each of the
   four query tiles, whose key rows are the first 512, 1024, 1536 and 2048. -/
module

public import proofs.«01_k».proof.Defs
public import proofs.«01_k».proof.Proof.Gen.AttnBwdIdeal.Value
public import proofs.«01_k».proof.Proof.Gen.AttnBwdRefIdeal.Read
public import proofs.«01_k».proof.Proof.AttnRef
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem
open Idealize.ShloMosaic.Pipeline (Dat)
open Cert.Proof

variable (m : (ℓ : Loc nD τ sig) → Buf (Elt Ideal) ℓ)

/-- A row of masked scores over the first `n` keys, the query at position `i`. -/
def mrow (n : ℕ) (q : Fin 256 → EReal) (k : Fin n → Fin 256 → EReal) (i : ℕ) (j : Fin n) : EReal :=
  if j.val / 64 ≤ i / 64 then (∑ x, q x * k j x) * cS else ⊥
def dpr (n : ℕ) (d : Fin 128 → EReal) (v : Fin n → Fin 128 → EReal) (j : Fin n) : EReal := ∑ x, d x * v j x
def grow (n : ℕ) (q : Fin 256 → EReal) (k : Fin n → Fin 256 → EReal) (d : Fin 128 → EReal) (v : Fin n → Fin 128 → EReal) (i : ℕ) (j : Fin n) : EReal :=
  smG (mrow n q k i) (dpr n d v) j * cS

theorem mask_bot : @Eq EReal (Named.named (F := Ideal) κ "mask" (φ := .f32) 0xF149F2CA#32) ⊥ := rfl

theorem shr_word : ∀ x : Fin 512, IntOp.shrui .vector (BitVec.ofNat 32 x.val) 6#32 = BitVec.ofNat 32 (x.val / 64) := by decide +kernel

theorem cmp_word (x r : Fin 512) : IntOp.cmpi .sle (IntOp.shrui .vector (BitVec.ofNat 32 x.val) 6#32) (IntOp.shrui .vector (BitVec.ofNat 32 r.val) 6#32) = 1#1
    ↔ x.val / 64 ≤ r.val / 64 := by
  rw [shr_word, shr_word]
  exact sle_word ⟨x.val / 64, by omega⟩ ⟨r.val / 64, by omega⟩

theorem fold_bot {n : ℕ} (s : Fin n → EReal) : Finset.fold max (Ideal.ofBits FTy.f32 0xFF800000#32) s Finset.univ = smM s := by
  rw [ninf]; rfl

theorem sfm512_at (V : FVec Ideal S512x512 .f32) (r : Fin 512) (j : Fin 512) :
    @Eq EReal (divf (exp (subf V (broadcastTo S512x512 (shapeCast S512x1 (multiReduction .maximumf [1] S512 V 0xFF800000#32 reduces_S512x512_S512 (.inl rfl) rfl) shapeCasts_S512_S512x1) broadcasts_S512x1_S512x512)))
      (broadcastTo S512x512 (shapeCast S512x1 (multiReduction .add [1] S512 (exp (subf V (broadcastTo S512x512 (shapeCast S512x1 (multiReduction .maximumf [1] S512 V 0xFF800000#32 reduces_S512x512_S512 (.inl rfl) rfl) shapeCasts_S512_S512x1) broadcasts_S512x1_S512x512))) 0x00000000#32 reduces_S512x512_S512 (.inl rfl) rfl) shapeCasts_S512_S512x1) broadcasts_S512x1_S512x512) (ix2 r j))
    (smP (fun x => V (ix2 r x)) j) := by
  pointwise
  simp only [fold_bot]
  rfl

theorem sfm1024_at (V : FVec Ideal S512x1024 .f32) (r : Fin 512) (j : Fin 1024) :
    @Eq EReal (divf (exp (subf V (broadcastTo S512x1024 (shapeCast S512x1 (multiReduction .maximumf [1] S512 V 0xFF800000#32 reduces_S512x1024_S512 (.inl rfl) rfl) shapeCasts_S512_S512x1) broadcasts_S512x1_S512x1024)))
      (broadcastTo S512x1024 (shapeCast S512x1 (multiReduction .add [1] S512 (exp (subf V (broadcastTo S512x1024 (shapeCast S512x1 (multiReduction .maximumf [1] S512 V 0xFF800000#32 reduces_S512x1024_S512 (.inl rfl) rfl) shapeCasts_S512_S512x1) broadcasts_S512x1_S512x1024))) 0x00000000#32 reduces_S512x1024_S512 (.inl rfl) rfl) shapeCasts_S512_S512x1) broadcasts_S512x1_S512x1024) (ix2 r j))
    (smP (fun x => V (ix2 r x)) j) := by
  pointwise
  simp only [fold_bot]
  rfl

theorem sfm1536_at (V : FVec Ideal S512x1536 .f32) (r : Fin 512) (j : Fin 1536) :
    @Eq EReal (divf (exp (subf V (broadcastTo S512x1536 (shapeCast S512x1 (multiReduction .maximumf [1] S512 V 0xFF800000#32 reduces_S512x1536_S512 (.inl rfl) rfl) shapeCasts_S512_S512x1) broadcasts_S512x1_S512x1536)))
      (broadcastTo S512x1536 (shapeCast S512x1 (multiReduction .add [1] S512 (exp (subf V (broadcastTo S512x1536 (shapeCast S512x1 (multiReduction .maximumf [1] S512 V 0xFF800000#32 reduces_S512x1536_S512 (.inl rfl) rfl) shapeCasts_S512_S512x1) broadcasts_S512x1_S512x1536))) 0x00000000#32 reduces_S512x1536_S512 (.inl rfl) rfl) shapeCasts_S512_S512x1) broadcasts_S512x1_S512x1536) (ix2 r j))
    (smP (fun x => V (ix2 r x)) j) := by
  pointwise
  simp only [fold_bot]
  rfl

theorem sfm2048_at (V : FVec Ideal S512x2048 .f32) (r : Fin 512) (j : Fin 2048) :
    @Eq EReal (divf (exp (subf V (broadcastTo S512x2048 (shapeCast S512x1 (multiReduction .maximumf [1] S512 V 0xFF800000#32 reduces_S512x2048_S512 (.inl rfl) rfl) shapeCasts_S512_S512x1) broadcasts_S512x1_S512x2048)))
      (broadcastTo S512x2048 (shapeCast S512x1 (multiReduction .add [1] S512 (exp (subf V (broadcastTo S512x2048 (shapeCast S512x1 (multiReduction .maximumf [1] S512 V 0xFF800000#32 reduces_S512x2048_S512 (.inl rfl) rfl) shapeCasts_S512_S512x1) broadcasts_S512x1_S512x2048))) 0x00000000#32 reduces_S512x2048_S512 (.inl rfl) rfl) shapeCasts_S512_S512x1) broadcasts_S512x1_S512x2048) (ix2 r j))
    (smP (fun x => V (ix2 r x)) j) := by
  pointwise
  simp only [fold_bot]
  rfl

section
variable (q : FVec Ideal S512x256 .bf16) (d : FVec Ideal S512x128 .bf16) (r : Fin 512) (w : Fin 256) (l : Fin 128)

theorem pP512 (k : FVec Ideal S512x256 .bf16) (j : Fin 512) : @Eq EReal (k0_pay10 (F := Ideal) q k (ix2 r j))
    (smP (mrow 512 (fun x => q (ix2 r x)) (fun y x => k (ix2 y x)) r.val) j) := by
  unfold k0_pay10
  dsimp only
  refine (sfm512_at _ r j).trans (congrArg (fun s => smP s j) (funext fun x => ?_))
  unfold k0_pay7 k0_pay8
  pointwise
  rw [select_word _ _ (cmp_word x r)]
  rfl

theorem pP1024 (k : FVec Ideal S1024x256 .bf16) (j : Fin 1024) : @Eq EReal (k0_pay19 (F := Ideal) (k0_pay18 q k) (ix2 r j))
    (smP (mrow 1024 (fun x => q (ix2 r x)) (fun y x => k (ix2 y x)) (512 + r.val)) j) := by
  unfold k0_pay19
  dsimp only
  refine (sfm1024_at _ r j).trans (congrArg (fun s => smP s j) (funext fun x => ?_))
  unfold k0_pay18 k0_pay15 k0_pay16
  pointwise
  unfold mrow
  by_cases hx : x.val < 512
  · rw [dif_pos hx, if_pos (by omega)]
  · rw [dif_neg hx, select_word _ _ (cmp_word ⟨x.val - 512, by omega⟩ r)]
    refine if_congr ?_ ?_ rfl
    · show (x.val - 512) / 64 ≤ r.val / 64 ↔ _
      omega
    · exact congrArg (fun y : Fin 1024 => (∑ z, q (ix2 r z) * k (ix2 y z)) * cS) (Fin.ext (show _ = x.val by simp only []; omega))

theorem pP1536 (k : FVec Ideal S1536x256 .bf16) (j : Fin 1536) : @Eq EReal (k0_pay30 (F := Ideal) (k0_pay28 q k) (k0_pay29 q k) (ix2 r j))
    (smP (mrow 1536 (fun x => q (ix2 r x)) (fun y x => k (ix2 y x)) (1024 + r.val)) j) := by
  unfold k0_pay30 k0_pay29 k0_pay28
  dsimp only
  refine (sfm1536_at _ r j).trans (congrArg (fun s => smP s j) (funext fun x => ?_))
  unfold k0_pay25 k0_pay26
  pointwise
  unfold mrow
  by_cases hx : x.val < 1024
  · rw [dif_pos hx, if_pos (by omega)]
  · rw [dif_neg hx, select_word _ _ (cmp_word ⟨x.val - 1024, by omega⟩ r)]
    refine if_congr ?_ ?_ rfl
    · show (x.val - 1024) / 64 ≤ r.val / 64 ↔ _
      omega
    · exact congrArg (fun y : Fin 1536 => (∑ z, q (ix2 r z) * k (ix2 y z)) * cS) (Fin.ext (show _ = x.val by simp only []; omega))

theorem pP2048 (k : FVec Ideal S2048x256 .bf16) (j : Fin 2048) : @Eq EReal (k0_pay38 (F := Ideal) (k0_pay35 q) (k0_pay36 k) (ix2 r j))
    (smP (mrow 2048 (fun x => q (ix2 r x)) (fun y x => k (ix2 y x)) (1536 + r.val)) j) := by
  unfold k0_pay38
  dsimp only
  refine (sfm2048_at _ r j).trans (congrArg (fun s => smP s j) (funext fun x => ?_))
  unfold k0_pay35 k0_pay36
  pointwise
  unfold mrow
  by_cases hx : x.val < 1536
  · rw [dif_pos hx, if_pos (by omega)]
  · rw [dif_neg hx, select_word _ _ (cmp_word ⟨x.val - 1536, by omega⟩ r)]
    refine if_congr ?_ ?_ rfl
    · show (x.val - 1536) / 64 ≤ r.val / 64 ↔ _
      omega
    · exact congrArg (fun y : Fin 2048 => (∑ z, q (ix2 r z) * k (ix2 y z)) * cS) (Fin.ext (show _ = x.val by simp only []; omega))

theorem pc35 : k0_pay35 (F := Ideal) q (ix2 r w) = q (ix2 r w) := by
  unfold k0_pay35; pointwise

theorem pc36 (k : FVec Ideal S2048x256 .bf16) (y : Fin 2048) : k0_pay36 (F := Ideal) k (ix2 y w) = k (ix2 y w) := by
  unfold k0_pay36; pointwise

theorem pG512 (k : FVec Ideal S512x256 .bf16) (v : FVec Ideal S512x128 .bf16) (j : Fin 512) : @Eq EReal (k0_pay11 (F := Ideal) (k0_pay9 d) (k0_pay10 q k) v (ix2 r j))
    (grow 512 (fun x => q (ix2 r x)) (fun y x => k (ix2 y x)) (fun x => d (ix2 r x)) (fun y x => v (ix2 y x)) r.val j) := by
  unfold k0_pay11 k0_pay9
  pointwise
  simp only [pP512]
  rfl

theorem pQ512 (k : FVec Ideal S512x256 .bf16) (v : FVec Ideal S512x128 .bf16) : @Eq EReal (k0_pay12 (F := Ideal) (k0_pay8 k) (k0_pay9 d) (k0_pay10 q k) v (ix2 r w))
    (∑ j, grow 512 (fun x => q (ix2 r x)) (fun y x => k (ix2 y x)) (fun x => d (ix2 r x)) (fun y x => v (ix2 y x)) r.val j * k (ix2 j w)) := by
  unfold k0_pay12 k0_pay8
  pointwise
  simp only [pG512]

theorem pK512 (k : FVec Ideal S512x256 .bf16) (v : FVec Ideal S512x128 .bf16) (acc : FVec Ideal S512x256 .f32) (j : Fin 512) : @Eq EReal (k0_pay13 (F := Ideal) (k0_pay7 q) (k0_pay9 d) (k0_pay10 q k) v acc (ix2 j w))
    (acc (ix2 j w) + ∑ r : Fin 512, grow 512 (fun x => q (ix2 r x)) (fun y x => k (ix2 y x)) (fun x => d (ix2 r x)) (fun y x => v (ix2 y x)) r.val j * q (ix2 r w)) := by
  unfold k0_pay13 k0_pay7
  pointwise
  simp only [pG512]

theorem pV512 (k : FVec Ideal S512x256 .bf16) (acc : FVec Ideal S512x128 .f32) (j : Fin 512) : @Eq EReal (k0_pay14 (F := Ideal) (k0_pay9 d) (k0_pay10 q k) acc (ix2 j l))
    (acc (ix2 j l) + ∑ r : Fin 512, smP (mrow 512 (fun x => q (ix2 r x)) (fun y x => k (ix2 y x)) r.val) j * d (ix2 r l)) := by
  unfold k0_pay14 k0_pay9
  pointwise
  simp only [pP512]

theorem pG1024 (k : FVec Ideal S1024x256 .bf16) (v : FVec Ideal S1024x128 .bf16) (j : Fin 1024) : @Eq EReal (k0_pay20 (F := Ideal) (k0_pay17 d) (k0_pay18 q k) v (ix2 r j))
    (grow 1024 (fun x => q (ix2 r x)) (fun y x => k (ix2 y x)) (fun x => d (ix2 r x)) (fun y x => v (ix2 y x)) (512 + r.val) j) := by
  unfold k0_pay20 k0_pay17
  pointwise
  simp only [pP1024]
  rfl

theorem pQ1024 (k : FVec Ideal S1024x256 .bf16) (v : FVec Ideal S1024x128 .bf16) : @Eq EReal (k0_pay21 (F := Ideal) (k0_pay16 k) (k0_pay17 d) (k0_pay18 q k) v (ix2 r w))
    (∑ j, grow 1024 (fun x => q (ix2 r x)) (fun y x => k (ix2 y x)) (fun x => d (ix2 r x)) (fun y x => v (ix2 y x)) (512 + r.val) j * k (ix2 j w)) := by
  unfold k0_pay21 k0_pay16
  pointwise
  simp only [pG1024]

theorem pK1024 (k : FVec Ideal S1024x256 .bf16) (v : FVec Ideal S1024x128 .bf16) (acc : FVec Ideal S1024x256 .f32) (j : Fin 1024) : @Eq EReal (k0_pay23 (F := Ideal) (k0_pay22 (k0_pay15 q) (k0_pay17 d) (k0_pay18 q k) v acc) (ix2 j w))
    (acc (ix2 j w) + ∑ r : Fin 512, grow 1024 (fun x => q (ix2 r x)) (fun y x => k (ix2 y x)) (fun x => d (ix2 r x)) (fun y x => v (ix2 y x)) (512 + r.val) j * q (ix2 r w)) := by
  unfold k0_pay23 k0_pay22 k0_pay15
  pointwise
  simp only [pG1024]

theorem pV1024 (k : FVec Ideal S1024x256 .bf16) (acc : FVec Ideal S1024x128 .f32) (j : Fin 1024) : @Eq EReal (k0_pay24 (F := Ideal) (k0_pay17 d) (k0_pay19 (k0_pay18 q k)) acc (ix2 j l))
    (acc (ix2 j l) + ∑ r : Fin 512, smP (mrow 1024 (fun x => q (ix2 r x)) (fun y x => k (ix2 y x)) (512 + r.val)) j * d (ix2 r l)) := by
  unfold k0_pay24 k0_pay17
  pointwise
  simp only [pP1024]

theorem pG1536 (k : FVec Ideal S1536x256 .bf16) (v : FVec Ideal S1536x128 .bf16) (j : Fin 1536) : @Eq EReal (k0_pay31 (F := Ideal) (k0_pay27 d) (k0_pay28 q k) (k0_pay29 q k) v (ix2 r j))
    (grow 1536 (fun x => q (ix2 r x)) (fun y x => k (ix2 y x)) (fun x => d (ix2 r x)) (fun y x => v (ix2 y x)) (1024 + r.val) j) := by
  unfold k0_pay31 k0_pay27
  pointwise
  simp only [pP1536]
  rfl

theorem pQ1536 (k : FVec Ideal S1536x256 .bf16) (v : FVec Ideal S1536x128 .bf16) : @Eq EReal (k0_pay32 (F := Ideal) (k0_pay26 k) (k0_pay27 d) (k0_pay28 q k) (k0_pay29 q k) v (ix2 r w))
    (∑ j, grow 1536 (fun x => q (ix2 r x)) (fun y x => k (ix2 y x)) (fun x => d (ix2 r x)) (fun y x => v (ix2 y x)) (1024 + r.val) j * k (ix2 j w)) := by
  unfold k0_pay32 k0_pay26
  pointwise
  simp only [pG1536]

theorem pK1536 (k : FVec Ideal S1536x256 .bf16) (v : FVec Ideal S1536x128 .bf16) (acc : FVec Ideal S1536x256 .f32) (j : Fin 1536) : @Eq EReal (k0_pay33 (F := Ideal) (k0_pay25 q) (k0_pay27 d) (k0_pay28 q k) (k0_pay29 q k) v acc (ix2 j w))
    (acc (ix2 j w) + ∑ r : Fin 512, grow 1536 (fun x => q (ix2 r x)) (fun y x => k (ix2 y x)) (fun x => d (ix2 r x)) (fun y x => v (ix2 y x)) (1024 + r.val) j * q (ix2 r w)) := by
  unfold k0_pay33 k0_pay25
  pointwise
  simp only [pG1536]

theorem pV1536 (k : FVec Ideal S1536x256 .bf16) (acc : FVec Ideal S1536x128 .f32) (j : Fin 1536) : @Eq EReal (k0_pay34 (F := Ideal) (k0_pay27 d) (k0_pay28 q k) (k0_pay29 q k) acc (ix2 j l))
    (acc (ix2 j l) + ∑ r : Fin 512, smP (mrow 1536 (fun x => q (ix2 r x)) (fun y x => k (ix2 y x)) (1024 + r.val)) j * d (ix2 r l)) := by
  unfold k0_pay34 k0_pay27
  pointwise
  simp only [pP1536]

theorem pG2048 (k : FVec Ideal S2048x256 .bf16) (v : FVec Ideal S2048x128 .bf16) (j : Fin 2048) : @Eq EReal (k0_pay39 (F := Ideal) (k0_pay35 q) (k0_pay36 k) d v (ix2 r j))
    (grow 2048 (fun x => q (ix2 r x)) (fun y x => k (ix2 y x)) (fun x => d (ix2 r x)) (fun y x => v (ix2 y x)) (1536 + r.val) j) := by
  unfold k0_pay39 k0_pay37
  pointwise
  simp only [pP2048]
  rfl

theorem pQ2048 (k : FVec Ideal S2048x256 .bf16) (v : FVec Ideal S2048x128 .bf16) : @Eq EReal (k0_pay40 (F := Ideal) (k0_pay35 q) (k0_pay36 k) d v (ix2 r w))
    (∑ j, grow 2048 (fun x => q (ix2 r x)) (fun y x => k (ix2 y x)) (fun x => d (ix2 r x)) (fun y x => v (ix2 y x)) (1536 + r.val) j * k (ix2 j w)) := by
  unfold k0_pay40
  pointwise
  simp only [pG2048, pc36]

theorem pK2048 (k : FVec Ideal S2048x256 .bf16) (v : FVec Ideal S2048x128 .bf16) (acc : FVec Ideal S2048x256 .f32) (j : Fin 2048) : @Eq EReal (k0_pay1 (F := Ideal) (k0_pay35 q) (k0_pay39 (k0_pay35 q) (k0_pay36 k) d v) acc (ix2 j w))
    (acc (ix2 j w) + ∑ r : Fin 512, grow 2048 (fun x => q (ix2 r x)) (fun y x => k (ix2 y x)) (fun x => d (ix2 r x)) (fun y x => v (ix2 y x)) (1536 + r.val) j * q (ix2 r w)) := by
  unfold k0_pay1
  pointwise
  simp only [pG2048, pc35]

theorem pV2048 (k : FVec Ideal S2048x256 .bf16) (acc : FVec Ideal S2048x128 .f32) (j : Fin 2048) : @Eq EReal (k0_pay2 (F := Ideal) (k0_pay37 d) (k0_pay38 (k0_pay35 q) (k0_pay36 k)) acc (ix2 j l))
    (acc (ix2 j l) + ∑ r : Fin 512, smP (mrow 2048 (fun x => q (ix2 r x)) (fun y x => k (ix2 y x)) (1536 + r.val)) j * d (ix2 r l)) := by
  unfold k0_pay2 k0_pay37
  pointwise
  simp only [pP2048]

theorem pz5 (y : Fin 2048) : @Eq EReal (k0_pay5 (F := Ideal) (ix2 y w)) 0 := by
  unfold k0_pay5; pointwise

theorem pz6 (y : Fin 2048) : @Eq EReal (k0_pay6 (F := Ideal) (ix2 y l)) 0 := by
  unfold k0_pay6; pointwise

theorem pc3 (a : FVec Ideal S2048x256 .f32) (y : Fin 2048) : @Eq EReal (k0_pay3 (F := Ideal) a (ix2 y w)) (a (ix2 y w)) := by
  unfold k0_pay3; pointwise

theorem pc4 (a : FVec Ideal S2048x128 .f32) (y : Fin 2048) : @Eq EReal (k0_pay4 (F := Ideal) a (ix2 y l)) (a (ix2 y l)) := by
  unfold k0_pay4; pointwise

end

end Cert.AttnBwdIdeal.Hand

end
-- ==== Proof.AttnTile.lean ====
/- The attention gradient's tiles against a head's rows: a tile's key rows are a prefix of the sequence, past which the row's
   probabilities are zero; what the row blocks of a buffer hold after the tiles' stores. -/
module

public import proofs.«01_k».proof.Defs
public import proofs.«01_k».proof.Proof.Gen.AttnBwdIdeal.Value
public import proofs.«01_k».proof.Proof.Gen.AttnBwdRefIdeal.Read
public import proofs.«01_k».proof.Proof.AttnPay
public import Idealize.ShloMosaic.Lib.Pipeline.ValueKit
public import Idealize.ShloMosaic.Lib.Pointwise
public import Idealize.ShloMosaic.Lib.WholeRead
public import Idealize.ShloMosaic.Lib.Claim
public import Idealize.ShloMosaic.Lib.IdealHost

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem
open Idealize.ShloMosaic.Pipeline (Dat)
open Cert.Proof

variable (m : (ℓ : Loc nD τ sig) → Buf (Elt Ideal) ℓ)

/-! ## A head's rows -/

section
variable (x0 x1 : XQ) (x2 x3 : XV) (h : Fin 8)

/-- A head's row, extended with zeros to the width of its column block. -/
def padR (x : XQ) (i : Fin 2048) (w : Fin 256) : EReal := if hw : w.val < 192 then x (ix3 i h ⟨w.val, hw⟩) else 0

theorem pad_dot (i j : Fin 2048) : (∑ w, padR h x0 i w * padR h x1 j w) = ∑ e : Fin 192, x0 (ix3 i h e) * x1 (ix3 j h e) := by
  rw [← sum_prefix (show 192 ≤ 256 by omega) _ fun w hw => by unfold padR; rw [dif_neg (by omega), zero_mul]]
  refine Finset.sum_congr rfl fun e _ => ?_
  unfold padR
  rw [dif_pos (show ((Fin.castLE (show 192 ≤ 256 by omega) e).val < 192) from e.isLt), dif_pos (show ((Fin.castLE (show 192 ≤ 256 by omega) e).val < 192) from e.isLt)]
  rfl

theorem sR_bot (i j : Fin 2048) (n : ℕ) (hm : n % 64 = 0) (hi : i.val < n) (hj : n ≤ j.val) : sR x0 x1 h i j = ⊥ := by
  unfold sR
  rw [if_neg (by omega)]

variable {n : ℕ} (hn : n ≤ 2048) (hm : n % 64 = 0) (i : Fin 2048) (hi : i.val < n) (p : ℕ) (hp : p = i.val) (q : Fin 256 → EReal) (k : Fin n → Fin 256 → EReal) (d : Fin 128 → EReal)
  (v : Fin n → Fin 128 → EReal) (hq : ∀ w, q w = padR h x0 i w) (hk : ∀ j w, k j w = padR h x1 (Fin.castLE hn j) w) (hd : ∀ l, d l = x3 (ix3 i h l))
  (hv : ∀ j l, v j l = x2 (ix3 (Fin.castLE hn j) h l))
include hq hk hp

theorem mrow_eq (j : Fin n) : mrow n q k p j = sR x0 x1 h i (Fin.castLE hn j) := by
  unfold mrow sR
  subst hp
  refine if_congr Iff.rfl ?_ rfl
  simp only [hq, hk]
  rw [pad_dot]

include hm hi
theorem prob_eq (j : Fin n) : smP (mrow n q k p) j = smP (sR x0 x1 h i) (Fin.castLE hn j) := by
  rw [← smP_prefix hn (sR x0 x1 h i) (fun x hx => sR_bot x0 x1 h i x n hm hi hx) j]
  exact congrArg (fun s => smP s j) (funext fun x => mrow_eq x0 x1 h hn i p hp q k hq hk x)

include hd hv
theorem grow_eq (H : FinAt x0 x1 x2 x3) (j : Fin n) : grow n q k d v p j = gR x0 x1 x2 x3 h i (Fin.castLE hn j) := by
  unfold grow gR
  rw [← smG_prefix hn (sR x0 x1 h i) (dR x2 x3 h i) (H.row h i) (fun x hx => sR_bot x0 x1 h i x n hm hi hx) j,
    show mrow n q k p = fun x => sR x0 x1 h i (Fin.castLE hn x) from funext fun x => mrow_eq x0 x1 h hn i p hp q k hq hk x,
    show dpr n d v = fun x => dR x2 x3 h i (Fin.castLE hn x) from funext fun x => by unfold dpr dR; simp only [hd, hv]]

end

section
variable {x0 x1 : XQ} {x2 x3 : XV} (H : FinAt x0 x1 x2 x3) (h : Fin 8)
include H

theorem FinAt.prob_zero (i j : Fin 2048) (n : ℕ) (hm : n % 64 = 0) (hi : i.val < n) (hj : n ≤ j.val) : smP (sR x0 x1 h i) j = 0 :=
  (H.row h i).prob_bot j (sR_bot x0 x1 h i j n hm hi hj)

theorem FinAt.grad_zero (i j : Fin 2048) (n : ℕ) (hm : n % 64 = 0) (hi : i.val < n) (hj : n ≤ j.val) : gR x0 x1 x2 x3 h i j = 0 := by
  unfold gR
  rw [(H.row h i).grad_bot _ j (sR_bot x0 x1 h i j n hm hi hj), zero_mul]

end

/-! ## Row blocks of a buffer -/

section
variable {W : ℕ} {e : EltTy} {sp : Space}

theorem rd_at {arg : Memref sig .tc sp ⟨2, ![2048, W]⟩ e} (harg : arg.IsWhole) (X : (⟨2, ![2048, W]⟩ : Shape).Idx → Elt Ideal e) (o n : ℕ)
    (inb : ∀ a : Fin 2, (![o, 0] : Fin 2 → ℕ) a + (![n, W] : Fin 2 → ℕ) a ≤ (![2048, W] : Fin 2 → ℕ) a) (ho : o + n ≤ 2048) (r : Fin n) (w : Fin W) :
    View.readAt (Elt Ideal) arg.view (Rect.unit (s := ⟨2, ![2048, W]⟩) ![o, 0] ![n, W] inb).toLoadRect (harg.unread X) (ix2 r w)
      = X (ix2 ⟨o + r.val, by omega⟩ w) := by
  refine (Memref.IsWhole.readAt_unread harg X _ _).trans (congrArg X ?_)
  funext a
  refine Fin.cases ?_ (fun a => Fin.cases ?_ (fun a => a.elim0) a) a
  · apply Fin.ext
    show o + 1 * r.val = o + r.val
    omega
  · apply Fin.ext
    show 0 + 1 * w.val = w.val
    omega

theorem canon_rows (o n : ℕ) (inb : ∀ a : Fin 2, (![o, 0] : Fin 2 → ℕ) a + (![n, W] : Fin 2 → ℕ) a ≤ (![2048, W] : Fin 2 → ℕ) a)
    (u : (⟨2, ![n, W]⟩ : Shape).Idx → Elt Ideal e) (L : List (View.Piece (Elt Ideal) ⟨2, ![2048, W]⟩ e)) (y : Fin 2048) (w : Fin W)
    (h0 : o ≤ y.val) (h1 : y.val < o + n) :
    View.canon (⟨Rect.unit (s := ⟨2, ![2048, W]⟩) ![o, 0] ![n, W] inb, u⟩ :: L) (ix2 y w) = u (ix2 ⟨y.val - o, by omega⟩ w) := by
  have he : (Rect.unit (s := ⟨2, ![2048, W]⟩) ![o, 0] ![n, W] inb).emb (ix2 (⟨y.val - o, by omega⟩ : Fin n) w) = (ix2 y w : (⟨2, ![2048, W]⟩ : Shape).Idx) := by
    funext a
    refine Fin.cases ?_ (fun a => Fin.cases ?_ (fun a => a.elim0) a) a
    · apply Fin.ext
      show o + 1 * (y.val - o) = y.val
      omega
    · apply Fin.ext
      show 0 + 1 * w.val = w.val
      omega
  exact (congrArg _ he.symm).trans (View.canon_cons_emb (Rect.unit (s := ⟨2, ![2048, W]⟩) ![o, 0] ![n, W] inb) u L _)

theorem canon_rows_not (o n : ℕ) (inb : ∀ a : Fin 2, (![o, 0] : Fin 2 → ℕ) a + (![n, W] : Fin 2 → ℕ) a ≤ (![2048, W] : Fin 2 → ℕ) a)
    (u : (⟨2, ![n, W]⟩ : Shape).Idx → Elt Ideal e) (L : List (View.Piece (Elt Ideal) ⟨2, ![2048, W]⟩ e)) (y : Fin 2048) (w : Fin W)
    (h1 : y.val < o ∨ o + n ≤ y.val) :
    View.canon (⟨Rect.unit (s := ⟨2, ![2048, W]⟩) ![o, 0] ![n, W] inb, u⟩ :: L) (ix2 y w) = View.canon L (ix2 y w) := by
  refine View.canon_cons_of_not_mem _ L fun hm => ?_
  have h2 : o ≤ y.val ∧ y.val < o + n := (Rect.mem_set_unit (inb := inb)).mp hm 0
  omega

theorem rcov_at (v : View sig .tc sp ⟨2, ![2048, W]⟩ e) (L : List (View.Piece (Elt Ideal) ⟨2, ![2048, W]⟩ e)) (n : ℕ)
    (inb : ∀ a : Fin 2, (![0, 0] : Fin 2 → ℕ) a + (![n, W] : Fin 2 → ℕ) a ≤ (![2048, W] : Fin 2 → ℕ) a) (hn : n ≤ 2048) (j : Fin n) (w : Fin W) :
    v.readCov L (Rect.unit (s := ⟨2, ![2048, W]⟩) ![0, 0] ![n, W] inb).toLoadRect (ix2 j w) = View.canon L (ix2 (Fin.castLE hn j) w) := by
  refine (congrFun (View.readCov_eq_canon' v L _) _).trans (congrArg (View.canon L) ?_)
  funext a
  refine Fin.cases ?_ (fun a => Fin.cases ?_ (fun a => a.elim0) a) a
  · apply Fin.ext
    show 0 + 1 * j.val = j.val
    omega
  · apply Fin.ext
    show 0 + 1 * w.val = w.val
    omega

end

/-- A store of the first `n` rows, each what the buffer held there plus a term that is zero past them. -/
theorem acc_step {W : ℕ} (n : ℕ) (hn : n ≤ 2048) (inb : ∀ a : Fin 2, (![0, 0] : Fin 2 → ℕ) a + (![n, W] : Fin 2 → ℕ) a ≤ (![2048, W] : Fin 2 → ℕ) a)
    (u : (⟨2, ![n, W]⟩ : Shape).Idx → Elt Ideal .f32) (L : List (View.Piece (Elt Ideal) ⟨2, ![2048, W]⟩ .f32)) (T : Fin 2048 → Fin W → EReal)
    (hu : ∀ j w, @Eq EReal (u (ix2 j w)) ((show EReal from View.canon L (ix2 (Fin.castLE hn j) w)) + T (Fin.castLE hn j) w))
    (hT : ∀ y w, n ≤ y.val → T y w = 0) (y : Fin 2048) (w : Fin W) :
    @Eq EReal (View.canon (⟨Rect.unit (s := ⟨2, ![2048, W]⟩) ![0, 0] ![n, W] inb, u⟩ :: L) (ix2 y w)) ((show EReal from View.canon L (ix2 y w)) + T y w) := by
  by_cases hy : y.val < n
  · refine (canon_rows 0 n inb u L y w (Nat.zero_le _) (by omega)).trans ?_
    exact hu ⟨y.val, hy⟩ w
  · refine (canon_rows_not 0 n inb u L y w (Or.inr (by omega))).trans ?_
    rw [hT y w (by omega)]
    exact (add_zero _).symm

/-- Four blocks of 512 rows are the 2048. -/
theorem sum_blocks (f : Fin 2048 → EReal) :
    (∑ r : Fin 512, f ⟨0 + r.val, by omega⟩) + (∑ r : Fin 512, f ⟨512 + r.val, by omega⟩) + (∑ r : Fin 512, f ⟨1024 + r.val, by omega⟩)
      + (∑ r : Fin 512, f ⟨1536 + r.val, by omega⟩) = ∑ i, f i := by
  have e1 := Fin.sum_univ_add (a := 1536) (b := 512) f
  have e2 := Fin.sum_univ_add (a := 1024) (b := 512) fun i : Fin 1536 => f (Fin.castAdd 512 i)
  have e3 := Fin.sum_univ_add (a := 512) (b := 512) fun i : Fin 1024 => f (Fin.castAdd 512 (Fin.castAdd 512 i))
  refine Eq.symm (e1.trans ?_)
  refine congrArg₂ (· + ·) (e2.trans (congrArg₂ (· + ·) (e3.trans ?_) rfl)) rfl
  refine congrArg₂ (· + ·) (Finset.sum_congr rfl fun r _ => congrArg f (Fin.ext ?_)) rfl
  show r.val = 0 + r.val
  omega

end Cert.AttnBwdIdeal.Hand

end
-- ==== Proof.AttnAcc.lean ====
/- What the attention gradient's body leaves in its three arrays at a grid point: a head's rows of the three products. -/
module

public import proofs.«01_k».proof.Defs
public import proofs.«01_k».proof.Proof.Gen.AttnBwdIdeal.Value
public import proofs.«01_k».proof.Proof.Gen.AttnBwdRefIdeal.Read
public import proofs.«01_k».proof.Proof.AttnTile
public import Idealize.ShloMosaic.Lib.Pipeline.ValueKit
public import Idealize.ShloMosaic.Lib.Pointwise
public import Idealize.ShloMosaic.Lib.WholeRead
public import Idealize.ShloMosaic.Lib.Claim
public import Idealize.ShloMosaic.Lib.IdealHost

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem
open Idealize.ShloMosaic.Pipeline (Dat)
open Cert.Proof

variable (m : (ℓ : Loc nD τ sig) → Buf (Elt Ideal) ℓ)

open kernelRun0_A.sl

section
variable (c : Dev nD) (i : grid0.Coords) (arg1 : Memref sig .tc .vmem S2048x256 .bf16) (harg1 : arg1.IsWhole) (arg2 : Memref sig .tc .vmem S2048x256 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S2048x128 .bf16) (harg7 : arg7.IsWhole) (arg8 : Memref sig .tc .vmem S2048x256 .f32) (harg8 : arg8.IsWhole) (arg9 : Memref sig .tc .vmem S2048x128 .f32) (harg9 : arg9.IsWhole) (x0 : Vec Ideal S2048x256 .bf16) (x1 : Vec Ideal S2048x256 .bf16) (x2 : Vec Ideal S2048x128 .bf16) (x3 : Vec Ideal S2048x128 .bf16)
  (a0 a1 : XQ) (a2 a3 : XV) (h : Fin 8) (H : FinAt a0 a1 a2 a3)
  (e0 : ∀ (j : Fin 2048) (w : Fin 256), x0 (ix2 j w) = padR h a0 j w) (e1 : ∀ (j : Fin 2048) (w : Fin 256), x1 (ix2 j w) = padR h a1 j w)
  (e2 : ∀ (j : Fin 2048) (l : Fin 128), x2 (ix2 j l) = a2 (ix3 j h l)) (e3 : ∀ (j : Fin 2048) (l : Fin 128), x3 (ix2 j l) = a3 (ix3 j h l))

/-- A tile's term of the two accumulated products, the tile's queries starting at row `o`. -/
def tK (o : ℕ) (ho : o + 512 ≤ 2048) (y : Fin 2048) (w : Fin 256) : EReal :=
  ∑ r : Fin 512, gR a0 a1 a2 a3 h ⟨o + r.val, by omega⟩ y * padR h a0 ⟨o + r.val, by omega⟩ w
def tV (o : ℕ) (ho : o + 512 ≤ 2048) (y : Fin 2048) (l : Fin 128) : EReal :=
  ∑ r : Fin 512, smP (sR a0 a1 h ⟨o + r.val, by omega⟩) y * a3 (ix3 ⟨o + r.val, by omega⟩ h l)

include H
theorem tK_zero (o : ℕ) (ho : o + 512 ≤ 2048) (hm : o % 64 = 0) (y : Fin 2048) (w : Fin 256) (hy : o + 512 ≤ y.val) : tK a0 a1 a2 a3 h o ho y w = 0 :=
  Finset.sum_eq_zero fun r _ => by
    rw [H.grad_zero h _ y (o + 512) (by omega) (show o + r.val < o + 512 by omega) hy, zero_mul]

theorem tV_zero (o : ℕ) (ho : o + 512 ≤ 2048) (hm : o % 64 = 0) (y : Fin 2048) (l : Fin 128) (hy : o + 512 ≤ y.val) : tV a0 a1 a3 h o ho y l = 0 :=
  Finset.sum_eq_zero fun r _ => by
    rw [H.prob_zero h _ y (o + 512) (by omega) (show o + r.val < o + 512 by omega) hy, zero_mul]

include e0 e1 e3

theorem accV0 (y : Fin 2048) (l : Fin 128) : @Eq EReal (View.canon (HS1_2 c arg1 harg1 arg2 harg2 arg4 harg4 arg9 x0 x1 x3) (ix2 y l))
    ((show EReal from View.canon (HS1_1 (F := Ideal)) (ix2 y l)) + tV a0 a1 a3 h 0 (by omega) y l) := by
  conv_lhs => unfold HS1_2
  refine acc_step 512 (by omega) _ _ _ (tV a0 a1 a3 h 0 (by omega)) (fun j l => ?_) (fun y l hy => tV_zero a0 a1 a2 a3 h H 0 _ (by omega) y l hy) y l
  unfold r_2 r_3 v56
  refine (pV512 _ _ l _ _ j).trans (congrArg₂ (· + ·) (rcov_at _ _ 512 _ (by omega) j l) (Finset.sum_congr rfl fun r _ => ?_))
  exact congrArg₂ (· * ·) (prob_eq a0 a1 h (by omega) (by omega) ⟨0 + r.val, by omega⟩ (show 0 + r.val < 512 by omega) _ (Nat.zero_add _).symm _ _ (fun w => (rd_at harg1 x0 0 512 _ (by omega) r w).trans (e0 _ w)) (fun y w => (rd_at harg2 x1 0 512 _ (by omega) y w).trans ((e1 _ w).trans (congrArg (fun z => padR h a1 z w) (Fin.ext (Nat.zero_add _))))) j) ((fun w => (rd_at harg4 x3 0 512 _ (by omega) r w).trans (e3 _ w)) l)

theorem accV1 (y : Fin 2048) (l : Fin 128) : @Eq EReal (View.canon (HS1_3 c arg1 harg1 arg2 harg2 arg4 harg4 arg9 x0 x1 x3) (ix2 y l))
    ((show EReal from View.canon (HS1_2 c arg1 harg1 arg2 harg2 arg4 harg4 arg9 x0 x1 x3) (ix2 y l)) + tV a0 a1 a3 h 512 (by omega) y l) := by
  conv_lhs => unfold HS1_3
  refine acc_step 1024 (by omega) _ _ _ (tV a0 a1 a3 h 512 (by omega)) (fun j l => ?_) (fun y l hy => tV_zero a0 a1 a2 a3 h H 512 _ (by omega) y l hy) y l
  unfold r_7 r_9 r_8 v114
  refine (pV1024 _ _ l _ _ j).trans (congrArg₂ (· + ·) (rcov_at _ _ 1024 _ (by omega) j l) (Finset.sum_congr rfl fun r _ => ?_))
  exact congrArg₂ (· * ·) (prob_eq a0 a1 h (by omega) (by omega) ⟨512 + r.val, by omega⟩ (show 512 + r.val < 1024 by omega) _ rfl _ _ (fun w => (rd_at harg1 x0 512 512 _ (by omega) r w).trans (e0 _ w)) (fun y w => (rd_at harg2 x1 0 1024 _ (by omega) y w).trans ((e1 _ w).trans (congrArg (fun z => padR h a1 z w) (Fin.ext (Nat.zero_add _))))) j) ((fun w => (rd_at harg4 x3 512 512 _ (by omega) r w).trans (e3 _ w)) l)

theorem accV2 (y : Fin 2048) (l : Fin 128) : @Eq EReal (View.canon (HS1_4 c arg1 harg1 arg2 harg2 arg4 harg4 arg9 x0 x1 x3) (ix2 y l))
    ((show EReal from View.canon (HS1_3 c arg1 harg1 arg2 harg2 arg4 harg4 arg9 x0 x1 x3) (ix2 y l)) + tV a0 a1 a3 h 1024 (by omega) y l) := by
  conv_lhs => unfold HS1_4
  refine acc_step 1536 (by omega) _ _ _ (tV a0 a1 a3 h 1024 (by omega)) (fun j l => ?_) (fun y l hy => tV_zero a0 a1 a2 a3 h H 1024 _ (by omega) y l hy) y l
  unfold r_13 r_14 r_15 v172
  refine (pV1536 _ _ l _ _ j).trans (congrArg₂ (· + ·) (rcov_at _ _ 1536 _ (by omega) j l) (Finset.sum_congr rfl fun r _ => ?_))
  exact congrArg₂ (· * ·) (prob_eq a0 a1 h (by omega) (by omega) ⟨1024 + r.val, by omega⟩ (show 1024 + r.val < 1536 by omega) _ rfl _ _ (fun w => (rd_at harg1 x0 1024 512 _ (by omega) r w).trans (e0 _ w)) (fun y w => (rd_at harg2 x1 0 1536 _ (by omega) y w).trans ((e1 _ w).trans (congrArg (fun z => padR h a1 z w) (Fin.ext (Nat.zero_add _))))) j) ((fun w => (rd_at harg4 x3 1024 512 _ (by omega) r w).trans (e3 _ w)) l)

theorem accV3 (y : Fin 2048) (l : Fin 128) : @Eq EReal (View.canon (HS1_5 c arg1 harg1 arg2 harg2 arg4 harg4 arg9 x0 x1 x3) (ix2 y l))
    ((show EReal from View.canon (HS1_4 c arg1 harg1 arg2 harg2 arg4 harg4 arg9 x0 x1 x3) (ix2 y l)) + tV a0 a1 a3 h 1536 (by omega) y l) := by
  conv_lhs => unfold HS1_5
  refine acc_step 2048 (by omega) _ _ _ (tV a0 a1 a3 h 1536 (by omega)) (fun j l => ?_) (fun y l hy => tV_zero a0 a1 a2 a3 h H 1536 _ (by omega) y l hy) y l
  unfold r_18 r_19 r_16 r_17 v230
  refine (pV2048 _ _ l _ _ j).trans (congrArg₂ (· + ·) (rcov_at _ _ 2048 _ (by omega) j l) (Finset.sum_congr rfl fun r _ => ?_))
  exact congrArg₂ (· * ·) (prob_eq a0 a1 h (by omega) (by omega) ⟨1536 + r.val, by omega⟩ (show 1536 + r.val < 2048 by omega) _ rfl _ _ (fun w => (rd_at harg1 x0 1536 512 _ (by omega) r w).trans (e0 _ w)) (fun y w => (rd_at harg2 x1 0 2048 _ (by omega) y w).trans ((e1 _ w).trans (congrArg (fun z => padR h a1 z w) (Fin.ext (Nat.zero_add _))))) j) ((fun w => (rd_at harg4 x3 1536 512 _ (by omega) r w).trans (e3 _ w)) l)

include e2

theorem accK0 (y : Fin 2048) (w : Fin 256) : @Eq EReal (View.canon (HS0_2 c arg1 harg1 arg2 harg2 arg3 harg3 arg4 harg4 arg8 x0 x1 x2 x3) (ix2 y w))
    ((show EReal from View.canon (HS0_1 (F := Ideal)) (ix2 y w)) + tK a0 a1 a2 a3 h 0 (by omega) y w) := by
  conv_lhs => unfold HS0_2
  refine acc_step 512 (by omega) _ _ _ (tK a0 a1 a2 a3 h 0 (by omega)) (fun j w => ?_) (fun y w hy => tK_zero a0 a1 a2 a3 h H 0 _ (by omega) y w hy) y w
  unfold r r_2 r_3 r_4 v50
  refine (pK512 _ _ w _ _ _ j).trans (congrArg₂ (· + ·) (rcov_at _ _ 512 _ (by omega) j w) (Finset.sum_congr rfl fun r _ => ?_))
  exact congrArg₂ (· * ·) (grow_eq a0 a1 a2 a3 h (by omega) (by omega) ⟨0 + r.val, by omega⟩ (show 0 + r.val < 512 by omega) _ (Nat.zero_add _).symm _ _ _ _ (fun w => (rd_at harg1 x0 0 512 _ (by omega) r w).trans (e0 _ w)) (fun y w => (rd_at harg2 x1 0 512 _ (by omega) y w).trans ((e1 _ w).trans (congrArg (fun z => padR h a1 z w) (Fin.ext (Nat.zero_add _))))) (fun w => (rd_at harg4 x3 0 512 _ (by omega) r w).trans (e3 _ w)) (fun y l => (rd_at harg3 x2 0 512 _ (by omega) y l).trans ((e2 _ l).trans (congrArg (fun z => a2 (ix3 z h l)) (Fin.ext (Nat.zero_add _))))) H j) ((fun w => (rd_at harg1 x0 0 512 _ (by omega) r w).trans (e0 _ w)) w)

theorem accK1 (y : Fin 2048) (w : Fin 256) : @Eq EReal (View.canon (HS0_3 c arg1 harg1 arg2 harg2 arg3 harg3 arg4 harg4 arg8 x0 x1 x2 x3) (ix2 y w))
    ((show EReal from View.canon (HS0_2 c arg1 harg1 arg2 harg2 arg3 harg3 arg4 harg4 arg8 x0 x1 x2 x3) (ix2 y w)) + tK a0 a1 a2 a3 h 512 (by omega) y w) := by
  conv_lhs => unfold HS0_3
  refine acc_step 1024 (by omega) _ _ _ (tK a0 a1 a2 a3 h 512 (by omega)) (fun j w => ?_) (fun y w hy => tK_zero a0 a1 a2 a3 h H 512 _ (by omega) y w hy) y w
  unfold r_10 r_5 r_7 r_8 v108
  refine (pK1024 _ _ w _ _ _ j).trans (congrArg₂ (· + ·) (rcov_at _ _ 1024 _ (by omega) j w) (Finset.sum_congr rfl fun r _ => ?_))
  exact congrArg₂ (· * ·) (grow_eq a0 a1 a2 a3 h (by omega) (by omega) ⟨512 + r.val, by omega⟩ (show 512 + r.val < 1024 by omega) _ rfl _ _ _ _ (fun w => (rd_at harg1 x0 512 512 _ (by omega) r w).trans (e0 _ w)) (fun y w => (rd_at harg2 x1 0 1024 _ (by omega) y w).trans ((e1 _ w).trans (congrArg (fun z => padR h a1 z w) (Fin.ext (Nat.zero_add _))))) (fun w => (rd_at harg4 x3 512 512 _ (by omega) r w).trans (e3 _ w)) (fun y l => (rd_at harg3 x2 0 1024 _ (by omega) y l).trans ((e2 _ l).trans (congrArg (fun z => a2 (ix3 z h l)) (Fin.ext (Nat.zero_add _))))) H j) ((fun w => (rd_at harg1 x0 512 512 _ (by omega) r w).trans (e0 _ w)) w)

theorem accK2 (y : Fin 2048) (w : Fin 256) : @Eq EReal (View.canon (HS0_4 c arg1 harg1 arg2 harg2 arg3 harg3 arg4 harg4 arg8 x0 x1 x2 x3) (ix2 y w))
    ((show EReal from View.canon (HS0_3 c arg1 harg1 arg2 harg2 arg3 harg3 arg4 harg4 arg8 x0 x1 x2 x3) (ix2 y w)) + tK a0 a1 a2 a3 h 1024 (by omega) y w) := by
  conv_lhs => unfold HS0_4
  refine acc_step 1536 (by omega) _ _ _ (tK a0 a1 a2 a3 h 1024 (by omega)) (fun j w => ?_) (fun y w hy => tK_zero a0 a1 a2 a3 h H 1024 _ (by omega) y w hy) y w
  unfold r_11 r_13 r_14 r_15 v166
  refine (pK1536 _ _ w _ _ _ j).trans (congrArg₂ (· + ·) (rcov_at _ _ 1536 _ (by omega) j w) (Finset.sum_congr rfl fun r _ => ?_))
  exact congrArg₂ (· * ·) (grow_eq a0 a1 a2 a3 h (by omega) (by omega) ⟨1024 + r.val, by omega⟩ (show 1024 + r.val < 1536 by omega) _ rfl _ _ _ _ (fun w => (rd_at harg1 x0 1024 512 _ (by omega) r w).trans (e0 _ w)) (fun y w => (rd_at harg2 x1 0 1536 _ (by omega) y w).trans ((e1 _ w).trans (congrArg (fun z => padR h a1 z w) (Fin.ext (Nat.zero_add _))))) (fun w => (rd_at harg4 x3 1024 512 _ (by omega) r w).trans (e3 _ w)) (fun y l => (rd_at harg3 x2 0 1536 _ (by omega) y l).trans ((e2 _ l).trans (congrArg (fun z => a2 (ix3 z h l)) (Fin.ext (Nat.zero_add _))))) H j) ((fun w => (rd_at harg1 x0 1024 512 _ (by omega) r w).trans (e0 _ w)) w)

theorem accK3 (y : Fin 2048) (w : Fin 256) : @Eq EReal (View.canon (HS0_5 c arg1 harg1 arg2 harg2 arg3 harg3 arg4 harg4 arg8 x0 x1 x2 x3) (ix2 y w))
    ((show EReal from View.canon (HS0_4 c arg1 harg1 arg2 harg2 arg3 harg3 arg4 harg4 arg8 x0 x1 x2 x3) (ix2 y w)) + tK a0 a1 a2 a3 h 1536 (by omega) y w) := by
  conv_lhs => unfold HS0_5
  refine acc_step 2048 (by omega) _ _ _ (tK a0 a1 a2 a3 h 1536 (by omega)) (fun j w => ?_) (fun y w hy => tK_zero a0 a1 a2 a3 h H 1536 _ (by omega) y w hy) y w
  unfold r_20 r_16 r_17 v224
  refine (pK2048 _ _ w _ _ _ j).trans (congrArg₂ (· + ·) (rcov_at _ _ 2048 _ (by omega) j w) (Finset.sum_congr rfl fun r _ => ?_))
  exact congrArg₂ (· * ·) (grow_eq a0 a1 a2 a3 h (by omega) (by omega) ⟨1536 + r.val, by omega⟩ (show 1536 + r.val < 2048 by omega) _ rfl _ _ _ _ (fun w => (rd_at harg1 x0 1536 512 _ (by omega) r w).trans (e0 _ w)) (fun y w => (rd_at harg2 x1 0 2048 _ (by omega) y w).trans ((e1 _ w).trans (congrArg (fun z => padR h a1 z w) (Fin.ext (Nat.zero_add _))))) (fun w => (rd_at harg4 x3 1536 512 _ (by omega) r w).trans (e3 _ w)) (fun y l => (rd_at harg3 x2 0 2048 _ (by omega) y l).trans ((e2 _ l).trans (congrArg (fun z => a2 (ix3 z h l)) (Fin.ext (Nat.zero_add _))))) H j) ((fun w => (rd_at harg1 x0 1536 512 _ (by omega) r w).trans (e0 _ w)) w)

theorem outK (y : Fin 2048) (w : Fin 256) : @Eq EReal (out0_A_5 c i arg1 harg1 arg2 harg2 arg3 harg3 arg4 harg4 arg5 harg5 arg6 harg6 arg7 harg7 arg8 harg8 arg9 harg9 x0 x1 x2 x3 (ix2 y w)) (∑ r, gR a0 a1 a2 a3 h r y * padR h a0 r w) := by
  unfold out0_A_5
  rw [View.read_writes_junk_eq_canon]
  dsimp only [kernelRun0_A]
  refine (canon_rows 0 2048 _ _ _ y w (Nat.zero_le _) (by omega)).trans ?_
  refine (pc3 w _ _).trans ?_
  unfold v237
  refine (rcov_at _ _ 2048 _ (le_refl _) _ w).trans ?_
  refine (accK3 c arg1 harg1 arg2 harg2 arg3 harg3 arg4 harg4 arg8 x0 x1 x2 x3 a0 a1 a2 a3 h H e0 e1 e2 e3 _ w).trans ?_
  refine Eq.trans ?_ (sum_blocks fun r => gR a0 a1 a2 a3 h r y * padR h a0 r w)
  refine congrArg₂ (· + ·) ((accK2 c arg1 harg1 arg2 harg2 arg3 harg3 arg4 harg4 arg8 x0 x1 x2 x3 a0 a1 a2 a3 h H e0 e1 e2 e3 _ w).trans (congrArg₂ (· + ·) ((accK1 c arg1 harg1 arg2 harg2 arg3 harg3 arg4 harg4 arg8 x0 x1 x2 x3 a0 a1 a2 a3 h H e0 e1 e2 e3 _ w).trans (congrArg₂ (· + ·) ((accK0 c arg1 harg1 arg2 harg2 arg3 harg3 arg4 harg4 arg8 x0 x1 x2 x3 a0 a1 a2 a3 h H e0 e1 e2 e3 _ w).trans ?_) rfl)) rfl)) rfl
  unfold HS0_1
  refine (congrArg (· + tK a0 a1 a2 a3 h 0 (by omega) y w) ((canon_rows 0 2048 _ _ _ y w (Nat.zero_le _) (by omega)).trans (pz5 w _))).trans ?_
  exact zero_add _

theorem outV (y : Fin 2048) (l : Fin 128) : @Eq EReal (out0_A_6 c i arg1 harg1 arg2 harg2 arg3 harg3 arg4 harg4 arg5 harg5 arg6 harg6 arg7 harg7 arg8 harg8 arg9 harg9 x0 x1 x2 x3 (ix2 y l)) (∑ r, smP (sR a0 a1 h r) y * a3 (ix3 r h l)) := by
  unfold out0_A_6
  rw [View.read_writes_junk_eq_canon]
  dsimp only [kernelRun0_A]
  refine (canon_rows 0 2048 _ _ _ y l (Nat.zero_le _) (by omega)).trans ?_
  refine (pc4 l _ _).trans ?_
  unfold v240
  refine (rcov_at _ _ 2048 _ (le_refl _) _ l).trans ?_
  refine (accV3 c arg1 harg1 arg2 harg2 arg4 harg4 arg9 x0 x1 x3 a0 a1 a2 a3 h H e0 e1 e3 _ l).trans ?_
  refine Eq.trans ?_ (sum_blocks fun r => smP (sR a0 a1 h r) y * a3 (ix3 r h l))
  refine congrArg₂ (· + ·) ((accV2 c arg1 harg1 arg2 harg2 arg4 harg4 arg9 x0 x1 x3 a0 a1 a2 a3 h H e0 e1 e3 _ l).trans (congrArg₂ (· + ·) ((accV1 c arg1 harg1 arg2 harg2 arg4 harg4 arg9 x0 x1 x3 a0 a1 a2 a3 h H e0 e1 e3 _ l).trans (congrArg₂ (· + ·) ((accV0 c arg1 harg1 arg2 harg2 arg4 harg4 arg9 x0 x1 x3 a0 a1 a2 a3 h H e0 e1 e3 _ l).trans ?_) rfl)) rfl)) rfl
  unfold HS1_1
  refine (congrArg (· + tV a0 a1 a3 h 0 (by omega) y l) ((canon_rows 0 2048 _ _ _ y l (Nat.zero_le _) (by omega)).trans (pz6 l _))).trans ?_
  exact zero_add _

theorem outQ (y : Fin 2048) (w : Fin 256) : @Eq EReal (out0_A_4 c i arg1 harg1 arg2 harg2 arg3 harg3 arg4 harg4 arg5 harg5 arg6 harg6 arg7 harg7 arg8 harg8 arg9 harg9 x0 x1 x2 x3 (ix2 y w)) (∑ j, gR a0 a1 a2 a3 h y j * padR h a1 j w) := by
  unfold out0_A_4
  rw [View.read_writes_junk_eq_canon]
  dsimp only [kernelRun0_A]
  by_cases h3 : 1536 ≤ y.val
  · refine (canon_rows 1536 512 _ _ _ y w (by omega) (by omega)).trans ?_
    unfold r_16 r_17
    refine (pQ2048 _ _ ⟨y.val - 1536, by omega⟩ w _ _).trans ?_
    refine (Finset.sum_congr rfl fun j _ => congrArg₂ (· * ·) (grow_eq a0 a1 a2 a3 h (by omega) (by omega) y (by omega) _ (by show 1536 + (y.val - 1536) = y.val; omega) _ _ _ _ (fun w => (rd_at harg1 x0 1536 512 _ (by omega) ⟨y.val - 1536, by omega⟩ w).trans ((e0 _ w).trans (congrArg (fun z => padR h a0 z w) (Fin.ext (show 1536 + (y.val - 1536) = y.val by omega))))) (fun y w => (rd_at harg2 x1 0 2048 _ (by omega) y w).trans ((e1 _ w).trans (congrArg (fun z => padR h a1 z w) (Fin.ext (Nat.zero_add _))))) (fun l => (rd_at harg4 x3 1536 512 _ (by omega) ⟨y.val - 1536, by omega⟩ l).trans ((e3 _ l).trans (congrArg (fun z => a3 (ix3 z h l)) (Fin.ext (show 1536 + (y.val - 1536) = y.val by omega))))) (fun y l => (rd_at harg3 x2 0 2048 _ (by omega) y l).trans ((e2 _ l).trans (congrArg (fun z => a2 (ix3 z h l)) (Fin.ext (Nat.zero_add _))))) H j) ((rd_at harg2 x1 0 2048 _ (by omega) j w).trans ((e1 _ w).trans (congrArg (fun z => padR h a1 z w) (show (⟨0 + j.val, by omega⟩ : Fin 2048) = Fin.castLE (show 2048 ≤ 2048 by omega) j from Fin.ext (Nat.zero_add _)))))).trans ?_
    exact sum_prefix (show 2048 ≤ 2048 by omega) (fun j => gR a0 a1 a2 a3 h y j * padR h a1 j w) fun j hj => by
      rw [H.grad_zero h y j 2048 (by omega) (by omega) hj, zero_mul]
  refine (canon_rows_not 1536 512 _ _ _ y w (Or.inl (by omega))).trans ?_
  by_cases h2 : 1024 ≤ y.val
  · refine (canon_rows 1024 512 _ _ _ y w (by omega) (by omega)).trans ?_
    unfold r_12 r_13 r_14 r_15
    refine (pQ1536 _ _ ⟨y.val - 1024, by omega⟩ w _ _).trans ?_
    refine (Finset.sum_congr rfl fun j _ => congrArg₂ (· * ·) (grow_eq a0 a1 a2 a3 h (by omega) (by omega) y (by omega) _ (by show 1024 + (y.val - 1024) = y.val; omega) _ _ _ _ (fun w => (rd_at harg1 x0 1024 512 _ (by omega) ⟨y.val - 1024, by omega⟩ w).trans ((e0 _ w).trans (congrArg (fun z => padR h a0 z w) (Fin.ext (show 1024 + (y.val - 1024) = y.val by omega))))) (fun y w => (rd_at harg2 x1 0 1536 _ (by omega) y w).trans ((e1 _ w).trans (congrArg (fun z => padR h a1 z w) (Fin.ext (Nat.zero_add _))))) (fun l => (rd_at harg4 x3 1024 512 _ (by omega) ⟨y.val - 1024, by omega⟩ l).trans ((e3 _ l).trans (congrArg (fun z => a3 (ix3 z h l)) (Fin.ext (show 1024 + (y.val - 1024) = y.val by omega))))) (fun y l => (rd_at harg3 x2 0 1536 _ (by omega) y l).trans ((e2 _ l).trans (congrArg (fun z => a2 (ix3 z h l)) (Fin.ext (Nat.zero_add _))))) H j) ((rd_at harg2 x1 0 1536 _ (by omega) j w).trans ((e1 _ w).trans (congrArg (fun z => padR h a1 z w) (show (⟨0 + j.val, by omega⟩ : Fin 2048) = Fin.castLE (show 1536 ≤ 2048 by omega) j from Fin.ext (Nat.zero_add _)))))).trans ?_
    exact sum_prefix (show 1536 ≤ 2048 by omega) (fun j => gR a0 a1 a2 a3 h y j * padR h a1 j w) fun j hj => by
      rw [H.grad_zero h y j 1536 (by omega) (by omega) hj, zero_mul]
  refine (canon_rows_not 1024 512 _ _ _ y w (Or.inl (by omega))).trans ?_
  by_cases h1 : 512 ≤ y.val
  · refine (canon_rows 512 512 _ _ _ y w (by omega) (by omega)).trans ?_
    unfold r_6 r_7 r_8
    refine (pQ1024 _ _ ⟨y.val - 512, by omega⟩ w _ _).trans ?_
    refine (Finset.sum_congr rfl fun j _ => congrArg₂ (· * ·) (grow_eq a0 a1 a2 a3 h (by omega) (by omega) y (by omega) _ (by show 512 + (y.val - 512) = y.val; omega) _ _ _ _ (fun w => (rd_at harg1 x0 512 512 _ (by omega) ⟨y.val - 512, by omega⟩ w).trans ((e0 _ w).trans (congrArg (fun z => padR h a0 z w) (Fin.ext (show 512 + (y.val - 512) = y.val by omega))))) (fun y w => (rd_at harg2 x1 0 1024 _ (by omega) y w).trans ((e1 _ w).trans (congrArg (fun z => padR h a1 z w) (Fin.ext (Nat.zero_add _))))) (fun l => (rd_at harg4 x3 512 512 _ (by omega) ⟨y.val - 512, by omega⟩ l).trans ((e3 _ l).trans (congrArg (fun z => a3 (ix3 z h l)) (Fin.ext (show 512 + (y.val - 512) = y.val by omega))))) (fun y l => (rd_at harg3 x2 0 1024 _ (by omega) y l).trans ((e2 _ l).trans (congrArg (fun z => a2 (ix3 z h l)) (Fin.ext (Nat.zero_add _))))) H j) ((rd_at harg2 x1 0 1024 _ (by omega) j w).trans ((e1 _ w).trans (congrArg (fun z => padR h a1 z w) (show (⟨0 + j.val, by omega⟩ : Fin 2048) = Fin.castLE (show 1024 ≤ 2048 by omega) j from Fin.ext (Nat.zero_add _)))))).trans ?_
    exact sum_prefix (show 1024 ≤ 2048 by omega) (fun j => gR a0 a1 a2 a3 h y j * padR h a1 j w) fun j hj => by
      rw [H.grad_zero h y j 1024 (by omega) (by omega) hj, zero_mul]
  refine (canon_rows_not 512 512 _ _ _ y w (Or.inl (by omega))).trans ?_
  · refine (canon_rows 0 512 _ _ _ y w (by omega) (by omega)).trans ?_
    unfold r_1 r_2 r_3 r_4
    refine (pQ512 _ _ ⟨y.val - 0, by omega⟩ w _ _).trans ?_
    refine (Finset.sum_congr rfl fun j _ => congrArg₂ (· * ·) (grow_eq a0 a1 a2 a3 h (by omega) (by omega) y (by omega) _ (Nat.sub_zero _) _ _ _ _ (fun w => (rd_at harg1 x0 0 512 _ (by omega) ⟨y.val - 0, by omega⟩ w).trans ((e0 _ w).trans (congrArg (fun z => padR h a0 z w) (Fin.ext (show 0 + (y.val - 0) = y.val by omega))))) (fun y w => (rd_at harg2 x1 0 512 _ (by omega) y w).trans ((e1 _ w).trans (congrArg (fun z => padR h a1 z w) (Fin.ext (Nat.zero_add _))))) (fun l => (rd_at harg4 x3 0 512 _ (by omega) ⟨y.val - 0, by omega⟩ l).trans ((e3 _ l).trans (congrArg (fun z => a3 (ix3 z h l)) (Fin.ext (show 0 + (y.val - 0) = y.val by omega))))) (fun y l => (rd_at harg3 x2 0 512 _ (by omega) y l).trans ((e2 _ l).trans (congrArg (fun z => a2 (ix3 z h l)) (Fin.ext (Nat.zero_add _))))) H j) ((rd_at harg2 x1 0 512 _ (by omega) j w).trans ((e1 _ w).trans (congrArg (fun z => padR h a1 z w) (show (⟨0 + j.val, by omega⟩ : Fin 2048) = Fin.castLE (show 512 ≤ 2048 by omega) j from Fin.ext (Nat.zero_add _)))))).trans ?_
    exact sum_prefix (show 512 ≤ 2048 by omega) (fun j => gR a0 a1 a2 a3 h y j * padR h a1 j w) fun j hj => by
      rw [H.grad_zero h y j 512 (by omega) (by omega) hj, zero_mul]

end

end Cert.AttnBwdIdeal.Hand

end
-- ==== Proof.Attn.lean ====
/- The attention gradient (`attention_backward`): the kernel's three arrays are the reference's on finite arguments. -/
module

public import proofs.«01_k».proof.Defs
public import proofs.«01_k».proof.Proof.Gen.AttnBwdIdeal.Value
public import proofs.«01_k».proof.Proof.Gen.AttnBwdRefIdeal.Read
public import proofs.«01_k».proof.Proof.AttnAcc
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem
open Idealize.ShloMosaic.Pipeline (Dat)
open Cert.Proof

variable (m : (ℓ : Loc nD τ sig) → Buf (Elt Ideal) ℓ)

/-! ## The operands -/

/-- The arguments. -/
abbrev q0 (c : Dev nD) : XQ := m ((c : Thread nD τ).loc main_arg0)
abbrev q1 (c : Dev nD) : XQ := m ((c : Thread nD τ).loc main_arg1)
abbrev q2 (c : Dev nD) : XV := m ((c : Thread nD τ).loc main_arg2)
abbrev q3 (c : Dev nD) : XV := m ((c : Thread nD τ).loc main_arg3)

theorem hv2 (c : Dev nD) (h : Fin 8) (r : Fin 2048) (w : Fin 256) (hL : h.val * 256 + w.val < 2048) :
    @Eq EReal (V m c main_v2 (ix2 r (⟨h.val * 256 + w.val, hL⟩ : Fin 2048) : S2048x2048.Idx)) (padR h (q0 m c) r w) := by
  simp only [V, hostOps0, hostOps0_1, hostOps0_2, hostOps0_3, hostOps0_4, List.flatten_cons, List.flatten_nil, List.append_nil, List.cons_append, List.nil_append, StableHlo.TRef.binary,
    StableHlo.TRef.unary, StableHlo.TRef.toBuf, StableHlo.TRef.ofBuf, cast_eq]
  after_results
  pointwise
  have h1 : (h.val * 256 + w.val) / 256 = h.val := by omega
  have h2 : (h.val * 256 + w.val) % 256 = w.val := by omega
  unfold padR
  by_cases hw : w.val < 192
  · rw [dif_pos (show _ from by omega), dif_pos hw]
    exact congrArg (q0 m c) (congrArg₂ (ix3 r) (Fin.ext h1) (Fin.ext h2))
  · rw [dif_neg (by omega), dif_neg hw]
    exact pad_zero

theorem hv5 (c : Dev nD) (h : Fin 8) (r : Fin 2048) (w : Fin 256) (hL : h.val * 256 + w.val < 2048) :
    @Eq EReal (V m c main_v5 (ix2 r (⟨h.val * 256 + w.val, hL⟩ : Fin 2048) : S2048x2048.Idx)) (padR h (q1 m c) r w) := by
  simp only [V, hostOps0, hostOps0_1, hostOps0_2, hostOps0_3, hostOps0_4, List.flatten_cons, List.flatten_nil, List.append_nil, List.cons_append, List.nil_append, StableHlo.TRef.binary,
    StableHlo.TRef.unary, StableHlo.TRef.toBuf, StableHlo.TRef.ofBuf, cast_eq]
  after_results
  pointwise
  have h1 : (h.val * 256 + w.val) / 256 = h.val := by omega
  have h2 : (h.val * 256 + w.val) % 256 = w.val := by omega
  unfold padR
  by_cases hw : w.val < 192
  · rw [dif_pos (show _ from by omega), dif_pos hw]
    exact congrArg (q1 m c) (congrArg₂ (ix3 r) (Fin.ext h1) (Fin.ext h2))
  · rw [dif_neg (by omega), dif_neg hw]
    exact pad_zero

theorem hv7 (c : Dev nD) (h : Fin 8) (r : Fin 2048) (l : Fin 128) (hL : h.val * 128 + l.val < 1024) :
    @Eq EReal (V m c main_v7 (ix2 r (⟨h.val * 128 + l.val, hL⟩ : Fin 1024) : S2048x1024.Idx)) (q2 m c (ix3 r h l)) := by
  simp only [V, hostOps0, hostOps0_1, hostOps0_2, hostOps0_3, hostOps0_4, List.flatten_cons, List.flatten_nil, List.append_nil, List.cons_append, List.nil_append, StableHlo.TRef.binary,
    StableHlo.TRef.unary, StableHlo.TRef.toBuf, StableHlo.TRef.ofBuf, cast_eq]
  after_results
  pointwise
  have h1 : (h.val * 128 + l.val) / 128 = h.val := by omega
  have h2 : (h.val * 128 + l.val) % 128 = l.val := by omega
  exact congrArg (q2 m c) (congrArg₂ (ix3 r) (Fin.ext h1) (Fin.ext h2))

theorem hv9 (c : Dev nD) (h : Fin 8) (r : Fin 2048) (l : Fin 128) (hL : h.val * 128 + l.val < 1024) :
    @Eq EReal (V m c main_v9 (ix2 r (⟨h.val * 128 + l.val, hL⟩ : Fin 1024) : S2048x1024.Idx)) (q3 m c (ix3 r h l)) := by
  simp only [V, hostOps0, hostOps0_1, hostOps0_2, hostOps0_3, hostOps0_4, List.flatten_cons, List.flatten_nil, List.append_nil, List.cons_append, List.nil_append, StableHlo.TRef.binary,
    StableHlo.TRef.unary, StableHlo.TRef.toBuf, StableHlo.TRef.ofBuf, cast_eq]
  after_results
  pointwise
  have h1 : (h.val * 128 + l.val) / 128 = h.val := by omega
  have h2 : (h.val * 128 + l.val) % 128 = l.val := by omega
  exact congrArg (q3 m c) (congrArg₂ (ix3 r) (Fin.ext h1) (Fin.ext h2))

/-! ## The arrays -/

/-- The windows' block indices at a grid point. -/
theorem idx : ∀ t : Fin cfg0.N, win0_0.index t = ![0, t.val] ∧ win0_1.index t = ![0, t.val] ∧ win0_2.index t = ![0, t.val]
    ∧ win0_3.index t = ![0, t.val] ∧ win0_4.index t = ![0, t.val] ∧ win0_5.index t = ![0, t.val] ∧ win0_6.index t = ![0, t.val] :=
  (by decide +kernel : ∀ t : Fin grid0.N, _)

theorem pt_lt (t : Fin cfg0.N) : t.val < 8 := lt_of_lt_of_eq t.isLt N_0
theorem col_lt (t : Fin cfg0.N) (w : Fin 256) : t.val * 256 + w.val < 2048 := by
  have := pt_lt t
  omega
theorem lane_lt (t : Fin cfg0.N) (l : Fin 128) : t.val * 128 + l.val < 1024 := by
  have := pt_lt t
  omega

/-- A grid point's head. -/
abbrev hd (t : Fin cfg0.N) : Fin 8 := ⟨t.val, pt_lt t⟩

section
variable (c : Dev nD) (t : Fin cfg0.N) (j : Fin 2048) (w : Fin 256) (l : Fin 128)

theorem blk0 : @Eq EReal (iblk m c 0 t (ix2 j w : S2048x256.Idx)) (padR (hd t) (q0 m c) j w) := by
  rw [show iblk m c 0 t (ix2 j w : S2048x256.Idx) = V m c main_v2 (ix2 j (⟨t.val * 256 + w.val, col_lt t w⟩ : Fin 2048) : S2048x2048.Idx) by blk_ext [iblk, idx t]]
  exact hv2 m c (hd t) j w (col_lt t w)

theorem blk1 : @Eq EReal (iblk m c 1 t (ix2 j w : S2048x256.Idx)) (padR (hd t) (q1 m c) j w) := by
  rw [show iblk m c 1 t (ix2 j w : S2048x256.Idx) = V m c main_v5 (ix2 j (⟨t.val * 256 + w.val, col_lt t w⟩ : Fin 2048) : S2048x2048.Idx) by blk_ext [iblk, idx t]]
  exact hv5 m c (hd t) j w (col_lt t w)

theorem blk2 : @Eq EReal (iblk m c 2 t (ix2 j l : S2048x128.Idx)) (q2 m c (ix3 j (hd t) l)) := by
  rw [show iblk m c 2 t (ix2 j l : S2048x128.Idx) = V m c main_v7 (ix2 j (⟨t.val * 128 + l.val, lane_lt t l⟩ : Fin 1024) : S2048x1024.Idx) by blk_ext [iblk, idx t]]
  exact hv7 m c (hd t) j l (lane_lt t l)

theorem blk3 : @Eq EReal (iblk m c 3 t (ix2 j l : S2048x128.Idx)) (q3 m c (ix3 j (hd t) l)) := by
  rw [show iblk m c 3 t (ix2 j l : S2048x128.Idx) = V m c main_v9 (ix2 j (⟨t.val * 128 + l.val, lane_lt t l⟩ : Fin 1024) : S2048x1024.Idx) by blk_ext [iblk, idx t]]
  exact hv9 m c (hd t) j l (lane_lt t l)

end

section
variable (c : Dev nD) (H : FinAt (q0 m c) (q1 m c) (q2 m c) (q3 m c))
include H

theorem pt4 (t : Fin cfg0.N) (y0 : Fin 2048) (y1 : Fin 256) : @Eq EReal ((outsAt0 m c t).1 (ix2 y0 y1)) (∑ j, gR (q0 m c) (q1 m c) (q2 m c) (q3 m c) (hd t) y0 j * padR (hd t) (q1 m c) j y1) := by
  unfold outsAt0
  dsimp only
  exact outQ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (q0 m c) (q1 m c) (q2 m c) (q3 m c) (hd t) H (blk0 m c t) (blk1 m c t) (blk2 m c t) (blk3 m c t) y0 y1

open Cert.AttnBwdRefIdeal.Read in
theorem rt4 (t : Fin cfg0.N) (y0 : Fin 2048) (y1 : Fin 256) : @Eq EReal (val_main_v67 (F := Ideal) (q0 m c) (q1 m c) (q2 m c) (q3 m c)
    (ix2 y0 (⟨t.val * 256 + y1.val, col_lt t y1⟩ : Fin 2048) : S2048x2048.Idx)) (∑ j, gR (q0 m c) (q1 m c) (q2 m c) (q3 m c) (hd t) y0 j * padR (hd t) (q1 m c) j y1) := by
  refine (ref67_at (q0 m c) (q1 m c) (q2 m c) (q3 m c) (hd t) y0 H y1 (col_lt t y1)).trans ?_
  unfold padR
  by_cases hw : y1.val < 192
  · simp only [dif_pos hw]
  · simp only [dif_neg hw, mul_zero, Finset.sum_const_zero]

open Cert.AttnBwdRefIdeal.Read in
theorem final4 : (dats m 0 c).arrAt 4 (cfgs 0).N = val_main_v67 (F := Ideal) (q0 m c) (q1 m c) (q2 m c) (q3 m c) := by
  refine (dats m 0 c).arrAt_eq_of_covers 4 _ (by decide +kernel) fun t _ y => ?_
  blk_simp
  rw [after0_4]
  idx_vars y
  rw [show ((cfg0.win 4).blk t).view.emb (ix2 y0 y1 : S2048x256.Idx) = (ix2 y0 (⟨t.val * 256 + y1.val, col_lt t y1⟩ : Fin 2048) : S2048x2048.Idx) by blk_ext [idx t]]
  exact (pt4 m c H t y0 y1).trans (rt4 m c H t y0 y1).symm

theorem pt5 (t : Fin cfg0.N) (y0 : Fin 2048) (y1 : Fin 256) : @Eq EReal ((outsAt0 m c t).2.1 (ix2 y0 y1)) (∑ r, gR (q0 m c) (q1 m c) (q2 m c) (q3 m c) (hd t) r y0 * padR (hd t) (q0 m c) r y1) := by
  unfold outsAt0
  dsimp only
  exact outK c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (q0 m c) (q1 m c) (q2 m c) (q3 m c) (hd t) H (blk0 m c t) (blk1 m c t) (blk2 m c t) (blk3 m c t) y0 y1

open Cert.AttnBwdRefIdeal.Read in
theorem rt5 (t : Fin cfg0.N) (y0 : Fin 2048) (y1 : Fin 256) : @Eq EReal (val_main_v70 (F := Ideal) (q0 m c) (q1 m c) (q2 m c) (q3 m c)
    (ix2 y0 (⟨t.val * 256 + y1.val, col_lt t y1⟩ : Fin 2048) : S2048x2048.Idx)) (∑ r, gR (q0 m c) (q1 m c) (q2 m c) (q3 m c) (hd t) r y0 * padR (hd t) (q0 m c) r y1) := by
  refine (ref70_at (q0 m c) (q1 m c) (q2 m c) (q3 m c) (hd t) y0 H y1 (col_lt t y1)).trans ?_
  unfold padR
  by_cases hw : y1.val < 192
  · simp only [dif_pos hw]
  · simp only [dif_neg hw, mul_zero, Finset.sum_const_zero]

open Cert.AttnBwdRefIdeal.Read in
theorem final5 : (dats m 0 c).arrAt 5 (cfgs 0).N = val_main_v70 (F := Ideal) (q0 m c) (q1 m c) (q2 m c) (q3 m c) := by
  refine (dats m 0 c).arrAt_eq_of_covers 5 _ (by decide +kernel) fun t _ y => ?_
  blk_simp
  rw [after0_5]
  idx_vars y
  rw [show ((cfg0.win 5).blk t).view.emb (ix2 y0 y1 : S2048x256.Idx) = (ix2 y0 (⟨t.val * 256 + y1.val, col_lt t y1⟩ : Fin 2048) : S2048x2048.Idx) by blk_ext [idx t]]
  exact (pt5 m c H t y0 y1).trans (rt5 m c H t y0 y1).symm

theorem pt6 (t : Fin cfg0.N) (y0 : Fin 2048) (y1 : Fin 128) : @Eq EReal ((outsAt0 m c t).2.2 (ix2 y0 y1)) (∑ r, smP (sR (q0 m c) (q1 m c) (hd t) r) y0 * q3 m c (ix3 r (hd t) y1)) := by
  unfold outsAt0
  dsimp only
  exact outV c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (q0 m c) (q1 m c) (q2 m c) (q3 m c) (hd t) H (blk0 m c t) (blk1 m c t) (blk2 m c t) (blk3 m c t) y0 y1

open Cert.AttnBwdRefIdeal.Read in
theorem rt6 (t : Fin cfg0.N) (y0 : Fin 2048) (y1 : Fin 128) : @Eq EReal (val_main_v72 (F := Ideal) (q0 m c) (q1 m c) (q3 m c)
    (ix2 y0 (⟨t.val * 128 + y1.val, lane_lt t y1⟩ : Fin 1024) : S2048x1024.Idx)) (∑ r, smP (sR (q0 m c) (q1 m c) (hd t) r) y0 * q3 m c (ix3 r (hd t) y1)) := by
  refine (ref72_at (q0 m c) (q1 m c) (q3 m c) (hd t) y0 y1 (lane_lt t y1)).trans ?_
  exact Finset.sum_congr rfl fun x _ => mul_comm (G := EReal) _ _

open Cert.AttnBwdRefIdeal.Read in
theorem final6 : (dats m 0 c).arrAt 6 (cfgs 0).N = val_main_v72 (F := Ideal) (q0 m c) (q1 m c) (q3 m c) := by
  refine (dats m 0 c).arrAt_eq_of_covers 6 _ (by decide +kernel) fun t _ y => ?_
  blk_simp
  rw [after0_6]
  idx_vars y
  rw [show ((cfg0.win 6).blk t).view.emb (ix2 y0 y1 : S2048x128.Idx) = (ix2 y0 (⟨t.val * 128 + y1.val, lane_lt t y1⟩ : Fin 1024) : S2048x1024.Idx) by blk_ext [idx t]]
  exact (pt6 m c H t y0 y1).trans (rt6 m c H t y0 y1).symm

end

end Cert.AttnBwdIdeal.Hand

namespace Cert.Proof

open Idealize.ShloMosaic Idealize.SL.Sem

theorem preserves_Attn : Cert.preserves_AttnBwd_AttnBwdIdeal := IdealRules.named_const.statement Cert.AttnBwdIdeal.κ "mask" .f32 0xF149F2CA#32 ⊥ rfl

theorem fin_Attn [Cert.Pre_attn_finite.Facts] (m : (ℓ : Loc Cert.AttnBwdIdeal.nD Cert.AttnBwdIdeal.τ Cert.AttnBwdIdeal.sig) → Buf (Elt Ideal) ℓ)
    (h : Cert.Pre_AttnBwdIdeal_attn_finite m) (c : Dev Cert.AttnBwdIdeal.nD) :
    Cert.AttnBwdIdeal.Hand.FinAt (Cert.AttnBwdIdeal.Hand.q0 m c) (Cert.AttnBwdIdeal.Hand.q1 m c) (Cert.AttnBwdIdeal.Hand.q2 m c) (Cert.AttnBwdIdeal.Hand.q3 m c) :=
  ⟨fun i => IsR.of_lt (congrFun (h c).1 i), fun i => IsR.of_lt (congrFun (h c).2.1 i), fun i => IsR.of_lt (congrFun (h c).2.2.1 i),
    fun i => IsR.of_lt (congrFun (h c).2.2.2 i)⟩

set_option maxHeartbeats 4000000 in
theorem algebraic_Attn [Cert.AttnBwdIdeal.Facts] [Cert.AttnBwdRefIdeal.Facts] [Cert.Pre_attn_finite.Facts] :
    Cert.algebraic_AttnBwdIdeal_AttnBwdRefIdeal_pre_attn_finite := by
  intro m g m' g' hpre hagree
  refine ⟨fun c => (Cert.AttnBwdIdeal.Gen.dats m 0 c).arrAt 4 (Cert.AttnBwdIdeal.cfgs 0).N,
    fun c => (Cert.AttnBwdIdeal.Gen.dats m 0 c).arrAt 5 (Cert.AttnBwdIdeal.cfgs 0).N,
    fun c => (Cert.AttnBwdIdeal.Gen.dats m 0 c).arrAt 6 (Cert.AttnBwdIdeal.cfgs 0).N, ?_, ?_⟩
  · exact (θ_run _ _ _).mono (fun r h c => ⟨(h.1 c).1 4, (h.1 c).1 5, (h.1 c).1 6, h.2 c⟩)
      (θ_run_and (Cert.AttnBwdIdeal.Gen.run_main m g) (Cert.AttnBwdIdeal.Gen.unchanged m g))
  · refine (θ_run _ _ _).mono (fun r h c => ⟨((h c).1).trans ?_, ((h c).2.1).trans ?_, ((h c).2.2.1).trans ?_, (h c).2.2.2⟩) (Cert.AttnBwdRefIdeal.Value.run m' g')
    · refine (Cert.AttnBwdRefIdeal.Read.val_main_v67_eq m' c).trans ?_
      rw [(hagree c).1, (hagree c).2.1, (hagree c).2.2.1, (hagree c).2.2.2]
      exact (Cert.AttnBwdIdeal.Hand.final4 m c (fin_Attn m hpre c)).symm
    · refine (Cert.AttnBwdRefIdeal.Read.val_main_v70_eq m' c).trans ?_
      rw [(hagree c).1, (hagree c).2.1, (hagree c).2.2.1, (hagree c).2.2.2]
      exact (Cert.AttnBwdIdeal.Hand.final5 m c (fin_Attn m hpre c)).symm
    · refine (Cert.AttnBwdRefIdeal.Read.val_main_v72_eq m' c).trans ?_
      rw [(hagree c).1, (hagree c).2.1, (hagree c).2.2.2]
      exact (Cert.AttnBwdIdeal.Hand.final6 m c (fin_Attn m hpre c)).symm

end Cert.Proof

end
-- ==== Proof.RmsMath.lean ====
/- A row's root-mean-square normalisation and its gradient on extended reals, at any width, in the kernel's grouping and
   in the reference's; they are one on finite rows. Nothing here names a program. -/
module

public import proofs.«01_k».proof.Proof.LnMath

@[expose] public section

noncomputable section

namespace Cert.Proof

open Idealize.ShloMosaic

/-- The small number under the root. -/
abbrev rmE : EReal := Ideal.ofBits FTy.f32 0x358637BD#32

def rmEps : ℝ := 8796093 / 8796093022208

theorem rmE_eq : rmE = (rmEps : EReal) := by
  unfold rmEps
  simp [rmE, Ideal.ofBits, Ideal.ieee, -EReal.coe_mul]; norm_num

section
variable {n : ℕ} (N : EReal) (x d : Fin n → EReal)

/-- The shifted mean square, its reciprocal root, the normalised row. -/
def rmVe : EReal := Ideal.div (∑ j, x j * x j) N + rmE
def rmRs : EReal := Ideal.rsqrt (rmVe N x)
def rmXh (l : Fin n) : EReal := x l * rmRs N x

/-- The gradient of the row as the kernel groups it. -/
def rmGradK (l : Fin n) : EReal := rmRs N x * (d l - rmXh N x l * Ideal.div (∑ j, d j * rmXh N x j) N)

/-- The gradient of the row as the reference groups it: the scaled part and the part through the mean square. -/
def rmGradR (l : Fin n) : EReal :=
  d l * rmRs N x
    + (∑ _j : Fin 1, Ideal.div ((∑ j, x j * d j) * (cH * Ideal.div (rmRs N x) (rmVe N x))) N) * (c2 * x l)

end

section Real
variable {n : ℕ} (c : ℝ) (a e : Fin n → ℝ)

def rmVeR : ℝ := (∑ j, a j * a j) / c + rmEps
def rmRsR : ℝ := (Real.sqrt (rmVeR c a))⁻¹

variable {c} (hc : 0 < c)
include hc

theorem rmVeR_pos : 0 < rmVeR c a := by
  unfold rmVeR
  have h : 0 ≤ (∑ j, a j * a j) / c := div_nonneg (Finset.sum_nonneg fun j _ => mul_self_nonneg _) hc.le
  have : 0 < rmEps := by unfold rmEps; norm_num
  linarith

theorem rmRsR_div : rmRsR c a / rmVeR c a = rmRsR c a * (rmRsR c a * rmRsR c a) := by
  have h := Real.mul_self_sqrt (rmVeR_pos a hc).le
  unfold rmRsR
  rw [← mul_inv, h, div_eq_mul_inv]

theorem rmVe_coe : rmVe (c : EReal) (fun j => (a j : EReal)) = (rmVeR c a : EReal) := by
  unfold rmVe rmVeR
  simp only [← EReal.coe_mul]
  rw [sum_coe, rmE_eq, div_real _ _ hc.ne', ← EReal.coe_add]

theorem rmRs_coe : rmRs (c : EReal) (fun j => (a j : EReal)) = (rmRsR c a : EReal) := by
  unfold rmRs rmRsR
  rw [rmVe_coe a hc]
  have h := rmVeR_pos a hc
  show (if rmVeR c a < 0 then (⊥ : EReal) else if rmVeR c a = 0 then ⊤ else (((Real.sqrt (rmVeR c a))⁻¹ : ℝ) : EReal)) = _
  rw [if_neg (by linarith), if_neg h.ne']

theorem rmGradK_coe (l : Fin n) : rmGradK (c : EReal) (fun j => (a j : EReal)) (fun j => (e j : EReal)) l
    = ((rmRsR c a * (e l - a l * rmRsR c a * ((∑ j, e j * (a j * rmRsR c a)) / c)) : ℝ) : EReal) := by
  unfold rmGradK rmXh
  simp only [rmRs_coe a hc, ← EReal.coe_mul]
  rw [sum_coe, div_real _ _ hc.ne']
  simp only [← EReal.coe_sub, ← EReal.coe_mul]

theorem rmGradR_coe (l : Fin n) : rmGradR (c : EReal) (fun j => (a j : EReal)) (fun j => (e j : EReal)) l
    = ((e l * rmRsR c a + (∑ j, a j * e j) * (-(1 / 2) * (rmRsR c a / rmVeR c a)) / c * (2 * a l) : ℝ) : EReal) := by
  unfold rmGradR
  rw [Fin.sum_univ_one]
  simp only [rmRs_coe a hc, rmVe_coe a hc, ← EReal.coe_mul]
  rw [sum_coe, cH_eq, c2_eq, div_real _ _ (rmVeR_pos a hc).ne']
  simp only [← EReal.coe_mul]
  rw [div_real _ _ hc.ne', ← EReal.coe_mul, ← EReal.coe_add]

theorem rmGrad_real (l : Fin n) :
    e l * rmRsR c a + (∑ j, a j * e j) * (-(1 / 2) * (rmRsR c a / rmVeR c a)) / c * (2 * a l)
      = rmRsR c a * (e l - a l * rmRsR c a * ((∑ j, e j * (a j * rmRsR c a)) / c)) := by
  rw [rmRsR_div a hc]
  have h : ∑ j, e j * (a j * rmRsR c a) = (∑ j, a j * e j) * rmRsR c a := by
    rw [Finset.sum_mul]; exact Finset.sum_congr rfl fun j _ => by ring
  rw [h]
  ring

end Real

/-- The two groupings of the gradient are one on finite rows. -/
theorem rmGrad_eq {n : ℕ} {N : EReal} {c : ℝ} (hN : N = (c : EReal)) (hc : 0 < c) {x d : Fin n → EReal}
    (hx : ∀ j, IsR (x j)) (hd : ∀ j, IsR (d j)) (l : Fin n) : rmGradR N x d l = rmGradK N x d l := by
  choose a ha using hx
  obtain rfl : x = fun j => (a j : EReal) := funext ha
  choose e he using hd
  obtain rfl : d = fun j => (e j : EReal) := funext he
  rw [hN, rmGradR_coe a e hc, rmGradK_coe a e hc, rmGrad_real a e hc]

/-- The two widths. -/
abbrev rmQ : EReal := Ideal.ofBits FTy.f32 0x43C00000#32
abbrev rmKV : EReal := Ideal.ofBits FTy.f32 0x43800000#32

theorem rmQ_eq : rmQ = ((384 : ℝ) : EReal) := by
  simp [rmQ, Ideal.ofBits, Ideal.ieee, -EReal.coe_mul]; norm_num
theorem rmKV_eq : rmKV = ((256 : ℝ) : EReal) := by
  simp [rmKV, Ideal.ofBits, Ideal.ieee, -EReal.coe_mul]; norm_num

end Cert.Proof

end
-- ==== Proof.LatRef.lean ====
/- The gradient of the latents' RMS norms and of the shared key's rotary embedding (`mla_latents_bwd`): the reference's
   arrays at an index. -/
module

public import proofs.«01_k».proof.Defs
public import proofs.«01_k».proof.Proof.Gen.LatentsBwdIdeal.Value
public import proofs.«01_k».proof.Proof.Gen.LatentsBwdRefIdeal.Read
public import proofs.«01_k».proof.Proof.RmsMath
public import proofs.«01_k».proof.Proof.UnropeBlk
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.LatentsBwdIdeal.Hand

open Cert.LatentsBwdIdeal Cert.LatentsBwdIdeal.Gen Idealize.ShloMosaic Idealize.ShloMosaic.TcCoe Idealize.SL.Sem
open Idealize.ShloMosaic.Pipeline (Dat)
open Cert.Proof

variable (m : (ℓ : Loc nD τ sig) → Buf (Elt Ideal) ℓ)

open Cert.UnropeBwdIdeal.Hand (rot rot_lo rot_hi)

/-- The cosines and sines of the rotary embedding, as the reference's own lines compute them. -/
abbrev COS : FVec Ideal S2048x32 .f32 := Cert.LatentsBwdRefIdeal.Read.val_main_v16 (F := Ideal)
abbrev SIN : FVec Ideal S2048x32 .f32 := Cert.LatentsBwdRefIdeal.Read.val_main_v17 (F := Ideal)

theorem pad_zero : (FloatOps.sitofp (F := Ideal) FTy.f32 (0#32) : EReal) = 0 := by
  show (((0#32).toInt : ℝ) : EReal) = 0
  simp

/-! ## The reference's arrays at an index -/

section
open Cert.LatentsBwdRefIdeal.Read
variable (x0 x4 : FVec Ideal S2048x384 .f32) (x1 : FVec Ideal S2048x320 .f32) (x2 : FVec Ideal S1x384 .f32) (x3 : FVec Ideal S1x256 .f32)
  (x5 : FVec Ideal S2048x256 .f32) (x6 : FVec Ideal S2048x64 .f32) (r : Fin 2048) (z : Fin 1) (l : Fin 384) (k : Fin 256)

/-- A row of the keys' latent. -/
abbrev kvRow (r : Fin 2048) (k : Fin 256) : EReal := x1 (ix2 r ⟨k, by omega⟩)

theorem ref26_at : @Eq EReal (val_main_v26 (F := Ideal) x0 (ix2 r z))
    (rmVe rmQ (fun j => x0 (ix2 r j))) := by
  pointwise [val_main_v0, val_main_v1, val_main_cst, val_main_v2, val_main_v3, val_main_cst_0, val_main_v4, val_main_v5, val_main_v6, val_main_cst_1, val_main_v7, val_main_v8, val_main_cst_2, val_main_v9, val_main_v10, val_main_v11, val_main_v12, val_main_v13, val_main_v14, val_main_v15, val_main_v18, val_main_cst_3, val_main_v19, val_main_v20, val_main_cst_4, val_main_v21, val_main_v22, val_main_cst_5, val_main_v23, val_main_v24, val_main_cst_6, val_main_v25, val_main_v26, val_main_v27, val_main_v28, val_main_cst_7, val_main_v29, val_main_v30, val_main_v31, val_main_v32, val_main_v33, val_main_v34, val_main_v35, val_main_v36, val_main_cst_8, val_main_v37, val_main_v38, val_main_cst_9, val_main_v39, val_main_v40, val_main_cst_10, val_main_v41, val_main_v42, val_main_cst_11, val_main_v43, val_main_v44, val_main_v45, val_main_v46, val_main_cst_12, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_cst_13, val_main_v73, val_main_v74, val_main_cst_14, val_main_v75, val_main_v76, val_main_v77, val_main_v78, val_main_v79, val_main_cst_15, val_main_v80, val_main_v81, val_main_v82, val_main_v83, val_main_v84, val_main_cst_16, val_main_v85, val_main_v86, val_main_cst_17, val_main_v87, val_main_v88, val_main_v89, val_main_v90, val_main_cst_18, val_main_v91, val_main_v92, val_main_v93, val_main_cst_19, val_main_v94, val_main_v95, val_main_v96, val_main_v97, val_main_v98, val_main_cst_20, val_main_v99, val_main_v100, val_main_v101, val_main_v102, val_main_v103, val_main_cst_21, val_main_v104, val_main_v105, val_main_cst_22, val_main_v106, val_main_v107, val_main_v108, val_main_v109, val_main_c, val_main_call0_v0, val_main_v110, val_main_v111, val_main_v112]
  rfl

theorem ref27_at : @Eq EReal (val_main_v27 (F := Ideal) x0 (ix2 r z))
    (rmRs rmQ (fun j => x0 (ix2 r j))) := by
  pointwise [val_main_v0, val_main_v1, val_main_cst, val_main_v2, val_main_v3, val_main_cst_0, val_main_v4, val_main_v5, val_main_v6, val_main_cst_1, val_main_v7, val_main_v8, val_main_cst_2, val_main_v9, val_main_v10, val_main_v11, val_main_v12, val_main_v13, val_main_v14, val_main_v15, val_main_v18, val_main_cst_3, val_main_v19, val_main_v20, val_main_cst_4, val_main_v21, val_main_v22, val_main_cst_5, val_main_v23, val_main_v24, val_main_cst_6, val_main_v25, val_main_v27, val_main_v28, val_main_cst_7, val_main_v29, val_main_v30, val_main_v31, val_main_v32, val_main_v33, val_main_v34, val_main_v35, val_main_v36, val_main_cst_8, val_main_v37, val_main_v38, val_main_cst_9, val_main_v39, val_main_v40, val_main_cst_10, val_main_v41, val_main_v42, val_main_cst_11, val_main_v43, val_main_v44, val_main_v45, val_main_v46, val_main_cst_12, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_cst_13, val_main_v73, val_main_v74, val_main_cst_14, val_main_v75, val_main_v76, val_main_v77, val_main_v78, val_main_v79, val_main_cst_15, val_main_v80, val_main_v81, val_main_v82, val_main_v83, val_main_v84, val_main_cst_16, val_main_v85, val_main_v86, val_main_cst_17, val_main_v87, val_main_v88, val_main_v89, val_main_v90, val_main_cst_18, val_main_v91, val_main_v92, val_main_v93, val_main_cst_19, val_main_v94, val_main_v95, val_main_v96, val_main_v97, val_main_v98, val_main_cst_20, val_main_v99, val_main_v100, val_main_v101, val_main_v102, val_main_v103, val_main_cst_21, val_main_v104, val_main_v105, val_main_cst_22, val_main_v106, val_main_v107, val_main_v108, val_main_v109, val_main_c, val_main_call0_v0, val_main_v110, val_main_v111, val_main_v112]
  simp only [ref26_at]
  rfl

theorem ref32_at : @Eq EReal (val_main_v32 (F := Ideal) x0 (ix2 r l))
    (rmXh rmQ (fun j => x0 (ix2 r j)) l) := by
  pointwise [val_main_v0, val_main_v1, val_main_cst, val_main_v2, val_main_v3, val_main_cst_0, val_main_v4, val_main_v5, val_main_v6, val_main_cst_1, val_main_v7, val_main_v8, val_main_cst_2, val_main_v9, val_main_v10, val_main_v11, val_main_v12, val_main_v13, val_main_v14, val_main_v15, val_main_v18, val_main_cst_3, val_main_v19, val_main_v20, val_main_cst_4, val_main_v21, val_main_v22, val_main_cst_5, val_main_v23, val_main_v24, val_main_cst_6, val_main_v25, val_main_v28, val_main_cst_7, val_main_v29, val_main_v30, val_main_v31, val_main_v32, val_main_v33, val_main_v34, val_main_v35, val_main_v36, val_main_cst_8, val_main_v37, val_main_v38, val_main_cst_9, val_main_v39, val_main_v40, val_main_cst_10, val_main_v41, val_main_v42, val_main_cst_11, val_main_v43, val_main_v44, val_main_v45, val_main_v46, val_main_cst_12, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_cst_13, val_main_v73, val_main_v74, val_main_cst_14, val_main_v75, val_main_v76, val_main_v77, val_main_v78, val_main_v79, val_main_cst_15, val_main_v80, val_main_v81, val_main_v82, val_main_v83, val_main_v84, val_main_cst_16, val_main_v85, val_main_v86, val_main_cst_17, val_main_v87, val_main_v88, val_main_v89, val_main_v90, val_main_cst_18, val_main_v91, val_main_v92, val_main_v93, val_main_cst_19, val_main_v94, val_main_v95, val_main_v96, val_main_v97, val_main_v98, val_main_cst_20, val_main_v99, val_main_v100, val_main_v101, val_main_v102, val_main_v103, val_main_cst_21, val_main_v104, val_main_v105, val_main_cst_22, val_main_v106, val_main_v107, val_main_v108, val_main_v109, val_main_c, val_main_call0_v0, val_main_v110, val_main_v111, val_main_v112]
  simp only [ref27_at]
  rfl

theorem ref44_at : @Eq EReal (val_main_v44 (F := Ideal) x1 (ix2 r z))
    (rmVe rmKV (kvRow x1 r)) := by
  pointwise [val_main_v0, val_main_v1, val_main_cst, val_main_v2, val_main_v3, val_main_cst_0, val_main_v4, val_main_v5, val_main_v6, val_main_cst_1, val_main_v7, val_main_v8, val_main_cst_2, val_main_v9, val_main_v10, val_main_v11, val_main_v12, val_main_v13, val_main_v14, val_main_v15, val_main_v18, val_main_cst_3, val_main_v19, val_main_v20, val_main_cst_4, val_main_v21, val_main_v22, val_main_cst_5, val_main_v23, val_main_v24, val_main_cst_6, val_main_v25, val_main_v28, val_main_cst_7, val_main_v29, val_main_v30, val_main_v31, val_main_v33, val_main_v34, val_main_v35, val_main_v36, val_main_cst_8, val_main_v37, val_main_v38, val_main_cst_9, val_main_v39, val_main_v40, val_main_cst_10, val_main_v41, val_main_v42, val_main_cst_11, val_main_v43, val_main_v44, val_main_v45, val_main_v46, val_main_cst_12, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_cst_13, val_main_v73, val_main_v74, val_main_cst_14, val_main_v75, val_main_v76, val_main_v77, val_main_v78, val_main_v79, val_main_cst_15, val_main_v80, val_main_v81, val_main_v82, val_main_v83, val_main_v84, val_main_cst_16, val_main_v85, val_main_v86, val_main_cst_17, val_main_v87, val_main_v88, val_main_v89, val_main_v90, val_main_cst_18, val_main_v91, val_main_v92, val_main_v93, val_main_cst_19, val_main_v94, val_main_v95, val_main_v96, val_main_v97, val_main_v98, val_main_cst_20, val_main_v99, val_main_v100, val_main_v101, val_main_v102, val_main_v103, val_main_cst_21, val_main_v104, val_main_v105, val_main_cst_22, val_main_v106, val_main_v107, val_main_v108, val_main_v109, val_main_c, val_main_call0_v0, val_main_v110, val_main_v111, val_main_v112]
  rfl

theorem ref45_at : @Eq EReal (val_main_v45 (F := Ideal) x1 (ix2 r z))
    (rmRs rmKV (kvRow x1 r)) := by
  pointwise [val_main_v0, val_main_v1, val_main_cst, val_main_v2, val_main_v3, val_main_cst_0, val_main_v4, val_main_v5, val_main_v6, val_main_cst_1, val_main_v7, val_main_v8, val_main_cst_2, val_main_v9, val_main_v10, val_main_v11, val_main_v12, val_main_v13, val_main_v14, val_main_v15, val_main_v18, val_main_cst_3, val_main_v19, val_main_v20, val_main_cst_4, val_main_v21, val_main_v22, val_main_cst_5, val_main_v23, val_main_v24, val_main_cst_6, val_main_v25, val_main_v28, val_main_cst_7, val_main_v29, val_main_v30, val_main_v31, val_main_v33, val_main_v34, val_main_v35, val_main_v36, val_main_cst_8, val_main_v37, val_main_v38, val_main_cst_9, val_main_v39, val_main_v40, val_main_cst_10, val_main_v41, val_main_v42, val_main_cst_11, val_main_v43, val_main_v45, val_main_v46, val_main_cst_12, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_cst_13, val_main_v73, val_main_v74, val_main_cst_14, val_main_v75, val_main_v76, val_main_v77, val_main_v78, val_main_v79, val_main_cst_15, val_main_v80, val_main_v81, val_main_v82, val_main_v83, val_main_v84, val_main_cst_16, val_main_v85, val_main_v86, val_main_cst_17, val_main_v87, val_main_v88, val_main_v89, val_main_v90, val_main_cst_18, val_main_v91, val_main_v92, val_main_v93, val_main_cst_19, val_main_v94, val_main_v95, val_main_v96, val_main_v97, val_main_v98, val_main_cst_20, val_main_v99, val_main_v100, val_main_v101, val_main_v102, val_main_v103, val_main_cst_21, val_main_v104, val_main_v105, val_main_cst_22, val_main_v106, val_main_v107, val_main_v108, val_main_v109, val_main_c, val_main_call0_v0, val_main_v110, val_main_v111, val_main_v112]
  simp only [ref44_at]
  rfl

theorem ref50_at : @Eq EReal (val_main_v50 (F := Ideal) x1 (ix2 r k))
    (rmXh rmKV (kvRow x1 r) k) := by
  pointwise [val_main_v0, val_main_v1, val_main_cst, val_main_v2, val_main_v3, val_main_cst_0, val_main_v4, val_main_v5, val_main_v6, val_main_cst_1, val_main_v7, val_main_v8, val_main_cst_2, val_main_v9, val_main_v10, val_main_v11, val_main_v12, val_main_v13, val_main_v14, val_main_v15, val_main_v18, val_main_cst_3, val_main_v19, val_main_v20, val_main_cst_4, val_main_v21, val_main_v22, val_main_cst_5, val_main_v23, val_main_v24, val_main_cst_6, val_main_v25, val_main_v28, val_main_cst_7, val_main_v29, val_main_v30, val_main_v31, val_main_v33, val_main_v34, val_main_v35, val_main_v36, val_main_cst_8, val_main_v37, val_main_v38, val_main_cst_9, val_main_v39, val_main_v40, val_main_cst_10, val_main_v41, val_main_v42, val_main_cst_11, val_main_v43, val_main_v46, val_main_cst_12, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_cst_13, val_main_v73, val_main_v74, val_main_cst_14, val_main_v75, val_main_v76, val_main_v77, val_main_v78, val_main_v79, val_main_cst_15, val_main_v80, val_main_v81, val_main_v82, val_main_v83, val_main_v84, val_main_cst_16, val_main_v85, val_main_v86, val_main_cst_17, val_main_v87, val_main_v88, val_main_v89, val_main_v90, val_main_cst_18, val_main_v91, val_main_v92, val_main_v93, val_main_cst_19, val_main_v94, val_main_v95, val_main_v96, val_main_v97, val_main_v98, val_main_cst_20, val_main_v99, val_main_v100, val_main_v101, val_main_v102, val_main_v103, val_main_cst_21, val_main_v104, val_main_v105, val_main_cst_22, val_main_v106, val_main_v107, val_main_v108, val_main_v109, val_main_c, val_main_call0_v0, val_main_v110, val_main_v111, val_main_v112]
  simp only [ref45_at]
  rfl

theorem ref109_at : @Eq EReal (val_main_v109 (F := Ideal) x0 x2 x4 (ix2 r l))
    (rmGradR rmQ (fun j => x0 (ix2 r j)) (fun j => x4 (ix2 r j) * x2 (ix2 0 j)) l) := by
  pointwise [val_main_v0, val_main_v1, val_main_cst, val_main_v2, val_main_v3, val_main_cst_0, val_main_v4, val_main_v5, val_main_v6, val_main_cst_1, val_main_v7, val_main_v8, val_main_cst_2, val_main_v9, val_main_v10, val_main_v11, val_main_v12, val_main_v13, val_main_v14, val_main_v15, val_main_v18, val_main_cst_3, val_main_v19, val_main_v20, val_main_cst_4, val_main_v21, val_main_v22, val_main_cst_5, val_main_v23, val_main_v24, val_main_cst_6, val_main_v25, val_main_v28, val_main_cst_7, val_main_v29, val_main_v30, val_main_v31, val_main_v33, val_main_v34, val_main_v35, val_main_v36, val_main_cst_8, val_main_v37, val_main_v38, val_main_cst_9, val_main_v39, val_main_v40, val_main_cst_10, val_main_v41, val_main_v42, val_main_cst_11, val_main_v43, val_main_v46, val_main_cst_12, val_main_v47, val_main_v48, val_main_v49, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_cst_13, val_main_v73, val_main_v74, val_main_cst_14, val_main_v75, val_main_v76, val_main_v77, val_main_v78, val_main_v79, val_main_cst_15, val_main_v80, val_main_v81, val_main_v82, val_main_v83, val_main_v84, val_main_cst_16, val_main_v85, val_main_v86, val_main_cst_17, val_main_v87, val_main_v88, val_main_v89, val_main_v90, val_main_cst_18, val_main_v91, val_main_v92, val_main_v93, val_main_cst_19, val_main_v94, val_main_v95, val_main_v96, val_main_v97, val_main_v98, val_main_cst_20, val_main_v99, val_main_v100, val_main_v101, val_main_v102, val_main_v103, val_main_cst_21, val_main_v104, val_main_v105, val_main_cst_22, val_main_v106, val_main_v107, val_main_v108, val_main_v109, val_main_c, val_main_call0_v0, val_main_v110, val_main_v111, val_main_v112]
  simp only [ref26_at, ref27_at]
  rfl

theorem ref90_at : @Eq EReal (val_main_v90 (F := Ideal) x1 x3 x5 (ix2 r k))
    (rmGradR rmKV (kvRow x1 r) (fun j => x5 (ix2 r j) * x3 (ix2 0 j)) k) := by
  pointwise [val_main_v0, val_main_v1, val_main_cst, val_main_v2, val_main_v3, val_main_cst_0, val_main_v4, val_main_v5, val_main_v6, val_main_cst_1, val_main_v7, val_main_v8, val_main_cst_2, val_main_v9, val_main_v10, val_main_v11, val_main_v12, val_main_v13, val_main_v14, val_main_v15, val_main_v18, val_main_cst_3, val_main_v19, val_main_v20, val_main_cst_4, val_main_v21, val_main_v22, val_main_cst_5, val_main_v23, val_main_v24, val_main_cst_6, val_main_v25, val_main_v28, val_main_cst_7, val_main_v29, val_main_v30, val_main_v31, val_main_v33, val_main_v34, val_main_v35, val_main_v36, val_main_cst_8, val_main_v37, val_main_v38, val_main_cst_9, val_main_v39, val_main_v40, val_main_cst_10, val_main_v41, val_main_v42, val_main_cst_11, val_main_v43, val_main_v46, val_main_cst_12, val_main_v47, val_main_v48, val_main_v49, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_cst_13, val_main_v73, val_main_v74, val_main_cst_14, val_main_v75, val_main_v76, val_main_v77, val_main_v78, val_main_v79, val_main_cst_15, val_main_v80, val_main_v81, val_main_v82, val_main_v83, val_main_v84, val_main_cst_16, val_main_v85, val_main_v86, val_main_cst_17, val_main_v87, val_main_v88, val_main_v89, val_main_v90, val_main_cst_18, val_main_v91, val_main_v92, val_main_v93, val_main_cst_19, val_main_v94, val_main_v95, val_main_v96, val_main_v97, val_main_v98, val_main_cst_20, val_main_v99, val_main_v100, val_main_v101, val_main_v102, val_main_v103, val_main_cst_21, val_main_v104, val_main_v105, val_main_cst_22, val_main_v106, val_main_v107, val_main_v108, val_main_c, val_main_call0_v0, val_main_v110, val_main_v111, val_main_v112]
  simp only [ref44_at, ref45_at]
  rfl

theorem ref95_at : @Eq EReal (val_main_v95 (F := Ideal) x0 x4 (ix2 z l))
    (∑ r : Fin 2048, rmXh rmQ (fun j => x0 (ix2 r j)) l * x4 (ix2 r l)) := by
  pointwise [val_main_v0, val_main_v1, val_main_cst, val_main_v2, val_main_v3, val_main_cst_0, val_main_v4, val_main_v5, val_main_v6, val_main_cst_1, val_main_v7, val_main_v8, val_main_cst_2, val_main_v9, val_main_v10, val_main_v11, val_main_v12, val_main_v13, val_main_v14, val_main_v15, val_main_v18, val_main_cst_3, val_main_v19, val_main_v20, val_main_cst_4, val_main_v21, val_main_v22, val_main_cst_5, val_main_v23, val_main_v24, val_main_cst_6, val_main_v25, val_main_v28, val_main_cst_7, val_main_v29, val_main_v30, val_main_v31, val_main_v33, val_main_v34, val_main_v35, val_main_v36, val_main_cst_8, val_main_v37, val_main_v38, val_main_cst_9, val_main_v39, val_main_v40, val_main_cst_10, val_main_v41, val_main_v42, val_main_cst_11, val_main_v43, val_main_v46, val_main_cst_12, val_main_v47, val_main_v48, val_main_v49, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_cst_13, val_main_v73, val_main_v74, val_main_cst_14, val_main_v75, val_main_v76, val_main_v77, val_main_v78, val_main_v79, val_main_cst_15, val_main_v80, val_main_v81, val_main_v82, val_main_v83, val_main_v84, val_main_cst_16, val_main_v85, val_main_v86, val_main_cst_17, val_main_v87, val_main_v88, val_main_v89, val_main_cst_18, val_main_v91, val_main_v92, val_main_v93, val_main_cst_19, val_main_v94, val_main_v95, val_main_v96, val_main_v97, val_main_v98, val_main_cst_20, val_main_v99, val_main_v100, val_main_v101, val_main_v102, val_main_v103, val_main_cst_21, val_main_v104, val_main_v105, val_main_cst_22, val_main_v106, val_main_v107, val_main_v108, val_main_c, val_main_call0_v0, val_main_v110, val_main_v111, val_main_v112]
  simp only [ref32_at]

theorem ref76_at : @Eq EReal (val_main_v76 (F := Ideal) x1 x5 (ix2 z k))
    (∑ r : Fin 2048, rmXh rmKV (kvRow x1 r) k * x5 (ix2 r k)) := by
  pointwise [val_main_v0, val_main_v1, val_main_cst, val_main_v2, val_main_v3, val_main_cst_0, val_main_v4, val_main_v5, val_main_v6, val_main_cst_1, val_main_v7, val_main_v8, val_main_cst_2, val_main_v9, val_main_v10, val_main_v11, val_main_v12, val_main_v13, val_main_v14, val_main_v15, val_main_v18, val_main_cst_3, val_main_v19, val_main_v20, val_main_cst_4, val_main_v21, val_main_v22, val_main_cst_5, val_main_v23, val_main_v24, val_main_cst_6, val_main_v25, val_main_v28, val_main_cst_7, val_main_v29, val_main_v30, val_main_v31, val_main_v33, val_main_v34, val_main_v35, val_main_v36, val_main_cst_8, val_main_v37, val_main_v38, val_main_cst_9, val_main_v39, val_main_v40, val_main_cst_10, val_main_v41, val_main_v42, val_main_cst_11, val_main_v43, val_main_v46, val_main_cst_12, val_main_v47, val_main_v48, val_main_v49, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_cst_13, val_main_v73, val_main_v74, val_main_cst_14, val_main_v75, val_main_v76, val_main_v77, val_main_v78, val_main_v79, val_main_cst_15, val_main_v80, val_main_v81, val_main_v82, val_main_v83, val_main_v84, val_main_cst_16, val_main_v85, val_main_v86, val_main_cst_17, val_main_v87, val_main_v88, val_main_v89, val_main_cst_18, val_main_v91, val_main_v92, val_main_v93, val_main_cst_19, val_main_v94, val_main_v96, val_main_v97, val_main_v98, val_main_cst_20, val_main_v99, val_main_v100, val_main_v101, val_main_v102, val_main_v103, val_main_cst_21, val_main_v104, val_main_v105, val_main_cst_22, val_main_v106, val_main_v107, val_main_v108, val_main_c, val_main_call0_v0, val_main_v110, val_main_v111, val_main_v112]
  simp only [ref50_at]

theorem ref72_at (w : Fin 64) : @Eq EReal (val_main_v72 (F := Ideal) x6 (ix2 r (w : Fin 64)))
    (if h : (w : ℕ) < 32 then x6 (ix2 r ⟨w, by omega⟩) * COS (ix2 r ⟨w, h⟩) + x6 (ix2 r ⟨w + 32, by omega⟩) * SIN (ix2 r ⟨w, h⟩)
      else x6 (ix2 r w) * COS (ix2 r ⟨w - 32, by omega⟩) - x6 (ix2 r ⟨w - 32, by omega⟩) * SIN (ix2 r ⟨w - 32, by omega⟩)) := by
  pointwise [val_main_v0, val_main_v1, val_main_cst, val_main_v2, val_main_v3, val_main_cst_0, val_main_v4, val_main_v5, val_main_v6, val_main_cst_1, val_main_v7, val_main_v8, val_main_cst_2, val_main_v9, val_main_v10, val_main_v11, val_main_v12, val_main_v13, val_main_v14, val_main_v15, val_main_v18, val_main_cst_3, val_main_v19, val_main_v20, val_main_cst_4, val_main_v21, val_main_v22, val_main_cst_5, val_main_v23, val_main_v24, val_main_cst_6, val_main_v25, val_main_v28, val_main_cst_7, val_main_v29, val_main_v30, val_main_v31, val_main_v33, val_main_v34, val_main_v35, val_main_v36, val_main_cst_8, val_main_v37, val_main_v38, val_main_cst_9, val_main_v39, val_main_v40, val_main_cst_10, val_main_v41, val_main_v42, val_main_cst_11, val_main_v43, val_main_v46, val_main_cst_12, val_main_v47, val_main_v48, val_main_v49, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_cst_13, val_main_v73, val_main_v74, val_main_cst_14, val_main_v75, val_main_v77, val_main_v78, val_main_v79, val_main_cst_15, val_main_v80, val_main_v81, val_main_v82, val_main_v83, val_main_v84, val_main_cst_16, val_main_v85, val_main_v86, val_main_cst_17, val_main_v87, val_main_v88, val_main_v89, val_main_cst_18, val_main_v91, val_main_v92, val_main_v93, val_main_cst_19, val_main_v94, val_main_v96, val_main_v97, val_main_v98, val_main_cst_20, val_main_v99, val_main_v100, val_main_v101, val_main_v102, val_main_v103, val_main_cst_21, val_main_v104, val_main_v105, val_main_cst_22, val_main_v106, val_main_v107, val_main_v108, val_main_c, val_main_call0_v0, val_main_v110, val_main_v111, val_main_v112]
  by_cases h : (w : ℕ) < 32
  · simp only [dif_pos h]
    refine (add_comm (G := EReal) _ _).trans ?_
    blk_point
  · simp only [dif_neg h]
    refine (congrArg₂ (· + ·) rfl (EReal.neg_mul _ _)).trans ?_
    rw [← sub_eq_add_neg]
    blk_point

theorem ref112_at (w : Fin 768) : @Eq EReal (val_main_v112 (F := Ideal) x0 x1 x2 x3 x4 x5 x6 (ix2 r (w : Fin 768)))
    (if h : (w : ℕ) < 384 then rmGradR rmQ (fun j => x0 (ix2 r j)) (fun j => x4 (ix2 r j) * x2 (ix2 0 j)) ⟨w, h⟩
      else if h : (w : ℕ) < 640 then rmGradR rmKV (kvRow x1 r) (fun j => x5 (ix2 r j) * x3 (ix2 0 j)) ⟨w - 384, by omega⟩
      else if h : (w : ℕ) < 704 then val_main_v72 (F := Ideal) x6 (ix2 r ⟨w - 640, by omega⟩) else 0) := by
  pointwise [val_main_v0, val_main_v1, val_main_cst, val_main_v2, val_main_v3, val_main_cst_0, val_main_v4, val_main_v5, val_main_v6, val_main_cst_1, val_main_v7, val_main_v8, val_main_cst_2, val_main_v9, val_main_v10, val_main_v11, val_main_v12, val_main_v13, val_main_v14, val_main_v15, val_main_v18, val_main_cst_3, val_main_v19, val_main_v20, val_main_cst_4, val_main_v21, val_main_v22, val_main_cst_5, val_main_v23, val_main_v24, val_main_cst_6, val_main_v25, val_main_v28, val_main_cst_7, val_main_v29, val_main_v30, val_main_v31, val_main_v33, val_main_v34, val_main_v35, val_main_v36, val_main_cst_8, val_main_v37, val_main_v38, val_main_cst_9, val_main_v39, val_main_v40, val_main_cst_10, val_main_v41, val_main_v42, val_main_cst_11, val_main_v43, val_main_v46, val_main_cst_12, val_main_v47, val_main_v48, val_main_v49, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_cst_13, val_main_v73, val_main_v74, val_main_cst_14, val_main_v75, val_main_v77, val_main_v78, val_main_v79, val_main_cst_15, val_main_v80, val_main_v81, val_main_v82, val_main_v83, val_main_v84, val_main_cst_16, val_main_v85, val_main_v86, val_main_cst_17, val_main_v87, val_main_v88, val_main_v89, val_main_cst_18, val_main_v91, val_main_v92, val_main_v93, val_main_cst_19, val_main_v94, val_main_v96, val_main_v97, val_main_v98, val_main_cst_20, val_main_v99, val_main_v100, val_main_v101, val_main_v102, val_main_v103, val_main_cst_21, val_main_v104, val_main_v105, val_main_cst_22, val_main_v106, val_main_v107, val_main_v108, val_main_c, val_main_call0_v0, val_main_v110, val_main_v111, val_main_v112]
  simp only [ref109_at, ref90_at, pad_zero]
  by_cases h1 : (w : ℕ) < 384
  · simp only [dif_pos h1]
  · simp only [dif_neg h1]
    by_cases h2 : (w : ℕ) < 640
    · simp only [dif_pos h2, dif_pos (show (w : ℕ) - 384 < 320 by omega), dif_pos (show (w : ℕ) - 384 < 256 by omega),
        dif_neg (show ¬ (256 ≤ (w : ℕ) - 384 ∧ (w : ℕ) - 384 - 256 < 64) by omega), zero_add]
    · simp only [dif_neg h2]
      by_cases h3 : (w : ℕ) < 704
      · simp only [dif_pos h3, dif_pos (show (w : ℕ) - 384 < 320 by omega), dif_neg (show ¬ (w : ℕ) - 384 < 256 by omega),
          dif_pos (show 256 ≤ (w : ℕ) - 384 ∧ (w : ℕ) - 384 - 256 < 64 by omega), add_zero]
        blk_point
      · simp only [dif_neg h3, dif_neg (show ¬ (w : ℕ) - 384 < 320 by omega)]

end

end Cert.LatentsBwdIdeal.Hand

end
-- ==== Proof.LatPay.lean ====
/- The gradient of the latents' RMS norms and of the shared key's rotary embedding (`mla_latents_bwd`): what the host code
   hands to the kernel, and the kernel's arrays at an index. -/
module

public import proofs.«01_k».proof.Defs
public import proofs.«01_k».proof.Proof.Gen.LatentsBwdIdeal.Value
public import proofs.«01_k».proof.Proof.Gen.LatentsBwdRefIdeal.Read
public import proofs.«01_k».proof.Proof.LatRef
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.LatentsBwdIdeal.Hand

open Cert.LatentsBwdIdeal Cert.LatentsBwdIdeal.Gen Idealize.ShloMosaic Idealize.ShloMosaic.TcCoe Idealize.SL.Sem
open Idealize.ShloMosaic.Pipeline (Dat)
open Cert.Proof

variable (m : (ℓ : Loc nD τ sig) → Buf (Elt Ideal) ℓ)

open Cert.UnropeBwdIdeal.Hand (rot rot_lo rot_hi)

/-! ## What the host code hands to the kernel -/

set_option maxHeartbeats 1600000 in
theorem t_at (c : Dev nD) (r : Fin 2048) (l : Fin 768) : @Eq EReal (V m c main_v23 (ix2 r l : S2048x768.Idx))
    (if h : (l : ℕ) < 384 then m ((c : Thread nD τ).loc main_arg0) (ix2 r ⟨l, h⟩ : S2048x384.Idx)
      else if h : (l : ℕ) - 384 < 320 then m ((c : Thread nD τ).loc main_arg1) (ix2 r ⟨l - 384, h⟩ : S2048x320.Idx) else (0 : EReal)) := by
  simp only [V, hostOps0, hostOps0_1, hostOps0_2, hostOps0_3, List.flatten_cons, List.flatten_nil, List.append_nil, List.cons_append, List.nil_append, StableHlo.TRef.binary,
    StableHlo.TRef.unary, StableHlo.TRef.toBuf, StableHlo.TRef.ofBuf, cast_eq]
  after_results
  pointwise
  simp only [pad_zero]

set_option maxHeartbeats 1600000 in
theorem dkpe_at (c : Dev nD) (r : Fin 2048) (l : Fin 128) : @Eq EReal (V m c main_v24 (ix2 r l : S2048x128.Idx))
    (if h : (l : ℕ) < 64 then m ((c : Thread nD τ).loc main_arg6) (ix2 r ⟨l, h⟩ : S2048x64.Idx) else (0 : EReal)) := by
  simp only [V, hostOps0, hostOps0_1, hostOps0_2, hostOps0_3, List.flatten_cons, List.flatten_nil, List.append_nil, List.cons_append, List.nil_append, StableHlo.TRef.binary,
    StableHlo.TRef.unary, StableHlo.TRef.toBuf, StableHlo.TRef.ofBuf, cast_eq]
  after_results
  pointwise
  simp only [pad_zero]

set_option maxHeartbeats 1600000 in
theorem cf_eq (c : Dev nD) : V m c main_v19 = concatenate S2048x128 1 [⟨S2048x32, COS⟩, ⟨S2048x32, COS⟩,
    ⟨S2048x64, broadcastInDim S2048x64 ![] bcast_S_S2048x64 (constant (F := Ideal) S_ .f32 0x00000000#32)⟩]
    concatenates_S2048x32_S2048x32_S2048x64_S2048x128_d1 := by
  simp only [V, hostOps0, hostOps0_1, hostOps0_2, hostOps0_3, List.flatten_cons, List.flatten_nil, List.append_nil, List.cons_append, List.nil_append, StableHlo.TRef.binary,
    StableHlo.TRef.unary, StableHlo.TRef.toBuf, StableHlo.TRef.ofBuf, cast_eq]
  after_results
  rfl

set_option maxHeartbeats 1600000 in
theorem sf_eq (c : Dev nD) : V m c main_v21 = concatenate S2048x128 1 [⟨S2048x32, Host.negf SIN⟩, ⟨S2048x32, SIN⟩,
    ⟨S2048x64, broadcastInDim S2048x64 ![] bcast_S_S2048x64 (constant (F := Ideal) S_ .f32 0x00000000#32)⟩]
    concatenates_S2048x32_S2048x32_S2048x64_S2048x128_d1 := by
  simp only [V, hostOps0, hostOps0_1, hostOps0_2, hostOps0_3, List.flatten_cons, List.flatten_nil, List.append_nil, List.cons_append, List.nil_append, StableHlo.TRef.binary,
    StableHlo.TRef.unary, StableHlo.TRef.toBuf, StableHlo.TRef.ofBuf, cast_eq]
  after_results
  rfl

theorem cf_at (c : Dev nD) (r : Fin 2048) (l : Fin 128) : @Eq EReal (V m c main_v19 (ix2 r l : S2048x128.Idx))
    (if h : (l : ℕ) < 32 then COS (ix2 r ⟨l, h⟩) else if h : (l : ℕ) < 64 then COS (ix2 r ⟨l - 32, by omega⟩) else 0) := by
  rw [cf_eq]; pointwise
  by_cases h1 : (l : ℕ) < 32
  · simp only [dif_pos h1]
  · by_cases h2 : (l : ℕ) < 64
    · simp only [dif_neg h1, dif_pos h2, dif_pos (show (l : ℕ) - 32 < 32 by omega)]
    · simp only [dif_neg h1, dif_neg h2, dif_neg (show ¬ (l : ℕ) - 32 < 32 by omega)]

theorem sf_at (c : Dev nD) (r : Fin 2048) (l : Fin 128) : @Eq EReal (V m c main_v21 (ix2 r l : S2048x128.Idx))
    (if h : (l : ℕ) < 32 then - SIN (ix2 r ⟨l, h⟩) else if h : (l : ℕ) < 64 then SIN (ix2 r ⟨l - 32, by omega⟩) else 0) := by
  rw [sf_eq]; pointwise
  by_cases h1 : (l : ℕ) < 32
  · simp only [dif_pos h1]
  · by_cases h2 : (l : ℕ) < 64
    · simp only [dif_neg h1, dif_pos h2, dif_pos (show (l : ℕ) - 32 < 32 by omega)]
    · simp only [dif_neg h1, dif_neg h2, dif_neg (show ¬ (l : ℕ) - 32 < 32 by omega)]

/-! ## The payloads at an index -/

section
variable (v0 v3 : FVec Ideal S512x384 .f32) (v2 : FVec Ideal S1x384 .f32) (v29 v32 : FVec Ideal S512x256 .f32) (v31 : FVec Ideal S1x256 .f32)
  (r : Fin 512) (z : Fin 1) (l : Fin 384) (k : Fin 256)

theorem pay6_at : @Eq EReal (k0_pay6 (F := Ideal) v0 (ix2 r z)) (rmRs rmQ fun j => v0 (ix2 r j)) := by
  unfold k0_pay6 k0_pay5
  pointwise
  rfl

theorem pay7_at : @Eq EReal (k0_pay7 (F := Ideal) v0 (ix2 r l)) (rmXh rmQ (fun j => v0 (ix2 r j)) l) := by
  unfold k0_pay7 k0_pay5
  pointwise
  simp only [pay6_at]
  rfl

theorem pay8_at : @Eq EReal (k0_pay8 (F := Ideal) v0 v2 v3 (ix2 r l))
    (rmGradK rmQ (fun j => v0 (ix2 r j)) (fun j => v3 (ix2 r j) * v2 (ix2 0 j)) l) := by
  unfold k0_pay8
  pointwise
  simp only [pay6_at, pay7_at]
  rfl

theorem pay9_at : @Eq EReal (k0_pay9 (F := Ideal) v0 v3 (ix2 z l)) (∑ r : Fin 512, v3 (ix2 r l) * rmXh rmQ (fun j => v0 (ix2 r j)) l) := by
  unfold k0_pay9
  pointwise
  simp only [pay7_at]

theorem pay12_at : @Eq EReal (k0_pay12 (F := Ideal) (k0_pay11 v29) (Ideal.ofBits FTy.f32 0x358637BD#32) (ix2 r z)) (rmRs rmKV fun j => v29 (ix2 r j)) := by
  unfold k0_pay12 k0_pay11 k0_pay10
  pointwise
  rfl

theorem pay13_at : @Eq EReal (k0_pay13 (F := Ideal) (k0_pay10 v29) (k0_pay11 v29) (Ideal.ofBits FTy.f32 0x358637BD#32) (ix2 r k)) (rmXh rmKV (fun j => v29 (ix2 r j)) k) := by
  unfold k0_pay13
  pointwise
  simp only [pay12_at]
  unfold k0_pay10
  pointwise
  rfl

theorem pay14_at : @Eq EReal (k0_pay14 (F := Ideal) (k0_pay10 v29) v32 (k0_pay11 v29) (Ideal.ofBits FTy.f32 0x358637BD#32) (ix2 z k))
    (∑ r : Fin 512, v32 (ix2 r k) * rmXh rmKV (fun j => v29 (ix2 r j)) k) := by
  unfold k0_pay14
  pointwise
  simp only [pay13_at]

theorem pay16_at : @Eq EReal (k0_pay16 (F := Ideal) (k0_pay10 v29) v31 v32 (k0_pay11 v29) (Ideal.ofBits FTy.f32 0x358637BD#32) (ix2 r k))
    (rmGradK rmKV (fun j => v29 (ix2 r j)) (fun j => v32 (ix2 r j) * v31 (ix2 0 j)) k) := by
  unfold k0_pay16
  pointwise
  simp only [pay12_at, pay13_at]
  rfl

theorem pay17_at (x c s : FVec Ideal S512x128 .f32) (w : Fin 128) : @Eq EReal (k0_pay17 (F := Ideal) x c s (ix2 r w))
    (rot (fun w => x (ix2 r w)) (c (ix2 r w)) (s (ix2 r w)) w) := by
  unfold k0_pay17
  pointwise
  rfl

end

/-! ## What a point leaves -/

/-- The windows' block indices at a grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![0, 0] ∧ win0_10.index t = ![0, 0] :=
  (by decide +kernel : ∀ t : Fin grid0.N, _)

theorem row_lt (t : Fin cfg0.N) (l : Fin 512) : t.val * 512 + l < 2048 := by
  have h : t.val < 4 := lt_of_lt_of_eq t.isLt N_0
  omega

section
variable {W H : ℕ} {e : EltTy}

theorem canon_cols (o n : ℕ) (inb : ∀ a : Fin 2, (![0, o] : Fin 2 → ℕ) a + (![H, n] : Fin 2 → ℕ) a ≤ (![H, W] : Fin 2 → ℕ) a)
    (u : (⟨2, ![H, n]⟩ : Shape).Idx → Elt Ideal e) (L : List (View.Piece (Elt Ideal) ⟨2, ![H, W]⟩ e)) (y : Fin H) (w : Fin W)
    (h0 : o ≤ w.val) (h1 : w.val < o + n) :
    View.canon (⟨Rect.unit (s := ⟨2, ![H, W]⟩) ![0, o] ![H, n] inb, u⟩ :: L) (ix2 y w) = u (ix2 y ⟨w.val - o, by omega⟩) := by
  have he : (Rect.unit (s := ⟨2, ![H, W]⟩) ![0, o] ![H, n] inb).emb (ix2 y (⟨w.val - o, by omega⟩ : Fin n)) = (ix2 y w : (⟨2, ![H, W]⟩ : Shape).Idx) := by
    funext a
    refine Fin.cases ?_ (fun a => Fin.cases ?_ (fun a => a.elim0) a) a
    · apply Fin.ext
      show 0 + 1 * y.val = y.val
      omega
    · apply Fin.ext
      show o + 1 * (w.val - o) = w.val
      omega
  exact (congrArg _ he.symm).trans (View.canon_cons_emb (Rect.unit (s := ⟨2, ![H, W]⟩) ![0, o] ![H, n] inb) u L _)

theorem canon_cols_not (o n : ℕ) (inb : ∀ a : Fin 2, (![0, o] : Fin 2 → ℕ) a + (![H, n] : Fin 2 → ℕ) a ≤ (![H, W] : Fin 2 → ℕ) a)
    (u : (⟨2, ![H, n]⟩ : Shape).Idx → Elt Ideal e) (L : List (View.Piece (Elt Ideal) ⟨2, ![H, W]⟩ e)) (y : Fin H) (w : Fin W)
    (h1 : w.val < o ∨ o + n ≤ w.val) :
    View.canon (⟨Rect.unit (s := ⟨2, ![H, W]⟩) ![0, o] ![H, n] inb, u⟩ :: L) (ix2 y w) = View.canon L (ix2 y w) := by
  refine View.canon_cons_of_not_mem _ L fun hm => ?_
  have h2 : o ≤ w.val ∧ w.val < o + n := (Rect.mem_set_unit (inb := inb)).mp hm 1
  omega

end

/-- A row's part of the block of `dt`: the queries' latent, the keys', the shared key's half rotated back. -/
def dtBlk (x0 : FVec Ideal S512x768 .f32) (x1 : FVec Ideal S1x384 .f32) (x2 : FVec Ideal S1x256 .f32) (x3 x4 x7 : FVec Ideal S512x128 .f32)
    (x5 : FVec Ideal S512x384 .f32) (x6 : FVec Ideal S512x256 .f32) (r : Fin 512) (l : Fin 768) : EReal :=
  if h : (l : ℕ) < 384 then rmGradK rmQ (fun j : Fin 384 => x0 (ix2 r ⟨j, by omega⟩)) (fun j => x5 (ix2 r j) * x1 (ix2 0 j)) ⟨l, h⟩
  else if h : (l : ℕ) < 640 then
    rmGradK rmKV (fun j : Fin 256 => x0 (ix2 r ⟨384 + j, by omega⟩)) (fun j => x6 (ix2 r j) * x2 (ix2 0 j)) ⟨l - 384, by omega⟩
  else rot (fun w => x7 (ix2 r w)) (x3 (ix2 r ⟨l - 640, by omega⟩)) (x4 (ix2 r ⟨l - 640, by omega⟩)) ⟨l - 640, by omega⟩

abbrev lq (x0 : FVec Ideal S512x768 .f32) : FVec Ideal S512x384 .f32 :=
  View.ld (Val := Elt Ideal) (S := S512x768) (e' := .f32) x0 (Rect.unit (s := S512x768) ![0, 0] ![512, 384] inb_S512x768_S512x384_0_0)
abbrev lkv (x0 : FVec Ideal S512x768 .f32) : FVec Ideal S512x256 .f32 :=
  View.ld (Val := Elt Ideal) (S := S512x768) (e' := .f32) x0 (Rect.unit (s := S512x768) ![0, 384] ![512, 256] inb_S512x768_S512x256_0_384)

theorem ldQ (x0 : FVec Ideal S512x768 .f32) (r : Fin 512) (j : Fin 384) : @Eq EReal (lq x0 (ix2 r j)) (x0 (ix2 r ⟨j, by omega⟩)) := by
  refine congrArg x0 ?_
  funext a
  refine Fin.cases ?_ (fun a => Fin.cases ?_ (fun a => a.elim0) a) a
  · apply Fin.ext
    show 0 + 1 * r.val = r.val
    omega
  · apply Fin.ext
    show 0 + 1 * j.val = j.val
    omega

theorem ldKV (x0 : FVec Ideal S512x768 .f32) (r : Fin 512) (j : Fin 256) : @Eq EReal (lkv x0 (ix2 r j)) (x0 (ix2 r ⟨384 + j, by omega⟩)) := by
  refine congrArg x0 ?_
  funext a
  refine Fin.cases ?_ (fun a => Fin.cases ?_ (fun a => a.elim0) a) a
  · apply Fin.ext
    show 0 + 1 * r.val = r.val
    omega
  · apply Fin.ext
    show 384 + 1 * j.val = 384 + j.val
    omega

theorem dt_canon (x0 : FVec Ideal S512x768 .f32) (x1 : FVec Ideal S1x384 .f32) (x2 : FVec Ideal S1x256 .f32) (x3 x4 x7 : FVec Ideal S512x128 .f32)
    (x5 : FVec Ideal S512x384 .f32) (x6 : FVec Ideal S512x256 .f32) (r : Fin 512) (l : Fin 768) :
    @Eq EReal (View.canon (Val := Elt Ideal) (s := S512x768) (e := .bf16)
      [⟨Rect.unit (s := S512x768) ![0, 640] ![512, 128] inb_S512x768_S512x128_0_640, k0_pay17 (F := Ideal) x7 x3 x4⟩,
        ⟨Rect.unit (s := S512x768) ![0, 384] ![512, 256] inb_S512x768_S512x256_0_384,
          k0_pay16 (F := Ideal) (k0_pay10 (lkv x0)) x2 x6 (k0_pay11 (lkv x0)) (Ideal.ofBits FTy.f32 0x358637BD#32)⟩,
        ⟨Rect.unit (s := S512x768) ![0, 0] ![512, 384] inb_S512x768_S512x384_0_0, k0_pay15 (F := Ideal) (k0_pay8 (lq x0) x1 x5)⟩] (ix2 r l))
      (dtBlk x0 x1 x2 x3 x4 x7 x5 x6 r l) := by
  unfold dtBlk
  by_cases h1 : (l : ℕ) < 384
  · rw [dif_pos h1]
    refine (canon_cols_not 640 128 _ _ _ r l (by omega)).trans ((canon_cols_not 384 256 _ _ _ r l (by omega)).trans
      ((canon_cols 0 384 _ _ _ r l (by omega) (by omega)).trans ?_))
    refine (show _ = k0_pay8 (F := Ideal) (lq x0) x1 x5 (ix2 r ⟨l, h1⟩) from rfl).trans ?_
    refine (pay8_at _ _ _ _ _).trans ?_
    exact congrArg (fun f => rmGradK rmQ f _ _) (funext (ldQ x0 r))
  · rw [dif_neg h1]
    by_cases h2 : (l : ℕ) < 640
    · rw [dif_pos h2]
      refine (canon_cols_not 640 128 _ _ _ r l (by omega)).trans ((canon_cols 384 256 _ _ _ r l (by omega) (by omega)).trans ?_)
      refine (pay16_at _ _ _ _ _).trans ?_
      exact congrArg (fun f => rmGradK rmKV f _ _) (funext (ldKV x0 r))
    · rw [dif_neg h2]
      exact (canon_cols 640 128 _ _ _ r l (by omega) (by omega)).trans (pay17_at _ _ _ _ _)

theorem o8 (c : Dev nD) (t : Fin cfg0.N) (r : Fin 512) (l : Fin 768) :
    @Eq EReal ((outsAt0 m c t.val t.isLt).1 (ix2 r l)) (dtBlk (iblk m c 0 t) (iblk m c 1 t) (iblk m c 2 t) (iblk m c 3 t) (iblk m c 4 t)
      (iblk m c 7 t) (iblk m c 5 t) (iblk m c 6 t) r l) := by
  by_cases h : t.val % 4 = 0
  · rw [outsAt0_A m c t h h]
    frame_out
    exact dt_canon _ _ _ _ _ _ _ _ r l
  · rw [outsAt0_B m c t h h]
    frame_out
    exact dt_canon _ _ _ _ _ _ _ _ r l

/-! ## The blocks -/

section
variable (c : Dev nD) (t : Fin cfg0.N) (r : Fin 512)

abbrev aR (r : Fin 512) : Fin 2048 := ⟨t.val * 512 + r, row_lt t r⟩

theorem b0q (j : Fin 384) : @Eq EReal (iblk m c 0 t (ix2 r (⟨j, by omega⟩ : Fin 768) : S512x768.Idx)) (m ((c : Thread nD τ).loc main_arg0) (ix2 (aR t r) j : S2048x384.Idx)) := by
  rw [show iblk m c 0 t (ix2 r (⟨j, by omega⟩ : Fin 768) : S512x768.Idx) = V m c main_v23 (ix2 (aR t r) (⟨j, by omega⟩ : Fin 768) : S2048x768.Idx) by blk_ext [iblk, idx t]]
  refine (t_at m c _ _).trans ?_
  rw [dif_pos (show ((⟨j, by omega⟩ : Fin 768) : ℕ) < 384 from j.isLt)]

theorem b0k (j : Fin 256) : @Eq EReal (iblk m c 0 t (ix2 r (⟨384 + j, by omega⟩ : Fin 768) : S512x768.Idx))
    (kvRow (m ((c : Thread nD τ).loc main_arg1)) (aR t r) j) := by
  rw [show iblk m c 0 t (ix2 r (⟨384 + j, by omega⟩ : Fin 768) : S512x768.Idx) = V m c main_v23 (ix2 (aR t r) (⟨384 + j, by omega⟩ : Fin 768) : S2048x768.Idx) by blk_ext [iblk, idx t]]
  refine (t_at m c _ _).trans ?_
  rw [dif_neg (show ¬ ((⟨384 + j, by omega⟩ : Fin 768) : ℕ) < 384 by simp),
    dif_pos (show ((⟨384 + j, by omega⟩ : Fin 768) : ℕ) - 384 < 320 by simp; omega)]
  blk_point

theorem b1 (j : Fin 384) : @Eq EReal (iblk m c 1 t (ix2 0 j : S1x384.Idx)) (m ((c : Thread nD τ).loc main_arg2) (ix2 0 j : S1x384.Idx)) := by
  blk_point [iblk, V, idx t]
theorem b2 (j : Fin 256) : @Eq EReal (iblk m c 2 t (ix2 0 j : S1x256.Idx)) (m ((c : Thread nD τ).loc main_arg3) (ix2 0 j : S1x256.Idx)) := by
  blk_point [iblk, V, idx t]
theorem b5 (j : Fin 384) : @Eq EReal (iblk m c 5 t (ix2 r j : S512x384.Idx)) (m ((c : Thread nD τ).loc main_arg4) (ix2 (aR t r) j : S2048x384.Idx)) := by
  blk_point [iblk, V, idx t]
theorem b6 (j : Fin 256) : @Eq EReal (iblk m c 6 t (ix2 r j : S512x256.Idx)) (m ((c : Thread nD τ).loc main_arg5) (ix2 (aR t r) j : S2048x256.Idx)) := by
  blk_point [iblk, V, idx t]
theorem b3 (w : Fin 128) : @Eq EReal (iblk m c 3 t (ix2 r w : S512x128.Idx))
    (if h : (w : ℕ) < 32 then COS (ix2 (aR t r) ⟨w, h⟩) else if h : (w : ℕ) < 64 then COS (ix2 (aR t r) ⟨w - 32, by omega⟩) else 0) := by
  rw [show iblk m c 3 t (ix2 r w : S512x128.Idx) = V m c main_v19 (ix2 (aR t r) w : S2048x128.Idx) by blk_ext [iblk, idx t]]
  exact cf_at m c _ w
theorem b4 (w : Fin 128) : @Eq EReal (iblk m c 4 t (ix2 r w : S512x128.Idx))
    (if h : (w : ℕ) < 32 then - SIN (ix2 (aR t r) ⟨w, h⟩) else if h : (w : ℕ) < 64 then SIN (ix2 (aR t r) ⟨w - 32, by omega⟩) else 0) := by
  rw [show iblk m c 4 t (ix2 r w : S512x128.Idx) = V m c main_v21 (ix2 (aR t r) w : S2048x128.Idx) by blk_ext [iblk, idx t]]
  exact sf_at m c _ w
theorem b7 (w : Fin 128) : @Eq EReal (iblk m c 7 t (ix2 r w : S512x128.Idx))
    (if h : (w : ℕ) < 64 then m ((c : Thread nD τ).loc main_arg6) (ix2 (aR t r) ⟨w, h⟩ : S2048x64.Idx) else (0 : EReal)) := by
  rw [show iblk m c 7 t (ix2 r w : S512x128.Idx) = V m c main_v24 (ix2 (aR t r) w : S2048x128.Idx) by blk_ext [iblk, idx t]]
  exact dkpe_at m c _ w

end

end Cert.LatentsBwdIdeal.Hand

end
-- ==== Proof.Latents.lean ====
/- The gradient of the latents' RMS norms and of the shared key's rotary embedding (`mla_latents_bwd`): the kernel's three
   arrays are the reference's on finite arguments. -/
module

public import proofs.«01_k».proof.Defs
public import proofs.«01_k».proof.Proof.Gen.LatentsBwdIdeal.Value
public import proofs.«01_k».proof.Proof.Gen.LatentsBwdRefIdeal.Read
public import proofs.«01_k».proof.Proof.LatPay
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.LatentsBwdIdeal.Hand

open Cert.LatentsBwdIdeal Cert.LatentsBwdIdeal.Gen Idealize.ShloMosaic Idealize.ShloMosaic.TcCoe Idealize.SL.Sem
open Idealize.ShloMosaic.Pipeline (Dat)
open Cert.Proof

variable (m : (ℓ : Loc nD τ sig) → Buf (Elt Ideal) ℓ)

open Cert.UnropeBwdIdeal.Hand (rot rot_lo rot_hi)

/-- The rotation of a padded row by padded factors: the 64 lanes rotated back, zeros after them. -/
theorem rot_pad (x : Fin 64 → EReal) (C S : Fin 32 → EReal) (w : Fin 128) :
    rot (fun w : Fin 128 => if h : (w : ℕ) < 64 then x ⟨w, h⟩ else 0)
      (if h : (w : ℕ) < 32 then C ⟨w, h⟩ else if h : (w : ℕ) < 64 then C ⟨w - 32, by omega⟩ else 0)
      (if h : (w : ℕ) < 32 then - S ⟨w, h⟩ else if h : (w : ℕ) < 64 then S ⟨w - 32, by omega⟩ else 0) w
    = if h : (w : ℕ) < 64 then (if h' : (w : ℕ) < 32 then x ⟨w, h⟩ * C ⟨w, h'⟩ + x ⟨w + 32, by omega⟩ * S ⟨w, h'⟩
        else x ⟨w, h⟩ * C ⟨w - 32, by omega⟩ - x ⟨w - 32, by omega⟩ * S ⟨w - 32, by omega⟩) else 0 := by
  by_cases h1 : (w : ℕ) < 32
  · have h2 : (w : ℕ) < 64 := by omega
    have h3 : (w : ℕ) + 32 < 64 := by omega
    refine (rot_lo _ _ _ w h1).trans ?_
    simp only [dif_pos h1, dif_pos h2, dif_pos h3]
    rw [mul_comm (G := EReal) _ (- _), EReal.neg_mul, sub_eq_add_neg, neg_neg, mul_comm (G := EReal) (S _)]
  · refine (rot_hi _ _ _ w h1).trans ?_
    by_cases h2 : (w : ℕ) < 64
    · have h3 : (w : ℕ) - 32 < 64 := by omega
      simp only [dif_neg h1, dif_pos h2, dif_pos h3]
    · simp only [dif_neg h1, dif_neg h2, mul_zero, sub_zero]

theorem acc2_at (v0 : FVec Ideal S512x768 .f32) (v3 : FVec Ideal S512x384 .f32) (a : FVec Ideal S1x384 .f32) (l : Fin 384) :
    @Eq EReal (k0_pay2 (F := Ideal) (k0_pay9 (lq v0) v3) a (ix2 0 l))
      (a (ix2 0 l) + ∑ r : Fin 512, v3 (ix2 r l) * rmXh rmQ (fun j : Fin 384 => v0 (ix2 r ⟨j, by omega⟩)) l) := by
  unfold k0_pay2
  pointwise
  refine congrArg (_ + ·) ((pay9_at _ _ _ _).trans (Finset.sum_congr rfl fun r _ => ?_))
  exact congrArg (fun f => _ * rmXh rmQ f l) (funext (ldQ v0 r))

theorem acc4_at (v0 : FVec Ideal S512x768 .f32) (v3 : FVec Ideal S512x256 .f32) (a : FVec Ideal S1x256 .f32) (l : Fin 256) :
    @Eq EReal (k0_pay4 (F := Ideal) (k0_pay14 (k0_pay10 (lkv v0)) v3 (k0_pay11 (lkv v0)) (Ideal.ofBits FTy.f32 0x358637BD#32)) a (ix2 0 l))
      (a (ix2 0 l) + ∑ r : Fin 512, v3 (ix2 r l) * rmXh rmKV (fun j : Fin 256 => v0 (ix2 r ⟨384 + j, by omega⟩)) l) := by
  unfold k0_pay4
  pointwise
  refine congrArg (_ + ·) ((pay14_at _ _ _ _).trans (Finset.sum_congr rfl fun r _ => ?_))
  exact congrArg (fun f => _ * rmXh rmKV f l) (funext (ldKV v0 r))

/-- The arguments are real numbers where a norm reads them. -/
def Fin6 (c : Dev nD) : Prop :=
  (∀ i, IsR ((m ((c : Thread nD τ).loc main_arg0)) i)) ∧ (∀ (r : Fin 2048) (k : Fin 256), IsR (kvRow (m ((c : Thread nD τ).loc main_arg1)) r k)) ∧ (∀ i, IsR ((m ((c : Thread nD τ).loc main_arg2)) i)) ∧ (∀ i, IsR ((m ((c : Thread nD τ).loc main_arg3)) i))
    ∧ (∀ i, IsR ((m ((c : Thread nD τ).loc main_arg4)) i)) ∧ (∀ i, IsR ((m ((c : Thread nD τ).loc main_arg5)) i))

section
open Cert.LatentsBwdRefIdeal.Read
variable (c : Dev nD) (t : Fin cfg0.N) (r : Fin 512)

abbrev bl5 (j : Fin 384) : EReal := iblk m c 5 t (ix2 r j : S512x384.Idx)
abbrev bl6 (j : Fin 256) : EReal := iblk m c 6 t (ix2 r j : S512x256.Idx)

theorem ropeRow (w : Fin 128) : rot (fun w => iblk m c 7 t (ix2 r w : S512x128.Idx)) (iblk m c 3 t (ix2 r w : S512x128.Idx)) (iblk m c 4 t (ix2 r w : S512x128.Idx)) w
    = if h : (w : ℕ) < 64 then val_main_v72 (F := Ideal) (m ((c : Thread nD τ).loc main_arg6)) (ix2 (aR t r) ⟨w, h⟩ : S2048x64.Idx) else (0 : EReal) := by
  have e7 : (fun w : Fin 128 => (iblk m c 7 t (ix2 r w : S512x128.Idx) : EReal)) = fun w : Fin 128 => if h : (w : ℕ) < 64 then (m ((c : Thread nD τ).loc main_arg6)) (ix2 (aR t r) ⟨w, h⟩ : S2048x64.Idx) else (0 : EReal) :=
    funext (b7 m c t r)
  refine (congrArg (fun f => rot f _ _ w) e7).trans ((congrArg₂ (fun a b => rot _ a b w) (b3 m c t r w) (b4 m c t r w)).trans
    ((rot_pad (fun k => (m ((c : Thread nD τ).loc main_arg6)) (ix2 (aR t r) k : S2048x64.Idx)) (fun k => COS (ix2 (aR t r) k)) (fun k => SIN (ix2 (aR t r) k)) w).trans ?_))
  by_cases h : (w : ℕ) < 64
  · rw [dif_pos h, dif_pos h]
    exact (ref72_at (m ((c : Thread nD τ).loc main_arg6)) (aR t r) ⟨w, h⟩).symm
  · rw [dif_neg h, dif_neg h]

theorem pt8 (h : Fin6 m c) (l : Fin 768) : @Eq EReal (dtBlk (iblk m c 0 t) (iblk m c 1 t) (iblk m c 2 t) (iblk m c 3 t) (iblk m c 4 t)
      (iblk m c 7 t) (iblk m c 5 t) (iblk m c 6 t) r l)
    (val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (aR t r) l)) := by
  obtain ⟨f0, f1, f2, f3, f4, f5⟩ := h
  refine Eq.trans ?_ (ref112_at (m ((c : Thread nD τ).loc main_arg0)) (m ((c : Thread nD τ).loc main_arg4)) (m ((c : Thread nD τ).loc main_arg1)) (m ((c : Thread nD τ).loc main_arg2)) (m ((c : Thread nD τ).loc main_arg3)) (m ((c : Thread nD τ).loc main_arg5)) (m ((c : Thread nD τ).loc main_arg6)) (aR t r) l).symm
  unfold dtBlk
  by_cases h1 : (l : ℕ) < 384
  · rw [dif_pos h1, dif_pos h1]
    refine Eq.trans ?_ (rmGrad_eq rmQ_eq (by norm_num) (fun j => f0 _) (fun j => (f4 _).mul (f2 _)) _).symm
    exact congrArg₂ (fun f g => rmGradK rmQ f g ⟨l, h1⟩) (funext (b0q m c t r)) (funext fun j => congrArg₂ (fun a b : EReal => a * b) (b5 m c t r j) (b1 m c t j))
  · rw [dif_neg h1, dif_neg h1]
    by_cases h2 : (l : ℕ) < 640
    · rw [dif_pos h2, dif_pos h2]
      refine Eq.trans ?_ (rmGrad_eq rmKV_eq (by norm_num) (fun j => f1 _ j) (fun j => (f5 _).mul (f3 _)) _).symm
      exact congrArg₂ (fun f g => rmGradK rmKV f g ⟨l - 384, by omega⟩) (funext (b0k m c t r)) (funext fun j => congrArg₂ (fun a b : EReal => a * b) (b6 m c t r j) (b2 m c t j))
    · rw [dif_neg h2, dif_neg h2]
      refine (ropeRow m c t r ⟨l - 640, by omega⟩).trans ?_
      by_cases h3 : (l : ℕ) < 704
      · rw [dif_pos h3, dif_pos (show l.val - 640 < 64 by omega)]
      · rw [dif_neg h3, dif_neg (show ¬ l.val - 640 < 64 by omega)]

theorem final8 (h : Fin6 m c) : (dats m 0 c).arrAt 8 (cfgs 0).N = val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  idx_vars y
  rw [show ((cfg0.win 8).blk t).view.emb (ix2 y0 y1 : S512x768.Idx) = (ix2 ⟨t.val * 512 + y0, row_lt t y0⟩ y1 : S2048x768.Idx) by blk_ext [idx t]]
  exact (o8 m c t y0 y1).trans (pt8 m c t y0 h y1)

theorem final9 : (dats m 0 c).arrAt 9 (cfgs 0).N = val_main_v95 (F := Ideal) (m ((c : Thread nD τ).loc main_arg0)) (m ((c : Thread nD τ).loc main_arg4)) := by
  have hz : ∀ j : S1x384.Idx, @Eq EReal (k0_pay1 (F := Ideal) j) 0 := fun j => by
    unfold k0_pay1; pointwise
  refine (dats m 0 c).arrAt_eq_of_after_last 9 t0_3 (by decide +kernel) _ fun j => ?_
  blk_simp
  rw [after0_9, Pipeline.eq_sum_fin_of_reset_step_apply_last (fun n h => (outsAt0 m c n h).2.1) 4 (fun _ => (0 : EReal))
    (fun t j => (∑ r : Fin 512, bl5 m c t r (j 1) * rmXh rmQ (fun j : Fin 384 => iblk m c 0 t (ix2 r (⟨j, by omega⟩ : Fin 768) : S512x768.Idx)) (j 1) : EReal))
    (fun t h j => by
      idx_vars j
      obtain rfl : j0 = 0 := Subsingleton.elim _ _
      rw [outsAt0_A m c t h h]
      frame_out
      exact (acc2_at _ _ _ _).trans (congrArg (· + _) (hz _)))
    (fun t h j => by
      idx_vars j
      obtain rfl : j0 = 0 := Subsingleton.elim _ _
      rw [outsAt0_B m c t h h]
      frame_out
      exact (acc2_at _ _ _ _))
    (le_of_eq N_0) t0_3 rfl j, zero_add]
  idx_vars j
  obtain rfl : j0 = 0 := Subsingleton.elim _ _
  refine Eq.trans ?_ (ref95_at (m ((c : Thread nD τ).loc main_arg0)) (m ((c : Thread nD τ).loc main_arg4)) _ _).symm
  refine (Fin.sum_points_lanes_congr (A := 1) 4 (g := fun _ r => (rmXh rmQ (fun j => (m ((c : Thread nD τ).loc main_arg0)) (ix2 r j : S2048x384.Idx)) j1 * (m ((c : Thread nD τ).loc main_arg4)) (ix2 r j1 : S2048x384.Idx) : EReal)) fun t k ha hl => ?_).trans (Fin.sum_univ_one _)
  have ht : t.val % 4 * 512 + k = t.val * 512 + k := by
    have := lt_of_lt_of_eq t.isLt N_0
    omega
  simp only [ht]
  refine (mul_comm (G := EReal) _ _).trans ?_
  exact congrArg₂ (fun f a => rmXh rmQ f j1 * a) (funext (b0q m c t k)) (b5 m c t k j1)

theorem final10 : (dats m 0 c).arrAt 10 (cfgs 0).N = val_main_v76 (F := Ideal) (m ((c : Thread nD τ).loc main_arg1)) (m ((c : Thread nD τ).loc main_arg5)) := by
  have hz : ∀ j : S1x256.Idx, @Eq EReal (k0_pay3 (F := Ideal) j) 0 := fun j => by
    unfold k0_pay3; pointwise
  refine (dats m 0 c).arrAt_eq_of_after_last 10 t0_3 (by decide +kernel) _ fun j => ?_
  blk_simp
  rw [after0_10, Pipeline.eq_sum_fin_of_reset_step_apply_last (fun n h => (outsAt0 m c n h).2.2) 4 (fun _ => (0 : EReal))
    (fun t j => (∑ r : Fin 512, bl6 m c t r (j 1) * rmXh rmKV (fun j : Fin 256 => iblk m c 0 t (ix2 r (⟨384 + j, by omega⟩ : Fin 768) : S512x768.Idx)) (j 1) : EReal))
    (fun t h j => by
      idx_vars j
      obtain rfl : j0 = 0 := Subsingleton.elim _ _
      rw [outsAt0_A m c t h h]
      frame_out
      exact (acc4_at _ _ _ _).trans (congrArg (· + _) (hz _)))
    (fun t h j => by
      idx_vars j
      obtain rfl : j0 = 0 := Subsingleton.elim _ _
      rw [outsAt0_B m c t h h]
      frame_out
      exact (acc4_at _ _ _ _))
    (le_of_eq N_0) t0_3 rfl j, zero_add]
  idx_vars j
  obtain rfl : j0 = 0 := Subsingleton.elim _ _
  refine Eq.trans ?_ (ref76_at (m ((c : Thread nD τ).loc main_arg1)) (m ((c : Thread nD τ).loc main_arg5)) _ _).symm
  refine (Fin.sum_points_lanes_congr (A := 1) 4 (g := fun _ r => (rmXh rmKV (kvRow (m ((c : Thread nD τ).loc main_arg1)) r) j1 * (m ((c : Thread nD τ).loc main_arg5)) (ix2 r j1 : S2048x256.Idx) : EReal)) fun t k ha hl => ?_).trans (Fin.sum_univ_one _)
  have ht : t.val % 4 * 512 + k = t.val * 512 + k := by
    have := lt_of_lt_of_eq t.isLt N_0
    omega
  simp only [ht]
  refine (mul_comm (G := EReal) _ _).trans ?_
  exact congrArg₂ (fun f a => rmXh rmKV f j1 * a) (funext (b0k m c t k)) (b6 m c t k j1)

end

end Cert.LatentsBwdIdeal.Hand

namespace Cert.Proof

open Idealize.ShloMosaic Idealize.SL.Sem

theorem kv_isR [Cert.Pre_latents_finite.Facts] (x : FVec Ideal Cert.Pre_latents_finite.S2048x320 .f32) (r : Fin 2048) (k : Fin 256)
    (h : cmpf .olt (Host.absf (extractStridedSlice Cert.Pre_latents_finite.S2048x256 ![0, 0] x Cert.Pre_latents_finite.Facts.slices_S2048x320_S2048x256_0_0))
      (broadcastInDim Cert.Pre_latents_finite.S2048x256 ![] Cert.Pre_latents_finite.Facts.bcast_S_S2048x256 (constant (F := Ideal) Cert.Pre_latents_finite.S_ .f32 0x7F800000#32)) (ix2 r k) = 1#1) :
    IsR (Cert.LatentsBwdIdeal.Hand.kvRow x r k) := by
  rw [show Cert.LatentsBwdIdeal.Hand.kvRow x r k = extractStridedSlice Cert.Pre_latents_finite.S2048x256 ![0, 0] x Cert.Pre_latents_finite.Facts.slices_S2048x320_S2048x256_0_0 (ix2 r k) by pointwise]
  exact IsR.of_lt h

theorem fin_Latents [Cert.Pre_latents_finite.Facts] (m : (ℓ : Loc Cert.LatentsBwdIdeal.nD Cert.LatentsBwdIdeal.τ Cert.LatentsBwdIdeal.sig) → Buf (Elt Ideal) ℓ)
    (h : Cert.Pre_LatentsBwdIdeal_latents_finite m) (c : Dev Cert.LatentsBwdIdeal.nD) : Cert.LatentsBwdIdeal.Hand.Fin6 m c :=
  ⟨fun i => IsR.of_lt (congrFun (h c).1 i), fun r k => kv_isR _ r k (congrFun (h c).2.1 (ix2 r k)), fun i => IsR.of_lt (congrFun (h c).2.2.1 i),
    fun i => IsR.of_lt (congrFun (h c).2.2.2.1 i), fun i => IsR.of_lt (congrFun (h c).2.2.2.2.1 i), fun i => IsR.of_lt (congrFun (h c).2.2.2.2.2 i)⟩

set_option maxHeartbeats 4000000 in
theorem algebraic_Latents [Cert.LatentsBwdIdeal.Facts] [Cert.LatentsBwdRefIdeal.Facts] [Cert.Pre_latents_finite.Facts] :
    Cert.algebraic_LatentsBwdIdeal_LatentsBwdRefIdeal_pre_latents_finite := by
  intro m g m' g' hpre hagree
  refine ⟨fun c => (Cert.LatentsBwdIdeal.Gen.dats m 0 c).arrAt 8 (Cert.LatentsBwdIdeal.cfgs 0).N,
    fun c => (Cert.LatentsBwdIdeal.Gen.dats m 0 c).arrAt 9 (Cert.LatentsBwdIdeal.cfgs 0).N,
    fun c => (Cert.LatentsBwdIdeal.Gen.dats m 0 c).arrAt 10 (Cert.LatentsBwdIdeal.cfgs 0).N, ?_, ?_⟩
  · exact (θ_run _ _ _).mono (fun r h c => ⟨(h.1 c).1 8, (h.1 c).1 9, (h.1 c).1 10, h.2 c⟩)
      (θ_run_and (Cert.LatentsBwdIdeal.Gen.run_main m g) (Cert.LatentsBwdIdeal.Gen.unchanged m g))
  · refine (θ_run _ _ _).mono (fun r h c => ⟨((h c).1).trans ?_, ((h c).2.1).trans ?_, ((h c).2.2.1).trans ?_, (h c).2.2.2⟩) (Cert.LatentsBwdRefIdeal.Value.run m' g')
    · refine (Cert.LatentsBwdRefIdeal.Read.val_main_v112_eq m' c).trans ?_
      rw [(hagree c).1, (hagree c).2.1, (hagree c).2.2.1, (hagree c).2.2.2.1, (hagree c).2.2.2.2.1, (hagree c).2.2.2.2.2.1, (hagree c).2.2.2.2.2.2]
      exact (Cert.LatentsBwdIdeal.Hand.final8 m c (fin_Latents m hpre c)).symm
    · refine (Cert.LatentsBwdRefIdeal.Read.val_main_v95_eq _ _).trans ?_
      rw [(hagree c).1, (hagree c).2.2.2.2.1]
      exact (Cert.LatentsBwdIdeal.Hand.final9 m c).symm
    · refine (Cert.LatentsBwdRefIdeal.Read.val_main_v76_eq _ _).trans ?_
      rw [(hagree c).2.1, (hagree c).2.2.2.2.2.1]
      exact (Cert.LatentsBwdIdeal.Hand.final10 m c).symm

end Cert.Proof

end
-- ==== Proof.ScIn.lean ====
/- The gradient through the mixer's first product, over a cotangent in three parts, and the layer norm before it
   (`mm_nt_ln_backward`): the kernel's five arrays are the reference's on finite arguments. -/
module

public import proofs.«01_k».proof.Defs
public import proofs.«01_k».proof.Proof.Gen.ScInBwdIdeal.Value
public import proofs.«01_k».proof.Proof.Gen.ScInBwdRefIdeal.Read
public import proofs.«01_k».proof.Proof.Up
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.ScInBwdIdeal.Hand

open Cert.ScInBwdIdeal Cert.ScInBwdIdeal.Gen Idealize.ShloMosaic Idealize.ShloMosaic.TcCoe Idealize.SL.Sem
open Idealize.ShloMosaic.Pipeline (Dat)
open Cert.Proof

variable (m : (ℓ : Loc nD τ sig) → Buf (Elt Ideal) ℓ)

open Cert.UpBwdIdeal.Hand (dyU dxU dxU_isR payR)

/-- Three rows side by side. -/
def cat3 (x y z : Fin 1024 → EReal) (k : Fin 3072) : EReal :=
  if h : (k : ℕ) < 1024 then x ⟨k, h⟩ else if h : (k : ℕ) < 2048 then y ⟨k - 1024, by omega⟩ else z ⟨k - 1024 - 1024, by omega⟩

theorem cat3_isR {x y z : Fin 1024 → EReal} (hx : ∀ j, IsR (x j)) (hy : ∀ j, IsR (y j)) (hz : ∀ j, IsR (z j)) (k : Fin 3072) :
    IsR (cat3 x y z k) := by
  unfold cat3
  split
  · exact hx _
  · split
    · exact hy _
    · exact hz _

/-! ## The payloads at an index -/

section
variable (x0 : FVec Ideal S3x512x1024 .bf16) (x1 : FVec Ideal S1024x3072 .bf16) (x2 x3 : FVec Ideal S512x1024 .f32)
  (x4 : FVec Ideal S512x1 .f32) (x5 acc : FVec Ideal S1x1024 .f32) (r : Fin 512) (l : Fin 1024)

theorem pay2_at : @Eq EReal (k0_pay2 (F := Ideal) x0 x1 x2 (ix2 r l)) (dyU (fun i k => x1 (ix2 i k)) (cat3 (fun k => x0 (ix3 0 r k)) (fun k => x0 (ix3 1 r k)) fun k => x0 (ix3 2 r k)) (fun j => x2 (ix2 r j)) l) := by
  unfold k0_pay2
  pointwise
  refine congrArg (· + _) (Finset.sum_congr rfl fun k _ => congrArg (· * _) ?_)
  unfold cat3
  by_cases h1 : (k : ℕ) < 1024
  · simp only [dif_pos h1]
  · by_cases h2 : (k : ℕ) < 2048
    · simp only [dif_neg h1, dif_pos h2, dif_pos (show (k : ℕ) - 1024 < 1024 by omega)]
    · simp only [dif_neg h1, dif_neg h2, dif_neg (show ¬ (k : ℕ) - 1024 < 1024 by omega)]

theorem pay6_at : @Eq EReal (k0_pay6 (F := Ideal) (k0_pay4 x0 x1 x2 x3 x5) (k0_pay5 x4) (ix2 r l))
    (payR (fun j => x3 (ix2 r j)) (x4 (ix2 r 0)) (dxU (fun i k => x1 (ix2 i k)) (cat3 (fun k => x0 (ix3 0 r k)) (fun k => x0 (ix3 1 r k)) fun k => x0 (ix3 2 r k)) (fun j => x2 (ix2 r j)) fun j => x5 (ix2 0 j)) l) := by
  unfold k0_pay6 k0_pay5 k0_pay4 k0_pay3
  pointwise
  simp only [pay2_at]
  rfl

theorem pay7_at : @Eq EReal (k0_pay7 (F := Ideal) (k0_pay4 x0 x1 x2 x3 x5) (k0_pay5 x4) (ix2 r l))
    (payR (fun j => x3 (ix2 r j)) (x4 (ix2 r 0)) (dxU (fun i k => x1 (ix2 i k)) (cat3 (fun k => x0 (ix3 0 r k)) (fun k => x0 (ix3 1 r k)) fun k => x0 (ix3 2 r k)) (fun j => x2 (ix2 r j)) fun j => x5 (ix2 0 j)) l) := by
  unfold k0_pay7
  pointwise
  exact pay6_at x0 x1 x2 x3 x4 x5 r l

theorem pay9_at : @Eq EReal (k0_pay9 (F := Ideal) (k0_pay2 x0 x1 x2) (k0_pay3 x3) acc (ix2 0 l))
    (acc (ix2 0 l) + ∑ r : Fin 512, dyU (fun i k => x1 (ix2 i k)) (cat3 (fun k => x0 (ix3 0 r k)) (fun k => x0 (ix3 1 r k)) fun k => x0 (ix3 2 r k)) (fun j => x2 (ix2 r j)) l * x3 (ix2 r l)) := by
  unfold k0_pay9 k0_pay3
  pointwise
  simp only [pay2_at]

theorem pay11_at : @Eq EReal (k0_pay11 (F := Ideal) (k0_pay2 x0 x1 x2) acc (ix2 0 l))
    (acc (ix2 0 l) + ∑ r : Fin 512, dyU (fun i k => x1 (ix2 i k)) (cat3 (fun k => x0 (ix3 0 r k)) (fun k => x0 (ix3 1 r k)) fun k => x0 (ix3 2 r k)) (fun j => x2 (ix2 r j)) l) := by
  unfold k0_pay11
  pointwise
  simp only [pay2_at]

theorem pay1_at : @Eq EReal (k0_pay1 (F := Ideal) (k0_pay12 (k0_pay4 x0 x1 x2 x3 x5) (k0_pay5 x4)) (k0_pay14 acc) (ix2 0 l))
    (acc (ix2 0 l) + ∑ r : Fin 512, payR (fun j => x3 (ix2 r j)) (x4 (ix2 r 0)) (dxU (fun i k => x1 (ix2 i k)) (cat3 (fun k => x0 (ix3 0 r k)) (fun k => x0 (ix3 1 r k)) fun k => x0 (ix3 2 r k)) (fun j => x2 (ix2 r j)) fun j => x5 (ix2 0 j)) l) := by
  unfold k0_pay1 k0_pay12 k0_pay14
  pointwise
  simp only [pay6_at]

end

/-! ## The reference's arrays at an index -/

section
open Cert.ScInBwdRefIdeal.Read
variable (x0 x6 : FVec Ideal S2048x1024 .f32) (x1 x2 : FVec Ideal S1x1024 .f32) (x4 : FVec Ideal S1024x3072 .f32)
  (x5 : FVec Ideal S3x2048x1024 .f32) (r : Fin 2048) (l : Fin 1024) (z : Fin 1)

theorem ref1_at : @Eq EReal (val_main_v1 (F := Ideal) x0 x1 (ix2 r l))
    (x0 (ix2 r l) + x1 (ix2 0 l)) := by
  pointwise [val_main_v0, val_main_v1, val_main_cst, val_main_v2, val_main_v3, val_main_cst_0, val_main_v4, val_main_v5, val_main_v6, val_main_v7, val_main_v8, val_main_cst_1, val_main_v9, val_main_v10, val_main_cst_2, val_main_v11, val_main_v12, val_main_cst_3, val_main_v13, val_main_v14, val_main_v15, val_main_v16, val_main_cst_4, val_main_v17, val_main_v18, val_main_v19, val_main_v20, val_main_cst_5, val_main_v21, val_main_v22, val_main_v23, val_main_v24, val_main_v25, val_main_v26, val_main_v27, val_main_v28, val_main_v29, val_main_cst_6, val_main_v30, val_main_v31, val_main_v32, val_main_v33, val_main_v34, val_main_v35, val_main_v36, val_main_v37, val_main_v38, val_main_cst_7, val_main_v39, val_main_v40, val_main_v41, val_main_v42, val_main_cst_8, val_main_v43, val_main_v44, val_main_v45, val_main_cst_9, val_main_v46, val_main_v47, val_main_v48, val_main_v49, val_main_v50, val_main_cst_10, val_main_v51, val_main_v52, val_main_v53, val_main_v54, val_main_v55, val_main_v56, val_main_cst_11, val_main_v57, val_main_v58, val_main_cst_12, val_main_v59, val_main_v60, val_main_cst_13, val_main_v61, val_main_v62, val_main_v63, val_main_v64, val_main_cst_14, val_main_v65, val_main_v66, val_main_v67, val_main_v68, val_main_cst_15, val_main_v69, val_main_v70, val_main_cst_16, val_main_v71, val_main_v72, val_main_v73, val_main_cst_17, val_main_v74, val_main_v75, val_main_v76]

theorem ref5_at : @Eq EReal (val_main_v5 (F := Ideal) x0 x1 (ix2 r z))
    (lnMu (fun j => x0 (ix2 r j) + x1 (ix2 0 j))) := by
  pointwise [val_main_v0, val_main_cst, val_main_v2, val_main_v3, val_main_cst_0, val_main_v4, val_main_v5, val_main_v6, val_main_v7, val_main_v8, val_main_cst_1, val_main_v9, val_main_v10, val_main_cst_2, val_main_v11, val_main_v12, val_main_cst_3, val_main_v13, val_main_v14, val_main_v15, val_main_v16, val_main_cst_4, val_main_v17, val_main_v18, val_main_v19, val_main_v20, val_main_cst_5, val_main_v21, val_main_v22, val_main_v23, val_main_v24, val_main_v25, val_main_v26, val_main_v27, val_main_v28, val_main_v29, val_main_cst_6, val_main_v30, val_main_v31, val_main_v32, val_main_v33, val_main_v34, val_main_v35, val_main_v36, val_main_v37, val_main_v38, val_main_cst_7, val_main_v39, val_main_v40, val_main_v41, val_main_v42, val_main_cst_8, val_main_v43, val_main_v44, val_main_v45, val_main_cst_9, val_main_v46, val_main_v47, val_main_v48, val_main_v49, val_main_v50, val_main_cst_10, val_main_v51, val_main_v52, val_main_v53, val_main_v54, val_main_v55, val_main_v56, val_main_cst_11, val_main_v57, val_main_v58, val_main_cst_12, val_main_v59, val_main_v60, val_main_cst_13, val_main_v61, val_main_v62, val_main_v63, val_main_v64, val_main_cst_14, val_main_v65, val_main_v66, val_main_v67, val_main_v68, val_main_cst_15, val_main_v69, val_main_v70, val_main_cst_16, val_main_v71, val_main_v72, val_main_v73, val_main_cst_17, val_main_v74, val_main_v75, val_main_v76]
  simp only [ref1_at]
  rfl

theorem ref16_at : @Eq EReal (val_main_v16 (F := Ideal) x0 x1 (ix2 r l))
    (x0 (ix2 r l) + x1 (ix2 0 l) - lnMu (fun j => x0 (ix2 r j) + x1 (ix2 0 j))) := by
  pointwise [val_main_v0, val_main_cst, val_main_v2, val_main_v3, val_main_cst_0, val_main_v4, val_main_v6, val_main_v7, val_main_v8, val_main_cst_1, val_main_v9, val_main_v10, val_main_cst_2, val_main_v11, val_main_v12, val_main_cst_3, val_main_v13, val_main_v14, val_main_v15, val_main_v16, val_main_cst_4, val_main_v17, val_main_v18, val_main_v19, val_main_v20, val_main_cst_5, val_main_v21, val_main_v22, val_main_v23, val_main_v24, val_main_v25, val_main_v26, val_main_v27, val_main_v28, val_main_v29, val_main_cst_6, val_main_v30, val_main_v31, val_main_v32, val_main_v33, val_main_v34, val_main_v35, val_main_v36, val_main_v37, val_main_v38, val_main_cst_7, val_main_v39, val_main_v40, val_main_v41, val_main_v42, val_main_cst_8, val_main_v43, val_main_v44, val_main_v45, val_main_cst_9, val_main_v46, val_main_v47, val_main_v48, val_main_v49, val_main_v50, val_main_cst_10, val_main_v51, val_main_v52, val_main_v53, val_main_v54, val_main_v55, val_main_v56, val_main_cst_11, val_main_v57, val_main_v58, val_main_cst_12, val_main_v59, val_main_v60, val_main_cst_13, val_main_v61, val_main_v62, val_main_v63, val_main_v64, val_main_cst_14, val_main_v65, val_main_v66, val_main_v67, val_main_v68, val_main_cst_15, val_main_v69, val_main_v70, val_main_cst_16, val_main_v71, val_main_v72, val_main_v73, val_main_cst_17, val_main_v74, val_main_v75, val_main_v76]
  simp only [ref1_at, ref5_at]

theorem ref18_at : @Eq EReal (val_main_v18 (F := Ideal) x0 x1 (ix2 r z))
    (lnVe (fun j => x0 (ix2 r j) + x1 (ix2 0 j))) := by
  pointwise [val_main_v0, val_main_cst, val_main_v2, val_main_v3, val_main_cst_0, val_main_v4, val_main_v6, val_main_v7, val_main_v8, val_main_cst_1, val_main_v9, val_main_v10, val_main_cst_2, val_main_v11, val_main_v12, val_main_cst_3, val_main_v13, val_main_v14, val_main_v15, val_main_cst_4, val_main_v17, val_main_v18, val_main_v19, val_main_v20, val_main_cst_5, val_main_v21, val_main_v22, val_main_v23, val_main_v24, val_main_v25, val_main_v26, val_main_v27, val_main_v28, val_main_v29, val_main_cst_6, val_main_v30, val_main_v31, val_main_v32, val_main_v33, val_main_v34, val_main_v35, val_main_v36, val_main_v37, val_main_v38, val_main_cst_7, val_main_v39, val_main_v40, val_main_v41, val_main_v42, val_main_cst_8, val_main_v43, val_main_v44, val_main_v45, val_main_cst_9, val_main_v46, val_main_v47, val_main_v48, val_main_v49, val_main_v50, val_main_cst_10, val_main_v51, val_main_v52, val_main_v53, val_main_v54, val_main_v55, val_main_v56, val_main_cst_11, val_main_v57, val_main_v58, val_main_cst_12, val_main_v59, val_main_v60, val_main_cst_13, val_main_v61, val_main_v62, val_main_v63, val_main_v64, val_main_cst_14, val_main_v65, val_main_v66, val_main_v67, val_main_v68, val_main_cst_15, val_main_v69, val_main_v70, val_main_cst_16, val_main_v71, val_main_v72, val_main_v73, val_main_cst_17, val_main_v74, val_main_v75, val_main_v76]
  simp only [ref1_at, ref5_at, ref16_at]
  rfl

theorem ref19_at : @Eq EReal (val_main_v19 (F := Ideal) x0 x1 (ix2 r z))
    (lnRs (fun j => x0 (ix2 r j) + x1 (ix2 0 j))) := by
  pointwise [val_main_v0, val_main_cst, val_main_v2, val_main_v3, val_main_cst_0, val_main_v4, val_main_v6, val_main_v7, val_main_v8, val_main_cst_1, val_main_v9, val_main_v10, val_main_cst_2, val_main_v11, val_main_v12, val_main_cst_3, val_main_v13, val_main_v14, val_main_v15, val_main_cst_4, val_main_v17, val_main_v19, val_main_v20, val_main_cst_5, val_main_v21, val_main_v22, val_main_v23, val_main_v24, val_main_v25, val_main_v26, val_main_v27, val_main_v28, val_main_v29, val_main_cst_6, val_main_v30, val_main_v31, val_main_v32, val_main_v33, val_main_v34, val_main_v35, val_main_v36, val_main_v37, val_main_v38, val_main_cst_7, val_main_v39, val_main_v40, val_main_v41, val_main_v42, val_main_cst_8, val_main_v43, val_main_v44, val_main_v45, val_main_cst_9, val_main_v46, val_main_v47, val_main_v48, val_main_v49, val_main_v50, val_main_cst_10, val_main_v51, val_main_v52, val_main_v53, val_main_v54, val_main_v55, val_main_v56, val_main_cst_11, val_main_v57, val_main_v58, val_main_cst_12, val_main_v59, val_main_v60, val_main_cst_13, val_main_v61, val_main_v62, val_main_v63, val_main_v64, val_main_cst_14, val_main_v65, val_main_v66, val_main_v67, val_main_v68, val_main_cst_15, val_main_v69, val_main_v70, val_main_cst_16, val_main_v71, val_main_v72, val_main_v73, val_main_cst_17, val_main_v74, val_main_v75, val_main_v76]
  simp only [ref18_at]
  rfl

theorem ref24_at : @Eq EReal (val_main_v24 (F := Ideal) x0 x1 (ix2 r l))
    (lnXh (fun j => x0 (ix2 r j) + x1 (ix2 0 j)) l) := by
  pointwise [val_main_v0, val_main_cst, val_main_v2, val_main_v3, val_main_cst_0, val_main_v4, val_main_v6, val_main_v7, val_main_v8, val_main_cst_1, val_main_v9, val_main_v10, val_main_cst_2, val_main_v11, val_main_v12, val_main_cst_3, val_main_v13, val_main_v14, val_main_v15, val_main_cst_4, val_main_v17, val_main_v20, val_main_cst_5, val_main_v21, val_main_v22, val_main_v23, val_main_v24, val_main_v25, val_main_v26, val_main_v27, val_main_v28, val_main_v29, val_main_cst_6, val_main_v30, val_main_v31, val_main_v32, val_main_v33, val_main_v34, val_main_v35, val_main_v36, val_main_v37, val_main_v38, val_main_cst_7, val_main_v39, val_main_v40, val_main_v41, val_main_v42, val_main_cst_8, val_main_v43, val_main_v44, val_main_v45, val_main_cst_9, val_main_v46, val_main_v47, val_main_v48, val_main_v49, val_main_v50, val_main_cst_10, val_main_v51, val_main_v52, val_main_v53, val_main_v54, val_main_v55, val_main_v56, val_main_cst_11, val_main_v57, val_main_v58, val_main_cst_12, val_main_v59, val_main_v60, val_main_cst_13, val_main_v61, val_main_v62, val_main_v63, val_main_v64, val_main_cst_14, val_main_v65, val_main_v66, val_main_v67, val_main_v68, val_main_cst_15, val_main_v69, val_main_v70, val_main_cst_16, val_main_v71, val_main_v72, val_main_v73, val_main_cst_17, val_main_v74, val_main_v75, val_main_v76]
  simp only [ref16_at, ref1_at, ref5_at, ref19_at]
  rfl

theorem ref38_at (k : Fin 3072) : @Eq EReal (val_main_v38 (F := Ideal) x5 (ix2 r k))
    (cat3 (fun k => x5 (ix3 0 r k)) (fun k => x5 (ix3 1 r k)) (fun k => x5 (ix3 2 r k)) k) := by
  pointwise [val_main_v0, val_main_cst, val_main_v2, val_main_v3, val_main_cst_0, val_main_v4, val_main_v6, val_main_v7, val_main_v8, val_main_cst_1, val_main_v9, val_main_v10, val_main_cst_2, val_main_v11, val_main_v12, val_main_cst_3, val_main_v13, val_main_v14, val_main_v15, val_main_cst_4, val_main_v17, val_main_v20, val_main_cst_5, val_main_v21, val_main_v22, val_main_v23, val_main_v25, val_main_v26, val_main_v27, val_main_v28, val_main_v29, val_main_cst_6, val_main_v30, val_main_v31, val_main_v32, val_main_v33, val_main_v34, val_main_v35, val_main_v36, val_main_v37, val_main_v38, val_main_cst_7, val_main_v39, val_main_v40, val_main_v41, val_main_v42, val_main_cst_8, val_main_v43, val_main_v44, val_main_v45, val_main_cst_9, val_main_v46, val_main_v47, val_main_v48, val_main_v49, val_main_v50, val_main_cst_10, val_main_v51, val_main_v52, val_main_v53, val_main_v54, val_main_v55, val_main_v56, val_main_cst_11, val_main_v57, val_main_v58, val_main_cst_12, val_main_v59, val_main_v60, val_main_cst_13, val_main_v61, val_main_v62, val_main_v63, val_main_v64, val_main_cst_14, val_main_v65, val_main_v66, val_main_v67, val_main_v68, val_main_cst_15, val_main_v69, val_main_v70, val_main_cst_16, val_main_v71, val_main_v72, val_main_v73, val_main_cst_17, val_main_v74, val_main_v75, val_main_v76]
  unfold cat3
  by_cases h1 : (k : ℕ) < 1024
  · simp only [dif_pos h1]
  · by_cases h2 : (k : ℕ) < 2048
    · simp only [dif_neg h1, dif_pos h2, dif_pos (show (k : ℕ) - 1024 < 1024 by omega)]
    · simp only [dif_neg h1, dif_neg h2, dif_neg (show ¬ (k : ℕ) - 1024 < 1024 by omega)]

theorem ref42_at : @Eq EReal (val_main_v42 (F := Ideal) x4 x5 x6 (ix2 r l))
    (dyU (fun i k => x4 (ix2 i k)) (cat3 (fun k => x5 (ix3 0 r k)) (fun k => x5 (ix3 1 r k)) fun k => x5 (ix3 2 r k)) (fun j => x6 (ix2 r j)) l) := by
  pointwise [val_main_v0, val_main_cst, val_main_v2, val_main_v3, val_main_cst_0, val_main_v4, val_main_v6, val_main_v7, val_main_v8, val_main_cst_1, val_main_v9, val_main_v10, val_main_cst_2, val_main_v11, val_main_v12, val_main_cst_3, val_main_v13, val_main_v14, val_main_v15, val_main_cst_4, val_main_v17, val_main_v20, val_main_cst_5, val_main_v21, val_main_v22, val_main_v23, val_main_v25, val_main_v26, val_main_v27, val_main_v28, val_main_v29, val_main_cst_6, val_main_v30, val_main_v31, val_main_v32, val_main_v33, val_main_v34, val_main_v35, val_main_v36, val_main_v37, val_main_cst_7, val_main_v39, val_main_v40, val_main_v41, val_main_v42, val_main_cst_8, val_main_v43, val_main_v44, val_main_v45, val_main_cst_9, val_main_v46, val_main_v47, val_main_v48, val_main_v49, val_main_v50, val_main_cst_10, val_main_v51, val_main_v52, val_main_v53, val_main_v54, val_main_v55, val_main_v56, val_main_cst_11, val_main_v57, val_main_v58, val_main_cst_12, val_main_v59, val_main_v60, val_main_cst_13, val_main_v61, val_main_v62, val_main_v63, val_main_v64, val_main_cst_14, val_main_v65, val_main_v66, val_main_v67, val_main_v68, val_main_cst_15, val_main_v69, val_main_v70, val_main_cst_16, val_main_v71, val_main_v72, val_main_v73, val_main_cst_17, val_main_v74, val_main_v75, val_main_v76]
  simp only [ref38_at]
  exact add_comm (G := EReal) _ _

theorem ref44_at : @Eq EReal (val_main_v44 (F := Ideal) x4 x5 x6 (ix2 0 l))
    (∑ r : Fin 2048, dyU (fun i k => x4 (ix2 i k)) (cat3 (fun k => x5 (ix3 0 r k)) (fun k => x5 (ix3 1 r k)) fun k => x5 (ix3 2 r k)) (fun j => x6 (ix2 r j)) l) := by
  pointwise [val_main_v0, val_main_cst, val_main_v2, val_main_v3, val_main_cst_0, val_main_v4, val_main_v6, val_main_v7, val_main_v8, val_main_cst_1, val_main_v9, val_main_v10, val_main_cst_2, val_main_v11, val_main_v12, val_main_cst_3, val_main_v13, val_main_v14, val_main_v15, val_main_cst_4, val_main_v17, val_main_v20, val_main_cst_5, val_main_v21, val_main_v22, val_main_v23, val_main_v25, val_main_v26, val_main_v27, val_main_v28, val_main_v29, val_main_cst_6, val_main_v30, val_main_v31, val_main_v32, val_main_v33, val_main_v34, val_main_v35, val_main_v36, val_main_v37, val_main_cst_7, val_main_v39, val_main_v40, val_main_v41, val_main_cst_8, val_main_v43, val_main_v44, val_main_v45, val_main_cst_9, val_main_v46, val_main_v47, val_main_v48, val_main_v49, val_main_v50, val_main_cst_10, val_main_v51, val_main_v52, val_main_v53, val_main_v54, val_main_v55, val_main_v56, val_main_cst_11, val_main_v57, val_main_v58, val_main_cst_12, val_main_v59, val_main_v60, val_main_cst_13, val_main_v61, val_main_v62, val_main_v63, val_main_v64, val_main_cst_14, val_main_v65, val_main_v66, val_main_v67, val_main_v68, val_main_cst_15, val_main_v69, val_main_v70, val_main_cst_16, val_main_v71, val_main_v72, val_main_v73, val_main_cst_17, val_main_v74, val_main_v75, val_main_v76]
  simp only [ref42_at]

theorem ref47_at : @Eq EReal (val_main_v47 (F := Ideal) x0 x1 x4 x5 x6 (ix2 0 l))
    (∑ r : Fin 2048, dyU (fun i k => x4 (ix2 i k)) (cat3 (fun k => x5 (ix3 0 r k)) (fun k => x5 (ix3 1 r k)) fun k => x5 (ix3 2 r k)) (fun j => x6 (ix2 r j)) l * lnXh (fun j => x0 (ix2 r j) + x1 (ix2 0 j)) l) := by
  pointwise [val_main_v0, val_main_cst, val_main_v2, val_main_v3, val_main_cst_0, val_main_v4, val_main_v6, val_main_v7, val_main_v8, val_main_cst_1, val_main_v9, val_main_v10, val_main_cst_2, val_main_v11, val_main_v12, val_main_cst_3, val_main_v13, val_main_v14, val_main_v15, val_main_cst_4, val_main_v17, val_main_v20, val_main_cst_5, val_main_v21, val_main_v22, val_main_v23, val_main_v25, val_main_v26, val_main_v27, val_main_v28, val_main_v29, val_main_cst_6, val_main_v30, val_main_v31, val_main_v32, val_main_v33, val_main_v34, val_main_v35, val_main_v36, val_main_v37, val_main_cst_7, val_main_v39, val_main_v40, val_main_v41, val_main_cst_8, val_main_v43, val_main_v45, val_main_cst_9, val_main_v46, val_main_v47, val_main_v48, val_main_v49, val_main_v50, val_main_cst_10, val_main_v51, val_main_v52, val_main_v53, val_main_v54, val_main_v55, val_main_v56, val_main_cst_11, val_main_v57, val_main_v58, val_main_cst_12, val_main_v59, val_main_v60, val_main_cst_13, val_main_v61, val_main_v62, val_main_v63, val_main_v64, val_main_cst_14, val_main_v65, val_main_v66, val_main_v67, val_main_v68, val_main_cst_15, val_main_v69, val_main_v70, val_main_cst_16, val_main_v71, val_main_v72, val_main_v73, val_main_cst_17, val_main_v74, val_main_v75, val_main_v76]
  simp only [ref42_at, ref24_at]
  exact Finset.sum_congr rfl fun x _ => mul_comm (G := EReal) _ _

theorem ref49_at : @Eq EReal (val_main_v49 (F := Ideal) x2 x4 x5 x6 (ix2 r l))
    ((dxU (fun i k => x4 (ix2 i k)) (cat3 (fun k => x5 (ix3 0 r k)) (fun k => x5 (ix3 1 r k)) fun k => x5 (ix3 2 r k)) (fun j => x6 (ix2 r j)) fun j => x2 (ix2 0 j)) l) := by
  pointwise [val_main_v0, val_main_cst, val_main_v2, val_main_v3, val_main_cst_0, val_main_v4, val_main_v6, val_main_v7, val_main_v8, val_main_cst_1, val_main_v9, val_main_v10, val_main_cst_2, val_main_v11, val_main_v12, val_main_cst_3, val_main_v13, val_main_v14, val_main_v15, val_main_cst_4, val_main_v17, val_main_v20, val_main_cst_5, val_main_v21, val_main_v22, val_main_v23, val_main_v25, val_main_v26, val_main_v27, val_main_v28, val_main_v29, val_main_cst_6, val_main_v30, val_main_v31, val_main_v32, val_main_v33, val_main_v34, val_main_v35, val_main_v36, val_main_v37, val_main_cst_7, val_main_v39, val_main_v40, val_main_v41, val_main_cst_8, val_main_v43, val_main_v45, val_main_cst_9, val_main_v46, val_main_v48, val_main_v49, val_main_v50, val_main_cst_10, val_main_v51, val_main_v52, val_main_v53, val_main_v54, val_main_v55, val_main_v56, val_main_cst_11, val_main_v57, val_main_v58, val_main_cst_12, val_main_v59, val_main_v60, val_main_cst_13, val_main_v61, val_main_v62, val_main_v63, val_main_v64, val_main_cst_14, val_main_v65, val_main_v66, val_main_v67, val_main_v68, val_main_cst_15, val_main_v69, val_main_v70, val_main_cst_16, val_main_v71, val_main_v72, val_main_v73, val_main_cst_17, val_main_v74, val_main_v75, val_main_v76]
  simp only [ref42_at]
  rfl

theorem ref54_at : @Eq EReal (val_main_v54 (F := Ideal) x0 x1 x2 x4 x5 x6 (ix2 r l))
    (lnPart (fun j => x0 (ix2 r j) + x1 (ix2 0 j)) (dxU (fun i k => x4 (ix2 i k)) (cat3 (fun k => x5 (ix3 0 r k)) (fun k => x5 (ix3 1 r k)) fun k => x5 (ix3 2 r k)) (fun j => x6 (ix2 r j)) fun j => x2 (ix2 0 j)) l) := by
  pointwise [val_main_v0, val_main_cst, val_main_v2, val_main_v3, val_main_cst_0, val_main_v4, val_main_v6, val_main_v7, val_main_v8, val_main_cst_1, val_main_v9, val_main_v10, val_main_cst_2, val_main_v11, val_main_v12, val_main_cst_3, val_main_v13, val_main_v14, val_main_v15, val_main_cst_4, val_main_v17, val_main_v20, val_main_cst_5, val_main_v21, val_main_v22, val_main_v23, val_main_v25, val_main_v26, val_main_v27, val_main_v28, val_main_v29, val_main_cst_6, val_main_v30, val_main_v31, val_main_v32, val_main_v33, val_main_v34, val_main_v35, val_main_v36, val_main_v37, val_main_cst_7, val_main_v39, val_main_v40, val_main_v41, val_main_cst_8, val_main_v43, val_main_v45, val_main_cst_9, val_main_v46, val_main_v48, val_main_v50, val_main_cst_10, val_main_v51, val_main_v52, val_main_v53, val_main_v54, val_main_v55, val_main_v56, val_main_cst_11, val_main_v57, val_main_v58, val_main_cst_12, val_main_v59, val_main_v60, val_main_cst_13, val_main_v61, val_main_v62, val_main_v63, val_main_v64, val_main_cst_14, val_main_v65, val_main_v66, val_main_v67, val_main_v68, val_main_cst_15, val_main_v69, val_main_v70, val_main_cst_16, val_main_v71, val_main_v72, val_main_v73, val_main_cst_17, val_main_v74, val_main_v75, val_main_v76]
  simp only [ref19_at, ref49_at]
  rfl

theorem ref63_at : @Eq EReal (val_main_v63 (F := Ideal) x0 x1 x2 x4 x5 x6 (ix2 r l))
    (lnVar (fun j => x0 (ix2 r j) + x1 (ix2 0 j)) (dxU (fun i k => x4 (ix2 i k)) (cat3 (fun k => x5 (ix3 0 r k)) (fun k => x5 (ix3 1 r k)) fun k => x5 (ix3 2 r k)) (fun j => x6 (ix2 r j)) fun j => x2 (ix2 0 j)) l) := by
  pointwise [val_main_v0, val_main_cst, val_main_v2, val_main_v3, val_main_cst_0, val_main_v4, val_main_v6, val_main_v7, val_main_v8, val_main_cst_1, val_main_v9, val_main_v10, val_main_cst_2, val_main_v11, val_main_v12, val_main_cst_3, val_main_v13, val_main_v14, val_main_v15, val_main_cst_4, val_main_v17, val_main_v20, val_main_cst_5, val_main_v21, val_main_v22, val_main_v23, val_main_v25, val_main_v26, val_main_v27, val_main_v28, val_main_v29, val_main_cst_6, val_main_v30, val_main_v31, val_main_v32, val_main_v33, val_main_v34, val_main_v35, val_main_v36, val_main_v37, val_main_cst_7, val_main_v39, val_main_v40, val_main_v41, val_main_cst_8, val_main_v43, val_main_v45, val_main_cst_9, val_main_v46, val_main_v48, val_main_v50, val_main_cst_10, val_main_v51, val_main_v52, val_main_v53, val_main_v55, val_main_v56, val_main_cst_11, val_main_v57, val_main_v58, val_main_cst_12, val_main_v59, val_main_v60, val_main_cst_13, val_main_v61, val_main_v62, val_main_v63, val_main_v64, val_main_cst_14, val_main_v65, val_main_v66, val_main_v67, val_main_v68, val_main_cst_15, val_main_v69, val_main_v70, val_main_cst_16, val_main_v71, val_main_v72, val_main_v73, val_main_cst_17, val_main_v74, val_main_v75, val_main_v76]
  simp only [ref1_at, ref5_at, ref16_at, ref18_at, ref19_at, ref49_at]
  rfl

variable (h0 : ∀ i, IsR (x0 i)) (h1 : ∀ i, IsR (x1 i)) (h2 : ∀ i, IsR (x2 i)) (h4 : ∀ i, IsR (x4 i)) (h5 : ∀ i, IsR (x5 i)) (h6 : ∀ i, IsR (x6 i))
include h0 h1 h2 h4 h5 h6

theorem ref73_at : @Eq EReal (val_main_v73 (F := Ideal) x0 x1 x2 x4 x5 x6 (ix2 r l))
    (lnGradK (fun j => x0 (ix2 r j) + x1 (ix2 0 j)) (dxU (fun i k => x4 (ix2 i k)) (cat3 (fun k => x5 (ix3 0 r k)) (fun k => x5 (ix3 1 r k)) fun k => x5 (ix3 2 r k)) (fun j => x6 (ix2 r j)) fun j => x2 (ix2 0 j)) l) := by
  pointwise [val_main_v0, val_main_cst, val_main_v2, val_main_v3, val_main_cst_0, val_main_v4, val_main_v6, val_main_v7, val_main_v8, val_main_cst_1, val_main_v9, val_main_v10, val_main_cst_2, val_main_v11, val_main_v12, val_main_cst_3, val_main_v13, val_main_v14, val_main_v15, val_main_cst_4, val_main_v17, val_main_v20, val_main_cst_5, val_main_v21, val_main_v22, val_main_v23, val_main_v25, val_main_v26, val_main_v27, val_main_v28, val_main_v29, val_main_cst_6, val_main_v30, val_main_v31, val_main_v32, val_main_v33, val_main_v34, val_main_v35, val_main_v36, val_main_v37, val_main_cst_7, val_main_v39, val_main_v40, val_main_v41, val_main_cst_8, val_main_v43, val_main_v45, val_main_cst_9, val_main_v46, val_main_v48, val_main_v50, val_main_cst_10, val_main_v51, val_main_v52, val_main_v53, val_main_v55, val_main_v56, val_main_cst_11, val_main_v57, val_main_v58, val_main_cst_12, val_main_v59, val_main_v60, val_main_cst_13, val_main_v61, val_main_v62, val_main_v64, val_main_cst_14, val_main_v65, val_main_v66, val_main_v67, val_main_v68, val_main_cst_15, val_main_v69, val_main_v70, val_main_cst_16, val_main_v71, val_main_v72, val_main_v73, val_main_cst_17, val_main_v74, val_main_v75, val_main_v76]
  simp only [ref54_at, ref63_at]
  exact lnGrad_eq (fun j => (h0 _).add (h1 _)) (dxU_isR (fun _ _ => h4 _) (cat3_isR (fun _ => h5 _) (fun _ => h5 _) fun _ => h5 _) (fun _ => h6 _) fun _ => h2 _) l

theorem ref76_at : @Eq EReal (val_main_v76 (F := Ideal) x0 x1 x2 x4 x5 x6 (ix2 r l))
    (lnGradK (fun j => x0 (ix2 r j) + x1 (ix2 0 j)) (dxU (fun i k => x4 (ix2 i k)) (cat3 (fun k => x5 (ix3 0 r k)) (fun k => x5 (ix3 1 r k)) fun k => x5 (ix3 2 r k)) (fun j => x6 (ix2 r j)) fun j => x2 (ix2 0 j)) l) := by
  pointwise [val_main_v0, val_main_cst, val_main_v2, val_main_v3, val_main_cst_0, val_main_v4, val_main_v6, val_main_v7, val_main_v8, val_main_cst_1, val_main_v9, val_main_v10, val_main_cst_2, val_main_v11, val_main_v12, val_main_cst_3, val_main_v13, val_main_v14, val_main_v15, val_main_cst_4, val_main_v17, val_main_v20, val_main_cst_5, val_main_v21, val_main_v22, val_main_v23, val_main_v25, val_main_v26, val_main_v27, val_main_v28, val_main_v29, val_main_cst_6, val_main_v30, val_main_v31, val_main_v32, val_main_v33, val_main_v34, val_main_v35, val_main_v36, val_main_v37, val_main_cst_7, val_main_v39, val_main_v40, val_main_v41, val_main_cst_8, val_main_v43, val_main_v45, val_main_cst_9, val_main_v46, val_main_v48, val_main_v50, val_main_cst_10, val_main_v51, val_main_v52, val_main_v53, val_main_v55, val_main_v56, val_main_cst_11, val_main_v57, val_main_v58, val_main_cst_12, val_main_v59, val_main_v60, val_main_cst_13, val_main_v61, val_main_v62, val_main_v64, val_main_cst_14, val_main_v65, val_main_v66, val_main_v67, val_main_v68, val_main_cst_15, val_main_v69, val_main_v70, val_main_cst_16, val_main_v71, val_main_v72, val_main_cst_17, val_main_v74, val_main_v75, val_main_v76]
  exact ref73_at x0 x6 x1 x2 x4 x5 _ _ h0 h1 h2 h4 h5 h6

theorem ref75_at : @Eq EReal (val_main_v75 (F := Ideal) x0 x1 x2 x4 x5 x6 (ix2 0 l))
    (∑ r : Fin 2048, lnGradK (fun j => x0 (ix2 r j) + x1 (ix2 0 j)) (dxU (fun i k => x4 (ix2 i k)) (cat3 (fun k => x5 (ix3 0 r k)) (fun k => x5 (ix3 1 r k)) fun k => x5 (ix3 2 r k)) (fun j => x6 (ix2 r j)) fun j => x2 (ix2 0 j)) l) := by
  pointwise [val_main_v0, val_main_cst, val_main_v2, val_main_v3, val_main_cst_0, val_main_v4, val_main_v6, val_main_v7, val_main_v8, val_main_cst_1, val_main_v9, val_main_v10, val_main_cst_2, val_main_v11, val_main_v12, val_main_cst_3, val_main_v13, val_main_v14, val_main_v15, val_main_cst_4, val_main_v17, val_main_v20, val_main_cst_5, val_main_v21, val_main_v22, val_main_v23, val_main_v25, val_main_v26, val_main_v27, val_main_v28, val_main_v29, val_main_cst_6, val_main_v30, val_main_v31, val_main_v32, val_main_v33, val_main_v34, val_main_v35, val_main_v36, val_main_v37, val_main_cst_7, val_main_v39, val_main_v40, val_main_v41, val_main_cst_8, val_main_v43, val_main_v45, val_main_cst_9, val_main_v46, val_main_v48, val_main_v50, val_main_cst_10, val_main_v51, val_main_v52, val_main_v53, val_main_v55, val_main_v56, val_main_cst_11, val_main_v57, val_main_v58, val_main_cst_12, val_main_v59, val_main_v60, val_main_cst_13, val_main_v61, val_main_v62, val_main_v64, val_main_cst_14, val_main_v65, val_main_v66, val_main_v67, val_main_v68, val_main_cst_15, val_main_v69, val_main_v70, val_main_cst_16, val_main_v71, val_main_v72, val_main_cst_17, val_main_v74, val_main_v75]
  simp only [ref73_at x0 x6 x1 x2 x4 x5 _ _ h0 h1 h2 h4 h5 h6]

end

/-! ## The saved forward values -/

/-- The arguments' rows. -/
def xR (c : Dev nD) (r : Fin 2048) : Fin 1024 → EReal := fun j =>
  (show EReal from m ((c : Thread nD τ).loc main_arg0) (ix2 r j : S2048x1024.Idx))
    + (show EReal from m ((c : Thread nD τ).loc main_arg1) (ix2 0 j : S1x1024.Idx))
def gR (c : Dev nD) : Fin 1024 → EReal := fun j => m ((c : Thread nD τ).loc main_arg2) (ix2 0 j : S1x1024.Idx)
def wR (c : Dev nD) : Fin 1024 → Fin 3072 → EReal := fun i k => m ((c : Thread nD τ).loc main_arg4) (ix2 i k : S1024x3072.Idx)
def pR (c : Dev nD) (p : Fin 3) (r : Fin 2048) : Fin 1024 → EReal := fun k => m ((c : Thread nD τ).loc main_arg5) (ix3 p r k : S3x2048x1024.Idx)
def hR (c : Dev nD) (r : Fin 2048) : Fin 3072 → EReal := cat3 (pR m c 0 r) (pR m c 1 r) (pR m c 2 r)
def dR (c : Dev nD) (r : Fin 2048) : Fin 1024 → EReal := fun j => m ((c : Thread nD τ).loc main_arg6) (ix2 r j : S2048x1024.Idx)

theorem hv17 (c : Dev nD) (r : Fin 2048) (l : Fin 1024) : @Eq EReal (V m c main_v17 (ix2 r l : S2048x1024.Idx)) (lnXh (xR m c r) l) := by
  simp only [V, hostOps0, List.flatten_cons, List.flatten_nil, List.append_nil, List.cons_append, List.nil_append, StableHlo.TRef.binary,
    StableHlo.TRef.unary, StableHlo.TRef.toBuf, StableHlo.TRef.ofBuf, cast_eq]
  after_results
  pointwise
  rfl

theorem hv15 (c : Dev nD) (r : Fin 2048) (z : Fin 1) : @Eq EReal (V m c main_v15 (ix2 r z : S2048x1.Idx)) (lnRs (xR m c r)) := by
  simp only [V, hostOps0, List.flatten_cons, List.flatten_nil, List.append_nil, List.cons_append, List.nil_append, StableHlo.TRef.binary,
    StableHlo.TRef.unary, StableHlo.TRef.toBuf, StableHlo.TRef.ofBuf, cast_eq]
  after_results
  pointwise
  rfl

theorem hv23 (c : Dev nD) (r : Fin 2048) (p : Fin 3) (l : Fin 1024) : @Eq EReal (V m c main_v23 (ix3 p r l : S3x2048x1024.Idx)) (pR m c p r l) := by
  simp only [V, hostOps0, List.flatten_cons, List.flatten_nil, List.append_nil, List.cons_append, List.nil_append, StableHlo.TRef.binary,
    StableHlo.TRef.unary, StableHlo.TRef.toBuf, StableHlo.TRef.ofBuf, cast_eq]
  after_results
  pointwise
  rfl

theorem hv22 (c : Dev nD) (r : Fin 1024) (k : Fin 3072) : @Eq EReal (V m c main_v22 (ix2 r k : S1024x3072.Idx)) (wR m c r k) := by
  simp only [V, hostOps0, List.flatten_cons, List.flatten_nil, List.append_nil, List.cons_append, List.nil_append, StableHlo.TRef.binary,
    StableHlo.TRef.unary, StableHlo.TRef.toBuf, StableHlo.TRef.ofBuf, cast_eq]
  after_results
  pointwise
  rfl

/-! ## The arrays -/

/-- The windows' block indices at a grid point. -/
theorem idx : ∀ t : Fin cfg0.N, win0_0.index t = ![0, t.val, 0] ∧ win0_1.index t = ![0, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![0, 0] ∧ win0_9.index t = ![0, 0] ∧ win0_10.index t = ![0, 0] :=
  (by decide +kernel : ∀ t : Fin grid0.N, _)

theorem row_lt (t : Fin cfg0.N) (l : Fin 512) : t.val * 512 + l < 2048 := by
  have h : t.val < 4 := lt_of_lt_of_eq t.isLt N_0
  omega

section
variable (c : Dev nD) (t : Fin cfg0.N) (r : Fin 512) (l : Fin 1024) (k : Fin 3072)

theorem blk0 (p : Fin 3) : @Eq EReal (iblk m c 0 t (ix3 p r l : S3x512x1024.Idx)) (pR m c p ⟨t.val * 512 + r, row_lt t r⟩ l) := by
  rw [show iblk m c 0 t (ix3 p r l : S3x512x1024.Idx) = V m c main_v23 (ix3 p ⟨t.val * 512 + r, row_lt t r⟩ l : S3x2048x1024.Idx) by blk_ext [iblk, idx t]]
  exact hv23 m c _ p l

theorem blk1 : @Eq EReal (iblk m c 1 t (ix2 l k : S1024x3072.Idx)) (wR m c l k) := by
  rw [show iblk m c 1 t (ix2 l k : S1024x3072.Idx) = V m c main_v22 (ix2 l k : S1024x3072.Idx) by blk_ext [iblk, idx t]]
  exact hv22 m c _ k

theorem blk2 : @Eq EReal (iblk m c 2 t (ix2 r l : S512x1024.Idx)) (dR m c ⟨t.val * 512 + r, row_lt t r⟩ l) := by
  rw [dR]
  blk_point [iblk, V, idx t]

theorem blk3 : @Eq EReal (iblk m c 3 t (ix2 r l : S512x1024.Idx)) (lnXh (xR m c ⟨t.val * 512 + r, row_lt t r⟩) l) := by
  rw [show iblk m c 3 t (ix2 r l : S512x1024.Idx) = V m c main_v17 (ix2 ⟨t.val * 512 + r, row_lt t r⟩ l : S2048x1024.Idx) by blk_ext [iblk, idx t]]
  exact hv17 m c _ l

theorem blk4 : @Eq EReal (iblk m c 4 t (ix2 r 0 : S512x1.Idx)) (lnRs (xR m c ⟨t.val * 512 + r, row_lt t r⟩)) := by
  rw [show iblk m c 4 t (ix2 r 0 : S512x1.Idx) = V m c main_v15 (ix2 ⟨t.val * 512 + r, row_lt t r⟩ 0 : S2048x1.Idx) by blk_ext [iblk, idx t]]
  exact hv15 m c _ 0

theorem blk5 : @Eq EReal (iblk m c 5 t (ix2 0 l : S1x1024.Idx)) (gR m c l) := by
  rw [gR]
  blk_point [iblk, V, idx t]

end

/-- Every argument the gradient reads is finite. -/
def Fin6 (c : Dev nD) : Prop :=
  (∀ i, IsR (m ((c : Thread nD τ).loc main_arg0) i)) ∧ (∀ i, IsR (m ((c : Thread nD τ).loc main_arg1) i))
  ∧ (∀ i, IsR (m ((c : Thread nD τ).loc main_arg2) i)) ∧ (∀ i, IsR (m ((c : Thread nD τ).loc main_arg4) i))
  ∧ (∀ i, IsR (m ((c : Thread nD τ).loc main_arg5) i)) ∧ (∀ i, IsR (m ((c : Thread nD τ).loc main_arg6) i))

open Cert.ScInBwdRefIdeal.Read in
theorem final6 (c : Dev nD) (h : Fin6 m c) : (dats m 0 c).arrAt 6 (cfgs 0).N = val_main_v73 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (dats m 0 c).arrAt_eq_of_covers 6 _ (by decide +kernel) fun t _ y => ?_
  blk_simp
  rw [after0_6]
  idx_vars y
  rw [show ((cfg0.win 6).blk t).view.emb (ix2 y0 y1 : S512x1024.Idx) = (ix2 ⟨t.val * 512 + y0, row_lt t y0⟩ y1 : S2048x1024.Idx) by blk_ext [idx t]]
  have key : ∀ y : S512x1024.Idx, (outsAt0 m c t.val t.isLt).1 y = k0_pay6 (F := Ideal) (k0_pay4 (iblk m c 0 t) (iblk m c 1 t) (iblk m c 2 t) (iblk m c 3 t) (iblk m c 5 t)) (k0_pay5 (iblk m c 4 t)) y := by
    intro y
    by_cases h0 : t.val % 4 = 0
    · rw [outsAt0_A m c t h0 h0 h0]; frame_out
    · rw [outsAt0_B m c t h0 h0 h0]; frame_out
  refine (key _).trans ((pay6_at _ _ _ _ _ _ y0 y1).trans (Eq.trans ?_ (ref73_at _ _ _ _ _ _ _ _ h.1 h.2.1 h.2.2.1 h.2.2.2.1 h.2.2.2.2.1 h.2.2.2.2.2).symm))
  simp only [blk0, blk1, blk2, blk3, blk4, blk5]
  rfl

open Cert.ScInBwdRefIdeal.Read in
theorem final7 (c : Dev nD) (h : Fin6 m c) : (dats m 0 c).arrAt 7 (cfgs 0).N = val_main_v76 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  idx_vars y
  rw [show ((cfg0.win 7).blk t).view.emb (ix2 y0 y1 : S512x1024.Idx) = (ix2 ⟨t.val * 512 + y0, row_lt t y0⟩ y1 : S2048x1024.Idx) by blk_ext [idx t]]
  have key : ∀ y : S512x1024.Idx, (outsAt0 m c t.val t.isLt).2.1 y = k0_pay7 (F := Ideal) (k0_pay4 (iblk m c 0 t) (iblk m c 1 t) (iblk m c 2 t) (iblk m c 3 t) (iblk m c 5 t)) (k0_pay5 (iblk m c 4 t)) y := by
    intro y
    by_cases h0 : t.val % 4 = 0
    · rw [outsAt0_A m c t h0 h0 h0]; frame_out
    · rw [outsAt0_B m c t h0 h0 h0]; frame_out
  refine (key _).trans ((pay7_at _ _ _ _ _ _ y0 y1).trans (Eq.trans ?_ (ref76_at _ _ _ _ _ _ _ _ h.1 h.2.1 h.2.2.1 h.2.2.2.1 h.2.2.2.2.1 h.2.2.2.2.2).symm))
  simp only [blk0, blk1, blk2, blk3, blk4, blk5]
  rfl

open Cert.ScInBwdRefIdeal.Read in
theorem final8 (c : Dev nD) : (dats m 0 c).arrAt 8 (cfgs 0).N = val_main_v47 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  have hz : ∀ j : S1x1024.Idx, @Eq EReal (k0_pay8 (F := Ideal) j) 0 := fun j => by
    unfold k0_pay8; pointwise
  refine (dats m 0 c).arrAt_eq_of_after_last 8 t0_3 (by decide +kernel) _ fun j => ?_
  blk_simp
  rw [after0_8, Pipeline.eq_sum_fin_of_reset_step_apply_last (fun n h => (outsAt0 m c n h).2.2.1) 4 (fun _ => (0 : EReal))
    (fun t j => (∑ r : Fin 512, dyU (wR m c) (hR m c ⟨t.val * 512 + r, row_lt t r⟩) (dR m c ⟨t.val * 512 + r, row_lt t r⟩) (j 1) * lnXh (xR m c ⟨t.val * 512 + r, row_lt t r⟩) (j 1) : EReal))
    (fun t h0 j => by
      idx_vars j
      obtain rfl : j0 = 0 := Subsingleton.elim _ _
      rw [outsAt0_A m c t h0 h0 h0]
      frame_out
      refine (pay9_at _ _ _ _ _ _).trans ?_
      rw [hz _]
      simp only [blk0, blk1, blk2, blk3, blk4, blk5]
      rfl)
    (fun t h0 j => by
      idx_vars j
      obtain rfl : j0 = 0 := Subsingleton.elim _ _
      rw [outsAt0_B m c t h0 h0 h0]
      frame_out
      refine (pay9_at _ _ _ _ _ _).trans ?_
      simp only [blk0, blk1, blk2, blk3, blk4, blk5]
      rfl)
    (le_of_eq N_0) t0_3 rfl j, zero_add]
  idx_vars j
  obtain rfl : j0 = 0 := Subsingleton.elim _ _
  refine Eq.trans ?_ (ref47_at _ _ _ _ _ _).symm
  refine (Fin.sum_points_lanes_congr (A := 1) 4 (g := fun _ r => (dyU (wR m c) (hR m c r) (dR m c r) j1 * lnXh (xR m c r) j1 : EReal)) fun t k ha hl => ?_).trans (Fin.sum_univ_one _)
  have ht : t.val % 4 * 512 + k = t.val * 512 + k := by
    have := lt_of_lt_of_eq t.isLt N_0
    omega
  simp only [ht]

open Cert.ScInBwdRefIdeal.Read in
theorem final9 (c : Dev nD) : (dats m 0 c).arrAt 9 (cfgs 0).N = val_main_v44 (F := Ideal) (m ((c : Thread nD τ).loc main_arg4)) (m ((c : Thread nD τ).loc main_arg5)) (m ((c : Thread nD τ).loc main_arg6)) := by
  have hz : ∀ j : S1x1024.Idx, @Eq EReal (k0_pay10 (F := Ideal) j) 0 := fun j => by
    unfold k0_pay10; pointwise
  refine (dats m 0 c).arrAt_eq_of_after_last 9 t0_3 (by decide +kernel) _ fun j => ?_
  blk_simp
  rw [after0_9, Pipeline.eq_sum_fin_of_reset_step_apply_last (fun n h => (outsAt0 m c n h).2.2.2.1) 4 (fun _ => (0 : EReal))
    (fun t j => (∑ r : Fin 512, dyU (wR m c) (hR m c ⟨t.val * 512 + r, row_lt t r⟩) (dR m c ⟨t.val * 512 + r, row_lt t r⟩) (j 1) : EReal))
    (fun t h0 j => by
      idx_vars j
      obtain rfl : j0 = 0 := Subsingleton.elim _ _
      rw [outsAt0_A m c t h0 h0 h0]
      frame_out
      refine (pay11_at _ _ _ _ _).trans ?_
      rw [hz _]
      simp only [blk0, blk1, blk2, blk3, blk4, blk5]
      rfl)
    (fun t h0 j => by
      idx_vars j
      obtain rfl : j0 = 0 := Subsingleton.elim _ _
      rw [outsAt0_B m c t h0 h0 h0]
      frame_out
      refine (pay11_at _ _ _ _ _).trans ?_
      simp only [blk0, blk1, blk2, blk3, blk4, blk5]
      rfl)
    (le_of_eq N_0) t0_3 rfl j, zero_add]
  idx_vars j
  obtain rfl : j0 = 0 := Subsingleton.elim _ _
  refine Eq.trans ?_ (ref44_at _ _ _ _).symm
  refine (Fin.sum_points_lanes_congr (A := 1) 4 (g := fun _ r => (dyU (wR m c) (hR m c r) (dR m c r) j1 : EReal)) fun t k ha hl => ?_).trans (Fin.sum_univ_one _)
  have ht : t.val % 4 * 512 + k = t.val * 512 + k := by
    have := lt_of_lt_of_eq t.isLt N_0
    omega
  simp only [ht]

open Cert.ScInBwdRefIdeal.Read in
theorem final10 (c : Dev nD) (h : Fin6 m c) : (dats m 0 c).arrAt 10 (cfgs 0).N = val_main_v75 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  have hz : ∀ j : S1x1024.Idx, @Eq EReal (k0_pay13 (F := Ideal) j) 0 := fun j => by
    unfold k0_pay13; pointwise
  refine (dats m 0 c).arrAt_eq_of_after_last 10 t0_3 (by decide +kernel) _ fun j => ?_
  blk_simp
  rw [after0_10, Pipeline.eq_sum_fin_of_reset_step_apply_last (fun n h => (outsAt0 m c n h).2.2.2.2) 4 (fun _ => (0 : EReal))
    (fun t j => (∑ r : Fin 512, lnGradK (xR m c ⟨t.val * 512 + r, row_lt t r⟩) (dxU (wR m c) (hR m c ⟨t.val * 512 + r, row_lt t r⟩) (dR m c ⟨t.val * 512 + r, row_lt t r⟩) (gR m c)) (j 1) : EReal))
    (fun t h0 j => by
      idx_vars j
      obtain rfl : j0 = 0 := Subsingleton.elim _ _
      rw [outsAt0_A m c t h0 h0 h0]
      frame_out
      refine (pay1_at _ _ _ _ _ _ _ _).trans ?_
      rw [hz _]
      simp only [blk0, blk1, blk2, blk3, blk4, blk5]
      rfl)
    (fun t h0 j => by
      idx_vars j
      obtain rfl : j0 = 0 := Subsingleton.elim _ _
      rw [outsAt0_B m c t h0 h0 h0]
      frame_out
      refine (pay1_at _ _ _ _ _ _ _ _).trans ?_
      simp only [blk0, blk1, blk2, blk3, blk4, blk5]
      rfl)
    (le_of_eq N_0) t0_3 rfl j, zero_add]
  idx_vars j
  obtain rfl : j0 = 0 := Subsingleton.elim _ _
  refine Eq.trans ?_ (ref75_at _ _ _ _ _ _ _ h.1 h.2.1 h.2.2.1 h.2.2.2.1 h.2.2.2.2.1 h.2.2.2.2.2).symm
  refine (Fin.sum_points_lanes_congr (A := 1) 4 (g := fun _ r => (lnGradK (xR m c r) (dxU (wR m c) (hR m c r) (dR m c r) (gR m c)) j1 : EReal)) fun t k ha hl => ?_).trans (Fin.sum_univ_one _)
  have ht : t.val % 4 * 512 + k = t.val * 512 + k := by
    have := lt_of_lt_of_eq t.isLt N_0
    omega
  simp only [ht]

end Cert.ScInBwdIdeal.Hand

namespace Cert.Proof

open Idealize.ShloMosaic Idealize.SL.Sem

theorem fin_ScIn [Cert.Pre_scin_finite.Facts] (m : (ℓ : Loc Cert.ScInBwdIdeal.nD Cert.ScInBwdIdeal.τ Cert.ScInBwdIdeal.sig) → Buf (Elt Ideal) ℓ)
    (h : Cert.Pre_ScInBwdIdeal_scin_finite m) (c : Dev Cert.ScInBwdIdeal.nD) : Cert.ScInBwdIdeal.Hand.Fin6 m c :=
  ⟨fun i => IsR.of_lt (congrFun (h c).1 i), fun i => IsR.of_lt (congrFun (h c).2.1 i), fun i => IsR.of_lt (congrFun (h c).2.2.1 i),
    fun i => IsR.of_lt (congrFun (h c).2.2.2.1 i), fun i => IsR.of_lt (congrFun (h c).2.2.2.2.1 i), fun i => IsR.of_lt (congrFun (h c).2.2.2.2.2 i)⟩

set_option maxHeartbeats 4000000 in
theorem algebraic_ScIn [Cert.ScInBwdIdeal.Facts] [Cert.ScInBwdRefIdeal.Facts] [Cert.Pre_scin_finite.Facts] :
    Cert.algebraic_ScInBwdIdeal_ScInBwdRefIdeal_pre_scin_finite := by
  intro m g m' g' hpre hagree
  refine ⟨fun c => (Cert.ScInBwdIdeal.Gen.dats m 0 c).arrAt 6 (Cert.ScInBwdIdeal.cfgs 0).N,
    fun c => (Cert.ScInBwdIdeal.Gen.dats m 0 c).arrAt 7 (Cert.ScInBwdIdeal.cfgs 0).N,
    fun c => (Cert.ScInBwdIdeal.Gen.dats m 0 c).arrAt 8 (Cert.ScInBwdIdeal.cfgs 0).N,
    fun c => (Cert.ScInBwdIdeal.Gen.dats m 0 c).arrAt 9 (Cert.ScInBwdIdeal.cfgs 0).N,
    fun c => (Cert.ScInBwdIdeal.Gen.dats m 0 c).arrAt 10 (Cert.ScInBwdIdeal.cfgs 0).N, ?_, ?_⟩
  · exact (θ_run _ _ _).mono (fun r h c => ⟨(h.1 c).1 6, (h.1 c).1 7, (h.1 c).1 8, (h.1 c).1 9, (h.1 c).1 10, h.2 c⟩)
      (θ_run_and (Cert.ScInBwdIdeal.Gen.run_main m g) (Cert.ScInBwdIdeal.Gen.unchanged m g))
  · refine (θ_run _ _ _).mono (fun r h c => ⟨((h c).1).trans ?_, ((h c).2.1).trans ?_, ((h c).2.2.1).trans ?_, ((h c).2.2.2.1).trans ?_, ((h c).2.2.2.2.1).trans ?_, (h c).2.2.2.2.2⟩) (Cert.ScInBwdRefIdeal.Value.run m' g')
    · refine (Cert.ScInBwdRefIdeal.Read.val_main_v73_eq m' c).trans ?_
      rw [(hagree c).1, (hagree c).2.1, (hagree c).2.2.1, (hagree c).2.2.2.2.1, (hagree c).2.2.2.2.2.1, (hagree c).2.2.2.2.2.2]
      exact (Cert.ScInBwdIdeal.Hand.final6 m c (fin_ScIn m hpre c)).symm
    · refine (Cert.ScInBwdRefIdeal.Read.val_main_v76_eq m' c).trans ?_
      rw [(hagree c).1, (hagree c).2.1, (hagree c).2.2.1, (hagree c).2.2.2.2.1, (hagree c).2.2.2.2.2.1, (hagree c).2.2.2.2.2.2]
      exact (Cert.ScInBwdIdeal.Hand.final7 m c (fin_ScIn m hpre c)).symm
    · refine (Cert.ScInBwdRefIdeal.Read.val_main_v47_eq _ _ _ _ _).trans ?_
      rw [(hagree c).1, (hagree c).2.1, (hagree c).2.2.2.2.1, (hagree c).2.2.2.2.2.1, (hagree c).2.2.2.2.2.2]
      exact (Cert.ScInBwdIdeal.Hand.final8 m c).symm
    · refine (Cert.ScInBwdRefIdeal.Read.val_main_v44_eq _ _ _).trans ?_
      rw [(hagree c).2.2.2.2.1, (hagree c).2.2.2.2.2.1, (hagree c).2.2.2.2.2.2]
      exact (Cert.ScInBwdIdeal.Hand.final9 m c).symm
    · refine (Cert.ScInBwdRefIdeal.Read.val_main_v75_eq m' c).trans ?_
      rw [(hagree c).1, (hagree c).2.1, (hagree c).2.2.1, (hagree c).2.2.2.2.1, (hagree c).2.2.2.2.2.1, (hagree c).2.2.2.2.2.2]
      exact (Cert.ScInBwdIdeal.Hand.final10 m c (fin_ScIn m hpre c)).symm

end Cert.Proof

end
-- ==== Proof.Dw2.lean ====
/- The gradient of the feed-forward's second matrix (`mlp_dw2`), whose left operand is the squared ReLU of the saved
   product, then its cut into one block of rows per device: the kernel's array is the reference's. -/
module

public import proofs.«01_k».proof.Defs
public import proofs.«01_k».proof.Proof.Gen.Dw2BwdIdeal.Frame
public import proofs.«01_k».proof.Proof.Gen.Dw2BwdRefIdeal.Read
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.Dw2BwdIdeal.Hand

open Cert.Dw2BwdIdeal Cert.Dw2BwdIdeal.Gen Idealize.ShloMosaic Idealize.ShloMosaic.TcCoe Idealize.SL.Sem
open Idealize.ShloMosaic.Pipeline (Dat)

variable (m : (ℓ : Loc nD τ sig) → Buf (Elt Ideal) ℓ)

/-- The windows' block indices at a grid point. -/
theorem idx : ∀ t : Fin cfg0.N, win0_0.index t = ![0, t.val] ∧ win0_1.index t = ![0, 0] ∧ win0_2.index t = ![t.val, 0] :=
  (by decide +kernel : ∀ t : Fin grid0.N, _)

/-- The reference's array before it is cut, over the kernel's arguments. -/
abbrev REF (H : FVec Ideal S2048x4096 .f32) (D : FVec Ideal S2048x1024 .f32) : FVec Ideal S4096x1024 .bf16 :=
  Cert.Dw2BwdRefIdeal.Read.val_main_v6 (F := Ideal) H D

/-- The kernel's first operand is the saved product. -/
theorem hv0 (c : Dev nD) (r : Fin 2048) (l : Fin 4096) :
    @Eq EReal (V m c main_v0 (ix2 r l : S2048x4096.Idx)) (m ((c : Thread nD τ).loc main_arg0) (ix2 r l : S2048x4096.Idx)) := by
  simp only [V, V0, hostOps0, List.flatten_cons, List.flatten_nil, List.append_nil]
  after_results
  pointwise

/-- And its second the cotangent. -/
theorem hv1 (c : Dev nD) (r : Fin 2048) (l : Fin 1024) :
    @Eq EReal (V m c main_v1 (ix2 r l : S2048x1024.Idx)) (m ((c : Thread nD τ).loc main_arg1) (ix2 r l : S2048x1024.Idx)) := by
  simp only [V, V0, hostOps0, List.flatten_cons, List.flatten_nil, List.append_nil]
  after_results
  pointwise

theorem col_lt (t : Fin cfg0.N) (l : Fin 1024) : t.val * 1024 + (l : ℕ) < 4096 := by
  have := t.isLt
  have h : cfg0.N = 4 := by decide +kernel
  omega

theorem blk0 (c : Dev nD) (t : Fin cfg0.N) (r : Fin 2048) (l : Fin 1024) :
    @Eq EReal (iblk m c 0 t (ix2 r l : S2048x1024.Idx))
      (m ((c : Thread nD τ).loc main_arg0) (ix2 r ⟨t.val * 1024 + l, col_lt t l⟩ : S2048x4096.Idx)) := by
  rw [show iblk m c 0 t (ix2 r l : S2048x1024.Idx) = V m c main_v0 (ix2 r ⟨t.val * 1024 + l, col_lt t l⟩ : S2048x4096.Idx) by
    blk_ext [iblk, idx t]]
  exact hv0 m c r _

theorem blk1 (c : Dev nD) (t : Fin cfg0.N) (r : Fin 2048) (l : Fin 1024) :
    @Eq EReal (iblk m c 1 t (ix2 r l : S2048x1024.Idx)) (m ((c : Thread nD τ).loc main_arg1) (ix2 r l : S2048x1024.Idx)) := by
  rw [show iblk m c 1 t (ix2 r l : S2048x1024.Idx) = V m c main_v1 (ix2 r l : S2048x1024.Idx) by blk_ext [iblk, idx t]]
  exact hv1 m c r l

/-- The body's product at an element. -/
theorem pay1_at (x0 : FVec Ideal S2048x1024 .bf16) (x1 : FVec Ideal S2048x1024 .bf16) (a b : Fin 1024) :
    @Eq EReal (k0_pay1 (F := Ideal) x0 x1 (ix2 a b))
      (∑ k : Fin 2048, (max (x0 (ix2 k a)) 0 * max (x0 (ix2 k a)) 0) * x1 (ix2 k b)) := by
  unfold k0_pay1
  pointwise

/-- The reference's at an element. -/
theorem ref_at (H : FVec Ideal S2048x4096 .f32) (D : FVec Ideal S2048x1024 .f32) (a : Fin 4096) (b : Fin 1024) :
    @Eq EReal (REF H D (ix2 a b))
      (∑ k : Fin 2048, (max (H (ix2 k a)) 0 * max (H (ix2 k a)) 0) * D (ix2 k b)) := by
  pointwise [REF, Cert.Dw2BwdRefIdeal.Read.val_main_v6, Cert.Dw2BwdRefIdeal.Read.val_main_v5, Cert.Dw2BwdRefIdeal.Read.val_main_v4,
    Cert.Dw2BwdRefIdeal.Read.val_main_v2, Cert.Dw2BwdRefIdeal.Read.val_main_v1, Cert.Dw2BwdRefIdeal.Read.val_main_call0_v0,
    Cert.Dw2BwdRefIdeal.Read.val_main_call0_cst]
  exact Finset.sum_congr rfl fun k _ => mul_comm (G := EReal) _ _

/-- The kernel's result array is the reference's before the cut. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  idx_vars y
  rw [show ((cfg0.win 2).blk t).view.emb (ix2 y0 y1 : S1024x1024.Idx) = (ix2 ⟨t.val * 1024 + y0, col_lt t y0⟩ y1 : S4096x1024.Idx) by blk_ext [idx t]]
  refine (pay1_at _ _ y0 y1).trans (Eq.trans ?_ (ref_at _ _ _ _).symm)
  simp only [blk0, blk1]

/-- The array the program returns is the reference's. -/
theorem tail (c : Dev nD) : Pipeline.afterTail₀ cfgs (dats m) 0 (V0 m) [hostOps1] c main_v3
    = Cert.Dw2BwdRefIdeal.Read.val_main_v7 (F := Ideal) (m ((c : Thread nD τ).loc main_arg0)) (m ((c : Thread nD τ).loc main_arg1)) := by
  unfold Pipeline.afterTail₀
  simp only [hostOps1, List.flatten_cons, List.flatten_nil, List.append_nil]
  after_results
  rw [Pipeline.withArrays_arr spec0 (by decide) c (V0 m c) _ 2]
  exact congrArg (fun v => shapeCast S4x1024x1024 v shapeCasts_S4096x1024_S4x1024x1024) (final m c)

end Cert.Dw2BwdIdeal.Hand

namespace Cert.Proof

open Idealize.ShloMosaic Idealize.SL.Sem

theorem algebraic_Dw2 [Cert.Dw2BwdIdeal.Facts] [Cert.Dw2BwdRefIdeal.Facts] : Cert.algebraic_Dw2BwdIdeal_Dw2BwdRefIdeal := by
  intro m g m' g' hpre hagree
  refine ⟨fun c => Idealize.ShloMosaic.Pipeline.afterTail₀ Cert.Dw2BwdIdeal.cfgs (Cert.Dw2BwdIdeal.Gen.dats m) 0
    (Cert.Dw2BwdIdeal.Gen.V0 m) [Cert.Dw2BwdIdeal.Gen.hostOps1] c Cert.Dw2BwdIdeal.main_v3, ?_, ?_⟩
  · exact (θ_run _ _ _).mono (fun r h c => ⟨(h.1 c).2 Cert.Dw2BwdIdeal.main_v3
        (Pipeline.mem_restRefs_of Cert.Dw2BwdIdeal.main_v3 (by decide) (by decide)), h.2 c⟩)
      (θ_run_and (Cert.Dw2BwdIdeal.Gen.run_main m g) (Cert.Dw2BwdIdeal.Gen.unchanged m g))
  · refine (θ_run _ _ _).mono (fun r h c => ⟨(h c).1.trans ?_, (h c).2⟩) (Cert.Dw2BwdRefIdeal.Value.run m' g')
    refine (Cert.Dw2BwdRefIdeal.Read.val_main_v7_eq _ _).trans ?_
    rw [(hagree c).1, (hagree c).2]
    exact (Cert.Dw2BwdIdeal.Hand.tail m c).symm

end Cert.Proof

end
-- ==== Proof.AttnFwd.lean ====
/- The block-causal attention (`attention`): the kernel's array is the reference's where the queries and the keys are finite. -/
module

public import proofs.«01_k».proof.Defs
public import proofs.«01_k».proof.Proof.Gen.AttnFwdIdeal.Value
public import proofs.«01_k».proof.Proof.Gen.AttnFwdRefIdeal.Read
public import proofs.«01_k».proof.Proof.AttnTile
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.AttnFwdIdeal.Hand

open Cert.AttnFwdIdeal Cert.AttnFwdIdeal.Gen Idealize.ShloMosaic Idealize.ShloMosaic.TcCoe Idealize.SL.Sem
open Idealize.ShloMosaic.Pipeline (Dat)
open Cert.Proof
open Cert.AttnBwdIdeal.Hand (XQ XV sR cS ninf pad_zero padR mrow sle_word select_word cmp_word shr_word fold_bot bot_max FinAt sR_bot mrow_eq canon_rows canon_rows_not)

variable (m : (ℓ : Loc nD τ sig) → Buf (Elt Ideal) ℓ)

/-! ## A row's weighted mean -/

/-- The sum of the values under the exponentials, over the exponentials' sum. -/
def smO {n : ℕ} (s v : Fin n → EReal) : EReal := Ideal.div (∑ j, smE s j * v j) (smL s)

theorem sum_mul_pos {ι : Type} (S : Finset ι) (f : ι → EReal) (r : ℝ) (hr : 0 ≤ r) : (∑ i ∈ S, f i) * (r : EReal) = ∑ i ∈ S, f i * (r : EReal) := by
  classical
  induction S using Finset.induction_on with
  | empty => rw [Finset.sum_empty, Finset.sum_empty, zero_mul]
  | insert a S ha ih =>
    rw [Finset.sum_insert ha, Finset.sum_insert ha, ← ih]
    exact EReal.right_distrib_of_nonneg_of_ne_top (by exact_mod_cast hr) (EReal.coe_ne_top r) _ _

/-- It is the mean under the probabilities, whatever the values. -/
theorem smO_eq {n : ℕ} (s v : Fin n → EReal) (h : SmRow s) : smO s v = ∑ j, v j * smP s j := by
  obtain ⟨L, hL, hLe⟩ := h.sum
  unfold smO smP
  rw [hLe, Ideal.div_coe hL.ne', sum_mul_pos _ _ _ (by positivity)]
  refine Finset.sum_congr rfl fun j _ => ?_
  rw [Ideal.div_coe hL.ne', mul_comm (smE s j) (v j), mul_assoc]

theorem smO_prefix {n N : ℕ} (h : n ≤ N) (s v : Fin N → EReal) (h0 : ∀ x : Fin N, n ≤ x.val → s x = ⊥) :
    smO (fun x : Fin n => s (Fin.castLE h x)) (fun x => v (Fin.castLE h x)) = smO s v := by
  unfold smO
  rw [smL_prefix h s h0]
  simp only [smE_prefix h s h0]
  rw [sum_prefix h (fun x => smE s x * v x) fun x hx => by rw [smE_bot s x (h0 x hx), zero_mul]]

/-! ## The reference -/

section
open Cert.AttnFwdRefIdeal.Read

variable (x0 x1 : XQ) (x2 : XV) (h : Fin 8) (r q : Fin 2048) (l : Fin 128)

theorem ref1_at : (val_main_v1 (F := Ideal) (ix1 r)) = BitVec.ofNat 32 (r.val / 64) := by
  pointwise [val_main_v0, val_main_c, val_main_call0_v0, val_main_call0_v1, val_main_call0_v2, val_main_call0_v3, val_main_call0_v4, val_main_call0_v5, val_main_call0_v6, val_main_call0_v7, val_main_call0_v8, val_main_call0_c, val_main_call0_v9, val_main_call0_v10, val_main_call0_v11, val_main_call0_c_0, val_main_call0_v12, val_main_call0_v13, val_main_v1]
  revert r
  decide +kernel

theorem refm_at : (val_main_call1_v1 (F := Ideal) (ix3 h r q) = 1#1) ↔ q.val / 64 ≤ r.val / 64 := by
  have hp : val_main_call1_v1 (F := Ideal) (ix3 h r q) = IntOp.cmpi .sle (BitVec.ofNat 32 (q.val / 64)) (BitVec.ofNat 32 (r.val / 64)) := by
    pointwise [val_main_call1_v1, val_main_v10, val_main_v6, val_main_v5, val_main_v4, val_main_v3, val_main_v2]
    simp only [ref1_at]
  rw [hp]
  exact sle_word ⟨q.val / 64, by omega⟩ ⟨r.val / 64, by omega⟩

theorem ref9_at : @Eq EReal (val_main_v9 (F := Ideal) x0 x1 (ix3 h r q)) ((∑ d : Fin 192, x0 (ix3 r h d) * x1 (ix3 q h d)) * cS) := by
  pointwise [val_main_v9, val_main_v7, val_main_v8, val_main_cst]

theorem ref11_at : @Eq EReal (val_main_v11 (F := Ideal) x0 x1 (ix3 h r q)) (sR x0 x1 h r q) := by
  pointwise [val_main_v11, val_main_call1_v2, val_main_call1_v0, val_main_cst_0]
  rw [select_word _ _ (refm_at h r q), ref9_at]
  exact if_congr Iff.rfl rfl ninf

theorem ref12_at : @Eq EReal (val_main_v12 (F := Ideal) x0 x1 (ix2 h r)) (smM (sR x0 x1 h r)) := by
  pointwise [val_main_v12, val_main_cst_1]
  simp only [ref11_at, ninf]
  rfl

theorem ref13_at : @Eq EReal (val_main_v13 (F := Ideal) (ix2 h r)) ⊥ := by
  pointwise [val_main_v13, val_main_cst_2]
  exact ninf

theorem ref14_at : @Eq EReal (val_main_v14 (F := Ideal) x0 x1 (ix2 h r)) (smM (sR x0 x1 h r)) := by
  refine (val_main_v14_apply (F := Ideal) x0 x1 (ix2 h r)).trans ?_
  rw [ref12_at, ref13_at]
  exact bot_max _

theorem ref18_at : @Eq EReal (val_main_v18 (F := Ideal) x0 x1 (ix3 h r q)) (smE (sR x0 x1 h r) q) := by
  pointwise [val_main_v18, val_main_v17, val_main_v16, val_main_v15]
  simp only [ref11_at, ref14_at]
  rfl

theorem ref22_at : @Eq EReal (val_main_v22 (F := Ideal) x0 x1 (ix3 h r q)) (smP (sR x0 x1 h r) q) := by
  pointwise [val_main_v22, val_main_v21, val_main_v20, val_main_v19, val_main_cst_3]
  simp only [ref18_at]
  rfl

theorem ref26_at (hL : h.val * 128 + l.val < 1024) : @Eq EReal (val_main_v26 (F := Ideal) x0 x1 x2 (ix2 r (⟨h.val * 128 + l.val, hL⟩ : Fin 1024)))
    (∑ j, x2 (ix3 j h l) * smP (sR x0 x1 h r) j) := by
  pointwise [val_main_v26, val_main_v25, val_main_v24, val_main_v23]
  simp only [ref22_at]

end

/-! ## The kernel's tiles -/

theorem tile512_at (V : FVec Ideal S512x512 .f32) (v : FVec Ideal S512x128 .bf16) (r : Fin 512) (l : Fin 128) :
    @Eq EReal (truncf .bf16 (divf (matmul dot_S512x512_S512x128_S512x128_1_0_0_1_n_n none (truncf .bf16 (exp (subf V (broadcastTo S512x512 (shapeCast S512x1 (multiReduction .maximumf [1] S512 V 0xFF800000#32 reduces_S512x512_S512 (.inl rfl) rfl) shapeCasts_S512_S512x1) broadcasts_S512x1_S512x512))) bitsLt_bf16_f32) (shapeCast S512x128 v shapeCasts_S512x128_S512x128) (constant S512x128 .f32 0x00000000#32))
      (broadcastTo S512x128 (shapeCast S512x1 (multiReduction .add [1] S512 (exp (subf V (broadcastTo S512x512 (shapeCast S512x1 (multiReduction .maximumf [1] S512 V 0xFF800000#32 reduces_S512x512_S512 (.inl rfl) rfl) shapeCasts_S512_S512x1) broadcasts_S512x1_S512x512))) 0x00000000#32 reduces_S512x512_S512 (.inl rfl) rfl) shapeCasts_S512_S512x1) broadcasts_S512x1_S512x128)) bitsLt_bf16_f32 (ix2 r l))
    (smO (fun x => V (ix2 r x)) (fun x => v (ix2 x l))) := by
  pointwise
  simp only [fold_bot]
  rfl

theorem tile1024_at (V : FVec Ideal S512x1024 .f32) (v : FVec Ideal S1024x128 .bf16) (r : Fin 512) (l : Fin 128) :
    @Eq EReal (truncf .bf16 (divf (matmul dot_S512x1024_S1024x128_S512x128_1_0_0_1_n_n none (truncf .bf16 (exp (subf V (broadcastTo S512x1024 (shapeCast S512x1 (multiReduction .maximumf [1] S512 V 0xFF800000#32 reduces_S512x1024_S512 (.inl rfl) rfl) shapeCasts_S512_S512x1) broadcasts_S512x1_S512x1024))) bitsLt_bf16_f32) (shapeCast S1024x128 v shapeCasts_S1024x128_S1024x128) (constant S512x128 .f32 0x00000000#32))
      (broadcastTo S512x128 (shapeCast S512x1 (multiReduction .add [1] S512 (exp (subf V (broadcastTo S512x1024 (shapeCast S512x1 (multiReduction .maximumf [1] S512 V 0xFF800000#32 reduces_S512x1024_S512 (.inl rfl) rfl) shapeCasts_S512_S512x1) broadcasts_S512x1_S512x1024))) 0x00000000#32 reduces_S512x1024_S512 (.inl rfl) rfl) shapeCasts_S512_S512x1) broadcasts_S512x1_S512x128)) bitsLt_bf16_f32 (ix2 r l))
    (smO (fun x => V (ix2 r x)) (fun x => v (ix2 x l))) := by
  pointwise
  simp only [fold_bot]
  rfl

theorem tile1536_at (V : FVec Ideal S512x1536 .f32) (v : FVec Ideal S1536x128 .bf16) (r : Fin 512) (l : Fin 128) :
    @Eq EReal (truncf .bf16 (divf (matmul dot_S512x1536_S1536x128_S512x128_1_0_0_1_n_n none (truncf .bf16 (exp (subf V (broadcastTo S512x1536 (shapeCast S512x1 (multiReduction .maximumf [1] S512 V 0xFF800000#32 reduces_S512x1536_S512 (.inl rfl) rfl) shapeCasts_S512_S512x1) broadcasts_S512x1_S512x1536))) bitsLt_bf16_f32) (shapeCast S1536x128 v shapeCasts_S1536x128_S1536x128) (constant S512x128 .f32 0x00000000#32))
      (broadcastTo S512x128 (shapeCast S512x1 (multiReduction .add [1] S512 (exp (subf V (broadcastTo S512x1536 (shapeCast S512x1 (multiReduction .maximumf [1] S512 V 0xFF800000#32 reduces_S512x1536_S512 (.inl rfl) rfl) shapeCasts_S512_S512x1) broadcasts_S512x1_S512x1536))) 0x00000000#32 reduces_S512x1536_S512 (.inl rfl) rfl) shapeCasts_S512_S512x1) broadcasts_S512x1_S512x128)) bitsLt_bf16_f32 (ix2 r l))
    (smO (fun x => V (ix2 r x)) (fun x => v (ix2 x l))) := by
  pointwise
  simp only [fold_bot]
  rfl

theorem tile2048_at (V : FVec Ideal S512x2048 .f32) (v : FVec Ideal S2048x128 .bf16) (r : Fin 512) (l : Fin 128) :
    @Eq EReal (truncf .bf16 (divf (matmul dot_S512x2048_S2048x128_S512x128_1_0_0_1_n_n none (truncf .bf16 (exp (subf V (broadcastTo S512x2048 (shapeCast S512x1 (multiReduction .maximumf [1] S512 V 0xFF800000#32 reduces_S512x2048_S512 (.inl rfl) rfl) shapeCasts_S512_S512x1) broadcasts_S512x1_S512x2048))) bitsLt_bf16_f32) (shapeCast S2048x128 v shapeCasts_S2048x128_S2048x128) (constant S512x128 .f32 0x00000000#32))
      (broadcastTo S512x128 (shapeCast S512x1 (multiReduction .add [1] S512 (exp (subf V (broadcastTo S512x2048 (shapeCast S512x1 (multiReduction .maximumf [1] S512 V 0xFF800000#32 reduces_S512x2048_S512 (.inl rfl) rfl) shapeCasts_S512_S512x1) broadcasts_S512x1_S512x2048))) 0x00000000#32 reduces_S512x2048_S512 (.inl rfl) rfl) shapeCasts_S512_S512x1) broadcasts_S512x1_S512x128)) bitsLt_bf16_f32 (ix2 r l))
    (smO (fun x => V (ix2 r x)) (fun x => v (ix2 x l))) := by
  pointwise
  simp only [fold_bot]
  rfl

section
variable (q : FVec Ideal S512x256 .bf16) (r : Fin 512) (l : Fin 128)

theorem pO512 (k : FVec Ideal S512x256 .bf16) (v : FVec Ideal S512x128 .bf16) : @Eq EReal (k0_pay2 (F := Ideal) q k v (ix2 r l))
    (smO (mrow 512 (fun x => q (ix2 r x)) (fun y x => k (ix2 y x)) r.val) (fun y => v (ix2 y l))) := by
  unfold k0_pay2
  dsimp only
  refine (tile512_at _ v r l).trans (congrArg (fun s => smO s fun y => v (ix2 y l)) (funext fun x => ?_))
  pointwise
  rw [select_word _ _ (cmp_word x r)]
  rfl

theorem pO1024 (k : FVec Ideal S1024x256 .bf16) (v : FVec Ideal S1024x128 .bf16) : @Eq EReal (k0_pay4 (F := Ideal) (k0_pay3 q k) (Scalar.ofBits .f32 0x3D93CD3A#32) v (ix2 r l))
    (smO (mrow 1024 (fun x => q (ix2 r x)) (fun y x => k (ix2 y x)) (512 + r.val)) (fun y => v (ix2 y l))) := by
  unfold k0_pay4
  dsimp only
  refine (tile1024_at _ v r l).trans (congrArg (fun s => smO s fun y => v (ix2 y l)) (funext fun x => ?_))
  unfold k0_pay3
  pointwise
  unfold mrow
  by_cases hx : x.val < 512
  · rw [dif_pos hx, if_pos (by omega)]
  · rw [dif_neg hx, select_word _ _ (cmp_word ⟨x.val - 512, by omega⟩ r)]
    refine if_congr ?_ ?_ rfl
    · show (x.val - 512) / 64 ≤ r.val / 64 ↔ _
      omega
    · exact congrArg (fun y : Fin 1024 => (∑ z, q (ix2 r z) * k (ix2 y z)) * cS) (Fin.ext (show _ = x.val by simp only []; omega))

theorem pO1536 (k : FVec Ideal S1536x256 .bf16) (v : FVec Ideal S1536x128 .bf16) : @Eq EReal (k0_pay8 (F := Ideal) (k0_pay5 q k) (iota .tc S512x512 32 [0] iota_S512x512_d0_w32) k0_pay6 k0_pay7 v (ix2 r l))
    (smO (mrow 1536 (fun x => q (ix2 r x)) (fun y x => k (ix2 y x)) (1024 + r.val)) (fun y => v (ix2 y l))) := by
  unfold k0_pay8
  dsimp only
  refine (tile1536_at _ v r l).trans (congrArg (fun s => smO s fun y => v (ix2 y l)) (funext fun x => ?_))
  unfold k0_pay5 k0_pay6 k0_pay7
  pointwise
  unfold mrow
  by_cases hx : x.val < 1024
  · rw [dif_pos hx, if_pos (by omega)]
  · rw [dif_neg hx, select_word _ _ (cmp_word ⟨x.val - 1024, by omega⟩ r)]
    refine if_congr ?_ ?_ rfl
    · show (x.val - 1024) / 64 ≤ r.val / 64 ↔ _
      omega
    · exact congrArg (fun y : Fin 1536 => (∑ z, q (ix2 r z) * k (ix2 y z)) * cS) (Fin.ext (show _ = x.val by simp only []; omega))

theorem pO2048 (k : FVec Ideal S2048x256 .bf16) (v : FVec Ideal S2048x128 .bf16) : @Eq EReal (k0_pay1 (F := Ideal) (k0_pay9 q k) v (ix2 r l))
    (smO (mrow 2048 (fun x => q (ix2 r x)) (fun y x => k (ix2 y x)) (1536 + r.val)) (fun y => v (ix2 y l))) := by
  unfold k0_pay1
  dsimp only
  refine (tile2048_at _ v r l).trans (congrArg (fun s => smO s fun y => v (ix2 y l)) (funext fun x => ?_))
  unfold k0_pay9
  pointwise
  unfold mrow
  by_cases hx : x.val < 1536
  · rw [dif_pos hx, if_pos (by omega)]
  · rw [dif_neg hx, select_word _ _ (cmp_word ⟨x.val - 1536, by omega⟩ r)]
    refine if_congr ?_ ?_ rfl
    · show (x.val - 1536) / 64 ≤ r.val / 64 ↔ _
      omega
    · exact congrArg (fun y : Fin 2048 => (∑ z, q (ix2 r z) * k (ix2 y z)) * cS) (Fin.ext (show _ = x.val by simp only []; omega))

end

/-! ## A head's array -/

theorem ld_rows {W : ℕ} (X : (⟨2, ![2048, W]⟩ : Shape).Idx → Elt Ideal .bf16) (o n : ℕ)
    (inb : ∀ a : Fin 2, (![o, 0] : Fin 2 → ℕ) a + (![n, W] : Fin 2 → ℕ) a ≤ (![2048, W] : Fin 2 → ℕ) a) (r : Fin n) (w : Fin W) (i : Fin 2048) (hi : i.val = o + r.val) :
    View.ld (Val := Elt Ideal) (e' := .bf16) X (Rect.unit (s := ⟨2, ![2048, W]⟩) ![o, 0] ![n, W] inb) (ix2 r w) = X (ix2 i w) := by
  refine congrArg X ?_
  funext a
  refine Fin.cases ?_ (fun a => Fin.cases ?_ (fun a => a.elim0) a) a
  · apply Fin.ext
    show o + 1 * r.val = i.val
    omega
  · apply Fin.ext
    show 0 + 1 * w.val = w.val
    omega

section
variable (a0 a1 : XQ) (a2 : XV) (h : Fin 8) (H : ∀ r, SmRow (sR a0 a1 h r))
  (x0 x1 : Vec Ideal S2048x256 .bf16) (x2 : Vec Ideal S2048x128 .bf16)
  (e0 : ∀ j w, @Eq EReal (x0 (ix2 j w : S2048x256.Idx)) (padR h a0 j w)) (e1 : ∀ j w, @Eq EReal (x1 (ix2 j w : S2048x256.Idx)) (padR h a1 j w))
  (e2 : ∀ j l, @Eq EReal (x2 (ix2 j l : S2048x128.Idx)) (a2 (ix3 j h l)))
include H e0 e1 e2

/-- A tile's row is the reference's: the keys past the tile's are masked. -/
theorem row_eq {n : ℕ} (hn : n ≤ 2048) (hm : n % 64 = 0) (i : Fin 2048) (hi : i.val < n) (p : ℕ) (hp : p = i.val) (q : Fin 256 → EReal) (k : Fin n → Fin 256 → EReal)
    (v : Fin n → EReal) (l : Fin 128) (hq : ∀ w, q w = x0 (ix2 i w : S2048x256.Idx)) (hk : ∀ j w, k j w = x1 (ix2 (Fin.castLE hn j) w : S2048x256.Idx))
    (hv : ∀ j, v j = x2 (ix2 (Fin.castLE hn j) l : S2048x128.Idx)) :
    smO (mrow n q k p) v = ∑ j, a2 (ix3 j h l) * smP (sR a0 a1 h i) j := by
  rw [← smO_eq _ (fun j => a2 (ix3 j h l)) (H i), ← smO_prefix hn (sR a0 a1 h i) (fun j => a2 (ix3 j h l)) fun x hx => sR_bot a0 a1 h i x n hm hi hx,
    show mrow n q k p = fun x => sR a0 a1 h i (Fin.castLE hn x) from funext fun x =>
      mrow_eq a0 a1 h hn i p hp q k (fun w => (hq w).trans (e0 _ w)) (fun j w => (hk j w).trans (e1 _ w)) x]
  exact congrArg _ (funext fun j => (hv j).trans (e2 _ l))

theorem out_at (y : Fin 2048) (l : Fin 128) : @Eq EReal (out0_3 (F := Ideal) x0 x1 x2 (ix2 y l)) (∑ j, a2 (ix3 j h l) * smP (sR a0 a1 h y) j) := by
  unfold out0_3
  by_cases h1536 : 1536 ≤ y.val
  · refine (canon_rows 1536 512 _ _ _ y l (by omega) (by omega)).trans ?_
    refine (pO2048 _ _ l _ _).trans ?_
    refine row_eq a0 a1 a2 h H x0 x1 x2 e0 e1 e2 (show 2048 ≤ 2048 by omega) (by omega) y (by omega) _ (show 1536 + (y.val - 1536) = y.val by omega) _ _ _ l (fun w => ?_) (fun j w => ?_) (fun j => ?_)
    · exact ld_rows x0 1536 512 _ _ w y (show y.val = 1536 + (y.val - 1536) by omega)
    · exact ld_rows x1 0 2048 _ j w _ (Nat.zero_add _).symm
    · exact ld_rows x2 0 2048 _ j l _ (Nat.zero_add _).symm
  refine (canon_rows_not 1536 512 _ _ _ y l (Or.inl (by omega))).trans ?_
  by_cases h1024 : 1024 ≤ y.val
  · refine (canon_rows 1024 512 _ _ _ y l (by omega) (by omega)).trans ?_
    refine (pO1536 _ _ l _ _).trans ?_
    refine row_eq a0 a1 a2 h H x0 x1 x2 e0 e1 e2 (show 1536 ≤ 2048 by omega) (by omega) y (by omega) _ (show 1024 + (y.val - 1024) = y.val by omega) _ _ _ l (fun w => ?_) (fun j w => ?_) (fun j => ?_)
    · exact ld_rows x0 1024 512 _ _ w y (show y.val = 1024 + (y.val - 1024) by omega)
    · exact ld_rows x1 0 1536 _ j w _ (Nat.zero_add _).symm
    · exact ld_rows x2 0 1536 _ j l _ (Nat.zero_add _).symm
  refine (canon_rows_not 1024 512 _ _ _ y l (Or.inl (by omega))).trans ?_
  by_cases h512 : 512 ≤ y.val
  · refine (canon_rows 512 512 _ _ _ y l (by omega) (by omega)).trans ?_
    refine (pO1024 _ _ l _ _).trans ?_
    refine row_eq a0 a1 a2 h H x0 x1 x2 e0 e1 e2 (show 1024 ≤ 2048 by omega) (by omega) y (by omega) _ (show 512 + (y.val - 512) = y.val by omega) _ _ _ l (fun w => ?_) (fun j w => ?_) (fun j => ?_)
    · exact ld_rows x0 512 512 _ _ w y (show y.val = 512 + (y.val - 512) by omega)
    · exact ld_rows x1 0 1024 _ j w _ (Nat.zero_add _).symm
    · exact ld_rows x2 0 1024 _ j l _ (Nat.zero_add _).symm
  refine (canon_rows_not 512 512 _ _ _ y l (Or.inl (by omega))).trans ?_
  refine (canon_rows 0 512 _ _ _ y l (by omega) (by omega)).trans ?_
  refine (pO512 _ _ l _ _).trans ?_
  refine row_eq a0 a1 a2 h H x0 x1 x2 e0 e1 e2 (show 512 ≤ 2048 by omega) (by omega) y (by omega) _ (show (y.val - 0) = y.val by omega) _ _ _ l (fun w => ?_) (fun j w => ?_) (fun j => ?_)
  · exact ld_rows x0 0 512 _ _ w y (show y.val = 0 + (y.val - 0) by omega)
  · exact ld_rows x1 0 512 _ j w _ (Nat.zero_add _).symm
  · exact ld_rows x2 0 512 _ j l _ (Nat.zero_add _).symm

end

/-! ## The operands -/

/-- The arguments. -/
abbrev q0 (c : Dev nD) : XQ := m ((c : Thread nD τ).loc main_arg0)
abbrev q1 (c : Dev nD) : XQ := m ((c : Thread nD τ).loc main_arg1)
abbrev q2 (c : Dev nD) : XV := m ((c : Thread nD τ).loc main_arg2)

theorem hv2 (c : Dev nD) (h : Fin 8) (r : Fin 2048) (w : Fin 256) (hL : h.val * 256 + w.val < 2048) :
    @Eq EReal (V m c main_v2 (ix2 r (⟨h.val * 256 + w.val, hL⟩ : Fin 2048) : S2048x2048.Idx)) (padR h (q0 m c) r w) := by
  simp only [V, hostOps0, hostOps0_1, hostOps0_2, hostOps0_3, hostOps0_4, List.flatten_cons, List.flatten_nil, List.append_nil, List.cons_append, List.nil_append, StableHlo.TRef.binary,
    StableHlo.TRef.unary, StableHlo.TRef.toBuf, StableHlo.TRef.ofBuf, cast_eq]
  after_results
  pointwise
  have h1 : (h.val * 256 + w.val) / 256 = h.val := by omega
  have h2 : (h.val * 256 + w.val) % 256 = w.val := by omega
  unfold padR
  by_cases hw : w.val < 192
  · rw [dif_pos (show _ from by omega), dif_pos hw]
    exact congrArg (q0 m c) (congrArg₂ (ix3 r) (Fin.ext h1) (Fin.ext h2))
  · rw [dif_neg (by omega), dif_neg hw]
    exact pad_zero

theorem hv5 (c : Dev nD) (h : Fin 8) (r : Fin 2048) (w : Fin 256) (hL : h.val * 256 + w.val < 2048) :
    @Eq EReal (V m c main_v5 (ix2 r (⟨h.val * 256 + w.val, hL⟩ : Fin 2048) : S2048x2048.Idx)) (padR h (q1 m c) r w) := by
  simp only [V, hostOps0, hostOps0_1, hostOps0_2, hostOps0_3, hostOps0_4, List.flatten_cons, List.flatten_nil, List.append_nil, List.cons_append, List.nil_append, StableHlo.TRef.binary,
    StableHlo.TRef.unary, StableHlo.TRef.toBuf, StableHlo.TRef.ofBuf, cast_eq]
  after_results
  pointwise
  have h1 : (h.val * 256 + w.val) / 256 = h.val := by omega
  have h2 : (h.val * 256 + w.val) % 256 = w.val := by omega
  unfold padR
  by_cases hw : w.val < 192
  · rw [dif_pos (show _ from by omega), dif_pos hw]
    exact congrArg (q1 m c) (congrArg₂ (ix3 r) (Fin.ext h1) (Fin.ext h2))
  · rw [dif_neg (by omega), dif_neg hw]
    exact pad_zero

theorem hv7 (c : Dev nD) (h : Fin 8) (r : Fin 2048) (l : Fin 128) (hL : h.val * 128 + l.val < 1024) :
    @Eq EReal (V m c main_v7 (ix2 r (⟨h.val * 128 + l.val, hL⟩ : Fin 1024) : S2048x1024.Idx)) (q2 m c (ix3 r h l)) := by
  simp only [V, hostOps0, hostOps0_1, hostOps0_2, hostOps0_3, hostOps0_4, List.flatten_cons, List.flatten_nil, List.append_nil, List.cons_append, List.nil_append, StableHlo.TRef.binary,
    StableHlo.TRef.unary, StableHlo.TRef.toBuf, StableHlo.TRef.ofBuf, cast_eq]
  after_results
  pointwise
  have h1 : (h.val * 128 + l.val) / 128 = h.val := by omega
  have h2 : (h.val * 128 + l.val) % 128 = l.val := by omega
  exact congrArg (q2 m c) (congrArg₂ (ix3 r) (Fin.ext h1) (Fin.ext h2))

/-! ## The array -/

/-- The windows' block indices at a grid point. -/
theorem idx : ∀ t : Fin cfg0.N, win0_0.index t = ![0, t.val] ∧ win0_1.index t = ![0, t.val] ∧ win0_2.index t = ![0, t.val] ∧ win0_3.index t = ![0, t.val] :=
  (by decide +kernel : ∀ t : Fin grid0.N, _)

theorem pt_lt (t : Fin cfg0.N) : t.val < 8 := lt_of_lt_of_eq t.isLt N_0
theorem col_lt (t : Fin cfg0.N) (w : Fin 256) : t.val * 256 + w.val < 2048 := by
  have := pt_lt t
  omega
theorem lane_lt (t : Fin cfg0.N) (l : Fin 128) : t.val * 128 + l.val < 1024 := by
  have := pt_lt t
  omega

/-- A grid point's head. -/
abbrev hd (t : Fin cfg0.N) : Fin 8 := ⟨t.val, pt_lt t⟩

section
variable (c : Dev nD) (t : Fin cfg0.N) (j : Fin 2048) (w : Fin 256) (l : Fin 128)

theorem blk0 : @Eq EReal (iblk m c 0 t (ix2 j w : S2048x256.Idx)) (padR (hd t) (q0 m c) j w) := by
  rw [show iblk m c 0 t (ix2 j w : S2048x256.Idx) = V m c main_v2 (ix2 j (⟨t.val * 256 + w.val, col_lt t w⟩ : Fin 2048) : S2048x2048.Idx) by blk_ext [iblk, idx t]]
  exact hv2 m c (hd t) j w (col_lt t w)

theorem blk1 : @Eq EReal (iblk m c 1 t (ix2 j w : S2048x256.Idx)) (padR (hd t) (q1 m c) j w) := by
  rw [show iblk m c 1 t (ix2 j w : S2048x256.Idx) = V m c main_v5 (ix2 j (⟨t.val * 256 + w.val, col_lt t w⟩ : Fin 2048) : S2048x2048.Idx) by blk_ext [iblk, idx t]]
  exact hv5 m c (hd t) j w (col_lt t w)

theorem blk2 : @Eq EReal (iblk m c 2 t (ix2 j l : S2048x128.Idx)) (q2 m c (ix3 j (hd t) l)) := by
  rw [show iblk m c 2 t (ix2 j l : S2048x128.Idx) = V m c main_v7 (ix2 j (⟨t.val * 128 + l.val, lane_lt t l⟩ : Fin 1024) : S2048x1024.Idx) by blk_ext [iblk, idx t]]
  exact hv7 m c (hd t) j l (lane_lt t l)

end

open Cert.AttnFwdRefIdeal.Read in
theorem final3 (c : Dev nD) (H : ∀ h r, SmRow (sR (q0 m c) (q1 m c) h r)) : (dats m 0 c).arrAt 3 (cfgs 0).N = val_main_v26 (F := Ideal) (q0 m c) (q1 m c) (q2 m c) := by
  refine (dats m 0 c).arrAt_eq_of_covers 3 _ (by decide +kernel) fun t _ y => ?_
  blk_simp
  rw [after0_3]
  idx_vars y
  rw [show ((cfg0.win 3).blk t).view.emb (ix2 y0 y1 : S2048x128.Idx) = (ix2 y0 (⟨t.val * 128 + y1.val, lane_lt t y1⟩ : Fin 1024) : S2048x1024.Idx) by blk_ext [idx t]]
  exact (out_at (q0 m c) (q1 m c) (q2 m c) (hd t) (H (hd t)) _ _ _ (blk0 m c t) (blk1 m c t) (blk2 m c t) y0 y1).trans
    (ref26_at (q0 m c) (q1 m c) (q2 m c) (hd t) y0 y1 (lane_lt t y1)).symm

end Cert.AttnFwdIdeal.Hand

namespace Cert.Proof

open Idealize.ShloMosaic Idealize.SL.Sem

theorem preserves_AttnFwd : Cert.preserves_AttnFwd_AttnFwdIdeal := IdealRules.named_const.statement Cert.AttnFwdIdeal.κ "mask" .f32 0xF149F2CA#32 ⊥ rfl

theorem rows_AttnFwd [Cert.Pre_attn_fwd_finite.Facts] (m : (ℓ : Loc Cert.AttnFwdIdeal.nD Cert.AttnFwdIdeal.τ Cert.AttnFwdIdeal.sig) → Buf (Elt Ideal) ℓ)
    (h : Cert.Pre_AttnFwdIdeal_attn_fwd_finite m) (c : Dev Cert.AttnFwdIdeal.nD) (hd : Fin 8) (r : Fin 2048) :
    SmRow (Cert.AttnBwdIdeal.Hand.sR (Cert.AttnFwdIdeal.Hand.q0 m c) (Cert.AttnFwdIdeal.Hand.q1 m c) hd r) :=
  Cert.AttnBwdIdeal.Hand.FinAt.row (x2 := fun _ => ((0 : ℝ) : EReal)) (x3 := fun _ => ((0 : ℝ) : EReal)) hd r
    ⟨fun i => IsR.of_lt (congrFun (h c).1 i), fun i => IsR.of_lt (congrFun (h c).2 i), fun _ => ⟨0, rfl⟩, fun _ => ⟨0, rfl⟩⟩

theorem algebraic_AttnFwd [Cert.AttnFwdIdeal.Facts] [Cert.AttnFwdRefIdeal.Facts] [Cert.Pre_attn_fwd_finite.Facts] :
    Cert.algebraic_AttnFwdIdeal_AttnFwdRefIdeal_pre_attn_fwd_finite := by
  intro m g m' g' hpre hagree
  refine ⟨fun c => (Cert.AttnFwdIdeal.Gen.dats m 0 c).arrAt 3 (Cert.AttnFwdIdeal.cfgs 0).N, ?_, ?_⟩
  · exact (θ_run _ _ _).mono (fun r h c => ⟨(h.1 c).1 3, h.2 c⟩)
      (θ_run_and (Cert.AttnFwdIdeal.Gen.run_main m g) (Cert.AttnFwdIdeal.Gen.unchanged m g))
  · refine (θ_run _ _ _).mono (fun r h c => ⟨((h c).1).trans ?_, (h c).2⟩) (Cert.AttnFwdRefIdeal.Value.run m' g')
    refine (Cert.AttnFwdRefIdeal.Read.val_main_v26_eq m' c).trans ?_
    rw [(hagree c).1, (hagree c).2.1, (hagree c).2.2]
    exact (Cert.AttnFwdIdeal.Hand.final3 m c (rows_AttnFwd m hpre c)).symm

end Cert.Proof

end
-- ==== Proof.DownFwd.lean ====
/- The squared relu and the feed-forward's second product, fused with the residual's layer norm (`mm_residual_ln` over
   `_sq_relu`): the kernel's four arrays, the norm's saved row and deviation among them, are the reference's. -/
module

public import proofs.«01_k».proof.Defs
public import proofs.«01_k».proof.Proof.Gen.DownFwdIdeal.Value
public import proofs.«01_k».proof.Proof.Gen.DownFwdRefIdeal.Read
public import proofs.«01_k».proof.Proof.LnMath
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.DownFwdIdeal.Hand

open Cert.DownFwdIdeal Cert.DownFwdIdeal.Gen Idealize.ShloMosaic Idealize.ShloMosaic.TcCoe Idealize.SL.Sem
open Idealize.ShloMosaic.Pipeline (Dat)
open Cert.Proof

variable (m : (ℓ : Loc nD τ sig) → Buf (Elt Ideal) ℓ)

/-- The residual's weight. -/
abbrev cAl : EReal := Ideal.ofBits FTy.f32 0x3FD744FD#32

/-- A row before its norm: the residual and the squared relu's product. -/
def rowF (a : Fin 4096 → EReal) (w : Fin 4096 → Fin 1024 → EReal) (x : Fin 1024 → EReal) (l : Fin 1024) : EReal :=
  cAl * x l + ∑ k, max (a k) 0 * max (a k) 0 * w k l

/-! ## The payloads at an index -/

section
variable (v0 : FVec Ideal S512x4096 .bf16) (v5 : FVec Ideal S4096x1024 .bf16) (v8 : FVec Ideal S512x1024 .f32) (r : Fin 512) (l : Fin 1024)

/-- The row that a block's rows give. -/
abbrev rowB : Fin 1024 → EReal := rowF (fun k => v0 (ix2 r k)) (fun k l => v5 (ix2 k l)) (fun j => v8 (ix2 r j))

theorem pay1_at : @Eq EReal (k0_pay1 (F := Ideal) v0 v5 v8 (ix2 r l)) (rowB v0 v5 v8 r l - lnMu (rowB v0 v5 v8 r)) := by
  unfold k0_pay1
  pointwise
  rfl

theorem pay2_at : @Eq EReal (k0_pay2 (F := Ideal) v0 v5 v8 (ix2 r 0)) (lnRs (rowB v0 v5 v8 r)) := by
  unfold k0_pay2
  pointwise
  simp only [pay1_at]
  rfl

theorem pay3_at : @Eq EReal (k0_pay3 (F := Ideal) v0 v5 v8 (ix2 r l)) (lnXh (rowB v0 v5 v8 r) l) := by
  unfold k0_pay3
  pointwise
  simp only [pay1_at, pay2_at]
  rfl

variable (v12 v13 : FVec Ideal S1x1024 .f32)

theorem pay4_at : @Eq EReal (k0_pay4 (F := Ideal) v0 v5 v8 v12 v13 (ix2 r l))
    (lnXh (rowB v0 v5 v8 r) l * v12 (ix2 0 l) + v13 (ix2 0 l)) := by
  unfold k0_pay4
  pointwise
  simp only [pay3_at]

theorem pay5_at : @Eq EReal (k0_pay5 (F := Ideal) v0 v5 v8 v12 v13 (ix2 r l))
    (lnXh (rowB v0 v5 v8 r) l * v12 (ix2 0 l) + v13 (ix2 0 l)) := by
  unfold k0_pay5
  exact pay4_at v0 v5 v8 r l v12 v13

end

/-! ## The reference's arrays at an index -/

section
open Cert.DownFwdRefIdeal.Read
variable (x0 : FVec Ideal S2048x4096 .f32) (x1 : FVec Ideal S4096x1024 .f32) (x2 : FVec Ideal S2048x1024 .f32) (x3 x4 : FVec Ideal S1x1024 .f32)
  (r : Fin 2048) (l : Fin 1024) (z : Fin 1)

/-- The row that the whole arrays give. -/
abbrev rowA : Fin 1024 → EReal := rowF (fun k => x0 (ix2 r k)) (fun k l => x1 (ix2 k l)) (fun j => x2 (ix2 r j))

theorem ref5_at : @Eq EReal (val_main_v5 (F := Ideal) x0 x1 x2 (ix2 r l))
    (rowA x0 x1 x2 r l) := by
  pointwise [val_main_cst, val_main_v0, val_main_v1, val_main_call0_cst, val_main_call0_v0, val_main_v2, val_main_v3, val_main_v4, val_main_v5, val_main_cst_0, val_main_v6, val_main_v7, val_main_cst_1, val_main_v8, val_main_v9, val_main_v10, val_main_v11, val_main_v12, val_main_cst_2, val_main_v13, val_main_v14, val_main_cst_3, val_main_v15, val_main_v16, val_main_cst_4, val_main_v17, val_main_v18, val_main_v19, val_main_cst_5, val_main_v20, val_main_v21, val_main_cst_6, val_main_v22, val_main_v23, val_main_v24, val_main_v25, val_main_v26, val_main_cst_7, val_main_v27, val_main_v28, val_main_cst_8, val_main_v29, val_main_v30, val_main_v31, val_main_v32, val_main_cst_9, val_main_v33, val_main_v34, val_main_v35, val_main_v36, val_main_v37, val_main_v38, val_main_v39, val_main_v40, val_main_v41, val_main_v42, val_main_v43, val_main_v44, val_main_v45, val_main_v46]
  rfl

theorem ref9_at : @Eq EReal (val_main_v9 (F := Ideal) x0 x1 x2 (ix2 r z))
    (lnMu (rowA x0 x1 x2 r)) := by
  pointwise [val_main_cst, val_main_v0, val_main_v1, val_main_call0_cst, val_main_call0_v0, val_main_v2, val_main_v3, val_main_v4, val_main_cst_0, val_main_v6, val_main_v7, val_main_cst_1, val_main_v8, val_main_v9, val_main_v10, val_main_v11, val_main_v12, val_main_cst_2, val_main_v13, val_main_v14, val_main_cst_3, val_main_v15, val_main_v16, val_main_cst_4, val_main_v17, val_main_v18, val_main_v19, val_main_cst_5, val_main_v20, val_main_v21, val_main_cst_6, val_main_v22, val_main_v23, val_main_v24, val_main_v25, val_main_v26, val_main_cst_7, val_main_v27, val_main_v28, val_main_cst_8, val_main_v29, val_main_v30, val_main_v31, val_main_v32, val_main_cst_9, val_main_v33, val_main_v34, val_main_v35, val_main_v36, val_main_v37, val_main_v38, val_main_v39, val_main_v40, val_main_v41, val_main_v42, val_main_v43, val_main_v44, val_main_v45, val_main_v46]
  simp only [ref5_at]
  rfl

theorem ref23_at : @Eq EReal (val_main_v23 (F := Ideal) x0 x1 x2 (ix2 r z))
    (lnMu (rowA x0 x1 x2 r)) := by
  pointwise [val_main_cst, val_main_v0, val_main_v1, val_main_call0_cst, val_main_call0_v0, val_main_v2, val_main_v3, val_main_v4, val_main_cst_0, val_main_v6, val_main_v7, val_main_cst_1, val_main_v8, val_main_v10, val_main_v11, val_main_v12, val_main_cst_2, val_main_v13, val_main_v14, val_main_cst_3, val_main_v15, val_main_v16, val_main_cst_4, val_main_v17, val_main_v18, val_main_v19, val_main_cst_5, val_main_v20, val_main_v21, val_main_cst_6, val_main_v22, val_main_v23, val_main_v24, val_main_v25, val_main_v26, val_main_cst_7, val_main_v27, val_main_v28, val_main_cst_8, val_main_v29, val_main_v30, val_main_v31, val_main_v32, val_main_cst_9, val_main_v33, val_main_v34, val_main_v35, val_main_v36, val_main_v37, val_main_v38, val_main_v39, val_main_v40, val_main_v41, val_main_v42, val_main_v43, val_main_v44, val_main_v45, val_main_v46]
  simp only [ref5_at]
  rfl

theorem ref11_at : @Eq EReal (val_main_v11 (F := Ideal) x0 x1 x2 (ix2 r l))
    (rowA x0 x1 x2 r l - lnMu (rowA x0 x1 x2 r)) := by
  pointwise [val_main_cst, val_main_v0, val_main_v1, val_main_call0_cst, val_main_call0_v0, val_main_v2, val_main_v3, val_main_v4, val_main_cst_0, val_main_v6, val_main_v7, val_main_cst_1, val_main_v8, val_main_v10, val_main_v11, val_main_v12, val_main_cst_2, val_main_v13, val_main_v14, val_main_cst_3, val_main_v15, val_main_v16, val_main_cst_4, val_main_v17, val_main_v18, val_main_v19, val_main_cst_5, val_main_v20, val_main_v21, val_main_cst_6, val_main_v22, val_main_v24, val_main_v25, val_main_v26, val_main_cst_7, val_main_v27, val_main_v28, val_main_cst_8, val_main_v29, val_main_v30, val_main_v31, val_main_v32, val_main_cst_9, val_main_v33, val_main_v34, val_main_v35, val_main_v36, val_main_v37, val_main_v38, val_main_v39, val_main_v40, val_main_v41, val_main_v42, val_main_v43, val_main_v44, val_main_v45, val_main_v46]
  simp only [ref5_at, ref9_at]

theorem ref19_at : @Eq EReal (val_main_v19 (F := Ideal) x0 x1 x2 (ix2 r z))
    (lnRs (rowA x0 x1 x2 r)) := by
  pointwise [val_main_cst, val_main_v0, val_main_v1, val_main_call0_cst, val_main_call0_v0, val_main_v2, val_main_v3, val_main_v4, val_main_cst_0, val_main_v6, val_main_v7, val_main_cst_1, val_main_v8, val_main_v10, val_main_v12, val_main_cst_2, val_main_v13, val_main_v14, val_main_cst_3, val_main_v15, val_main_v16, val_main_cst_4, val_main_v17, val_main_v18, val_main_v19, val_main_cst_5, val_main_v20, val_main_v21, val_main_cst_6, val_main_v22, val_main_v24, val_main_v25, val_main_v26, val_main_cst_7, val_main_v27, val_main_v28, val_main_cst_8, val_main_v29, val_main_v30, val_main_v31, val_main_v32, val_main_cst_9, val_main_v33, val_main_v34, val_main_v35, val_main_v36, val_main_v37, val_main_v38, val_main_v39, val_main_v40, val_main_v41, val_main_v42, val_main_v43, val_main_v44, val_main_v45, val_main_v46]
  simp only [ref11_at]
  rfl

theorem ref25_at : @Eq EReal (val_main_v25 (F := Ideal) x0 x1 x2 (ix2 r l))
    (rowA x0 x1 x2 r l - lnMu (rowA x0 x1 x2 r)) := by
  pointwise [val_main_cst, val_main_v0, val_main_v1, val_main_call0_cst, val_main_call0_v0, val_main_v2, val_main_v3, val_main_v4, val_main_cst_0, val_main_v6, val_main_v7, val_main_cst_1, val_main_v8, val_main_v10, val_main_v12, val_main_cst_2, val_main_v13, val_main_v14, val_main_cst_3, val_main_v15, val_main_v16, val_main_cst_4, val_main_v17, val_main_v18, val_main_cst_5, val_main_v20, val_main_v21, val_main_cst_6, val_main_v22, val_main_v24, val_main_v25, val_main_v26, val_main_cst_7, val_main_v27, val_main_v28, val_main_cst_8, val_main_v29, val_main_v30, val_main_v31, val_main_v32, val_main_cst_9, val_main_v33, val_main_v34, val_main_v35, val_main_v36, val_main_v37, val_main_v38, val_main_v39, val_main_v40, val_main_v41, val_main_v42, val_main_v43, val_main_v44, val_main_v45, val_main_v46]
  simp only [ref5_at, ref23_at]

theorem ref35_at : @Eq EReal (val_main_v35 (F := Ideal) x0 x1 x2 (ix2 r z))
    (lnRs (rowA x0 x1 x2 r)) := by
  pointwise [val_main_cst, val_main_v0, val_main_v1, val_main_call0_cst, val_main_call0_v0, val_main_v2, val_main_v3, val_main_v4, val_main_cst_0, val_main_v6, val_main_v7, val_main_cst_1, val_main_v8, val_main_v10, val_main_v12, val_main_cst_2, val_main_v13, val_main_v14, val_main_cst_3, val_main_v15, val_main_v16, val_main_cst_4, val_main_v17, val_main_v18, val_main_cst_5, val_main_v20, val_main_v21, val_main_cst_6, val_main_v22, val_main_v24, val_main_v26, val_main_cst_7, val_main_v27, val_main_v28, val_main_cst_8, val_main_v29, val_main_v30, val_main_v31, val_main_v32, val_main_cst_9, val_main_v33, val_main_v34, val_main_v35, val_main_v36, val_main_v37, val_main_v38, val_main_v39, val_main_v40, val_main_v41, val_main_v42, val_main_v43, val_main_v44, val_main_v45, val_main_v46]
  simp only [ref25_at]
  rfl

theorem ref37_at : @Eq EReal (val_main_v37 (F := Ideal) x0 x1 x2 (ix2 r l))
    (lnXh (rowA x0 x1 x2 r) l) := by
  pointwise [val_main_cst, val_main_v0, val_main_v1, val_main_call0_cst, val_main_call0_v0, val_main_v2, val_main_v3, val_main_v4, val_main_cst_0, val_main_v6, val_main_v7, val_main_cst_1, val_main_v8, val_main_v10, val_main_v12, val_main_cst_2, val_main_v13, val_main_v14, val_main_cst_3, val_main_v15, val_main_v16, val_main_cst_4, val_main_v17, val_main_v18, val_main_cst_5, val_main_v20, val_main_v21, val_main_cst_6, val_main_v22, val_main_v24, val_main_v26, val_main_cst_7, val_main_v27, val_main_v28, val_main_cst_8, val_main_v29, val_main_v30, val_main_v31, val_main_v32, val_main_cst_9, val_main_v33, val_main_v34, val_main_v36, val_main_v37, val_main_v38, val_main_v39, val_main_v40, val_main_v41, val_main_v42, val_main_v43, val_main_v44, val_main_v45, val_main_v46]
  simp only [ref5_at, ref23_at, ref35_at]
  rfl

theorem ref46_at : @Eq EReal (val_main_v46 (F := Ideal) x0 x1 x2 (ix2 r l))
    (lnXh (rowA x0 x1 x2 r) l) := by
  pointwise [val_main_cst, val_main_v0, val_main_v1, val_main_call0_cst, val_main_call0_v0, val_main_v2, val_main_v3, val_main_v4, val_main_cst_0, val_main_v6, val_main_v7, val_main_cst_1, val_main_v8, val_main_v10, val_main_v12, val_main_cst_2, val_main_v13, val_main_v14, val_main_cst_3, val_main_v15, val_main_v16, val_main_cst_4, val_main_v17, val_main_v18, val_main_cst_5, val_main_v20, val_main_v21, val_main_cst_6, val_main_v22, val_main_v24, val_main_v26, val_main_cst_7, val_main_v27, val_main_v28, val_main_cst_8, val_main_v29, val_main_v30, val_main_v31, val_main_v32, val_main_cst_9, val_main_v33, val_main_v34, val_main_v36, val_main_v38, val_main_v39, val_main_v40, val_main_v41, val_main_v42, val_main_v43, val_main_v44, val_main_v45, val_main_v46]
  simp only [ref5_at, ref9_at, ref19_at]
  rfl

theorem ref41_at : @Eq EReal (val_main_v41 (F := Ideal) x0 x1 x2 x3 x4 (ix2 r l))
    (lnXh (rowA x0 x1 x2 r) l * x3 (ix2 0 l) + x4 (ix2 0 l)) := by
  pointwise [val_main_cst, val_main_v0, val_main_v1, val_main_call0_cst, val_main_call0_v0, val_main_v2, val_main_v3, val_main_v4, val_main_cst_0, val_main_v6, val_main_v7, val_main_cst_1, val_main_v8, val_main_v10, val_main_v12, val_main_cst_2, val_main_v13, val_main_v14, val_main_cst_3, val_main_v15, val_main_v16, val_main_cst_4, val_main_v17, val_main_v18, val_main_cst_5, val_main_v20, val_main_v21, val_main_cst_6, val_main_v22, val_main_v24, val_main_v26, val_main_cst_7, val_main_v27, val_main_v28, val_main_cst_8, val_main_v29, val_main_v30, val_main_v31, val_main_v32, val_main_cst_9, val_main_v33, val_main_v34, val_main_v36, val_main_v38, val_main_v39, val_main_v40, val_main_v41, val_main_v42, val_main_v43, val_main_v44, val_main_v45]
  simp only [ref37_at]

theorem ref42_at : @Eq EReal (val_main_v42 (F := Ideal) x0 x1 x2 x3 x4 (ix2 r l))
    (lnXh (rowA x0 x1 x2 r) l * x3 (ix2 0 l) + x4 (ix2 0 l)) := by
  pointwise [val_main_cst, val_main_v0, val_main_v1, val_main_call0_cst, val_main_call0_v0, val_main_v2, val_main_v3, val_main_v4, val_main_cst_0, val_main_v6, val_main_v7, val_main_cst_1, val_main_v8, val_main_v10, val_main_v12, val_main_cst_2, val_main_v13, val_main_v14, val_main_cst_3, val_main_v15, val_main_v16, val_main_cst_4, val_main_v17, val_main_v18, val_main_cst_5, val_main_v20, val_main_v21, val_main_cst_6, val_main_v22, val_main_v24, val_main_v26, val_main_cst_7, val_main_v27, val_main_v28, val_main_cst_8, val_main_v29, val_main_v30, val_main_v31, val_main_v32, val_main_cst_9, val_main_v33, val_main_v34, val_main_v36, val_main_v38, val_main_v39, val_main_v40, val_main_v42, val_main_v43, val_main_v44, val_main_v45]
  exact ref41_at x0 x1 x2 x3 x4 r l

end

/-! ## The arrays -/

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

theorem row_lt (t : Fin cfg0.N) (l : Fin 512) : t.val * 512 + l < 2048 := by
  have := lt_of_lt_of_eq t.isLt N_0
  omega

theorem hv0 (c : Dev nD) (i : S2048x4096.Idx) : @Eq EReal (V m c main_v0 i) (m ((c : Thread nD τ).loc main_arg0) i) := by
  simp only [V, hostOps0, List.flatten_cons, List.flatten_nil, List.append_nil]
  after_results
  pointwise

theorem hv1 (c : Dev nD) (i : S4096x1024.Idx) : @Eq EReal (V m c main_v1 i) (m ((c : Thread nD τ).loc main_arg1) i) := by
  simp only [V, hostOps0, List.flatten_cons, List.flatten_nil, List.append_nil]
  after_results
  pointwise

section
variable (c : Dev nD) (t : Fin cfg0.N) (r : Fin 512)

theorem blk0 (k : Fin 4096) : @Eq EReal (iblk m c 0 t (ix2 r k : S512x4096.Idx))
    (m ((c : Thread nD τ).loc main_arg0) (ix2 ⟨t.val * 512 + r, row_lt t r⟩ k : S2048x4096.Idx)) := by
  rw [show iblk m c 0 t (ix2 r k : S512x4096.Idx) = V m c main_v0 (ix2 ⟨t.val * 512 + r, row_lt t r⟩ k : S2048x4096.Idx) by blk_ext [iblk, idx t]]
  exact hv0 m c _

theorem blk1 (k : Fin 4096) (l : Fin 1024) : @Eq EReal (iblk m c 1 t (ix2 k l : S4096x1024.Idx))
    (m ((c : Thread nD τ).loc main_arg1) (ix2 k l : S4096x1024.Idx)) := by
  rw [show iblk m c 1 t (ix2 k l : S4096x1024.Idx) = V m c main_v1 (ix2 k l : S4096x1024.Idx) by blk_ext [iblk, idx t]]
  exact hv1 m c _

theorem blk2 (l : Fin 1024) : @Eq EReal (iblk m c 2 t (ix2 r l : S512x1024.Idx))
    (m ((c : Thread nD τ).loc main_arg2) (ix2 ⟨t.val * 512 + r, row_lt t r⟩ l : S2048x1024.Idx)) := by
  blk_point [iblk, V, idx t]

theorem blk3 (l : Fin 1024) : @Eq EReal (iblk m c 3 t (ix2 0 l : S1x1024.Idx)) (m ((c : Thread nD τ).loc main_arg3) (ix2 0 l : S1x1024.Idx)) := by
  blk_point [iblk, V, idx t]

theorem blk4 (l : Fin 1024) : @Eq EReal (iblk m c 4 t (ix2 0 l : S1x1024.Idx)) (m ((c : Thread nD τ).loc main_arg4) (ix2 0 l : S1x1024.Idx)) := by
  blk_point [iblk, V, idx t]

/-- A block's row is the whole arrays' row. -/
theorem row_eq : rowB (iblk m c 0 t) (iblk m c 1 t) (iblk m c 2 t) r
    = rowA (m ((c : Thread nD τ).loc main_arg0)) (m ((c : Thread nD τ).loc main_arg1)) (m ((c : Thread nD τ).loc main_arg2)) ⟨t.val * 512 + r, row_lt t r⟩ := by
  unfold rowB rowA
  simp only [blk0, blk1, blk2]

end

open Cert.DownFwdRefIdeal.Read in
theorem final5 (c : Dev nD) : (dats m 0 c).arrAt 5 (cfgs 0).N = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  frame_out
  idx_vars y
  rw [show ((cfg0.win 5).blk t).view.emb (ix2 y0 y1 : S512x1024.Idx) = (ix2 ⟨t.val * 512 + y0, row_lt t y0⟩ y1 : S2048x1024.Idx) by blk_ext [idx t]]
  refine (pay4_at _ _ _ y0 y1 _ _).trans (Eq.trans ?_ (ref41_at _ _ _ _ _ _ y1).symm)
  rw [row_eq, blk3, blk4]

open Cert.DownFwdRefIdeal.Read in
theorem final6 (c : Dev nD) : (dats m 0 c).arrAt 6 (cfgs 0).N = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  frame_out
  idx_vars y
  rw [show ((cfg0.win 6).blk t).view.emb (ix2 y0 y1 : S512x1024.Idx) = (ix2 ⟨t.val * 512 + y0, row_lt t y0⟩ y1 : S2048x1024.Idx) by blk_ext [idx t]]
  refine (pay5_at _ _ _ y0 y1 _ _).trans (Eq.trans ?_ (ref42_at _ _ _ _ _ _ y1).symm)
  rw [row_eq, blk3, blk4]

open Cert.DownFwdRefIdeal.Read in
theorem final7 (c : Dev nD) : (dats m 0 c).arrAt 7 (cfgs 0).N = val_main_v46 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  frame_out
  idx_vars y
  rw [show ((cfg0.win 7).blk t).view.emb (ix2 y0 y1 : S512x1024.Idx) = (ix2 ⟨t.val * 512 + y0, row_lt t y0⟩ y1 : S2048x1024.Idx) by blk_ext [idx t]]
  refine (pay3_at _ _ _ y0 y1).trans (Eq.trans ?_ (ref46_at _ _ _ _ y1).symm)
  rw [row_eq]

open Cert.DownFwdRefIdeal.Read in
theorem final8 (c : Dev nD) : (dats m 0 c).arrAt 8 (cfgs 0).N = val_main_v19 (F := Ideal) (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  frame_out
  idx_vars y
  obtain rfl : y1 = 0 := Subsingleton.elim _ _
  rw [show ((cfg0.win 8).blk t).view.emb (ix2 y0 0 : S512x1.Idx) = (ix2 ⟨t.val * 512 + y0, row_lt t y0⟩ 0 : S2048x1.Idx) by blk_ext [idx t]]
  refine (pay2_at _ _ _ y0).trans (Eq.trans ?_ (ref19_at _ _ _ _ 0).symm)
  rw [row_eq]

end Cert.DownFwdIdeal.Hand

namespace Cert.Proof

open Idealize.ShloMosaic Idealize.SL.Sem

set_option maxHeartbeats 4000000 in
theorem algebraic_DownFwd [Cert.DownFwdIdeal.Facts] [Cert.DownFwdRefIdeal.Facts] : Cert.algebraic_DownFwdIdeal_DownFwdRefIdeal := by
  intro m g m' g' _ hagree
  refine ⟨fun c => (Cert.DownFwdIdeal.Gen.dats m 0 c).arrAt 5 (Cert.DownFwdIdeal.cfgs 0).N,
    fun c => (Cert.DownFwdIdeal.Gen.dats m 0 c).arrAt 6 (Cert.DownFwdIdeal.cfgs 0).N,
    fun c => (Cert.DownFwdIdeal.Gen.dats m 0 c).arrAt 7 (Cert.DownFwdIdeal.cfgs 0).N,
    fun c => (Cert.DownFwdIdeal.Gen.dats m 0 c).arrAt 8 (Cert.DownFwdIdeal.cfgs 0).N, ?_, ?_⟩
  · exact (θ_run _ _ _).mono (fun r h c => ⟨(h.1 c).1 5, (h.1 c).1 6, (h.1 c).1 7, (h.1 c).1 8, h.2 c⟩)
      (θ_run_and (Cert.DownFwdIdeal.Gen.run_main m g) (Cert.DownFwdIdeal.Gen.unchanged m g))
  · refine (θ_run _ _ _).mono (fun r h c => ⟨((h c).1).trans ?_, ((h c).2.1).trans ?_, ((h c).2.2.1).trans ?_, ((h c).2.2.2.1).trans ?_, (h c).2.2.2.2⟩) (Cert.DownFwdRefIdeal.Value.run m' g')
    · refine (Cert.DownFwdRefIdeal.Read.val_main_v41_eq m' c).trans ?_
      rw [(hagree c).1, (hagree c).2.1, (hagree c).2.2.1, (hagree c).2.2.2.1, (hagree c).2.2.2.2]
      exact (Cert.DownFwdIdeal.Hand.final5 m c).symm
    · refine (Cert.DownFwdRefIdeal.Read.val_main_v42_eq m' c).trans ?_
      rw [(hagree c).1, (hagree c).2.1, (hagree c).2.2.1, (hagree c).2.2.2.1, (hagree c).2.2.2.2]
      exact (Cert.DownFwdIdeal.Hand.final6 m c).symm
    · refine (Cert.DownFwdRefIdeal.Read.val_main_v46_eq m' c).trans ?_
      rw [(hagree c).1, (hagree c).2.1, (hagree c).2.2.1]
      exact (Cert.DownFwdIdeal.Hand.final7 m c).symm
    · refine (Cert.DownFwdRefIdeal.Read.val_main_v19_eq _ _ _).trans ?_
      rw [(hagree c).1, (hagree c).2.1, (hagree c).2.2.1]
      exact (Cert.DownFwdIdeal.Hand.final8 m c).symm

end Cert.Proof

end
-- ==== Proof.OutFwd.lean ====
/- The mixer's output product, its bias and the residual's layer norm (`mm_residual_ln`): the kernel's four arrays, the
   norm's saved row and deviation among them, are the reference's. -/
module

public import proofs.«01_k».proof.Defs
public import proofs.«01_k».proof.Proof.Gen.OutFwdIdeal.Value
public import proofs.«01_k».proof.Proof.Gen.OutFwdRefIdeal.Read
public import proofs.«01_k».proof.Proof.LnMath
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.OutFwdIdeal.Hand

open Cert.OutFwdIdeal Cert.OutFwdIdeal.Gen Idealize.ShloMosaic Idealize.ShloMosaic.TcCoe Idealize.SL.Sem
open Idealize.ShloMosaic.Pipeline (Dat)
open Cert.Proof

variable (m : (ℓ : Loc nD τ sig) → Buf (Elt Ideal) ℓ)

/-- A row before its norm: the residual, the product and the bias. -/
def rowF (a : Fin 1024 → EReal) (w : Fin 1024 → Fin 1024 → EReal) (x d : Fin 1024 → EReal) (l : Fin 1024) : EReal :=
  Ideal.ofBits FTy.f32 0x3FD744FD#32 * x l + ((∑ k, a k * w k l) + d l)

/-! ## The payloads at an index -/

section
variable (v0 : FVec Ideal S512x1024 .bf16) (v2 : FVec Ideal S1024x1024 .bf16) (v5 : FVec Ideal S512x1024 .f32) (v9 : FVec Ideal S1x1024 .f32)
  (r : Fin 512) (l : Fin 1024)

/-- The row that a block's rows give. -/
abbrev rowB : Fin 1024 → EReal := rowF (fun k => v0 (ix2 r k)) (fun k l => v2 (ix2 k l)) (fun j => v5 (ix2 r j)) (fun j => v9 (ix2 0 j))

theorem pay2_at : @Eq EReal (k0_pay2 (F := Ideal) v0 v2 v5 v9 (ix2 r l)) (rowB v0 v2 v5 v9 r l - lnMu (rowB v0 v2 v5 v9 r)) := by
  unfold k0_pay2
  pointwise
  simp only [add_assoc]
  rfl

theorem pay3_at : @Eq EReal (k0_pay3 (F := Ideal) v0 v2 v5 v9 (ix2 r 0)) (lnRs (rowB v0 v2 v5 v9 r)) := by
  unfold k0_pay3
  pointwise
  simp only [pay2_at]
  rfl

theorem pay4_at : @Eq EReal (k0_pay4 (F := Ideal) v0 v2 v5 v9 (ix2 r l)) (lnXh (rowB v0 v2 v5 v9 r) l) := by
  unfold k0_pay4
  pointwise
  simp only [pay2_at, pay3_at]
  rfl

variable (v12 v13 : FVec Ideal S1x1024 .f32)

theorem pay5_at : @Eq EReal (k0_pay5 (F := Ideal) v0 v2 v5 v9 v12 v13 (ix2 r l))
    (lnXh (rowB v0 v2 v5 v9 r) l * v12 (ix2 0 l) + v13 (ix2 0 l)) := by
  unfold k0_pay5
  pointwise
  simp only [pay4_at]

theorem pay1_at : @Eq EReal (k0_pay1 (F := Ideal) (k0_pay5 v0 v2 v5 v9 v12 v13) (ix2 r l))
    (lnXh (rowB v0 v2 v5 v9 r) l * v12 (ix2 0 l) + v13 (ix2 0 l)) := by
  unfold k0_pay1
  exact pay5_at v0 v2 v5 v9 r l v12 v13

end

/-! ## The reference's arrays at an index -/

section
open Cert.OutFwdRefIdeal.Read
variable (x0 : FVec Ideal S2048x1024 .f32) (x1 : FVec Ideal S1024x1024 .f32) (x2 : FVec Ideal S2048x1024 .f32) (x3 x4 x5 : FVec Ideal S1x1024 .f32)
  (r : Fin 2048) (l : Fin 1024) (z : Fin 1)

/-- The row that the whole arrays give. -/
abbrev rowA : Fin 1024 → EReal := rowF (fun k => x0 (ix2 r k)) (fun k l => x1 (ix2 k l)) (fun j => x2 (ix2 r j)) (fun j => x5 (ix2 0 j))

theorem ref5_at : @Eq EReal (val_main_v5 (F := Ideal) x0 x1 x2 x5 (ix2 r l))
    (rowA x0 x1 x2 x5 r l) := by
  pointwise [val_main_cst, val_main_v0, val_main_v1, val_main_v2, val_main_v3, val_main_v4, val_main_v5, val_main_cst_0, val_main_v6, val_main_v7, val_main_cst_1, val_main_v8, val_main_v9, val_main_v10, val_main_v11, val_main_v12, val_main_cst_2, val_main_v13, val_main_v14, val_main_cst_3, val_main_v15, val_main_v16, val_main_cst_4, val_main_v17, val_main_v18, val_main_v19, val_main_cst_5, val_main_v20, val_main_v21, val_main_cst_6, val_main_v22, val_main_v23, val_main_v24, val_main_v25, val_main_v26, val_main_cst_7, val_main_v27, val_main_v28, val_main_cst_8, val_main_v29, val_main_v30, val_main_v31, val_main_v32, val_main_cst_9, val_main_v33, val_main_v34, val_main_v35, val_main_v36, val_main_v37, val_main_v38, val_main_v39, val_main_v40, val_main_v41, val_main_v42, val_main_v43, val_main_v44, val_main_v45, val_main_v46]
  rfl

theorem ref9_at : @Eq EReal (val_main_v9 (F := Ideal) x0 x1 x2 x5 (ix2 r z))
    (lnMu (rowA x0 x1 x2 x5 r)) := by
  pointwise [val_main_cst, val_main_v0, val_main_v1, val_main_v2, val_main_v3, val_main_v4, val_main_cst_0, val_main_v6, val_main_v7, val_main_cst_1, val_main_v8, val_main_v9, val_main_v10, val_main_v11, val_main_v12, val_main_cst_2, val_main_v13, val_main_v14, val_main_cst_3, val_main_v15, val_main_v16, val_main_cst_4, val_main_v17, val_main_v18, val_main_v19, val_main_cst_5, val_main_v20, val_main_v21, val_main_cst_6, val_main_v22, val_main_v23, val_main_v24, val_main_v25, val_main_v26, val_main_cst_7, val_main_v27, val_main_v28, val_main_cst_8, val_main_v29, val_main_v30, val_main_v31, val_main_v32, val_main_cst_9, val_main_v33, val_main_v34, val_main_v35, val_main_v36, val_main_v37, val_main_v38, val_main_v39, val_main_v40, val_main_v41, val_main_v42, val_main_v43, val_main_v44, val_main_v45, val_main_v46]
  simp only [ref5_at]
  rfl

theorem ref23_at : @Eq EReal (val_main_v23 (F := Ideal) x0 x1 x2 x5 (ix2 r z))
    (lnMu (rowA x0 x1 x2 x5 r)) := by
  pointwise [val_main_cst, val_main_v0, val_main_v1, val_main_v2, val_main_v3, val_main_v4, val_main_cst_0, val_main_v6, val_main_v7, val_main_cst_1, val_main_v8, val_main_v10, val_main_v11, val_main_v12, val_main_cst_2, val_main_v13, val_main_v14, val_main_cst_3, val_main_v15, val_main_v16, val_main_cst_4, val_main_v17, val_main_v18, val_main_v19, val_main_cst_5, val_main_v20, val_main_v21, val_main_cst_6, val_main_v22, val_main_v23, val_main_v24, val_main_v25, val_main_v26, val_main_cst_7, val_main_v27, val_main_v28, val_main_cst_8, val_main_v29, val_main_v30, val_main_v31, val_main_v32, val_main_cst_9, val_main_v33, val_main_v34, val_main_v35, val_main_v36, val_main_v37, val_main_v38, val_main_v39, val_main_v40, val_main_v41, val_main_v42, val_main_v43, val_main_v44, val_main_v45, val_main_v46]
  simp only [ref5_at]
  rfl

theorem ref11_at : @Eq EReal (val_main_v11 (F := Ideal) x0 x1 x2 x5 (ix2 r l))
    (rowA x0 x1 x2 x5 r l - lnMu (rowA x0 x1 x2 x5 r)) := by
  pointwise [val_main_cst, val_main_v0, val_main_v1, val_main_v2, val_main_v3, val_main_v4, val_main_cst_0, val_main_v6, val_main_v7, val_main_cst_1, val_main_v8, val_main_v10, val_main_v11, val_main_v12, val_main_cst_2, val_main_v13, val_main_v14, val_main_cst_3, val_main_v15, val_main_v16, val_main_cst_4, val_main_v17, val_main_v18, val_main_v19, val_main_cst_5, val_main_v20, val_main_v21, val_main_cst_6, val_main_v22, val_main_v24, val_main_v25, val_main_v26, val_main_cst_7, val_main_v27, val_main_v28, val_main_cst_8, val_main_v29, val_main_v30, val_main_v31, val_main_v32, val_main_cst_9, val_main_v33, val_main_v34, val_main_v35, val_main_v36, val_main_v37, val_main_v38, val_main_v39, val_main_v40, val_main_v41, val_main_v42, val_main_v43, val_main_v44, val_main_v45, val_main_v46]
  simp only [ref5_at, ref9_at]

theorem ref19_at : @Eq EReal (val_main_v19 (F := Ideal) x0 x1 x2 x5 (ix2 r z))
    (lnRs (rowA x0 x1 x2 x5 r)) := by
  pointwise [val_main_cst, val_main_v0, val_main_v1, val_main_v2, val_main_v3, val_main_v4, val_main_cst_0, val_main_v6, val_main_v7, val_main_cst_1, val_main_v8, val_main_v10, val_main_v12, val_main_cst_2, val_main_v13, val_main_v14, val_main_cst_3, val_main_v15, val_main_v16, val_main_cst_4, val_main_v17, val_main_v18, val_main_v19, val_main_cst_5, val_main_v20, val_main_v21, val_main_cst_6, val_main_v22, val_main_v24, val_main_v25, val_main_v26, val_main_cst_7, val_main_v27, val_main_v28, val_main_cst_8, val_main_v29, val_main_v30, val_main_v31, val_main_v32, val_main_cst_9, val_main_v33, val_main_v34, val_main_v35, val_main_v36, val_main_v37, val_main_v38, val_main_v39, val_main_v40, val_main_v41, val_main_v42, val_main_v43, val_main_v44, val_main_v45, val_main_v46]
  simp only [ref11_at]
  rfl

theorem ref25_at : @Eq EReal (val_main_v25 (F := Ideal) x0 x1 x2 x5 (ix2 r l))
    (rowA x0 x1 x2 x5 r l - lnMu (rowA x0 x1 x2 x5 r)) := by
  pointwise [val_main_cst, val_main_v0, val_main_v1, val_main_v2, val_main_v3, val_main_v4, val_main_cst_0, val_main_v6, val_main_v7, val_main_cst_1, val_main_v8, val_main_v10, val_main_v12, val_main_cst_2, val_main_v13, val_main_v14, val_main_cst_3, val_main_v15, val_main_v16, val_main_cst_4, val_main_v17, val_main_v18, val_main_cst_5, val_main_v20, val_main_v21, val_main_cst_6, val_main_v22, val_main_v24, val_main_v25, val_main_v26, val_main_cst_7, val_main_v27, val_main_v28, val_main_cst_8, val_main_v29, val_main_v30, val_main_v31, val_main_v32, val_main_cst_9, val_main_v33, val_main_v34, val_main_v35, val_main_v36, val_main_v37, val_main_v38, val_main_v39, val_main_v40, val_main_v41, val_main_v42, val_main_v43, val_main_v44, val_main_v45, val_main_v46]
  simp only [ref5_at, ref23_at]

theorem ref35_at : @Eq EReal (val_main_v35 (F := Ideal) x0 x1 x2 x5 (ix2 r z))
    (lnRs (rowA x0 x1 x2 x5 r)) := by
  pointwise [val_main_cst, val_main_v0, val_main_v1, val_main_v2, val_main_v3, val_main_v4, val_main_cst_0, val_main_v6, val_main_v7, val_main_cst_1, val_main_v8, val_main_v10, val_main_v12, val_main_cst_2, val_main_v13, val_main_v14, val_main_cst_3, val_main_v15, val_main_v16, val_main_cst_4, val_main_v17, val_main_v18, val_main_cst_5, val_main_v20, val_main_v21, val_main_cst_6, val_main_v22, val_main_v24, val_main_v26, val_main_cst_7, val_main_v27, val_main_v28, val_main_cst_8, val_main_v29, val_main_v30, val_main_v31, val_main_v32, val_main_cst_9, val_main_v33, val_main_v34, val_main_v35, val_main_v36, val_main_v37, val_main_v38, val_main_v39, val_main_v40, val_main_v41, val_main_v42, val_main_v43, val_main_v44, val_main_v45, val_main_v46]
  simp only [ref25_at]
  rfl

theorem ref37_at : @Eq EReal (val_main_v37 (F := Ideal) x0 x1 x2 x5 (ix2 r l))
    (lnXh (rowA x0 x1 x2 x5 r) l) := by
  pointwise [val_main_cst, val_main_v0, val_main_v1, val_main_v2, val_main_v3, val_main_v4, val_main_cst_0, val_main_v6, val_main_v7, val_main_cst_1, val_main_v8, val_main_v10, val_main_v12, val_main_cst_2, val_main_v13, val_main_v14, val_main_cst_3, val_main_v15, val_main_v16, val_main_cst_4, val_main_v17, val_main_v18, val_main_cst_5, val_main_v20, val_main_v21, val_main_cst_6, val_main_v22, val_main_v24, val_main_v26, val_main_cst_7, val_main_v27, val_main_v28, val_main_cst_8, val_main_v29, val_main_v30, val_main_v31, val_main_v32, val_main_cst_9, val_main_v33, val_main_v34, val_main_v36, val_main_v37, val_main_v38, val_main_v39, val_main_v40, val_main_v41, val_main_v42, val_main_v43, val_main_v44, val_main_v45, val_main_v46]
  simp only [ref5_at, ref23_at, ref35_at]
  rfl

theorem ref46_at : @Eq EReal (val_main_v46 (F := Ideal) x0 x1 x2 x5 (ix2 r l))
    (lnXh (rowA x0 x1 x2 x5 r) l) := by
  pointwise [val_main_cst, val_main_v0, val_main_v1, val_main_v2, val_main_v3, val_main_v4, val_main_cst_0, val_main_v6, val_main_v7, val_main_cst_1, val_main_v8, val_main_v10, val_main_v12, val_main_cst_2, val_main_v13, val_main_v14, val_main_cst_3, val_main_v15, val_main_v16, val_main_cst_4, val_main_v17, val_main_v18, val_main_cst_5, val_main_v20, val_main_v21, val_main_cst_6, val_main_v22, val_main_v24, val_main_v26, val_main_cst_7, val_main_v27, val_main_v28, val_main_cst_8, val_main_v29, val_main_v30, val_main_v31, val_main_v32, val_main_cst_9, val_main_v33, val_main_v34, val_main_v36, val_main_v38, val_main_v39, val_main_v40, val_main_v41, val_main_v42, val_main_v43, val_main_v44, val_main_v45, val_main_v46]
  simp only [ref5_at, ref9_at, ref19_at]
  rfl

theorem ref41_at : @Eq EReal (val_main_v41 (F := Ideal) x0 x1 x2 x3 x4 x5 (ix2 r l))
    (lnXh (rowA x0 x1 x2 x5 r) l * x3 (ix2 0 l) + x4 (ix2 0 l)) := by
  pointwise [val_main_cst, val_main_v0, val_main_v1, val_main_v2, val_main_v3, val_main_v4, val_main_cst_0, val_main_v6, val_main_v7, val_main_cst_1, val_main_v8, val_main_v10, val_main_v12, val_main_cst_2, val_main_v13, val_main_v14, val_main_cst_3, val_main_v15, val_main_v16, val_main_cst_4, val_main_v17, val_main_v18, val_main_cst_5, val_main_v20, val_main_v21, val_main_cst_6, val_main_v22, val_main_v24, val_main_v26, val_main_cst_7, val_main_v27, val_main_v28, val_main_cst_8, val_main_v29, val_main_v30, val_main_v31, val_main_v32, val_main_cst_9, val_main_v33, val_main_v34, val_main_v36, val_main_v38, val_main_v39, val_main_v40, val_main_v41, val_main_v42, val_main_v43, val_main_v44, val_main_v45]
  simp only [ref37_at]

theorem ref42_at : @Eq EReal (val_main_v42 (F := Ideal) x0 x1 x2 x3 x4 x5 (ix2 r l))
    (lnXh (rowA x0 x1 x2 x5 r) l * x3 (ix2 0 l) + x4 (ix2 0 l)) := by
  pointwise [val_main_cst, val_main_v0, val_main_v1, val_main_v2, val_main_v3, val_main_v4, val_main_cst_0, val_main_v6, val_main_v7, val_main_cst_1, val_main_v8, val_main_v10, val_main_v12, val_main_cst_2, val_main_v13, val_main_v14, val_main_cst_3, val_main_v15, val_main_v16, val_main_cst_4, val_main_v17, val_main_v18, val_main_cst_5, val_main_v20, val_main_v21, val_main_cst_6, val_main_v22, val_main_v24, val_main_v26, val_main_cst_7, val_main_v27, val_main_v28, val_main_cst_8, val_main_v29, val_main_v30, val_main_v31, val_main_v32, val_main_cst_9, val_main_v33, val_main_v34, val_main_v36, val_main_v38, val_main_v39, val_main_v40, val_main_v42, val_main_v43, val_main_v44, val_main_v45]
  exact ref41_at x0 x1 x2 x3 x4 x5 r l

end

/-! ## The arrays -/

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] :=
  (by decide +kernel : ∀ t : Fin grid0.N, _)

theorem row_lt (t : Fin cfg0.N) (l : Fin 512) : t.val * 512 + l < 2048 := by
  have := lt_of_lt_of_eq t.isLt N_0
  omega

theorem hv0 (c : Dev nD) (i : S2048x1024.Idx) : @Eq EReal (V m c main_v0 i) (m ((c : Thread nD τ).loc main_arg0) i) := by
  simp only [V, hostOps0, List.flatten_cons, List.flatten_nil, List.append_nil]
  after_results
  pointwise

theorem hv1 (c : Dev nD) (i : S1024x1024.Idx) : @Eq EReal (V m c main_v1 i) (m ((c : Thread nD τ).loc main_arg1) i) := by
  simp only [V, hostOps0, List.flatten_cons, List.flatten_nil, List.append_nil]
  after_results
  pointwise

section
variable (c : Dev nD) (t : Fin cfg0.N) (r : Fin 512)

theorem blk0 (k : Fin 1024) : @Eq EReal (iblk m c 0 t (ix2 r k : S512x1024.Idx))
    (m ((c : Thread nD τ).loc main_arg0) (ix2 ⟨t.val * 512 + r, row_lt t r⟩ k : S2048x1024.Idx)) := by
  rw [show iblk m c 0 t (ix2 r k : S512x1024.Idx) = V m c main_v0 (ix2 ⟨t.val * 512 + r, row_lt t r⟩ k : S2048x1024.Idx) by blk_ext [iblk, idx t]]
  exact hv0 m c _

theorem blk1 (k l : Fin 1024) : @Eq EReal (iblk m c 1 t (ix2 k l : S1024x1024.Idx)) (m ((c : Thread nD τ).loc main_arg1) (ix2 k l : S1024x1024.Idx)) := by
  rw [show iblk m c 1 t (ix2 k l : S1024x1024.Idx) = V m c main_v1 (ix2 k l : S1024x1024.Idx) by blk_ext [iblk, idx t]]
  exact hv1 m c _

theorem blk2 (l : Fin 1024) : @Eq EReal (iblk m c 2 t (ix2 r l : S512x1024.Idx))
    (m ((c : Thread nD τ).loc main_arg2) (ix2 ⟨t.val * 512 + r, row_lt t r⟩ l : S2048x1024.Idx)) := by
  blk_point [iblk, V, idx t]

theorem blk3 (l : Fin 1024) : @Eq EReal (iblk m c 3 t (ix2 0 l : S1x1024.Idx)) (m ((c : Thread nD τ).loc main_arg3) (ix2 0 l : S1x1024.Idx)) := by
  blk_point [iblk, V, idx t]

theorem blk4 (l : Fin 1024) : @Eq EReal (iblk m c 4 t (ix2 0 l : S1x1024.Idx)) (m ((c : Thread nD τ).loc main_arg4) (ix2 0 l : S1x1024.Idx)) := by
  blk_point [iblk, V, idx t]

theorem blk5 (l : Fin 1024) : @Eq EReal (iblk m c 5 t (ix2 0 l : S1x1024.Idx)) (m ((c : Thread nD τ).loc main_arg5) (ix2 0 l : S1x1024.Idx)) := by
  blk_point [iblk, V, idx t]

/-- A block's row is the whole arrays' row. -/
theorem row_eq : rowB (iblk m c 0 t) (iblk m c 1 t) (iblk m c 2 t) (iblk m c 5 t) r
    = rowA (m ((c : Thread nD τ).loc main_arg0)) (m ((c : Thread nD τ).loc main_arg1)) (m ((c : Thread nD τ).loc main_arg2))
        (m ((c : Thread nD τ).loc main_arg5)) ⟨t.val * 512 + r, row_lt t r⟩ := by
  unfold rowB rowA
  simp only [blk0, blk1, blk2, blk5]

end

open Cert.OutFwdRefIdeal.Read in
theorem final6 (c : Dev nD) : (dats m 0 c).arrAt 6 (cfgs 0).N = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  frame_out
  idx_vars y
  rw [show ((cfg0.win 6).blk t).view.emb (ix2 y0 y1 : S512x1024.Idx) = (ix2 ⟨t.val * 512 + y0, row_lt t y0⟩ y1 : S2048x1024.Idx) by blk_ext [idx t]]
  refine (pay5_at _ _ _ _ y0 y1 _ _).trans (Eq.trans ?_ (ref41_at _ _ _ _ _ _ _ y1).symm)
  rw [row_eq, blk3, blk4]

open Cert.OutFwdRefIdeal.Read in
theorem final7 (c : Dev nD) : (dats m 0 c).arrAt 7 (cfgs 0).N = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  frame_out
  idx_vars y
  rw [show ((cfg0.win 7).blk t).view.emb (ix2 y0 y1 : S512x1024.Idx) = (ix2 ⟨t.val * 512 + y0, row_lt t y0⟩ y1 : S2048x1024.Idx) by blk_ext [idx t]]
  refine (pay1_at _ _ _ _ y0 y1 _ _).trans (Eq.trans ?_ (ref42_at _ _ _ _ _ _ _ y1).symm)
  rw [row_eq, blk3, blk4]

open Cert.OutFwdRefIdeal.Read in
theorem final8 (c : Dev nD) : (dats m 0 c).arrAt 8 (cfgs 0).N = val_main_v46 (F := Ideal) (m ((c : Thread nD τ).loc main_arg0)) (m ((c : Thread nD τ).loc main_arg1)) (m ((c : Thread nD τ).loc main_arg2)) (m ((c : Thread nD τ).loc main_arg5)) := by
  refine (dats m 0 c).arrAt_eq_of_covers 8 _ (by decide +kernel) fun t _ y => ?_
  blk_simp
  rw [after0_8]
  frame_out
  idx_vars y
  rw [show ((cfg0.win 8).blk t).view.emb (ix2 y0 y1 : S512x1024.Idx) = (ix2 ⟨t.val * 512 + y0, row_lt t y0⟩ y1 : S2048x1024.Idx) by blk_ext [idx t]]
  refine (pay4_at _ _ _ _ y0 y1).trans (Eq.trans ?_ (ref46_at _ _ _ _ _ y1).symm)
  rw [row_eq]

open Cert.OutFwdRefIdeal.Read in
theorem final9 (c : Dev nD) : (dats m 0 c).arrAt 9 (cfgs 0).N = val_main_v19 (F := Ideal) (m ((c : Thread nD τ).loc main_arg0)) (m ((c : Thread nD τ).loc main_arg1)) (m ((c : Thread nD τ).loc main_arg2)) (m ((c : Thread nD τ).loc main_arg5)) := by
  refine (dats m 0 c).arrAt_eq_of_covers 9 _ (by decide +kernel) fun t _ y => ?_
  blk_simp
  rw [after0_9]
  frame_out
  idx_vars y
  obtain rfl : y1 = 0 := Subsingleton.elim _ _
  rw [show ((cfg0.win 9).blk t).view.emb (ix2 y0 0 : S512x1.Idx) = (ix2 ⟨t.val * 512 + y0, row_lt t y0⟩ 0 : S2048x1.Idx) by blk_ext [idx t]]
  refine (pay3_at _ _ _ _ y0).trans (Eq.trans ?_ (ref19_at _ _ _ _ _ 0).symm)
  rw [row_eq]

end Cert.OutFwdIdeal.Hand

namespace Cert.Proof

open Idealize.ShloMosaic Idealize.SL.Sem

set_option maxHeartbeats 4000000 in
theorem algebraic_OutFwd [Cert.OutFwdIdeal.Facts] [Cert.OutFwdRefIdeal.Facts] : Cert.algebraic_OutFwdIdeal_OutFwdRefIdeal := by
  intro m g m' g' _ hagree
  refine ⟨fun c => (Cert.OutFwdIdeal.Gen.dats m 0 c).arrAt 6 (Cert.OutFwdIdeal.cfgs 0).N,
    fun c => (Cert.OutFwdIdeal.Gen.dats m 0 c).arrAt 7 (Cert.OutFwdIdeal.cfgs 0).N,
    fun c => (Cert.OutFwdIdeal.Gen.dats m 0 c).arrAt 8 (Cert.OutFwdIdeal.cfgs 0).N,
    fun c => (Cert.OutFwdIdeal.Gen.dats m 0 c).arrAt 9 (Cert.OutFwdIdeal.cfgs 0).N, ?_, ?_⟩
  · exact (θ_run _ _ _).mono (fun r h c => ⟨(h.1 c).1 6, (h.1 c).1 7, (h.1 c).1 8, (h.1 c).1 9, h.2 c⟩)
      (θ_run_and (Cert.OutFwdIdeal.Gen.run_main m g) (Cert.OutFwdIdeal.Gen.unchanged m g))
  · refine (θ_run _ _ _).mono (fun r h c => ⟨((h c).1).trans ?_, ((h c).2.1).trans ?_, ((h c).2.2.1).trans ?_, ((h c).2.2.2.1).trans ?_, (h c).2.2.2.2⟩) (Cert.OutFwdRefIdeal.Value.run m' g')
    · refine (Cert.OutFwdRefIdeal.Read.val_main_v41_eq _ _ _ _ _ _).trans ?_
      rw [(hagree c).1, (hagree c).2.1, (hagree c).2.2.1, (hagree c).2.2.2.1, (hagree c).2.2.2.2.1, (hagree c).2.2.2.2.2]
      exact (Cert.OutFwdIdeal.Hand.final6 m c).symm
    · refine (Cert.OutFwdRefIdeal.Read.val_main_v42_eq _ _ _ _ _ _).trans ?_
      rw [(hagree c).1, (hagree c).2.1, (hagree c).2.2.1, (hagree c).2.2.2.1, (hagree c).2.2.2.2.1, (hagree c).2.2.2.2.2]
      exact (Cert.OutFwdIdeal.Hand.final7 m c).symm
    · refine (Cert.OutFwdRefIdeal.Read.val_main_v46_eq _ _ _ _).trans ?_
      rw [(hagree c).1, (hagree c).2.1, (hagree c).2.2.1, (hagree c).2.2.2.2.2]
      exact (Cert.OutFwdIdeal.Hand.final8 m c).symm
    · refine (Cert.OutFwdRefIdeal.Read.val_main_v19_eq _ _ _ _).trans ?_
      rw [(hagree c).1, (hagree c).2.1, (hagree c).2.2.1, (hagree c).2.2.2.2.2]
      exact (Cert.OutFwdIdeal.Hand.final9 m c).symm

end Cert.Proof

end
-- ==== Proof.GateFwd.lean ====
/- The gated short convolution (`short_conv_gate`): the kernel's array is the reference's. -/
module

public import proofs.«01_k».proof.Defs
public import proofs.«01_k».proof.Proof.Gen.GateFwdIdeal.Value
public import proofs.«01_k».proof.Proof.Gen.GateFwdRefIdeal.Read
public import proofs.«01_k».proof.Proof.Sc
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.GateFwdIdeal.Hand

open Cert.GateFwdIdeal Cert.GateFwdIdeal.Gen Idealize.ShloMosaic Idealize.ShloMosaic.TcCoe Idealize.SL.Sem
open Idealize.ShloMosaic.Pipeline (Dat)
open Cert.ScBwdIdeal.Hand (down conv down1 down2 conv_ref)

variable (m : (ℓ : Loc nD τ sig) → Buf (Elt Ideal) ℓ)

/-- The gate of a column's convolved product. -/
def gate (b c h : Fin 2048 → EReal) (w : Fin 3 → EReal) (r : Fin 2048) : EReal :=
  b r * conv (w 0) (w 1) (w 2) (fun x => c x * h x) r

theorem out4_at (b c h : FVec Ideal S2048x256 .f32) (w : FVec Ideal S3x256 .f32) (r : Fin 2048) (l : Fin 256) :
    @Eq EReal (out0_4 (F := Ideal) b c h w (ix2 r l))
      (gate (fun x => b (ix2 x l)) (fun x => c (ix2 x l)) (fun x => h (ix2 x l)) (fun k => w (ix2 k l)) r) := by
  unfold out0_4
  canon_tiles y hy
  all_goals
    idx_vars y
    open_payloads
    pointwise
    obtain rfl : r = y0 := Fin.ext hy0
    obtain rfl : l = y1 := Fin.ext hy1
  exact congrArg (b (ix2 r l) * ·) (congrArg₂ (· + ·) (congrArg₂ (· + ·)
    (down2 _ (fun x => c (ix2 x l) * h (ix2 x l)) r _ rfl)
    (down1 _ (fun x => c (ix2 x l) * h (ix2 x l)) r _ rfl)) rfl)

section
open Cert.GateFwdRefIdeal.Read
variable (x0 : FVec Ideal S2048x3072 .f32) (x1 : FVec Ideal S3x1024 .f32) (r : Fin 2048) (l : Fin 1024)

theorem ref29_at : @Eq EReal (val_main_v29 (F := Ideal) x0 x1 (ix2 r l))
    (gate (fun x => x0 (ix2 x ⟨l, by omega⟩)) (fun x => x0 (ix2 x ⟨1024 + l, by omega⟩)) (fun x => x0 (ix2 x ⟨2048 + l, by omega⟩)) (fun k => x1 (ix2 k l)) r) := by
  pointwise [val_main_v0, val_main_v1, val_main_v2, val_main_v3, val_main_cst, val_main_v4, val_main_v5, val_main_v6, val_main_v7, val_main_v8, val_main_v9, val_main_v10, val_main_v11, val_main_cst_0, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29]
  refine congrArg (x0 (ix2 r ⟨l, by omega⟩) * ·) (conv_ref _ _ _ _ _ _ (fun x => x0 (ix2 x ⟨1024 + l, by omega⟩) * x0 (ix2 x ⟨2048 + l, by omega⟩)) r rfl ?_ rfl)
  unfold down
  by_cases h : (r : ℕ) < 1
  · rw [dif_pos h, dif_pos (by omega)]
  · rw [dif_neg h, dif_neg (by omega)]
    simp only [show 1 + (r : ℕ) - 2 = (r : ℕ) - 1 by omega]

end

theorem idx : ∀ t : Fin cfg0.N, win0_0.index t = ![0, t.val] ∧ win0_1.index t = ![0, t.val + 4] ∧ win0_2.index t = ![0, t.val + 8]
    ∧ win0_3.index t = ![0, t.val] ∧ win0_4.index t = ![0, t.val] :=
  (by decide +kernel : ∀ t : Fin grid0.N, _)

theorem col_lt (t : Fin cfg0.N) (l : Fin 256) : t.val * 256 + l < 1024 := by
  have := lt_of_lt_of_eq t.isLt N_0
  omega

section
variable (c : Dev nD) (t : Fin cfg0.N) (r : Fin 2048) (l : Fin 256)

theorem blk0 : @Eq EReal (iblk m c 0 t (ix2 r l : S2048x256.Idx))
    (m ((c : Thread nD τ).loc main_arg0) (ix2 r ⟨t.val * 256 + l, (col_lt t l).trans (by decide)⟩ : S2048x3072.Idx)) := by
  blk_point [iblk, V, idx t]

theorem blk1 : @Eq EReal (iblk m c 1 t (ix2 r l : S2048x256.Idx))
    (m ((c : Thread nD τ).loc main_arg0) (ix2 r ⟨1024 + (t.val * 256 + l), by have := col_lt t l; omega⟩ : S2048x3072.Idx)) := by
  blk_point [iblk, V, idx t]

theorem blk2 : @Eq EReal (iblk m c 2 t (ix2 r l : S2048x256.Idx))
    (m ((c : Thread nD τ).loc main_arg0) (ix2 r ⟨2048 + (t.val * 256 + l), by have := col_lt t l; omega⟩ : S2048x3072.Idx)) := by
  blk_point [iblk, V, idx t]

theorem blk3 (k : Fin 3) : @Eq EReal (iblk m c 3 t (ix2 k l : S3x256.Idx))
    (m ((c : Thread nD τ).loc main_arg1) (ix2 k ⟨t.val * 256 + l, col_lt t l⟩ : S3x1024.Idx)) := by
  blk_point [iblk, V, idx t]

end

open Cert.GateFwdRefIdeal.Read in
theorem final4 (c : Dev nD) : (dats m 0 c).arrAt 4 (cfgs 0).N = val_main_v29 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  idx_vars y
  rw [show ((cfg0.win 4).blk t).view.emb (ix2 y0 y1 : S2048x256.Idx) = (ix2 y0 ⟨t.val * 256 + y1, col_lt t y1⟩ : S2048x1024.Idx) by blk_ext [idx t]]
  refine (out4_at _ _ _ _ y0 y1).trans (Eq.trans ?_ (ref29_at _ _ y0 _).symm)
  simp only [blk0, blk1, blk2, blk3]

end Cert.GateFwdIdeal.Hand

namespace Cert.Proof

open Idealize.ShloMosaic Idealize.SL.Sem

set_option maxHeartbeats 4000000 in
theorem algebraic_GateFwd [Cert.GateFwdIdeal.Facts] [Cert.GateFwdRefIdeal.Facts] : Cert.algebraic_GateFwdIdeal_GateFwdRefIdeal := by
  intro m g m' g' _ hagree
  refine ⟨fun c => (Cert.GateFwdIdeal.Gen.dats m 0 c).arrAt 4 (Cert.GateFwdIdeal.cfgs 0).N, ?_, ?_⟩
  · exact (θ_run _ _ _).mono (fun r h c => ⟨(h.1 c).1 4, h.2 c⟩)
      (θ_run_and (Cert.GateFwdIdeal.Gen.run_main m g) (Cert.GateFwdIdeal.Gen.unchanged m g))
  · refine (θ_run _ _ _).mono (fun r h c => ⟨((h c).1).trans ?_, (h c).2⟩) (Cert.GateFwdRefIdeal.Value.run m' g')
    · refine (Cert.GateFwdRefIdeal.Read.val_main_v29_eq _ _).trans ?_
      rw [(hagree c).1, (hagree c).2]
      exact (Cert.GateFwdIdeal.Hand.final4 m c).symm

end Cert.Proof

end
-- ==== Proof.SwishFwd.lean ====
/- The convolution module's layer norm and swish (`conformer_norm_swish`): the kernel's array is the reference's. -/
module

public import proofs.«01_k».proof.Defs
public import proofs.«01_k».proof.Proof.Gen.SwishFwdIdeal.Value
public import proofs.«01_k».proof.Proof.Gen.SwishFwdRefIdeal.Read
public import proofs.«01_k».proof.Proof.LnMath
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.SwishFwdIdeal.Hand

open Cert.SwishFwdIdeal Cert.SwishFwdIdeal.Gen Idealize.ShloMosaic Idealize.ShloMosaic.TcCoe Idealize.SL.Sem
open Idealize.ShloMosaic.Pipeline (Dat)
open Cert.Proof

variable (m : (ℓ : Loc nD τ sig) → Buf (Elt Ideal) ℓ)

/-- The swish of a normalised row with its gain and bias. -/
def swish (x g b : Fin 1024 → EReal) (l : Fin 1024) : EReal :=
  (lnXh x l * g l + b l) * sgm (lnXh x l * g l + b l)

theorem pay1_at (v0 : FVec Ideal S512x1024 .f32) (v1 v2 : FVec Ideal S1x1024 .f32) (r : Fin 512) (l : Fin 1024) :
    @Eq EReal (k0_pay1 (F := Ideal) v0 v1 v2 (ix2 r l))
      (swish (fun j => v0 (ix2 r j)) (fun j => v1 (ix2 0 j)) (fun j => v2 (ix2 0 j)) l) := by
  unfold k0_pay1
  pointwise
  rfl

section
open Cert.SwishFwdRefIdeal.Read
variable (x0 : FVec Ideal S2048x1024 .f32) (x1 x2 : FVec Ideal S1x1024 .f32) (r : Fin 2048) (l : Fin 1024) (z : Fin 1)

/-- A row of the argument. -/
abbrev rowA : Fin 1024 → EReal := fun j => x0 (ix2 r j)

theorem ref3_at : @Eq EReal (val_main_v3 (F := Ideal) x0 (ix2 r z))
    (lnMu (rowA x0 r)) := by
  pointwise [val_main_cst, val_main_v0, val_main_v1, val_main_cst_0, val_main_v2, val_main_v3, val_main_v4, val_main_v5, val_main_v6, val_main_cst_1, val_main_v7, val_main_v8, val_main_cst_2, val_main_v9, val_main_v10, val_main_v11, val_main_v12, val_main_cst_3, val_main_v13, val_main_v14, val_main_v15, val_main_v16, val_main_v17, val_main_v18, val_main_v19, val_main_v20, val_main_v21, val_main_call0_v0, val_main_call0_v1, val_main_call0_cst, val_main_call0_v2, val_main_call0_v3, val_main_call0_cst_0, val_main_call0_v4, val_main_call0_v5, val_main_v22, val_main_v23]
  rfl

theorem ref5_at : @Eq EReal (val_main_v5 (F := Ideal) x0 (ix2 r l))
    (x0 (ix2 r l) - lnMu (rowA x0 r)) := by
  pointwise [val_main_cst, val_main_v0, val_main_v1, val_main_cst_0, val_main_v2, val_main_v4, val_main_v5, val_main_v6, val_main_cst_1, val_main_v7, val_main_v8, val_main_cst_2, val_main_v9, val_main_v10, val_main_v11, val_main_v12, val_main_cst_3, val_main_v13, val_main_v14, val_main_v15, val_main_v16, val_main_v17, val_main_v18, val_main_v19, val_main_v20, val_main_v21, val_main_call0_v0, val_main_call0_v1, val_main_call0_cst, val_main_call0_v2, val_main_call0_v3, val_main_call0_cst_0, val_main_call0_v4, val_main_call0_v5, val_main_v22, val_main_v23]
  simp only [ref3_at]

theorem ref15_at : @Eq EReal (val_main_v15 (F := Ideal) x0 (ix2 r z))
    (lnRs (rowA x0 r)) := by
  pointwise [val_main_cst, val_main_v0, val_main_v1, val_main_cst_0, val_main_v2, val_main_v4, val_main_v6, val_main_cst_1, val_main_v7, val_main_v8, val_main_cst_2, val_main_v9, val_main_v10, val_main_v11, val_main_v12, val_main_cst_3, val_main_v13, val_main_v14, val_main_v15, val_main_v16, val_main_v17, val_main_v18, val_main_v19, val_main_v20, val_main_v21, val_main_call0_v0, val_main_call0_v1, val_main_call0_cst, val_main_call0_v2, val_main_call0_v3, val_main_call0_cst_0, val_main_call0_v4, val_main_call0_v5, val_main_v22, val_main_v23]
  simp only [ref5_at]
  rfl

theorem ref17_at : @Eq EReal (val_main_v17 (F := Ideal) x0 (ix2 r l))
    (lnXh (rowA x0 r) l) := by
  pointwise [val_main_cst, val_main_v0, val_main_v1, val_main_cst_0, val_main_v2, val_main_v4, val_main_v6, val_main_cst_1, val_main_v7, val_main_v8, val_main_cst_2, val_main_v9, val_main_v10, val_main_v11, val_main_v12, val_main_cst_3, val_main_v13, val_main_v14, val_main_v16, val_main_v17, val_main_v18, val_main_v19, val_main_v20, val_main_v21, val_main_call0_v0, val_main_call0_v1, val_main_call0_cst, val_main_call0_v2, val_main_call0_v3, val_main_call0_cst_0, val_main_call0_v4, val_main_call0_v5, val_main_v22, val_main_v23]
  simp only [ref3_at, ref15_at]
  rfl

theorem ref23_at : @Eq EReal (val_main_v23 (F := Ideal) x0 x1 x2 (ix2 r l))
    (swish (rowA x0 r) (fun j => x1 (ix2 0 j)) (fun j => x2 (ix2 0 j)) l) := by
  pointwise [val_main_cst, val_main_v0, val_main_v1, val_main_cst_0, val_main_v2, val_main_v4, val_main_v6, val_main_cst_1, val_main_v7, val_main_v8, val_main_cst_2, val_main_v9, val_main_v10, val_main_v11, val_main_v12, val_main_cst_3, val_main_v13, val_main_v14, val_main_v16, val_main_v18, val_main_v19, val_main_v20, val_main_v21, val_main_call0_v0, val_main_call0_v1, val_main_call0_cst, val_main_call0_v2, val_main_call0_v3, val_main_call0_cst_0, val_main_call0_v4, val_main_call0_v5, val_main_v22, val_main_v23]
  simp only [ref17_at]
  rfl

end

theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

theorem row_lt (t : Fin cfg0.N) (l : Fin 512) : t.val * 512 + l < 2048 := by
  have := lt_of_lt_of_eq t.isLt N_0
  omega

section
variable (c : Dev nD) (t : Fin cfg0.N)

theorem blk0 (r : Fin 512) (l : Fin 1024) : @Eq EReal (iblk m c 0 t (ix2 r l : S512x1024.Idx))
    (m ((c : Thread nD τ).loc main_arg0) (ix2 ⟨t.val * 512 + r, row_lt t r⟩ l : S2048x1024.Idx)) := by
  blk_point [iblk, V, idx t]

theorem blk1 (l : Fin 1024) : @Eq EReal (iblk m c 1 t (ix2 0 l : S1x1024.Idx)) (m ((c : Thread nD τ).loc main_arg1) (ix2 0 l : S1x1024.Idx)) := by
  blk_point [iblk, V, idx t]

theorem blk2 (l : Fin 1024) : @Eq EReal (iblk m c 2 t (ix2 0 l : S1x1024.Idx)) (m ((c : Thread nD τ).loc main_arg2) (ix2 0 l : S1x1024.Idx)) := by
  blk_point [iblk, V, idx t]

end

open Cert.SwishFwdRefIdeal.Read in
theorem final3 (c : Dev nD) : (dats m 0 c).arrAt 3 (cfgs 0).N = val_main_v23 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  idx_vars y
  rw [show ((cfg0.win 3).blk t).view.emb (ix2 y0 y1 : S512x1024.Idx) = (ix2 ⟨t.val * 512 + y0, row_lt t y0⟩ y1 : S2048x1024.Idx) by blk_ext [idx t]]
  refine (pay1_at _ _ _ y0 y1).trans (Eq.trans ?_ (ref23_at _ _ _ _ y1).symm)
  simp only [blk0, blk1, blk2]

end Cert.SwishFwdIdeal.Hand

namespace Cert.Proof

open Idealize.ShloMosaic Idealize.SL.Sem

set_option maxHeartbeats 4000000 in
theorem algebraic_SwishFwd [Cert.SwishFwdIdeal.Facts] [Cert.SwishFwdRefIdeal.Facts] : Cert.algebraic_SwishFwdIdeal_SwishFwdRefIdeal := by
  intro m g m' g' _ hagree
  refine ⟨fun c => (Cert.SwishFwdIdeal.Gen.dats m 0 c).arrAt 3 (Cert.SwishFwdIdeal.cfgs 0).N, ?_, ?_⟩
  · exact (θ_run _ _ _).mono (fun r h c => ⟨(h.1 c).1 3, h.2 c⟩)
      (θ_run_and (Cert.SwishFwdIdeal.Gen.run_main m g) (Cert.SwishFwdIdeal.Gen.unchanged m g))
  · refine (θ_run _ _ _).mono (fun r h c => ⟨((h c).1).trans ?_, (h c).2⟩) (Cert.SwishFwdRefIdeal.Value.run m' g')
    · refine (Cert.SwishFwdRefIdeal.Read.val_main_v23_eq _ _ _).trans ?_
      rw [(hagree c).1, (hagree c).2.1, (hagree c).2.2]
      exact (Cert.SwishFwdIdeal.Hand.final3 m c).symm

end Cert.Proof

end
-- ==== Proof.RopeMath.lean ====
/- The rotary embedding of a row as a body computes it, by two rotations of 128 padded lanes and a selection, and as the
   reference does, over the two halves of 64 lanes; they are one. Nothing here names a program. -/
module

public import Idealize.ShloMosaic.Lib.WordCmp
public import Idealize.ShloMosaic.Lib.Pointwise
public import Idealize.ShloMosaic.Lib.IdealHost

@[expose] public section

noncomputable section

namespace Cert.Proof

open Idealize.ShloMosaic

/-- The padding's word is zero. -/
theorem pad_word : (FloatOps.sitofp (F := Ideal) FTy.f32 (0#32) : EReal) = 0 := by
  show (((0#32).toInt : ℝ) : EReal) = 0
  simp

/-- A row of cosines over 128 lanes: twice the half's, then zero. -/
def cosL (C : Fin 32 → EReal) (w : Fin 128) : EReal :=
  if h : (w : ℕ) < 32 then C ⟨w, h⟩ else if h : (w : ℕ) < 64 then C ⟨w - 32, by omega⟩ else 0

/-- A row of sines over 128 lanes: the half's with the sign turned, the half's, then zero. -/
def sinL (S : Fin 32 → EReal) (w : Fin 128) : EReal :=
  if h : (w : ℕ) < 32 then - S ⟨w, h⟩ else if h : (w : ℕ) < 64 then S ⟨w - 32, by omega⟩ else 0

/-- A lane of the body's embedding. -/
def turn (x : Fin 128 → EReal) (a b : EReal) (w : Fin 128) : EReal :=
  x w * a + Scalar.select (IntOp.cmpi CmpIPredicate.slt (BitVec.ofNat 32 (w : ℕ)) 32#32)
    (x ⟨((w : ℕ) + 128 - 96) % 128, Nat.mod_lt _ (by decide)⟩) (x ⟨((w : ℕ) + 128 - 32) % 128, Nat.mod_lt _ (by decide)⟩) * b

/-- A lane of the reference's embedding. -/
def rope (K : Fin 64 → EReal) (C S : Fin 32 → EReal) (w : Fin 64) : EReal :=
  if h : (w : ℕ) < 32 then K w * C ⟨w, h⟩ - K ⟨w + 32, by omega⟩ * S ⟨w, h⟩
  else K ⟨w - 32, by omega⟩ * S ⟨w - 32, by omega⟩ + K w * C ⟨w - 32, by omega⟩

theorem turn_lo (x : Fin 128 → EReal) (a b : EReal) (w : Fin 128) (h : (w : ℕ) < 32) :
    turn x a b w = x w * a + x ⟨(w : ℕ) + 32, by omega⟩ * b := by
  have e : IntOp.cmpi CmpIPredicate.slt (BitVec.ofNat 32 (w : ℕ)) 32#32 = 1#1 := by
    simp (disch := omega) only [hlo_ix]
    simp [h]
  have e2 : (⟨((w : ℕ) + 128 - 96) % 128, Nat.mod_lt _ (by decide)⟩ : Fin 128) = ⟨(w : ℕ) + 32, by omega⟩ :=
    Fin.ext (by show ((w : ℕ) + 128 - 96) % 128 = (w : ℕ) + 32; omega)
  rw [turn, e, e2]; rfl

theorem turn_hi (x : Fin 128 → EReal) (a b : EReal) (w : Fin 128) (h : ¬ (w : ℕ) < 32) :
    turn x a b w = x w * a + x ⟨(w : ℕ) - 32, by omega⟩ * b := by
  have e : IntOp.cmpi CmpIPredicate.slt (BitVec.ofNat 32 (w : ℕ)) 32#32 = 0#1 := by
    simp (disch := omega) only [hlo_ix]
    simp [h]
  have e2 : (⟨((w : ℕ) + 128 - 32) % 128, Nat.mod_lt _ (by decide)⟩ : Fin 128) = ⟨(w : ℕ) - 32, by omega⟩ :=
    Fin.ext (by show ((w : ℕ) + 128 - 32) % 128 = (w : ℕ) - 32; omega)
  rw [turn, e, e2]; rfl

/-- Over a row whose first 64 lanes are `K`, the body's embedding is the reference's, then zero. -/
theorem turn_eq (x : Fin 128 → EReal) (K : Fin 64 → EReal) (C S : Fin 32 → EReal) (hx : ∀ k : Fin 64, x ⟨k, by omega⟩ = K k) (w : Fin 128) :
    turn x (cosL C w) (sinL S w) w = if h : (w : ℕ) < 64 then rope K C S ⟨w, h⟩ else 0 := by
  unfold cosL sinL rope
  by_cases h1 : (w : ℕ) < 32
  · have h2 : (w : ℕ) < 64 := by omega
    refine (turn_lo _ _ _ w h1).trans ?_
    simp only [dif_pos h1, dif_pos h2]
    rw [← hx ⟨w, h2⟩, ← hx ⟨(w : ℕ) + 32, by omega⟩, mul_neg, ← sub_eq_add_neg]
  · refine (turn_hi _ _ _ w h1).trans ?_
    by_cases h2 : (w : ℕ) < 64
    · simp only [dif_neg h1, dif_pos h2]
      rw [← hx ⟨w, h2⟩, ← hx ⟨(w : ℕ) - 32, by omega⟩, add_comm]
    · simp only [dif_neg h1, dif_neg h2, mul_zero, add_zero]

end Cert.Proof

end
-- ==== Proof.LatentsFwd.lean ====
/- The latents' two RMS norms and the shared key's rotary embedding (`mla_latents`): the kernel's three arrays are the
   reference's. -/
module

public import proofs.«01_k».proof.Defs
public import proofs.«01_k».proof.Proof.Gen.LatentsFwdIdeal.Value
public import proofs.«01_k».proof.Proof.Gen.LatentsFwdRefIdeal.Read
public import proofs.«01_k».proof.Proof.RmsMath
public import proofs.«01_k».proof.Proof.RopeMath
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.LatentsFwdIdeal.Hand

open Cert.LatentsFwdIdeal Cert.LatentsFwdIdeal.Gen Idealize.ShloMosaic Idealize.ShloMosaic.TcCoe Idealize.SL.Sem
open Idealize.ShloMosaic.Pipeline (Dat)
open Cert.Proof

variable (m : (ℓ : Loc nD τ sig) → Buf (Elt Ideal) ℓ)

/-- The cosines and sines of the rotary embedding, as the reference's own lines compute them. -/
abbrev COS : FVec Ideal S2048x32 .f32 := Cert.LatentsFwdRefIdeal.Read.val_main_v16 (F := Ideal)
abbrev SIN : FVec Ideal S2048x32 .f32 := Cert.LatentsFwdRefIdeal.Read.val_main_v17 (F := Ideal)

theorem cosL_of (C : FVec Ideal S2048x32 .f32) (r : Fin 2048) (l : Fin 128) : @Eq EReal (concatenate S2048x128 1 [⟨S2048x32, C⟩, ⟨S2048x32, C⟩,
    ⟨S2048x64, broadcastInDim S2048x64 ![] bcast_S_S2048x64 (constant (F := Ideal) S_ .f32 0x00000000#32)⟩]
    concatenates_S2048x32_S2048x32_S2048x64_S2048x128_d1 (ix2 r l)) (cosL (fun k => C (ix2 r k)) l) := by
  pointwise
  unfold cosL
  by_cases h1 : (l : ℕ) < 32
  · simp only [dif_pos h1]
  · by_cases h2 : (l : ℕ) < 64
    · simp only [dif_neg h1, dif_pos h2, dif_pos (show (l : ℕ) - 32 < 32 by omega)]
    · simp only [dif_neg h1, dif_neg h2, dif_neg (show ¬ (l : ℕ) - 32 < 32 by omega)]

theorem sinL_of (C : FVec Ideal S2048x32 .f32) (r : Fin 2048) (l : Fin 128) : @Eq EReal (concatenate S2048x128 1 [⟨S2048x32, Host.negf C⟩, ⟨S2048x32, C⟩,
    ⟨S2048x64, broadcastInDim S2048x64 ![] bcast_S_S2048x64 (constant (F := Ideal) S_ .f32 0x00000000#32)⟩]
    concatenates_S2048x32_S2048x32_S2048x64_S2048x128_d1 (ix2 r l)) (sinL (fun k => C (ix2 r k)) l) := by
  pointwise
  unfold sinL
  by_cases h1 : (l : ℕ) < 32
  · simp only [dif_pos h1]
  · by_cases h2 : (l : ℕ) < 64
    · simp only [dif_neg h1, dif_pos h2, dif_pos (show (l : ℕ) - 32 < 32 by omega)]
    · simp only [dif_neg h1, dif_neg h2, dif_neg (show ¬ (l : ℕ) - 32 < 32 by omega)]

set_option maxHeartbeats 1600000 in
theorem cf_at (c : Dev nD) (r : Fin 2048) (l : Fin 128) : @Eq EReal (V m c main_v19 (ix2 r l : S2048x128.Idx)) (cosL (fun k => COS (ix2 r k)) l) := by
  refine Eq.trans (congrFun ?_ _) (cosL_of COS r l)
  simp only [V, hostOps0, hostOps0_1, hostOps0_2, List.flatten_cons, List.flatten_nil, List.append_nil, List.cons_append, List.nil_append, StableHlo.TRef.binary,
    StableHlo.TRef.unary, StableHlo.TRef.toBuf, StableHlo.TRef.ofBuf, cast_eq]
  after_results
  rfl

set_option maxHeartbeats 1600000 in
theorem sf_at (c : Dev nD) (r : Fin 2048) (l : Fin 128) : @Eq EReal (V m c main_v21 (ix2 r l : S2048x128.Idx)) (sinL (fun k => SIN (ix2 r k)) l) := by
  refine Eq.trans (congrFun ?_ _) (sinL_of SIN r l)
  simp only [V, hostOps0, hostOps0_1, hostOps0_2, List.flatten_cons, List.flatten_nil, List.append_nil, List.cons_append, List.nil_append, StableHlo.TRef.binary,
    StableHlo.TRef.unary, StableHlo.TRef.toBuf, StableHlo.TRef.ofBuf, cast_eq]
  after_results
  rfl

set_option maxHeartbeats 1600000 in
theorem t_at (c : Dev nD) (r : Fin 2048) (l : Fin 768) : @Eq EReal (V m c main_v23 (ix2 r l : S2048x768.Idx))
    (if h : (l : ℕ) < 384 then m ((c : Thread nD τ).loc main_arg0) (ix2 r ⟨l, h⟩ : S2048x384.Idx)
      else if h : (l : ℕ) - 384 < 320 then m ((c : Thread nD τ).loc main_arg1) (ix2 r ⟨l - 384, h⟩ : S2048x320.Idx) else (0 : EReal)) := by
  simp only [V, hostOps0, hostOps0_1, hostOps0_2, List.flatten_cons, List.flatten_nil, List.append_nil, List.cons_append, List.nil_append, StableHlo.TRef.binary,
    StableHlo.TRef.unary, StableHlo.TRef.toBuf, StableHlo.TRef.ofBuf, cast_eq]
  after_results
  pointwise
  simp only [pad_word]

/-! ## The payloads at an index -/

section
variable (r : Fin 512)

theorem pay2_at (v0 : FVec Ideal S512x384 .f32) (v12 : FVec Ideal S1x384 .f32) (l : Fin 384) :
    @Eq EReal (k0_pay2 (F := Ideal) v0 v12 (ix2 r l)) (rmXh rmQ (fun j => v0 (ix2 r j)) l * v12 (ix2 0 l)) := by
  unfold k0_pay2
  pointwise
  rfl

theorem pay3_at (v17 : FVec Ideal S512x256 .f32) (v29 : FVec Ideal S1x256 .f32) (l : Fin 256) :
    @Eq EReal (k0_pay3 (F := Ideal) v17 v29 (ix2 r l)) (rmXh rmKV (fun j => v17 (ix2 r j)) l * v29 (ix2 0 l)) := by
  unfold k0_pay3
  pointwise
  rfl

theorem pay1_at (v34 v36 v38 : FVec Ideal S512x128 .f32) (w : Fin 128) :
    @Eq EReal (k0_pay1 (F := Ideal) (k0_pay4 v34) v36 v38 (ix2 r w)) (turn (fun w => v34 (ix2 r w)) (v36 (ix2 r w)) (v38 (ix2 r w)) w) := by
  unfold k0_pay1 k0_pay4
  pointwise
  rfl

end

/-! ## The reference's arrays at an index -/

section
open Cert.LatentsFwdRefIdeal.Read
variable (x0 : FVec Ideal S2048x384 .f32) (x1 : FVec Ideal S2048x320 .f32) (x2 : FVec Ideal S1x384 .f32) (x3 : FVec Ideal S1x256 .f32)
  (r : Fin 2048) (z : Fin 1)

/-- A row of the keys' latent, and of the shared key. -/
abbrev kvRow (k : Fin 256) : EReal := x1 (ix2 r ⟨k, by omega⟩)
abbrev peRow (k : Fin 64) : EReal := x1 (ix2 r ⟨256 + k, by omega⟩)

theorem ref36_at : @Eq EReal (val_main_v36 (F := Ideal) x0 (ix2 r z))
    (rmRs rmQ (fun j => x0 (ix2 r j))) := by
  pointwise [val_main_v0, val_main_v1, val_main_cst, val_main_v2, val_main_v3, val_main_cst_0, val_main_v4, val_main_v5, val_main_v6, val_main_cst_1, val_main_v7, val_main_v8, val_main_cst_2, val_main_v9, val_main_v10, val_main_v11, val_main_v12, val_main_v13, val_main_v14, val_main_v15, val_main_v18, val_main_v19, val_main_v20, val_main_v21, val_main_v22, val_main_v23, val_main_v24, val_main_v25, val_main_v26, val_main_v27, val_main_c, val_main_call0_v0, val_main_v28, val_main_v29, val_main_cst_3, val_main_v30, val_main_v31, val_main_cst_4, val_main_v32, val_main_v33, val_main_cst_5, val_main_v34, val_main_v35, val_main_v36, val_main_v37, val_main_v38, val_main_v39, val_main_v40, val_main_v41, val_main_v42, val_main_v43, val_main_cst_6, val_main_v44, val_main_v45, val_main_cst_7, val_main_v46, val_main_v47, val_main_cst_8, val_main_v48, val_main_v49, val_main_v50, val_main_v51, val_main_v52, val_main_v53, val_main_v54, val_main_v55, val_main_v56]
  rfl

variable (l : Fin 384) (k : Fin 256) (w : Fin 128)

theorem ref41_at : @Eq EReal (val_main_v41 (F := Ideal) x0 x2 (ix2 r l))
    (rmXh rmQ (fun j => x0 (ix2 r j)) l * x2 (ix2 0 l)) := by
  pointwise [val_main_v0, val_main_v1, val_main_cst, val_main_v2, val_main_v3, val_main_cst_0, val_main_v4, val_main_v5, val_main_v6, val_main_cst_1, val_main_v7, val_main_v8, val_main_cst_2, val_main_v9, val_main_v10, val_main_v11, val_main_v12, val_main_v13, val_main_v14, val_main_v15, val_main_v18, val_main_v19, val_main_v20, val_main_v21, val_main_v22, val_main_v23, val_main_v24, val_main_v25, val_main_v26, val_main_v27, val_main_c, val_main_call0_v0, val_main_v28, val_main_v29, val_main_cst_3, val_main_v30, val_main_v31, val_main_cst_4, val_main_v32, val_main_v33, val_main_cst_5, val_main_v34, val_main_v35, val_main_v37, val_main_v38, val_main_v39, val_main_v40, val_main_v41, val_main_v42, val_main_v43, val_main_cst_6, val_main_v44, val_main_v45, val_main_cst_7, val_main_v46, val_main_v47, val_main_cst_8, val_main_v48, val_main_v49, val_main_v50, val_main_v51, val_main_v52, val_main_v53, val_main_v54, val_main_v55, val_main_v56]
  simp only [ref36_at]
  rfl

theorem ref50_at : @Eq EReal (val_main_v50 (F := Ideal) x1 (ix2 r z))
    (rmRs rmKV (kvRow x1 r)) := by
  pointwise [val_main_v0, val_main_v1, val_main_cst, val_main_v2, val_main_v3, val_main_cst_0, val_main_v4, val_main_v5, val_main_v6, val_main_cst_1, val_main_v7, val_main_v8, val_main_cst_2, val_main_v9, val_main_v10, val_main_v11, val_main_v12, val_main_v13, val_main_v14, val_main_v15, val_main_v18, val_main_v19, val_main_v20, val_main_v21, val_main_v22, val_main_v23, val_main_v24, val_main_v25, val_main_v26, val_main_v27, val_main_c, val_main_call0_v0, val_main_v28, val_main_v29, val_main_cst_3, val_main_v30, val_main_v31, val_main_cst_4, val_main_v32, val_main_v33, val_main_cst_5, val_main_v34, val_main_v35, val_main_v37, val_main_v38, val_main_v39, val_main_v40, val_main_v42, val_main_v43, val_main_cst_6, val_main_v44, val_main_v45, val_main_cst_7, val_main_v46, val_main_v47, val_main_cst_8, val_main_v48, val_main_v49, val_main_v50, val_main_v51, val_main_v52, val_main_v53, val_main_v54, val_main_v55, val_main_v56]
  rfl

theorem ref55_at : @Eq EReal (val_main_v55 (F := Ideal) x1 x3 (ix2 r k))
    (rmXh rmKV (kvRow x1 r) k * x3 (ix2 0 k)) := by
  pointwise [val_main_v0, val_main_v1, val_main_cst, val_main_v2, val_main_v3, val_main_cst_0, val_main_v4, val_main_v5, val_main_v6, val_main_cst_1, val_main_v7, val_main_v8, val_main_cst_2, val_main_v9, val_main_v10, val_main_v11, val_main_v12, val_main_v13, val_main_v14, val_main_v15, val_main_v18, val_main_v19, val_main_v20, val_main_v21, val_main_v22, val_main_v23, val_main_v24, val_main_v25, val_main_v26, val_main_v27, val_main_c, val_main_call0_v0, val_main_v28, val_main_v29, val_main_cst_3, val_main_v30, val_main_v31, val_main_cst_4, val_main_v32, val_main_v33, val_main_cst_5, val_main_v34, val_main_v35, val_main_v37, val_main_v38, val_main_v39, val_main_v40, val_main_v42, val_main_v43, val_main_cst_6, val_main_v44, val_main_v45, val_main_cst_7, val_main_v46, val_main_v47, val_main_cst_8, val_main_v48, val_main_v49, val_main_v51, val_main_v52, val_main_v53, val_main_v54, val_main_v55, val_main_v56]
  simp only [ref50_at]
  rfl

variable (u : Fin 64)

theorem ref27_at : @Eq EReal (val_main_v27 (F := Ideal) x1 (ix2 r u))
    (rope (peRow x1 r) (fun k => COS (ix2 r k)) (fun k => SIN (ix2 r k)) u) := by
  pointwise [val_main_v0, val_main_v1, val_main_cst, val_main_v2, val_main_v3, val_main_cst_0, val_main_v4, val_main_v5, val_main_v6, val_main_cst_1, val_main_v7, val_main_v8, val_main_cst_2, val_main_v9, val_main_v10, val_main_v11, val_main_v12, val_main_v13, val_main_v14, val_main_v15, val_main_v18, val_main_v19, val_main_v20, val_main_v21, val_main_v22, val_main_v23, val_main_v24, val_main_v25, val_main_v26, val_main_v27, val_main_c, val_main_call0_v0, val_main_v28, val_main_v29, val_main_cst_3, val_main_v30, val_main_v31, val_main_cst_4, val_main_v32, val_main_v33, val_main_cst_5, val_main_v34, val_main_v35, val_main_v37, val_main_v38, val_main_v39, val_main_v40, val_main_v42, val_main_v43, val_main_cst_6, val_main_v44, val_main_v45, val_main_cst_7, val_main_v46, val_main_v47, val_main_cst_8, val_main_v48, val_main_v49, val_main_v51, val_main_v52, val_main_v53, val_main_v54, val_main_v56]
  unfold rope
  by_cases h : (u : ℕ) < 32
  · simp only [dif_pos h]
    blk_point
    exact congrArg (fun i : Fin 320 => x1 (ix2 r i) * SIN (ix2 r ⟨u, h⟩)) (Fin.ext (by show 256 + (32 + (u : ℕ)) = 256 + ((u : ℕ) + 32); omega))
  · simp only [dif_neg h]
    blk_point
    exact congrArg (fun i : Fin 320 => x1 (ix2 r i) * COS (ix2 r ⟨u - 32, by omega⟩)) (Fin.ext (by show 256 + (32 + ((u : ℕ) - 32)) = 256 + (u : ℕ); omega))

theorem ref56_at : @Eq EReal (val_main_v56 (F := Ideal) x1 (ix2 r w))
    (if h : (w : ℕ) < 64 then rope (peRow x1 r) (fun k => COS (ix2 r k)) (fun k => SIN (ix2 r k)) ⟨w, h⟩ else 0) := by
  pointwise [val_main_v0, val_main_v1, val_main_cst, val_main_v2, val_main_v3, val_main_cst_0, val_main_v4, val_main_v5, val_main_v6, val_main_cst_1, val_main_v7, val_main_v8, val_main_cst_2, val_main_v9, val_main_v10, val_main_v11, val_main_v12, val_main_v13, val_main_v14, val_main_v15, val_main_v18, val_main_v19, val_main_v20, val_main_v21, val_main_v22, val_main_v23, val_main_v24, val_main_v25, val_main_v26, val_main_c, val_main_call0_v0, val_main_v28, val_main_v29, val_main_cst_3, val_main_v30, val_main_v31, val_main_cst_4, val_main_v32, val_main_v33, val_main_cst_5, val_main_v34, val_main_v35, val_main_v37, val_main_v38, val_main_v39, val_main_v40, val_main_v42, val_main_v43, val_main_cst_6, val_main_v44, val_main_v45, val_main_cst_7, val_main_v46, val_main_v47, val_main_cst_8, val_main_v48, val_main_v49, val_main_v51, val_main_v52, val_main_v53, val_main_v54, val_main_v56]
  simp only [ref27_at, pad_word]

end

/-! ## The arrays -/

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem row_lt (t : Fin cfg0.N) (l : Fin 512) : t.val * 512 + l < 2048 := by
  have := lt_of_lt_of_eq t.isLt N_0
  omega

theorem ld_cols (o n : ℕ) (inb : ∀ a : Fin 2, (![0, o] : Fin 2 → ℕ) a + (![512, n] : Fin 2 → ℕ) a ≤ (![512, 768] : Fin 2 → ℕ) a)
    (x : FVec Ideal S512x768 .f32) (r : Fin 512) (j : Fin n) (i : Fin 768) (hi : i.val = o + j.val) :
    @Eq EReal (View.ld (Val := Elt Ideal) (S := S512x768) (e' := .f32) x (Rect.unit (s := S512x768) ![0, o] ![512, n] inb) (ix2 r j)) (x (ix2 r i)) := by
  refine congrArg x ?_
  funext a
  refine Fin.cases ?_ (fun a => Fin.cases ?_ (fun a => a.elim0) a) a
  · apply Fin.ext
    show 0 + 1 * r.val = r.val
    omega
  · apply Fin.ext
    show o + 1 * j.val = i.val
    omega

section
variable (c : Dev nD) (t : Fin cfg0.N) (r : Fin 512)

abbrev aR : Fin 2048 := ⟨t.val * 512 + r, row_lt t r⟩

theorem blk0 (i : Fin 768) : @Eq EReal (iblk m c 0 t (ix2 r i : S512x768.Idx)) (V m c main_v23 (ix2 (aR t r) i : S2048x768.Idx)) := by
  blk_ext [iblk, idx t]

theorem blkQ (j : Fin 384) : @Eq EReal (View.ld (Val := Elt Ideal) (S := S512x768) (e' := .f32) (iblk m c 0 t) r0_0 (ix2 r j))
    (m ((c : Thread nD τ).loc main_arg0) (ix2 (aR t r) j : S2048x384.Idx)) := by
  refine (ld_cols 0 384 _ _ r j ⟨j, by omega⟩ (by simp)).trans ((blk0 m c t r _).trans ((t_at m c _ _).trans ?_))
  rw [dif_pos (show ((⟨j, by omega⟩ : Fin 768) : ℕ) < 384 from j.isLt)]

theorem blkKV (j : Fin 256) : @Eq EReal (View.ld (Val := Elt Ideal) (S := S512x768) (e' := .f32) (iblk m c 0 t) r0_3 (ix2 r j))
    (kvRow (m ((c : Thread nD τ).loc main_arg1)) (aR t r) j) := by
  refine (ld_cols 384 256 _ _ r j ⟨384 + j, by omega⟩ rfl).trans ((blk0 m c t r _).trans ((t_at m c _ _).trans ?_))
  rw [dif_neg (show ¬ ((⟨384 + j, by omega⟩ : Fin 768) : ℕ) < 384 by simp),
    dif_pos (show ((⟨384 + j, by omega⟩ : Fin 768) : ℕ) - 384 < 320 by simp; omega)]
  blk_point

theorem blkPE (j : Fin 64) : @Eq EReal (View.ld (Val := Elt Ideal) (S := S512x768) (e' := .f32) (iblk m c 0 t) r0_6 (ix2 r (⟨j, by omega⟩ : Fin 128)))
    (peRow (m ((c : Thread nD τ).loc main_arg1)) (aR t r) j) := by
  refine (ld_cols 640 128 _ _ r _ ⟨640 + j, by omega⟩ rfl).trans ((blk0 m c t r _).trans ((t_at m c _ _).trans ?_))
  rw [dif_neg (show ¬ ((⟨640 + j, by omega⟩ : Fin 768) : ℕ) < 384 by simp; omega),
    dif_pos (show ((⟨640 + j, by omega⟩ : Fin 768) : ℕ) - 384 < 320 by simp; omega)]
  blk_point

theorem blk1 (j : Fin 384) : @Eq EReal (iblk m c 1 t (ix2 0 j : S1x384.Idx)) (m ((c : Thread nD τ).loc main_arg2) (ix2 0 j : S1x384.Idx)) := by
  blk_point [iblk, V, idx t]

theorem blk2 (j : Fin 256) : @Eq EReal (iblk m c 2 t (ix2 0 j : S1x256.Idx)) (m ((c : Thread nD τ).loc main_arg3) (ix2 0 j : S1x256.Idx)) := by
  blk_point [iblk, V, idx t]

theorem blk3 (w : Fin 128) : @Eq EReal (iblk m c 3 t (ix2 r w : S512x128.Idx)) (cosL (fun k => COS (ix2 (aR t r) k)) w) := by
  rw [show iblk m c 3 t (ix2 r w : S512x128.Idx) = V m c main_v19 (ix2 (aR t r) w : S2048x128.Idx) by blk_ext [iblk, idx t]]
  exact cf_at m c _ w

theorem blk4 (w : Fin 128) : @Eq EReal (iblk m c 4 t (ix2 r w : S512x128.Idx)) (sinL (fun k => SIN (ix2 (aR t r) k)) w) := by
  rw [show iblk m c 4 t (ix2 r w : S512x128.Idx) = V m c main_v21 (ix2 (aR t r) w : S2048x128.Idx) by blk_ext [iblk, idx t]]
  exact sf_at m c _ w

end

open Cert.LatentsFwdRefIdeal.Read in
theorem final5 (c : Dev nD) : (dats m 0 c).arrAt 5 (cfgs 0).N = val_main_v41 (F := Ideal) (m ((c : Thread nD τ).loc main_arg0)) (m ((c : Thread nD τ).loc main_arg2)) := by
  refine (dats m 0 c).arrAt_eq_of_covers 5 _ (by decide +kernel) fun t _ y => ?_
  blk_simp
  rw [after0_5]
  frame_out
  idx_vars y
  rw [show ((cfg0.win 5).blk t).view.emb (ix2 y0 y1 : S512x384.Idx) = (ix2 (aR t y0) y1 : S2048x384.Idx) by blk_ext [idx t]]
  refine (pay2_at y0 _ _ y1).trans (Eq.trans ?_ (ref41_at _ _ _ y1).symm)
  exact congrArg₂ (fun (f : Fin 384 → EReal) (g : EReal) => rmXh rmQ f y1 * g) (funext (blkQ m c t y0)) (blk1 m c t y1)

open Cert.LatentsFwdRefIdeal.Read in
theorem final6 (c : Dev nD) : (dats m 0 c).arrAt 6 (cfgs 0).N = val_main_v55 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  frame_out
  idx_vars y
  rw [show ((cfg0.win 6).blk t).view.emb (ix2 y0 y1 : S512x256.Idx) = (ix2 (aR t y0) y1 : S2048x256.Idx) by blk_ext [idx t]]
  refine (pay3_at y0 _ _ y1).trans (Eq.trans ?_ (ref55_at _ _ _ y1).symm)
  exact congrArg₂ (fun (f : Fin 256 → EReal) (g : EReal) => rmXh rmKV f y1 * g) (funext (blkKV m c t y0)) (blk2 m c t y1)

open Cert.LatentsFwdRefIdeal.Read in
theorem final7 (c : Dev nD) : (dats m 0 c).arrAt 7 (cfgs 0).N = val_main_v56 (F := Ideal) (m ((c : Thread nD τ).loc main_arg1)) := by
  refine (dats m 0 c).arrAt_eq_of_covers 7 _ (by decide +kernel) fun t _ y => ?_
  blk_simp
  rw [after0_7]
  frame_out
  idx_vars y
  rw [show ((cfg0.win 7).blk t).view.emb (ix2 y0 y1 : S512x128.Idx) = (ix2 (aR t y0) y1 : S2048x128.Idx) by blk_ext [idx t]]
  refine (pay1_at y0 _ _ _ y1).trans (Eq.trans ?_ (ref56_at _ _ y1).symm)
  exact (congrArg₂ (fun a b => turn _ a b y1) (blk3 m c t y0 y1) (blk4 m c t y0 y1)).trans (turn_eq _ _ _ _ (blkPE m c t y0) y1)

end Cert.LatentsFwdIdeal.Hand

namespace Cert.Proof

open Idealize.ShloMosaic Idealize.SL.Sem

set_option maxHeartbeats 4000000 in
theorem algebraic_LatentsFwd [Cert.LatentsFwdIdeal.Facts] [Cert.LatentsFwdRefIdeal.Facts] : Cert.algebraic_LatentsFwdIdeal_LatentsFwdRefIdeal := by
  intro m g m' g' _ hagree
  refine ⟨fun c => (Cert.LatentsFwdIdeal.Gen.dats m 0 c).arrAt 5 (Cert.LatentsFwdIdeal.cfgs 0).N,
    fun c => (Cert.LatentsFwdIdeal.Gen.dats m 0 c).arrAt 6 (Cert.LatentsFwdIdeal.cfgs 0).N,
    fun c => (Cert.LatentsFwdIdeal.Gen.dats m 0 c).arrAt 7 (Cert.LatentsFwdIdeal.cfgs 0).N, ?_, ?_⟩
  · exact (θ_run _ _ _).mono (fun r h c => ⟨(h.1 c).1 5, (h.1 c).1 6, (h.1 c).1 7, h.2 c⟩)
      (θ_run_and (Cert.LatentsFwdIdeal.Gen.run_main m g) (Cert.LatentsFwdIdeal.Gen.unchanged m g))
  · refine (θ_run _ _ _).mono (fun r h c => ⟨((h c).1).trans ?_, ((h c).2.1).trans ?_, ((h c).2.2.1).trans ?_, (h c).2.2.2⟩) (Cert.LatentsFwdRefIdeal.Value.run m' g')
    · refine (Cert.LatentsFwdRefIdeal.Read.val_main_v41_eq _ _).trans ?_
      rw [(hagree c).1, (hagree c).2.2.1]
      exact (Cert.LatentsFwdIdeal.Hand.final5 m c).symm
    · refine (Cert.LatentsFwdRefIdeal.Read.val_main_v55_eq _ _).trans ?_
      rw [(hagree c).2.1, (hagree c).2.2.2]
      exact (Cert.LatentsFwdIdeal.Hand.final6 m c).symm
    · refine (Cert.LatentsFwdRefIdeal.Read.val_main_v56_eq _).trans ?_
      rw [(hagree c).2.1]
      exact (Cert.LatentsFwdIdeal.Hand.final7 m c).symm

end Cert.Proof

end
-- ==== Proof.QueriesFwd.lean ====
/- The queries' product fused with the rotary embedding of each head's last 64 lanes (`mla_queries`): the kernel's array
   is the reference's. -/
module

public import proofs.«01_k».proof.Defs
public import proofs.«01_k».proof.Proof.Gen.QueriesFwdIdeal.Value
public import proofs.«01_k».proof.Proof.Gen.QueriesFwdRefIdeal.Read
public import proofs.«01_k».proof.Proof.RopeMath
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.QueriesFwdIdeal.Hand

open Cert.QueriesFwdIdeal Cert.QueriesFwdIdeal.Gen Idealize.ShloMosaic Idealize.ShloMosaic.TcCoe Idealize.SL.Sem
open Idealize.ShloMosaic.Pipeline (Dat)
open Cert.Proof

variable (m : (ℓ : Loc nD τ sig) → Buf (Elt Ideal) ℓ)

/-- The cosines and sines of the rotary embedding, as the reference's own lines compute them. -/
abbrev COS : FVec Ideal S2048x32 .f32 := Cert.QueriesFwdRefIdeal.Read.val_main_v16 (F := Ideal)
abbrev SIN : FVec Ideal S2048x32 .f32 := Cert.QueriesFwdRefIdeal.Read.val_main_v17 (F := Ideal)

theorem cosL_of (C : FVec Ideal S2048x32 .f32) (r : Fin 2048) (l : Fin 128) : @Eq EReal (concatenate S2048x128 1 [⟨S2048x32, C⟩, ⟨S2048x32, C⟩,
    ⟨S2048x64, broadcastInDim S2048x64 ![] bcast_S_S2048x64 (constant (F := Ideal) S_ .f32 0x00000000#32)⟩]
    concatenates_S2048x32_S2048x32_S2048x64_S2048x128_d1 (ix2 r l)) (cosL (fun k => C (ix2 r k)) l) := by
  pointwise
  unfold cosL
  by_cases h1 : (l : ℕ) < 32
  · simp only [dif_pos h1]
  · by_cases h2 : (l : ℕ) < 64
    · simp only [dif_neg h1, dif_pos h2, dif_pos (show (l : ℕ) - 32 < 32 by omega)]
    · simp only [dif_neg h1, dif_neg h2, dif_neg (show ¬ (l : ℕ) - 32 < 32 by omega)]

theorem sinL_of (C : FVec Ideal S2048x32 .f32) (r : Fin 2048) (l : Fin 128) : @Eq EReal (concatenate S2048x128 1 [⟨S2048x32, Host.negf C⟩, ⟨S2048x32, C⟩,
    ⟨S2048x64, broadcastInDim S2048x64 ![] bcast_S_S2048x64 (constant (F := Ideal) S_ .f32 0x00000000#32)⟩]
    concatenates_S2048x32_S2048x32_S2048x64_S2048x128_d1 (ix2 r l)) (sinL (fun k => C (ix2 r k)) l) := by
  pointwise
  unfold sinL
  by_cases h1 : (l : ℕ) < 32
  · simp only [dif_pos h1]
  · by_cases h2 : (l : ℕ) < 64
    · simp only [dif_neg h1, dif_pos h2, dif_pos (show (l : ℕ) - 32 < 32 by omega)]
    · simp only [dif_neg h1, dif_neg h2, dif_neg (show ¬ (l : ℕ) - 32 < 32 by omega)]

set_option maxHeartbeats 1600000 in
theorem cf_at (c : Dev nD) (r : Fin 2048) (l : Fin 128) : @Eq EReal (V m c main_v19 (ix2 r l : S2048x128.Idx)) (cosL (fun k => COS (ix2 r k)) l) := by
  refine Eq.trans (congrFun ?_ _) (cosL_of COS r l)
  simp only [V, hostOps0, hostOps0_1, hostOps0_2, List.flatten_cons, List.flatten_nil, List.append_nil, List.cons_append, List.nil_append, StableHlo.TRef.binary,
    StableHlo.TRef.unary, StableHlo.TRef.toBuf, StableHlo.TRef.ofBuf, cast_eq]
  after_results
  rfl

set_option maxHeartbeats 1600000 in
theorem sf_at (c : Dev nD) (r : Fin 2048) (l : Fin 128) : @Eq EReal (V m c main_v21 (ix2 r l : S2048x128.Idx)) (sinL (fun k => SIN (ix2 r k)) l) := by
  refine Eq.trans (congrFun ?_ _) (sinL_of SIN r l)
  simp only [V, hostOps0, hostOps0_1, hostOps0_2, List.flatten_cons, List.flatten_nil, List.append_nil, List.cons_append, List.nil_append, StableHlo.TRef.binary,
    StableHlo.TRef.unary, StableHlo.TRef.toBuf, StableHlo.TRef.ofBuf, cast_eq]
  after_results
  rfl

theorem hv25 (c : Dev nD) (i : S2048x384.Idx) : @Eq EReal (V m c main_v25 i) (m ((c : Thread nD τ).loc main_arg0) i) := by
  simp only [V, hostOps0, hostOps0_1, hostOps0_2, List.flatten_cons, List.flatten_nil, List.append_nil, List.cons_append, List.nil_append, StableHlo.TRef.binary,
    StableHlo.TRef.unary, StableHlo.TRef.toBuf, StableHlo.TRef.ofBuf, cast_eq]
  after_results
  pointwise

/-- The matrix with each head's 192 columns padded to 256. -/
theorem w_at (c : Dev nD) (k : Fin 384) (l : Fin 2048) : @Eq EReal (V m c main_v26 (ix2 k l : S384x2048.Idx))
    (if h : (l : ℕ) % 256 < 192 then m ((c : Thread nD τ).loc main_arg1) (ix2 k ⟨(l : ℕ) / 256 * 192 + (l : ℕ) % 256, by omega⟩ : S384x1536.Idx)
      else (0 : EReal)) := by
  simp only [V, hostOps0, hostOps0_1, hostOps0_2, List.flatten_cons, List.flatten_nil, List.append_nil, List.cons_append, List.nil_append, StableHlo.TRef.binary,
    StableHlo.TRef.unary, StableHlo.TRef.toBuf, StableHlo.TRef.ofBuf, cast_eq]
  after_results
  pointwise
  simp only [pad_word]
  have h8 : (l : ℕ) / 256 < 8 := by omega
  simp only [h8, true_and]

/-! ## The body at an index -/

section
variable (r : Fin 2048)

theorem out4_at (x0 : FVec Ideal S2048x384 .bf16) (x1 : FVec Ideal S384x256 .bf16) (x2 x3 : FVec Ideal S2048x128 .f32) (l : Fin 256) :
    @Eq EReal (out0_4 (F := Ideal) x0 x1 x2 x3 (ix2 r l)) (if h : (l : ℕ) < 128 then ∑ k, x0 (ix2 r k) * x1 (ix2 k l)
      else turn (fun w => ∑ k, x0 (ix2 r k) * x1 (ix2 k ⟨128 + w, by omega⟩)) (x2 (ix2 r ⟨l - 128, by omega⟩)) (x3 (ix2 r ⟨l - 128, by omega⟩))
        ⟨l - 128, by omega⟩) := by
  unfold out0_4
  canon_tiles x h
  all_goals
    idx_vars x
    open_payloads
    pointwise
    obtain rfl : r = x0 := Fin.ext h0
  · have e : (⟨(l : ℕ) - 128, by omega⟩ : Fin 128) = x1 := Fin.ext (by show (l : ℕ) - 128 = x1; omega)
    rw [dif_neg (show ¬ (l : ℕ) < 128 by omega)]
    simp only [e]
    rfl
  · have e : (⟨(x1 : ℕ), by omega⟩ : Fin 256) = l := Fin.ext h1.symm
    rw [dif_pos (show (l : ℕ) < 128 by omega)]
    simp only [e]

end

/-! ## The reference's array at an index -/

section
open Cert.QueriesFwdRefIdeal.Read
variable (x0 : FVec Ideal S2048x384 .f32) (x1 : FVec Ideal S384x1536 .f32) (r : Fin 2048) (j : Fin 1536) (h : Fin 8) (u : Fin 64) (l : Fin 2048)

/-- An entry of the product. -/
abbrev prd : EReal := ∑ k, x0 (ix2 r k) * x1 (ix2 k j)

theorem ref18_at : @Eq EReal (val_main_v18 (F := Ideal) x0 x1 (ix2 r j))
    (prd x0 x1 r j) := by
  pointwise [val_main_v0, val_main_v1, val_main_cst, val_main_v2, val_main_v3, val_main_cst_0, val_main_v4, val_main_v5, val_main_v6, val_main_cst_1, val_main_v7, val_main_v8, val_main_cst_2, val_main_v9, val_main_v10, val_main_v11, val_main_v12, val_main_v13, val_main_v14, val_main_v15, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_c, val_main_call0_v0, val_main_v38, val_main_v39, val_main_v40]

theorem ref36_at : @Eq EReal (val_main_v36 (F := Ideal) x0 x1 (ix3 r h u))
    (rope (fun u => prd x0 x1 r ⟨h * 192 + 128 + u, by omega⟩) (fun k => COS (ix2 r k)) (fun k => SIN (ix2 r k)) u) := by
  pointwise [val_main_v0, val_main_v1, val_main_cst, val_main_v2, val_main_v3, val_main_cst_0, val_main_v4, val_main_v5, val_main_v6, val_main_cst_1, val_main_v7, val_main_v8, val_main_cst_2, val_main_v9, val_main_v10, val_main_v11, val_main_v12, val_main_v13, val_main_v14, val_main_v15, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_c, val_main_call0_v0, val_main_v38, val_main_v39, val_main_v40]
  simp only [ref18_at]
  unfold rope
  by_cases h : (u : ℕ) < 32
  · simp only [dif_pos h]
    blk_point
    all_goals (refine Fin.ext ?_; dsimp only; omega)
  · simp only [dif_neg h]
    blk_point
    all_goals (refine Fin.ext ?_; dsimp only; omega)

theorem ref40_at : @Eq EReal (val_main_v40 (F := Ideal) x0 x1 (ix2 r l))
    (if h1 : (l : ℕ) % 256 < 128 then prd x0 x1 r ⟨(l : ℕ) / 256 * 192 + (l : ℕ) % 256, by omega⟩
      else if h2 : (l : ℕ) % 256 < 192 then rope (fun u => prd x0 x1 r ⟨(l : ℕ) / 256 * 192 + 128 + u, by omega⟩) (fun k => COS (ix2 r k))
        (fun k => SIN (ix2 r k)) ⟨(l : ℕ) % 256 - 128, by omega⟩ else 0) := by
  pointwise [val_main_v0, val_main_v1, val_main_cst, val_main_v2, val_main_v3, val_main_cst_0, val_main_v4, val_main_v5, val_main_v6, val_main_cst_1, val_main_v7, val_main_v8, val_main_cst_2, val_main_v9, val_main_v10, val_main_v11, val_main_v12, val_main_v13, val_main_v14, val_main_v15, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v37, val_main_c, val_main_call0_v0, val_main_v38, val_main_v39, val_main_v40]
  simp only [ref18_at, ref36_at, pad_word]
  have h8 : (l : ℕ) / 256 < 8 := by omega
  by_cases h1 : (l : ℕ) % 256 < 128
  · have h2 : (l : ℕ) % 256 < 192 := by omega
    simp only [h8, h1, h2, true_and, dif_pos]
  · by_cases h2 : (l : ℕ) % 256 < 192
    · have h3 : (l : ℕ) % 256 - 128 < 64 := by omega
      simp only [h8, h1, h2, h3, true_and, dif_pos, dif_neg, not_false_eq_true]
    · simp only [h8, h1, h2, and_false, dif_neg, not_false_eq_true]

end

/-! ## The array -/

theorem idx : ∀ t : Fin cfg0.N, win0_0.index t = ![0, 0] ∧ win0_1.index t = ![0, t.val] ∧ win0_2.index t = ![0, 0]
    ∧ win0_3.index t = ![0, 0] ∧ win0_4.index t = ![0, t.val] :=
  (by decide +kernel : ∀ t : Fin grid0.N, _)

theorem col_lt (t : Fin cfg0.N) (l : Fin 256) : t.val * 256 + l < 2048 := by
  have := lt_of_lt_of_eq t.isLt N_0
  omega

section
variable (c : Dev nD) (t : Fin cfg0.N) (r : Fin 2048)

theorem blk0 (k : Fin 384) : @Eq EReal (iblk m c 0 t (ix2 r k : S2048x384.Idx)) (m ((c : Thread nD τ).loc main_arg0) (ix2 r k : S2048x384.Idx)) := by
  rw [show iblk m c 0 t (ix2 r k : S2048x384.Idx) = V m c main_v25 (ix2 r k : S2048x384.Idx) by blk_ext [iblk, idx t]]
  exact hv25 m c _

/-- A column of the block inside a head's 192. -/
theorem blk1 (k : Fin 384) (l : Fin 256) (j : Fin 1536) (hl : (l : ℕ) < 192) (hj : (j : ℕ) = t.val * 192 + l) :
    @Eq EReal (iblk m c 1 t (ix2 k l : S384x256.Idx)) (m ((c : Thread nD τ).loc main_arg1) (ix2 k j : S384x1536.Idx)) := by
  rw [show iblk m c 1 t (ix2 k l : S384x256.Idx) = V m c main_v26 (ix2 k ⟨t.val * 256 + l, col_lt t l⟩ : S384x2048.Idx) by blk_ext [iblk, idx t]]
  refine (w_at m c k _).trans ((dif_pos (show (t.val * 256 + (l : ℕ)) % 256 < 192 by omega)).trans ?_)
  exact congrArg (fun j : Fin 1536 => (m ((c : Thread nD τ).loc main_arg1) (ix2 k j : S384x1536.Idx) : EReal))
    (Fin.ext (by show (t.val * 256 + (l : ℕ)) / 256 * 192 + (t.val * 256 + (l : ℕ)) % 256 = j; omega))

theorem blk2 (w : Fin 128) : @Eq EReal (iblk m c 2 t (ix2 r w : S2048x128.Idx)) (cosL (fun k => COS (ix2 r k)) w) := by
  rw [show iblk m c 2 t (ix2 r w : S2048x128.Idx) = V m c main_v19 (ix2 r w : S2048x128.Idx) by blk_ext [iblk, idx t]]
  exact cf_at m c _ w

theorem blk3 (w : Fin 128) : @Eq EReal (iblk m c 3 t (ix2 r w : S2048x128.Idx)) (sinL (fun k => SIN (ix2 r k)) w) := by
  rw [show iblk m c 3 t (ix2 r w : S2048x128.Idx) = V m c main_v21 (ix2 r w : S2048x128.Idx) by blk_ext [iblk, idx t]]
  exact sf_at m c _ w

/-- An entry of a block's product inside a head's 192 columns. -/
theorem prd_eq (l : Fin 256) (j : Fin 1536) (hl : (l : ℕ) < 192) (hj : (j : ℕ) = t.val * 192 + l) :
    (∑ k : Fin 384, @HMul.hMul EReal EReal EReal _ (iblk m c 0 t (ix2 r k : S2048x384.Idx)) (iblk m c 1 t (ix2 k l : S384x256.Idx)))
      = prd (m ((c : Thread nD τ).loc main_arg0)) (m ((c : Thread nD τ).loc main_arg1)) r j :=
  Finset.sum_congr rfl fun k _ => congrArg₂ (· * ·) (blk0 m c t r k) (blk1 m c t k l j hl hj)

end

open Cert.QueriesFwdRefIdeal.Read in
theorem final4 (c : Dev nD) : (dats m 0 c).arrAt 4 (cfgs 0).N
    = val_main_v40 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  idx_vars y
  rw [show ((cfg0.win 4).blk t).view.emb (ix2 y0 y1 : S2048x256.Idx) = (ix2 y0 ⟨t.val * 256 + y1, col_lt t y1⟩ : S2048x2048.Idx) by blk_ext [idx t]]
  refine (out4_at y0 _ _ _ _ y1).trans (Eq.trans ?_ (ref40_at _ _ y0 ⟨t.val * 256 + y1, col_lt t y1⟩).symm)
  have e1 : (t.val * 256 + (y1 : ℕ)) / 256 = t.val := by omega
  have e2 : (t.val * 256 + (y1 : ℕ)) % 256 = y1 := by omega
  simp only [e1, e2]
  by_cases h1 : (y1 : ℕ) < 128
  · rw [dif_pos h1, dif_pos h1]
    exact prd_eq m c t y0 y1 ⟨t.val * 192 + y1, by have := lt_of_lt_of_eq t.isLt N_0; omega⟩ (by omega) rfl
  · rw [dif_neg h1, dif_neg h1]
    refine (congrArg₂ (fun a b => turn _ a b _) (blk2 m c t y0 _) (blk3 m c t y0 _)).trans ((turn_eq _ _ _ _
      (fun u => prd_eq m c t y0 ⟨128 + u, by omega⟩ ⟨t.val * 192 + 128 + u, by have := lt_of_lt_of_eq t.isLt N_0; omega⟩ (by show 128 + (u : ℕ) < 192; omega)
        (by show t.val * 192 + 128 + (u : ℕ) = t.val * 192 + (128 + (u : ℕ)); omega)) _).trans ?_)
    by_cases h2 : (y1 : ℕ) < 192
    · rw [dif_pos h2, dif_pos (show (y1 : ℕ) - 128 < 64 by omega)]
    · rw [dif_neg h2, dif_neg (show ¬ (y1 : ℕ) - 128 < 64 by omega)]

end Cert.QueriesFwdIdeal.Hand

namespace Cert.Proof

open Idealize.ShloMosaic Idealize.SL.Sem

set_option maxHeartbeats 4000000 in
theorem algebraic_QueriesFwd [Cert.QueriesFwdIdeal.Facts] [Cert.QueriesFwdRefIdeal.Facts] : Cert.algebraic_QueriesFwdIdeal_QueriesFwdRefIdeal := by
  intro m g m' g' _ hagree
  refine ⟨fun c => (Cert.QueriesFwdIdeal.Gen.dats m 0 c).arrAt 4 (Cert.QueriesFwdIdeal.cfgs 0).N, ?_, ?_⟩
  · exact (θ_run _ _ _).mono (fun r h c => ⟨(h.1 c).1 4, h.2 c⟩)
      (θ_run_and (Cert.QueriesFwdIdeal.Gen.run_main m g) (Cert.QueriesFwdIdeal.Gen.unchanged m g))
  · refine (θ_run _ _ _).mono (fun r h c => ⟨((h c).1).trans ?_, (h c).2⟩) (Cert.QueriesFwdRefIdeal.Value.run m' g')
    · refine (Cert.QueriesFwdRefIdeal.Read.val_main_v40_eq m' c).trans ?_
      rw [(hagree c).1, (hagree c).2]
      exact (Cert.QueriesFwdIdeal.Hand.final4 m c).symm

end Cert.Proof

end
-- ==== Proof.KeysFwd.lean ====
/- The keys' product beside the part of the keys that all heads share (`mla_keys`): the kernel's array is the reference's. -/
module

public import proofs.«01_k».proof.Defs
public import proofs.«01_k».proof.Proof.Gen.KeysFwdIdeal.Value
public import proofs.«01_k».proof.Proof.Gen.KeysFwdRefIdeal.Read
public import proofs.«01_k».proof.Proof.RopeMath
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.KeysFwdIdeal.Hand

open Cert.KeysFwdIdeal Cert.KeysFwdIdeal.Gen Idealize.ShloMosaic Idealize.ShloMosaic.TcCoe Idealize.SL.Sem
open Idealize.ShloMosaic.Pipeline (Dat)
open Cert.Proof

variable (m : (ℓ : Loc nD τ sig) → Buf (Elt Ideal) ℓ)

theorem hv1 (c : Dev nD) (i : S2048x256.Idx) : @Eq EReal (V m c main_v1 i) (m ((c : Thread nD τ).loc main_arg0) i) := by
  simp only [V, hostOps0, hostOps0_1, hostOps0_2, List.flatten_cons, List.flatten_nil, List.append_nil, List.cons_append, List.nil_append, StableHlo.TRef.binary,
    StableHlo.TRef.unary, StableHlo.TRef.toBuf, StableHlo.TRef.ofBuf, cast_eq]
  after_results
  pointwise

theorem hv2 (c : Dev nD) (i : S256x1024.Idx) : @Eq EReal (V m c main_v2 i) (m ((c : Thread nD τ).loc main_arg1) i) := by
  simp only [V, hostOps0, hostOps0_1, hostOps0_2, List.flatten_cons, List.flatten_nil, List.append_nil, List.cons_append, List.nil_append, StableHlo.TRef.binary,
    StableHlo.TRef.unary, StableHlo.TRef.toBuf, StableHlo.TRef.ofBuf, cast_eq]
  after_results
  pointwise

theorem hv3 (c : Dev nD) (r : Fin 2048) (w : Fin 128) : @Eq EReal (V m c main_v3 (ix2 r w : S2048x128.Idx))
    (if h : (w : ℕ) < 64 then m ((c : Thread nD τ).loc main_arg2) (ix2 r ⟨w, h⟩ : S2048x64.Idx) else (0 : EReal)) := by
  simp only [V, hostOps0, hostOps0_1, hostOps0_2, List.flatten_cons, List.flatten_nil, List.append_nil, List.cons_append, List.nil_append, StableHlo.TRef.binary,
    StableHlo.TRef.unary, StableHlo.TRef.toBuf, StableHlo.TRef.ofBuf, cast_eq]
  after_results
  pointwise
  simp only [pad_word]

/-! ## The body at an index -/

theorem out3_at (x0 : FVec Ideal S2048x256 .bf16) (x1 : FVec Ideal S256x128 .bf16) (x2 : FVec Ideal S2048x128 .bf16) (r : Fin 2048) (l : Fin 256) :
    @Eq EReal (out0_3 (F := Ideal) x0 x1 x2 (ix2 r l)) (if h : (l : ℕ) < 128 then ∑ k, x0 (ix2 r k) * x1 (ix2 k ⟨l, h⟩)
      else x2 (ix2 r ⟨l - 128, by omega⟩)) := by
  unfold out0_3
  canon_tiles x h
  all_goals
    idx_vars x
    open_payloads
    pointwise
    obtain rfl : r = x0 := Fin.ext h0
  · rw [dif_neg (show ¬ (l : ℕ) < 128 by omega)]
    exact congrArg (fun w => (x2 (ix2 r w) : EReal)) (Fin.ext (by show (x1 : ℕ) = (l : ℕ) - 128; omega))
  · have h : (l : ℕ) < 128 := by omega
    have e : x1 = ⟨(l : ℕ), h⟩ := Fin.ext h1.symm
    rw [dif_pos h, e]

/-! ## The reference's array at an index -/

section
open Cert.KeysFwdRefIdeal.Read
variable (x0 : FVec Ideal S2048x256 .f32) (x1 : FVec Ideal S256x1024 .f32) (x2 : FVec Ideal S2048x64 .f32) (r : Fin 2048) (j : Fin 1024) (l : Fin 2048)

/-- An entry of the product. -/
abbrev prd : EReal := ∑ k, x0 (ix2 r k) * x1 (ix2 k j)

theorem ref0_at : @Eq EReal (val_main_v0 (F := Ideal) x0 x1 (ix2 r j))
    (prd x0 x1 r j) := by
  pointwise [val_main_v0, val_main_v1, val_main_v2, val_main_v3, val_main_v4, val_main_c, val_main_call0_v0, val_main_v5, val_main_v6, val_main_v7]

theorem ref7_at : @Eq EReal (val_main_v7 (F := Ideal) x0 x1 x2 (ix2 r l))
    (if h1 : (l : ℕ) % 256 < 128 then prd x0 x1 r ⟨(l : ℕ) / 256 * 128 + (l : ℕ) % 256, by omega⟩
      else if h2 : (l : ℕ) % 256 < 192 then x2 (ix2 r ⟨(l : ℕ) % 256 - 128, by omega⟩) else 0) := by
  pointwise [val_main_v1, val_main_v2, val_main_v3, val_main_v4, val_main_c, val_main_call0_v0, val_main_v5, val_main_v6, val_main_v7]
  simp only [ref0_at, pad_word]
  have h8 : (l : ℕ) / 256 < 8 := by omega
  by_cases h1 : (l : ℕ) % 256 < 128
  · have h2 : (l : ℕ) % 256 < 192 := by omega
    simp only [h8, h1, h2, true_and, dif_pos]
  · by_cases h2 : (l : ℕ) % 256 < 192
    · have h3 : (l : ℕ) % 256 - 128 < 64 := by omega
      simp only [h8, h1, h2, h3, true_and, dif_pos, dif_neg, not_false_eq_true]
    · simp only [h8, h1, h2, and_false, dif_neg, not_false_eq_true]

end

/-! ## The array -/

theorem idx : ∀ t : Fin cfg0.N, win0_0.index t = ![0, 0] ∧ win0_1.index t = ![0, t.val] ∧ win0_2.index t = ![0, 0] ∧ win0_3.index t = ![0, t.val] :=
  (by decide +kernel : ∀ t : Fin grid0.N, _)

theorem t_lt (t : Fin cfg0.N) : t.val < 8 := lt_of_lt_of_eq t.isLt N_0

section
variable (c : Dev nD) (t : Fin cfg0.N) (r : Fin 2048)

theorem blk0 (k : Fin 256) : @Eq EReal (iblk m c 0 t (ix2 r k : S2048x256.Idx)) (m ((c : Thread nD τ).loc main_arg0) (ix2 r k : S2048x256.Idx)) := by
  rw [show iblk m c 0 t (ix2 r k : S2048x256.Idx) = V m c main_v1 (ix2 r k : S2048x256.Idx) by blk_ext [iblk, idx t]]
  exact hv1 m c _

theorem blk1 (k : Fin 256) (l : Fin 128) : @Eq EReal (iblk m c 1 t (ix2 k l : S256x128.Idx))
    (m ((c : Thread nD τ).loc main_arg1) (ix2 k ⟨t.val * 128 + l, by have := t_lt t; omega⟩ : S256x1024.Idx)) := by
  rw [show iblk m c 1 t (ix2 k l : S256x128.Idx) = V m c main_v2 (ix2 k ⟨t.val * 128 + l, by have := t_lt t; omega⟩ : S256x1024.Idx) by blk_ext [iblk, idx t]]
  exact hv2 m c _

theorem blk2 (w : Fin 128) : @Eq EReal (iblk m c 2 t (ix2 r w : S2048x128.Idx))
    (if h : (w : ℕ) < 64 then m ((c : Thread nD τ).loc main_arg2) (ix2 r ⟨w, h⟩ : S2048x64.Idx) else (0 : EReal)) := by
  rw [show iblk m c 2 t (ix2 r w : S2048x128.Idx) = V m c main_v3 (ix2 r w : S2048x128.Idx) by blk_ext [iblk, idx t]]
  exact hv3 m c _ w

end

open Cert.KeysFwdRefIdeal.Read in
theorem final3 (c : Dev nD) : (dats m 0 c).arrAt 3 (cfgs 0).N
    = val_main_v7 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  have ht := t_lt t
  rw [show ((cfg0.win 3).blk t).view.emb (ix2 y0 y1 : S2048x256.Idx) = (ix2 y0 ⟨t.val * 256 + y1, by omega⟩ : S2048x2048.Idx) by blk_ext [idx t]]
  refine (out3_at _ _ _ y0 y1).trans (Eq.trans ?_ (ref7_at _ _ _ y0 ⟨t.val * 256 + y1, by omega⟩).symm)
  have e1 : (t.val * 256 + (y1 : ℕ)) / 256 = t.val := by omega
  have e2 : (t.val * 256 + (y1 : ℕ)) % 256 = y1 := by omega
  simp only [e1, e2]
  by_cases h1 : (y1 : ℕ) < 128
  · rw [dif_pos h1, dif_pos h1]
    exact Finset.sum_congr rfl fun k _ => congrArg₂ (· * ·) (blk0 m c t y0 k) (blk1 m c t k ⟨y1, h1⟩)
  · rw [dif_neg h1, dif_neg h1]
    refine (blk2 m c t y0 _).trans ?_
    by_cases h2 : (y1 : ℕ) < 192
    · rw [dif_pos h2, dif_pos (show (y1 : ℕ) - 128 < 64 by omega)]
    · rw [dif_neg h2, dif_neg (show ¬ (y1 : ℕ) - 128 < 64 by omega)]

end Cert.KeysFwdIdeal.Hand

namespace Cert.Proof

open Idealize.ShloMosaic Idealize.SL.Sem

set_option maxHeartbeats 4000000 in
theorem algebraic_KeysFwd [Cert.KeysFwdIdeal.Facts] [Cert.KeysFwdRefIdeal.Facts] : Cert.algebraic_KeysFwdIdeal_KeysFwdRefIdeal := by
  intro m g m' g' _ hagree
  refine ⟨fun c => (Cert.KeysFwdIdeal.Gen.dats m 0 c).arrAt 3 (Cert.KeysFwdIdeal.cfgs 0).N, ?_, ?_⟩
  · exact (θ_run _ _ _).mono (fun r h c => ⟨(h.1 c).1 3, h.2 c⟩)
      (θ_run_and (Cert.KeysFwdIdeal.Gen.run_main m g) (Cert.KeysFwdIdeal.Gen.unchanged m g))
  · refine (θ_run _ _ _).mono (fun r h c => ⟨((h c).1).trans ?_, (h c).2⟩) (Cert.KeysFwdRefIdeal.Value.run m' g')
    · refine (Cert.KeysFwdRefIdeal.Read.val_main_v7_eq _ _ _).trans ?_
      rw [(hagree c).1, (hagree c).2.1, (hagree c).2.2]
      exact (Cert.KeysFwdIdeal.Hand.final3 m c).symm

end Cert.Proof

end
-- ==== Proof.GluBwd.lean ====
/- The gated convolution's backward call (`conformer_glu_conv_bwd`): its body run once over any floats, the buffer
   of the inner gradient at contents given beforehand, so that what is stored may be named by them. -/
module

public import proofs.«01_k».proof.Proof.Gen.GluBwdIdeal.Frame
public import proofs.«01_k».proof.Proof.Gen.GluBwdIdeal.Skeleton
public import proofs.«01_k».proof.Proof.Gen.GluBwdIdeal.Loops
public import Idealize.ShloMosaic.Lib.Claim

@[expose] public section

set_option maxRecDepth 16384

noncomputable section

namespace Cert.GluBwdIdeal.Hand

open Cert.GluBwdIdeal Cert.GluBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body from whole buffers: the inputs at `x0 … x3`, the inner gradient's buffer at `g`, the results' and the
    other buffers at anything. The pieces stored into the four results are what the run finds. -/
noncomputable def bodyRun (c : Dev nD) (i : grid0.Coords)
    (arg1 : Memref sig .tc .vmem S2048x128 .f32) (h1 : arg1.IsWhole) (arg2 : Memref sig .tc .vmem S2048x128 .f32) (h2 : arg2.IsWhole)
    (arg3 : Memref sig .tc .vmem S31x128 .f32) (h3 : arg3.IsWhole) (arg4 : Memref sig .tc .vmem S2048x128 .f32) (h4 : arg4.IsWhole)
    (arg5 : Memref sig .tc .vmem S2x2048x128 .bf16) (h5 : arg5.IsWhole) (arg6 : Memref sig .tc .vmem S2x128 .f32) (h6 : arg6.IsWhole)
    (arg7 : Memref sig .tc .vmem S31x128 .f32) (h7 : arg7.IsWhole) (arg8 : Memref sig .tc .vmem S1x128 .f32) (h8 : arg8.IsWhole)
    (arg9 : Memref sig .tc .vmem S8x2080x128 .f32) (h9 : arg9.IsWhole) (arg10 : Memref sig .tc .vmem S8x2080x128 .f32) (h10 : arg10.IsWhole)
    (arg11 : Memref sig .tc .vmem S32x8x128 .f32) (h11 : arg11.IsWhole) (arg12 : Memref sig .tc .vmem S2048x128 .f32) (h12 : arg12.IsWhole)
    (x0 x1 : Vec F S2048x128 .f32) (x2 : Vec F S31x128 .f32) (x3 : Vec F S2048x128 .f32)
    (g : BufTy.Contents (Elt F) arg12.view.ty) :
    Σ' (L4 : List (View.Piece (Elt F) S2x2048x128 .bf16)) (L5 : List (View.Piece (Elt F) S2x128 .f32))
      (L6 : List (View.Piece (Elt F) S31x128 .f32)), { L7 : List (View.Piece (Elt F) S1x128 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (∃ d, owns (c : Thread nD τ) arg11 fullShare d) ∗ (arg12.view.loc (c : Thread nD τ) ↦[arg12.view.set]{fullShare} g)
            ∗ (iprop(owns (c : Thread nD τ) arg1 fullShare x0 ∗ owns (c : Thread nD τ) arg2 fullShare x1
              ∗ owns (c : Thread nD τ) arg3 fullShare x2 ∗ owns (c : Thread nD τ) arg4 fullShare x3
              ∗ (∃ f, arg5.view.loc (c : Thread nD τ) ↦[arg5.view.set]{fullShare} arg5.view.writes (Elt F) f L4)
              ∗ (∃ f, arg6.view.loc (c : Thread nD τ) ↦[arg6.view.set]{fullShare} arg6.view.writes (Elt F) f L5)
              ∗ (∃ f, arg7.view.loc (c : Thread nD τ) ↦[arg7.view.set]{fullShare} arg7.view.writes (Elt F) f L6)
              ∗ (∃ f, arg8.view.loc (c : Thread nD τ) ↦[arg8.view.set]{fullShare} arg8.view.writes (Elt F) f L7)
              ∗ (∃ d, owns (c : Thread nD τ) arg9 fullShare d) ∗ (∃ d, owns (c : Thread nD τ) arg10 fullShare d)
              ∗ (∃ d, owns (c : Thread nD τ) arg11 fullShare d) ∗ (∃ d, owns (c : Thread nD τ) arg12 fullShare d)) -∗ K ⟨⟩))
          ⊢ wp frame (wpE (defs₀ (F := F)) Variants.none c none) E
              (cc0_conformer_glu_conv_bwd i arg1 h1 arg2 h2 arg3 h3 arg4 h4 arg5 h5 arg6 h6 arg7 h7 arg8 h8 arg9 h9 arg10 h10 arg11 h11 arg12 h12) K } := by
  refine ⟨?_, ?_, ?_, ?_, fun E K => ?run⟩
  case run =>
    simp only [cc0_conformer_glu_conv_bwd_eq_skeleton]; unfold cc0_conformer_glu_conv_bwd_skel
    simp only [k0_part21_eq_skeleton, k0_part22_eq_skeleton, k0_part23_eq_skeleton, k0_part24_eq_skeleton,
      k0_part25_eq_skeleton, k0_part26_eq_skeleton, k0_part27_eq_skeleton, k0_part28_eq_skeleton, k0_part29_eq_skeleton,
      k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩,
      ⟨%d6, %f6, -, H6⟩, ⟨%d7, %f7, -, H7⟩, ⟨%d8, %f8, -, H8⟩, ⟨%d9, %f9, -, H9⟩, ⟨%d10, %f10, -, H10⟩, H11, Hk⟩
    obtain rfl := h1.eq_unread hf0; obtain rfl := h2.eq_unread hf1
    obtain rfl := h3.eq_unread hf2; obtain rfl := h4.eq_unread hf3
    sl_exec
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]; · iexists _; iexact H4
    isplitl [H5]; · iexists _; iexact H5
    isplitl [H6]; · iexists _; iexact H6
    isplitl [H7]; · iexists _; iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

section
variable (c : Dev nD) (i : grid0.Coords)
    (arg1 : Memref sig .tc .vmem S2048x128 .f32) (h1 : arg1.IsWhole) (arg2 : Memref sig .tc .vmem S2048x128 .f32) (h2 : arg2.IsWhole)
    (arg3 : Memref sig .tc .vmem S31x128 .f32) (h3 : arg3.IsWhole) (arg4 : Memref sig .tc .vmem S2048x128 .f32) (h4 : arg4.IsWhole)
    (arg5 : Memref sig .tc .vmem S2x2048x128 .bf16) (h5 : arg5.IsWhole) (arg6 : Memref sig .tc .vmem S2x128 .f32) (h6 : arg6.IsWhole)
    (arg7 : Memref sig .tc .vmem S31x128 .f32) (h7 : arg7.IsWhole) (arg8 : Memref sig .tc .vmem S1x128 .f32) (h8 : arg8.IsWhole)
    (arg9 : Memref sig .tc .vmem S8x2080x128 .f32) (h9 : arg9.IsWhole) (arg10 : Memref sig .tc .vmem S8x2080x128 .f32) (h10 : arg10.IsWhole)
    (arg11 : Memref sig .tc .vmem S32x8x128 .f32) (h11 : arg11.IsWhole) (arg12 : Memref sig .tc .vmem S2048x128 .f32) (h12 : arg12.IsWhole)
    (x0 x1 : Vec F S2048x128 .f32) (x2 : Vec F S31x128 .f32) (x3 : Vec F S2048x128 .f32)
    (g g' : BufTy.Contents (Elt F) arg12.view.ty)

/-- A trip's pieces do not read the inner gradient's buffer. -/
theorem trip_free (v1 v3 v4 v177 X3 X4 X9 X10 k f11 f12 f12') :
    tripL_k0_t1 (F := F) Variants.none c none i arg1 h1 arg2 h2 arg3 h3 arg4 h4 arg5 h5 arg6 h6 arg7 h7 arg8 h8 arg9 h9 arg10 h10 arg11 h11 arg12 h12
      v1 v3 v4 v177 X3 X4 X9 X10 k f11 f12
    = tripL_k0_t1 (F := F) Variants.none c none i arg1 h1 arg2 h2 arg3 h3 arg4 h4 arg5 h5 arg6 h6 arg7 h7 arg8 h8 arg9 h9 arg10 h10 arg11 h11 arg12 h12
      v1 v3 v4 v177 X3 X4 X9 X10 k f11 f12' := by
  unfold tripL_k0_t1 trip_k0_t1
  rfl

theorem pb_free (v1 v3 v4 v177 X3 X4 X9 X10 G11 ) (k : ℕ) :
    pb_k0_t1 (F := F) Variants.none c none i arg1 h1 arg2 h2 arg3 h3 arg4 h4 arg5 h5 arg6 h6 arg7 h7 arg8 h8 arg9 h9 arg10 h10 arg11 h11 arg12 h12
      v1 v3 v4 v177 X3 X4 X9 X10 G11 g k
    = pb_k0_t1 (F := F) Variants.none c none i arg1 h1 arg2 h2 arg3 h3 arg4 h4 arg5 h5 arg6 h6 arg7 h7 arg8 h8 arg9 h9 arg10 h10 arg11 h11 arg12 h12
      v1 v3 v4 v177 X3 X4 X9 X10 G11 g' k := by
  induction k with
  | zero => rfl
  | succ k ih =>
    by_cases hk : k < k0_t1_loop.trips
    · have a := pb_k0_t1_succ (F := F) Variants.none c none i arg1 h1 arg2 h2 arg3 h3 arg4 h4 arg5 h5 arg6 h6 arg7 h7 arg8 h8 arg9 h9 arg10 h10 arg11 h11
        arg12 h12 v1 v3 v4 v177 X3 X4 X9 X10 G11 g ⟨k, hk⟩
      have b := pb_k0_t1_succ (F := F) Variants.none c none i arg1 h1 arg2 h2 arg3 h3 arg4 h4 arg5 h5 arg6 h6 arg7 h7 arg8 h8 arg9 h9 arg10 h10 arg11 h11
        arg12 h12 v1 v3 v4 v177 X3 X4 X9 X10 G11 g' ⟨k, hk⟩
      refine a.trans (Eq.trans ?_ b.symm)
      simp only [ih]
      exact congrArg (fun p : List _ × List _ => (p.1 ++ _, p.2 ++ _)) (trip_free c i arg1 h1 arg2 h2 arg3 h3 arg4 h4 arg5 h5 arg6 h6 arg7 h7 arg8 h8
        arg9 h9 arg10 h10 arg11 h11 arg12 h12 v1 v3 v4 v177 X3 X4 X9 X10 ⟨k, hk⟩ _ _ _)
    · rw [pb_k0_t1.eq_2, pb_k0_t1.eq_2]
      unfold pb_k0_t1Step
      rw [dif_neg hk, dif_neg hk, ih]

/-- The trips' pieces tile the inner gradient's buffer. -/
theorem pb_cover (v1 v3 v4 v177 X3 X4 X9 X10 G11) (y : S2048x128.Idx) :
    ∃ p ∈ (pb_k0_t1 (F := F) Variants.none c none i arg1 h1 arg2 h2 arg3 h3 arg4 h4 arg5 h5 arg6 h6 arg7 h7 arg8 h8 arg9 h9 arg10 h10 arg11 h11 arg12 h12
      v1 v3 v4 v177 X3 X4 X9 X10 G11 g (Scf.trips k0_t1_loop.lb k0_t1_loop.ub k0_t1_loop.st)).2, y ∈ p.1.set :=
  View.cover_of_tiledL (pb_k0_t1 (F := F) Variants.none c none i arg1 h1 arg2 h2 arg3 h3 arg4 h4 arg5 h5 arg6 h6 arg7 h7 arg8 h8 arg9 h9 arg10 h10
    arg11 h11 arg12 h12 v1 v3 v4 v177 X3 X4 X9 X10 G11 g (Scf.trips k0_t1_loop.lb k0_t1_loop.ub k0_t1_loop.st)).2 S128x128.size (by sl_kernel_rfl) y

/-- What is read back of the inner gradient after the trips does not depend on what its buffer held before them. -/
theorem load_free (v1 v3 v4 v177 X3 X4 X9 X10 G11) (r : LoadRect S2048x128) :
    View.readAt (Elt F) arg12.view r (arg12.view.writes (Elt F) g (pb_k0_t1 (F := F) Variants.none c none i arg1 h1 arg2 h2 arg3 h3 arg4 h4 arg5 h5 arg6 h6
      arg7 h7 arg8 h8 arg9 h9 arg10 h10 arg11 h11 arg12 h12 v1 v3 v4 v177 X3 X4 X9 X10 G11 g (Scf.trips k0_t1_loop.lb k0_t1_loop.ub k0_t1_loop.st)).2)
    = View.readAt (Elt F) arg12.view r (arg12.view.writes (Elt F) g' (pb_k0_t1 (F := F) Variants.none c none i arg1 h1 arg2 h2 arg3 h3 arg4 h4 arg5 h5 arg6 h6
      arg7 h7 arg8 h8 arg9 h9 arg10 h10 arg11 h11 arg12 h12 v1 v3 v4 v177 X3 X4 X9 X10 G11 g' (Scf.trips k0_t1_loop.lb k0_t1_loop.ub k0_t1_loop.st)).2) := by
  rw [pb_free c i arg1 h1 arg2 h2 arg3 h3 arg4 h4 arg5 h5 arg6 h6 arg7 h7 arg8 h8 arg9 h9 arg10 h10 arg11 h11 arg12 h12 g g']
  exact funext fun x => congrFun (View.read_writes_of_cover _ _ _ _ _ (pb_cover c i arg1 h1 arg2 h2 arg3 h3 arg4 h4 arg5 h5 arg6 h6 arg7 h7 arg8 h8
    arg9 h9 arg10 h10 arg11 h11 arg12 h12 g' v1 v3 v4 v177 X3 X4 X9 X10 G11)) _

local notation "RUN" => bodyRun c i arg1 h1 arg2 h2 arg3 h3 arg4 h4 arg5 h5 arg6 h6 arg7 h7 arg8 h8 arg9 h9 arg10 h10 arg11 h11 arg12 h12 x0 x1 x2 x3

theorem free4 : (RUN g).1 = (RUN g').1 := by
  unfold bodyRun
  dsimp only
  unfold bodyRun.sl.r_7 bodyRun.sl.v193
  rw [load_free c i arg1 h1 arg2 h2 arg3 h3 arg4 h4 arg5 h5 arg6 h6 arg7 h7 arg8 h8 arg9 h9 arg10 h10 arg11 h11 arg12 h12 g g']

theorem free5 : (RUN g).2.1 = (RUN g').2.1 := by
  unfold bodyRun
  dsimp only
  unfold bodyRun.sl.r_6 bodyRun.sl.r_5 bodyRun.sl.v193
  rw [load_free c i arg1 h1 arg2 h2 arg3 h3 arg4 h4 arg5 h5 arg6 h6 arg7 h7 arg8 h8 arg9 h9 arg10 h10 arg11 h11 arg12 h12 g g']

theorem free6 : (RUN g).2.2.1 = (RUN g').2.2.1 := by
  unfold bodyRun
  dsimp only
  sl_unfold_words
  have e := pb_free (F := F) c i arg1 h1 arg2 h2 arg3 h3 arg4 h4 arg5 h5 arg6 h6 arg7 h7 arg8 h8 arg9 h9 arg10 h10 arg11 h11 arg12 h12 g g'
  simp only [e]

theorem free7 : (RUN g).2.2.2.1 = (RUN g').2.2.2.1 := by
  unfold bodyRun
  dsimp only

theorem cover4 (y : S2x2048x128.Idx) : ∃ p ∈ (RUN g).1, y ∈ p.1.set :=
  View.cover_of_tiledL (RUN g).1 S1x2048x128.size (by sl_kernel_rfl) y
theorem cover5 (y : S2x128.Idx) : ∃ p ∈ (RUN g).2.1, y ∈ p.1.set :=
  View.cover_of_tiledL (RUN g).2.1 S1x128.size (by sl_kernel_rfl) y
theorem cover6 (y : S31x128.Idx) : ∃ p ∈ (RUN g).2.2.1, y ∈ p.1.set :=
  View.cover_of_tiledL (RUN g).2.2.1 S1x128.size (by sl_kernel_rfl) y
theorem cover7 (y : S1x128.Idx) : ∃ p ∈ (RUN g).2.2.2.1, y ∈ p.1.set :=
  View.cover_of_tiledL (RUN g).2.2.2.1 S1x128.size (by sl_kernel_rfl) y

attribute [irreducible] bodyRun

set_option maxHeartbeats 1000000 in
/-- The body from whole buffers, all but the inputs' at anything: each result's buffer ends holding the pieces of the
    run from nothing in particular, read back. -/
theorem body_at (E : Set ℕ) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1
          ∗ owns (c : Thread nD τ) arg3 fullShare x2 ∗ owns (c : Thread nD τ) arg4 fullShare x3
          ∗ owns (c : Thread nD τ) arg5 fullShare (arg5.view.read (Elt F) (arg5.view.writes (Elt F) arg5.view.junk (RUN arg12.view.junk).1))
          ∗ owns (c : Thread nD τ) arg6 fullShare (arg6.view.read (Elt F) (arg6.view.writes (Elt F) arg6.view.junk (RUN arg12.view.junk).2.1))
          ∗ owns (c : Thread nD τ) arg7 fullShare (arg7.view.read (Elt F) (arg7.view.writes (Elt F) arg7.view.junk (RUN arg12.view.junk).2.2.1))
          ∗ owns (c : Thread nD τ) arg8 fullShare (arg8.view.read (Elt F) (arg8.view.writes (Elt F) arg8.view.junk (RUN arg12.view.junk).2.2.2.1))
          ∗ (∃ d, owns (c : Thread nD τ) arg9 fullShare d) ∗ (∃ d, owns (c : Thread nD τ) arg10 fullShare d)
          ∗ (∃ d, owns (c : Thread nD τ) arg11 fullShare d) ∗ (∃ d, owns (c : Thread nD τ) arg12 fullShare d)) -∗ K ⟨⟩))
      ⊢ wp frame (wpE (defs₀ (F := F)) Variants.none c none) E (cc0_conformer_glu_conv_bwd i arg1 h1 arg2 h2 arg3 h3 arg4 h4 arg5 h5 arg6 h6 arg7 h7 arg8 h8 arg9 h9 arg10 h10 arg11 h11 arg12 h12) K := by
  unfold owns
  iintro ⟨H0, H1, H2, H3, H4, H5, H6, H7, H8, H9, H10, ⟨%d, %g, -, H11⟩, Hk⟩
  have hrun := (RUN g).2.2.2.2 E K
  unfold owns at hrun
  iapply hrun
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, ⟨%e4, H4⟩, ⟨%e5, H5⟩, ⟨%e6, H6⟩, ⟨%e7, H7⟩, H8⟩
  iapply Hk
  isplitl [H0]; · iexact H0
  isplitl [H1]; · iexact H1
  isplitl [H2]; · iexact H2
  isplitl [H3]; · iexact H3
  isplitl [H4]
  · iexists _; isplitr; swap; · iexact H4
    ipureintro; exact (congrArg (fun L => arg5.view.read (Elt F) (arg5.view.writes (Elt F) e4 L)) (free4 c i arg1 h1 arg2 h2 arg3 h3 arg4 h4 arg5 h5 arg6 h6 arg7 h7 arg8 h8 arg9 h9 arg10 h10 arg11 h11 arg12 h12 x0 x1 x2 x3 g arg12.view.junk)).trans
      (View.read_writes_of_cover _ _ _ _ _ (cover4 c i arg1 h1 arg2 h2 arg3 h3 arg4 h4 arg5 h5 arg6 h6 arg7 h7 arg8 h8 arg9 h9 arg10 h10 arg11 h11 arg12 h12 x0 x1 x2 x3 _))
  isplitl [H5]
  · iexists _; isplitr; swap; · iexact H5
    ipureintro; exact (congrArg (fun L => arg6.view.read (Elt F) (arg6.view.writes (Elt F) e5 L)) (free5 c i arg1 h1 arg2 h2 arg3 h3 arg4 h4 arg5 h5 arg6 h6 arg7 h7 arg8 h8 arg9 h9 arg10 h10 arg11 h11 arg12 h12 x0 x1 x2 x3 g arg12.view.junk)).trans
      (View.read_writes_of_cover _ _ _ _ _ (cover5 c i arg1 h1 arg2 h2 arg3 h3 arg4 h4 arg5 h5 arg6 h6 arg7 h7 arg8 h8 arg9 h9 arg10 h10 arg11 h11 arg12 h12 x0 x1 x2 x3 _))
  isplitl [H6]
  · iexists _; isplitr; swap; · iexact H6
    ipureintro; exact (congrArg (fun L => arg7.view.read (Elt F) (arg7.view.writes (Elt F) e6 L)) (free6 c i arg1 h1 arg2 h2 arg3 h3 arg4 h4 arg5 h5 arg6 h6 arg7 h7 arg8 h8 arg9 h9 arg10 h10 arg11 h11 arg12 h12 x0 x1 x2 x3 g arg12.view.junk)).trans
      (View.read_writes_of_cover _ _ _ _ _ (cover6 c i arg1 h1 arg2 h2 arg3 h3 arg4 h4 arg5 h5 arg6 h6 arg7 h7 arg8 h8 arg9 h9 arg10 h10 arg11 h11 arg12 h12 x0 x1 x2 x3 _))
  isplitl [H7]
  · iexists _; isplitr; swap; · iexact H7
    ipureintro; exact (congrArg (fun L => arg8.view.read (Elt F) (arg8.view.writes (Elt F) e7 L)) (free7 c i arg1 h1 arg2 h2 arg3 h3 arg4 h4 arg5 h5 arg6 h6 arg7 h7 arg8 h8 arg9 h9 arg10 h10 arg11 h11 arg12 h12 x0 x1 x2 x3 g arg12.view.junk)).trans
      (View.read_writes_of_cover _ _ _ _ _ (cover7 c i arg1 h1 arg2 h2 arg3 h3 arg4 h4 arg5 h5 arg6 h6 arg7 h7 arg8 h8 arg9 h9 arg10 h10 arg11 h11 arg12 h12 x0 x1 x2 x3 _))
  iexact H8
end

/-! ## The results after a point -/

abbrev sc9 : Memref sig .tc .vmem S8x2080x128 .f32 := Memref.whole cc0_scratch0
abbrev sc10 : Memref sig .tc .vmem S8x2080x128 .f32 := Memref.whole cc0_scratch1
abbrev sc11 : Memref sig .tc .vmem S32x8x128 .f32 := Memref.whole cc0_scratch2
abbrev sc12 : Memref sig .tc .vmem S2048x128 .f32 := Memref.whole cc0_scratch3

/-- The run at point `t` of the grid, from blocks `x0 … x3`. -/
abbrev runAt (c : Dev nD) (t : Fin cfg0.N) (x0 x1 : Vec F S2048x128 .f32) (x2 : Vec F S31x128 .f32) (x3 : Vec F S2048x128 .f32)
    (g : BufTy.Contents (Elt F) sc12.view.ty) :=
  bodyRun c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    sc9 (Memref.isWhole_whole _) sc10 (Memref.isWhole_whole _) sc11 (Memref.isWhole_whole _) sc12 (Memref.isWhole_whole _) x0 x1 x2 x3 g

section
variable (m : (ℓ : Loc nD τ sig) → Buf (Elt F) ℓ) (ρ : Dev nD → PrngReg) (c : Dev nD) (t : Fin cfg0.N)

/-- The run at a point from the point's blocks, the inner gradient's buffer at nothing in particular. -/
abbrev runOf := runAt c t (iblk m c 0 t) (iblk m c 1 t) (iblk m c 2 t) (iblk m c 3 t) sc12.view.junk

def res4 : Vec F S2x2048x128 .bf16 := (st0_4 t).view.read (Elt F) ((st0_4 t).view.writes (Elt F) (st0_4 t).view.junk (runOf m c t).1)
def res5 : Vec F S2x128 .f32 := (st0_5 t).view.read (Elt F) ((st0_5 t).view.writes (Elt F) (st0_5 t).view.junk (runOf m c t).2.1)
def res6 : Vec F S31x128 .f32 := (st0_6 t).view.read (Elt F) ((st0_6 t).view.writes (Elt F) (st0_6 t).view.junk (runOf m c t).2.2.1)
def res7 : Vec F S1x128 .f32 := (st0_7 t).view.read (Elt F) ((st0_7 t).view.writes (Elt F) (st0_7 t).view.junk (runOf m c t).2.2.2.1)

end

section
variable (m : (ℓ : Loc nD τ sig) → Buf (Elt F) ℓ) (ρ : Dev nD → PrngReg)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => res4 m c t
    | ⟨5, _⟩ => res5 m c t
    | ⟨6, _⟩ => res6 m c t
    | ⟨7, _⟩ => res7 m c t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

section
variable (c : Dev nD) (t : Fin cfg0.N)

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = res4 m c t := by dsimp only [dats]
theorem after5 : (dats m 0 c).after 5 t = res5 m c t := by dsimp only [dats]
theorem after6 : (dats m 0 c).after 6 t = res6 m c t := by dsimp only [dats]
theorem after7 : (dats m 0 c).after 7 t = res7 m c t := by dsimp only [dats]

theorem before0 (d) : (dats m 0 c).before 0 t d = iblk m c 0 t := before0_0_of m (dats m 0 c) (A_eq m c 0) (after0 m c) t d
theorem before1 (d) : (dats m 0 c).before 1 t d = iblk m c 1 t := before0_1_of m (dats m 0 c) (A_eq m c 1) (after1 m c) t d
theorem before2 (d) : (dats m 0 c).before 2 t d = iblk m c 2 t := before0_2_of m (dats m 0 c) (A_eq m c 2) (after2 m c) t d
theorem before3 (d) : (dats m 0 c).before 3 t d = iblk m c 3 t := before0_3_of m (dats m 0 c) (A_eq m c 3) (after3 m c) t d

/-- The region's rest: the four scratch buffers at some contents and the generator's register. -/
theorem rest_eq : (Pipeline.ΦA spec0 c : sProp 𝕄)
    = iprop(((∃ d, owns (c : Thread nD τ) sc9 fullShare d) ∗ (∃ d, owns (c : Thread nD τ) sc10 fullShare d)
        ∗ (∃ d, owns (c : Thread nD τ) sc11 fullShare d) ∗ (∃ d, owns (c : Thread nD τ) sc12 fullShare d)) ∗ (∃ r, prngReg c r)) := by
  unfold Pipeline.ΦA
  rw [scopedRest0_eq]
  simp only [sc9, sc10, sc11, sc12, owns_whole]
  try rfl

/-- What the body is called with at a point, -/
def pre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it gives back. -/
def post : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ owns (c : Thread nD τ) (st0_5 t) fullShare ((dats m 0 c).after 5 t)
    ∗ owns (c : Thread nD τ) (st0_6 t) fullShare ((dats m 0 c).after 6 t) ∗ owns (c : Thread nD τ) (st0_7 t) fullShare ((dats m 0 c).after 7 t))

set_option maxHeartbeats 1000000 in
theorem triple_at : pre m c t ⊢ wp frame (wpE (defs₀ (F := F)) Variants.none c none) Set.univ (bodyAt0 t) (fun _ => post m c t) := by
  unfold pre post bodyAt0
  simp only [before0, before1, before2, before3]
  rw [show (dats m 0 c).Φ t.succ = Pipeline.ΦA spec0 c from rfl, show (dats m 0 c).Φ t.castSucc = Pipeline.ΦA spec0 c from rfl, rest_eq,
    show (dats m 0 c).owesAt () t.succ = (dats m 0 c).owesAt () t.castSucc from rfl,
    after0, after1, after2, after3, after4, after5, after6, after7]
  unfold res4 res5 res6 res7 runOf runAt
  iintro ⟨⟨⟨H8, H9, H10, H11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_at c (grid0.coords t) _ _ _ _ _ _ _ _ _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexact H8
  isplitl [H9]; · iexact H9
  isplitl [H10]; · iexact H10
  isplitl [H11]; · iexact H11
  iintro ⟨H0, H1, H2, H3, H4, H5, H6, H7, H8⟩
  isplitl [H8 Hg]
  · isplitl [H8]
    · iexact H8
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (triple_at m c t) rfl .rfl fun _ => .rfl

set_option backward.isDefEq.respectTransparency.types false in
/-- The whole call from any memory: the pipeline's arrays as its data say, every counter at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- The call leaves its arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end

end Cert.GluBwdIdeal.Hand

end
-- ==== Proof.GluFrame.lean ====
/- The frame of the gated convolution's backward call: of its ideal program, and of the kernel as it is, whose text
   is the same. -/
module

public import proofs.«01_k».proof.Defs
public import proofs.«01_k».proof.Proof.GluBwd
public import proofs.«01_k».proof.Proof.Gen.GluBwd.Frame

@[expose] public section

set_option maxRecDepth 16384

namespace Cert.Proof

open Idealize.ShloMosaic Idealize.SL.Sem Idealize.ShloMosaic.Tactic

theorem frame_GluBwdIdeal : Cert.quiescent_GluBwdIdeal := fun m ρ _ => Cert.GluBwdIdeal.Hand.frame m ρ

/-- The two programs have one text, so the ideal program's run over bits is the kernel's. -/
theorem frame_GluBwd : Cert.quiescent_GluBwd := fun m ρ _ => by
  have h := Cert.GluBwdIdeal.Hand.frame (F := Bits) m ρ
  refine Eq.mp ?_ h
  sl_kernel_rfl

end Cert.Proof

end
-- ==== Proof.ConvMath.lean ====
/- A causal convolution of thirty-one taps on one column: the padded column, the eight moved copies it is read from, and the
   sum over the taps one after another. Nothing here names a program. -/
module

public import Idealize.ShloMosaic.Lib.WordCmp
public import Idealize.ShloMosaic.Lib.IdealHost
public import proofs.«01_k».proof.Proof.LnMath

@[expose] public section

noncomputable section

namespace Cert.Proof.Conv

open Idealize.ShloMosaic

/-- Entry `q` of a column with thirty zeros in front. -/
def pad (h : Fin 2048 → EReal) (q : ℕ) : EReal := if hq : 30 ≤ q ∧ q < 2078 then h ⟨q - 30, by omega⟩ else 0

/-- Entry `q` of the copy moved down by `32 + b`, zero above. -/
def dn (h : Fin 2048 → EReal) (b q : ℕ) : EReal := if hq : 32 + b ≤ q ∧ q < 2080 then h ⟨q - 32 - b, by omega⟩ else 0

/-- Tap `k` of thirty-one. -/
def tap (w : Fin 31 → EReal) (k : ℕ) : EReal := if h : k < 31 then w ⟨k, h⟩ else 0

/-- The first `n` taps at row `r`, added to `b` one after another. -/
def acc (w : Fin 31 → EReal) (h : Fin 2048 → EReal) (r : ℕ) (b : EReal) : ℕ → EReal
  | 0 => b
  | n + 1 => acc w h r b n + tap w n * pad h (r + n)

theorem acc_zero (w : Fin 31 → EReal) (h : Fin 2048 → EReal) (r : ℕ) (b : EReal) (n : ℕ) : acc w h r 0 n + b = acc w h r b n := by
  induction n with
  | zero => exact zero_add b
  | succ n ih => rw [acc, acc, add_right_comm, ih]

theorem dn_eq (h : Fin 2048 → EReal) (b r row q n : ℕ) (hb : 8 * r + b ≤ 30) (hb8 : b < 8) (hr : row < 2048) (hq : q = 32 + row - 8 * r)
    (hn : n = row + (30 - 8 * r - b)) : dn h b q = pad h n := by
  subst hq hn
  unfold dn pad
  by_cases e : 32 + b ≤ 32 + row - 8 * r
  · rw [dif_pos ⟨e, by omega⟩, dif_pos ⟨by omega, by omega⟩]
    refine congrArg h (Fin.ext ?_)
    show 32 + row - 8 * r - 32 - b = row + (30 - 8 * r - b) - 30
    omega
  · rw [dif_neg (fun x => e x.1), dif_neg (fun x => e (by omega))]

theorem sge_word (b : ℕ) (hb : b < 8) (x : Fin 2048) :
    IntOp.cmpi CmpIPredicate.sge (BitVec.ofNat 32 (x : ℕ)) (BitVec.ofNat 32 b) = if (x : ℕ) < b then 0#1 else 1#1 := by
  have h := x.isLt
  simp (disch := omega) only [hlo_ix]
  by_cases h1 : (x : ℕ) < b
  · rw [if_pos h1, decide_eq_false (by omega)]; rfl
  · rw [if_neg h1, decide_eq_true (by omega)]; rfl

/-- A rotation by `b` rows with zeros where it wraps is the move down. -/
theorem dn_word (b : ℕ) (hb : b < 8) (z : Fin 2048 → EReal) (x q : Fin 2048) (hq : q = ⟨((x : ℕ) + 2048 - b) % 2048, Nat.mod_lt _ (by decide)⟩) :
    Scalar.select (IntOp.cmpi CmpIPredicate.sge (BitVec.ofNat 32 (x : ℕ)) (BitVec.ofNat 32 b)) (z q) 0 = dn z b (32 + x) := by
  subst hq
  rw [sge_word b hb, dn]
  have hx := x.isLt
  by_cases h : (x : ℕ) < b
  · rw [if_pos h, dif_neg (by omega)]; rfl
  · rw [if_neg h, dif_pos (by omega)]
    refine congrArg z (Fin.ext ?_)
    show ((x : ℕ) + 2048 - b) % 2048 = 32 + (x : ℕ) - 32 - b
    omega

theorem dn_first (b q : ℕ) (z : Fin 2048 → EReal) (hq : q < 32) : dn z b q = 0 := by
  unfold dn
  rw [dif_neg (by omega)]

theorem dn_none (x : Fin 2048) (z : Fin 2048 → EReal) : dn z 0 (32 + x) = z x := by
  have hx := x.isLt
  unfold dn
  rw [dif_pos (by omega)]
  exact congrArg z (Fin.ext (by show 32 + (x : ℕ) - 32 - 0 = x; omega))

/-- One tap more. -/
theorem acc_step {w : Fin 31 → EReal} {h : Fin 2048 → EReal} {r n : ℕ} {b a v z : EReal} (ha : a = acc w h r b n) (hv : v = tap w n) (hz : z = pad h (r + n)) :
    a + v * z = acc w h r b (n + 1) := by
  rw [ha, hv, hz, acc]

end Cert.Proof.Conv

end
-- ==== Proof.GluFwd.lean ====
/- The Conformer's gate and depthwise convolution (`conformer_glu_conv`): the kernel's array is the reference's. -/
module

public import proofs.«01_k».proof.Defs
public import proofs.«01_k».proof.Proof.Gen.GluFwdIdeal.Value
public import proofs.«01_k».proof.Proof.Gen.GluFwdRefIdeal.Read
public import proofs.«01_k».proof.Proof.ConvMath
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.GluFwdIdeal.Hand

open Cert.GluFwdIdeal Cert.GluFwdIdeal.Gen Idealize.ShloMosaic Idealize.ShloMosaic.TcCoe Idealize.SL.Sem
open Idealize.ShloMosaic.Pipeline (Dat)
open Cert.Proof

variable (m : (ℓ : Loc nD τ sig) → Buf (Elt Ideal) ℓ)

open Cert.Proof.Conv
open Idealize.ShloMosaic.Tactic

/-! ## One trip of the rows -/

section
variable (c : Dev nD) (i : grid0.Coords) (arg1 : Memref sig .tc .vmem S2048x128 .f32) (h1 : arg1.IsWhole) (arg2 : Memref sig .tc .vmem S2048x128 .f32) (h2 : arg2.IsWhole)
  (arg3 : Memref sig .tc .vmem S31x128 .f32) (h3 : arg3.IsWhole) (arg4 : Memref sig .tc .vmem S1x128 .f32) (h4 : arg4.IsWhole)
  (arg5 : Memref sig .tc .vmem S2048x128 .f32) (h5 : arg5.IsWhole) (arg6 : Memref sig .tc .vmem S8x2080x128 .f32) (h6 : arg6.IsWhole)
  (X0 X1 : FVec Ideal S2048x128 .f32) (x2 : FVec Ideal S31x128 .f32) (x3 : FVec Ideal S1x128 .f32) (X6 : BufTy.Contents (Elt Ideal) arg6.view.ty)

/-- Column `l` of the gated half. -/
def gate (l : Fin 128) : Fin 2048 → EReal := fun r => X0 (ix2 r l) * sgm (X1 (ix2 r l))

/-- What the block holds at an index. -/
def outG : FVec Ideal S2048x128 .f32 := fun y =>
  acc (fun k => x2 (ix2 k (y 1))) (gate X0 X1 (y 1)) (y 0) (x3 (ix2 0 (y 1))) 31

variable (hX : ∀ (b : Fin 8) (q : Fin 2080) (l : Fin 128), @Eq EReal (arg6.view.read (Elt Ideal) X6 (ix3 b q l)) (dn (gate X0 X1 l) b q))
include hX

/-- A load of a moved copy, at one of its rows. -/
theorem ld (t b N : ℕ) (off : BitVec 32 → Fin 3 → ℕ) (h : ∀ r : Fin N, off (BitVec.ofNat 32 (8 * r.val)) = ![b, (128 * t + 32) - 8 * r.val, 0]) (ht : t < 16) (hb8 : b < 8)
    (v : BitVec 32) (hv : v.toNat < 8 * N ∧ v.toNat % 8 = 0) (hb : v.toNat + b ≤ 30) (p l : Fin 128) (n : ℕ) (hn : n = 128 * t + p + (30 - v.toNat - b))
    (inb : ∀ a, off v a + S1x128x128.size a ≤ S8x2080x128.size a) :
    @Eq EReal (View.readAt (Elt Ideal) arg6.view (Rect.unit (s := S8x2080x128) (off v) S1x128x128.size inb).toLoadRect X6 (ix3 0 p l))
      (pad (gate X0 X1 l) n) := by
  have hr : v.toNat / 8 < N := by omega
  have e : off v = ![b, (128 * t + 32) - 8 * (v.toNat / 8), 0] := by
    rw [← h ⟨v.toNat / 8, hr⟩]
    exact congrArg off (BitVec.eq_of_toNat_eq (by have := v.isLt; show _ = 8 * (v.toNat / 8) % _; omega))
  generalize off v = o at e inb
  subst e
  have hp := p.isLt
  refine (congrArg (arg6.view.read (Elt Ideal) X6) (?_ : _ = ix3 ⟨b, hb8⟩ ⟨(128 * t + 32) - 8 * (v.toNat / 8) + p, by omega⟩ l)).trans
    ((hX _ _ _).trans (dn_eq _ b (v.toNat / 8) (128 * t + p) _ n (by omega) hb8 (by omega) (by show (128 * t + 32) - 8 * (v.toNat / 8) + (p : ℕ) = _; omega) (by omega)))
  funext a
  fin_cases a
  · rfl
  · exact Fin.ext (by show 128 * t + 32 - 8 * (v.toNat / 8) + 1 * (p : ℕ) = 128 * t + 32 - 8 * (v.toNat / 8) + p; omega)
  · exact Fin.ext (by show 0 + 1 * (l : ℕ) = l; omega)

omit hX in
/-- A load of the row of one tap. -/
theorem wt (n : ℕ) (hn : n < 31) (inb : ∀ a, (![n, 0] : Fin 2 → ℕ) a + (![1, 128] : Fin 2 → ℕ) a ≤ S31x128.size a) (l : Fin 128) :
    @Eq EReal (View.readAt (Elt Ideal) arg3.view (Rect.unit (s := S31x128) ![n, 0] ![1, 128] inb).toLoadRect (h3.unread x2) (ix2 0 l)) (tap (fun k => x2 (ix2 k l)) n) := by
  rw [tap, dif_pos hn]
  show arg3.view.read (Elt Ideal) (h3.unread x2) _ = _
  rw [h3.read_unread]
  refine congrArg x2 ?_
  funext a
  fin_cases a
  · rfl
  · exact Fin.ext (by show 0 + 1 * (l : ℕ) = l; omega)

local notation "PB" => pb_k0_t1 (F := Ideal) Variants.none c none i arg1 h1 arg2 h2 arg3 h3 arg4 h4 arg5 h5 arg6 h6 (h3.unread x2) (h4.unread x3) X6

set_option maxHeartbeats 2000000 in
theorem trip_out (k : Fin k0_t1_loop.trips) : ∀ p ∈ tripL_k0_t1 (F := Ideal) Variants.none c none i arg1 h1 arg2 h2 arg3 h3 arg4 h4 arg5 h5 arg6 h6 (h3.unread x2) (h4.unread x3) X6 k,
    ∀ x : p.1.shape.Idx, p.2 x = outG X0 X1 x2 x3 (p.1.emb x) := by
  unfold tripL_k0_t1 trip_k0_t1
  dsimp only
  sl_unfold_run_names
  intro p hp x
  obtain rfl := List.mem_singleton.mp hp
  dsimp only at x ⊢
  clear hp
  idx_vars x
  unfold k0_pay2 k0_pay3 k0_pay4 k0_pay5 k0_pay6 k0_pay7 k0_pay8 k0_pay9 k0_pay10 k0_pay11
  pointwise
  have hk : (k : ℕ) < 16 := k.isLt
  refine Eq.trans ?_ (congrArg (outG X0 X1 x2 x3) (?_ : ix2 ⟨128 * k + x0, by omega⟩ x1 = _))
  · show _ = acc (fun k => x2 (ix2 k x1)) _ (128 * k + x0) _ 31
    iterate 31 refine acc_step ?_ ?_ ?_
    · show arg4.view.read (Elt Ideal) (h4.unread x3) _ = _
      rw [h4.read_unread]
      refine congrArg x3 ?_
      funext a
      fin_cases a
      · rfl
      · exact Fin.ext (by show 0 + 1 * (x1 : ℕ) = x1; omega)
    all_goals first
      | exact wt arg3 h3 x2 _ (by decide) _ x1
      | exact ld arg6 X0 X1 X6 hX k 7 3 (k0_off8 k) (k0_off8_eq k) hk (by decide) _ (by decide) (by decide) x0 x1 _ rfl _
      | exact ld arg6 X0 X1 X6 hX k 6 4 (k0_off1 k) (k0_off1_eq k) hk (by decide) _ (by decide) (by decide) x0 x1 _ rfl _
      | exact ld arg6 X0 X1 X6 hX k 5 4 (k0_off2 k) (k0_off2_eq k) hk (by decide) _ (by decide) (by decide) x0 x1 _ rfl _
      | exact ld arg6 X0 X1 X6 hX k 4 4 (k0_off3 k) (k0_off3_eq k) hk (by decide) _ (by decide) (by decide) x0 x1 _ rfl _
      | exact ld arg6 X0 X1 X6 hX k 3 4 (k0_off4 k) (k0_off4_eq k) hk (by decide) _ (by decide) (by decide) x0 x1 _ rfl _
      | exact ld arg6 X0 X1 X6 hX k 2 4 (k0_off5 k) (k0_off5_eq k) hk (by decide) _ (by decide) (by decide) x0 x1 _ rfl _
      | exact ld arg6 X0 X1 X6 hX k 1 4 (k0_off6 k) (k0_off6_eq k) hk (by decide) _ (by decide) (by decide) x0 x1 _ rfl _
      | exact ld arg6 X0 X1 X6 hX k 0 4 (k0_off7 k) (k0_off7_eq k) hk (by decide) _ (by decide) (by decide) x0 x1 _ rfl _
  · funext a
    fin_cases a
    · refine Fin.ext ?_
      show 128 * (k : ℕ) + x0 = k0_off9 k 0 + 1 * (x0 : ℕ)
      rw [k0_off9_eq k]
      show _ = 128 * (k : ℕ) + 1 * (x0 : ℕ)
      omega
    · refine Fin.ext ?_
      show (x1 : ℕ) = k0_off9 k 1 + 1 * (x1 : ℕ)
      rw [k0_off9_eq k]
      show _ = 0 + 1 * (x1 : ℕ)
      omega

theorem pb_out : ∀ n, n ≤ k0_t1_loop.trips → ∀ p ∈ PB n, ∀ x : p.1.shape.Idx, p.2 x = outG X0 X1 x2 x3 (p.1.emb x)
  | 0, _ => fun p hp => absurd hp List.not_mem_nil
  | n + 1, hn => by
    rw [pb_k0_t1_succ (F := Ideal) Variants.none c none i arg1 h1 arg2 h2 arg3 h3 arg4 h4 arg5 h5 arg6 h6 (h3.unread x2) (h4.unread x3) X6 ⟨n, hn⟩]
    intro p hp
    rcases List.mem_append.mp hp with hp | hp
    · exact trip_out c i arg1 h1 arg2 h2 arg3 h3 arg4 h4 arg5 h5 arg6 h6 X0 X1 x2 x3 X6 hX _ p hp
    · exact pb_out n (by omega) p hp

end

/-! ## The reference's array at an index -/
section
open Cert.GluFwdRefIdeal.Read
variable (x0 : FVec Ideal S2048x2048 .f32) (x1 : FVec Ideal S31x1024 .f32) (x2 : FVec Ideal S1x1024 .f32) (r : Fin 2048) (l : Fin 1024) (q : Fin 2078)

/-- Column `l` of the gated half of the argument. -/
def gateA : Fin 2048 → EReal := fun r => x0 (ix2 r ⟨l, by omega⟩) * sgm (x0 (ix2 r ⟨1024 + l, by omega⟩))

theorem ref8_at : @Eq EReal (val_main_v8 (F := Ideal) x0 (ix2 r l)) (gateA x0 l r) := by
  pointwise [val_main_v0, val_main_v1, val_main_v2, val_main_v3, val_main_cst, val_main_v4, val_main_v5, val_main_cst_0, val_main_v6, val_main_v7, val_main_v8]
  rfl

theorem ref10_at : @Eq EReal (val_main_v10 (F := Ideal) x0 (ix2 q l)) (pad (gateA x0 l) q) := by
  pointwise [val_main_cst_1, val_main_v9, val_main_v10]
  simp only [ref8_at]
  have hq := q.isLt
  unfold Conv.pad
  split
  · rw [dif_neg (by omega)]
  · rw [dif_pos ⟨by omega, by omega⟩]

theorem ref230_at : @Eq EReal (val_main_v230 (F := Ideal) x0 x1 x2 (ix2 r l))
    (acc (fun k => x1 (ix2 k l)) (gateA x0 l) r (x2 (ix2 0 l)) 31) := by
  pointwise [val_main_v11, val_main_v12, val_main_v13, val_main_v14, val_main_v15, val_main_v16, val_main_cst_2, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230]
  simp only [ref10_at]
  rw [← acc_zero]
  refine congrArg₂ (· + ·) ?_ rfl
  iterate 30 refine acc_step ?_ ?_ ?_
  · exact (zero_add _).symm.trans (acc_step rfl (by rw [tap, dif_pos (by decide)]; rfl) rfl)
  all_goals first
    | rfl
    | (rw [tap, dif_pos (by decide)]; rfl)
    | exact congrArg _ (Nat.add_comm _ _)

end

/-! ## The array -/

theorem idx : ∀ t : Fin cfg0.N, win0_0.index t = ![0, t.val] ∧ win0_1.index t = ![0, t.val + 8] ∧ win0_2.index t = ![0, t.val] ∧ win0_3.index t = ![0, t.val]
    ∧ win0_4.index t = ![0, t.val] :=
  (by decide +kernel : ∀ t : Fin grid0.N, _)

theorem t_lt (t : Fin cfg0.N) : t.val < 8 := lt_of_lt_of_eq t.isLt N_0

section
variable (c : Dev nD) (t : Fin cfg0.N) (r : Fin 2048) (l : Fin 128)

theorem blk0 : @Eq EReal (iblk m c 0 t (ix2 r l : S2048x128.Idx)) (m ((c : Thread nD τ).loc main_arg0) (ix2 r ⟨t.val * 128 + l, by have := t_lt t; omega⟩ : S2048x2048.Idx)) := by
  blk_point [iblk, V, idx t]

theorem blk1 : @Eq EReal (iblk m c 1 t (ix2 r l : S2048x128.Idx)) (m ((c : Thread nD τ).loc main_arg0) (ix2 r ⟨(t.val + 8) * 128 + l, by have := t_lt t; omega⟩ : S2048x2048.Idx)) := by
  blk_point [iblk, V, idx t]

theorem blk2 (k : Fin 31) : @Eq EReal (iblk m c 2 t (ix2 k l : S31x128.Idx)) (m ((c : Thread nD τ).loc main_arg1) (ix2 k ⟨t.val * 128 + l, by have := t_lt t; omega⟩ : S31x1024.Idx)) := by
  blk_point [iblk, V, idx t]

theorem blk3 : @Eq EReal (iblk m c 3 t (ix2 0 l : S1x128.Idx)) (m ((c : Thread nD τ).loc main_arg2) (ix2 0 ⟨t.val * 128 + l, by have := t_lt t; omega⟩ : S1x1024.Idx)) := by
  blk_point [iblk, V, idx t]

end

/-- The moved copies side by side. -/
def dnG (x0 x1 : FVec Ideal S2048x128 .f32) : FVec Ideal S8x2080x128 .f32 := fun y => dn (gate x0 x1 (y 2)) (y 0) (y 1)

theorem zeros (x0 x1 : FVec Ideal S2048x128 .f32) (b : ℕ) (inb : ∀ a, (![b, 0, 0] : Fin 3 → ℕ) a + S1x32x128.size a ≤ S8x2080x128.size a) (u : S1x32x128.Idx → EReal)
    (hu : ∀ (q : Fin 32) (l : Fin 128), u (ix3 0 q l) = 0) (y : S1x32x128.Idx) : u y = dnG x0 x1 ((Rect.unit (s := S8x2080x128) ![b, 0, 0] S1x32x128.size inb).emb y) := by
  idx_vars y
  obtain rfl : y0 = 0 := Subsingleton.elim _ _
  rw [hu]
  refine (dn_first b (0 + 1 * (y1 : ℕ)) (gate x0 x1 y2) (by have := y1.isLt; omega)).symm.trans ?_
  show _ = dn (gate x0 x1 ⟨0 + 1 * (y2 : ℕ), _⟩) (b + 1 * 0) (0 + 1 * (y1 : ℕ))
  simp only [Nat.mul_zero, Nat.add_zero, Nat.zero_add, Nat.one_mul]

theorem moved (x0 x1 : FVec Ideal S2048x128 .f32) (b : ℕ) (inb : ∀ a, (![b, 32, 0] : Fin 3 → ℕ) a + S1x2048x128.size a ≤ S8x2080x128.size a) (u : S1x2048x128.Idx → EReal)
    (hu : ∀ (q : Fin 2048) (l : Fin 128), u (ix3 0 q l) = dn (gate x0 x1 l) b (32 + q)) (y : S1x2048x128.Idx) :
    u y = dnG x0 x1 ((Rect.unit (s := S8x2080x128) ![b, 32, 0] S1x2048x128.size inb).emb y) := by
  idx_vars y
  obtain rfl : y0 = 0 := Subsingleton.elim _ _
  rw [hu]
  show _ = dn (gate x0 x1 ⟨0 + 1 * (y2 : ℕ), _⟩) (b + 1 * 0) (32 + 1 * (y1 : ℕ))
  simp only [Nat.mul_zero, Nat.add_zero, Nat.zero_add, Nat.one_mul]

theorem box (b o n : ℕ) (inb : ∀ a, (![b, o, 0] : Fin 3 → ℕ) a + (![1, n, 128] : Fin 3 → ℕ) a ≤ S8x2080x128.size a) {c : Fin 8} {q : Fin 2080} {l : Fin 128}
    (hb : (c : ℕ) = b) (h0 : o ≤ (q : ℕ)) (h1 : (q : ℕ) < o + n) : (ix3 c q l : S8x2080x128.Idx) ∈ (Rect.unit (s := S8x2080x128) ![b, o, 0] ![1, n, 128] inb).set := by
  have hl := l.isLt
  refine Rect.mem_set_unit.mpr fun a => ?_
  fin_cases a
  · exact ⟨hb.ge, by show (c : ℕ) < b + 1; omega⟩
  · exact ⟨h0, h1⟩
  · exact ⟨Nat.zero_le _, by show (l : ℕ) < 0 + 128; omega⟩

/-- A load of a whole buffer is the buffer. -/
theorem whole {arg : Memref sig .tc .vmem S2048x128 .f32} (h : arg.IsWhole) (x : FVec Ideal S2048x128 .f32) :
    View.readAt (Elt Ideal) arg.view (Rect.unit (s := S2048x128) ![0, 0] S2048x128.size inb_S2048x128_S2048x128_0_0).toLoadRect (h.unread x) = x := by
  funext y
  show arg.view.read (Elt Ideal) (h.unread x) _ = _
  rw [h.read_unread]
  refine congrArg x ?_
  funext a
  fin_cases a
  · exact Fin.ext (by show 0 + 1 * (y 0 : ℕ) = y 0; omega)
  · exact Fin.ext (by show 0 + 1 * (y 1 : ℕ) = y 1; omega)

theorem out_at (c : Dev nD) (i : grid0.Coords) (arg1 : Memref sig .tc .vmem S2048x128 .f32) (h1 : arg1.IsWhole) (arg2 : Memref sig .tc .vmem S2048x128 .f32) (h2 : arg2.IsWhole)
    (arg3 : Memref sig .tc .vmem S31x128 .f32) (h3 : arg3.IsWhole) (arg4 : Memref sig .tc .vmem S1x128 .f32) (h4 : arg4.IsWhole)
    (arg5 : Memref sig .tc .vmem S2048x128 .f32) (h5 : arg5.IsWhole) (arg6 : Memref sig .tc .vmem S8x2080x128 .f32) (h6 : arg6.IsWhole)
    (x0 x1 : FVec Ideal S2048x128 .f32) (x2 : FVec Ideal S31x128 .f32) (x3 : FVec Ideal S1x128 .f32) (y : S2048x128.Idx) :
    out0_A_4 (F := Ideal) c i arg1 h1 arg2 h2 arg3 h3 arg4 h4 arg5 h5 arg6 h6 x0 x1 x2 x3 y = outG x0 x1 x2 x3 y := by
  unfold out0_A_4
  refine View.read_writes_apply_of_pieces _ _ (outG x0 x1 x2 x3) _ ?_ y (cover0_A_4 (F := Ideal) c i arg1 h1 arg2 h2 arg3 h3 arg4 h4 arg5 h5 arg6 h6 x0 x1 x2 x3 y)
  unfold kernelRun0_A
  dsimp only
  refine pb_out c i arg1 h1 arg2 h2 arg3 h3 arg4 h4 arg5 h5 arg6 h6 x0 x1 x2 x3 _ (fun b q l => ?_) _ le_rfl
  refine View.read_writes_apply_of_pieces (Val := Elt Ideal) arg6.view _ (dnG x0 x1) _ ?_ (ix3 b q l) ?_
  · sl_unfold_run_names
    rw [whole h1 x0, whole h2 x1]
    repeat' refine List.forall_mem_cons.2 ⟨?_, ?_⟩
    all_goals first
      | exact fun p hp => absurd hp List.not_mem_nil
      | (intro z
         dsimp only
         first
           | refine zeros x0 x1 _ _ _ (fun q l => ?_) z
           | refine moved x0 x1 _ _ _ (fun q l => ?_) z)
    all_goals open_payloads
    all_goals pointwise
    all_goals first
      | exact (dn_none q (gate x0 x1 l)).symm
      | exact dn_word _ (by decide) (gate x0 x1 l) q _ rfl
  · sl_unfold_run_names
    simp only [List.exists_mem_cons_iff]
    obtain ⟨b, hb⟩ := b
    by_cases hq : (q : ℕ) < 32
    all_goals interval_cases b
    all_goals repeat first
      | exact Or.inl (box _ _ _ _ rfl (by omega) (by omega))
      | refine Or.inr ?_

open Cert.GluFwdRefIdeal.Read in
theorem final4 (c : Dev nD) : (dats m 0 c).arrAt 4 (cfgs 0).N
    = val_main_v230 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  idx_vars y
  have ht := t_lt t
  rw [show ((cfg0.win 4).blk t).view.emb (ix2 y0 y1 : S2048x128.Idx) = (ix2 y0 ⟨t.val * 128 + y1, by omega⟩ : S2048x1024.Idx) by blk_ext [idx t]]
  unfold outsAt0
  refine (out_at c _ _ _ _ _ _ _ _ _ _ _ _ _ _ _ _ _ _).trans (Eq.trans ?_ (ref230_at _ _ _ y0 _).symm)
  have e : gate (iblk m c 0 t) (iblk m c 1 t) y1 = gateA (m ((c : Thread nD τ).loc main_arg0)) ⟨t.val * 128 + y1, by omega⟩ := funext fun r => by
    unfold gate gateA
    rw [blk0, blk1]
    refine congrArg (fun z : Fin 2048 => @HMul.hMul EReal EReal EReal _ (m ((c : Thread nD τ).loc main_arg0) (ix2 r _ : S2048x2048.Idx)) (sgm (m ((c : Thread nD τ).loc main_arg0) (ix2 r z : S2048x2048.Idx)))) (Fin.ext ?_)
    show (t.val + 8) * 128 + (y1 : ℕ) = 1024 + (t.val * 128 + y1)
    omega
  show acc (fun k => iblk m c 2 t (ix2 k y1)) (gate (iblk m c 0 t) (iblk m c 1 t) y1) y0 (iblk m c 3 t (ix2 0 y1)) 31 = _
  rw [e, blk3]
  exact congrArg (fun w => acc w _ _ _ 31) (funext fun k => blk2 m c t y1 k)

end Cert.GluFwdIdeal.Hand

namespace Cert.Proof

open Idealize.ShloMosaic Idealize.SL.Sem

set_option maxHeartbeats 4000000 in
theorem algebraic_GluFwd [Cert.GluFwdIdeal.Facts] [Cert.GluFwdRefIdeal.Facts] : Cert.algebraic_GluFwdIdeal_GluFwdRefIdeal := by
  intro m g m' g' _ hagree
  refine ⟨fun c => (Cert.GluFwdIdeal.Gen.dats m 0 c).arrAt 4 (Cert.GluFwdIdeal.cfgs 0).N, ?_, ?_⟩
  · exact (θ_run _ _ _).mono (fun r h c => ⟨(h.1 c).1 4, h.2 c⟩)
      (θ_run_and (Cert.GluFwdIdeal.Gen.run_main m g) (Cert.GluFwdIdeal.Gen.unchanged m g))
  · refine (θ_run _ _ _).mono (fun r h c => ⟨((h c).1).trans ?_, (h c).2⟩) (Cert.GluFwdRefIdeal.Value.run m' g')
    · refine (Cert.GluFwdRefIdeal.Read.val_main_v230_eq _).trans ?_
      show Cert.GluFwdRefIdeal.Read.val_main_v230 (m' ((c.tc : Thread _ _).loc Cert.GluFwdRefIdeal.main_arg0)) (m' ((c.tc : Thread _ _).loc Cert.GluFwdRefIdeal.main_arg1))
        (m' ((c.tc : Thread _ _).loc Cert.GluFwdRefIdeal.main_arg2)) = _
      rw [(hagree c).1, (hagree c).2.1, (hagree c).2.2]
      exact (Cert.GluFwdIdeal.Hand.final4 m c).symm

end Cert.Proof

end
-- ==== Proof.UpFwd.lean ====
/- The feed-forward's first product (`mm_plain_nn`), its weight cut into one block of columns per device: the kernel's array
   is the reference's. -/
module

public import proofs.«01_k».proof.Defs
public import proofs.«01_k».proof.Proof.Gen.UpFwdIdeal.Value
public import proofs.«01_k».proof.Proof.Gen.UpFwdRefIdeal.Read
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.UpFwdIdeal.Hand

open Cert.UpFwdIdeal Cert.UpFwdIdeal.Gen Idealize.ShloMosaic Idealize.ShloMosaic.TcCoe Idealize.SL.Sem
open Idealize.ShloMosaic.Pipeline (Dat)

variable (m : (ℓ : Loc nD τ sig) → Buf (Elt Ideal) ℓ)

/-- One grid point per device's block of columns. -/
theorem idx : ∀ t : Fin cfg0.N, win0_0.index t = ![0, 0] ∧ win0_1.index t = ![t.val, 0, 0] ∧ win0_2.index t = ![0, t.val] :=
  (by decide +kernel : ∀ t : Fin grid0.N, _)

theorem dev_lt (t : Fin cfg0.N) : t.val < 4 := lt_of_lt_of_eq t.isLt N_0

/-- The operand as it was given. -/
theorem hv10 (c : Dev nD) (r : Fin 2048) (k : Fin 1024) : @Eq EReal (V m c main_v10 (ix2 r k : S2048x1024.Idx))
    (m ((c : Thread nD τ).loc main_arg0) (ix2 r k : S2048x1024.Idx)) := by
  simp only [V, hostOps0, List.flatten_cons, List.flatten_nil, List.append_nil, List.cons_append, List.nil_append, StableHlo.TRef.binary,
    StableHlo.TRef.unary, StableHlo.TRef.toBuf, StableHlo.TRef.ofBuf, cast_eq]
  after_results
  pointwise

/-- Block `p` of the weight is its columns from `1024 p` on. -/
theorem hv9 (c : Dev nD) (p : Fin 4) (k l : Fin 1024) : @Eq EReal (V m c main_v9 (ix3 p k l : S4x1024x1024.Idx))
    (m ((c : Thread nD τ).loc main_arg1) (ix2 k ⟨p.val * 1024 + l, by omega⟩ : S1024x4096.Idx)) := by
  simp only [V, hostOps0, List.flatten_cons, List.flatten_nil, List.append_nil, List.cons_append, List.nil_append, StableHlo.TRef.binary,
    StableHlo.TRef.unary, StableHlo.TRef.toBuf, StableHlo.TRef.ofBuf, cast_eq]
  after_results
  pointwise
  split_ifs
  all_goals try (rename_i h; exact absurd rfl h)
  all_goals
    repeat first
      | rw [StableHlo.unary_result]
      | (rw [StableHlo.unary_result_ne]; rotate_left; decide)
      | refine (congrFun (StableHlo.unary_result _ _ _ _ _ _) _).trans ?_
      | refine (congrFun (StableHlo.unary_result_ne _ _ _ _ _ _ (by decide)) _).trans ?_
    pointwise
    refine congrArg (fun w : Fin 4096 => (m ((c : Thread nD τ).loc main_arg1) (ix2 k w : S1024x4096.Idx) : EReal)) (Fin.ext ?_)
    dsimp only
    omega

theorem blk0 (c : Dev nD) (t : Fin cfg0.N) (r : Fin 2048) (k : Fin 1024) : @Eq EReal (iblk m c 0 t (ix2 r k : S2048x1024.Idx))
    (m ((c : Thread nD τ).loc main_arg0) (ix2 r k : S2048x1024.Idx)) := by
  rw [show iblk m c 0 t (ix2 r k : S2048x1024.Idx) = V m c main_v10 (ix2 r k : S2048x1024.Idx) by blk_ext [iblk, idx t]]
  exact hv10 m c r k

theorem blk1 (c : Dev nD) (t : Fin cfg0.N) (k l : Fin 1024) : @Eq EReal (iblk m c 1 t (ix3 0 k l : S1x1024x1024.Idx))
    (m ((c : Thread nD τ).loc main_arg1) (ix2 k ⟨t.val * 1024 + l, by have := dev_lt t; omega⟩ : S1024x4096.Idx)) := by
  rw [show iblk m c 1 t (ix3 0 k l : S1x1024x1024.Idx) = V m c main_v9 (ix3 ⟨t.val, dev_lt t⟩ k l : S4x1024x1024.Idx) by blk_ext [iblk, idx t]]
  exact hv9 m c ⟨t.val, dev_lt t⟩ k l

theorem pay1_at (x0 : FVec Ideal S2048x1024 .bf16) (x1 : FVec Ideal S1x1024x1024 .bf16) (r : Fin 2048) (l : Fin 1024) :
    @Eq EReal (k0_pay1 (F := Ideal) x0 x1 (ix2 r l)) (∑ k : Fin 1024, x0 (ix2 r k) * x1 (ix3 0 k l)) := by
  unfold k0_pay1
  pointwise

open Cert.UpFwdRefIdeal.Read in
theorem ref_at (x0 : FVec Ideal S2048x1024 .f32) (x1 : FVec Ideal S1024x4096 .f32) (r : Fin 2048) (l : Fin 4096) :
    @Eq EReal (val_main_v1 (F := Ideal) x0 x1 (ix2 r l)) (∑ k : Fin 1024, x0 (ix2 r k) * x1 (ix2 k l)) := by
  pointwise [val_main_v0, val_main_v1]

open Cert.UpFwdRefIdeal.Read in
theorem final (c : Dev nD) : (dats m 0 c).arrAt 2 (cfgs 0).N = val_main_v1 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  have ht := dev_lt t
  rw [show ((cfg0.win 2).blk t).view.emb (ix2 y0 y1 : S2048x1024.Idx) = (ix2 y0 ⟨t.val * 1024 + y1, by omega⟩ : S2048x4096.Idx) by blk_ext [idx t]]
  refine (pay1_at _ _ y0 y1).trans (Eq.trans ?_ (ref_at _ _ y0 _).symm)
  exact Finset.sum_congr rfl fun k _ => congrArg₂ (· * ·) (blk0 m c t y0 k) (blk1 m c t k y1)

end Cert.UpFwdIdeal.Hand

namespace Cert.Proof

open Idealize.ShloMosaic Idealize.SL.Sem

theorem algebraic_UpFwd [Cert.UpFwdIdeal.Facts] [Cert.UpFwdRefIdeal.Facts] : Cert.algebraic_UpFwdIdeal_UpFwdRefIdeal := by
  intro m g m' g' _ hagree
  refine ⟨fun c => (Cert.UpFwdIdeal.Gen.dats m 0 c).arrAt 2 (Cert.UpFwdIdeal.cfgs 0).N, ?_, ?_⟩
  · exact (θ_run _ _ _).mono (fun r h c => ⟨(h.1 c).1 2, h.2 c⟩)
      (θ_run_and (Cert.UpFwdIdeal.Gen.run_main m g) (Cert.UpFwdIdeal.Gen.unchanged m g))
  · refine (θ_run _ _ _).mono (fun r h c => ⟨(h c).1.trans ?_, (h c).2⟩) (Cert.UpFwdRefIdeal.Value.run m' g')
    refine (Cert.UpFwdRefIdeal.Read.val_main_v1_eq _ _).trans ?_
    rw [(hagree c).1, (hagree c).2]
    exact (Cert.UpFwdIdeal.Hand.final m c).symm

end Cert.Proof

end
-- ==== Proof.ToIn.lean ====
/- The first mixer's cotangent, three parts side by side, back through its first product (`mm_plain_nt`), with the residual's
   part: the kernel's array is the reference's. -/
module

public import proofs.«01_k».proof.Defs
public import proofs.«01_k».proof.Proof.Gen.ToInBwdIdeal.Value
public import proofs.«01_k».proof.Proof.Gen.ToInBwdRefIdeal.Read
public import proofs.«01_k».proof.Proof.ScIn
public import Idealize.ShloMosaic.Lib.Pipeline.ValueKit
public import Idealize.ShloMosaic.Lib.Pointwise
public import Idealize.ShloMosaic.Lib.Claim
public import Idealize.ShloMosaic.Lib.IdealHost

@[expose] public section

set_option maxRecDepth 16384

noncomputable section

namespace Cert.ToInBwdIdeal.Hand

open Cert.ToInBwdIdeal Cert.ToInBwdIdeal.Gen Idealize.ShloMosaic Idealize.ShloMosaic.TcCoe Idealize.SL.Sem
open Idealize.ShloMosaic.Pipeline (Dat)
open Cert.UpBwdIdeal.Hand (dyU)
open Cert.ScInBwdIdeal.Hand (cat3)

variable (m : (ℓ : Loc nD τ sig) → Buf (Elt Ideal) ℓ)

theorem idx : ∀ t : Fin cfg0.N, win0_0.index t = ![0, t.val, 0] ∧ win0_1.index t = ![0, 0] ∧ win0_2.index t = ![t.val, 0]
    ∧ win0_3.index t = ![t.val, 0] :=
  (by decide +kernel : ∀ t : Fin grid0.N, _)

theorem row_lt (t : Fin cfg0.N) (l : Fin 512) : t.val * 512 + l < 2048 := by
  have := lt_of_lt_of_eq t.isLt N_0
  omega

theorem hv0 (c : Dev nD) (l : Fin 1024) (k : Fin 3072) : @Eq EReal (V m c main_v0 (ix2 l k : S1024x3072.Idx))
    (m ((c : Thread nD τ).loc main_arg0) (ix2 l k : S1024x3072.Idx)) := by
  simp only [V, hostOps0, List.flatten_cons, List.flatten_nil, List.append_nil, List.cons_append, List.nil_append, StableHlo.TRef.binary,
    StableHlo.TRef.unary, StableHlo.TRef.toBuf, StableHlo.TRef.ofBuf, cast_eq]
  after_results
  pointwise

theorem hv1 (c : Dev nD) (p : Fin 3) (r : Fin 2048) (l : Fin 1024) : @Eq EReal (V m c main_v1 (ix3 p r l : S3x2048x1024.Idx))
    (m ((c : Thread nD τ).loc main_arg1) (ix3 p r l : S3x2048x1024.Idx)) := by
  simp only [V, hostOps0, List.flatten_cons, List.flatten_nil, List.append_nil, List.cons_append, List.nil_append, StableHlo.TRef.binary,
    StableHlo.TRef.unary, StableHlo.TRef.toBuf, StableHlo.TRef.ofBuf, cast_eq]
  after_results
  pointwise

section
variable (c : Dev nD) (t : Fin cfg0.N) (r : Fin 512) (l : Fin 1024)

theorem blk0 (p : Fin 3) : @Eq EReal (iblk m c 0 t (ix3 p r l : S3x512x1024.Idx))
    (m ((c : Thread nD τ).loc main_arg1) (ix3 p ⟨t.val * 512 + r, row_lt t r⟩ l : S3x2048x1024.Idx)) := by
  rw [show iblk m c 0 t (ix3 p r l : S3x512x1024.Idx) = V m c main_v1 (ix3 p ⟨t.val * 512 + r, row_lt t r⟩ l : S3x2048x1024.Idx) by blk_ext [iblk, idx t]]
  exact hv1 m c p _ l

theorem blk1 (k : Fin 3072) : @Eq EReal (iblk m c 1 t (ix2 l k : S1024x3072.Idx)) (m ((c : Thread nD τ).loc main_arg0) (ix2 l k : S1024x3072.Idx)) := by
  rw [show iblk m c 1 t (ix2 l k : S1024x3072.Idx) = V m c main_v0 (ix2 l k : S1024x3072.Idx) by blk_ext [iblk, idx t]]
  exact hv0 m c l k

theorem blk2 : @Eq EReal (iblk m c 2 t (ix2 r l : S512x1024.Idx)) (m ((c : Thread nD τ).loc main_arg2) (ix2 ⟨t.val * 512 + r, row_lt t r⟩ l : S2048x1024.Idx)) := by
  blk_point [iblk, V, idx t]

end

/-! ## The product's row, with the residual's part added -/

theorem pay1_at (x0 : FVec Ideal S3x512x1024 .bf16) (x1 : FVec Ideal S1024x3072 .bf16) (x2 : FVec Ideal S512x1024 .f32) (r : Fin 512)
    (l : Fin 1024) : @Eq EReal (k0_pay1 (F := Ideal) x0 x1 x2 (ix2 r l))
    (dyU (fun i k => x1 (ix2 i k)) (cat3 (fun k => x0 (ix3 0 r k)) (fun k => x0 (ix3 1 r k)) fun k => x0 (ix3 2 r k)) (fun j => x2 (ix2 r j)) l) := by
  unfold k0_pay1
  pointwise
  refine congrArg (· + _) (Finset.sum_congr rfl fun k _ => congrArg (· * _) ?_)
  unfold cat3
  by_cases h1 : (k : ℕ) < 1024
  · simp only [dif_pos h1]
  · by_cases h2 : (k : ℕ) < 2048
    · simp only [dif_neg h1, dif_pos h2, dif_pos (show (k : ℕ) - 1024 < 1024 by omega)]
    · simp only [dif_neg h1, dif_neg h2, dif_neg (show ¬ (k : ℕ) - 1024 < 1024 by omega)]

section
open Cert.ToInBwdRefIdeal.Read
variable (x0 : FVec Ideal S1024x3072 .f32) (x1 : FVec Ideal S3x2048x1024 .f32) (x2 : FVec Ideal S2048x1024 .f32) (r : Fin 2048)

theorem ref10_at (k : Fin 3072) : @Eq EReal (val_main_v10 (F := Ideal) x1 (ix2 r k)) ((cat3 (fun k => x1 (ix3 0 r k)) (fun k => x1 (ix3 1 r k)) fun k => x1 (ix3 2 r k)) k) := by
  pointwise [val_main_v4, val_main_v5, val_main_v6, val_main_v7, val_main_v8, val_main_v9, val_main_v10]
  unfold cat3
  by_cases h1 : (k : ℕ) < 1024
  · simp only [dif_pos h1]
  · by_cases h2 : (k : ℕ) < 2048
    · simp only [dif_neg h1, dif_pos h2, dif_pos (show (k : ℕ) - 1024 < 1024 by omega)]
    · simp only [dif_neg h1, dif_neg h2, dif_neg (show ¬ (k : ℕ) - 1024 < 1024 by omega)]

theorem ref14_at (l : Fin 1024) : @Eq EReal (val_main_v14 (F := Ideal) x0 x1 x2 (ix2 r l))
    (dyU (fun i k => x0 (ix2 i k)) (cat3 (fun k => x1 (ix3 0 r k)) (fun k => x1 (ix3 1 r k)) fun k => x1 (ix3 2 r k)) (fun j => x2 (ix2 r j)) l) := by
  pointwise [val_main_cst_1, val_main_v11, val_main_v12, val_main_v13, val_main_v14]
  simp only [ref10_at]
  exact add_comm (G := EReal) _ _

end

open Cert.ToInBwdRefIdeal.Read in
theorem final (c : Dev nD) : (dats m 0 c).arrAt 3 (cfgs 0).N = val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  idx_vars y
  rw [show ((cfg0.win 3).blk t).view.emb (ix2 y0 y1 : S512x1024.Idx) = (ix2 ⟨t.val * 512 + y0, row_lt t y0⟩ y1 : S2048x1024.Idx) by blk_ext [idx t]]
  refine (pay1_at _ _ _ y0 y1).trans (Eq.trans ?_ (ref14_at _ _ _ _ y1).symm)
  simp only [blk0, blk1, blk2]

end Cert.ToInBwdIdeal.Hand

namespace Cert.Proof

open Idealize.ShloMosaic Idealize.SL.Sem

theorem algebraic_ToIn [Cert.ToInBwdIdeal.Facts] [Cert.ToInBwdRefIdeal.Facts] : Cert.algebraic_ToInBwdIdeal_ToInBwdRefIdeal := by
  intro m g m' g' _ hagree
  refine ⟨fun c => (Cert.ToInBwdIdeal.Gen.dats m 0 c).arrAt 3 (Cert.ToInBwdIdeal.cfgs 0).N, ?_, ?_⟩
  · exact (θ_run _ _ _).mono (fun r h c => ⟨(h.1 c).1 3, h.2 c⟩)
      (θ_run_and (Cert.ToInBwdIdeal.Gen.run_main m g) (Cert.ToInBwdIdeal.Gen.unchanged m g))
  · refine (θ_run _ _ _).mono (fun r h c => ⟨(h c).1.trans ?_, (h c).2⟩) (Cert.ToInBwdRefIdeal.Value.run m' g')
    refine (Cert.ToInBwdRefIdeal.Read.val_main_v14_eq _ _ _).trans ?_
    rw [(hagree c).1, (hagree c).2.1, (hagree c).2.2]
    exact (Cert.ToInBwdIdeal.Hand.final m c).symm

end Cert.Proof

end
-- ==== Proof.lean ====
module

public import proofs.«01_k».proof.Defs
public import proofs.«01_k».proof.Proof.Gen.ScBwd.Frame
public import proofs.«01_k».proof.Proof.Gen.ScBwdIdeal.Frame
public import proofs.«01_k».proof.Proof.Gen.ScBwdIdeal.Value
public import proofs.«01_k».proof.Proof.Gen.ScBwdRefIdeal.Run
public import proofs.«01_k».proof.Proof.Gen.ScBwdRefIdeal.Read
public import proofs.«01_k».proof.Proof.Gen.UnropeBwd.Frame
public import proofs.«01_k».proof.Proof.Gen.UnropeBwdIdeal.Frame
public import proofs.«01_k».proof.Proof.Gen.UnropeBwdIdeal.Value
public import proofs.«01_k».proof.Proof.Gen.UnropeBwdRefIdeal.Run
public import proofs.«01_k».proof.Proof.Gen.UnropeBwdRefIdeal.Read
public import proofs.«01_k».proof.Proof.Gen.DownBwd.Frame
public import proofs.«01_k».proof.Proof.Gen.DownBwdIdeal.Frame
public import proofs.«01_k».proof.Proof.Gen.DownBwdIdeal.Value
public import proofs.«01_k».proof.Proof.Gen.DownBwdRefIdeal.Run
public import proofs.«01_k».proof.Proof.Gen.DownBwdRefIdeal.Read
public import proofs.«01_k».proof.Proof.Gen.SwishBwd.Frame
public import proofs.«01_k».proof.Proof.Gen.SwishBwdIdeal.Frame
public import proofs.«01_k».proof.Proof.Gen.SwishBwdIdeal.Value
public import proofs.«01_k».proof.Proof.Gen.SwishBwdRefIdeal.Run
public import proofs.«01_k».proof.Proof.Gen.SwishBwdRefIdeal.Read
public import proofs.«01_k».proof.Proof.Gen.LossBwd.Frame
public import proofs.«01_k».proof.Proof.Gen.LossBwdIdeal.Frame
public import proofs.«01_k».proof.Proof.Gen.LossBwdIdeal.Value
public import proofs.«01_k».proof.Proof.Gen.LossBwdRefIdeal.Run
public import proofs.«01_k».proof.Proof.Gen.LossBwdRefIdeal.Read
public import proofs.«01_k».proof.Proof.Gen.UpBwd.Frame
public import proofs.«01_k».proof.Proof.Gen.UpBwdIdeal.Frame
public import proofs.«01_k».proof.Proof.Gen.UpBwdIdeal.Value
public import proofs.«01_k».proof.Proof.Gen.UpBwdRefIdeal.Run
public import proofs.«01_k».proof.Proof.Gen.UpBwdRefIdeal.Read
public import proofs.«01_k».proof.Proof.Gen.AttnBwd.Frame
public import proofs.«01_k».proof.Proof.Gen.AttnBwdIdeal.Frame
public import proofs.«01_k».proof.Proof.Gen.AttnBwdIdeal.Value
public import proofs.«01_k».proof.Proof.Gen.AttnBwdRefIdeal.Run
public import proofs.«01_k».proof.Proof.Gen.AttnBwdRefIdeal.Read
public import proofs.«01_k».proof.Proof.Gen.LatentsBwd.Frame
public import proofs.«01_k».proof.Proof.Gen.LatentsBwdIdeal.Frame
public import proofs.«01_k».proof.Proof.Gen.LatentsBwdIdeal.Value
public import proofs.«01_k».proof.Proof.Gen.LatentsBwdRefIdeal.Run
public import proofs.«01_k».proof.Proof.Gen.LatentsBwdRefIdeal.Read
public import proofs.«01_k».proof.Proof.Gen.ScInBwd.Frame
public import proofs.«01_k».proof.Proof.Gen.ScInBwdIdeal.Frame
public import proofs.«01_k».proof.Proof.Gen.ScInBwdIdeal.Value
public import proofs.«01_k».proof.Proof.Gen.ScInBwdRefIdeal.Run
public import proofs.«01_k».proof.Proof.Gen.ScInBwdRefIdeal.Read
public import proofs.«01_k».proof.Proof.Gen.Dw2Bwd.Frame
public import proofs.«01_k».proof.Proof.Gen.Dw2BwdIdeal.Frame
public import proofs.«01_k».proof.Proof.Gen.Dw2BwdRefIdeal.Run
public import proofs.«01_k».proof.Proof.Gen.Dw2BwdRefIdeal.Read
public import proofs.«01_k».proof.Proof.Gen.AttnFwd.Frame
public import proofs.«01_k».proof.Proof.Gen.AttnFwdIdeal.Frame
public import proofs.«01_k».proof.Proof.Gen.AttnFwdIdeal.Value
public import proofs.«01_k».proof.Proof.Gen.AttnFwdRefIdeal.Run
public import proofs.«01_k».proof.Proof.Gen.AttnFwdRefIdeal.Read
public import proofs.«01_k».proof.Proof.Gen.DownFwd.Frame
public import proofs.«01_k».proof.Proof.Gen.DownFwdIdeal.Frame
public import proofs.«01_k».proof.Proof.Gen.DownFwdIdeal.Value
public import proofs.«01_k».proof.Proof.Gen.DownFwdRefIdeal.Run
public import proofs.«01_k».proof.Proof.Gen.DownFwdRefIdeal.Read
public import proofs.«01_k».proof.Proof.Gen.OutFwd.Frame
public import proofs.«01_k».proof.Proof.Gen.OutFwdIdeal.Frame
public import proofs.«01_k».proof.Proof.Gen.OutFwdIdeal.Value
public import proofs.«01_k».proof.Proof.Gen.OutFwdRefIdeal.Run
public import proofs.«01_k».proof.Proof.Gen.OutFwdRefIdeal.Read
public import proofs.«01_k».proof.Proof.Gen.GateFwd.Frame
public import proofs.«01_k».proof.Proof.Gen.GateFwdIdeal.Frame
public import proofs.«01_k».proof.Proof.Gen.GateFwdIdeal.Value
public import proofs.«01_k».proof.Proof.Gen.GateFwdRefIdeal.Run
public import proofs.«01_k».proof.Proof.Gen.GateFwdRefIdeal.Read
public import proofs.«01_k».proof.Proof.Gen.SwishFwd.Frame
public import proofs.«01_k».proof.Proof.Gen.SwishFwdIdeal.Frame
public import proofs.«01_k».proof.Proof.Gen.SwishFwdIdeal.Value
public import proofs.«01_k».proof.Proof.Gen.SwishFwdRefIdeal.Run
public import proofs.«01_k».proof.Proof.Gen.SwishFwdRefIdeal.Read
public import proofs.«01_k».proof.Proof.Gen.LatentsFwd.Frame
public import proofs.«01_k».proof.Proof.Gen.LatentsFwdIdeal.Frame
public import proofs.«01_k».proof.Proof.Gen.LatentsFwdIdeal.Value
public import proofs.«01_k».proof.Proof.Gen.LatentsFwdRefIdeal.Run
public import proofs.«01_k».proof.Proof.Gen.LatentsFwdRefIdeal.Read
public import proofs.«01_k».proof.Proof.Gen.QueriesFwd.Frame
public import proofs.«01_k».proof.Proof.Gen.QueriesFwdIdeal.Frame
public import proofs.«01_k».proof.Proof.Gen.QueriesFwdIdeal.Value
public import proofs.«01_k».proof.Proof.Gen.QueriesFwdRefIdeal.Run
public import proofs.«01_k».proof.Proof.Gen.QueriesFwdRefIdeal.Read
public import proofs.«01_k».proof.Proof.Gen.KeysFwd.Frame
public import proofs.«01_k».proof.Proof.Gen.KeysFwdIdeal.Frame
public import proofs.«01_k».proof.Proof.Gen.KeysFwdIdeal.Value
public import proofs.«01_k».proof.Proof.Gen.KeysFwdRefIdeal.Run
public import proofs.«01_k».proof.Proof.Gen.KeysFwdRefIdeal.Read
public import proofs.«01_k».proof.Proof.Gen.GluBwd.Frame
public import proofs.«01_k».proof.Proof.Gen.GluBwdIdeal.Frame
public import proofs.«01_k».proof.Proof.Gen.GluFwd.Frame
public import proofs.«01_k».proof.Proof.Gen.GluFwdIdeal.Frame
public import proofs.«01_k».proof.Proof.Gen.GluFwdIdeal.Value
public import proofs.«01_k».proof.Proof.Gen.GluFwdRefIdeal.Run
public import proofs.«01_k».proof.Proof.Gen.GluFwdRefIdeal.Read
public import proofs.«01_k».proof.Proof.Gen.UpFwd.Frame
public import proofs.«01_k».proof.Proof.Gen.UpFwdIdeal.Frame
public import proofs.«01_k».proof.Proof.Gen.UpFwdIdeal.Value
public import proofs.«01_k».proof.Proof.Gen.UpFwdRefIdeal.Run
public import proofs.«01_k».proof.Proof.Gen.UpFwdRefIdeal.Read
public import proofs.«01_k».proof.Proof.Gen.ToInBwd.Frame
public import proofs.«01_k».proof.Proof.Gen.ToInBwdIdeal.Frame
public import proofs.«01_k».proof.Proof.Gen.ToInBwdIdeal.Value
public import proofs.«01_k».proof.Proof.Gen.ToInBwdRefIdeal.Run
public import proofs.«01_k».proof.Proof.Gen.ToInBwdRefIdeal.Read
public import proofs.«01_k».proof.Proof.Gen.Pre_swish_finite
public import proofs.«01_k».proof.Proof.Gen.Pre_loss_finite
public import proofs.«01_k».proof.Proof.Gen.Pre_up_finite
public import proofs.«01_k».proof.Proof.Gen.Pre_attn_finite
public import proofs.«01_k».proof.Proof.Gen.Pre_latents_finite
public import proofs.«01_k».proof.Proof.Gen.Pre_scin_finite
public import proofs.«01_k».proof.Proof.Gen.Pre_attn_fwd_finite
public import proofs.«01_k».proof.Proof.Sc
public import proofs.«01_k».proof.Proof.Unrope
public import proofs.«01_k».proof.Proof.Down
public import proofs.«01_k».proof.Proof.Swish
public import proofs.«01_k».proof.Proof.Loss
public import proofs.«01_k».proof.Proof.Up
public import proofs.«01_k».proof.Proof.Attn
public import proofs.«01_k».proof.Proof.Latents
public import proofs.«01_k».proof.Proof.ScIn
public import proofs.«01_k».proof.Proof.Dw2
public import proofs.«01_k».proof.Proof.AttnFwd
public import proofs.«01_k».proof.Proof.DownFwd
public import proofs.«01_k».proof.Proof.OutFwd
public import proofs.«01_k».proof.Proof.GateFwd
public import proofs.«01_k».proof.Proof.SwishFwd
public import proofs.«01_k».proof.Proof.LatentsFwd
public import proofs.«01_k».proof.Proof.QueriesFwd
public import proofs.«01_k».proof.Proof.KeysFwd
public import proofs.«01_k».proof.Proof.GluFrame
public import proofs.«01_k».proof.Proof.GluFwd
public import proofs.«01_k».proof.Proof.UpFwd
public import proofs.«01_k».proof.Proof.ToIn
public import Idealize.ShloMosaic.Lib.Claim

@[expose] public section

noncomputable section

namespace Cert.Proof

open Idealize.ShloMosaic Idealize.SL.Sem

theorem frame_ScBwdRefIdeal [Cert.ScBwdRefIdeal.Facts] : Cert.quiescent_ScBwdRefIdeal := fun m g _ =>
  (θ_run _ _ _).mono (fun r h => ⟨fun c => (h c).2.2, sem_eq_zero_of_no_sems (by decide) r.2⟩) (Cert.ScBwdRefIdeal.Value.run m g)

theorem frame_UnropeBwdRefIdeal [Cert.UnropeBwdRefIdeal.Facts] : Cert.quiescent_UnropeBwdRefIdeal := fun m g _ =>
  (θ_run _ _ _).mono (fun r h => ⟨fun c => (h c).2.2.2, sem_eq_zero_of_no_sems (by decide) r.2⟩) (Cert.UnropeBwdRefIdeal.Value.run m g)

theorem frame_DownBwdRefIdeal [Cert.DownBwdRefIdeal.Facts] : Cert.quiescent_DownBwdRefIdeal := fun m g _ =>
  (θ_run _ _ _).mono (fun r h => ⟨fun c => (h c).2, sem_eq_zero_of_no_sems (by decide) r.2⟩) (Cert.DownBwdRefIdeal.Value.run m g)

theorem frame_SwishBwdRefIdeal [Cert.SwishBwdRefIdeal.Facts] : Cert.quiescent_SwishBwdRefIdeal := fun m g _ =>
  (θ_run _ _ _).mono (fun r h => ⟨fun c => (h c).2.2.2, sem_eq_zero_of_no_sems (by decide) r.2⟩) (Cert.SwishBwdRefIdeal.Value.run m g)

theorem frame_SwishBwdRefIdeal_pre_swish_finite [Cert.SwishBwdRefIdeal.Facts] [Cert.Pre_swish_finite.Facts] : Cert.quiescent_SwishBwdRefIdeal_pre_swish_finite := fun m g _ =>
  (θ_run _ _ _).mono (fun r h => ⟨fun c => (h c).2.2.2, sem_eq_zero_of_no_sems (by decide) r.2⟩) (Cert.SwishBwdRefIdeal.Value.run m g)

theorem frame_LossBwdRefIdeal [Cert.LossBwdRefIdeal.Facts] : Cert.quiescent_LossBwdRefIdeal := fun m g _ =>
  (θ_run _ _ _).mono (fun r h => ⟨fun c => (h c).2.2.2.2.2.2, sem_eq_zero_of_no_sems (by decide) r.2⟩) (Cert.LossBwdRefIdeal.Value.run m g)

theorem frame_LossBwdRefIdeal_pre_loss_finite [Cert.LossBwdRefIdeal.Facts] [Cert.Pre_loss_finite.Facts] : Cert.quiescent_LossBwdRefIdeal_pre_loss_finite := fun m g _ =>
  (θ_run _ _ _).mono (fun r h => ⟨fun c => (h c).2.2.2.2.2.2, sem_eq_zero_of_no_sems (by decide) r.2⟩) (Cert.LossBwdRefIdeal.Value.run m g)

theorem frame_UpBwdRefIdeal [Cert.UpBwdRefIdeal.Facts] : Cert.quiescent_UpBwdRefIdeal := fun m g _ =>
  (θ_run _ _ _).mono (fun r h => ⟨fun c => (h c).2.2.2.2.2, sem_eq_zero_of_no_sems (by decide) r.2⟩) (Cert.UpBwdRefIdeal.Value.run m g)

theorem frame_UpBwdRefIdeal_pre_up_finite [Cert.UpBwdRefIdeal.Facts] [Cert.Pre_up_finite.Facts] : Cert.quiescent_UpBwdRefIdeal_pre_up_finite := fun m g _ =>
  (θ_run _ _ _).mono (fun r h => ⟨fun c => (h c).2.2.2.2.2, sem_eq_zero_of_no_sems (by decide) r.2⟩) (Cert.UpBwdRefIdeal.Value.run m g)

theorem frame_AttnBwdRefIdeal [Cert.AttnBwdRefIdeal.Facts] : Cert.quiescent_AttnBwdRefIdeal := fun m g _ =>
  (θ_run _ _ _).mono (fun r h => ⟨fun c => (h c).2.2.2, sem_eq_zero_of_no_sems (by decide) r.2⟩) (Cert.AttnBwdRefIdeal.Value.run m g)

theorem frame_AttnBwdRefIdeal_pre_attn_finite [Cert.AttnBwdRefIdeal.Facts] [Cert.Pre_attn_finite.Facts] : Cert.quiescent_AttnBwdRefIdeal_pre_attn_finite := fun m g _ =>
  (θ_run _ _ _).mono (fun r h => ⟨fun c => (h c).2.2.2, sem_eq_zero_of_no_sems (by decide) r.2⟩) (Cert.AttnBwdRefIdeal.Value.run m g)

theorem frame_LatentsBwdRefIdeal [Cert.LatentsBwdRefIdeal.Facts] : Cert.quiescent_LatentsBwdRefIdeal := fun m g _ =>
  (θ_run _ _ _).mono (fun r h => ⟨fun c => (h c).2.2.2, sem_eq_zero_of_no_sems (by decide) r.2⟩) (Cert.LatentsBwdRefIdeal.Value.run m g)

theorem frame_LatentsBwdRefIdeal_pre_latents_finite [Cert.LatentsBwdRefIdeal.Facts] [Cert.Pre_latents_finite.Facts] : Cert.quiescent_LatentsBwdRefIdeal_pre_latents_finite := fun m g _ =>
  (θ_run _ _ _).mono (fun r h => ⟨fun c => (h c).2.2.2, sem_eq_zero_of_no_sems (by decide) r.2⟩) (Cert.LatentsBwdRefIdeal.Value.run m g)

theorem frame_ScInBwdRefIdeal [Cert.ScInBwdRefIdeal.Facts] : Cert.quiescent_ScInBwdRefIdeal := fun m g _ =>
  (θ_run _ _ _).mono (fun r h => ⟨fun c => (h c).2.2.2.2.2, sem_eq_zero_of_no_sems (by decide) r.2⟩) (Cert.ScInBwdRefIdeal.Value.run m g)

theorem frame_ScInBwdRefIdeal_pre_scin_finite [Cert.ScInBwdRefIdeal.Facts] [Cert.Pre_scin_finite.Facts] : Cert.quiescent_ScInBwdRefIdeal_pre_scin_finite := fun m g _ =>
  (θ_run _ _ _).mono (fun r h => ⟨fun c => (h c).2.2.2.2.2, sem_eq_zero_of_no_sems (by decide) r.2⟩) (Cert.ScInBwdRefIdeal.Value.run m g)

theorem frame_Dw2BwdRefIdeal [Cert.Dw2BwdRefIdeal.Facts] : Cert.quiescent_Dw2BwdRefIdeal := fun m g _ =>
  (θ_run _ _ _).mono (fun r h => ⟨fun c => (h c).2, sem_eq_zero_of_no_sems (by decide) r.2⟩) (Cert.Dw2BwdRefIdeal.Value.run m g)

theorem frame_AttnFwdRefIdeal [Cert.AttnFwdRefIdeal.Facts] : Cert.quiescent_AttnFwdRefIdeal := fun m g _ =>
  (θ_run _ _ _).mono (fun r h => ⟨fun c => (h c).2, sem_eq_zero_of_no_sems (by decide) r.2⟩) (Cert.AttnFwdRefIdeal.Value.run m g)

theorem frame_AttnFwdRefIdeal_pre_attn_fwd_finite [Cert.AttnFwdRefIdeal.Facts] [Cert.Pre_attn_fwd_finite.Facts] : Cert.quiescent_AttnFwdRefIdeal_pre_attn_fwd_finite := fun m g _ =>
  (θ_run _ _ _).mono (fun r h => ⟨fun c => (h c).2, sem_eq_zero_of_no_sems (by decide) r.2⟩) (Cert.AttnFwdRefIdeal.Value.run m g)

theorem frame_DownFwdRefIdeal [Cert.DownFwdRefIdeal.Facts] : Cert.quiescent_DownFwdRefIdeal := fun m g _ =>
  (θ_run _ _ _).mono (fun r h => ⟨fun c => (h c).2.2.2.2, sem_eq_zero_of_no_sems (by decide) r.2⟩) (Cert.DownFwdRefIdeal.Value.run m g)

theorem frame_OutFwdRefIdeal [Cert.OutFwdRefIdeal.Facts] : Cert.quiescent_OutFwdRefIdeal := fun m g _ =>
  (θ_run _ _ _).mono (fun r h => ⟨fun c => (h c).2.2.2.2, sem_eq_zero_of_no_sems (by decide) r.2⟩) (Cert.OutFwdRefIdeal.Value.run m g)

theorem frame_GateFwdRefIdeal [Cert.GateFwdRefIdeal.Facts] : Cert.quiescent_GateFwdRefIdeal := fun m g _ =>
  (θ_run _ _ _).mono (fun r h => ⟨fun c => (h c).2, sem_eq_zero_of_no_sems (by decide) r.2⟩) (Cert.GateFwdRefIdeal.Value.run m g)

theorem frame_SwishFwdRefIdeal [Cert.SwishFwdRefIdeal.Facts] : Cert.quiescent_SwishFwdRefIdeal := fun m g _ =>
  (θ_run _ _ _).mono (fun r h => ⟨fun c => (h c).2, sem_eq_zero_of_no_sems (by decide) r.2⟩) (Cert.SwishFwdRefIdeal.Value.run m g)

theorem frame_LatentsFwdRefIdeal [Cert.LatentsFwdRefIdeal.Facts] : Cert.quiescent_LatentsFwdRefIdeal := fun m g _ =>
  (θ_run _ _ _).mono (fun r h => ⟨fun c => (h c).2.2.2, sem_eq_zero_of_no_sems (by decide) r.2⟩) (Cert.LatentsFwdRefIdeal.Value.run m g)

theorem frame_QueriesFwdRefIdeal [Cert.QueriesFwdRefIdeal.Facts] : Cert.quiescent_QueriesFwdRefIdeal := fun m g _ =>
  (θ_run _ _ _).mono (fun r h => ⟨fun c => (h c).2, sem_eq_zero_of_no_sems (by decide) r.2⟩) (Cert.QueriesFwdRefIdeal.Value.run m g)

theorem frame_KeysFwdRefIdeal [Cert.KeysFwdRefIdeal.Facts] : Cert.quiescent_KeysFwdRefIdeal := fun m g _ =>
  (θ_run _ _ _).mono (fun r h => ⟨fun c => (h c).2, sem_eq_zero_of_no_sems (by decide) r.2⟩) (Cert.KeysFwdRefIdeal.Value.run m g)

theorem frame_GluFwdRefIdeal [Cert.GluFwdRefIdeal.Facts] : Cert.quiescent_GluFwdRefIdeal := fun m g _ =>
  (θ_run _ _ _).mono (fun r h => ⟨fun c => (h c).2, sem_eq_zero_of_no_sems (by decide) r.2⟩) (Cert.GluFwdRefIdeal.Value.run m g)

theorem frame_UpFwdRefIdeal [Cert.UpFwdRefIdeal.Facts] : Cert.quiescent_UpFwdRefIdeal := fun m g _ =>
  (θ_run _ _ _).mono (fun r h => ⟨fun c => (h c).2, sem_eq_zero_of_no_sems (by decide) r.2⟩) (Cert.UpFwdRefIdeal.Value.run m g)

theorem frame_ToInBwdRefIdeal [Cert.ToInBwdRefIdeal.Facts] : Cert.quiescent_ToInBwdRefIdeal := fun m g _ =>
  (θ_run _ _ _).mono (fun r h => ⟨fun c => (h c).2, sem_eq_zero_of_no_sems (by decide) r.2⟩) (Cert.ToInBwdRefIdeal.Value.run m g)

theorem claim : Cert.Claim :=
  ⟨Cert.ScBwd.Gen.facts, Cert.ScBwdIdeal.Gen.facts, Cert.ScBwdRefIdeal.Gen.facts, Cert.UnropeBwd.Gen.facts, Cert.UnropeBwdIdeal.Gen.facts, Cert.UnropeBwdRefIdeal.Gen.facts, Cert.DownBwd.Gen.facts, Cert.DownBwdIdeal.Gen.facts, Cert.DownBwdRefIdeal.Gen.facts, Cert.SwishBwd.Gen.facts, Cert.SwishBwdIdeal.Gen.facts, Cert.SwishBwdRefIdeal.Gen.facts, Cert.LossBwd.Gen.facts, Cert.LossBwdIdeal.Gen.facts, Cert.LossBwdRefIdeal.Gen.facts, Cert.UpBwd.Gen.facts, Cert.UpBwdIdeal.Gen.facts, Cert.UpBwdRefIdeal.Gen.facts, Cert.AttnBwd.Gen.facts, Cert.AttnBwdIdeal.Gen.facts, Cert.AttnBwdRefIdeal.Gen.facts, Cert.LatentsBwd.Gen.facts, Cert.LatentsBwdIdeal.Gen.facts, Cert.LatentsBwdRefIdeal.Gen.facts, Cert.ScInBwd.Gen.facts, Cert.ScInBwdIdeal.Gen.facts, Cert.ScInBwdRefIdeal.Gen.facts, Cert.Dw2Bwd.Gen.facts, Cert.Dw2BwdIdeal.Gen.facts, Cert.Dw2BwdRefIdeal.Gen.facts, Cert.AttnFwd.Gen.facts, Cert.AttnFwdIdeal.Gen.facts, Cert.AttnFwdRefIdeal.Gen.facts, Cert.DownFwd.Gen.facts, Cert.DownFwdIdeal.Gen.facts, Cert.DownFwdRefIdeal.Gen.facts, Cert.OutFwd.Gen.facts, Cert.OutFwdIdeal.Gen.facts, Cert.OutFwdRefIdeal.Gen.facts, Cert.GateFwd.Gen.facts, Cert.GateFwdIdeal.Gen.facts, Cert.GateFwdRefIdeal.Gen.facts, Cert.SwishFwd.Gen.facts, Cert.SwishFwdIdeal.Gen.facts, Cert.SwishFwdRefIdeal.Gen.facts, Cert.LatentsFwd.Gen.facts, Cert.LatentsFwdIdeal.Gen.facts, Cert.LatentsFwdRefIdeal.Gen.facts, Cert.QueriesFwd.Gen.facts, Cert.QueriesFwdIdeal.Gen.facts, Cert.QueriesFwdRefIdeal.Gen.facts, Cert.KeysFwd.Gen.facts, Cert.KeysFwdIdeal.Gen.facts, Cert.KeysFwdRefIdeal.Gen.facts, Cert.GluBwd.Gen.facts, Cert.GluBwdIdeal.Gen.facts, Cert.GluFwd.Gen.facts, Cert.GluFwdIdeal.Gen.facts, Cert.GluFwdRefIdeal.Gen.facts, Cert.UpFwd.Gen.facts, Cert.UpFwdIdeal.Gen.facts, Cert.UpFwdRefIdeal.Gen.facts, Cert.ToInBwd.Gen.facts, Cert.ToInBwdIdeal.Gen.facts, Cert.ToInBwdRefIdeal.Gen.facts, Cert.Pre_swish_finite.Gen.facts, Cert.Pre_loss_finite.Gen.facts, Cert.Pre_up_finite.Gen.facts, Cert.Pre_attn_finite.Gen.facts, Cert.Pre_latents_finite.Gen.facts, Cert.Pre_scin_finite.Gen.facts, Cert.Pre_attn_fwd_finite.Gen.facts,
    (fun m ρ _ => Cert.ScBwd.Gen.frame m ρ),
    (fun m ρ _ => Cert.ScBwdIdeal.Gen.frame m ρ),
    frame_ScBwdRefIdeal,
    (fun m ρ _ => Cert.UnropeBwd.Gen.frame m ρ),
    (fun m ρ _ => Cert.UnropeBwdIdeal.Gen.frame m ρ),
    frame_UnropeBwdRefIdeal,
    (fun m ρ _ => Cert.DownBwd.Gen.frame m ρ),
    (fun m ρ _ => Cert.DownBwdIdeal.Gen.frame m ρ),
    frame_DownBwdRefIdeal,
    (fun m ρ _ => Cert.SwishBwd.Gen.frame m ρ),
    (fun m ρ _ => Cert.SwishBwdIdeal.Gen.frame m ρ),
    (fun m ρ _ => Cert.SwishBwdIdeal.Gen.frame m ρ),
    frame_SwishBwdRefIdeal,
    frame_SwishBwdRefIdeal_pre_swish_finite,
    (fun m ρ _ => Cert.LossBwd.Gen.frame m ρ),
    (fun m ρ _ => Cert.LossBwdIdeal.Gen.frame m ρ),
    (fun m ρ _ => Cert.LossBwdIdeal.Gen.frame m ρ),
    frame_LossBwdRefIdeal,
    frame_LossBwdRefIdeal_pre_loss_finite,
    (fun m ρ _ => Cert.UpBwd.Gen.frame m ρ),
    (fun m ρ _ => Cert.UpBwdIdeal.Gen.frame m ρ),
    (fun m ρ _ => Cert.UpBwdIdeal.Gen.frame m ρ),
    frame_UpBwdRefIdeal,
    frame_UpBwdRefIdeal_pre_up_finite,
    (fun m ρ _ => Cert.AttnBwd.Gen.frame m ρ),
    (fun m ρ _ => Cert.AttnBwdIdeal.Gen.frame m ρ),
    (fun m ρ _ => Cert.AttnBwdIdeal.Gen.frame m ρ),
    frame_AttnBwdRefIdeal,
    frame_AttnBwdRefIdeal_pre_attn_finite,
    (fun m ρ _ => Cert.LatentsBwd.Gen.frame m ρ),
    (fun m ρ _ => Cert.LatentsBwdIdeal.Gen.frame m ρ),
    (fun m ρ _ => Cert.LatentsBwdIdeal.Gen.frame m ρ),
    frame_LatentsBwdRefIdeal,
    frame_LatentsBwdRefIdeal_pre_latents_finite,
    (fun m ρ _ => Cert.ScInBwd.Gen.frame m ρ),
    (fun m ρ _ => Cert.ScInBwdIdeal.Gen.frame m ρ),
    (fun m ρ _ => Cert.ScInBwdIdeal.Gen.frame m ρ),
    frame_ScInBwdRefIdeal,
    frame_ScInBwdRefIdeal_pre_scin_finite,
    (fun m ρ _ => Cert.Dw2Bwd.Gen.frame m ρ),
    (fun m ρ _ => Cert.Dw2BwdIdeal.Gen.frame m ρ),
    frame_Dw2BwdRefIdeal,
    (fun m ρ _ => Cert.AttnFwd.Gen.frame m ρ),
    (fun m ρ _ => Cert.AttnFwdIdeal.Gen.frame m ρ),
    (fun m ρ _ => Cert.AttnFwdIdeal.Gen.frame m ρ),
    frame_AttnFwdRefIdeal,
    frame_AttnFwdRefIdeal_pre_attn_fwd_finite,
    (fun m ρ _ => Cert.DownFwd.Gen.frame m ρ),
    (fun m ρ _ => Cert.DownFwdIdeal.Gen.frame m ρ),
    frame_DownFwdRefIdeal,
    (fun m ρ _ => Cert.OutFwd.Gen.frame m ρ),
    (fun m ρ _ => Cert.OutFwdIdeal.Gen.frame m ρ),
    frame_OutFwdRefIdeal,
    (fun m ρ _ => Cert.GateFwd.Gen.frame m ρ),
    (fun m ρ _ => Cert.GateFwdIdeal.Gen.frame m ρ),
    frame_GateFwdRefIdeal,
    (fun m ρ _ => Cert.SwishFwd.Gen.frame m ρ),
    (fun m ρ _ => Cert.SwishFwdIdeal.Gen.frame m ρ),
    frame_SwishFwdRefIdeal,
    (fun m ρ _ => Cert.LatentsFwd.Gen.frame m ρ),
    (fun m ρ _ => Cert.LatentsFwdIdeal.Gen.frame m ρ),
    frame_LatentsFwdRefIdeal,
    (fun m ρ _ => Cert.QueriesFwd.Gen.frame m ρ),
    (fun m ρ _ => Cert.QueriesFwdIdeal.Gen.frame m ρ),
    frame_QueriesFwdRefIdeal,
    (fun m ρ _ => Cert.KeysFwd.Gen.frame m ρ),
    (fun m ρ _ => Cert.KeysFwdIdeal.Gen.frame m ρ),
    frame_KeysFwdRefIdeal,
    frame_GluBwd,
    frame_GluBwdIdeal,
    (fun m ρ _ => Cert.GluFwd.Gen.frame m ρ),
    (fun m ρ _ => Cert.GluFwdIdeal.Gen.frame m ρ),
    frame_GluFwdRefIdeal,
    (fun m ρ _ => Cert.UpFwd.Gen.frame m ρ),
    (fun m ρ _ => Cert.UpFwdIdeal.Gen.frame m ρ),
    frame_UpFwdRefIdeal,
    (fun m ρ _ => Cert.ToInBwd.Gen.frame m ρ),
    (fun m ρ _ => Cert.ToInBwdIdeal.Gen.frame m ρ),
    frame_ToInBwdRefIdeal,
    trivial,
    algebraic_Sc,
    trivial,
    algebraic_Unrope,
    trivial,
    algebraic_Down,
    trivial,
    algebraic_Swish,
    trivial,
    algebraic_Loss,
    trivial,
    algebraic_Up,
    preserves_Attn,
    algebraic_Attn,
    trivial,
    algebraic_Latents,
    trivial,
    algebraic_ScIn,
    trivial,
    algebraic_Dw2,
    preserves_AttnFwd,
    algebraic_AttnFwd,
    trivial,
    algebraic_DownFwd,
    trivial,
    algebraic_OutFwd,
    trivial,
    algebraic_GateFwd,
    trivial,
    algebraic_SwishFwd,
    trivial,
    algebraic_LatentsFwd,
    trivial,
    algebraic_QueriesFwd,
    trivial,
    algebraic_KeysFwd,
    trivial,
    trivial,
    algebraic_GluFwd,
    trivial,
    algebraic_UpFwd,
    trivial,
    algebraic_ToIn⟩

end Cert.Proof

end
